-- ==== Defs.lean ====
def Pre_MlpOutDx (m : (ℓ : Loc Cert.MlpOutDx.nD Cert.MlpOutDx.τ Cert.MlpOutDx.sig) → Buf (Elt Bits) ℓ) : Prop :=
  True

def Pre_MlpOutDxIdeal (m : (ℓ : Loc Cert.MlpOutDxIdeal.nD Cert.MlpOutDxIdeal.τ Cert.MlpOutDxIdeal.sig) → Buf (Elt Ideal) ℓ) : Prop :=
  True

def Pre_MlpOutDxRefIdeal (m : (ℓ : Loc Cert.MlpOutDxRefIdeal.nD Cert.MlpOutDxRefIdeal.τ Cert.MlpOutDxRefIdeal.sig) → Buf (Elt Ideal) ℓ) : Prop :=
  True

def Pre_MlpOutDw (m : (ℓ : Loc Cert.MlpOutDw.nD Cert.MlpOutDw.τ Cert.MlpOutDw.sig) → Buf (Elt Bits) ℓ) : Prop :=
  True

def Pre_MlpOutDwIdeal (m : (ℓ : Loc Cert.MlpOutDwIdeal.nD Cert.MlpOutDwIdeal.τ Cert.MlpOutDwIdeal.sig) → Buf (Elt Ideal) ℓ) : Prop :=
  True

def Pre_MlpOutDwRefIdeal (m : (ℓ : Loc Cert.MlpOutDwRefIdeal.nD Cert.MlpOutDwRefIdeal.τ Cert.MlpOutDwRefIdeal.sig) → Buf (Elt Ideal) ℓ) : Prop :=
  True

def Pre_MlpInDw (m : (ℓ : Loc Cert.MlpInDw.nD Cert.MlpInDw.τ Cert.MlpInDw.sig) → Buf (Elt Bits) ℓ) : Prop :=
  True

def Pre_MlpInDwIdeal (m : (ℓ : Loc Cert.MlpInDwIdeal.nD Cert.MlpInDwIdeal.τ Cert.MlpInDwIdeal.sig) → Buf (Elt Ideal) ℓ) : Prop :=
  True

def Pre_MlpInDwRefIdeal (m : (ℓ : Loc Cert.MlpInDwRefIdeal.nD Cert.MlpInDwRefIdeal.τ Cert.MlpInDwRefIdeal.sig) → Buf (Elt Ideal) ℓ) : Prop :=
  True

def Pre_MlpInDx (m : (ℓ : Loc Cert.MlpInDx.nD Cert.MlpInDx.τ Cert.MlpInDx.sig) → Buf (Elt Bits) ℓ) : Prop :=
  True

def Pre_MlpInDxIdeal (m : (ℓ : Loc Cert.MlpInDxIdeal.nD Cert.MlpInDxIdeal.τ Cert.MlpInDxIdeal.sig) → Buf (Elt Ideal) ℓ) : Prop :=
  True

def Pre_MlpInDxRefIdeal (m : (ℓ : Loc Cert.MlpInDxRefIdeal.nD Cert.MlpInDxRefIdeal.τ Cert.MlpInDxRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxRefIdeal (m : (ℓ : Loc Cert.OutProjDxRefIdeal.nD Cert.OutProjDxRefIdeal.τ Cert.OutProjDxRefIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwRefIdeal (m : (ℓ : Loc Cert.OutProjDwRefIdeal.nD Cert.OutProjDwRefIdeal.τ Cert.OutProjDwRefIdeal.sig) → Buf (Elt Ideal) ℓ) : Prop :=
  True

def Pre_GluGateDx (m : (ℓ : Loc Cert.GluGateDx.nD Cert.GluGateDx.τ Cert.GluGateDx.sig) → Buf (Elt Bits) ℓ) : Prop :=
  True

def Pre_GluGateDxIdeal (m : (ℓ : Loc Cert.GluGateDxIdeal.nD Cert.GluGateDxIdeal.τ Cert.GluGateDxIdeal.sig) → Buf (Elt Ideal) ℓ) : Prop :=
  True

def Pre_GluGateDxRefIdeal (m : (ℓ : Loc Cert.GluGateDxRefIdeal.nD Cert.GluGateDxRefIdeal.τ Cert.GluGateDxRefIdeal.sig) → Buf (Elt Ideal) ℓ) : Prop :=
  True

def Pre_GluGateDw (m : (ℓ : Loc Cert.GluGateDw.nD Cert.GluGateDw.τ Cert.GluGateDw.sig) → Buf (Elt Bits) ℓ) : Prop :=
  True

def Pre_GluGateDwIdeal (m : (ℓ : Loc Cert.GluGateDwIdeal.nD Cert.GluGateDwIdeal.τ Cert.GluGateDwIdeal.sig) → Buf (Elt Ideal) ℓ) : Prop :=
  True

def Pre_GluGateDwRefIdeal (m : (ℓ : Loc Cert.GluGateDwRefIdeal.nD Cert.GluGateDwRefIdeal.τ Cert.GluGateDwRefIdeal.sig) → Buf (Elt Ideal) ℓ) : Prop :=
  True

def Pre_AttnNormBwd (m : (ℓ : Loc Cert.AttnNormBwd.nD Cert.AttnNormBwd.τ Cert.AttnNormBwd.sig) → Buf (Elt Bits) ℓ) : Prop :=
  True

def Pre_AttnNormBwdIdeal (m : (ℓ : Loc Cert.AttnNormBwdIdeal.nD Cert.AttnNormBwdIdeal.τ Cert.AttnNormBwdIdeal.sig) → Buf (Elt Ideal) ℓ) : Prop :=
  True

def Pre_AttnNormBwdRefIdeal (m : (ℓ : Loc Cert.AttnNormBwdRefIdeal.nD Cert.AttnNormBwdRefIdeal.τ Cert.AttnNormBwdRefIdeal.sig) → Buf (Elt Ideal) ℓ) : Prop :=
  True

def Pre_MlpIn (m : (ℓ : Loc Cert.MlpIn.nD Cert.MlpIn.τ Cert.MlpIn.sig) → Buf (Elt Bits) ℓ) : Prop :=
  True

def Pre_MlpInIdeal (m : (ℓ : Loc Cert.MlpInIdeal.nD Cert.MlpInIdeal.τ Cert.MlpInIdeal.sig) → Buf (Elt Ideal) ℓ) : Prop :=
  True

def Pre_MlpInRefIdeal (m : (ℓ : Loc Cert.MlpInRefIdeal.nD Cert.MlpInRefIdeal.τ Cert.MlpInRefIdeal.sig) → Buf (Elt Ideal) ℓ) : Prop :=
  True

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_MlpOutRefIdeal (m : (ℓ : Loc Cert.MlpOutRefIdeal.nD Cert.MlpOutRefIdeal.τ Cert.MlpOutRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_GluGate (m : (ℓ : Loc Cert.GluGate.nD Cert.GluGate.τ Cert.GluGate.sig) → Buf (Elt Bits) ℓ) : Prop :=
  True

def Pre_GluGateIdeal (m : (ℓ : Loc Cert.GluGateIdeal.nD Cert.GluGateIdeal.τ Cert.GluGateIdeal.sig) → Buf (Elt Ideal) ℓ) : Prop :=
  True

def Pre_GluGateRefIdeal (m : (ℓ : Loc Cert.GluGateRefIdeal.nD Cert.GluGateRefIdeal.τ Cert.GluGateRefIdeal.sig) → Buf (Elt Ideal) ℓ) : Prop :=
  True

def Pre_AttnNorm (m : (ℓ : Loc Cert.AttnNorm.nD Cert.AttnNorm.τ Cert.AttnNorm.sig) → Buf (Elt Bits) ℓ) : Prop :=
  True

def Pre_AttnNormIdeal (m : (ℓ : Loc Cert.AttnNormIdeal.nD Cert.AttnNormIdeal.τ Cert.AttnNormIdeal.sig) → Buf (Elt Ideal) ℓ) : Prop :=
  True

def Pre_AttnNormRefIdeal (m : (ℓ : Loc Cert.AttnNormRefIdeal.nD Cert.AttnNormRefIdeal.τ Cert.AttnNormRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamWIn [hPre_w_in_device : Cert.Pre_w_in_device.Facts] (m : (ℓ : Loc Cert.AdamWIn.nD Cert.AdamWIn.τ Cert.AdamWIn.sig) → Buf (Elt Bits) ℓ) : Prop :=
  ∀ c : Dev Cert.AdamWIn.nD,
    (Cert.Pre_w_in_device.fn (F := Bits) (m ((c.tc : Thread Cert.AdamWIn.nD Cert.AdamWIn.τ).loc Cert.AdamWIn.main_arg0)) (m ((c.tc : Thread Cert.AdamWIn.nD Cert.AdamWIn.τ).loc Cert.AdamWIn.main_arg1)) (m ((c.tc : Thread Cert.AdamWIn.nD Cert.AdamWIn.τ).loc Cert.AdamWIn.main_arg2)) (m ((c.tc : Thread Cert.AdamWIn.nD Cert.AdamWIn.τ).loc Cert.AdamWIn.main_arg3)) (m ((c.tc : Thread Cert.AdamWIn.nD Cert.AdamWIn.τ).loc Cert.AdamWIn.main_arg4)) (m ((c.tc : Thread Cert.AdamWIn.nD Cert.AdamWIn.τ).loc Cert.AdamWIn.main_arg5))) = (fun _ => 1#1)

def Pre_AdamWInIdeal [hPre_w_in_device : Cert.Pre_w_in_device.Facts] (m : (ℓ : Loc Cert.AdamWInIdeal.nD Cert.AdamWInIdeal.τ Cert.AdamWInIdeal.sig) → Buf (Elt Ideal) ℓ) : Prop :=
  ∀ c : Dev Cert.AdamWInIdeal.nD,
    (Cert.Pre_w_in_device.fn (F := Ideal) (m ((c.tc : Thread Cert.AdamWInIdeal.nD Cert.AdamWInIdeal.τ).loc Cert.AdamWInIdeal.main_arg0)) (m ((c.tc : Thread Cert.AdamWInIdeal.nD Cert.AdamWInIdeal.τ).loc Cert.AdamWInIdeal.main_arg1)) (m ((c.tc : Thread Cert.AdamWInIdeal.nD Cert.AdamWInIdeal.τ).loc Cert.AdamWInIdeal.main_arg2)) (m ((c.tc : Thread Cert.AdamWInIdeal.nD Cert.AdamWInIdeal.τ).loc Cert.AdamWInIdeal.main_arg3)) (m ((c.tc : Thread Cert.AdamWInIdeal.nD Cert.AdamWInIdeal.τ).loc Cert.AdamWInIdeal.main_arg4)) (m ((c.tc : Thread Cert.AdamWInIdeal.nD Cert.AdamWInIdeal.τ).loc Cert.AdamWInIdeal.main_arg5))) = (fun _ => 1#1)

def Pre_AdamWInRefIdeal (m : (ℓ : Loc Cert.AdamWInRefIdeal.nD Cert.AdamWInRefIdeal.τ Cert.AdamWInRefIdeal.sig) → Buf (Elt Ideal) ℓ) : Prop :=
  True

def Pre_AdamWInRefIdeal_w_in_device [hPre_w_in_device : Cert.Pre_w_in_device.Facts] (m : (ℓ : Loc Cert.AdamWInRefIdeal.nD Cert.AdamWInRefIdeal.τ Cert.AdamWInRefIdeal.sig) → Buf (Elt Ideal) ℓ) : Prop :=
  ∀ c : Dev Cert.AdamWInRefIdeal.nD,
    (Cert.Pre_w_in_device.fn (F := Ideal) (m ((c.tc : Thread Cert.AdamWInRefIdeal.nD Cert.AdamWInRefIdeal.τ).loc Cert.AdamWInRefIdeal.main_arg0)) (m ((c.tc : Thread Cert.AdamWInRefIdeal.nD Cert.AdamWInRefIdeal.τ).loc Cert.AdamWInRefIdeal.main_arg1)) (m ((c.tc : Thread Cert.AdamWInRefIdeal.nD Cert.AdamWInRefIdeal.τ).loc Cert.AdamWInRefIdeal.main_arg2)) (m ((c.tc : Thread Cert.AdamWInRefIdeal.nD Cert.AdamWInRefIdeal.τ).loc Cert.AdamWInRefIdeal.main_arg3)) (m ((c.tc : Thread Cert.AdamWInRefIdeal.nD Cert.AdamWInRefIdeal.τ).loc Cert.AdamWInRefIdeal.main_arg4)) (m ((c.tc : Thread Cert.AdamWInRefIdeal.nD Cert.AdamWInRefIdeal.τ).loc Cert.AdamWInRefIdeal.main_arg5))) = (fun _ => 1#1)

def Pre_AdamWGlu [hPre_w_glu_device : Cert.Pre_w_glu_device.Facts] (m : (ℓ : Loc Cert.AdamWGlu.nD Cert.AdamWGlu.τ Cert.AdamWGlu.sig) → Buf (Elt Bits) ℓ) : Prop :=
  ∀ c : Dev Cert.AdamWGlu.nD,
    (Cert.Pre_w_glu_device.fn (F := Bits) (m ((c.tc : Thread Cert.AdamWGlu.nD Cert.AdamWGlu.τ).loc Cert.AdamWGlu.main_arg0)) (m ((c.tc : Thread Cert.AdamWGlu.nD Cert.AdamWGlu.τ).loc Cert.AdamWGlu.main_arg1)) (m ((c.tc : Thread Cert.AdamWGlu.nD Cert.AdamWGlu.τ).loc Cert.AdamWGlu.main_arg2)) (m ((c.tc : Thread Cert.AdamWGlu.nD Cert.AdamWGlu.τ).loc Cert.AdamWGlu.main_arg3)) (m ((c.tc : Thread Cert.AdamWGlu.nD Cert.AdamWGlu.τ).loc Cert.AdamWGlu.main_arg4)) (m ((c.tc : Thread Cert.AdamWGlu.nD Cert.AdamWGlu.τ).loc Cert.AdamWGlu.main_arg5))) = (fun _ => 1#1)

def Pre_AdamWGluIdeal [hPre_w_glu_device : Cert.Pre_w_glu_device.Facts] (m : (ℓ : Loc Cert.AdamWGluIdeal.nD Cert.AdamWGluIdeal.τ Cert.AdamWGluIdeal.sig) → Buf (Elt Ideal) ℓ) : Prop :=
  ∀ c : Dev Cert.AdamWGluIdeal.nD,
    (Cert.Pre_w_glu_device.fn (F := Ideal) (m ((c.tc : Thread Cert.AdamWGluIdeal.nD Cert.AdamWGluIdeal.τ).loc Cert.AdamWGluIdeal.main_arg0)) (m ((c.tc : Thread Cert.AdamWGluIdeal.nD Cert.AdamWGluIdeal.τ).loc Cert.AdamWGluIdeal.main_arg1)) (m ((c.tc : Thread Cert.AdamWGluIdeal.nD Cert.AdamWGluIdeal.τ).loc Cert.AdamWGluIdeal.main_arg2)) (m ((c.tc : Thread Cert.AdamWGluIdeal.nD Cert.AdamWGluIdeal.τ).loc Cert.AdamWGluIdeal.main_arg3)) (m ((c.tc : Thread Cert.AdamWGluIdeal.nD Cert.AdamWGluIdeal.τ).loc Cert.AdamWGluIdeal.main_arg4)) (m ((c.tc : Thread Cert.AdamWGluIdeal.nD Cert.AdamWGluIdeal.τ).loc Cert.AdamWGluIdeal.main_arg5))) = (fun _ => 1#1)

def Pre_AdamWGluRefIdeal (m : (ℓ : Loc Cert.AdamWGluRefIdeal.nD Cert.AdamWGluRefIdeal.τ Cert.AdamWGluRefIdeal.sig) → Buf (Elt Ideal) ℓ) : Prop :=
  True

def Pre_AdamWGluRefIdeal_w_glu_device [hPre_w_glu_device : Cert.Pre_w_glu_device.Facts] (m : (ℓ : Loc Cert.AdamWGluRefIdeal.nD Cert.AdamWGluRefIdeal.τ Cert.AdamWGluRefIdeal.sig) → Buf (Elt Ideal) ℓ) : Prop :=
  ∀ c : Dev Cert.AdamWGluRefIdeal.nD,
    (Cert.Pre_w_glu_device.fn (F := Ideal) (m ((c.tc : Thread Cert.AdamWGluRefIdeal.nD Cert.AdamWGluRefIdeal.τ).loc Cert.AdamWGluRefIdeal.main_arg0)) (m ((c.tc : Thread Cert.AdamWGluRefIdeal.nD Cert.AdamWGluRefIdeal.τ).loc Cert.AdamWGluRefIdeal.main_arg1)) (m ((c.tc : Thread Cert.AdamWGluRefIdeal.nD Cert.AdamWGluRefIdeal.τ).loc Cert.AdamWGluRefIdeal.main_arg2)) (m ((c.tc : Thread Cert.AdamWGluRefIdeal.nD Cert.AdamWGluRefIdeal.τ).loc Cert.AdamWGluRefIdeal.main_arg3)) (m ((c.tc : Thread Cert.AdamWGluRefIdeal.nD Cert.AdamWGluRefIdeal.τ).loc Cert.AdamWGluRefIdeal.main_arg4)) (m ((c.tc : Thread Cert.AdamWGluRefIdeal.nD Cert.AdamWGluRefIdeal.τ).loc Cert.AdamWGluRefIdeal.main_arg5))) = (fun _ => 1#1)

def Pre_AdamWOut [hPre_w_out_device : Cert.Pre_w_out_device.Facts] (m : (ℓ : Loc Cert.AdamWOut.nD Cert.AdamWOut.τ Cert.AdamWOut.sig) → Buf (Elt Bits) ℓ) : Prop :=
  ∀ c : Dev Cert.AdamWOut.nD,
    (Cert.Pre_w_out_device.fn (F := Bits) (m ((c.tc : Thread Cert.AdamWOut.nD Cert.AdamWOut.τ).loc Cert.AdamWOut.main_arg0)) (m ((c.tc : Thread Cert.AdamWOut.nD Cert.AdamWOut.τ).loc Cert.AdamWOut.main_arg1)) (m ((c.tc : Thread Cert.AdamWOut.nD Cert.AdamWOut.τ).loc Cert.AdamWOut.main_arg2)) (m ((c.tc : Thread Cert.AdamWOut.nD Cert.AdamWOut.τ).loc Cert.AdamWOut.main_arg3)) (m ((c.tc : Thread Cert.AdamWOut.nD Cert.AdamWOut.τ).loc Cert.AdamWOut.main_arg4)) (m ((c.tc : Thread Cert.AdamWOut.nD Cert.AdamWOut.τ).loc Cert.AdamWOut.main_arg5))) = (fun _ => 1#1)

def Pre_AdamWOutIdeal [hPre_w_out_device : Cert.Pre_w_out_device.Facts] (m : (ℓ : Loc Cert.AdamWOutIdeal.nD Cert.AdamWOutIdeal.τ Cert.AdamWOutIdeal.sig) → Buf (Elt Ideal) ℓ) : Prop :=
  ∀ c : Dev Cert.AdamWOutIdeal.nD,
    (Cert.Pre_w_out_device.fn (F := Ideal) (m ((c.tc : Thread Cert.AdamWOutIdeal.nD Cert.AdamWOutIdeal.τ).loc Cert.AdamWOutIdeal.main_arg0)) (m ((c.tc : Thread Cert.AdamWOutIdeal.nD Cert.AdamWOutIdeal.τ).loc Cert.AdamWOutIdeal.main_arg1)) (m ((c.tc : Thread Cert.AdamWOutIdeal.nD Cert.AdamWOutIdeal.τ).loc Cert.AdamWOutIdeal.main_arg2)) (m ((c.tc : Thread Cert.AdamWOutIdeal.nD Cert.AdamWOutIdeal.τ).loc Cert.AdamWOutIdeal.main_arg3)) (m ((c.tc : Thread Cert.AdamWOutIdeal.nD Cert.AdamWOutIdeal.τ).loc Cert.AdamWOutIdeal.main_arg4)) (m ((c.tc : Thread Cert.AdamWOutIdeal.nD Cert.AdamWOutIdeal.τ).loc Cert.AdamWOutIdeal.main_arg5))) = (fun _ => 1#1)

def Pre_AdamWOutRefIdeal (m : (ℓ : Loc Cert.AdamWOutRefIdeal.nD Cert.AdamWOutRefIdeal.τ Cert.AdamWOutRefIdeal.sig) → Buf (Elt Ideal) ℓ) : Prop :=
  True

def Pre_AdamWOutRefIdeal_w_out_device [hPre_w_out_device : Cert.Pre_w_out_device.Facts] (m : (ℓ : Loc Cert.AdamWOutRefIdeal.nD Cert.AdamWOutRefIdeal.τ Cert.AdamWOutRefIdeal.sig) → Buf (Elt Ideal) ℓ) : Prop :=
  ∀ c : Dev Cert.AdamWOutRefIdeal.nD,
    (Cert.Pre_w_out_device.fn (F := Ideal) (m ((c.tc : Thread Cert.AdamWOutRefIdeal.nD Cert.AdamWOutRefIdeal.τ).loc Cert.AdamWOutRefIdeal.main_arg0)) (m ((c.tc : Thread Cert.AdamWOutRefIdeal.nD Cert.AdamWOutRefIdeal.τ).loc Cert.AdamWOutRefIdeal.main_arg1)) (m ((c.tc : Thread Cert.AdamWOutRefIdeal.nD Cert.AdamWOutRefIdeal.τ).loc Cert.AdamWOutRefIdeal.main_arg2)) (m ((c.tc : Thread Cert.AdamWOutRefIdeal.nD Cert.AdamWOutRefIdeal.τ).loc Cert.AdamWOutRefIdeal.main_arg3)) (m ((c.tc : Thread Cert.AdamWOutRefIdeal.nD Cert.AdamWOutRefIdeal.τ).loc Cert.AdamWOutRefIdeal.main_arg4)) (m ((c.tc : Thread Cert.AdamWOutRefIdeal.nD Cert.AdamWOutRefIdeal.τ).loc Cert.AdamWOutRefIdeal.main_arg5))) = (fun _ => 1#1)

def Pre_AdamWMlpIn [hPre_w_mlp_in_device : Cert.Pre_w_mlp_in_device.Facts] (m : (ℓ : Loc Cert.AdamWMlpIn.nD Cert.AdamWMlpIn.τ Cert.AdamWMlpIn.sig) → Buf (Elt Bits) ℓ) : Prop :=
  ∀ c : Dev Cert.AdamWMlpIn.nD,
    (Cert.Pre_w_mlp_in_device.fn (F := Bits) (m ((c.tc : Thread Cert.AdamWMlpIn.nD Cert.AdamWMlpIn.τ).loc Cert.AdamWMlpIn.main_arg0)) (m ((c.tc : Thread Cert.AdamWMlpIn.nD Cert.AdamWMlpIn.τ).loc Cert.AdamWMlpIn.main_arg1)) (m ((c.tc : Thread Cert.AdamWMlpIn.nD Cert.AdamWMlpIn.τ).loc Cert.AdamWMlpIn.main_arg2)) (m ((c.tc : Thread Cert.AdamWMlpIn.nD Cert.AdamWMlpIn.τ).loc Cert.AdamWMlpIn.main_arg3)) (m ((c.tc : Thread Cert.AdamWMlpIn.nD Cert.AdamWMlpIn.τ).loc Cert.AdamWMlpIn.main_arg4)) (m ((c.tc : Thread Cert.AdamWMlpIn.nD Cert.AdamWMlpIn.τ).loc Cert.AdamWMlpIn.main_arg5))) = (fun _ => 1#1)

def Pre_AdamWMlpInIdeal [hPre_w_mlp_in_device : Cert.Pre_w_mlp_in_device.Facts] (m : (ℓ : Loc Cert.AdamWMlpInIdeal.nD Cert.AdamWMlpInIdeal.τ Cert.AdamWMlpInIdeal.sig) → Buf (Elt Ideal) ℓ) : Prop :=
  ∀ c : Dev Cert.AdamWMlpInIdeal.nD,
    (Cert.Pre_w_mlp_in_device.fn (F := Ideal) (m ((c.tc : Thread Cert.AdamWMlpInIdeal.nD Cert.AdamWMlpInIdeal.τ).loc Cert.AdamWMlpInIdeal.main_arg0)) (m ((c.tc : Thread Cert.AdamWMlpInIdeal.nD Cert.AdamWMlpInIdeal.τ).loc Cert.AdamWMlpInIdeal.main_arg1)) (m ((c.tc : Thread Cert.AdamWMlpInIdeal.nD Cert.AdamWMlpInIdeal.τ).loc Cert.AdamWMlpInIdeal.main_arg2)) (m ((c.tc : Thread Cert.AdamWMlpInIdeal.nD Cert.AdamWMlpInIdeal.τ).loc Cert.AdamWMlpInIdeal.main_arg3)) (m ((c.tc : Thread Cert.AdamWMlpInIdeal.nD Cert.AdamWMlpInIdeal.τ).loc Cert.AdamWMlpInIdeal.main_arg4)) (m ((c.tc : Thread Cert.AdamWMlpInIdeal.nD Cert.AdamWMlpInIdeal.τ).loc Cert.AdamWMlpInIdeal.main_arg5))) = (fun _ => 1#1)

def Pre_AdamWMlpInRefIdeal (m : (ℓ : Loc Cert.AdamWMlpInRefIdeal.nD Cert.AdamWMlpInRefIdeal.τ Cert.AdamWMlpInRefIdeal.sig) → Buf (Elt Ideal) ℓ) : Prop :=
  True

def Pre_AdamWMlpInRefIdeal_w_mlp_in_device [hPre_w_mlp_in_device : Cert.Pre_w_mlp_in_device.Facts] (m : (ℓ : Loc Cert.AdamWMlpInRefIdeal.nD Cert.AdamWMlpInRefIdeal.τ Cert.AdamWMlpInRefIdeal.sig) → Buf (Elt Ideal) ℓ) : Prop :=
  ∀ c : Dev Cert.AdamWMlpInRefIdeal.nD,
    (Cert.Pre_w_mlp_in_device.fn (F := Ideal) (m ((c.tc : Thread Cert.AdamWMlpInRefIdeal.nD Cert.AdamWMlpInRefIdeal.τ).loc Cert.AdamWMlpInRefIdeal.main_arg0)) (m ((c.tc : Thread Cert.AdamWMlpInRefIdeal.nD Cert.AdamWMlpInRefIdeal.τ).loc Cert.AdamWMlpInRefIdeal.main_arg1)) (m ((c.tc : Thread Cert.AdamWMlpInRefIdeal.nD Cert.AdamWMlpInRefIdeal.τ).loc Cert.AdamWMlpInRefIdeal.main_arg2)) (m ((c.tc : Thread Cert.AdamWMlpInRefIdeal.nD Cert.AdamWMlpInRefIdeal.τ).loc Cert.AdamWMlpInRefIdeal.main_arg3)) (m ((c.tc : Thread Cert.AdamWMlpInRefIdeal.nD Cert.AdamWMlpInRefIdeal.τ).loc Cert.AdamWMlpInRefIdeal.main_arg4)) (m ((c.tc : Thread Cert.AdamWMlpInRefIdeal.nD Cert.AdamWMlpInRefIdeal.τ).loc Cert.AdamWMlpInRefIdeal.main_arg5))) = (fun _ => 1#1)

def Pre_AdamWMlpOut [hPre_w_mlp_out_device : Cert.Pre_w_mlp_out_device.Facts] (m : (ℓ : Loc Cert.AdamWMlpOut.nD Cert.AdamWMlpOut.τ Cert.AdamWMlpOut.sig) → Buf (Elt Bits) ℓ) : Prop :=
  ∀ c : Dev Cert.AdamWMlpOut.nD,
    (Cert.Pre_w_mlp_out_device.fn (F := Bits) (m ((c.tc : Thread Cert.AdamWMlpOut.nD Cert.AdamWMlpOut.τ).loc Cert.AdamWMlpOut.main_arg0)) (m ((c.tc : Thread Cert.AdamWMlpOut.nD Cert.AdamWMlpOut.τ).loc Cert.AdamWMlpOut.main_arg1)) (m ((c.tc : Thread Cert.AdamWMlpOut.nD Cert.AdamWMlpOut.τ).loc Cert.AdamWMlpOut.main_arg2)) (m ((c.tc : Thread Cert.AdamWMlpOut.nD Cert.AdamWMlpOut.τ).loc Cert.AdamWMlpOut.main_arg3)) (m ((c.tc : Thread Cert.AdamWMlpOut.nD Cert.AdamWMlpOut.τ).loc Cert.AdamWMlpOut.main_arg4)) (m ((c.tc : Thread Cert.AdamWMlpOut.nD Cert.AdamWMlpOut.τ).loc Cert.AdamWMlpOut.main_arg5))) = (fun _ => 1#1)

def Pre_AdamWMlpOutIdeal [hPre_w_mlp_out_device : Cert.Pre_w_mlp_out_device.Facts] (m : (ℓ : Loc Cert.AdamWMlpOutIdeal.nD Cert.AdamWMlpOutIdeal.τ Cert.AdamWMlpOutIdeal.sig) → Buf (Elt Ideal) ℓ) : Prop :=
  ∀ c : Dev Cert.AdamWMlpOutIdeal.nD,
    (Cert.Pre_w_mlp_out_device.fn (F := Ideal) (m ((c.tc : Thread Cert.AdamWMlpOutIdeal.nD Cert.AdamWMlpOutIdeal.τ).loc Cert.AdamWMlpOutIdeal.main_arg0)) (m ((c.tc : Thread Cert.AdamWMlpOutIdeal.nD Cert.AdamWMlpOutIdeal.τ).loc Cert.AdamWMlpOutIdeal.main_arg1)) (m ((c.tc : Thread Cert.AdamWMlpOutIdeal.nD Cert.AdamWMlpOutIdeal.τ).loc Cert.AdamWMlpOutIdeal.main_arg2)) (m ((c.tc : Thread Cert.AdamWMlpOutIdeal.nD Cert.AdamWMlpOutIdeal.τ).loc Cert.AdamWMlpOutIdeal.main_arg3)) (m ((c.tc : Thread Cert.AdamWMlpOutIdeal.nD Cert.AdamWMlpOutIdeal.τ).loc Cert.AdamWMlpOutIdeal.main_arg4)) (m ((c.tc : Thread Cert.AdamWMlpOutIdeal.nD Cert.AdamWMlpOutIdeal.τ).loc Cert.AdamWMlpOutIdeal.main_arg5))) = (fun _ => 1#1)

def Pre_AdamWMlpOutRefIdeal (m : (ℓ : Loc Cert.AdamWMlpOutRefIdeal.nD Cert.AdamWMlpOutRefIdeal.τ Cert.AdamWMlpOutRefIdeal.sig) → Buf (Elt Ideal) ℓ) : Prop :=
  True

def Pre_AdamWMlpOutRefIdeal_w_mlp_out_device [hPre_w_mlp_out_device : Cert.Pre_w_mlp_out_device.Facts] (m : (ℓ : Loc Cert.AdamWMlpOutRefIdeal.nD Cert.AdamWMlpOutRefIdeal.τ Cert.AdamWMlpOutRefIdeal.sig) → Buf (Elt Ideal) ℓ) : Prop :=
  ∀ c : Dev Cert.AdamWMlpOutRefIdeal.nD,
    (Cert.Pre_w_mlp_out_device.fn (F := Ideal) (m ((c.tc : Thread Cert.AdamWMlpOutRefIdeal.nD Cert.AdamWMlpOutRefIdeal.τ).loc Cert.AdamWMlpOutRefIdeal.main_arg0)) (m ((c.tc : Thread Cert.AdamWMlpOutRefIdeal.nD Cert.AdamWMlpOutRefIdeal.τ).loc Cert.AdamWMlpOutRefIdeal.main_arg1)) (m ((c.tc : Thread Cert.AdamWMlpOutRefIdeal.nD Cert.AdamWMlpOutRefIdeal.τ).loc Cert.AdamWMlpOutRefIdeal.main_arg2)) (m ((c.tc : Thread Cert.AdamWMlpOutRefIdeal.nD Cert.AdamWMlpOutRefIdeal.τ).loc Cert.AdamWMlpOutRefIdeal.main_arg3)) (m ((c.tc : Thread Cert.AdamWMlpOutRefIdeal.nD Cert.AdamWMlpOutRefIdeal.τ).loc Cert.AdamWMlpOutRefIdeal.main_arg4)) (m ((c.tc : Thread Cert.AdamWMlpOutRefIdeal.nD Cert.AdamWMlpOutRefIdeal.τ).loc Cert.AdamWMlpOutRefIdeal.main_arg5))) = (fun _ => 1#1)

def Pre_Proj [hPre_finite_inputs : Cert.Pre_finite_inputs.Facts] (m : (ℓ : Loc Cert.Proj.nD Cert.Proj.τ Cert.Proj.sig) → Buf (Elt Bits) ℓ) : Prop :=
  ∀ c : Dev Cert.Proj.nD,
    (Cert.Pre_finite_inputs.fn (F := Bits) (m ((c.tc : Thread Cert.Proj.nD Cert.Proj.τ).loc Cert.Proj.main_arg0)) (m ((c.tc : Thread Cert.Proj.nD Cert.Proj.τ).loc Cert.Proj.main_arg1)) (m ((c.tc : Thread Cert.Proj.nD Cert.Proj.τ).loc Cert.Proj.main_arg2)) (m ((c.tc : Thread Cert.Proj.nD Cert.Proj.τ).loc Cert.Proj.main_arg3)) (m ((c.tc : Thread Cert.Proj.nD Cert.Proj.τ).loc Cert.Proj.main_arg4))) = (fun _ => 1#1)

def Pre_ProjIdeal [hPre_finite_inputs : Cert.Pre_finite_inputs.Facts] (m : (ℓ : Loc Cert.ProjIdeal.nD Cert.ProjIdeal.τ Cert.ProjIdeal.sig) → Buf (Elt Ideal) ℓ) : Prop :=
  ∀ c : Dev Cert.ProjIdeal.nD,
    (Cert.Pre_finite_inputs.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_inputs [hPre_finite_inputs : Cert.Pre_finite_inputs.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_inputs.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))) = (fun _ => 1#1)

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def quiescent_MlpOutDx [hMlpOutDx : Cert.MlpOutDx.Facts] : Prop :=
  ∀ (m : (ℓ : Loc Cert.MlpOutDx.nD Cert.MlpOutDx.τ Cert.MlpOutDx.sig) → Buf (Elt Bits) ℓ) (g : Dev Cert.MlpOutDx.nD → PrngReg), Pre_MlpOutDx m →
    θ_run (Cert.MlpOutDx.defs (F := Bits)) (onTc (τ := Cert.MlpOutDx.τ) (Cert.MlpOutDx.main (F := Bits))) ⟨m, fun _ => 0, g⟩ (fun r => (∀ c : Dev Cert.MlpOutDx.nD,
      r.2.mem ((c.tc : Thread Cert.MlpOutDx.nD Cert.MlpOutDx.τ).loc Cert.MlpOutDx.main_arg0) = m ((c.tc : Thread Cert.MlpOutDx.nD Cert.MlpOutDx.τ).loc Cert.MlpOutDx.main_arg0)
      ∧ r.2.mem ((c.tc : Thread Cert.MlpOutDx.nD Cert.MlpOutDx.τ).loc Cert.MlpOutDx.main_arg1) = m ((c.tc : Thread Cert.MlpOutDx.nD Cert.MlpOutDx.τ).loc Cert.MlpOutDx.main_arg1)
      ∧ r.2.mem ((c.tc : Thread Cert.MlpOutDx.nD Cert.MlpOutDx.τ).loc Cert.MlpOutDx.main_arg2) = m ((c.tc : Thread Cert.MlpOutDx.nD Cert.MlpOutDx.τ).loc Cert.MlpOutDx.main_arg2))
      ∧ r.2.sem = fun _ => 0)

def quiescent_MlpOutDxIdeal [hMlpOutDxIdeal : Cert.MlpOutDxIdeal.Facts] : Prop :=
  ∀ (m : (ℓ : Loc Cert.MlpOutDxIdeal.nD Cert.MlpOutDxIdeal.τ Cert.MlpOutDxIdeal.sig) → Buf (Elt Ideal) ℓ) (g : Dev Cert.MlpOutDxIdeal.nD → PrngReg), Pre_MlpOutDxIdeal m →
    θ_run (Cert.MlpOutDxIdeal.defs (F := Ideal)) (onTc (τ := Cert.MlpOutDxIdeal.τ) (Cert.MlpOutDxIdeal.main (F := Ideal))) ⟨m, fun _ => 0, g⟩ (fun r => (∀ c : Dev Cert.MlpOutDxIdeal.nD,
      r.2.mem ((c.tc : Thread Cert.MlpOutDxIdeal.nD Cert.MlpOutDxIdeal.τ).loc Cert.MlpOutDxIdeal.main_arg0) = m ((c.tc : Thread Cert.MlpOutDxIdeal.nD Cert.MlpOutDxIdeal.τ).loc Cert.MlpOutDxIdeal.main_arg0)
      ∧ r.2.mem ((c.tc : Thread Cert.MlpOutDxIdeal.nD Cert.MlpOutDxIdeal.τ).loc Cert.MlpOutDxIdeal.main_arg1) = m ((c.tc : Thread Cert.MlpOutDxIdeal.nD Cert.MlpOutDxIdeal.τ).loc Cert.MlpOutDxIdeal.main_arg1)
      ∧ r.2.mem ((c.tc : Thread Cert.MlpOutDxIdeal.nD Cert.MlpOutDxIdeal.τ).loc Cert.MlpOutDxIdeal.main_arg2) = m ((c.tc : Thread Cert.MlpOutDxIdeal.nD Cert.MlpOutDxIdeal.τ).loc Cert.MlpOutDxIdeal.main_arg2))
      ∧ r.2.sem = fun _ => 0)

def quiescent_MlpOutDxRefIdeal [hMlpOutDxRefIdeal : Cert.MlpOutDxRefIdeal.Facts] : Prop :=
  ∀ (m : (ℓ : Loc Cert.MlpOutDxRefIdeal.nD Cert.MlpOutDxRefIdeal.τ Cert.MlpOutDxRefIdeal.sig) → Buf (Elt Ideal) ℓ) (g : Dev Cert.MlpOutDxRefIdeal.nD → PrngReg), Pre_MlpOutDxRefIdeal m →
    θ_run (Cert.MlpOutDxRefIdeal.defs (F := Ideal)) (onTc (τ := Cert.MlpOutDxRefIdeal.τ) (Cert.MlpOutDxRefIdeal.main (F := Ideal))) ⟨m, fun _ => 0, g⟩ (fun r => (∀ c : Dev Cert.MlpOutDxRefIdeal.nD,
      r.2.mem ((c.tc : Thread Cert.MlpOutDxRefIdeal.nD Cert.MlpOutDxRefIdeal.τ).loc Cert.MlpOutDxRefIdeal.main_arg0) = m ((c.tc : Thread Cert.MlpOutDxRefIdeal.nD Cert.MlpOutDxRefIdeal.τ).loc Cert.MlpOutDxRefIdeal.main_arg0)
      ∧ r.2.mem ((c.tc : Thread Cert.MlpOutDxRefIdeal.nD Cert.MlpOutDxRefIdeal.τ).loc Cert.MlpOutDxRefIdeal.main_arg1) = m ((c.tc : Thread Cert.MlpOutDxRefIdeal.nD Cert.MlpOutDxRefIdeal.τ).loc Cert.MlpOutDxRefIdeal.main_arg1)
      ∧ r.2.mem ((c.tc : Thread Cert.MlpOutDxRefIdeal.nD Cert.MlpOutDxRefIdeal.τ).loc Cert.MlpOutDxRefIdeal.main_arg2) = m ((c.tc : Thread Cert.MlpOutDxRefIdeal.nD Cert.MlpOutDxRefIdeal.τ).loc Cert.MlpOutDxRefIdeal.main_arg2))
      ∧ r.2.sem = fun _ => 0)

def quiescent_MlpOutDw [hMlpOutDw : Cert.MlpOutDw.Facts] : Prop :=
  ∀ (m : (ℓ : Loc Cert.MlpOutDw.nD Cert.MlpOutDw.τ Cert.MlpOutDw.sig) → Buf (Elt Bits) ℓ) (g : Dev Cert.MlpOutDw.nD → PrngReg), Pre_MlpOutDw m →
    θ_run (Cert.MlpOutDw.defs (F := Bits)) (onTc (τ := Cert.MlpOutDw.τ) (Cert.MlpOutDw.main (F := Bits))) ⟨m, fun _ => 0, g⟩ (fun r => (∀ c : Dev Cert.MlpOutDw.nD,
      r.2.mem ((c.tc : Thread Cert.MlpOutDw.nD Cert.MlpOutDw.τ).loc Cert.MlpOutDw.main_arg0) = m ((c.tc : Thread Cert.MlpOutDw.nD Cert.MlpOutDw.τ).loc Cert.MlpOutDw.main_arg0)
      ∧ r.2.mem ((c.tc : Thread Cert.MlpOutDw.nD Cert.MlpOutDw.τ).loc Cert.MlpOutDw.main_arg1) = m ((c.tc : Thread Cert.MlpOutDw.nD Cert.MlpOutDw.τ).loc Cert.MlpOutDw.main_arg1))
      ∧ r.2.sem = fun _ => 0)

def quiescent_MlpOutDwIdeal [hMlpOutDwIdeal : Cert.MlpOutDwIdeal.Facts] : Prop :=
  ∀ (m : (ℓ : Loc Cert.MlpOutDwIdeal.nD Cert.MlpOutDwIdeal.τ Cert.MlpOutDwIdeal.sig) → Buf (Elt Ideal) ℓ) (g : Dev Cert.MlpOutDwIdeal.nD → PrngReg), Pre_MlpOutDwIdeal m →
    θ_run (Cert.MlpOutDwIdeal.defs (F := Ideal)) (onTc (τ := Cert.MlpOutDwIdeal.τ) (Cert.MlpOutDwIdeal.main (F := Ideal))) ⟨m, fun _ => 0, g⟩ (fun r => (∀ c : Dev Cert.MlpOutDwIdeal.nD,
      r.2.mem ((c.tc : Thread Cert.MlpOutDwIdeal.nD Cert.MlpOutDwIdeal.τ).loc Cert.MlpOutDwIdeal.main_arg0) = m ((c.tc : Thread Cert.MlpOutDwIdeal.nD Cert.MlpOutDwIdeal.τ).loc Cert.MlpOutDwIdeal.main_arg0)
      ∧ r.2.mem ((c.tc : Thread Cert.MlpOutDwIdeal.nD Cert.MlpOutDwIdeal.τ).loc Cert.MlpOutDwIdeal.main_arg1) = m ((c.tc : Thread Cert.MlpOutDwIdeal.nD Cert.MlpOutDwIdeal.τ).loc Cert.MlpOutDwIdeal.main_arg1))
      ∧ r.2.sem = fun _ => 0)

def quiescent_MlpOutDwRefIdeal [hMlpOutDwRefIdeal : Cert.MlpOutDwRefIdeal.Facts] : Prop :=
  ∀ (m : (ℓ : Loc Cert.MlpOutDwRefIdeal.nD Cert.MlpOutDwRefIdeal.τ Cert.MlpOutDwRefIdeal.sig) → Buf (Elt Ideal) ℓ) (g : Dev Cert.MlpOutDwRefIdeal.nD → PrngReg), Pre_MlpOutDwRefIdeal m →
    θ_run (Cert.MlpOutDwRefIdeal.defs (F := Ideal)) (onTc (τ := Cert.MlpOutDwRefIdeal.τ) (Cert.MlpOutDwRefIdeal.main (F := Ideal))) ⟨m, fun _ => 0, g⟩ (fun r => (∀ c : Dev Cert.MlpOutDwRefIdeal.nD,
      r.2.mem ((c.tc : Thread Cert.MlpOutDwRefIdeal.nD Cert.MlpOutDwRefIdeal.τ).loc Cert.MlpOutDwRefIdeal.main_arg0) = m ((c.tc : Thread Cert.MlpOutDwRefIdeal.nD Cert.MlpOutDwRefIdeal.τ).loc Cert.MlpOutDwRefIdeal.main_arg0)
      ∧ r.2.mem ((c.tc : Thread Cert.MlpOutDwRefIdeal.nD Cert.MlpOutDwRefIdeal.τ).loc Cert.MlpOutDwRefIdeal.main_arg1) = m ((c.tc : Thread Cert.MlpOutDwRefIdeal.nD Cert.MlpOutDwRefIdeal.τ).loc Cert.MlpOutDwRefIdeal.main_arg1))
      ∧ r.2.sem = fun _ => 0)

def quiescent_MlpInDw [hMlpInDw : Cert.MlpInDw.Facts] : Prop :=
  ∀ (m : (ℓ : Loc Cert.MlpInDw.nD Cert.MlpInDw.τ Cert.MlpInDw.sig) → Buf (Elt Bits) ℓ) (g : Dev Cert.MlpInDw.nD → PrngReg), Pre_MlpInDw m →
    θ_run (Cert.MlpInDw.defs (F := Bits)) (onTc (τ := Cert.MlpInDw.τ) (Cert.MlpInDw.main (F := Bits))) ⟨m, fun _ => 0, g⟩ (fun r => (∀ c : Dev Cert.MlpInDw.nD,
      r.2.mem ((c.tc : Thread Cert.MlpInDw.nD Cert.MlpInDw.τ).loc Cert.MlpInDw.main_arg0) = m ((c.tc : Thread Cert.MlpInDw.nD Cert.MlpInDw.τ).loc Cert.MlpInDw.main_arg0)
      ∧ r.2.mem ((c.tc : Thread Cert.MlpInDw.nD Cert.MlpInDw.τ).loc Cert.MlpInDw.main_arg1) = m ((c.tc : Thread Cert.MlpInDw.nD Cert.MlpInDw.τ).loc Cert.MlpInDw.main_arg1))
      ∧ r.2.sem = fun _ => 0)

def quiescent_MlpInDwIdeal [hMlpInDwIdeal : Cert.MlpInDwIdeal.Facts] : Prop :=
  ∀ (m : (ℓ : Loc Cert.MlpInDwIdeal.nD Cert.MlpInDwIdeal.τ Cert.MlpInDwIdeal.sig) → Buf (Elt Ideal) ℓ) (g : Dev Cert.MlpInDwIdeal.nD → PrngReg), Pre_MlpInDwIdeal m →
    θ_run (Cert.MlpInDwIdeal.defs (F := Ideal)) (onTc (τ := Cert.MlpInDwIdeal.τ) (Cert.MlpInDwIdeal.main (F := Ideal))) ⟨m, fun _ => 0, g⟩ (fun r => (∀ c : Dev Cert.MlpInDwIdeal.nD,
      r.2.mem ((c.tc : Thread Cert.MlpInDwIdeal.nD Cert.MlpInDwIdeal.τ).loc Cert.MlpInDwIdeal.main_arg0) = m ((c.tc : Thread Cert.MlpInDwIdeal.nD Cert.MlpInDwIdeal.τ).loc Cert.MlpInDwIdeal.main_arg0)
      ∧ r.2.mem ((c.tc : Thread Cert.MlpInDwIdeal.nD Cert.MlpInDwIdeal.τ).loc Cert.MlpInDwIdeal.main_arg1) = m ((c.tc : Thread Cert.MlpInDwIdeal.nD Cert.MlpInDwIdeal.τ).loc Cert.MlpInDwIdeal.main_arg1))
      ∧ r.2.sem = fun _ => 0)

def quiescent_MlpInDwRefIdeal [hMlpInDwRefIdeal : Cert.MlpInDwRefIdeal.Facts] : Prop :=
  ∀ (m : (ℓ : Loc Cert.MlpInDwRefIdeal.nD Cert.MlpInDwRefIdeal.τ Cert.MlpInDwRefIdeal.sig) → Buf (Elt Ideal) ℓ) (g : Dev Cert.MlpInDwRefIdeal.nD → PrngReg), Pre_MlpInDwRefIdeal m →
    θ_run (Cert.MlpInDwRefIdeal.defs (F := Ideal)) (onTc (τ := Cert.MlpInDwRefIdeal.τ) (Cert.MlpInDwRefIdeal.main (F := Ideal))) ⟨m, fun _ => 0, g⟩ (fun r => (∀ c : Dev Cert.MlpInDwRefIdeal.nD,
      r.2.mem ((c.tc : Thread Cert.MlpInDwRefIdeal.nD Cert.MlpInDwRefIdeal.τ).loc Cert.MlpInDwRefIdeal.main_arg0) = m ((c.tc : Thread Cert.MlpInDwRefIdeal.nD Cert.MlpInDwRefIdeal.τ).loc Cert.MlpInDwRefIdeal.main_arg0)
      ∧ r.2.mem ((c.tc : Thread Cert.MlpInDwRefIdeal.nD Cert.MlpInDwRefIdeal.τ).loc Cert.MlpInDwRefIdeal.main_arg1) = m ((c.tc : Thread Cert.MlpInDwRefIdeal.nD Cert.MlpInDwRefIdeal.τ).loc Cert.MlpInDwRefIdeal.main_arg1))
      ∧ r.2.sem = fun _ => 0)

def quiescent_MlpInDx [hMlpInDx : Cert.MlpInDx.Facts] : Prop :=
  ∀ (m : (ℓ : Loc Cert.MlpInDx.nD Cert.MlpInDx.τ Cert.MlpInDx.sig) → Buf (Elt Bits) ℓ) (g : Dev Cert.MlpInDx.nD → PrngReg), Pre_MlpInDx m →
    θ_run (Cert.MlpInDx.defs (F := Bits)) (onTc (τ := Cert.MlpInDx.τ) (Cert.MlpInDx.main (F := Bits))) ⟨m, fun _ => 0, g⟩ (fun r => (∀ c : Dev Cert.MlpInDx.nD,
      r.2.mem ((c.tc : Thread Cert.MlpInDx.nD Cert.MlpInDx.τ).loc Cert.MlpInDx.main_arg0) = m ((c.tc : Thread Cert.MlpInDx.nD Cert.MlpInDx.τ).loc Cert.MlpInDx.main_arg0)
      ∧ r.2.mem ((c.tc : Thread Cert.MlpInDx.nD Cert.MlpInDx.τ).loc Cert.MlpInDx.main_arg1) = m ((c.tc : Thread Cert.MlpInDx.nD Cert.MlpInDx.τ).loc Cert.MlpInDx.main_arg1)
      ∧ r.2.mem ((c.tc : Thread Cert.MlpInDx.nD Cert.MlpInDx.τ).loc Cert.MlpInDx.main_arg2) = m ((c.tc : Thread Cert.MlpInDx.nD Cert.MlpInDx.τ).loc Cert.MlpInDx.main_arg2)
      ∧ r.2.mem ((c.tc : Thread Cert.MlpInDx.nD Cert.MlpInDx.τ).loc Cert.MlpInDx.main_arg3) = m ((c.tc : Thread Cert.MlpInDx.nD Cert.MlpInDx.τ).loc Cert.MlpInDx.main_arg3)
      ∧ r.2.mem ((c.tc : Thread Cert.MlpInDx.nD Cert.MlpInDx.τ).loc Cert.MlpInDx.main_arg4) = m ((c.tc : Thread Cert.MlpInDx.nD Cert.MlpInDx.τ).loc Cert.MlpInDx.main_arg4))
      ∧ r.2.sem = fun _ => 0)

def quiescent_MlpInDxIdeal [hMlpInDxIdeal : Cert.MlpInDxIdeal.Facts] : Prop :=
  ∀ (m : (ℓ : Loc Cert.MlpInDxIdeal.nD Cert.MlpInDxIdeal.τ Cert.MlpInDxIdeal.sig) → Buf (Elt Ideal) ℓ) (g : Dev Cert.MlpInDxIdeal.nD → PrngReg), Pre_MlpInDxIdeal m →
    θ_run (Cert.MlpInDxIdeal.defs (F := Ideal)) (onTc (τ := Cert.MlpInDxIdeal.τ) (Cert.MlpInDxIdeal.main (F := Ideal))) ⟨m, fun _ => 0, g⟩ (fun r => (∀ c : Dev Cert.MlpInDxIdeal.nD,
      r.2.mem ((c.tc : Thread Cert.MlpInDxIdeal.nD Cert.MlpInDxIdeal.τ).loc Cert.MlpInDxIdeal.main_arg0) = m ((c.tc : Thread Cert.MlpInDxIdeal.nD Cert.MlpInDxIdeal.τ).loc Cert.MlpInDxIdeal.main_arg0)
      ∧ r.2.mem ((c.tc : Thread Cert.MlpInDxIdeal.nD Cert.MlpInDxIdeal.τ).loc Cert.MlpInDxIdeal.main_arg1) = m ((c.tc : Thread Cert.MlpInDxIdeal.nD Cert.MlpInDxIdeal.τ).loc Cert.MlpInDxIdeal.main_arg1)
      ∧ r.2.mem ((c.tc : Thread Cert.MlpInDxIdeal.nD Cert.MlpInDxIdeal.τ).loc Cert.MlpInDxIdeal.main_arg2) = m ((c.tc : Thread Cert.MlpInDxIdeal.nD Cert.MlpInDxIdeal.τ).loc Cert.MlpInDxIdeal.main_arg2)
      ∧ r.2.mem ((c.tc : Thread Cert.MlpInDxIdeal.nD Cert.MlpInDxIdeal.τ).loc Cert.MlpInDxIdeal.main_arg3) = m ((c.tc : Thread Cert.MlpInDxIdeal.nD Cert.MlpInDxIdeal.τ).loc Cert.MlpInDxIdeal.main_arg3)
      ∧ r.2.mem ((c.tc : Thread Cert.MlpInDxIdeal.nD Cert.MlpInDxIdeal.τ).loc Cert.MlpInDxIdeal.main_arg4) = m ((c.tc : Thread Cert.MlpInDxIdeal.nD Cert.MlpInDxIdeal.τ).loc Cert.MlpInDxIdeal.main_arg4))
      ∧ r.2.sem = fun _ => 0)

def quiescent_MlpInDxRefIdeal [hMlpInDxRefIdeal : Cert.MlpInDxRefIdeal.Facts] : Prop :=
  ∀ (m : (ℓ : Loc Cert.MlpInDxRefIdeal.nD Cert.MlpInDxRefIdeal.τ Cert.MlpInDxRefIdeal.sig) → Buf (Elt Ideal) ℓ) (g : Dev Cert.MlpInDxRefIdeal.nD → PrngReg), Pre_MlpInDxRefIdeal m →
    θ_run (Cert.MlpInDxRefIdeal.defs (F := Ideal)) (onTc (τ := Cert.MlpInDxRefIdeal.τ) (Cert.MlpInDxRefIdeal.main (F := Ideal))) ⟨m, fun _ => 0, g⟩ (fun r => (∀ c : Dev Cert.MlpInDxRefIdeal.nD,
      r.2.mem ((c.tc : Thread Cert.MlpInDxRefIdeal.nD Cert.MlpInDxRefIdeal.τ).loc Cert.MlpInDxRefIdeal.main_arg0) = m ((c.tc : Thread Cert.MlpInDxRefIdeal.nD Cert.MlpInDxRefIdeal.τ).loc Cert.MlpInDxRefIdeal.main_arg0)
      ∧ r.2.mem ((c.tc : Thread Cert.MlpInDxRefIdeal.nD Cert.MlpInDxRefIdeal.τ).loc Cert.MlpInDxRefIdeal.main_arg1) = m ((c.tc : Thread Cert.MlpInDxRefIdeal.nD Cert.MlpInDxRefIdeal.τ).loc Cert.MlpInDxRefIdeal.main_arg1)
      ∧ r.2.mem ((c.tc : Thread Cert.MlpInDxRefIdeal.nD Cert.MlpInDxRefIdeal.τ).loc Cert.MlpInDxRefIdeal.main_arg2) = m ((c.tc : Thread Cert.MlpInDxRefIdeal.nD Cert.MlpInDxRefIdeal.τ).loc Cert.MlpInDxRefIdeal.main_arg2)
      ∧ r.2.mem ((c.tc : Thread Cert.MlpInDxRefIdeal.nD Cert.MlpInDxRefIdeal.τ).loc Cert.MlpInDxRefIdeal.main_arg3) = m ((c.tc : Thread Cert.MlpInDxRefIdeal.nD Cert.MlpInDxRefIdeal.τ).loc Cert.MlpInDxRefIdeal.main_arg3)
      ∧ r.2.mem ((c.tc : Thread Cert.MlpInDxRefIdeal.nD Cert.MlpInDxRefIdeal.τ).loc Cert.MlpInDxRefIdeal.main_arg4) = m ((c.tc : Thread Cert.MlpInDxRefIdeal.nD Cert.MlpInDxRefIdeal.τ).loc Cert.MlpInDxRefIdeal.main_arg4))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1)
      ∧ r.2.mem ((c.tc : Thread Cert.ProjDx.nD Cert.ProjDx.τ).loc Cert.ProjDx.main_arg2) = m ((c.tc : Thread Cert.ProjDx.nD Cert.ProjDx.τ).loc Cert.ProjDx.main_arg2)
      ∧ r.2.mem ((c.tc : Thread Cert.ProjDx.nD Cert.ProjDx.τ).loc Cert.ProjDx.main_arg3) = m ((c.tc : Thread Cert.ProjDx.nD Cert.ProjDx.τ).loc Cert.ProjDx.main_arg3)
      ∧ r.2.mem ((c.tc : Thread Cert.ProjDx.nD Cert.ProjDx.τ).loc Cert.ProjDx.main_arg4) = m ((c.tc : Thread Cert.ProjDx.nD Cert.ProjDx.τ).loc Cert.ProjDx.main_arg4))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
      ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2)
      ∧ r.2.mem ((c.tc : Thread Cert.ProjDxIdeal.nD Cert.ProjDxIdeal.τ).loc Cert.ProjDxIdeal.main_arg3) = m ((c.tc : Thread Cert.ProjDxIdeal.nD Cert.ProjDxIdeal.τ).loc Cert.ProjDxIdeal.main_arg3)
      ∧ r.2.mem ((c.tc : Thread Cert.ProjDxIdeal.nD Cert.ProjDxIdeal.τ).loc Cert.ProjDxIdeal.main_arg4) = m ((c.tc : Thread Cert.ProjDxIdeal.nD Cert.ProjDxIdeal.τ).loc Cert.ProjDxIdeal.main_arg4))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1)
      ∧ r.2.mem ((c.tc : Thread Cert.ProjDxRefIdeal.nD Cert.ProjDxRefIdeal.τ).loc Cert.ProjDxRefIdeal.main_arg2) = m ((c.tc : Thread Cert.ProjDxRefIdeal.nD Cert.ProjDxRefIdeal.τ).loc Cert.ProjDxRefIdeal.main_arg2)
      ∧ r.2.mem ((c.tc : Thread Cert.ProjDxRefIdeal.nD Cert.ProjDxRefIdeal.τ).loc Cert.ProjDxRefIdeal.main_arg3) = m ((c.tc : Thread Cert.ProjDxRefIdeal.nD Cert.ProjDxRefIdeal.τ).loc Cert.ProjDxRefIdeal.main_arg3)
      ∧ r.2.mem ((c.tc : Thread Cert.ProjDxRefIdeal.nD Cert.ProjDxRefIdeal.τ).loc Cert.ProjDxRefIdeal.main_arg4) = m ((c.tc : Thread Cert.ProjDxRefIdeal.nD Cert.ProjDxRefIdeal.τ).loc Cert.ProjDxRefIdeal.main_arg4))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwRefIdeal [hOutProjDwRefIdeal : Cert.OutProjDwRefIdeal.Facts] : Prop :=
  ∀ (m : (ℓ : Loc Cert.OutProjDwRefIdeal.nD Cert.OutProjDwRefIdeal.τ Cert.OutProjDwRefIdeal.sig) → Buf (Elt Ideal) ℓ) (g : Dev Cert.OutProjDwRefIdeal.nD → PrngReg), Pre_OutProjDwRefIdeal m →
    θ_run (Cert.OutProjDwRefIdeal.defs (F := Ideal)) (onTc (τ := Cert.OutProjDwRefIdeal.τ) (Cert.OutProjDwRefIdeal.main (F := Ideal))) ⟨m, fun _ => 0, g⟩ (fun r => (∀ c : Dev Cert.OutProjDwRefIdeal.nD,
      r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0)
      ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1))
      ∧ r.2.sem = fun _ => 0)

def quiescent_GluGateDx [hGluGateDx : Cert.GluGateDx.Facts] : Prop :=
  ∀ (m : (ℓ : Loc Cert.GluGateDx.nD Cert.GluGateDx.τ Cert.GluGateDx.sig) → Buf (Elt Bits) ℓ) (g : Dev Cert.GluGateDx.nD → PrngReg), Pre_GluGateDx m →
    θ_run (Cert.GluGateDx.defs (F := Bits)) (onTc (τ := Cert.GluGateDx.τ) (Cert.GluGateDx.main (F := Bits))) ⟨m, fun _ => 0, g⟩ (fun r => (∀ c : Dev Cert.GluGateDx.nD,
      r.2.mem ((c.tc : Thread Cert.GluGateDx.nD Cert.GluGateDx.τ).loc Cert.GluGateDx.main_arg0) = m ((c.tc : Thread Cert.GluGateDx.nD Cert.GluGateDx.τ).loc Cert.GluGateDx.main_arg0)
      ∧ r.2.mem ((c.tc : Thread Cert.GluGateDx.nD Cert.GluGateDx.τ).loc Cert.GluGateDx.main_arg1) = m ((c.tc : Thread Cert.GluGateDx.nD Cert.GluGateDx.τ).loc Cert.GluGateDx.main_arg1)
      ∧ r.2.mem ((c.tc : Thread Cert.GluGateDx.nD Cert.GluGateDx.τ).loc Cert.GluGateDx.main_arg2) = m ((c.tc : Thread Cert.GluGateDx.nD Cert.GluGateDx.τ).loc Cert.GluGateDx.main_arg2)
      ∧ r.2.mem ((c.tc : Thread Cert.GluGateDx.nD Cert.GluGateDx.τ).loc Cert.GluGateDx.main_arg3) = m ((c.tc : Thread Cert.GluGateDx.nD Cert.GluGateDx.τ).loc Cert.GluGateDx.main_arg3))
      ∧ r.2.sem = fun _ => 0)

def quiescent_GluGateDxIdeal [hGluGateDxIdeal : Cert.GluGateDxIdeal.Facts] : Prop :=
  ∀ (m : (ℓ : Loc Cert.GluGateDxIdeal.nD Cert.GluGateDxIdeal.τ Cert.GluGateDxIdeal.sig) → Buf (Elt Ideal) ℓ) (g : Dev Cert.GluGateDxIdeal.nD → PrngReg), Pre_GluGateDxIdeal m →
    θ_run (Cert.GluGateDxIdeal.defs (F := Ideal)) (onTc (τ := Cert.GluGateDxIdeal.τ) (Cert.GluGateDxIdeal.main (F := Ideal))) ⟨m, fun _ => 0, g⟩ (fun r => (∀ c : Dev Cert.GluGateDxIdeal.nD,
      r.2.mem ((c.tc : Thread Cert.GluGateDxIdeal.nD Cert.GluGateDxIdeal.τ).loc Cert.GluGateDxIdeal.main_arg0) = m ((c.tc : Thread Cert.GluGateDxIdeal.nD Cert.GluGateDxIdeal.τ).loc Cert.GluGateDxIdeal.main_arg0)
      ∧ r.2.mem ((c.tc : Thread Cert.GluGateDxIdeal.nD Cert.GluGateDxIdeal.τ).loc Cert.GluGateDxIdeal.main_arg1) = m ((c.tc : Thread Cert.GluGateDxIdeal.nD Cert.GluGateDxIdeal.τ).loc Cert.GluGateDxIdeal.main_arg1)
      ∧ r.2.mem ((c.tc : Thread Cert.GluGateDxIdeal.nD Cert.GluGateDxIdeal.τ).loc Cert.GluGateDxIdeal.main_arg2) = m ((c.tc : Thread Cert.GluGateDxIdeal.nD Cert.GluGateDxIdeal.τ).loc Cert.GluGateDxIdeal.main_arg2)
      ∧ r.2.mem ((c.tc : Thread Cert.GluGateDxIdeal.nD Cert.GluGateDxIdeal.τ).loc Cert.GluGateDxIdeal.main_arg3) = m ((c.tc : Thread Cert.GluGateDxIdeal.nD Cert.GluGateDxIdeal.τ).loc Cert.GluGateDxIdeal.main_arg3))
      ∧ r.2.sem = fun _ => 0)

def quiescent_GluGateDxRefIdeal [hGluGateDxRefIdeal : Cert.GluGateDxRefIdeal.Facts] : Prop :=
  ∀ (m : (ℓ : Loc Cert.GluGateDxRefIdeal.nD Cert.GluGateDxRefIdeal.τ Cert.GluGateDxRefIdeal.sig) → Buf (Elt Ideal) ℓ) (g : Dev Cert.GluGateDxRefIdeal.nD → PrngReg), Pre_GluGateDxRefIdeal m →
    θ_run (Cert.GluGateDxRefIdeal.defs (F := Ideal)) (onTc (τ := Cert.GluGateDxRefIdeal.τ) (Cert.GluGateDxRefIdeal.main (F := Ideal))) ⟨m, fun _ => 0, g⟩ (fun r => (∀ c : Dev Cert.GluGateDxRefIdeal.nD,
      r.2.mem ((c.tc : Thread Cert.GluGateDxRefIdeal.nD Cert.GluGateDxRefIdeal.τ).loc Cert.GluGateDxRefIdeal.main_arg0) = m ((c.tc : Thread Cert.GluGateDxRefIdeal.nD Cert.GluGateDxRefIdeal.τ).loc Cert.GluGateDxRefIdeal.main_arg0)
      ∧ r.2.mem ((c.tc : Thread Cert.GluGateDxRefIdeal.nD Cert.GluGateDxRefIdeal.τ).loc Cert.GluGateDxRefIdeal.main_arg1) = m ((c.tc : Thread Cert.GluGateDxRefIdeal.nD Cert.GluGateDxRefIdeal.τ).loc Cert.GluGateDxRefIdeal.main_arg1)
      ∧ r.2.mem ((c.tc : Thread Cert.GluGateDxRefIdeal.nD Cert.GluGateDxRefIdeal.τ).loc Cert.GluGateDxRefIdeal.main_arg2) = m ((c.tc : Thread Cert.GluGateDxRefIdeal.nD Cert.GluGateDxRefIdeal.τ).loc Cert.GluGateDxRefIdeal.main_arg2)
      ∧ r.2.mem ((c.tc : Thread Cert.GluGateDxRefIdeal.nD Cert.GluGateDxRefIdeal.τ).loc Cert.GluGateDxRefIdeal.main_arg3) = m ((c.tc : Thread Cert.GluGateDxRefIdeal.nD Cert.GluGateDxRefIdeal.τ).loc Cert.GluGateDxRefIdeal.main_arg3))
      ∧ r.2.sem = fun _ => 0)

def quiescent_GluGateDw [hGluGateDw : Cert.GluGateDw.Facts] : Prop :=
  ∀ (m : (ℓ : Loc Cert.GluGateDw.nD Cert.GluGateDw.τ Cert.GluGateDw.sig) → Buf (Elt Bits) ℓ) (g : Dev Cert.GluGateDw.nD → PrngReg), Pre_GluGateDw m →
    θ_run (Cert.GluGateDw.defs (F := Bits)) (onTc (τ := Cert.GluGateDw.τ) (Cert.GluGateDw.main (F := Bits))) ⟨m, fun _ => 0, g⟩ (fun r => (∀ c : Dev Cert.GluGateDw.nD,
      r.2.mem ((c.tc : Thread Cert.GluGateDw.nD Cert.GluGateDw.τ).loc Cert.GluGateDw.main_arg0) = m ((c.tc : Thread Cert.GluGateDw.nD Cert.GluGateDw.τ).loc Cert.GluGateDw.main_arg0)
      ∧ r.2.mem ((c.tc : Thread Cert.GluGateDw.nD Cert.GluGateDw.τ).loc Cert.GluGateDw.main_arg1) = m ((c.tc : Thread Cert.GluGateDw.nD Cert.GluGateDw.τ).loc Cert.GluGateDw.main_arg1))
      ∧ r.2.sem = fun _ => 0)

def quiescent_GluGateDwIdeal [hGluGateDwIdeal : Cert.GluGateDwIdeal.Facts] : Prop :=
  ∀ (m : (ℓ : Loc Cert.GluGateDwIdeal.nD Cert.GluGateDwIdeal.τ Cert.GluGateDwIdeal.sig) → Buf (Elt Ideal) ℓ) (g : Dev Cert.GluGateDwIdeal.nD → PrngReg), Pre_GluGateDwIdeal m →
    θ_run (Cert.GluGateDwIdeal.defs (F := Ideal)) (onTc (τ := Cert.GluGateDwIdeal.τ) (Cert.GluGateDwIdeal.main (F := Ideal))) ⟨m, fun _ => 0, g⟩ (fun r => (∀ c : Dev Cert.GluGateDwIdeal.nD,
      r.2.mem ((c.tc : Thread Cert.GluGateDwIdeal.nD Cert.GluGateDwIdeal.τ).loc Cert.GluGateDwIdeal.main_arg0) = m ((c.tc : Thread Cert.GluGateDwIdeal.nD Cert.GluGateDwIdeal.τ).loc Cert.GluGateDwIdeal.main_arg0)
      ∧ r.2.mem ((c.tc : Thread Cert.GluGateDwIdeal.nD Cert.GluGateDwIdeal.τ).loc Cert.GluGateDwIdeal.main_arg1) = m ((c.tc : Thread Cert.GluGateDwIdeal.nD Cert.GluGateDwIdeal.τ).loc Cert.GluGateDwIdeal.main_arg1))
      ∧ r.2.sem = fun _ => 0)

def quiescent_GluGateDwRefIdeal [hGluGateDwRefIdeal : Cert.GluGateDwRefIdeal.Facts] : Prop :=
  ∀ (m : (ℓ : Loc Cert.GluGateDwRefIdeal.nD Cert.GluGateDwRefIdeal.τ Cert.GluGateDwRefIdeal.sig) → Buf (Elt Ideal) ℓ) (g : Dev Cert.GluGateDwRefIdeal.nD → PrngReg), Pre_GluGateDwRefIdeal m →
    θ_run (Cert.GluGateDwRefIdeal.defs (F := Ideal)) (onTc (τ := Cert.GluGateDwRefIdeal.τ) (Cert.GluGateDwRefIdeal.main (F := Ideal))) ⟨m, fun _ => 0, g⟩ (fun r => (∀ c : Dev Cert.GluGateDwRefIdeal.nD,
      r.2.mem ((c.tc : Thread Cert.GluGateDwRefIdeal.nD Cert.GluGateDwRefIdeal.τ).loc Cert.GluGateDwRefIdeal.main_arg0) = m ((c.tc : Thread Cert.GluGateDwRefIdeal.nD Cert.GluGateDwRefIdeal.τ).loc Cert.GluGateDwRefIdeal.main_arg0)
      ∧ r.2.mem ((c.tc : Thread Cert.GluGateDwRefIdeal.nD Cert.GluGateDwRefIdeal.τ).loc Cert.GluGateDwRefIdeal.main_arg1) = m ((c.tc : Thread Cert.GluGateDwRefIdeal.nD Cert.GluGateDwRefIdeal.τ).loc Cert.GluGateDwRefIdeal.main_arg1))
      ∧ r.2.sem = fun _ => 0)

def quiescent_AttnNormBwd [hAttnNormBwd : Cert.AttnNormBwd.Facts] : Prop :=
  ∀ (m : (ℓ : Loc Cert.AttnNormBwd.nD Cert.AttnNormBwd.τ Cert.AttnNormBwd.sig) → Buf (Elt Bits) ℓ) (g : Dev Cert.AttnNormBwd.nD → PrngReg), Pre_AttnNormBwd m →
    θ_run (Cert.AttnNormBwd.defs (F := Bits)) (onTc (τ := Cert.AttnNormBwd.τ) (Cert.AttnNormBwd.main (F := Bits))) ⟨m, fun _ => 0, g⟩ (fun r => (∀ c : Dev Cert.AttnNormBwd.nD,
      r.2.mem ((c.tc : Thread Cert.AttnNormBwd.nD Cert.AttnNormBwd.τ).loc Cert.AttnNormBwd.main_arg0) = m ((c.tc : Thread Cert.AttnNormBwd.nD Cert.AttnNormBwd.τ).loc Cert.AttnNormBwd.main_arg0)
      ∧ r.2.mem ((c.tc : Thread Cert.AttnNormBwd.nD Cert.AttnNormBwd.τ).loc Cert.AttnNormBwd.main_arg1) = m ((c.tc : Thread Cert.AttnNormBwd.nD Cert.AttnNormBwd.τ).loc Cert.AttnNormBwd.main_arg1)
      ∧ r.2.mem ((c.tc : Thread Cert.AttnNormBwd.nD Cert.AttnNormBwd.τ).loc Cert.AttnNormBwd.main_arg2) = m ((c.tc : Thread Cert.AttnNormBwd.nD Cert.AttnNormBwd.τ).loc Cert.AttnNormBwd.main_arg2))
      ∧ r.2.sem = fun _ => 0)

def quiescent_AttnNormBwdIdeal [hAttnNormBwdIdeal : Cert.AttnNormBwdIdeal.Facts] : Prop :=
  ∀ (m : (ℓ : Loc Cert.AttnNormBwdIdeal.nD Cert.AttnNormBwdIdeal.τ Cert.AttnNormBwdIdeal.sig) → Buf (Elt Ideal) ℓ) (g : Dev Cert.AttnNormBwdIdeal.nD → PrngReg), Pre_AttnNormBwdIdeal m →
    θ_run (Cert.AttnNormBwdIdeal.defs (F := Ideal)) (onTc (τ := Cert.AttnNormBwdIdeal.τ) (Cert.AttnNormBwdIdeal.main (F := Ideal))) ⟨m, fun _ => 0, g⟩ (fun r => (∀ c : Dev Cert.AttnNormBwdIdeal.nD,
      r.2.mem ((c.tc : Thread Cert.AttnNormBwdIdeal.nD Cert.AttnNormBwdIdeal.τ).loc Cert.AttnNormBwdIdeal.main_arg0) = m ((c.tc : Thread Cert.AttnNormBwdIdeal.nD Cert.AttnNormBwdIdeal.τ).loc Cert.AttnNormBwdIdeal.main_arg0)
      ∧ r.2.mem ((c.tc : Thread Cert.AttnNormBwdIdeal.nD Cert.AttnNormBwdIdeal.τ).loc Cert.AttnNormBwdIdeal.main_arg1) = m ((c.tc : Thread Cert.AttnNormBwdIdeal.nD Cert.AttnNormBwdIdeal.τ).loc Cert.AttnNormBwdIdeal.main_arg1)
      ∧ r.2.mem ((c.tc : Thread Cert.AttnNormBwdIdeal.nD Cert.AttnNormBwdIdeal.τ).loc Cert.AttnNormBwdIdeal.main_arg2) = m ((c.tc : Thread Cert.AttnNormBwdIdeal.nD Cert.AttnNormBwdIdeal.τ).loc Cert.AttnNormBwdIdeal.main_arg2))
      ∧ r.2.sem = fun _ => 0)

def quiescent_AttnNormBwdRefIdeal [hAttnNormBwdRefIdeal : Cert.AttnNormBwdRefIdeal.Facts] : Prop :=
  ∀ (m : (ℓ : Loc Cert.AttnNormBwdRefIdeal.nD Cert.AttnNormBwdRefIdeal.τ Cert.AttnNormBwdRefIdeal.sig) → Buf (Elt Ideal) ℓ) (g : Dev Cert.AttnNormBwdRefIdeal.nD → PrngReg), Pre_AttnNormBwdRefIdeal m →
    θ_run (Cert.AttnNormBwdRefIdeal.defs (F := Ideal)) (onTc (τ := Cert.AttnNormBwdRefIdeal.τ) (Cert.AttnNormBwdRefIdeal.main (F := Ideal))) ⟨m, fun _ => 0, g⟩ (fun r => (∀ c : Dev Cert.AttnNormBwdRefIdeal.nD,
      r.2.mem ((c.tc : Thread Cert.AttnNormBwdRefIdeal.nD Cert.AttnNormBwdRefIdeal.τ).loc Cert.AttnNormBwdRefIdeal.main_arg0) = m ((c.tc : Thread Cert.AttnNormBwdRefIdeal.nD Cert.AttnNormBwdRefIdeal.τ).loc Cert.AttnNormBwdRefIdeal.main_arg0)
      ∧ r.2.mem ((c.tc : Thread Cert.AttnNormBwdRefIdeal.nD Cert.AttnNormBwdRefIdeal.τ).loc Cert.AttnNormBwdRefIdeal.main_arg1) = m ((c.tc : Thread Cert.AttnNormBwdRefIdeal.nD Cert.AttnNormBwdRefIdeal.τ).loc Cert.AttnNormBwdRefIdeal.main_arg1)
      ∧ r.2.mem ((c.tc : Thread Cert.AttnNormBwdRefIdeal.nD Cert.AttnNormBwdRefIdeal.τ).loc Cert.AttnNormBwdRefIdeal.main_arg2) = m ((c.tc : Thread Cert.AttnNormBwdRefIdeal.nD Cert.AttnNormBwdRefIdeal.τ).loc Cert.AttnNormBwdRefIdeal.main_arg2))
      ∧ r.2.sem = fun _ => 0)

def quiescent_MlpIn [hMlpIn : Cert.MlpIn.Facts] : Prop :=
  ∀ (m : (ℓ : Loc Cert.MlpIn.nD Cert.MlpIn.τ Cert.MlpIn.sig) → Buf (Elt Bits) ℓ) (g : Dev Cert.MlpIn.nD → PrngReg), Pre_MlpIn m →
    θ_run (Cert.MlpIn.defs (F := Bits)) (onTc (τ := Cert.MlpIn.τ) (Cert.MlpIn.main (F := Bits))) ⟨m, fun _ => 0, g⟩ (fun r => (∀ c : Dev Cert.MlpIn.nD,
      r.2.mem ((c.tc : Thread Cert.MlpIn.nD Cert.MlpIn.τ).loc Cert.MlpIn.main_arg0) = m ((c.tc : Thread Cert.MlpIn.nD Cert.MlpIn.τ).loc Cert.MlpIn.main_arg0)
      ∧ r.2.mem ((c.tc : Thread Cert.MlpIn.nD Cert.MlpIn.τ).loc Cert.MlpIn.main_arg1) = m ((c.tc : Thread Cert.MlpIn.nD Cert.MlpIn.τ).loc Cert.MlpIn.main_arg1))
      ∧ r.2.sem = fun _ => 0)

def quiescent_MlpInIdeal [hMlpInIdeal : Cert.MlpInIdeal.Facts] : Prop :=
  ∀ (m : (ℓ : Loc Cert.MlpInIdeal.nD Cert.MlpInIdeal.τ Cert.MlpInIdeal.sig) → Buf (Elt Ideal) ℓ) (g : Dev Cert.MlpInIdeal.nD → PrngReg), Pre_MlpInIdeal m →
    θ_run (Cert.MlpInIdeal.defs (F := Ideal)) (onTc (τ := Cert.MlpInIdeal.τ) (Cert.MlpInIdeal.main (F := Ideal))) ⟨m, fun _ => 0, g⟩ (fun r => (∀ c : Dev Cert.MlpInIdeal.nD,
      r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
      ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ r.2.sem = fun _ => 0)

def quiescent_MlpInRefIdeal [hMlpInRefIdeal : Cert.MlpInRefIdeal.Facts] : Prop :=
  ∀ (m : (ℓ : Loc Cert.MlpInRefIdeal.nD Cert.MlpInRefIdeal.τ Cert.MlpInRefIdeal.sig) → Buf (Elt Ideal) ℓ) (g : Dev Cert.MlpInRefIdeal.nD → PrngReg), Pre_MlpInRefIdeal m →
    θ_run (Cert.MlpInRefIdeal.defs (F := Ideal)) (onTc (τ := Cert.MlpInRefIdeal.τ) (Cert.MlpInRefIdeal.main (F := Ideal))) ⟨m, fun _ => 0, g⟩ (fun r => (∀ c : Dev Cert.MlpInRefIdeal.nD,
      r.2.mem ((c.tc : Thread Cert.MlpInRefIdeal.nD Cert.MlpInRefIdeal.τ).loc Cert.MlpInRefIdeal.main_arg0) = m ((c.tc : Thread Cert.MlpInRefIdeal.nD Cert.MlpInRefIdeal.τ).loc Cert.MlpInRefIdeal.main_arg0)
      ∧ r.2.mem ((c.tc : Thread Cert.MlpInRefIdeal.nD Cert.MlpInRefIdeal.τ).loc Cert.MlpInRefIdeal.main_arg1) = m ((c.tc : Thread Cert.MlpInRefIdeal.nD Cert.MlpInRefIdeal.τ).loc Cert.MlpInRefIdeal.main_arg1))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1)
      ∧ r.2.mem ((c.tc : Thread Cert.MlpOut.nD Cert.MlpOut.τ).loc Cert.MlpOut.main_arg2) = m ((c.tc : Thread Cert.MlpOut.nD Cert.MlpOut.τ).loc Cert.MlpOut.main_arg2)
      ∧ r.2.mem ((c.tc : Thread Cert.MlpOut.nD Cert.MlpOut.τ).loc Cert.MlpOut.main_arg3) = m ((c.tc : Thread Cert.MlpOut.nD Cert.MlpOut.τ).loc Cert.MlpOut.main_arg3))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
      ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2)
      ∧ r.2.mem ((c.tc : Thread Cert.MlpOutIdeal.nD Cert.MlpOutIdeal.τ).loc Cert.MlpOutIdeal.main_arg3) = m ((c.tc : Thread Cert.MlpOutIdeal.nD Cert.MlpOutIdeal.τ).loc Cert.MlpOutIdeal.main_arg3))
      ∧ r.2.sem = fun _ => 0)

def quiescent_MlpOutRefIdeal [hMlpOutRefIdeal : Cert.MlpOutRefIdeal.Facts] : Prop :=
  ∀ (m : (ℓ : Loc Cert.MlpOutRefIdeal.nD Cert.MlpOutRefIdeal.τ Cert.MlpOutRefIdeal.sig) → Buf (Elt Ideal) ℓ) (g : Dev Cert.MlpOutRefIdeal.nD → PrngReg), Pre_MlpOutRefIdeal m →
    θ_run (Cert.MlpOutRefIdeal.defs (F := Ideal)) (onTc (τ := Cert.MlpOutRefIdeal.τ) (Cert.MlpOutRefIdeal.main (F := Ideal))) ⟨m, fun _ => 0, g⟩ (fun r => (∀ c : Dev Cert.MlpOutRefIdeal.nD,
      r.2.mem ((c.tc : Thread Cert.MlpOutRefIdeal.nD Cert.MlpOutRefIdeal.τ).loc Cert.MlpOutRefIdeal.main_arg0) = m ((c.tc : Thread Cert.MlpOutRefIdeal.nD Cert.MlpOutRefIdeal.τ).loc Cert.MlpOutRefIdeal.main_arg0)
      ∧ r.2.mem ((c.tc : Thread Cert.MlpOutRefIdeal.nD Cert.MlpOutRefIdeal.τ).loc Cert.MlpOutRefIdeal.main_arg1) = m ((c.tc : Thread Cert.MlpOutRefIdeal.nD Cert.MlpOutRefIdeal.τ).loc Cert.MlpOutRefIdeal.main_arg1)
      ∧ r.2.mem ((c.tc : Thread Cert.MlpOutRefIdeal.nD Cert.MlpOutRefIdeal.τ).loc Cert.MlpOutRefIdeal.main_arg2) = m ((c.tc : Thread Cert.MlpOutRefIdeal.nD Cert.MlpOutRefIdeal.τ).loc Cert.MlpOutRefIdeal.main_arg2)
      ∧ r.2.mem ((c.tc : Thread Cert.MlpOutRefIdeal.nD Cert.MlpOutRefIdeal.τ).loc Cert.MlpOutRefIdeal.main_arg3) = m ((c.tc : Thread Cert.MlpOutRefIdeal.nD Cert.MlpOutRefIdeal.τ).loc Cert.MlpOutRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_GluGate [hGluGate : Cert.GluGate.Facts] : Prop :=
  ∀ (m : (ℓ : Loc Cert.GluGate.nD Cert.GluGate.τ Cert.GluGate.sig) → Buf (Elt Bits) ℓ) (g : Dev Cert.GluGate.nD → PrngReg), Pre_GluGate m →
    θ_run (Cert.GluGate.defs (F := Bits)) (onTc (τ := Cert.GluGate.τ) (Cert.GluGate.main (F := Bits))) ⟨m, fun _ => 0, g⟩ (fun r => (∀ c : Dev Cert.GluGate.nD,
      r.2.mem ((c.tc : Thread Cert.GluGate.nD Cert.GluGate.τ).loc Cert.GluGate.main_arg0) = m ((c.tc : Thread Cert.GluGate.nD Cert.GluGate.τ).loc Cert.GluGate.main_arg0)
      ∧ r.2.mem ((c.tc : Thread Cert.GluGate.nD Cert.GluGate.τ).loc Cert.GluGate.main_arg1) = m ((c.tc : Thread Cert.GluGate.nD Cert.GluGate.τ).loc Cert.GluGate.main_arg1)
      ∧ r.2.mem ((c.tc : Thread Cert.GluGate.nD Cert.GluGate.τ).loc Cert.GluGate.main_arg2) = m ((c.tc : Thread Cert.GluGate.nD Cert.GluGate.τ).loc Cert.GluGate.main_arg2)
      ∧ r.2.mem ((c.tc : Thread Cert.GluGate.nD Cert.GluGate.τ).loc Cert.GluGate.main_arg3) = m ((c.tc : Thread Cert.GluGate.nD Cert.GluGate.τ).loc Cert.GluGate.main_arg3)
      ∧ r.2.mem ((c.tc : Thread Cert.GluGate.nD Cert.GluGate.τ).loc Cert.GluGate.main_arg4) = m ((c.tc : Thread Cert.GluGate.nD Cert.GluGate.τ).loc Cert.GluGate.main_arg4))
      ∧ r.2.sem = fun _ => 0)

def quiescent_GluGateIdeal [hGluGateIdeal : Cert.GluGateIdeal.Facts] : Prop :=
  ∀ (m : (ℓ : Loc Cert.GluGateIdeal.nD Cert.GluGateIdeal.τ Cert.GluGateIdeal.sig) → Buf (Elt Ideal) ℓ) (g : Dev Cert.GluGateIdeal.nD → PrngReg), Pre_GluGateIdeal m →
    θ_run (Cert.GluGateIdeal.defs (F := Ideal)) (onTc (τ := Cert.GluGateIdeal.τ) (Cert.GluGateIdeal.main (F := Ideal))) ⟨m, fun _ => 0, g⟩ (fun r => (∀ c : Dev Cert.GluGateIdeal.nD,
      r.2.mem ((c.tc : Thread Cert.GluGateIdeal.nD Cert.GluGateIdeal.τ).loc Cert.GluGateIdeal.main_arg0) = m ((c.tc : Thread Cert.GluGateIdeal.nD Cert.GluGateIdeal.τ).loc Cert.GluGateIdeal.main_arg0)
      ∧ r.2.mem ((c.tc : Thread Cert.GluGateIdeal.nD Cert.GluGateIdeal.τ).loc Cert.GluGateIdeal.main_arg1) = m ((c.tc : Thread Cert.GluGateIdeal.nD Cert.GluGateIdeal.τ).loc Cert.GluGateIdeal.main_arg1)
      ∧ r.2.mem ((c.tc : Thread Cert.GluGateIdeal.nD Cert.GluGateIdeal.τ).loc Cert.GluGateIdeal.main_arg2) = m ((c.tc : Thread Cert.GluGateIdeal.nD Cert.GluGateIdeal.τ).loc Cert.GluGateIdeal.main_arg2)
      ∧ r.2.mem ((c.tc : Thread Cert.GluGateIdeal.nD Cert.GluGateIdeal.τ).loc Cert.GluGateIdeal.main_arg3) = m ((c.tc : Thread Cert.GluGateIdeal.nD Cert.GluGateIdeal.τ).loc Cert.GluGateIdeal.main_arg3)
      ∧ r.2.mem ((c.tc : Thread Cert.GluGateIdeal.nD Cert.GluGateIdeal.τ).loc Cert.GluGateIdeal.main_arg4) = m ((c.tc : Thread Cert.GluGateIdeal.nD Cert.GluGateIdeal.τ).loc Cert.GluGateIdeal.main_arg4))
      ∧ r.2.sem = fun _ => 0)

def quiescent_GluGateRefIdeal [hGluGateRefIdeal : Cert.GluGateRefIdeal.Facts] : Prop :=
  ∀ (m : (ℓ : Loc Cert.GluGateRefIdeal.nD Cert.GluGateRefIdeal.τ Cert.GluGateRefIdeal.sig) → Buf (Elt Ideal) ℓ) (g : Dev Cert.GluGateRefIdeal.nD → PrngReg), Pre_GluGateRefIdeal m →
    θ_run (Cert.GluGateRefIdeal.defs (F := Ideal)) (onTc (τ := Cert.GluGateRefIdeal.τ) (Cert.GluGateRefIdeal.main (F := Ideal))) ⟨m, fun _ => 0, g⟩ (fun r => (∀ c : Dev Cert.GluGateRefIdeal.nD,
      r.2.mem ((c.tc : Thread Cert.GluGateRefIdeal.nD Cert.GluGateRefIdeal.τ).loc Cert.GluGateRefIdeal.main_arg0) = m ((c.tc : Thread Cert.GluGateRefIdeal.nD Cert.GluGateRefIdeal.τ).loc Cert.GluGateRefIdeal.main_arg0)
      ∧ r.2.mem ((c.tc : Thread Cert.GluGateRefIdeal.nD Cert.GluGateRefIdeal.τ).loc Cert.GluGateRefIdeal.main_arg1) = m ((c.tc : Thread Cert.GluGateRefIdeal.nD Cert.GluGateRefIdeal.τ).loc Cert.GluGateRefIdeal.main_arg1)
      ∧ r.2.mem ((c.tc : Thread Cert.GluGateRefIdeal.nD Cert.GluGateRefIdeal.τ).loc Cert.GluGateRefIdeal.main_arg2) = m ((c.tc : Thread Cert.GluGateRefIdeal.nD Cert.GluGateRefIdeal.τ).loc Cert.GluGateRefIdeal.main_arg2)
      ∧ r.2.mem ((c.tc : Thread Cert.GluGateRefIdeal.nD Cert.GluGateRefIdeal.τ).loc Cert.GluGateRefIdeal.main_arg3) = m ((c.tc : Thread Cert.GluGateRefIdeal.nD Cert.GluGateRefIdeal.τ).loc Cert.GluGateRefIdeal.main_arg3)
      ∧ r.2.mem ((c.tc : Thread Cert.GluGateRefIdeal.nD Cert.GluGateRefIdeal.τ).loc Cert.GluGateRefIdeal.main_arg4) = m ((c.tc : Thread Cert.GluGateRefIdeal.nD Cert.GluGateRefIdeal.τ).loc Cert.GluGateRefIdeal.main_arg4))
      ∧ r.2.sem = fun _ => 0)

def quiescent_AttnNorm [hAttnNorm : Cert.AttnNorm.Facts] : Prop :=
  ∀ (m : (ℓ : Loc Cert.AttnNorm.nD Cert.AttnNorm.τ Cert.AttnNorm.sig) → Buf (Elt Bits) ℓ) (g : Dev Cert.AttnNorm.nD → PrngReg), Pre_AttnNorm m →
    θ_run (Cert.AttnNorm.defs (F := Bits)) (onTc (τ := Cert.AttnNorm.τ) (Cert.AttnNorm.main (F := Bits))) ⟨m, fun _ => 0, g⟩ (fun r => (∀ c : Dev Cert.AttnNorm.nD,
      r.2.mem ((c.tc : Thread Cert.AttnNorm.nD Cert.AttnNorm.τ).loc Cert.AttnNorm.main_arg0) = m ((c.tc : Thread Cert.AttnNorm.nD Cert.AttnNorm.τ).loc Cert.AttnNorm.main_arg0)
      ∧ r.2.mem ((c.tc : Thread Cert.AttnNorm.nD Cert.AttnNorm.τ).loc Cert.AttnNorm.main_arg1) = m ((c.tc : Thread Cert.AttnNorm.nD Cert.AttnNorm.τ).loc Cert.AttnNorm.main_arg1)
      ∧ r.2.mem ((c.tc : Thread Cert.AttnNorm.nD Cert.AttnNorm.τ).loc Cert.AttnNorm.main_arg2) = m ((c.tc : Thread Cert.AttnNorm.nD Cert.AttnNorm.τ).loc Cert.AttnNorm.main_arg2))
      ∧ r.2.sem = fun _ => 0)

def quiescent_AttnNormIdeal [hAttnNormIdeal : Cert.AttnNormIdeal.Facts] : Prop :=
  ∀ (m : (ℓ : Loc Cert.AttnNormIdeal.nD Cert.AttnNormIdeal.τ Cert.AttnNormIdeal.sig) → Buf (Elt Ideal) ℓ) (g : Dev Cert.AttnNormIdeal.nD → PrngReg), Pre_AttnNormIdeal m →
    θ_run (Cert.AttnNormIdeal.defs (F := Ideal)) (onTc (τ := Cert.AttnNormIdeal.τ) (Cert.AttnNormIdeal.main (F := Ideal))) ⟨m, fun _ => 0, g⟩ (fun r => (∀ c : Dev Cert.AttnNormIdeal.nD,
      r.2.mem ((c.tc : Thread Cert.AttnNormIdeal.nD Cert.AttnNormIdeal.τ).loc Cert.AttnNormIdeal.main_arg0) = m ((c.tc : Thread Cert.AttnNormIdeal.nD Cert.AttnNormIdeal.τ).loc Cert.AttnNormIdeal.main_arg0)
      ∧ r.2.mem ((c.tc : Thread Cert.AttnNormIdeal.nD Cert.AttnNormIdeal.τ).loc Cert.AttnNormIdeal.main_arg1) = m ((c.tc : Thread Cert.AttnNormIdeal.nD Cert.AttnNormIdeal.τ).loc Cert.AttnNormIdeal.main_arg1)
      ∧ r.2.mem ((c.tc : Thread Cert.AttnNormIdeal.nD Cert.AttnNormIdeal.τ).loc Cert.AttnNormIdeal.main_arg2) = m ((c.tc : Thread Cert.AttnNormIdeal.nD Cert.AttnNormIdeal.τ).loc Cert.AttnNormIdeal.main_arg2))
      ∧ r.2.sem = fun _ => 0)

def quiescent_AttnNormRefIdeal [hAttnNormRefIdeal : Cert.AttnNormRefIdeal.Facts] : Prop :=
  ∀ (m : (ℓ : Loc Cert.AttnNormRefIdeal.nD Cert.AttnNormRefIdeal.τ Cert.AttnNormRefIdeal.sig) → Buf (Elt Ideal) ℓ) (g : Dev Cert.AttnNormRefIdeal.nD → PrngReg), Pre_AttnNormRefIdeal m →
    θ_run (Cert.AttnNormRefIdeal.defs (F := Ideal)) (onTc (τ := Cert.AttnNormRefIdeal.τ) (Cert.AttnNormRefIdeal.main (F := Ideal))) ⟨m, fun _ => 0, g⟩ (fun r => (∀ c : Dev Cert.AttnNormRefIdeal.nD,
      r.2.mem ((c.tc : Thread Cert.AttnNormRefIdeal.nD Cert.AttnNormRefIdeal.τ).loc Cert.AttnNormRefIdeal.main_arg0) = m ((c.tc : Thread Cert.AttnNormRefIdeal.nD Cert.AttnNormRefIdeal.τ).loc Cert.AttnNormRefIdeal.main_arg0)
      ∧ r.2.mem ((c.tc : Thread Cert.AttnNormRefIdeal.nD Cert.AttnNormRefIdeal.τ).loc Cert.AttnNormRefIdeal.main_arg1) = m ((c.tc : Thread Cert.AttnNormRefIdeal.nD Cert.AttnNormRefIdeal.τ).loc Cert.AttnNormRefIdeal.main_arg1)
      ∧ r.2.mem ((c.tc : Thread Cert.AttnNormRefIdeal.nD Cert.AttnNormRefIdeal.τ).loc Cert.AttnNormRefIdeal.main_arg2) = m ((c.tc : Thread Cert.AttnNormRefIdeal.nD Cert.AttnNormRefIdeal.τ).loc Cert.AttnNormRefIdeal.main_arg2))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamWIn [hAdamWIn : Cert.AdamWIn.Facts] [hPre_w_in_device : Cert.Pre_w_in_device.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3)
      ∧ r.2.mem ((c.tc : Thread Cert.AdamWIn.nD Cert.AdamWIn.τ).loc Cert.AdamWIn.main_arg4) = m ((c.tc : Thread Cert.AdamWIn.nD Cert.AdamWIn.τ).loc Cert.AdamWIn.main_arg4)
      ∧ r.2.mem ((c.tc : Thread Cert.AdamWIn.nD Cert.AdamWIn.τ).loc Cert.AdamWIn.main_arg5) = m ((c.tc : Thread Cert.AdamWIn.nD Cert.AdamWIn.τ).loc Cert.AdamWIn.main_arg5))
      ∧ r.2.sem = fun _ => 0)

def quiescent_AdamWInIdeal [hAdamWInIdeal : Cert.AdamWInIdeal.Facts] [hPre_w_in_device : Cert.Pre_w_in_device.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3)
      ∧ r.2.mem ((c.tc : Thread Cert.AdamWInIdeal.nD Cert.AdamWInIdeal.τ).loc Cert.AdamWInIdeal.main_arg4) = m ((c.tc : Thread Cert.AdamWInIdeal.nD Cert.AdamWInIdeal.τ).loc Cert.AdamWInIdeal.main_arg4)
      ∧ r.2.mem ((c.tc : Thread Cert.AdamWInIdeal.nD Cert.AdamWInIdeal.τ).loc Cert.AdamWInIdeal.main_arg5) = m ((c.tc : Thread Cert.AdamWInIdeal.nD Cert.AdamWInIdeal.τ).loc Cert.AdamWInIdeal.main_arg5))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3)
      ∧ r.2.mem ((c.tc : Thread Cert.AdamWInRefIdeal.nD Cert.AdamWInRefIdeal.τ).loc Cert.AdamWInRefIdeal.main_arg4) = m ((c.tc : Thread Cert.AdamWInRefIdeal.nD Cert.AdamWInRefIdeal.τ).loc Cert.AdamWInRefIdeal.main_arg4)
      ∧ r.2.mem ((c.tc : Thread Cert.AdamWInRefIdeal.nD Cert.AdamWInRefIdeal.τ).loc Cert.AdamWInRefIdeal.main_arg5) = m ((c.tc : Thread Cert.AdamWInRefIdeal.nD Cert.AdamWInRefIdeal.τ).loc Cert.AdamWInRefIdeal.main_arg5))
      ∧ r.2.sem = fun _ => 0)

def quiescent_AdamWInRefIdeal_pre_w_in_device [hAdamWInRefIdeal : Cert.AdamWInRefIdeal.Facts] [hPre_w_in_device : Cert.Pre_w_in_device.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal_w_in_device m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3)
      ∧ r.2.mem ((c.tc : Thread Cert.AdamWInRefIdeal.nD Cert.AdamWInRefIdeal.τ).loc Cert.AdamWInRefIdeal.main_arg4) = m ((c.tc : Thread Cert.AdamWInRefIdeal.nD Cert.AdamWInRefIdeal.τ).loc Cert.AdamWInRefIdeal.main_arg4)
      ∧ r.2.mem ((c.tc : Thread Cert.AdamWInRefIdeal.nD Cert.AdamWInRefIdeal.τ).loc Cert.AdamWInRefIdeal.main_arg5) = m ((c.tc : Thread Cert.AdamWInRefIdeal.nD Cert.AdamWInRefIdeal.τ).loc Cert.AdamWInRefIdeal.main_arg5))
      ∧ r.2.sem = fun _ => 0)

def quiescent_AdamWGlu [hAdamWGlu : Cert.AdamWGlu.Facts] [hPre_w_glu_device : Cert.Pre_w_glu_device.Facts] : Prop :=
  ∀ (m : (ℓ : Loc Cert.AdamWGlu.nD Cert.AdamWGlu.τ Cert.AdamWGlu.sig) → Buf (Elt Bits) ℓ) (g : Dev Cert.AdamWGlu.nD → PrngReg), Pre_AdamWGlu m →
    θ_run (Cert.AdamWGlu.defs (F := Bits)) (onTc (τ := Cert.AdamWGlu.τ) (Cert.AdamWGlu.main (F := Bits))) ⟨m, fun _ => 0, g⟩ (fun r => (∀ c : Dev Cert.AdamWGlu.nD,
      r.2.mem ((c.tc : Thread Cert.AdamWGlu.nD Cert.AdamWGlu.τ).loc Cert.AdamWGlu.main_arg0) = m ((c.tc : Thread Cert.AdamWGlu.nD Cert.AdamWGlu.τ).loc Cert.AdamWGlu.main_arg0)
      ∧ r.2.mem ((c.tc : Thread Cert.AdamWGlu.nD Cert.AdamWGlu.τ).loc Cert.AdamWGlu.main_arg1) = m ((c.tc : Thread Cert.AdamWGlu.nD Cert.AdamWGlu.τ).loc Cert.AdamWGlu.main_arg1)
      ∧ r.2.mem ((c.tc : Thread Cert.AdamWGlu.nD Cert.AdamWGlu.τ).loc Cert.AdamWGlu.main_arg2) = m ((c.tc : Thread Cert.AdamWGlu.nD Cert.AdamWGlu.τ).loc Cert.AdamWGlu.main_arg2)
      ∧ r.2.mem ((c.tc : Thread Cert.AdamWGlu.nD Cert.AdamWGlu.τ).loc Cert.AdamWGlu.main_arg3) = m ((c.tc : Thread Cert.AdamWGlu.nD Cert.AdamWGlu.τ).loc Cert.AdamWGlu.main_arg3)
      ∧ r.2.mem ((c.tc : Thread Cert.AdamWGlu.nD Cert.AdamWGlu.τ).loc Cert.AdamWGlu.main_arg4) = m ((c.tc : Thread Cert.AdamWGlu.nD Cert.AdamWGlu.τ).loc Cert.AdamWGlu.main_arg4)
      ∧ r.2.mem ((c.tc : Thread Cert.AdamWGlu.nD Cert.AdamWGlu.τ).loc Cert.AdamWGlu.main_arg5) = m ((c.tc : Thread Cert.AdamWGlu.nD Cert.AdamWGlu.τ).loc Cert.AdamWGlu.main_arg5))
      ∧ r.2.sem = fun _ => 0)

def quiescent_AdamWGluIdeal [hAdamWGluIdeal : Cert.AdamWGluIdeal.Facts] [hPre_w_glu_device : Cert.Pre_w_glu_device.Facts] : Prop :=
  ∀ (m : (ℓ : Loc Cert.AdamWGluIdeal.nD Cert.AdamWGluIdeal.τ Cert.AdamWGluIdeal.sig) → Buf (Elt Ideal) ℓ) (g : Dev Cert.AdamWGluIdeal.nD → PrngReg), Pre_AdamWGluIdeal m →
    θ_run (Cert.AdamWGluIdeal.defs (F := Ideal)) (onTc (τ := Cert.AdamWGluIdeal.τ) (Cert.AdamWGluIdeal.main (F := Ideal))) ⟨m, fun _ => 0, g⟩ (fun r => (∀ c : Dev Cert.AdamWGluIdeal.nD,
      r.2.mem ((c.tc : Thread Cert.AdamWGluIdeal.nD Cert.AdamWGluIdeal.τ).loc Cert.AdamWGluIdeal.main_arg0) = m ((c.tc : Thread Cert.AdamWGluIdeal.nD Cert.AdamWGluIdeal.τ).loc Cert.AdamWGluIdeal.main_arg0)
      ∧ r.2.mem ((c.tc : Thread Cert.AdamWGluIdeal.nD Cert.AdamWGluIdeal.τ).loc Cert.AdamWGluIdeal.main_arg1) = m ((c.tc : Thread Cert.AdamWGluIdeal.nD Cert.AdamWGluIdeal.τ).loc Cert.AdamWGluIdeal.main_arg1)
      ∧ r.2.mem ((c.tc : Thread Cert.AdamWGluIdeal.nD Cert.AdamWGluIdeal.τ).loc Cert.AdamWGluIdeal.main_arg2) = m ((c.tc : Thread Cert.AdamWGluIdeal.nD Cert.AdamWGluIdeal.τ).loc Cert.AdamWGluIdeal.main_arg2)
      ∧ r.2.mem ((c.tc : Thread Cert.AdamWGluIdeal.nD Cert.AdamWGluIdeal.τ).loc Cert.AdamWGluIdeal.main_arg3) = m ((c.tc : Thread Cert.AdamWGluIdeal.nD Cert.AdamWGluIdeal.τ).loc Cert.AdamWGluIdeal.main_arg3)
      ∧ r.2.mem ((c.tc : Thread Cert.AdamWGluIdeal.nD Cert.AdamWGluIdeal.τ).loc Cert.AdamWGluIdeal.main_arg4) = m ((c.tc : Thread Cert.AdamWGluIdeal.nD Cert.AdamWGluIdeal.τ).loc Cert.AdamWGluIdeal.main_arg4)
      ∧ r.2.mem ((c.tc : Thread Cert.AdamWGluIdeal.nD Cert.AdamWGluIdeal.τ).loc Cert.AdamWGluIdeal.main_arg5) = m ((c.tc : Thread Cert.AdamWGluIdeal.nD Cert.AdamWGluIdeal.τ).loc Cert.AdamWGluIdeal.main_arg5))
      ∧ r.2.sem = fun _ => 0)

def quiescent_AdamWGluRefIdeal [hAdamWGluRefIdeal : Cert.AdamWGluRefIdeal.Facts] : Prop :=
  ∀ (m : (ℓ : Loc Cert.AdamWGluRefIdeal.nD Cert.AdamWGluRefIdeal.τ Cert.AdamWGluRefIdeal.sig) → Buf (Elt Ideal) ℓ) (g : Dev Cert.AdamWGluRefIdeal.nD → PrngReg), Pre_AdamWGluRefIdeal m →
    θ_run (Cert.AdamWGluRefIdeal.defs (F := Ideal)) (onTc (τ := Cert.AdamWGluRefIdeal.τ) (Cert.AdamWGluRefIdeal.main (F := Ideal))) ⟨m, fun _ => 0, g⟩ (fun r => (∀ c : Dev Cert.AdamWGluRefIdeal.nD,
      r.2.mem ((c.tc : Thread Cert.AdamWGluRefIdeal.nD Cert.AdamWGluRefIdeal.τ).loc Cert.AdamWGluRefIdeal.main_arg0) = m ((c.tc : Thread Cert.AdamWGluRefIdeal.nD Cert.AdamWGluRefIdeal.τ).loc Cert.AdamWGluRefIdeal.main_arg0)
      ∧ r.2.mem ((c.tc : Thread Cert.AdamWGluRefIdeal.nD Cert.AdamWGluRefIdeal.τ).loc Cert.AdamWGluRefIdeal.main_arg1) = m ((c.tc : Thread Cert.AdamWGluRefIdeal.nD Cert.AdamWGluRefIdeal.τ).loc Cert.AdamWGluRefIdeal.main_arg1)
      ∧ r.2.mem ((c.tc : Thread Cert.AdamWGluRefIdeal.nD Cert.AdamWGluRefIdeal.τ).loc Cert.AdamWGluRefIdeal.main_arg2) = m ((c.tc : Thread Cert.AdamWGluRefIdeal.nD Cert.AdamWGluRefIdeal.τ).loc Cert.AdamWGluRefIdeal.main_arg2)
      ∧ r.2.mem ((c.tc : Thread Cert.AdamWGluRefIdeal.nD Cert.AdamWGluRefIdeal.τ).loc Cert.AdamWGluRefIdeal.main_arg3) = m ((c.tc : Thread Cert.AdamWGluRefIdeal.nD Cert.AdamWGluRefIdeal.τ).loc Cert.AdamWGluRefIdeal.main_arg3)
      ∧ r.2.mem ((c.tc : Thread Cert.AdamWGluRefIdeal.nD Cert.AdamWGluRefIdeal.τ).loc Cert.AdamWGluRefIdeal.main_arg4) = m ((c.tc : Thread Cert.AdamWGluRefIdeal.nD Cert.AdamWGluRefIdeal.τ).loc Cert.AdamWGluRefIdeal.main_arg4)
      ∧ r.2.mem ((c.tc : Thread Cert.AdamWGluRefIdeal.nD Cert.AdamWGluRefIdeal.τ).loc Cert.AdamWGluRefIdeal.main_arg5) = m ((c.tc : Thread Cert.AdamWGluRefIdeal.nD Cert.AdamWGluRefIdeal.τ).loc Cert.AdamWGluRefIdeal.main_arg5))
      ∧ r.2.sem = fun _ => 0)

def quiescent_AdamWGluRefIdeal_pre_w_glu_device [hAdamWGluRefIdeal : Cert.AdamWGluRefIdeal.Facts] [hPre_w_glu_device : Cert.Pre_w_glu_device.Facts] : Prop :=
  ∀ (m : (ℓ : Loc Cert.AdamWGluRefIdeal.nD Cert.AdamWGluRefIdeal.τ Cert.AdamWGluRefIdeal.sig) → Buf (Elt Ideal) ℓ) (g : Dev Cert.AdamWGluRefIdeal.nD → PrngReg), Pre_AdamWGluRefIdeal_w_glu_device m →
    θ_run (Cert.AdamWGluRefIdeal.defs (F := Ideal)) (onTc (τ := Cert.AdamWGluRefIdeal.τ) (Cert.AdamWGluRefIdeal.main (F := Ideal))) ⟨m, fun _ => 0, g⟩ (fun r => (∀ c : Dev Cert.AdamWGluRefIdeal.nD,
      r.2.mem ((c.tc : Thread Cert.AdamWGluRefIdeal.nD Cert.AdamWGluRefIdeal.τ).loc Cert.AdamWGluRefIdeal.main_arg0) = m ((c.tc : Thread Cert.AdamWGluRefIdeal.nD Cert.AdamWGluRefIdeal.τ).loc Cert.AdamWGluRefIdeal.main_arg0)
      ∧ r.2.mem ((c.tc : Thread Cert.AdamWGluRefIdeal.nD Cert.AdamWGluRefIdeal.τ).loc Cert.AdamWGluRefIdeal.main_arg1) = m ((c.tc : Thread Cert.AdamWGluRefIdeal.nD Cert.AdamWGluRefIdeal.τ).loc Cert.AdamWGluRefIdeal.main_arg1)
      ∧ r.2.mem ((c.tc : Thread Cert.AdamWGluRefIdeal.nD Cert.AdamWGluRefIdeal.τ).loc Cert.AdamWGluRefIdeal.main_arg2) = m ((c.tc : Thread Cert.AdamWGluRefIdeal.nD Cert.AdamWGluRefIdeal.τ).loc Cert.AdamWGluRefIdeal.main_arg2)
      ∧ r.2.mem ((c.tc : Thread Cert.AdamWGluRefIdeal.nD Cert.AdamWGluRefIdeal.τ).loc Cert.AdamWGluRefIdeal.main_arg3) = m ((c.tc : Thread Cert.AdamWGluRefIdeal.nD Cert.AdamWGluRefIdeal.τ).loc Cert.AdamWGluRefIdeal.main_arg3)
      ∧ r.2.mem ((c.tc : Thread Cert.AdamWGluRefIdeal.nD Cert.AdamWGluRefIdeal.τ).loc Cert.AdamWGluRefIdeal.main_arg4) = m ((c.tc : Thread Cert.AdamWGluRefIdeal.nD Cert.AdamWGluRefIdeal.τ).loc Cert.AdamWGluRefIdeal.main_arg4)
      ∧ r.2.mem ((c.tc : Thread Cert.AdamWGluRefIdeal.nD Cert.AdamWGluRefIdeal.τ).loc Cert.AdamWGluRefIdeal.main_arg5) = m ((c.tc : Thread Cert.AdamWGluRefIdeal.nD Cert.AdamWGluRefIdeal.τ).loc Cert.AdamWGluRefIdeal.main_arg5))
      ∧ r.2.sem = fun _ => 0)

def quiescent_AdamWOut [hAdamWOut : Cert.AdamWOut.Facts] [hPre_w_out_device : Cert.Pre_w_out_device.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3)
      ∧ r.2.mem ((c.tc : Thread Cert.AdamWOut.nD Cert.AdamWOut.τ).loc Cert.AdamWOut.main_arg4) = m ((c.tc : Thread Cert.AdamWOut.nD Cert.AdamWOut.τ).loc Cert.AdamWOut.main_arg4)
      ∧ r.2.mem ((c.tc : Thread Cert.AdamWOut.nD Cert.AdamWOut.τ).loc Cert.AdamWOut.main_arg5) = m ((c.tc : Thread Cert.AdamWOut.nD Cert.AdamWOut.τ).loc Cert.AdamWOut.main_arg5))
      ∧ r.2.sem = fun _ => 0)

def quiescent_AdamWOutIdeal [hAdamWOutIdeal : Cert.AdamWOutIdeal.Facts] [hPre_w_out_device : Cert.Pre_w_out_device.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3)
      ∧ r.2.mem ((c.tc : Thread Cert.AdamWOutIdeal.nD Cert.AdamWOutIdeal.τ).loc Cert.AdamWOutIdeal.main_arg4) = m ((c.tc : Thread Cert.AdamWOutIdeal.nD Cert.AdamWOutIdeal.τ).loc Cert.AdamWOutIdeal.main_arg4)
      ∧ r.2.mem ((c.tc : Thread Cert.AdamWOutIdeal.nD Cert.AdamWOutIdeal.τ).loc Cert.AdamWOutIdeal.main_arg5) = m ((c.tc : Thread Cert.AdamWOutIdeal.nD Cert.AdamWOutIdeal.τ).loc Cert.AdamWOutIdeal.main_arg5))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3)
      ∧ r.2.mem ((c.tc : Thread Cert.AdamWOutRefIdeal.nD Cert.AdamWOutRefIdeal.τ).loc Cert.AdamWOutRefIdeal.main_arg4) = m ((c.tc : Thread Cert.AdamWOutRefIdeal.nD Cert.AdamWOutRefIdeal.τ).loc Cert.AdamWOutRefIdeal.main_arg4)
      ∧ r.2.mem ((c.tc : Thread Cert.AdamWOutRefIdeal.nD Cert.AdamWOutRefIdeal.τ).loc Cert.AdamWOutRefIdeal.main_arg5) = m ((c.tc : Thread Cert.AdamWOutRefIdeal.nD Cert.AdamWOutRefIdeal.τ).loc Cert.AdamWOutRefIdeal.main_arg5))
      ∧ r.2.sem = fun _ => 0)

def quiescent_AdamWOutRefIdeal_pre_w_out_device [hAdamWOutRefIdeal : Cert.AdamWOutRefIdeal.Facts] [hPre_w_out_device : Cert.Pre_w_out_device.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal_w_out_device m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3)
      ∧ r.2.mem ((c.tc : Thread Cert.AdamWOutRefIdeal.nD Cert.AdamWOutRefIdeal.τ).loc Cert.AdamWOutRefIdeal.main_arg4) = m ((c.tc : Thread Cert.AdamWOutRefIdeal.nD Cert.AdamWOutRefIdeal.τ).loc Cert.AdamWOutRefIdeal.main_arg4)
      ∧ r.2.mem ((c.tc : Thread Cert.AdamWOutRefIdeal.nD Cert.AdamWOutRefIdeal.τ).loc Cert.AdamWOutRefIdeal.main_arg5) = m ((c.tc : Thread Cert.AdamWOutRefIdeal.nD Cert.AdamWOutRefIdeal.τ).loc Cert.AdamWOutRefIdeal.main_arg5))
      ∧ r.2.sem = fun _ => 0)

def quiescent_AdamWMlpIn [hAdamWMlpIn : Cert.AdamWMlpIn.Facts] [hPre_w_mlp_in_device : Cert.Pre_w_mlp_in_device.Facts] : Prop :=
  ∀ (m : (ℓ : Loc Cert.AdamWMlpIn.nD Cert.AdamWMlpIn.τ Cert.AdamWMlpIn.sig) → Buf (Elt Bits) ℓ) (g : Dev Cert.AdamWMlpIn.nD → PrngReg), Pre_AdamWMlpIn m →
    θ_run (Cert.AdamWMlpIn.defs (F := Bits)) (onTc (τ := Cert.AdamWMlpIn.τ) (Cert.AdamWMlpIn.main (F := Bits))) ⟨m, fun _ => 0, g⟩ (fun r => (∀ c : Dev Cert.AdamWMlpIn.nD,
      r.2.mem ((c.tc : Thread Cert.AdamWMlpIn.nD Cert.AdamWMlpIn.τ).loc Cert.AdamWMlpIn.main_arg0) = m ((c.tc : Thread Cert.AdamWMlpIn.nD Cert.AdamWMlpIn.τ).loc Cert.AdamWMlpIn.main_arg0)
      ∧ r.2.mem ((c.tc : Thread Cert.AdamWMlpIn.nD Cert.AdamWMlpIn.τ).loc Cert.AdamWMlpIn.main_arg1) = m ((c.tc : Thread Cert.AdamWMlpIn.nD Cert.AdamWMlpIn.τ).loc Cert.AdamWMlpIn.main_arg1)
      ∧ r.2.mem ((c.tc : Thread Cert.AdamWMlpIn.nD Cert.AdamWMlpIn.τ).loc Cert.AdamWMlpIn.main_arg2) = m ((c.tc : Thread Cert.AdamWMlpIn.nD Cert.AdamWMlpIn.τ).loc Cert.AdamWMlpIn.main_arg2)
      ∧ r.2.mem ((c.tc : Thread Cert.AdamWMlpIn.nD Cert.AdamWMlpIn.τ).loc Cert.AdamWMlpIn.main_arg3) = m ((c.tc : Thread Cert.AdamWMlpIn.nD Cert.AdamWMlpIn.τ).loc Cert.AdamWMlpIn.main_arg3)
      ∧ r.2.mem ((c.tc : Thread Cert.AdamWMlpIn.nD Cert.AdamWMlpIn.τ).loc Cert.AdamWMlpIn.main_arg4) = m ((c.tc : Thread Cert.AdamWMlpIn.nD Cert.AdamWMlpIn.τ).loc Cert.AdamWMlpIn.main_arg4)
      ∧ r.2.mem ((c.tc : Thread Cert.AdamWMlpIn.nD Cert.AdamWMlpIn.τ).loc Cert.AdamWMlpIn.main_arg5) = m ((c.tc : Thread Cert.AdamWMlpIn.nD Cert.AdamWMlpIn.τ).loc Cert.AdamWMlpIn.main_arg5))
      ∧ r.2.sem = fun _ => 0)

def quiescent_AdamWMlpInIdeal [hAdamWMlpInIdeal : Cert.AdamWMlpInIdeal.Facts] [hPre_w_mlp_in_device : Cert.Pre_w_mlp_in_device.Facts] : Prop :=
  ∀ (m : (ℓ : Loc Cert.AdamWMlpInIdeal.nD Cert.AdamWMlpInIdeal.τ Cert.AdamWMlpInIdeal.sig) → Buf (Elt Ideal) ℓ) (g : Dev Cert.AdamWMlpInIdeal.nD → PrngReg), Pre_AdamWMlpInIdeal m →
    θ_run (Cert.AdamWMlpInIdeal.defs (F := Ideal)) (onTc (τ := Cert.AdamWMlpInIdeal.τ) (Cert.AdamWMlpInIdeal.main (F := Ideal))) ⟨m, fun _ => 0, g⟩ (fun r => (∀ c : Dev Cert.AdamWMlpInIdeal.nD,
      r.2.mem ((c.tc : Thread Cert.AdamWMlpInIdeal.nD Cert.AdamWMlpInIdeal.τ).loc Cert.AdamWMlpInIdeal.main_arg0) = m ((c.tc : Thread Cert.AdamWMlpInIdeal.nD Cert.AdamWMlpInIdeal.τ).loc Cert.AdamWMlpInIdeal.main_arg0)
      ∧ r.2.mem ((c.tc : Thread Cert.AdamWMlpInIdeal.nD Cert.AdamWMlpInIdeal.τ).loc Cert.AdamWMlpInIdeal.main_arg1) = m ((c.tc : Thread Cert.AdamWMlpInIdeal.nD Cert.AdamWMlpInIdeal.τ).loc Cert.AdamWMlpInIdeal.main_arg1)
      ∧ r.2.mem ((c.tc : Thread Cert.AdamWMlpInIdeal.nD Cert.AdamWMlpInIdeal.τ).loc Cert.AdamWMlpInIdeal.main_arg2) = m ((c.tc : Thread Cert.AdamWMlpInIdeal.nD Cert.AdamWMlpInIdeal.τ).loc Cert.AdamWMlpInIdeal.main_arg2)
      ∧ r.2.mem ((c.tc : Thread Cert.AdamWMlpInIdeal.nD Cert.AdamWMlpInIdeal.τ).loc Cert.AdamWMlpInIdeal.main_arg3) = m ((c.tc : Thread Cert.AdamWMlpInIdeal.nD Cert.AdamWMlpInIdeal.τ).loc Cert.AdamWMlpInIdeal.main_arg3)
      ∧ r.2.mem ((c.tc : Thread Cert.AdamWMlpInIdeal.nD Cert.AdamWMlpInIdeal.τ).loc Cert.AdamWMlpInIdeal.main_arg4) = m ((c.tc : Thread Cert.AdamWMlpInIdeal.nD Cert.AdamWMlpInIdeal.τ).loc Cert.AdamWMlpInIdeal.main_arg4)
      ∧ r.2.mem ((c.tc : Thread Cert.AdamWMlpInIdeal.nD Cert.AdamWMlpInIdeal.τ).loc Cert.AdamWMlpInIdeal.main_arg5) = m ((c.tc : Thread Cert.AdamWMlpInIdeal.nD Cert.AdamWMlpInIdeal.τ).loc Cert.AdamWMlpInIdeal.main_arg5))
      ∧ r.2.sem = fun _ => 0)

def quiescent_AdamWMlpInRefIdeal [hAdamWMlpInRefIdeal : Cert.AdamWMlpInRefIdeal.Facts] : Prop :=
  ∀ (m : (ℓ : Loc Cert.AdamWMlpInRefIdeal.nD Cert.AdamWMlpInRefIdeal.τ Cert.AdamWMlpInRefIdeal.sig) → Buf (Elt Ideal) ℓ) (g : Dev Cert.AdamWMlpInRefIdeal.nD → PrngReg), Pre_AdamWMlpInRefIdeal m →
    θ_run (Cert.AdamWMlpInRefIdeal.defs (F := Ideal)) (onTc (τ := Cert.AdamWMlpInRefIdeal.τ) (Cert.AdamWMlpInRefIdeal.main (F := Ideal))) ⟨m, fun _ => 0, g⟩ (fun r => (∀ c : Dev Cert.AdamWMlpInRefIdeal.nD,
      r.2.mem ((c.tc : Thread Cert.AdamWMlpInRefIdeal.nD Cert.AdamWMlpInRefIdeal.τ).loc Cert.AdamWMlpInRefIdeal.main_arg0) = m ((c.tc : Thread Cert.AdamWMlpInRefIdeal.nD Cert.AdamWMlpInRefIdeal.τ).loc Cert.AdamWMlpInRefIdeal.main_arg0)
      ∧ r.2.mem ((c.tc : Thread Cert.AdamWMlpInRefIdeal.nD Cert.AdamWMlpInRefIdeal.τ).loc Cert.AdamWMlpInRefIdeal.main_arg1) = m ((c.tc : Thread Cert.AdamWMlpInRefIdeal.nD Cert.AdamWMlpInRefIdeal.τ).loc Cert.AdamWMlpInRefIdeal.main_arg1)
      ∧ r.2.mem ((c.tc : Thread Cert.AdamWMlpInRefIdeal.nD Cert.AdamWMlpInRefIdeal.τ).loc Cert.AdamWMlpInRefIdeal.main_arg2) = m ((c.tc : Thread Cert.AdamWMlpInRefIdeal.nD Cert.AdamWMlpInRefIdeal.τ).loc Cert.AdamWMlpInRefIdeal.main_arg2)
      ∧ r.2.mem ((c.tc : Thread Cert.AdamWMlpInRefIdeal.nD Cert.AdamWMlpInRefIdeal.τ).loc Cert.AdamWMlpInRefIdeal.main_arg3) = m ((c.tc : Thread Cert.AdamWMlpInRefIdeal.nD Cert.AdamWMlpInRefIdeal.τ).loc Cert.AdamWMlpInRefIdeal.main_arg3)
      ∧ r.2.mem ((c.tc : Thread Cert.AdamWMlpInRefIdeal.nD Cert.AdamWMlpInRefIdeal.τ).loc Cert.AdamWMlpInRefIdeal.main_arg4) = m ((c.tc : Thread Cert.AdamWMlpInRefIdeal.nD Cert.AdamWMlpInRefIdeal.τ).loc Cert.AdamWMlpInRefIdeal.main_arg4)
      ∧ r.2.mem ((c.tc : Thread Cert.AdamWMlpInRefIdeal.nD Cert.AdamWMlpInRefIdeal.τ).loc Cert.AdamWMlpInRefIdeal.main_arg5) = m ((c.tc : Thread Cert.AdamWMlpInRefIdeal.nD Cert.AdamWMlpInRefIdeal.τ).loc Cert.AdamWMlpInRefIdeal.main_arg5))
      ∧ r.2.sem = fun _ => 0)

def quiescent_AdamWMlpInRefIdeal_pre_w_mlp_in_device [hAdamWMlpInRefIdeal : Cert.AdamWMlpInRefIdeal.Facts] [hPre_w_mlp_in_device : Cert.Pre_w_mlp_in_device.Facts] : Prop :=
  ∀ (m : (ℓ : Loc Cert.AdamWMlpInRefIdeal.nD Cert.AdamWMlpInRefIdeal.τ Cert.AdamWMlpInRefIdeal.sig) → Buf (Elt Ideal) ℓ) (g : Dev Cert.AdamWMlpInRefIdeal.nD → PrngReg), Pre_AdamWMlpInRefIdeal_w_mlp_in_device m →
    θ_run (Cert.AdamWMlpInRefIdeal.defs (F := Ideal)) (onTc (τ := Cert.AdamWMlpInRefIdeal.τ) (Cert.AdamWMlpInRefIdeal.main (F := Ideal))) ⟨m, fun _ => 0, g⟩ (fun r => (∀ c : Dev Cert.AdamWMlpInRefIdeal.nD,
      r.2.mem ((c.tc : Thread Cert.AdamWMlpInRefIdeal.nD Cert.AdamWMlpInRefIdeal.τ).loc Cert.AdamWMlpInRefIdeal.main_arg0) = m ((c.tc : Thread Cert.AdamWMlpInRefIdeal.nD Cert.AdamWMlpInRefIdeal.τ).loc Cert.AdamWMlpInRefIdeal.main_arg0)
      ∧ r.2.mem ((c.tc : Thread Cert.AdamWMlpInRefIdeal.nD Cert.AdamWMlpInRefIdeal.τ).loc Cert.AdamWMlpInRefIdeal.main_arg1) = m ((c.tc : Thread Cert.AdamWMlpInRefIdeal.nD Cert.AdamWMlpInRefIdeal.τ).loc Cert.AdamWMlpInRefIdeal.main_arg1)
      ∧ r.2.mem ((c.tc : Thread Cert.AdamWMlpInRefIdeal.nD Cert.AdamWMlpInRefIdeal.τ).loc Cert.AdamWMlpInRefIdeal.main_arg2) = m ((c.tc : Thread Cert.AdamWMlpInRefIdeal.nD Cert.AdamWMlpInRefIdeal.τ).loc Cert.AdamWMlpInRefIdeal.main_arg2)
      ∧ r.2.mem ((c.tc : Thread Cert.AdamWMlpInRefIdeal.nD Cert.AdamWMlpInRefIdeal.τ).loc Cert.AdamWMlpInRefIdeal.main_arg3) = m ((c.tc : Thread Cert.AdamWMlpInRefIdeal.nD Cert.AdamWMlpInRefIdeal.τ).loc Cert.AdamWMlpInRefIdeal.main_arg3)
      ∧ r.2.mem ((c.tc : Thread Cert.AdamWMlpInRefIdeal.nD Cert.AdamWMlpInRefIdeal.τ).loc Cert.AdamWMlpInRefIdeal.main_arg4) = m ((c.tc : Thread Cert.AdamWMlpInRefIdeal.nD Cert.AdamWMlpInRefIdeal.τ).loc Cert.AdamWMlpInRefIdeal.main_arg4)
      ∧ r.2.mem ((c.tc : Thread Cert.AdamWMlpInRefIdeal.nD Cert.AdamWMlpInRefIdeal.τ).loc Cert.AdamWMlpInRefIdeal.main_arg5) = m ((c.tc : Thread Cert.AdamWMlpInRefIdeal.nD Cert.AdamWMlpInRefIdeal.τ).loc Cert.AdamWMlpInRefIdeal.main_arg5))
      ∧ r.2.sem = fun _ => 0)

def quiescent_AdamWMlpOut [hAdamWMlpOut : Cert.AdamWMlpOut.Facts] [hPre_w_mlp_out_device : Cert.Pre_w_mlp_out_device.Facts] : Prop :=
  ∀ (m : (ℓ : Loc Cert.AdamWMlpOut.nD Cert.AdamWMlpOut.τ Cert.AdamWMlpOut.sig) → Buf (Elt Bits) ℓ) (g : Dev Cert.AdamWMlpOut.nD → PrngReg), Pre_AdamWMlpOut m →
    θ_run (Cert.AdamWMlpOut.defs (F := Bits)) (onTc (τ := Cert.AdamWMlpOut.τ) (Cert.AdamWMlpOut.main (F := Bits))) ⟨m, fun _ => 0, g⟩ (fun r => (∀ c : Dev Cert.AdamWMlpOut.nD,
      r.2.mem ((c.tc : Thread Cert.AdamWMlpOut.nD Cert.AdamWMlpOut.τ).loc Cert.AdamWMlpOut.main_arg0) = m ((c.tc : Thread Cert.AdamWMlpOut.nD Cert.AdamWMlpOut.τ).loc Cert.AdamWMlpOut.main_arg0)
      ∧ r.2.mem ((c.tc : Thread Cert.AdamWMlpOut.nD Cert.AdamWMlpOut.τ).loc Cert.AdamWMlpOut.main_arg1) = m ((c.tc : Thread Cert.AdamWMlpOut.nD Cert.AdamWMlpOut.τ).loc Cert.AdamWMlpOut.main_arg1)
      ∧ r.2.mem ((c.tc : Thread Cert.AdamWMlpOut.nD Cert.AdamWMlpOut.τ).loc Cert.AdamWMlpOut.main_arg2) = m ((c.tc : Thread Cert.AdamWMlpOut.nD Cert.AdamWMlpOut.τ).loc Cert.AdamWMlpOut.main_arg2)
      ∧ r.2.mem ((c.tc : Thread Cert.AdamWMlpOut.nD Cert.AdamWMlpOut.τ).loc Cert.AdamWMlpOut.main_arg3) = m ((c.tc : Thread Cert.AdamWMlpOut.nD Cert.AdamWMlpOut.τ).loc Cert.AdamWMlpOut.main_arg3)
      ∧ r.2.mem ((c.tc : Thread Cert.AdamWMlpOut.nD Cert.AdamWMlpOut.τ).loc Cert.AdamWMlpOut.main_arg4) = m ((c.tc : Thread Cert.AdamWMlpOut.nD Cert.AdamWMlpOut.τ).loc Cert.AdamWMlpOut.main_arg4)
      ∧ r.2.mem ((c.tc : Thread Cert.AdamWMlpOut.nD Cert.AdamWMlpOut.τ).loc Cert.AdamWMlpOut.main_arg5) = m ((c.tc : Thread Cert.AdamWMlpOut.nD Cert.AdamWMlpOut.τ).loc Cert.AdamWMlpOut.main_arg5))
      ∧ r.2.sem = fun _ => 0)

def quiescent_AdamWMlpOutIdeal [hAdamWMlpOutIdeal : Cert.AdamWMlpOutIdeal.Facts] [hPre_w_mlp_out_device : Cert.Pre_w_mlp_out_device.Facts] : Prop :=
  ∀ (m : (ℓ : Loc Cert.AdamWMlpOutIdeal.nD Cert.AdamWMlpOutIdeal.τ Cert.AdamWMlpOutIdeal.sig) → Buf (Elt Ideal) ℓ) (g : Dev Cert.AdamWMlpOutIdeal.nD → PrngReg), Pre_AdamWMlpOutIdeal m →
    θ_run (Cert.AdamWMlpOutIdeal.defs (F := Ideal)) (onTc (τ := Cert.AdamWMlpOutIdeal.τ) (Cert.AdamWMlpOutIdeal.main (F := Ideal))) ⟨m, fun _ => 0, g⟩ (fun r => (∀ c : Dev Cert.AdamWMlpOutIdeal.nD,
      r.2.mem ((c.tc : Thread Cert.AdamWMlpOutIdeal.nD Cert.AdamWMlpOutIdeal.τ).loc Cert.AdamWMlpOutIdeal.main_arg0) = m ((c.tc : Thread Cert.AdamWMlpOutIdeal.nD Cert.AdamWMlpOutIdeal.τ).loc Cert.AdamWMlpOutIdeal.main_arg0)
      ∧ r.2.mem ((c.tc : Thread Cert.AdamWMlpOutIdeal.nD Cert.AdamWMlpOutIdeal.τ).loc Cert.AdamWMlpOutIdeal.main_arg1) = m ((c.tc : Thread Cert.AdamWMlpOutIdeal.nD Cert.AdamWMlpOutIdeal.τ).loc Cert.AdamWMlpOutIdeal.main_arg1)
      ∧ r.2.mem ((c.tc : Thread Cert.AdamWMlpOutIdeal.nD Cert.AdamWMlpOutIdeal.τ).loc Cert.AdamWMlpOutIdeal.main_arg2) = m ((c.tc : Thread Cert.AdamWMlpOutIdeal.nD Cert.AdamWMlpOutIdeal.τ).loc Cert.AdamWMlpOutIdeal.main_arg2)
      ∧ r.2.mem ((c.tc : Thread Cert.AdamWMlpOutIdeal.nD Cert.AdamWMlpOutIdeal.τ).loc Cert.AdamWMlpOutIdeal.main_arg3) = m ((c.tc : Thread Cert.AdamWMlpOutIdeal.nD Cert.AdamWMlpOutIdeal.τ).loc Cert.AdamWMlpOutIdeal.main_arg3)
      ∧ r.2.mem ((c.tc : Thread Cert.AdamWMlpOutIdeal.nD Cert.AdamWMlpOutIdeal.τ).loc Cert.AdamWMlpOutIdeal.main_arg4) = m ((c.tc : Thread Cert.AdamWMlpOutIdeal.nD Cert.AdamWMlpOutIdeal.τ).loc Cert.AdamWMlpOutIdeal.main_arg4)
      ∧ r.2.mem ((c.tc : Thread Cert.AdamWMlpOutIdeal.nD Cert.AdamWMlpOutIdeal.τ).loc Cert.AdamWMlpOutIdeal.main_arg5) = m ((c.tc : Thread Cert.AdamWMlpOutIdeal.nD Cert.AdamWMlpOutIdeal.τ).loc Cert.AdamWMlpOutIdeal.main_arg5))
      ∧ r.2.sem = fun _ => 0)

def quiescent_AdamWMlpOutRefIdeal [hAdamWMlpOutRefIdeal : Cert.AdamWMlpOutRefIdeal.Facts] : Prop :=
  ∀ (m : (ℓ : Loc Cert.AdamWMlpOutRefIdeal.nD Cert.AdamWMlpOutRefIdeal.τ Cert.AdamWMlpOutRefIdeal.sig) → Buf (Elt Ideal) ℓ) (g : Dev Cert.AdamWMlpOutRefIdeal.nD → PrngReg), Pre_AdamWMlpOutRefIdeal m →
    θ_run (Cert.AdamWMlpOutRefIdeal.defs (F := Ideal)) (onTc (τ := Cert.AdamWMlpOutRefIdeal.τ) (Cert.AdamWMlpOutRefIdeal.main (F := Ideal))) ⟨m, fun _ => 0, g⟩ (fun r => (∀ c : Dev Cert.AdamWMlpOutRefIdeal.nD,
      r.2.mem ((c.tc : Thread Cert.AdamWMlpOutRefIdeal.nD Cert.AdamWMlpOutRefIdeal.τ).loc Cert.AdamWMlpOutRefIdeal.main_arg0) = m ((c.tc : Thread Cert.AdamWMlpOutRefIdeal.nD Cert.AdamWMlpOutRefIdeal.τ).loc Cert.AdamWMlpOutRefIdeal.main_arg0)
      ∧ r.2.mem ((c.tc : Thread Cert.AdamWMlpOutRefIdeal.nD Cert.AdamWMlpOutRefIdeal.τ).loc Cert.AdamWMlpOutRefIdeal.main_arg1) = m ((c.tc : Thread Cert.AdamWMlpOutRefIdeal.nD Cert.AdamWMlpOutRefIdeal.τ).loc Cert.AdamWMlpOutRefIdeal.main_arg1)
      ∧ r.2.mem ((c.tc : Thread Cert.AdamWMlpOutRefIdeal.nD Cert.AdamWMlpOutRefIdeal.τ).loc Cert.AdamWMlpOutRefIdeal.main_arg2) = m ((c.tc : Thread Cert.AdamWMlpOutRefIdeal.nD Cert.AdamWMlpOutRefIdeal.τ).loc Cert.AdamWMlpOutRefIdeal.main_arg2)
      ∧ r.2.mem ((c.tc : Thread Cert.AdamWMlpOutRefIdeal.nD Cert.AdamWMlpOutRefIdeal.τ).loc Cert.AdamWMlpOutRefIdeal.main_arg3) = m ((c.tc : Thread Cert.AdamWMlpOutRefIdeal.nD Cert.AdamWMlpOutRefIdeal.τ).loc Cert.AdamWMlpOutRefIdeal.main_arg3)
      ∧ r.2.mem ((c.tc : Thread Cert.AdamWMlpOutRefIdeal.nD Cert.AdamWMlpOutRefIdeal.τ).loc Cert.AdamWMlpOutRefIdeal.main_arg4) = m ((c.tc : Thread Cert.AdamWMlpOutRefIdeal.nD Cert.AdamWMlpOutRefIdeal.τ).loc Cert.AdamWMlpOutRefIdeal.main_arg4)
      ∧ r.2.mem ((c.tc : Thread Cert.AdamWMlpOutRefIdeal.nD Cert.AdamWMlpOutRefIdeal.τ).loc Cert.AdamWMlpOutRefIdeal.main_arg5) = m ((c.tc : Thread Cert.AdamWMlpOutRefIdeal.nD Cert.AdamWMlpOutRefIdeal.τ).loc Cert.AdamWMlpOutRefIdeal.main_arg5))
      ∧ r.2.sem = fun _ => 0)

def quiescent_AdamWMlpOutRefIdeal_pre_w_mlp_out_device [hAdamWMlpOutRefIdeal : Cert.AdamWMlpOutRefIdeal.Facts] [hPre_w_mlp_out_device : Cert.Pre_w_mlp_out_device.Facts] : Prop :=
  ∀ (m : (ℓ : Loc Cert.AdamWMlpOutRefIdeal.nD Cert.AdamWMlpOutRefIdeal.τ Cert.AdamWMlpOutRefIdeal.sig) → Buf (Elt Ideal) ℓ) (g : Dev Cert.AdamWMlpOutRefIdeal.nD → PrngReg), Pre_AdamWMlpOutRefIdeal_w_mlp_out_device m →
    θ_run (Cert.AdamWMlpOutRefIdeal.defs (F := Ideal)) (onTc (τ := Cert.AdamWMlpOutRefIdeal.τ) (Cert.AdamWMlpOutRefIdeal.main (F := Ideal))) ⟨m, fun _ => 0, g⟩ (fun r => (∀ c : Dev Cert.AdamWMlpOutRefIdeal.nD,
      r.2.mem ((c.tc : Thread Cert.AdamWMlpOutRefIdeal.nD Cert.AdamWMlpOutRefIdeal.τ).loc Cert.AdamWMlpOutRefIdeal.main_arg0) = m ((c.tc : Thread Cert.AdamWMlpOutRefIdeal.nD Cert.AdamWMlpOutRefIdeal.τ).loc Cert.AdamWMlpOutRefIdeal.main_arg0)
      ∧ r.2.mem ((c.tc : Thread Cert.AdamWMlpOutRefIdeal.nD Cert.AdamWMlpOutRefIdeal.τ).loc Cert.AdamWMlpOutRefIdeal.main_arg1) = m ((c.tc : Thread Cert.AdamWMlpOutRefIdeal.nD Cert.AdamWMlpOutRefIdeal.τ).loc Cert.AdamWMlpOutRefIdeal.main_arg1)
      ∧ r.2.mem ((c.tc : Thread Cert.AdamWMlpOutRefIdeal.nD Cert.AdamWMlpOutRefIdeal.τ).loc Cert.AdamWMlpOutRefIdeal.main_arg2) = m ((c.tc : Thread Cert.AdamWMlpOutRefIdeal.nD Cert.AdamWMlpOutRefIdeal.τ).loc Cert.AdamWMlpOutRefIdeal.main_arg2)
      ∧ r.2.mem ((c.tc : Thread Cert.AdamWMlpOutRefIdeal.nD Cert.AdamWMlpOutRefIdeal.τ).loc Cert.AdamWMlpOutRefIdeal.main_arg3) = m ((c.tc : Thread Cert.AdamWMlpOutRefIdeal.nD Cert.AdamWMlpOutRefIdeal.τ).loc Cert.AdamWMlpOutRefIdeal.main_arg3)
      ∧ r.2.mem ((c.tc : Thread Cert.AdamWMlpOutRefIdeal.nD Cert.AdamWMlpOutRefIdeal.τ).loc Cert.AdamWMlpOutRefIdeal.main_arg4) = m ((c.tc : Thread Cert.AdamWMlpOutRefIdeal.nD Cert.AdamWMlpOutRefIdeal.τ).loc Cert.AdamWMlpOutRefIdeal.main_arg4)
      ∧ r.2.mem ((c.tc : Thread Cert.AdamWMlpOutRefIdeal.nD Cert.AdamWMlpOutRefIdeal.τ).loc Cert.AdamWMlpOutRefIdeal.main_arg5) = m ((c.tc : Thread Cert.AdamWMlpOutRefIdeal.nD Cert.AdamWMlpOutRefIdeal.τ).loc Cert.AdamWMlpOutRefIdeal.main_arg5))
      ∧ r.2.sem = fun _ => 0)

def quiescent_Proj [hProj : Cert.Proj.Facts] [hPre_finite_inputs : Cert.Pre_finite_inputs.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] [hPre_finite_inputs : Cert.Pre_finite_inputs.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_ProjRefIdeal_pre_finite_inputs [hProjRefIdeal : Cert.ProjRefIdeal.Facts] [hPre_finite_inputs : Cert.Pre_finite_inputs.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_inputs m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4)
      ∧ r.2.mem ((c.tc : Thread Cert.Small.nD Cert.Small.τ).loc Cert.Small.main_arg5) = m ((c.tc : Thread Cert.Small.nD Cert.Small.τ).loc Cert.Small.main_arg5)
      ∧ r.2.mem ((c.tc : Thread Cert.Small.nD Cert.Small.τ).loc Cert.Small.main_arg6) = m ((c.tc : Thread Cert.Small.nD Cert.Small.τ).loc Cert.Small.main_arg6)
      ∧ r.2.mem ((c.tc : Thread Cert.Small.nD Cert.Small.τ).loc Cert.Small.main_arg7) = m ((c.tc : Thread Cert.Small.nD Cert.Small.τ).loc Cert.Small.main_arg7)
      ∧ r.2.mem ((c.tc : Thread Cert.Small.nD Cert.Small.τ).loc Cert.Small.main_arg8) = m ((c.tc : Thread Cert.Small.nD Cert.Small.τ).loc Cert.Small.main_arg8)
      ∧ r.2.mem ((c.tc : Thread Cert.Small.nD Cert.Small.τ).loc Cert.Small.main_arg9) = m ((c.tc : Thread Cert.Small.nD Cert.Small.τ).loc Cert.Small.main_arg9)
      ∧ r.2.mem ((c.tc : Thread Cert.Small.nD Cert.Small.τ).loc Cert.Small.main_arg10) = m ((c.tc : Thread Cert.Small.nD Cert.Small.τ).loc Cert.Small.main_arg10)
      ∧ r.2.mem ((c.tc : Thread Cert.Small.nD Cert.Small.τ).loc Cert.Small.main_arg11) = m ((c.tc : Thread Cert.Small.nD Cert.Small.τ).loc Cert.Small.main_arg11)
      ∧ r.2.mem ((c.tc : Thread Cert.Small.nD Cert.Small.τ).loc Cert.Small.main_arg12) = m ((c.tc : Thread Cert.Small.nD Cert.Small.τ).loc Cert.Small.main_arg12)
      ∧ r.2.mem ((c.tc : Thread Cert.Small.nD Cert.Small.τ).loc Cert.Small.main_arg13) = m ((c.tc : Thread Cert.Small.nD Cert.Small.τ).loc Cert.Small.main_arg13)
      ∧ r.2.mem ((c.tc : Thread Cert.Small.nD Cert.Small.τ).loc Cert.Small.main_arg14) = m ((c.tc : Thread Cert.Small.nD Cert.Small.τ).loc Cert.Small.main_arg14)
      ∧ r.2.mem ((c.tc : Thread Cert.Small.nD Cert.Small.τ).loc Cert.Small.main_arg15) = m ((c.tc : Thread Cert.Small.nD Cert.Small.τ).loc Cert.Small.main_arg15)
      ∧ r.2.mem ((c.tc : Thread Cert.Small.nD Cert.Small.τ).loc Cert.Small.main_arg16) = m ((c.tc : Thread Cert.Small.nD Cert.Small.τ).loc Cert.Small.main_arg16)
      ∧ r.2.mem ((c.tc : Thread Cert.Small.nD Cert.Small.τ).loc Cert.Small.main_arg17) = m ((c.tc : Thread Cert.Small.nD Cert.Small.τ).loc Cert.Small.main_arg17)
      ∧ r.2.mem ((c.tc : Thread Cert.Small.nD Cert.Small.τ).loc Cert.Small.main_arg18) = m ((c.tc : Thread Cert.Small.nD Cert.Small.τ).loc Cert.Small.main_arg18)
      ∧ r.2.mem ((c.tc : Thread Cert.Small.nD Cert.Small.τ).loc Cert.Small.main_arg19) = m ((c.tc : Thread Cert.Small.nD Cert.Small.τ).loc Cert.Small.main_arg19)
      ∧ r.2.mem ((c.tc : Thread Cert.Small.nD Cert.Small.τ).loc Cert.Small.main_arg20) = m ((c.tc : Thread Cert.Small.nD Cert.Small.τ).loc Cert.Small.main_arg20)
      ∧ r.2.mem ((c.tc : Thread Cert.Small.nD Cert.Small.τ).loc Cert.Small.main_arg21) = m ((c.tc : Thread Cert.Small.nD Cert.Small.τ).loc Cert.Small.main_arg21)
      ∧ r.2.mem ((c.tc : Thread Cert.Small.nD Cert.Small.τ).loc Cert.Small.main_arg22) = m ((c.tc : Thread Cert.Small.nD Cert.Small.τ).loc Cert.Small.main_arg22)
      ∧ r.2.mem ((c.tc : Thread Cert.Small.nD Cert.Small.τ).loc Cert.Small.main_arg23) = m ((c.tc : Thread Cert.Small.nD Cert.Small.τ).loc Cert.Small.main_arg23)
      ∧ r.2.mem ((c.tc : Thread Cert.Small.nD Cert.Small.τ).loc Cert.Small.main_arg24) = m ((c.tc : Thread Cert.Small.nD Cert.Small.τ).loc Cert.Small.main_arg24)
      ∧ r.2.mem ((c.tc : Thread Cert.Small.nD Cert.Small.τ).loc Cert.Small.main_arg25) = m ((c.tc : Thread Cert.Small.nD Cert.Small.τ).loc Cert.Small.main_arg25)
      ∧ r.2.mem ((c.tc : Thread Cert.Small.nD Cert.Small.τ).loc Cert.Small.main_arg26) = m ((c.tc : Thread Cert.Small.nD Cert.Small.τ).loc Cert.Small.main_arg26)
      ∧ r.2.mem ((c.tc : Thread Cert.Small.nD Cert.Small.τ).loc Cert.Small.main_arg27) = m ((c.tc : Thread Cert.Small.nD Cert.Small.τ).loc Cert.Small.main_arg27)
      ∧ r.2.mem ((c.tc : Thread Cert.Small.nD Cert.Small.τ).loc Cert.Small.main_arg28) = m ((c.tc : Thread Cert.Small.nD Cert.Small.τ).loc Cert.Small.main_arg28)
      ∧ r.2.mem ((c.tc : Thread Cert.Small.nD Cert.Small.τ).loc Cert.Small.main_arg29) = m ((c.tc : Thread Cert.Small.nD Cert.Small.τ).loc Cert.Small.main_arg29)
      ∧ r.2.mem ((c.tc : Thread Cert.Small.nD Cert.Small.τ).loc Cert.Small.main_arg30) = m ((c.tc : Thread Cert.Small.nD Cert.Small.τ).loc Cert.Small.main_arg30)
      ∧ r.2.mem ((c.tc : Thread Cert.Small.nD Cert.Small.τ).loc Cert.Small.main_arg31) = m ((c.tc : Thread Cert.Small.nD Cert.Small.τ).loc Cert.Small.main_arg31)
      ∧ r.2.mem ((c.tc : Thread Cert.Small.nD Cert.Small.τ).loc Cert.Small.main_arg32) = m ((c.tc : Thread Cert.Small.nD Cert.Small.τ).loc Cert.Small.main_arg32)
      ∧ r.2.mem ((c.tc : Thread Cert.Small.nD Cert.Small.τ).loc Cert.Small.main_arg33) = m ((c.tc : Thread Cert.Small.nD Cert.Small.τ).loc Cert.Small.main_arg33)
      ∧ r.2.mem ((c.tc : Thread Cert.Small.nD Cert.Small.τ).loc Cert.Small.main_arg34) = m ((c.tc : Thread Cert.Small.nD Cert.Small.τ).loc Cert.Small.main_arg34)
      ∧ r.2.mem ((c.tc : Thread Cert.Small.nD Cert.Small.τ).loc Cert.Small.main_arg35) = m ((c.tc : Thread Cert.Small.nD Cert.Small.τ).loc Cert.Small.main_arg35)
      ∧ r.2.mem ((c.tc : Thread Cert.Small.nD Cert.Small.τ).loc Cert.Small.main_arg36) = m ((c.tc : Thread Cert.Small.nD Cert.Small.τ).loc Cert.Small.main_arg36)
      ∧ r.2.mem ((c.tc : Thread Cert.Small.nD Cert.Small.τ).loc Cert.Small.main_arg37) = m ((c.tc : Thread Cert.Small.nD Cert.Small.τ).loc Cert.Small.main_arg37)
      ∧ r.2.mem ((c.tc : Thread Cert.Small.nD Cert.Small.τ).loc Cert.Small.main_arg38) = m ((c.tc : Thread Cert.Small.nD Cert.Small.τ).loc Cert.Small.main_arg38)
      ∧ r.2.mem ((c.tc : Thread Cert.Small.nD Cert.Small.τ).loc Cert.Small.main_arg39) = m ((c.tc : Thread Cert.Small.nD Cert.Small.τ).loc Cert.Small.main_arg39)
      ∧ r.2.mem ((c.tc : Thread Cert.Small.nD Cert.Small.τ).loc Cert.Small.main_arg40) = m ((c.tc : Thread Cert.Small.nD Cert.Small.τ).loc Cert.Small.main_arg40)
      ∧ r.2.mem ((c.tc : Thread Cert.Small.nD Cert.Small.τ).loc Cert.Small.main_arg41) = m ((c.tc : Thread Cert.Small.nD Cert.Small.τ).loc Cert.Small.main_arg41)
      ∧ r.2.mem ((c.tc : Thread Cert.Small.nD Cert.Small.τ).loc Cert.Small.main_arg42) = m ((c.tc : Thread Cert.Small.nD Cert.Small.τ).loc Cert.Small.main_arg42)
      ∧ r.2.mem ((c.tc : Thread Cert.Small.nD Cert.Small.τ).loc Cert.Small.main_arg43) = m ((c.tc : Thread Cert.Small.nD Cert.Small.τ).loc Cert.Small.main_arg43)
      ∧ r.2.mem ((c.tc : Thread Cert.Small.nD Cert.Small.τ).loc Cert.Small.main_arg44) = m ((c.tc : Thread Cert.Small.nD Cert.Small.τ).loc Cert.Small.main_arg44)
      ∧ r.2.mem ((c.tc : Thread Cert.Small.nD Cert.Small.τ).loc Cert.Small.main_arg45) = m ((c.tc : Thread Cert.Small.nD Cert.Small.τ).loc Cert.Small.main_arg45)
      ∧ r.2.mem ((c.tc : Thread Cert.Small.nD Cert.Small.τ).loc Cert.Small.main_arg46) = m ((c.tc : Thread Cert.Small.nD Cert.Small.τ).loc Cert.Small.main_arg46)
      ∧ r.2.mem ((c.tc : Thread Cert.Small.nD Cert.Small.τ).loc Cert.Small.main_arg47) = m ((c.tc : Thread Cert.Small.nD Cert.Small.τ).loc Cert.Small.main_arg47)
      ∧ r.2.mem ((c.tc : Thread Cert.Small.nD Cert.Small.τ).loc Cert.Small.main_arg48) = m ((c.tc : Thread Cert.Small.nD Cert.Small.τ).loc Cert.Small.main_arg48)
      ∧ r.2.mem ((c.tc : Thread Cert.Small.nD Cert.Small.τ).loc Cert.Small.main_arg49) = m ((c.tc : Thread Cert.Small.nD Cert.Small.τ).loc Cert.Small.main_arg49)
      ∧ r.2.mem ((c.tc : Thread Cert.Small.nD Cert.Small.τ).loc Cert.Small.main_arg50) = m ((c.tc : Thread Cert.Small.nD Cert.Small.τ).loc Cert.Small.main_arg50)
      ∧ r.2.mem ((c.tc : Thread Cert.Small.nD Cert.Small.τ).loc Cert.Small.main_arg51) = m ((c.tc : Thread Cert.Small.nD Cert.Small.τ).loc Cert.Small.main_arg51)
      ∧ r.2.mem ((c.tc : Thread Cert.Small.nD Cert.Small.τ).loc Cert.Small.main_arg52) = m ((c.tc : Thread Cert.Small.nD Cert.Small.τ).loc Cert.Small.main_arg52)
      ∧ r.2.mem ((c.tc : Thread Cert.Small.nD Cert.Small.τ).loc Cert.Small.main_arg53) = m ((c.tc : Thread Cert.Small.nD Cert.Small.τ).loc Cert.Small.main_arg53)
      ∧ r.2.mem ((c.tc : Thread Cert.Small.nD Cert.Small.τ).loc Cert.Small.main_arg54) = m ((c.tc : Thread Cert.Small.nD Cert.Small.τ).loc Cert.Small.main_arg54)
      ∧ r.2.mem ((c.tc : Thread Cert.Small.nD Cert.Small.τ).loc Cert.Small.main_arg55) = m ((c.tc : Thread Cert.Small.nD Cert.Small.τ).loc Cert.Small.main_arg55)
      ∧ r.2.mem ((c.tc : Thread Cert.Small.nD Cert.Small.τ).loc Cert.Small.main_arg56) = m ((c.tc : Thread Cert.Small.nD Cert.Small.τ).loc Cert.Small.main_arg56)
      ∧ r.2.mem ((c.tc : Thread Cert.Small.nD Cert.Small.τ).loc Cert.Small.main_arg57) = m ((c.tc : Thread Cert.Small.nD Cert.Small.τ).loc Cert.Small.main_arg57)
      ∧ r.2.mem ((c.tc : Thread Cert.Small.nD Cert.Small.τ).loc Cert.Small.main_arg58) = m ((c.tc : Thread Cert.Small.nD Cert.Small.τ).loc Cert.Small.main_arg58)
      ∧ r.2.mem ((c.tc : Thread Cert.Small.nD Cert.Small.τ).loc Cert.Small.main_arg59) = m ((c.tc : Thread Cert.Small.nD Cert.Small.τ).loc Cert.Small.main_arg59)
      ∧ r.2.mem ((c.tc : Thread Cert.Small.nD Cert.Small.τ).loc Cert.Small.main_arg60) = m ((c.tc : Thread Cert.Small.nD Cert.Small.τ).loc Cert.Small.main_arg60))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
      ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
      ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
      ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
      ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
      ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
      ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
      ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
      ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
      ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
      ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
      ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
      ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
      ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
      ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
      ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
      ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24)
      ∧ r.2.mem ((c.tc : Thread Cert.SmallIdeal.nD Cert.SmallIdeal.τ).loc Cert.SmallIdeal.main_arg25) = m ((c.tc : Thread Cert.SmallIdeal.nD Cert.SmallIdeal.τ).loc Cert.SmallIdeal.main_arg25)
      ∧ r.2.mem ((c.tc : Thread Cert.SmallIdeal.nD Cert.SmallIdeal.τ).loc Cert.SmallIdeal.main_arg26) = m ((c.tc : Thread Cert.SmallIdeal.nD Cert.SmallIdeal.τ).loc Cert.SmallIdeal.main_arg26)
      ∧ r.2.mem ((c.tc : Thread Cert.SmallIdeal.nD Cert.SmallIdeal.τ).loc Cert.SmallIdeal.main_arg27) = m ((c.tc : Thread Cert.SmallIdeal.nD Cert.SmallIdeal.τ).loc Cert.SmallIdeal.main_arg27)
      ∧ r.2.mem ((c.tc : Thread Cert.SmallIdeal.nD Cert.SmallIdeal.τ).loc Cert.SmallIdeal.main_arg28) = m ((c.tc : Thread Cert.SmallIdeal.nD Cert.SmallIdeal.τ).loc Cert.SmallIdeal.main_arg28)
      ∧ r.2.mem ((c.tc : Thread Cert.SmallIdeal.nD Cert.SmallIdeal.τ).loc Cert.SmallIdeal.main_arg29) = m ((c.tc : Thread Cert.SmallIdeal.nD Cert.SmallIdeal.τ).loc Cert.SmallIdeal.main_arg29)
      ∧ r.2.mem ((c.tc : Thread Cert.SmallIdeal.nD Cert.SmallIdeal.τ).loc Cert.SmallIdeal.main_arg30) = m ((c.tc : Thread Cert.SmallIdeal.nD Cert.SmallIdeal.τ).loc Cert.SmallIdeal.main_arg30)
      ∧ r.2.mem ((c.tc : Thread Cert.SmallIdeal.nD Cert.SmallIdeal.τ).loc Cert.SmallIdeal.main_arg31) = m ((c.tc : Thread Cert.SmallIdeal.nD Cert.SmallIdeal.τ).loc Cert.SmallIdeal.main_arg31)
      ∧ r.2.mem ((c.tc : Thread Cert.SmallIdeal.nD Cert.SmallIdeal.τ).loc Cert.SmallIdeal.main_arg32) = m ((c.tc : Thread Cert.SmallIdeal.nD Cert.SmallIdeal.τ).loc Cert.SmallIdeal.main_arg32)
      ∧ r.2.mem ((c.tc : Thread Cert.SmallIdeal.nD Cert.SmallIdeal.τ).loc Cert.SmallIdeal.main_arg33) = m ((c.tc : Thread Cert.SmallIdeal.nD Cert.SmallIdeal.τ).loc Cert.SmallIdeal.main_arg33)
      ∧ r.2.mem ((c.tc : Thread Cert.SmallIdeal.nD Cert.SmallIdeal.τ).loc Cert.SmallIdeal.main_arg34) = m ((c.tc : Thread Cert.SmallIdeal.nD Cert.SmallIdeal.τ).loc Cert.SmallIdeal.main_arg34)
      ∧ r.2.mem ((c.tc : Thread Cert.SmallIdeal.nD Cert.SmallIdeal.τ).loc Cert.SmallIdeal.main_arg35) = m ((c.tc : Thread Cert.SmallIdeal.nD Cert.SmallIdeal.τ).loc Cert.SmallIdeal.main_arg35)
      ∧ r.2.mem ((c.tc : Thread Cert.SmallIdeal.nD Cert.SmallIdeal.τ).loc Cert.SmallIdeal.main_arg36) = m ((c.tc : Thread Cert.SmallIdeal.nD Cert.SmallIdeal.τ).loc Cert.SmallIdeal.main_arg36)
      ∧ r.2.mem ((c.tc : Thread Cert.SmallIdeal.nD Cert.SmallIdeal.τ).loc Cert.SmallIdeal.main_arg37) = m ((c.tc : Thread Cert.SmallIdeal.nD Cert.SmallIdeal.τ).loc Cert.SmallIdeal.main_arg37)
      ∧ r.2.mem ((c.tc : Thread Cert.SmallIdeal.nD Cert.SmallIdeal.τ).loc Cert.SmallIdeal.main_arg38) = m ((c.tc : Thread Cert.SmallIdeal.nD Cert.SmallIdeal.τ).loc Cert.SmallIdeal.main_arg38)
      ∧ r.2.mem ((c.tc : Thread Cert.SmallIdeal.nD Cert.SmallIdeal.τ).loc Cert.SmallIdeal.main_arg39) = m ((c.tc : Thread Cert.SmallIdeal.nD Cert.SmallIdeal.τ).loc Cert.SmallIdeal.main_arg39)
      ∧ r.2.mem ((c.tc : Thread Cert.SmallIdeal.nD Cert.SmallIdeal.τ).loc Cert.SmallIdeal.main_arg40) = m ((c.tc : Thread Cert.SmallIdeal.nD Cert.SmallIdeal.τ).loc Cert.SmallIdeal.main_arg40)
      ∧ r.2.mem ((c.tc : Thread Cert.SmallIdeal.nD Cert.SmallIdeal.τ).loc Cert.SmallIdeal.main_arg41) = m ((c.tc : Thread Cert.SmallIdeal.nD Cert.SmallIdeal.τ).loc Cert.SmallIdeal.main_arg41)
      ∧ r.2.mem ((c.tc : Thread Cert.SmallIdeal.nD Cert.SmallIdeal.τ).loc Cert.SmallIdeal.main_arg42) = m ((c.tc : Thread Cert.SmallIdeal.nD Cert.SmallIdeal.τ).loc Cert.SmallIdeal.main_arg42)
      ∧ r.2.mem ((c.tc : Thread Cert.SmallIdeal.nD Cert.SmallIdeal.τ).loc Cert.SmallIdeal.main_arg43) = m ((c.tc : Thread Cert.SmallIdeal.nD Cert.SmallIdeal.τ).loc Cert.SmallIdeal.main_arg43)
      ∧ r.2.mem ((c.tc : Thread Cert.SmallIdeal.nD Cert.SmallIdeal.τ).loc Cert.SmallIdeal.main_arg44) = m ((c.tc : Thread Cert.SmallIdeal.nD Cert.SmallIdeal.τ).loc Cert.SmallIdeal.main_arg44)
      ∧ r.2.mem ((c.tc : Thread Cert.SmallIdeal.nD Cert.SmallIdeal.τ).loc Cert.SmallIdeal.main_arg45) = m ((c.tc : Thread Cert.SmallIdeal.nD Cert.SmallIdeal.τ).loc Cert.SmallIdeal.main_arg45)
      ∧ r.2.mem ((c.tc : Thread Cert.SmallIdeal.nD Cert.SmallIdeal.τ).loc Cert.SmallIdeal.main_arg46) = m ((c.tc : Thread Cert.SmallIdeal.nD Cert.SmallIdeal.τ).loc Cert.SmallIdeal.main_arg46)
      ∧ r.2.mem ((c.tc : Thread Cert.SmallIdeal.nD Cert.SmallIdeal.τ).loc Cert.SmallIdeal.main_arg47) = m ((c.tc : Thread Cert.SmallIdeal.nD Cert.SmallIdeal.τ).loc Cert.SmallIdeal.main_arg47)
      ∧ r.2.mem ((c.tc : Thread Cert.SmallIdeal.nD Cert.SmallIdeal.τ).loc Cert.SmallIdeal.main_arg48) = m ((c.tc : Thread Cert.SmallIdeal.nD Cert.SmallIdeal.τ).loc Cert.SmallIdeal.main_arg48)
      ∧ r.2.mem ((c.tc : Thread Cert.SmallIdeal.nD Cert.SmallIdeal.τ).loc Cert.SmallIdeal.main_arg49) = m ((c.tc : Thread Cert.SmallIdeal.nD Cert.SmallIdeal.τ).loc Cert.SmallIdeal.main_arg49)
      ∧ r.2.mem ((c.tc : Thread Cert.SmallIdeal.nD Cert.SmallIdeal.τ).loc Cert.SmallIdeal.main_arg50) = m ((c.tc : Thread Cert.SmallIdeal.nD Cert.SmallIdeal.τ).loc Cert.SmallIdeal.main_arg50)
      ∧ r.2.mem ((c.tc : Thread Cert.SmallIdeal.nD Cert.SmallIdeal.τ).loc Cert.SmallIdeal.main_arg51) = m ((c.tc : Thread Cert.SmallIdeal.nD Cert.SmallIdeal.τ).loc Cert.SmallIdeal.main_arg51)
      ∧ r.2.mem ((c.tc : Thread Cert.SmallIdeal.nD Cert.SmallIdeal.τ).loc Cert.SmallIdeal.main_arg52) = m ((c.tc : Thread Cert.SmallIdeal.nD Cert.SmallIdeal.τ).loc Cert.SmallIdeal.main_arg52)
      ∧ r.2.mem ((c.tc : Thread Cert.SmallIdeal.nD Cert.SmallIdeal.τ).loc Cert.SmallIdeal.main_arg53) = m ((c.tc : Thread Cert.SmallIdeal.nD Cert.SmallIdeal.τ).loc Cert.SmallIdeal.main_arg53)
      ∧ r.2.mem ((c.tc : Thread Cert.SmallIdeal.nD Cert.SmallIdeal.τ).loc Cert.SmallIdeal.main_arg54) = m ((c.tc : Thread Cert.SmallIdeal.nD Cert.SmallIdeal.τ).loc Cert.SmallIdeal.main_arg54)
      ∧ r.2.mem ((c.tc : Thread Cert.SmallIdeal.nD Cert.SmallIdeal.τ).loc Cert.SmallIdeal.main_arg55) = m ((c.tc : Thread Cert.SmallIdeal.nD Cert.SmallIdeal.τ).loc Cert.SmallIdeal.main_arg55)
      ∧ r.2.mem ((c.tc : Thread Cert.SmallIdeal.nD Cert.SmallIdeal.τ).loc Cert.SmallIdeal.main_arg56) = m ((c.tc : Thread Cert.SmallIdeal.nD Cert.SmallIdeal.τ).loc Cert.SmallIdeal.main_arg56)
      ∧ r.2.mem ((c.tc : Thread Cert.SmallIdeal.nD Cert.SmallIdeal.τ).loc Cert.SmallIdeal.main_arg57) = m ((c.tc : Thread Cert.SmallIdeal.nD Cert.SmallIdeal.τ).loc Cert.SmallIdeal.main_arg57)
      ∧ r.2.mem ((c.tc : Thread Cert.SmallIdeal.nD Cert.SmallIdeal.τ).loc Cert.SmallIdeal.main_arg58) = m ((c.tc : Thread Cert.SmallIdeal.nD Cert.SmallIdeal.τ).loc Cert.SmallIdeal.main_arg58)
      ∧ r.2.mem ((c.tc : Thread Cert.SmallIdeal.nD Cert.SmallIdeal.τ).loc Cert.SmallIdeal.main_arg59) = m ((c.tc : Thread Cert.SmallIdeal.nD Cert.SmallIdeal.τ).loc Cert.SmallIdeal.main_arg59)
      ∧ r.2.mem ((c.tc : Thread Cert.SmallIdeal.nD Cert.SmallIdeal.τ).loc Cert.SmallIdeal.main_arg60) = m ((c.tc : Thread Cert.SmallIdeal.nD Cert.SmallIdeal.τ).loc Cert.SmallIdeal.main_arg60))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4)
      ∧ r.2.mem ((c.tc : Thread Cert.SmallRefIdeal.nD Cert.SmallRefIdeal.τ).loc Cert.SmallRefIdeal.main_arg5) = m ((c.tc : Thread Cert.SmallRefIdeal.nD Cert.SmallRefIdeal.τ).loc Cert.SmallRefIdeal.main_arg5)
      ∧ r.2.mem ((c.tc : Thread Cert.SmallRefIdeal.nD Cert.SmallRefIdeal.τ).loc Cert.SmallRefIdeal.main_arg6) = m ((c.tc : Thread Cert.SmallRefIdeal.nD Cert.SmallRefIdeal.τ).loc Cert.SmallRefIdeal.main_arg6)
      ∧ r.2.mem ((c.tc : Thread Cert.SmallRefIdeal.nD Cert.SmallRefIdeal.τ).loc Cert.SmallRefIdeal.main_arg7) = m ((c.tc : Thread Cert.SmallRefIdeal.nD Cert.SmallRefIdeal.τ).loc Cert.SmallRefIdeal.main_arg7)
      ∧ r.2.mem ((c.tc : Thread Cert.SmallRefIdeal.nD Cert.SmallRefIdeal.τ).loc Cert.SmallRefIdeal.main_arg8) = m ((c.tc : Thread Cert.SmallRefIdeal.nD Cert.SmallRefIdeal.τ).loc Cert.SmallRefIdeal.main_arg8)
      ∧ r.2.mem ((c.tc : Thread Cert.SmallRefIdeal.nD Cert.SmallRefIdeal.τ).loc Cert.SmallRefIdeal.main_arg9) = m ((c.tc : Thread Cert.SmallRefIdeal.nD Cert.SmallRefIdeal.τ).loc Cert.SmallRefIdeal.main_arg9)
      ∧ r.2.mem ((c.tc : Thread Cert.SmallRefIdeal.nD Cert.SmallRefIdeal.τ).loc Cert.SmallRefIdeal.main_arg10) = m ((c.tc : Thread Cert.SmallRefIdeal.nD Cert.SmallRefIdeal.τ).loc Cert.SmallRefIdeal.main_arg10)
      ∧ r.2.mem ((c.tc : Thread Cert.SmallRefIdeal.nD Cert.SmallRefIdeal.τ).loc Cert.SmallRefIdeal.main_arg11) = m ((c.tc : Thread Cert.SmallRefIdeal.nD Cert.SmallRefIdeal.τ).loc Cert.SmallRefIdeal.main_arg11)
      ∧ r.2.mem ((c.tc : Thread Cert.SmallRefIdeal.nD Cert.SmallRefIdeal.τ).loc Cert.SmallRefIdeal.main_arg12) = m ((c.tc : Thread Cert.SmallRefIdeal.nD Cert.SmallRefIdeal.τ).loc Cert.SmallRefIdeal.main_arg12)
      ∧ r.2.mem ((c.tc : Thread Cert.SmallRefIdeal.nD Cert.SmallRefIdeal.τ).loc Cert.SmallRefIdeal.main_arg13) = m ((c.tc : Thread Cert.SmallRefIdeal.nD Cert.SmallRefIdeal.τ).loc Cert.SmallRefIdeal.main_arg13)
      ∧ r.2.mem ((c.tc : Thread Cert.SmallRefIdeal.nD Cert.SmallRefIdeal.τ).loc Cert.SmallRefIdeal.main_arg14) = m ((c.tc : Thread Cert.SmallRefIdeal.nD Cert.SmallRefIdeal.τ).loc Cert.SmallRefIdeal.main_arg14)
      ∧ r.2.mem ((c.tc : Thread Cert.SmallRefIdeal.nD Cert.SmallRefIdeal.τ).loc Cert.SmallRefIdeal.main_arg15) = m ((c.tc : Thread Cert.SmallRefIdeal.nD Cert.SmallRefIdeal.τ).loc Cert.SmallRefIdeal.main_arg15)
      ∧ r.2.mem ((c.tc : Thread Cert.SmallRefIdeal.nD Cert.SmallRefIdeal.τ).loc Cert.SmallRefIdeal.main_arg16) = m ((c.tc : Thread Cert.SmallRefIdeal.nD Cert.SmallRefIdeal.τ).loc Cert.SmallRefIdeal.main_arg16)
      ∧ r.2.mem ((c.tc : Thread Cert.SmallRefIdeal.nD Cert.SmallRefIdeal.τ).loc Cert.SmallRefIdeal.main_arg17) = m ((c.tc : Thread Cert.SmallRefIdeal.nD Cert.SmallRefIdeal.τ).loc Cert.SmallRefIdeal.main_arg17)
      ∧ r.2.mem ((c.tc : Thread Cert.SmallRefIdeal.nD Cert.SmallRefIdeal.τ).loc Cert.SmallRefIdeal.main_arg18) = m ((c.tc : Thread Cert.SmallRefIdeal.nD Cert.SmallRefIdeal.τ).loc Cert.SmallRefIdeal.main_arg18)
      ∧ r.2.mem ((c.tc : Thread Cert.SmallRefIdeal.nD Cert.SmallRefIdeal.τ).loc Cert.SmallRefIdeal.main_arg19) = m ((c.tc : Thread Cert.SmallRefIdeal.nD Cert.SmallRefIdeal.τ).loc Cert.SmallRefIdeal.main_arg19)
      ∧ r.2.mem ((c.tc : Thread Cert.SmallRefIdeal.nD Cert.SmallRefIdeal.τ).loc Cert.SmallRefIdeal.main_arg20) = m ((c.tc : Thread Cert.SmallRefIdeal.nD Cert.SmallRefIdeal.τ).loc Cert.SmallRefIdeal.main_arg20)
      ∧ r.2.mem ((c.tc : Thread Cert.SmallRefIdeal.nD Cert.SmallRefIdeal.τ).loc Cert.SmallRefIdeal.main_arg21) = m ((c.tc : Thread Cert.SmallRefIdeal.nD Cert.SmallRefIdeal.τ).loc Cert.SmallRefIdeal.main_arg21)
      ∧ r.2.mem ((c.tc : Thread Cert.SmallRefIdeal.nD Cert.SmallRefIdeal.τ).loc Cert.SmallRefIdeal.main_arg22) = m ((c.tc : Thread Cert.SmallRefIdeal.nD Cert.SmallRefIdeal.τ).loc Cert.SmallRefIdeal.main_arg22)
      ∧ r.2.mem ((c.tc : Thread Cert.SmallRefIdeal.nD Cert.SmallRefIdeal.τ).loc Cert.SmallRefIdeal.main_arg23) = m ((c.tc : Thread Cert.SmallRefIdeal.nD Cert.SmallRefIdeal.τ).loc Cert.SmallRefIdeal.main_arg23)
      ∧ r.2.mem ((c.tc : Thread Cert.SmallRefIdeal.nD Cert.SmallRefIdeal.τ).loc Cert.SmallRefIdeal.main_arg24) = m ((c.tc : Thread Cert.SmallRefIdeal.nD Cert.SmallRefIdeal.τ).loc Cert.SmallRefIdeal.main_arg24)
      ∧ r.2.mem ((c.tc : Thread Cert.SmallRefIdeal.nD Cert.SmallRefIdeal.τ).loc Cert.SmallRefIdeal.main_arg25) = m ((c.tc : Thread Cert.SmallRefIdeal.nD Cert.SmallRefIdeal.τ).loc Cert.SmallRefIdeal.main_arg25)
      ∧ r.2.mem ((c.tc : Thread Cert.SmallRefIdeal.nD Cert.SmallRefIdeal.τ).loc Cert.SmallRefIdeal.main_arg26) = m ((c.tc : Thread Cert.SmallRefIdeal.nD Cert.SmallRefIdeal.τ).loc Cert.SmallRefIdeal.main_arg26)
      ∧ r.2.mem ((c.tc : Thread Cert.SmallRefIdeal.nD Cert.SmallRefIdeal.τ).loc Cert.SmallRefIdeal.main_arg27) = m ((c.tc : Thread Cert.SmallRefIdeal.nD Cert.SmallRefIdeal.τ).loc Cert.SmallRefIdeal.main_arg27)
      ∧ r.2.mem ((c.tc : Thread Cert.SmallRefIdeal.nD Cert.SmallRefIdeal.τ).loc Cert.SmallRefIdeal.main_arg28) = m ((c.tc : Thread Cert.SmallRefIdeal.nD Cert.SmallRefIdeal.τ).loc Cert.SmallRefIdeal.main_arg28)
      ∧ r.2.mem ((c.tc : Thread Cert.SmallRefIdeal.nD Cert.SmallRefIdeal.τ).loc Cert.SmallRefIdeal.main_arg29) = m ((c.tc : Thread Cert.SmallRefIdeal.nD Cert.SmallRefIdeal.τ).loc Cert.SmallRefIdeal.main_arg29)
      ∧ r.2.mem ((c.tc : Thread Cert.SmallRefIdeal.nD Cert.SmallRefIdeal.τ).loc Cert.SmallRefIdeal.main_arg30) = m ((c.tc : Thread Cert.SmallRefIdeal.nD Cert.SmallRefIdeal.τ).loc Cert.SmallRefIdeal.main_arg30)
      ∧ r.2.mem ((c.tc : Thread Cert.SmallRefIdeal.nD Cert.SmallRefIdeal.τ).loc Cert.SmallRefIdeal.main_arg31) = m ((c.tc : Thread Cert.SmallRefIdeal.nD Cert.SmallRefIdeal.τ).loc Cert.SmallRefIdeal.main_arg31)
      ∧ r.2.mem ((c.tc : Thread Cert.SmallRefIdeal.nD Cert.SmallRefIdeal.τ).loc Cert.SmallRefIdeal.main_arg32) = m ((c.tc : Thread Cert.SmallRefIdeal.nD Cert.SmallRefIdeal.τ).loc Cert.SmallRefIdeal.main_arg32)
      ∧ r.2.mem ((c.tc : Thread Cert.SmallRefIdeal.nD Cert.SmallRefIdeal.τ).loc Cert.SmallRefIdeal.main_arg33) = m ((c.tc : Thread Cert.SmallRefIdeal.nD Cert.SmallRefIdeal.τ).loc Cert.SmallRefIdeal.main_arg33)
      ∧ r.2.mem ((c.tc : Thread Cert.SmallRefIdeal.nD Cert.SmallRefIdeal.τ).loc Cert.SmallRefIdeal.main_arg34) = m ((c.tc : Thread Cert.SmallRefIdeal.nD Cert.SmallRefIdeal.τ).loc Cert.SmallRefIdeal.main_arg34)
      ∧ r.2.mem ((c.tc : Thread Cert.SmallRefIdeal.nD Cert.SmallRefIdeal.τ).loc Cert.SmallRefIdeal.main_arg35) = m ((c.tc : Thread Cert.SmallRefIdeal.nD Cert.SmallRefIdeal.τ).loc Cert.SmallRefIdeal.main_arg35)
      ∧ r.2.mem ((c.tc : Thread Cert.SmallRefIdeal.nD Cert.SmallRefIdeal.τ).loc Cert.SmallRefIdeal.main_arg36) = m ((c.tc : Thread Cert.SmallRefIdeal.nD Cert.SmallRefIdeal.τ).loc Cert.SmallRefIdeal.main_arg36)
      ∧ r.2.mem ((c.tc : Thread Cert.SmallRefIdeal.nD Cert.SmallRefIdeal.τ).loc Cert.SmallRefIdeal.main_arg37) = m ((c.tc : Thread Cert.SmallRefIdeal.nD Cert.SmallRefIdeal.τ).loc Cert.SmallRefIdeal.main_arg37)
      ∧ r.2.mem ((c.tc : Thread Cert.SmallRefIdeal.nD Cert.SmallRefIdeal.τ).loc Cert.SmallRefIdeal.main_arg38) = m ((c.tc : Thread Cert.SmallRefIdeal.nD Cert.SmallRefIdeal.τ).loc Cert.SmallRefIdeal.main_arg38)
      ∧ r.2.mem ((c.tc : Thread Cert.SmallRefIdeal.nD Cert.SmallRefIdeal.τ).loc Cert.SmallRefIdeal.main_arg39) = m ((c.tc : Thread Cert.SmallRefIdeal.nD Cert.SmallRefIdeal.τ).loc Cert.SmallRefIdeal.main_arg39)
      ∧ r.2.mem ((c.tc : Thread Cert.SmallRefIdeal.nD Cert.SmallRefIdeal.τ).loc Cert.SmallRefIdeal.main_arg40) = m ((c.tc : Thread Cert.SmallRefIdeal.nD Cert.SmallRefIdeal.τ).loc Cert.SmallRefIdeal.main_arg40)
      ∧ r.2.mem ((c.tc : Thread Cert.SmallRefIdeal.nD Cert.SmallRefIdeal.τ).loc Cert.SmallRefIdeal.main_arg41) = m ((c.tc : Thread Cert.SmallRefIdeal.nD Cert.SmallRefIdeal.τ).loc Cert.SmallRefIdeal.main_arg41)
      ∧ r.2.mem ((c.tc : Thread Cert.SmallRefIdeal.nD Cert.SmallRefIdeal.τ).loc Cert.SmallRefIdeal.main_arg42) = m ((c.tc : Thread Cert.SmallRefIdeal.nD Cert.SmallRefIdeal.τ).loc Cert.SmallRefIdeal.main_arg42)
      ∧ r.2.mem ((c.tc : Thread Cert.SmallRefIdeal.nD Cert.SmallRefIdeal.τ).loc Cert.SmallRefIdeal.main_arg43) = m ((c.tc : Thread Cert.SmallRefIdeal.nD Cert.SmallRefIdeal.τ).loc Cert.SmallRefIdeal.main_arg43)
      ∧ r.2.mem ((c.tc : Thread Cert.SmallRefIdeal.nD Cert.SmallRefIdeal.τ).loc Cert.SmallRefIdeal.main_arg44) = m ((c.tc : Thread Cert.SmallRefIdeal.nD Cert.SmallRefIdeal.τ).loc Cert.SmallRefIdeal.main_arg44)
      ∧ r.2.mem ((c.tc : Thread Cert.SmallRefIdeal.nD Cert.SmallRefIdeal.τ).loc Cert.SmallRefIdeal.main_arg45) = m ((c.tc : Thread Cert.SmallRefIdeal.nD Cert.SmallRefIdeal.τ).loc Cert.SmallRefIdeal.main_arg45)
      ∧ r.2.mem ((c.tc : Thread Cert.SmallRefIdeal.nD Cert.SmallRefIdeal.τ).loc Cert.SmallRefIdeal.main_arg46) = m ((c.tc : Thread Cert.SmallRefIdeal.nD Cert.SmallRefIdeal.τ).loc Cert.SmallRefIdeal.main_arg46)
      ∧ r.2.mem ((c.tc : Thread Cert.SmallRefIdeal.nD Cert.SmallRefIdeal.τ).loc Cert.SmallRefIdeal.main_arg47) = m ((c.tc : Thread Cert.SmallRefIdeal.nD Cert.SmallRefIdeal.τ).loc Cert.SmallRefIdeal.main_arg47)
      ∧ r.2.mem ((c.tc : Thread Cert.SmallRefIdeal.nD Cert.SmallRefIdeal.τ).loc Cert.SmallRefIdeal.main_arg48) = m ((c.tc : Thread Cert.SmallRefIdeal.nD Cert.SmallRefIdeal.τ).loc Cert.SmallRefIdeal.main_arg48)
      ∧ r.2.mem ((c.tc : Thread Cert.SmallRefIdeal.nD Cert.SmallRefIdeal.τ).loc Cert.SmallRefIdeal.main_arg49) = m ((c.tc : Thread Cert.SmallRefIdeal.nD Cert.SmallRefIdeal.τ).loc Cert.SmallRefIdeal.main_arg49)
      ∧ r.2.mem ((c.tc : Thread Cert.SmallRefIdeal.nD Cert.SmallRefIdeal.τ).loc Cert.SmallRefIdeal.main_arg50) = m ((c.tc : Thread Cert.SmallRefIdeal.nD Cert.SmallRefIdeal.τ).loc Cert.SmallRefIdeal.main_arg50)
      ∧ r.2.mem ((c.tc : Thread Cert.SmallRefIdeal.nD Cert.SmallRefIdeal.τ).loc Cert.SmallRefIdeal.main_arg51) = m ((c.tc : Thread Cert.SmallRefIdeal.nD Cert.SmallRefIdeal.τ).loc Cert.SmallRefIdeal.main_arg51)
      ∧ r.2.mem ((c.tc : Thread Cert.SmallRefIdeal.nD Cert.SmallRefIdeal.τ).loc Cert.SmallRefIdeal.main_arg52) = m ((c.tc : Thread Cert.SmallRefIdeal.nD Cert.SmallRefIdeal.τ).loc Cert.SmallRefIdeal.main_arg52)
      ∧ r.2.mem ((c.tc : Thread Cert.SmallRefIdeal.nD Cert.SmallRefIdeal.τ).loc Cert.SmallRefIdeal.main_arg53) = m ((c.tc : Thread Cert.SmallRefIdeal.nD Cert.SmallRefIdeal.τ).loc Cert.SmallRefIdeal.main_arg53)
      ∧ r.2.mem ((c.tc : Thread Cert.SmallRefIdeal.nD Cert.SmallRefIdeal.τ).loc Cert.SmallRefIdeal.main_arg54) = m ((c.tc : Thread Cert.SmallRefIdeal.nD Cert.SmallRefIdeal.τ).loc Cert.SmallRefIdeal.main_arg54)
      ∧ r.2.mem ((c.tc : Thread Cert.SmallRefIdeal.nD Cert.SmallRefIdeal.τ).loc Cert.SmallRefIdeal.main_arg55) = m ((c.tc : Thread Cert.SmallRefIdeal.nD Cert.SmallRefIdeal.τ).loc Cert.SmallRefIdeal.main_arg55)
      ∧ r.2.mem ((c.tc : Thread Cert.SmallRefIdeal.nD Cert.SmallRefIdeal.τ).loc Cert.SmallRefIdeal.main_arg56) = m ((c.tc : Thread Cert.SmallRefIdeal.nD Cert.SmallRefIdeal.τ).loc Cert.SmallRefIdeal.main_arg56)
      ∧ r.2.mem ((c.tc : Thread Cert.SmallRefIdeal.nD Cert.SmallRefIdeal.τ).loc Cert.SmallRefIdeal.main_arg57) = m ((c.tc : Thread Cert.SmallRefIdeal.nD Cert.SmallRefIdeal.τ).loc Cert.SmallRefIdeal.main_arg57)
      ∧ r.2.mem ((c.tc : Thread Cert.SmallRefIdeal.nD Cert.SmallRefIdeal.τ).loc Cert.SmallRefIdeal.main_arg58) = m ((c.tc : Thread Cert.SmallRefIdeal.nD Cert.SmallRefIdeal.τ).loc Cert.SmallRefIdeal.main_arg58)
      ∧ r.2.mem ((c.tc : Thread Cert.SmallRefIdeal.nD Cert.SmallRefIdeal.τ).loc Cert.SmallRefIdeal.main_arg59) = m ((c.tc : Thread Cert.SmallRefIdeal.nD Cert.SmallRefIdeal.τ).loc Cert.SmallRefIdeal.main_arg59)
      ∧ r.2.mem ((c.tc : Thread Cert.SmallRefIdeal.nD Cert.SmallRefIdeal.τ).loc Cert.SmallRefIdeal.main_arg60) = m ((c.tc : Thread Cert.SmallRefIdeal.nD Cert.SmallRefIdeal.τ).loc Cert.SmallRefIdeal.main_arg60))
      ∧ r.2.sem = fun _ => 0)

def preserves_MlpOutDx_MlpOutDxIdeal : Prop :=
  True

def algebraic_MlpOutDxIdeal_MlpOutDxRefIdeal [hMlpOutDxIdeal : Cert.MlpOutDxIdeal.Facts] [hMlpOutDxRefIdeal : Cert.MlpOutDxRefIdeal.Facts] : Prop :=
  ∀ (m : (ℓ : Loc Cert.MlpOutDxIdeal.nD Cert.MlpOutDxIdeal.τ Cert.MlpOutDxIdeal.sig) → Buf (Elt Ideal) ℓ) (g : Dev Cert.MlpOutDxIdeal.nD → PrngReg)
    (m' : (ℓ : Loc Cert.MlpOutDxRefIdeal.nD Cert.MlpOutDxRefIdeal.τ Cert.MlpOutDxRefIdeal.sig) → Buf (Elt Ideal) ℓ) (g' : Dev Cert.MlpOutDxRefIdeal.nD → PrngReg), Pre_MlpOutDxIdeal m →
    (∀ c : Dev Cert.MlpOutDxIdeal.nD,
      m' ((c.tc : Thread Cert.MlpOutDxRefIdeal.nD Cert.MlpOutDxRefIdeal.τ).loc Cert.MlpOutDxRefIdeal.main_arg0) = m ((c.tc : Thread Cert.MlpOutDxIdeal.nD Cert.MlpOutDxIdeal.τ).loc Cert.MlpOutDxIdeal.main_arg0)
      ∧ m' ((c.tc : Thread Cert.MlpOutDxRefIdeal.nD Cert.MlpOutDxRefIdeal.τ).loc Cert.MlpOutDxRefIdeal.main_arg1) = m ((c.tc : Thread Cert.MlpOutDxIdeal.nD Cert.MlpOutDxIdeal.τ).loc Cert.MlpOutDxIdeal.main_arg1)
      ∧ m' ((c.tc : Thread Cert.MlpOutDxRefIdeal.nD Cert.MlpOutDxRefIdeal.τ).loc Cert.MlpOutDxRefIdeal.main_arg2) = m ((c.tc : Thread Cert.MlpOutDxIdeal.nD Cert.MlpOutDxIdeal.τ).loc Cert.MlpOutDxIdeal.main_arg2)) →
    ∃ (v0 : (c : Dev Cert.MlpOutDxIdeal.nD) → Buf (Elt Ideal) ((c.tc : Thread Cert.MlpOutDxIdeal.nD Cert.MlpOutDxIdeal.τ).loc Cert.MlpOutDxIdeal.main_v0)),
      θ_run (Cert.MlpOutDxIdeal.defs (F := Ideal)) (onTc (τ := Cert.MlpOutDxIdeal.τ) (Cert.MlpOutDxIdeal.main (F := Ideal))) ⟨m, fun _ => 0, g⟩ (fun r => ∀ c : Dev Cert.MlpOutDxIdeal.nD,
          r.2.mem ((c.tc : Thread Cert.MlpOutDxIdeal.nD Cert.MlpOutDxIdeal.τ).loc Cert.MlpOutDxIdeal.main_v0) = v0 c
          ∧ r.2.mem ((c.tc : Thread Cert.MlpOutDxIdeal.nD Cert.MlpOutDxIdeal.τ).loc Cert.MlpOutDxIdeal.main_arg0) = m ((c.tc : Thread Cert.MlpOutDxIdeal.nD Cert.MlpOutDxIdeal.τ).loc Cert.MlpOutDxIdeal.main_arg0)
          ∧ r.2.mem ((c.tc : Thread Cert.MlpOutDxIdeal.nD Cert.MlpOutDxIdeal.τ).loc Cert.MlpOutDxIdeal.main_arg1) = m ((c.tc : Thread Cert.MlpOutDxIdeal.nD Cert.MlpOutDxIdeal.τ).loc Cert.MlpOutDxIdeal.main_arg1)
          ∧ r.2.mem ((c.tc : Thread Cert.MlpOutDxIdeal.nD Cert.MlpOutDxIdeal.τ).loc Cert.MlpOutDxIdeal.main_arg2) = m ((c.tc : Thread Cert.MlpOutDxIdeal.nD Cert.MlpOutDxIdeal.τ).loc Cert.MlpOutDxIdeal.main_arg2))
      ∧ θ_run (Cert.MlpOutDxRefIdeal.defs (F := Ideal)) (onTc (τ := Cert.MlpOutDxRefIdeal.τ) (Cert.MlpOutDxRefIdeal.main (F := Ideal))) ⟨m', fun _ => 0, g'⟩ (fun r => ∀ c : Dev Cert.MlpOutDxRefIdeal.nD,
          r.2.mem ((c.tc : Thread Cert.MlpOutDxRefIdeal.nD Cert.MlpOutDxRefIdeal.τ).loc Cert.MlpOutDxRefIdeal.main_v15) = v0 c
          ∧ r.2.mem ((c.tc : Thread Cert.MlpOutDxRefIdeal.nD Cert.MlpOutDxRefIdeal.τ).loc Cert.MlpOutDxRefIdeal.main_arg0) = m' ((c.tc : Thread Cert.MlpOutDxRefIdeal.nD Cert.MlpOutDxRefIdeal.τ).loc Cert.MlpOutDxRefIdeal.main_arg0)
          ∧ r.2.mem ((c.tc : Thread Cert.MlpOutDxRefIdeal.nD Cert.MlpOutDxRefIdeal.τ).loc Cert.MlpOutDxRefIdeal.main_arg1) = m' ((c.tc : Thread Cert.MlpOutDxRefIdeal.nD Cert.MlpOutDxRefIdeal.τ).loc Cert.MlpOutDxRefIdeal.main_arg1)
          ∧ r.2.mem ((c.tc : Thread Cert.MlpOutDxRefIdeal.nD Cert.MlpOutDxRefIdeal.τ).loc Cert.MlpOutDxRefIdeal.main_arg2) = m' ((c.tc : Thread Cert.MlpOutDxRefIdeal.nD Cert.MlpOutDxRefIdeal.τ).loc Cert.MlpOutDxRefIdeal.main_arg2))

def preserves_MlpOutDw_MlpOutDwIdeal : Prop :=
  True

def algebraic_MlpOutDwIdeal_MlpOutDwRefIdeal [hMlpOutDwIdeal : Cert.MlpOutDwIdeal.Facts] [hMlpOutDwRefIdeal : Cert.MlpOutDwRefIdeal.Facts] : Prop :=
  ∀ (m : (ℓ : Loc Cert.MlpOutDwIdeal.nD Cert.MlpOutDwIdeal.τ Cert.MlpOutDwIdeal.sig) → Buf (Elt Ideal) ℓ) (g : Dev Cert.MlpOutDwIdeal.nD → PrngReg)
    (m' : (ℓ : Loc Cert.MlpOutDwRefIdeal.nD Cert.MlpOutDwRefIdeal.τ Cert.MlpOutDwRefIdeal.sig) → Buf (Elt Ideal) ℓ) (g' : Dev Cert.MlpOutDwRefIdeal.nD → PrngReg), Pre_MlpOutDwIdeal m →
    (∀ c : Dev Cert.MlpOutDwIdeal.nD,
      m' ((c.tc : Thread Cert.MlpOutDwRefIdeal.nD Cert.MlpOutDwRefIdeal.τ).loc Cert.MlpOutDwRefIdeal.main_arg0) = m ((c.tc : Thread Cert.MlpOutDwIdeal.nD Cert.MlpOutDwIdeal.τ).loc Cert.MlpOutDwIdeal.main_arg0)
      ∧ m' ((c.tc : Thread Cert.MlpOutDwRefIdeal.nD Cert.MlpOutDwRefIdeal.τ).loc Cert.MlpOutDwRefIdeal.main_arg1) = m ((c.tc : Thread Cert.MlpOutDwIdeal.nD Cert.MlpOutDwIdeal.τ).loc Cert.MlpOutDwIdeal.main_arg1)) →
    ∃ (v0 : (c : Dev Cert.MlpOutDwIdeal.nD) → Buf (Elt Ideal) ((c.tc : Thread Cert.MlpOutDwIdeal.nD Cert.MlpOutDwIdeal.τ).loc Cert.MlpOutDwIdeal.main_v0_0)) (v1 : (c : Dev Cert.MlpOutDwIdeal.nD) → Buf (Elt Ideal) ((c.tc : Thread Cert.MlpOutDwIdeal.nD Cert.MlpOutDwIdeal.τ).loc Cert.MlpOutDwIdeal.main_v0_1)),
      θ_run (Cert.MlpOutDwIdeal.defs (F := Ideal)) (onTc (τ := Cert.MlpOutDwIdeal.τ) (Cert.MlpOutDwIdeal.main (F := Ideal))) ⟨m, fun _ => 0, g⟩ (fun r => ∀ c : Dev Cert.MlpOutDwIdeal.nD,
          r.2.mem ((c.tc : Thread Cert.MlpOutDwIdeal.nD Cert.MlpOutDwIdeal.τ).loc Cert.MlpOutDwIdeal.main_v0_0) = v0 c
          ∧ r.2.mem ((c.tc : Thread Cert.MlpOutDwIdeal.nD Cert.MlpOutDwIdeal.τ).loc Cert.MlpOutDwIdeal.main_v0_1) = v1 c
          ∧ r.2.mem ((c.tc : Thread Cert.MlpOutDwIdeal.nD Cert.MlpOutDwIdeal.τ).loc Cert.MlpOutDwIdeal.main_arg0) = m ((c.tc : Thread Cert.MlpOutDwIdeal.nD Cert.MlpOutDwIdeal.τ).loc Cert.MlpOutDwIdeal.main_arg0)
          ∧ r.2.mem ((c.tc : Thread Cert.MlpOutDwIdeal.nD Cert.MlpOutDwIdeal.τ).loc Cert.MlpOutDwIdeal.main_arg1) = m ((c.tc : Thread Cert.MlpOutDwIdeal.nD Cert.MlpOutDwIdeal.τ).loc Cert.MlpOutDwIdeal.main_arg1))
      ∧ θ_run (Cert.MlpOutDwRefIdeal.defs (F := Ideal)) (onTc (τ := Cert.MlpOutDwRefIdeal.τ) (Cert.MlpOutDwRefIdeal.main (F := Ideal))) ⟨m', fun _ => 0, g'⟩ (fun r => ∀ c : Dev Cert.MlpOutDwRefIdeal.nD,
          r.2.mem ((c.tc : Thread Cert.MlpOutDwRefIdeal.nD Cert.MlpOutDwRefIdeal.τ).loc Cert.MlpOutDwRefIdeal.main_v5) = v0 c
          ∧ r.2.mem ((c.tc : Thread Cert.MlpOutDwRefIdeal.nD Cert.MlpOutDwRefIdeal.τ).loc Cert.MlpOutDwRefIdeal.main_v6) = v1 c
          ∧ r.2.mem ((c.tc : Thread Cert.MlpOutDwRefIdeal.nD Cert.MlpOutDwRefIdeal.τ).loc Cert.MlpOutDwRefIdeal.main_arg0) = m' ((c.tc : Thread Cert.MlpOutDwRefIdeal.nD Cert.MlpOutDwRefIdeal.τ).loc Cert.MlpOutDwRefIdeal.main_arg0)
          ∧ r.2.mem ((c.tc : Thread Cert.MlpOutDwRefIdeal.nD Cert.MlpOutDwRefIdeal.τ).loc Cert.MlpOutDwRefIdeal.main_arg1) = m' ((c.tc : Thread Cert.MlpOutDwRefIdeal.nD Cert.MlpOutDwRefIdeal.τ).loc Cert.MlpOutDwRefIdeal.main_arg1))

def preserves_MlpInDw_MlpInDwIdeal : Prop :=
  True

def algebraic_MlpInDwIdeal_MlpInDwRefIdeal [hMlpInDwIdeal : Cert.MlpInDwIdeal.Facts] [hMlpInDwRefIdeal : Cert.MlpInDwRefIdeal.Facts] : Prop :=
  ∀ (m : (ℓ : Loc Cert.MlpInDwIdeal.nD Cert.MlpInDwIdeal.τ Cert.MlpInDwIdeal.sig) → Buf (Elt Ideal) ℓ) (g : Dev Cert.MlpInDwIdeal.nD → PrngReg)
    (m' : (ℓ : Loc Cert.MlpInDwRefIdeal.nD Cert.MlpInDwRefIdeal.τ Cert.MlpInDwRefIdeal.sig) → Buf (Elt Ideal) ℓ) (g' : Dev Cert.MlpInDwRefIdeal.nD → PrngReg), Pre_MlpInDwIdeal m →
    (∀ c : Dev Cert.MlpInDwIdeal.nD,
      m' ((c.tc : Thread Cert.MlpInDwRefIdeal.nD Cert.MlpInDwRefIdeal.τ).loc Cert.MlpInDwRefIdeal.main_arg0) = m ((c.tc : Thread Cert.MlpInDwIdeal.nD Cert.MlpInDwIdeal.τ).loc Cert.MlpInDwIdeal.main_arg0)
      ∧ m' ((c.tc : Thread Cert.MlpInDwRefIdeal.nD Cert.MlpInDwRefIdeal.τ).loc Cert.MlpInDwRefIdeal.main_arg1) = m ((c.tc : Thread Cert.MlpInDwIdeal.nD Cert.MlpInDwIdeal.τ).loc Cert.MlpInDwIdeal.main_arg1)) →
    ∃ (v0 : (c : Dev Cert.MlpInDwIdeal.nD) → Buf (Elt Ideal) ((c.tc : Thread Cert.MlpInDwIdeal.nD Cert.MlpInDwIdeal.τ).loc Cert.MlpInDwIdeal.main_v0_0)) (v1 : (c : Dev Cert.MlpInDwIdeal.nD) → Buf (Elt Ideal) ((c.tc : Thread Cert.MlpInDwIdeal.nD Cert.MlpInDwIdeal.τ).loc Cert.MlpInDwIdeal.main_v0_1)),
      θ_run (Cert.MlpInDwIdeal.defs (F := Ideal)) (onTc (τ := Cert.MlpInDwIdeal.τ) (Cert.MlpInDwIdeal.main (F := Ideal))) ⟨m, fun _ => 0, g⟩ (fun r => ∀ c : Dev Cert.MlpInDwIdeal.nD,
          r.2.mem ((c.tc : Thread Cert.MlpInDwIdeal.nD Cert.MlpInDwIdeal.τ).loc Cert.MlpInDwIdeal.main_v0_0) = v0 c
          ∧ r.2.mem ((c.tc : Thread Cert.MlpInDwIdeal.nD Cert.MlpInDwIdeal.τ).loc Cert.MlpInDwIdeal.main_v0_1) = v1 c
          ∧ r.2.mem ((c.tc : Thread Cert.MlpInDwIdeal.nD Cert.MlpInDwIdeal.τ).loc Cert.MlpInDwIdeal.main_arg0) = m ((c.tc : Thread Cert.MlpInDwIdeal.nD Cert.MlpInDwIdeal.τ).loc Cert.MlpInDwIdeal.main_arg0)
          ∧ r.2.mem ((c.tc : Thread Cert.MlpInDwIdeal.nD Cert.MlpInDwIdeal.τ).loc Cert.MlpInDwIdeal.main_arg1) = m ((c.tc : Thread Cert.MlpInDwIdeal.nD Cert.MlpInDwIdeal.τ).loc Cert.MlpInDwIdeal.main_arg1))
      ∧ θ_run (Cert.MlpInDwRefIdeal.defs (F := Ideal)) (onTc (τ := Cert.MlpInDwRefIdeal.τ) (Cert.MlpInDwRefIdeal.main (F := Ideal))) ⟨m', fun _ => 0, g'⟩ (fun r => ∀ c : Dev Cert.MlpInDwRefIdeal.nD,
          r.2.mem ((c.tc : Thread Cert.MlpInDwRefIdeal.nD Cert.MlpInDwRefIdeal.τ).loc Cert.MlpInDwRefIdeal.main_v7) = v0 c
          ∧ r.2.mem ((c.tc : Thread Cert.MlpInDwRefIdeal.nD Cert.MlpInDwRefIdeal.τ).loc Cert.MlpInDwRefIdeal.main_v8) = v1 c
          ∧ r.2.mem ((c.tc : Thread Cert.MlpInDwRefIdeal.nD Cert.MlpInDwRefIdeal.τ).loc Cert.MlpInDwRefIdeal.main_arg0) = m' ((c.tc : Thread Cert.MlpInDwRefIdeal.nD Cert.MlpInDwRefIdeal.τ).loc Cert.MlpInDwRefIdeal.main_arg0)
          ∧ r.2.mem ((c.tc : Thread Cert.MlpInDwRefIdeal.nD Cert.MlpInDwRefIdeal.τ).loc Cert.MlpInDwRefIdeal.main_arg1) = m' ((c.tc : Thread Cert.MlpInDwRefIdeal.nD Cert.MlpInDwRefIdeal.τ).loc Cert.MlpInDwRefIdeal.main_arg1))

def preserves_MlpInDx_MlpInDxIdeal : Prop :=
  True

def algebraic_MlpInDxIdeal_MlpInDxRefIdeal [hMlpInDxIdeal : Cert.MlpInDxIdeal.Facts] [hMlpInDxRefIdeal : Cert.MlpInDxRefIdeal.Facts] : Prop :=
  ∀ (m : (ℓ : Loc Cert.MlpInDxIdeal.nD Cert.MlpInDxIdeal.τ Cert.MlpInDxIdeal.sig) → Buf (Elt Ideal) ℓ) (g : Dev Cert.MlpInDxIdeal.nD → PrngReg)
    (m' : (ℓ : Loc Cert.MlpInDxRefIdeal.nD Cert.MlpInDxRefIdeal.τ Cert.MlpInDxRefIdeal.sig) → Buf (Elt Ideal) ℓ) (g' : Dev Cert.MlpInDxRefIdeal.nD → PrngReg), Pre_MlpInDxIdeal m →
    (∀ c : Dev Cert.MlpInDxIdeal.nD,
      m' ((c.tc : Thread Cert.MlpInDxRefIdeal.nD Cert.MlpInDxRefIdeal.τ).loc Cert.MlpInDxRefIdeal.main_arg0) = m ((c.tc : Thread Cert.MlpInDxIdeal.nD Cert.MlpInDxIdeal.τ).loc Cert.MlpInDxIdeal.main_arg0)
      ∧ m' ((c.tc : Thread Cert.MlpInDxRefIdeal.nD Cert.MlpInDxRefIdeal.τ).loc Cert.MlpInDxRefIdeal.main_arg1) = m ((c.tc : Thread Cert.MlpInDxIdeal.nD Cert.MlpInDxIdeal.τ).loc Cert.MlpInDxIdeal.main_arg1)
      ∧ m' ((c.tc : Thread Cert.MlpInDxRefIdeal.nD Cert.MlpInDxRefIdeal.τ).loc Cert.MlpInDxRefIdeal.main_arg2) = m ((c.tc : Thread Cert.MlpInDxIdeal.nD Cert.MlpInDxIdeal.τ).loc Cert.MlpInDxIdeal.main_arg2)
      ∧ m' ((c.tc : Thread Cert.MlpInDxRefIdeal.nD Cert.MlpInDxRefIdeal.τ).loc Cert.MlpInDxRefIdeal.main_arg3) = m ((c.tc : Thread Cert.MlpInDxIdeal.nD Cert.MlpInDxIdeal.τ).loc Cert.MlpInDxIdeal.main_arg3)
      ∧ m' ((c.tc : Thread Cert.MlpInDxRefIdeal.nD Cert.MlpInDxRefIdeal.τ).loc Cert.MlpInDxRefIdeal.main_arg4) = m ((c.tc : Thread Cert.MlpInDxIdeal.nD Cert.MlpInDxIdeal.τ).loc Cert.MlpInDxIdeal.main_arg4)) →
    ∃ (v0 : (c : Dev Cert.MlpInDxIdeal.nD) → Buf (Elt Ideal) ((c.tc : Thread Cert.MlpInDxIdeal.nD Cert.MlpInDxIdeal.τ).loc Cert.MlpInDxIdeal.main_v0_0)) (v1 : (c : Dev Cert.MlpInDxIdeal.nD) → Buf (Elt Ideal) ((c.tc : Thread Cert.MlpInDxIdeal.nD Cert.MlpInDxIdeal.τ).loc Cert.MlpInDxIdeal.main_v0_1)) (v2 : (c : Dev Cert.MlpInDxIdeal.nD) → Buf (Elt Ideal) ((c.tc : Thread Cert.MlpInDxIdeal.nD Cert.MlpInDxIdeal.τ).loc Cert.MlpInDxIdeal.main_v0_2)),
      θ_run (Cert.MlpInDxIdeal.defs (F := Ideal)) (onTc (τ := Cert.MlpInDxIdeal.τ) (Cert.MlpInDxIdeal.main (F := Ideal))) ⟨m, fun _ => 0, g⟩ (fun r => ∀ c : Dev Cert.MlpInDxIdeal.nD,
          r.2.mem ((c.tc : Thread Cert.MlpInDxIdeal.nD Cert.MlpInDxIdeal.τ).loc Cert.MlpInDxIdeal.main_v0_0) = v0 c
          ∧ r.2.mem ((c.tc : Thread Cert.MlpInDxIdeal.nD Cert.MlpInDxIdeal.τ).loc Cert.MlpInDxIdeal.main_v0_1) = v1 c
          ∧ r.2.mem ((c.tc : Thread Cert.MlpInDxIdeal.nD Cert.MlpInDxIdeal.τ).loc Cert.MlpInDxIdeal.main_v0_2) = v2 c
          ∧ r.2.mem ((c.tc : Thread Cert.MlpInDxIdeal.nD Cert.MlpInDxIdeal.τ).loc Cert.MlpInDxIdeal.main_arg0) = m ((c.tc : Thread Cert.MlpInDxIdeal.nD Cert.MlpInDxIdeal.τ).loc Cert.MlpInDxIdeal.main_arg0)
          ∧ r.2.mem ((c.tc : Thread Cert.MlpInDxIdeal.nD Cert.MlpInDxIdeal.τ).loc Cert.MlpInDxIdeal.main_arg1) = m ((c.tc : Thread Cert.MlpInDxIdeal.nD Cert.MlpInDxIdeal.τ).loc Cert.MlpInDxIdeal.main_arg1)
          ∧ r.2.mem ((c.tc : Thread Cert.MlpInDxIdeal.nD Cert.MlpInDxIdeal.τ).loc Cert.MlpInDxIdeal.main_arg2) = m ((c.tc : Thread Cert.MlpInDxIdeal.nD Cert.MlpInDxIdeal.τ).loc Cert.MlpInDxIdeal.main_arg2)
          ∧ r.2.mem ((c.tc : Thread Cert.MlpInDxIdeal.nD Cert.MlpInDxIdeal.τ).loc Cert.MlpInDxIdeal.main_arg3) = m ((c.tc : Thread Cert.MlpInDxIdeal.nD Cert.MlpInDxIdeal.τ).loc Cert.MlpInDxIdeal.main_arg3)
          ∧ r.2.mem ((c.tc : Thread Cert.MlpInDxIdeal.nD Cert.MlpInDxIdeal.τ).loc Cert.MlpInDxIdeal.main_arg4) = m ((c.tc : Thread Cert.MlpInDxIdeal.nD Cert.MlpInDxIdeal.τ).loc Cert.MlpInDxIdeal.main_arg4))
      ∧ θ_run (Cert.MlpInDxRefIdeal.defs (F := Ideal)) (onTc (τ := Cert.MlpInDxRefIdeal.τ) (Cert.MlpInDxRefIdeal.main (F := Ideal))) ⟨m', fun _ => 0, g'⟩ (fun r => ∀ c : Dev Cert.MlpInDxRefIdeal.nD,
          r.2.mem ((c.tc : Thread Cert.MlpInDxRefIdeal.nD Cert.MlpInDxRefIdeal.τ).loc Cert.MlpInDxRefIdeal.main_v38) = v0 c
          ∧ r.2.mem ((c.tc : Thread Cert.MlpInDxRefIdeal.nD Cert.MlpInDxRefIdeal.τ).loc Cert.MlpInDxRefIdeal.main_v39) = v1 c
          ∧ r.2.mem ((c.tc : Thread Cert.MlpInDxRefIdeal.nD Cert.MlpInDxRefIdeal.τ).loc Cert.MlpInDxRefIdeal.main_v21) = v2 c
          ∧ r.2.mem ((c.tc : Thread Cert.MlpInDxRefIdeal.nD Cert.MlpInDxRefIdeal.τ).loc Cert.MlpInDxRefIdeal.main_arg0) = m' ((c.tc : Thread Cert.MlpInDxRefIdeal.nD Cert.MlpInDxRefIdeal.τ).loc Cert.MlpInDxRefIdeal.main_arg0)
          ∧ r.2.mem ((c.tc : Thread Cert.MlpInDxRefIdeal.nD Cert.MlpInDxRefIdeal.τ).loc Cert.MlpInDxRefIdeal.main_arg1) = m' ((c.tc : Thread Cert.MlpInDxRefIdeal.nD Cert.MlpInDxRefIdeal.τ).loc Cert.MlpInDxRefIdeal.main_arg1)
          ∧ r.2.mem ((c.tc : Thread Cert.MlpInDxRefIdeal.nD Cert.MlpInDxRefIdeal.τ).loc Cert.MlpInDxRefIdeal.main_arg2) = m' ((c.tc : Thread Cert.MlpInDxRefIdeal.nD Cert.MlpInDxRefIdeal.τ).loc Cert.MlpInDxRefIdeal.main_arg2)
          ∧ r.2.mem ((c.tc : Thread Cert.MlpInDxRefIdeal.nD Cert.MlpInDxRefIdeal.τ).loc Cert.MlpInDxRefIdeal.main_arg3) = m' ((c.tc : Thread Cert.MlpInDxRefIdeal.nD Cert.MlpInDxRefIdeal.τ).loc Cert.MlpInDxRefIdeal.main_arg3)
          ∧ r.2.mem ((c.tc : Thread Cert.MlpInDxRefIdeal.nD Cert.MlpInDxRefIdeal.τ).loc Cert.MlpInDxRefIdeal.main_arg4) = m' ((c.tc : Thread Cert.MlpInDxRefIdeal.nD Cert.MlpInDxRefIdeal.τ).loc Cert.MlpInDxRefIdeal.main_arg4))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)
      ∧ m' ((c.tc : Thread Cert.ProjDxRefIdeal.nD Cert.ProjDxRefIdeal.τ).loc Cert.ProjDxRefIdeal.main_arg2) = m ((c.tc : Thread Cert.ProjDxIdeal.nD Cert.ProjDxIdeal.τ).loc Cert.ProjDxIdeal.main_arg2)
      ∧ m' ((c.tc : Thread Cert.ProjDxRefIdeal.nD Cert.ProjDxRefIdeal.τ).loc Cert.ProjDxRefIdeal.main_arg3) = m ((c.tc : Thread Cert.ProjDxIdeal.nD Cert.ProjDxIdeal.τ).loc Cert.ProjDxIdeal.main_arg3)
      ∧ m' ((c.tc : Thread Cert.ProjDxRefIdeal.nD Cert.ProjDxRefIdeal.τ).loc Cert.ProjDxRefIdeal.main_arg4) = m ((c.tc : Thread Cert.ProjDxIdeal.nD Cert.ProjDxIdeal.τ).loc Cert.ProjDxIdeal.main_arg4)) →
    ∃ (v0 : (c : Dev Cert.ProjDxIdeal.nD) → Buf (Elt Ideal) ((c.tc : Thread Cert.ProjDxIdeal.nD Cert.ProjDxIdeal.τ).loc Cert.ProjDxIdeal.main_v0_0)) (v1 : (c : Dev Cert.ProjDxIdeal.nD) → Buf (Elt Ideal) ((c.tc : Thread Cert.ProjDxIdeal.nD Cert.ProjDxIdeal.τ).loc Cert.ProjDxIdeal.main_v0_1)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0_0) = v0 c
          ∧ r.2.mem ((c.tc : Thread Cert.ProjDxIdeal.nD Cert.ProjDxIdeal.τ).loc Cert.ProjDxIdeal.main_v0_1) = v1 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
          ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2)
          ∧ r.2.mem ((c.tc : Thread Cert.ProjDxIdeal.nD Cert.ProjDxIdeal.τ).loc Cert.ProjDxIdeal.main_arg3) = m ((c.tc : Thread Cert.ProjDxIdeal.nD Cert.ProjDxIdeal.τ).loc Cert.ProjDxIdeal.main_arg3)
          ∧ r.2.mem ((c.tc : Thread Cert.ProjDxIdeal.nD Cert.ProjDxIdeal.τ).loc Cert.ProjDxIdeal.main_arg4) = m ((c.tc : Thread Cert.ProjDxIdeal.nD Cert.ProjDxIdeal.τ).loc Cert.ProjDxIdeal.main_arg4))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v38) = v0 c
          ∧ r.2.mem ((c.tc : Thread Cert.ProjDxRefIdeal.nD Cert.ProjDxRefIdeal.τ).loc Cert.ProjDxRefIdeal.main_v21) = v1 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1)
          ∧ r.2.mem ((c.tc : Thread Cert.ProjDxRefIdeal.nD Cert.ProjDxRefIdeal.τ).loc Cert.ProjDxRefIdeal.main_arg2) = m' ((c.tc : Thread Cert.ProjDxRefIdeal.nD Cert.ProjDxRefIdeal.τ).loc Cert.ProjDxRefIdeal.main_arg2)
          ∧ r.2.mem ((c.tc : Thread Cert.ProjDxRefIdeal.nD Cert.ProjDxRefIdeal.τ).loc Cert.ProjDxRefIdeal.main_arg3) = m' ((c.tc : Thread Cert.ProjDxRefIdeal.nD Cert.ProjDxRefIdeal.τ).loc Cert.ProjDxRefIdeal.main_arg3)
          ∧ r.2.mem ((c.tc : Thread Cert.ProjDxRefIdeal.nD Cert.ProjDxRefIdeal.τ).loc Cert.ProjDxRefIdeal.main_arg4) = m' ((c.tc : Thread Cert.ProjDxRefIdeal.nD Cert.ProjDxRefIdeal.τ).loc Cert.ProjDxRefIdeal.main_arg4))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0_0)) (v1 : (c : Dev Cert.ProjDwIdeal.nD) → Buf (Elt Ideal) ((c.tc : Thread Cert.ProjDwIdeal.nD Cert.ProjDwIdeal.τ).loc Cert.ProjDwIdeal.main_v0_1)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0_0) = v0 c
          ∧ r.2.mem ((c.tc : Thread Cert.ProjDwIdeal.nD Cert.ProjDwIdeal.τ).loc Cert.ProjDwIdeal.main_v0_1) = v1 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v7) = v0 c
          ∧ r.2.mem ((c.tc : Thread Cert.ProjDwRefIdeal.nD Cert.ProjDwRefIdeal.τ).loc Cert.ProjDwRefIdeal.main_v8) = v1 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_OutProjDx_OutProjDxIdeal : Prop :=
  True

def algebraic_OutProjDxIdeal_OutProjDxRefIdeal [hOutProjDxIdeal : Cert.OutProjDxIdeal.Facts] [hOutProjDxRefIdeal : Cert.OutProjDxRefIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v0)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v0) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v4) = v0 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1))

def preserves_OutProjDw_OutProjDwIdeal : Prop :=
  True

def algebraic_OutProjDwIdeal_OutProjDwRefIdeal [hOutProjDwIdeal : Cert.OutProjDwIdeal.Facts] [hOutProjDwRefIdeal : Cert.OutProjDwRefIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwRefIdeal.nD Cert.OutProjDwRefIdeal.τ Cert.OutProjDwRefIdeal.sig) → Buf (Elt Ideal) ℓ) (g' : Dev Cert.OutProjDwRefIdeal.nD → PrngReg), Pre_OutProjDwIdeal m →
    (∀ c : Dev Cert.OutProjDwIdeal.nD,
      m' ((c.tc : Thread Cert.OutProjDwRefIdeal.nD Cert.OutProjDwRefIdeal.τ).loc Cert.OutProjDwRefIdeal.main_arg0) = m ((c.tc : Thread Cert.OutProjDwIdeal.nD Cert.OutProjDwIdeal.τ).loc Cert.OutProjDwIdeal.main_arg0)
      ∧ m' ((c.tc : Thread Cert.OutProjDwRefIdeal.nD Cert.OutProjDwRefIdeal.τ).loc Cert.OutProjDwRefIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v0_0)) (v1 : (c : Dev Cert.OutProjDwIdeal.nD) → Buf (Elt Ideal) ((c.tc : Thread Cert.OutProjDwIdeal.nD Cert.OutProjDwIdeal.τ).loc Cert.OutProjDwIdeal.main_v0_1)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0_0) = v0 c
          ∧ r.2.mem ((c.tc : Thread Cert.OutProjDwIdeal.nD Cert.OutProjDwIdeal.τ).loc Cert.OutProjDwIdeal.main_v0_1) = v1 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwRefIdeal.defs (F := Ideal)) (onTc (τ := Cert.OutProjDwRefIdeal.τ) (Cert.OutProjDwRefIdeal.main (F := Ideal))) ⟨m', fun _ => 0, g'⟩ (fun r => ∀ c : Dev Cert.OutProjDwRefIdeal.nD,
          r.2.mem ((c.tc : Thread Cert.OutProjDwRefIdeal.nD Cert.OutProjDwRefIdeal.τ).loc Cert.OutProjDwRefIdeal.main_v5) = v0 c
          ∧ r.2.mem ((c.tc : Thread Cert.OutProjDwRefIdeal.nD Cert.OutProjDwRefIdeal.τ).loc Cert.OutProjDwRefIdeal.main_v6) = v1 c
          ∧ r.2.mem ((c.tc : Thread Cert.OutProjDwRefIdeal.nD Cert.OutProjDwRefIdeal.τ).loc Cert.OutProjDwRefIdeal.main_arg0) = m' ((c.tc : Thread Cert.OutProjDwRefIdeal.nD Cert.OutProjDwRefIdeal.τ).loc Cert.OutProjDwRefIdeal.main_arg0)
          ∧ r.2.mem ((c.tc : Thread Cert.OutProjDwRefIdeal.nD Cert.OutProjDwRefIdeal.τ).loc Cert.OutProjDwRefIdeal.main_arg1) = m' ((c.tc : Thread Cert.OutProjDwRefIdeal.nD Cert.OutProjDwRefIdeal.τ).loc Cert.OutProjDwRefIdeal.main_arg1))

def preserves_GluGateDx_GluGateDxIdeal : Prop :=
  True

def algebraic_GluGateDxIdeal_GluGateDxRefIdeal [hGluGateDxIdeal : Cert.GluGateDxIdeal.Facts] [hGluGateDxRefIdeal : Cert.GluGateDxRefIdeal.Facts] : Prop :=
  ∀ (m : (ℓ : Loc Cert.GluGateDxIdeal.nD Cert.GluGateDxIdeal.τ Cert.GluGateDxIdeal.sig) → Buf (Elt Ideal) ℓ) (g : Dev Cert.GluGateDxIdeal.nD → PrngReg)
    (m' : (ℓ : Loc Cert.GluGateDxRefIdeal.nD Cert.GluGateDxRefIdeal.τ Cert.GluGateDxRefIdeal.sig) → Buf (Elt Ideal) ℓ) (g' : Dev Cert.GluGateDxRefIdeal.nD → PrngReg), Pre_GluGateDxIdeal m →
    (∀ c : Dev Cert.GluGateDxIdeal.nD,
      m' ((c.tc : Thread Cert.GluGateDxRefIdeal.nD Cert.GluGateDxRefIdeal.τ).loc Cert.GluGateDxRefIdeal.main_arg0) = m ((c.tc : Thread Cert.GluGateDxIdeal.nD Cert.GluGateDxIdeal.τ).loc Cert.GluGateDxIdeal.main_arg0)
      ∧ m' ((c.tc : Thread Cert.GluGateDxRefIdeal.nD Cert.GluGateDxRefIdeal.τ).loc Cert.GluGateDxRefIdeal.main_arg1) = m ((c.tc : Thread Cert.GluGateDxIdeal.nD Cert.GluGateDxIdeal.τ).loc Cert.GluGateDxIdeal.main_arg1)
      ∧ m' ((c.tc : Thread Cert.GluGateDxRefIdeal.nD Cert.GluGateDxRefIdeal.τ).loc Cert.GluGateDxRefIdeal.main_arg2) = m ((c.tc : Thread Cert.GluGateDxIdeal.nD Cert.GluGateDxIdeal.τ).loc Cert.GluGateDxIdeal.main_arg2)
      ∧ m' ((c.tc : Thread Cert.GluGateDxRefIdeal.nD Cert.GluGateDxRefIdeal.τ).loc Cert.GluGateDxRefIdeal.main_arg3) = m ((c.tc : Thread Cert.GluGateDxIdeal.nD Cert.GluGateDxIdeal.τ).loc Cert.GluGateDxIdeal.main_arg3)) →
    ∃ (v0 : (c : Dev Cert.GluGateDxIdeal.nD) → Buf (Elt Ideal) ((c.tc : Thread Cert.GluGateDxIdeal.nD Cert.GluGateDxIdeal.τ).loc Cert.GluGateDxIdeal.main_v0)),
      θ_run (Cert.GluGateDxIdeal.defs (F := Ideal)) (onTc (τ := Cert.GluGateDxIdeal.τ) (Cert.GluGateDxIdeal.main (F := Ideal))) ⟨m, fun _ => 0, g⟩ (fun r => ∀ c : Dev Cert.GluGateDxIdeal.nD,
          r.2.mem ((c.tc : Thread Cert.GluGateDxIdeal.nD Cert.GluGateDxIdeal.τ).loc Cert.GluGateDxIdeal.main_v0) = v0 c
          ∧ r.2.mem ((c.tc : Thread Cert.GluGateDxIdeal.nD Cert.GluGateDxIdeal.τ).loc Cert.GluGateDxIdeal.main_arg0) = m ((c.tc : Thread Cert.GluGateDxIdeal.nD Cert.GluGateDxIdeal.τ).loc Cert.GluGateDxIdeal.main_arg0)
          ∧ r.2.mem ((c.tc : Thread Cert.GluGateDxIdeal.nD Cert.GluGateDxIdeal.τ).loc Cert.GluGateDxIdeal.main_arg1) = m ((c.tc : Thread Cert.GluGateDxIdeal.nD Cert.GluGateDxIdeal.τ).loc Cert.GluGateDxIdeal.main_arg1)
          ∧ r.2.mem ((c.tc : Thread Cert.GluGateDxIdeal.nD Cert.GluGateDxIdeal.τ).loc Cert.GluGateDxIdeal.main_arg2) = m ((c.tc : Thread Cert.GluGateDxIdeal.nD Cert.GluGateDxIdeal.τ).loc Cert.GluGateDxIdeal.main_arg2)
          ∧ r.2.mem ((c.tc : Thread Cert.GluGateDxIdeal.nD Cert.GluGateDxIdeal.τ).loc Cert.GluGateDxIdeal.main_arg3) = m ((c.tc : Thread Cert.GluGateDxIdeal.nD Cert.GluGateDxIdeal.τ).loc Cert.GluGateDxIdeal.main_arg3))
      ∧ θ_run (Cert.GluGateDxRefIdeal.defs (F := Ideal)) (onTc (τ := Cert.GluGateDxRefIdeal.τ) (Cert.GluGateDxRefIdeal.main (F := Ideal))) ⟨m', fun _ => 0, g'⟩ (fun r => ∀ c : Dev Cert.GluGateDxRefIdeal.nD,
          r.2.mem ((c.tc : Thread Cert.GluGateDxRefIdeal.nD Cert.GluGateDxRefIdeal.τ).loc Cert.GluGateDxRefIdeal.main_v37) = v0 c
          ∧ r.2.mem ((c.tc : Thread Cert.GluGateDxRefIdeal.nD Cert.GluGateDxRefIdeal.τ).loc Cert.GluGateDxRefIdeal.main_arg0) = m' ((c.tc : Thread Cert.GluGateDxRefIdeal.nD Cert.GluGateDxRefIdeal.τ).loc Cert.GluGateDxRefIdeal.main_arg0)
          ∧ r.2.mem ((c.tc : Thread Cert.GluGateDxRefIdeal.nD Cert.GluGateDxRefIdeal.τ).loc Cert.GluGateDxRefIdeal.main_arg1) = m' ((c.tc : Thread Cert.GluGateDxRefIdeal.nD Cert.GluGateDxRefIdeal.τ).loc Cert.GluGateDxRefIdeal.main_arg1)
          ∧ r.2.mem ((c.tc : Thread Cert.GluGateDxRefIdeal.nD Cert.GluGateDxRefIdeal.τ).loc Cert.GluGateDxRefIdeal.main_arg2) = m' ((c.tc : Thread Cert.GluGateDxRefIdeal.nD Cert.GluGateDxRefIdeal.τ).loc Cert.GluGateDxRefIdeal.main_arg2)
          ∧ r.2.mem ((c.tc : Thread Cert.GluGateDxRefIdeal.nD Cert.GluGateDxRefIdeal.τ).loc Cert.GluGateDxRefIdeal.main_arg3) = m' ((c.tc : Thread Cert.GluGateDxRefIdeal.nD Cert.GluGateDxRefIdeal.τ).loc Cert.GluGateDxRefIdeal.main_arg3))

def preserves_GluGateDw_GluGateDwIdeal : Prop :=
  True

def algebraic_GluGateDwIdeal_GluGateDwRefIdeal [hGluGateDwIdeal : Cert.GluGateDwIdeal.Facts] [hGluGateDwRefIdeal : Cert.GluGateDwRefIdeal.Facts] : Prop :=
  ∀ (m : (ℓ : Loc Cert.GluGateDwIdeal.nD Cert.GluGateDwIdeal.τ Cert.GluGateDwIdeal.sig) → Buf (Elt Ideal) ℓ) (g : Dev Cert.GluGateDwIdeal.nD → PrngReg)
    (m' : (ℓ : Loc Cert.GluGateDwRefIdeal.nD Cert.GluGateDwRefIdeal.τ Cert.GluGateDwRefIdeal.sig) → Buf (Elt Ideal) ℓ) (g' : Dev Cert.GluGateDwRefIdeal.nD → PrngReg), Pre_GluGateDwIdeal m →
    (∀ c : Dev Cert.GluGateDwIdeal.nD,
      m' ((c.tc : Thread Cert.GluGateDwRefIdeal.nD Cert.GluGateDwRefIdeal.τ).loc Cert.GluGateDwRefIdeal.main_arg0) = m ((c.tc : Thread Cert.GluGateDwIdeal.nD Cert.GluGateDwIdeal.τ).loc Cert.GluGateDwIdeal.main_arg0)
      ∧ m' ((c.tc : Thread Cert.GluGateDwRefIdeal.nD Cert.GluGateDwRefIdeal.τ).loc Cert.GluGateDwRefIdeal.main_arg1) = m ((c.tc : Thread Cert.GluGateDwIdeal.nD Cert.GluGateDwIdeal.τ).loc Cert.GluGateDwIdeal.main_arg1)) →
    ∃ (v0 : (c : Dev Cert.GluGateDwIdeal.nD) → Buf (Elt Ideal) ((c.tc : Thread Cert.GluGateDwIdeal.nD Cert.GluGateDwIdeal.τ).loc Cert.GluGateDwIdeal.main_v0_0)) (v1 : (c : Dev Cert.GluGateDwIdeal.nD) → Buf (Elt Ideal) ((c.tc : Thread Cert.GluGateDwIdeal.nD Cert.GluGateDwIdeal.τ).loc Cert.GluGateDwIdeal.main_v0_1)),
      θ_run (Cert.GluGateDwIdeal.defs (F := Ideal)) (onTc (τ := Cert.GluGateDwIdeal.τ) (Cert.GluGateDwIdeal.main (F := Ideal))) ⟨m, fun _ => 0, g⟩ (fun r => ∀ c : Dev Cert.GluGateDwIdeal.nD,
          r.2.mem ((c.tc : Thread Cert.GluGateDwIdeal.nD Cert.GluGateDwIdeal.τ).loc Cert.GluGateDwIdeal.main_v0_0) = v0 c
          ∧ r.2.mem ((c.tc : Thread Cert.GluGateDwIdeal.nD Cert.GluGateDwIdeal.τ).loc Cert.GluGateDwIdeal.main_v0_1) = v1 c
          ∧ r.2.mem ((c.tc : Thread Cert.GluGateDwIdeal.nD Cert.GluGateDwIdeal.τ).loc Cert.GluGateDwIdeal.main_arg0) = m ((c.tc : Thread Cert.GluGateDwIdeal.nD Cert.GluGateDwIdeal.τ).loc Cert.GluGateDwIdeal.main_arg0)
          ∧ r.2.mem ((c.tc : Thread Cert.GluGateDwIdeal.nD Cert.GluGateDwIdeal.τ).loc Cert.GluGateDwIdeal.main_arg1) = m ((c.tc : Thread Cert.GluGateDwIdeal.nD Cert.GluGateDwIdeal.τ).loc Cert.GluGateDwIdeal.main_arg1))
      ∧ θ_run (Cert.GluGateDwRefIdeal.defs (F := Ideal)) (onTc (τ := Cert.GluGateDwRefIdeal.τ) (Cert.GluGateDwRefIdeal.main (F := Ideal))) ⟨m', fun _ => 0, g'⟩ (fun r => ∀ c : Dev Cert.GluGateDwRefIdeal.nD,
          r.2.mem ((c.tc : Thread Cert.GluGateDwRefIdeal.nD Cert.GluGateDwRefIdeal.τ).loc Cert.GluGateDwRefIdeal.main_v5) = v0 c
          ∧ r.2.mem ((c.tc : Thread Cert.GluGateDwRefIdeal.nD Cert.GluGateDwRefIdeal.τ).loc Cert.GluGateDwRefIdeal.main_v6) = v1 c
          ∧ r.2.mem ((c.tc : Thread Cert.GluGateDwRefIdeal.nD Cert.GluGateDwRefIdeal.τ).loc Cert.GluGateDwRefIdeal.main_arg0) = m' ((c.tc : Thread Cert.GluGateDwRefIdeal.nD Cert.GluGateDwRefIdeal.τ).loc Cert.GluGateDwRefIdeal.main_arg0)
          ∧ r.2.mem ((c.tc : Thread Cert.GluGateDwRefIdeal.nD Cert.GluGateDwRefIdeal.τ).loc Cert.GluGateDwRefIdeal.main_arg1) = m' ((c.tc : Thread Cert.GluGateDwRefIdeal.nD Cert.GluGateDwRefIdeal.τ).loc Cert.GluGateDwRefIdeal.main_arg1))

def preserves_AttnNormBwd_AttnNormBwdIdeal : Prop :=
  True

def algebraic_AttnNormBwdIdeal_AttnNormBwdRefIdeal [hAttnNormBwdIdeal : Cert.AttnNormBwdIdeal.Facts] [hAttnNormBwdRefIdeal : Cert.AttnNormBwdRefIdeal.Facts] : Prop :=
  ∀ (m : (ℓ : Loc Cert.AttnNormBwdIdeal.nD Cert.AttnNormBwdIdeal.τ Cert.AttnNormBwdIdeal.sig) → Buf (Elt Ideal) ℓ) (g : Dev Cert.AttnNormBwdIdeal.nD → PrngReg)
    (m' : (ℓ : Loc Cert.AttnNormBwdRefIdeal.nD Cert.AttnNormBwdRefIdeal.τ Cert.AttnNormBwdRefIdeal.sig) → Buf (Elt Ideal) ℓ) (g' : Dev Cert.AttnNormBwdRefIdeal.nD → PrngReg), Pre_AttnNormBwdIdeal m →
    (∀ c : Dev Cert.AttnNormBwdIdeal.nD,
      m' ((c.tc : Thread Cert.AttnNormBwdRefIdeal.nD Cert.AttnNormBwdRefIdeal.τ).loc Cert.AttnNormBwdRefIdeal.main_arg0) = m ((c.tc : Thread Cert.AttnNormBwdIdeal.nD Cert.AttnNormBwdIdeal.τ).loc Cert.AttnNormBwdIdeal.main_arg0)
      ∧ m' ((c.tc : Thread Cert.AttnNormBwdRefIdeal.nD Cert.AttnNormBwdRefIdeal.τ).loc Cert.AttnNormBwdRefIdeal.main_arg1) = m ((c.tc : Thread Cert.AttnNormBwdIdeal.nD Cert.AttnNormBwdIdeal.τ).loc Cert.AttnNormBwdIdeal.main_arg1)
      ∧ m' ((c.tc : Thread Cert.AttnNormBwdRefIdeal.nD Cert.AttnNormBwdRefIdeal.τ).loc Cert.AttnNormBwdRefIdeal.main_arg2) = m ((c.tc : Thread Cert.AttnNormBwdIdeal.nD Cert.AttnNormBwdIdeal.τ).loc Cert.AttnNormBwdIdeal.main_arg2)) →
    ∃ (v0 : (c : Dev Cert.AttnNormBwdIdeal.nD) → Buf (Elt Ideal) ((c.tc : Thread Cert.AttnNormBwdIdeal.nD Cert.AttnNormBwdIdeal.τ).loc Cert.AttnNormBwdIdeal.main_v0_0)) (v1 : (c : Dev Cert.AttnNormBwdIdeal.nD) → Buf (Elt Ideal) ((c.tc : Thread Cert.AttnNormBwdIdeal.nD Cert.AttnNormBwdIdeal.τ).loc Cert.AttnNormBwdIdeal.main_v0_1)),
      θ_run (Cert.AttnNormBwdIdeal.defs (F := Ideal)) (onTc (τ := Cert.AttnNormBwdIdeal.τ) (Cert.AttnNormBwdIdeal.main (F := Ideal))) ⟨m, fun _ => 0, g⟩ (fun r => ∀ c : Dev Cert.AttnNormBwdIdeal.nD,
          r.2.mem ((c.tc : Thread Cert.AttnNormBwdIdeal.nD Cert.AttnNormBwdIdeal.τ).loc Cert.AttnNormBwdIdeal.main_v0_0) = v0 c
          ∧ r.2.mem ((c.tc : Thread Cert.AttnNormBwdIdeal.nD Cert.AttnNormBwdIdeal.τ).loc Cert.AttnNormBwdIdeal.main_v0_1) = v1 c
          ∧ r.2.mem ((c.tc : Thread Cert.AttnNormBwdIdeal.nD Cert.AttnNormBwdIdeal.τ).loc Cert.AttnNormBwdIdeal.main_arg0) = m ((c.tc : Thread Cert.AttnNormBwdIdeal.nD Cert.AttnNormBwdIdeal.τ).loc Cert.AttnNormBwdIdeal.main_arg0)
          ∧ r.2.mem ((c.tc : Thread Cert.AttnNormBwdIdeal.nD Cert.AttnNormBwdIdeal.τ).loc Cert.AttnNormBwdIdeal.main_arg1) = m ((c.tc : Thread Cert.AttnNormBwdIdeal.nD Cert.AttnNormBwdIdeal.τ).loc Cert.AttnNormBwdIdeal.main_arg1)
          ∧ r.2.mem ((c.tc : Thread Cert.AttnNormBwdIdeal.nD Cert.AttnNormBwdIdeal.τ).loc Cert.AttnNormBwdIdeal.main_arg2) = m ((c.tc : Thread Cert.AttnNormBwdIdeal.nD Cert.AttnNormBwdIdeal.τ).loc Cert.AttnNormBwdIdeal.main_arg2))
      ∧ θ_run (Cert.AttnNormBwdRefIdeal.defs (F := Ideal)) (onTc (τ := Cert.AttnNormBwdRefIdeal.τ) (Cert.AttnNormBwdRefIdeal.main (F := Ideal))) ⟨m', fun _ => 0, g'⟩ (fun r => ∀ c : Dev Cert.AttnNormBwdRefIdeal.nD,
          r.2.mem ((c.tc : Thread Cert.AttnNormBwdRefIdeal.nD Cert.AttnNormBwdRefIdeal.τ).loc Cert.AttnNormBwdRefIdeal.main_v34) = v0 c
          ∧ r.2.mem ((c.tc : Thread Cert.AttnNormBwdRefIdeal.nD Cert.AttnNormBwdRefIdeal.τ).loc Cert.AttnNormBwdRefIdeal.main_v18) = v1 c
          ∧ r.2.mem ((c.tc : Thread Cert.AttnNormBwdRefIdeal.nD Cert.AttnNormBwdRefIdeal.τ).loc Cert.AttnNormBwdRefIdeal.main_arg0) = m' ((c.tc : Thread Cert.AttnNormBwdRefIdeal.nD Cert.AttnNormBwdRefIdeal.τ).loc Cert.AttnNormBwdRefIdeal.main_arg0)
          ∧ r.2.mem ((c.tc : Thread Cert.AttnNormBwdRefIdeal.nD Cert.AttnNormBwdRefIdeal.τ).loc Cert.AttnNormBwdRefIdeal.main_arg1) = m' ((c.tc : Thread Cert.AttnNormBwdRefIdeal.nD Cert.AttnNormBwdRefIdeal.τ).loc Cert.AttnNormBwdRefIdeal.main_arg1)
          ∧ r.2.mem ((c.tc : Thread Cert.AttnNormBwdRefIdeal.nD Cert.AttnNormBwdRefIdeal.τ).loc Cert.AttnNormBwdRefIdeal.main_arg2) = m' ((c.tc : Thread Cert.AttnNormBwdRefIdeal.nD Cert.AttnNormBwdRefIdeal.τ).loc Cert.AttnNormBwdRefIdeal.main_arg2))

def preserves_MlpIn_MlpInIdeal : Prop :=
  True

def algebraic_MlpInIdeal_MlpInRefIdeal [hMlpInIdeal : Cert.MlpInIdeal.Facts] [hMlpInRefIdeal : Cert.MlpInRefIdeal.Facts] : Prop :=
  ∀ (m : (ℓ : Loc Cert.MlpInIdeal.nD Cert.MlpInIdeal.τ Cert.MlpInIdeal.sig) → Buf (Elt Ideal) ℓ) (g : Dev Cert.MlpInIdeal.nD → PrngReg)
    (m' : (ℓ : Loc Cert.MlpInRefIdeal.nD Cert.MlpInRefIdeal.τ Cert.MlpInRefIdeal.sig) → Buf (Elt Ideal) ℓ) (g' : Dev Cert.MlpInRefIdeal.nD → PrngReg), Pre_MlpInIdeal m →
    (∀ c : Dev Cert.MlpInIdeal.nD,
      m' ((c.tc : Thread Cert.MlpInRefIdeal.nD Cert.MlpInRefIdeal.τ).loc Cert.MlpInRefIdeal.main_arg0) = m ((c.tc : Thread Cert.MlpInIdeal.nD Cert.MlpInIdeal.τ).loc Cert.MlpInIdeal.main_arg0)
      ∧ m' ((c.tc : Thread Cert.MlpInRefIdeal.nD Cert.MlpInRefIdeal.τ).loc Cert.MlpInRefIdeal.main_arg1) = m ((c.tc : Thread Cert.MlpInIdeal.nD Cert.MlpInIdeal.τ).loc Cert.MlpInIdeal.main_arg1)) →
    ∃ (v0 : (c : Dev Cert.MlpInIdeal.nD) → Buf (Elt Ideal) ((c.tc : Thread Cert.MlpInIdeal.nD Cert.MlpInIdeal.τ).loc Cert.MlpInIdeal.main_v0_0)) (v1 : (c : Dev Cert.MlpInIdeal.nD) → Buf (Elt Ideal) ((c.tc : Thread Cert.MlpInIdeal.nD Cert.MlpInIdeal.τ).loc Cert.MlpInIdeal.main_v0_1)),
      θ_run (Cert.MlpInIdeal.defs (F := Ideal)) (onTc (τ := Cert.MlpInIdeal.τ) (Cert.MlpInIdeal.main (F := Ideal))) ⟨m, fun _ => 0, g⟩ (fun r => ∀ c : Dev Cert.MlpInIdeal.nD,
          r.2.mem ((c.tc : Thread Cert.MlpInIdeal.nD Cert.MlpInIdeal.τ).loc Cert.MlpInIdeal.main_v0_0) = v0 c
          ∧ r.2.mem ((c.tc : Thread Cert.MlpInIdeal.nD Cert.MlpInIdeal.τ).loc Cert.MlpInIdeal.main_v0_1) = v1 c
          ∧ r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
          ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ θ_run (Cert.MlpInRefIdeal.defs (F := Ideal)) (onTc (τ := Cert.MlpInRefIdeal.τ) (Cert.MlpInRefIdeal.main (F := Ideal))) ⟨m', fun _ => 0, g'⟩ (fun r => ∀ c : Dev Cert.MlpInRefIdeal.nD,
          r.2.mem ((c.tc : Thread Cert.MlpInRefIdeal.nD Cert.MlpInRefIdeal.τ).loc Cert.MlpInRefIdeal.main_v5) = v0 c
          ∧ r.2.mem ((c.tc : Thread Cert.MlpInRefIdeal.nD Cert.MlpInRefIdeal.τ).loc Cert.MlpInRefIdeal.main_v6) = v1 c
          ∧ r.2.mem ((c.tc : Thread Cert.MlpInRefIdeal.nD Cert.MlpInRefIdeal.τ).loc Cert.MlpInRefIdeal.main_arg0) = m' ((c.tc : Thread Cert.MlpInRefIdeal.nD Cert.MlpInRefIdeal.τ).loc Cert.MlpInRefIdeal.main_arg0)
          ∧ r.2.mem ((c.tc : Thread Cert.MlpInRefIdeal.nD Cert.MlpInRefIdeal.τ).loc Cert.MlpInRefIdeal.main_arg1) = m' ((c.tc : Thread Cert.MlpInRefIdeal.nD Cert.MlpInRefIdeal.τ).loc Cert.MlpInRefIdeal.main_arg1))

def preserves_MlpOut_MlpOutIdeal : Prop :=
  True

def algebraic_MlpOutIdeal_MlpOutRefIdeal [hMlpOutIdeal : Cert.MlpOutIdeal.Facts] [hMlpOutRefIdeal : Cert.MlpOutRefIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.MlpOutRefIdeal.nD Cert.MlpOutRefIdeal.τ Cert.MlpOutRefIdeal.sig) → Buf (Elt Ideal) ℓ) (g' : Dev Cert.MlpOutRefIdeal.nD → PrngReg), Pre_MlpOutIdeal m →
    (∀ c : Dev Cert.MlpOutIdeal.nD,
      m' ((c.tc : Thread Cert.MlpOutRefIdeal.nD Cert.MlpOutRefIdeal.τ).loc Cert.MlpOutRefIdeal.main_arg0) = m ((c.tc : Thread Cert.MlpOutIdeal.nD Cert.MlpOutIdeal.τ).loc Cert.MlpOutIdeal.main_arg0)
      ∧ m' ((c.tc : Thread Cert.MlpOutRefIdeal.nD Cert.MlpOutRefIdeal.τ).loc Cert.MlpOutRefIdeal.main_arg1) = m ((c.tc : Thread Cert.MlpOutIdeal.nD Cert.MlpOutIdeal.τ).loc Cert.MlpOutIdeal.main_arg1)
      ∧ m' ((c.tc : Thread Cert.MlpOutRefIdeal.nD Cert.MlpOutRefIdeal.τ).loc Cert.MlpOutRefIdeal.main_arg2) = m ((c.tc : Thread Cert.MlpOutIdeal.nD Cert.MlpOutIdeal.τ).loc Cert.MlpOutIdeal.main_arg2)
      ∧ m' ((c.tc : Thread Cert.MlpOutRefIdeal.nD Cert.MlpOutRefIdeal.τ).loc Cert.MlpOutRefIdeal.main_arg3) = m ((c.tc : Thread Cert.MlpOutIdeal.nD Cert.MlpOutIdeal.τ).loc Cert.MlpOutIdeal.main_arg3)) →
    ∃ (v0 : (c : Dev Cert.MlpOutIdeal.nD) → Buf (Elt Ideal) ((c.tc : Thread Cert.MlpOutIdeal.nD Cert.MlpOutIdeal.τ).loc Cert.MlpOutIdeal.main_v0_0)) (v1 : (c : Dev Cert.MlpOutIdeal.nD) → Buf (Elt Ideal) ((c.tc : Thread Cert.MlpOutIdeal.nD Cert.MlpOutIdeal.τ).loc Cert.MlpOutIdeal.main_v0_1)) (v2 : (c : Dev Cert.MlpOutIdeal.nD) → Buf (Elt Ideal) ((c.tc : Thread Cert.MlpOutIdeal.nD Cert.MlpOutIdeal.τ).loc Cert.MlpOutIdeal.main_v0_2)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v0_0) = v0 c
          ∧ r.2.mem ((c.tc : Thread Cert.MlpOutIdeal.nD Cert.MlpOutIdeal.τ).loc Cert.MlpOutIdeal.main_v0_1) = v1 c
          ∧ r.2.mem ((c.tc : Thread Cert.MlpOutIdeal.nD Cert.MlpOutIdeal.τ).loc Cert.MlpOutIdeal.main_v0_2) = v2 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
          ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2)
          ∧ r.2.mem ((c.tc : Thread Cert.MlpOutIdeal.nD Cert.MlpOutIdeal.τ).loc Cert.MlpOutIdeal.main_arg3) = m ((c.tc : Thread Cert.MlpOutIdeal.nD Cert.MlpOutIdeal.τ).loc Cert.MlpOutIdeal.main_arg3))
      ∧ θ_run (Cert.MlpOutRefIdeal.defs (F := Ideal)) (onTc (τ := Cert.MlpOutRefIdeal.τ) (Cert.MlpOutRefIdeal.main (F := Ideal))) ⟨m', fun _ => 0, g'⟩ (fun r => ∀ c : Dev Cert.MlpOutRefIdeal.nD,
          r.2.mem ((c.tc : Thread Cert.MlpOutRefIdeal.nD Cert.MlpOutRefIdeal.τ).loc Cert.MlpOutRefIdeal.main_v18) = v0 c
          ∧ r.2.mem ((c.tc : Thread Cert.MlpOutRefIdeal.nD Cert.MlpOutRefIdeal.τ).loc Cert.MlpOutRefIdeal.main_v19) = v1 c
          ∧ r.2.mem ((c.tc : Thread Cert.MlpOutRefIdeal.nD Cert.MlpOutRefIdeal.τ).loc Cert.MlpOutRefIdeal.main_v20) = v2 c
          ∧ r.2.mem ((c.tc : Thread Cert.MlpOutRefIdeal.nD Cert.MlpOutRefIdeal.τ).loc Cert.MlpOutRefIdeal.main_arg0) = m' ((c.tc : Thread Cert.MlpOutRefIdeal.nD Cert.MlpOutRefIdeal.τ).loc Cert.MlpOutRefIdeal.main_arg0)
          ∧ r.2.mem ((c.tc : Thread Cert.MlpOutRefIdeal.nD Cert.MlpOutRefIdeal.τ).loc Cert.MlpOutRefIdeal.main_arg1) = m' ((c.tc : Thread Cert.MlpOutRefIdeal.nD Cert.MlpOutRefIdeal.τ).loc Cert.MlpOutRefIdeal.main_arg1)
          ∧ r.2.mem ((c.tc : Thread Cert.MlpOutRefIdeal.nD Cert.MlpOutRefIdeal.τ).loc Cert.MlpOutRefIdeal.main_arg2) = m' ((c.tc : Thread Cert.MlpOutRefIdeal.nD Cert.MlpOutRefIdeal.τ).loc Cert.MlpOutRefIdeal.main_arg2)
          ∧ r.2.mem ((c.tc : Thread Cert.MlpOutRefIdeal.nD Cert.MlpOutRefIdeal.τ).loc Cert.MlpOutRefIdeal.main_arg3) = m' ((c.tc : Thread Cert.MlpOutRefIdeal.nD Cert.MlpOutRefIdeal.τ).loc Cert.MlpOutRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_v16) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_GluGate_GluGateIdeal : Prop :=
  True

def algebraic_GluGateIdeal_GluGateRefIdeal [hGluGateIdeal : Cert.GluGateIdeal.Facts] [hGluGateRefIdeal : Cert.GluGateRefIdeal.Facts] : Prop :=
  ∀ (m : (ℓ : Loc Cert.GluGateIdeal.nD Cert.GluGateIdeal.τ Cert.GluGateIdeal.sig) → Buf (Elt Ideal) ℓ) (g : Dev Cert.GluGateIdeal.nD → PrngReg)
    (m' : (ℓ : Loc Cert.GluGateRefIdeal.nD Cert.GluGateRefIdeal.τ Cert.GluGateRefIdeal.sig) → Buf (Elt Ideal) ℓ) (g' : Dev Cert.GluGateRefIdeal.nD → PrngReg), Pre_GluGateIdeal m →
    (∀ c : Dev Cert.GluGateIdeal.nD,
      m' ((c.tc : Thread Cert.GluGateRefIdeal.nD Cert.GluGateRefIdeal.τ).loc Cert.GluGateRefIdeal.main_arg0) = m ((c.tc : Thread Cert.GluGateIdeal.nD Cert.GluGateIdeal.τ).loc Cert.GluGateIdeal.main_arg0)
      ∧ m' ((c.tc : Thread Cert.GluGateRefIdeal.nD Cert.GluGateRefIdeal.τ).loc Cert.GluGateRefIdeal.main_arg1) = m ((c.tc : Thread Cert.GluGateIdeal.nD Cert.GluGateIdeal.τ).loc Cert.GluGateIdeal.main_arg1)
      ∧ m' ((c.tc : Thread Cert.GluGateRefIdeal.nD Cert.GluGateRefIdeal.τ).loc Cert.GluGateRefIdeal.main_arg2) = m ((c.tc : Thread Cert.GluGateIdeal.nD Cert.GluGateIdeal.τ).loc Cert.GluGateIdeal.main_arg2)
      ∧ m' ((c.tc : Thread Cert.GluGateRefIdeal.nD Cert.GluGateRefIdeal.τ).loc Cert.GluGateRefIdeal.main_arg3) = m ((c.tc : Thread Cert.GluGateIdeal.nD Cert.GluGateIdeal.τ).loc Cert.GluGateIdeal.main_arg3)
      ∧ m' ((c.tc : Thread Cert.GluGateRefIdeal.nD Cert.GluGateRefIdeal.τ).loc Cert.GluGateRefIdeal.main_arg4) = m ((c.tc : Thread Cert.GluGateIdeal.nD Cert.GluGateIdeal.τ).loc Cert.GluGateIdeal.main_arg4)) →
    ∃ (v0 : (c : Dev Cert.GluGateIdeal.nD) → Buf (Elt Ideal) ((c.tc : Thread Cert.GluGateIdeal.nD Cert.GluGateIdeal.τ).loc Cert.GluGateIdeal.main_v0_0)) (v1 : (c : Dev Cert.GluGateIdeal.nD) → Buf (Elt Ideal) ((c.tc : Thread Cert.GluGateIdeal.nD Cert.GluGateIdeal.τ).loc Cert.GluGateIdeal.main_v0_1)),
      θ_run (Cert.GluGateIdeal.defs (F := Ideal)) (onTc (τ := Cert.GluGateIdeal.τ) (Cert.GluGateIdeal.main (F := Ideal))) ⟨m, fun _ => 0, g⟩ (fun r => ∀ c : Dev Cert.GluGateIdeal.nD,
          r.2.mem ((c.tc : Thread Cert.GluGateIdeal.nD Cert.GluGateIdeal.τ).loc Cert.GluGateIdeal.main_v0_0) = v0 c
          ∧ r.2.mem ((c.tc : Thread Cert.GluGateIdeal.nD Cert.GluGateIdeal.τ).loc Cert.GluGateIdeal.main_v0_1) = v1 c
          ∧ r.2.mem ((c.tc : Thread Cert.GluGateIdeal.nD Cert.GluGateIdeal.τ).loc Cert.GluGateIdeal.main_arg0) = m ((c.tc : Thread Cert.GluGateIdeal.nD Cert.GluGateIdeal.τ).loc Cert.GluGateIdeal.main_arg0)
          ∧ r.2.mem ((c.tc : Thread Cert.GluGateIdeal.nD Cert.GluGateIdeal.τ).loc Cert.GluGateIdeal.main_arg1) = m ((c.tc : Thread Cert.GluGateIdeal.nD Cert.GluGateIdeal.τ).loc Cert.GluGateIdeal.main_arg1)
          ∧ r.2.mem ((c.tc : Thread Cert.GluGateIdeal.nD Cert.GluGateIdeal.τ).loc Cert.GluGateIdeal.main_arg2) = m ((c.tc : Thread Cert.GluGateIdeal.nD Cert.GluGateIdeal.τ).loc Cert.GluGateIdeal.main_arg2)
          ∧ r.2.mem ((c.tc : Thread Cert.GluGateIdeal.nD Cert.GluGateIdeal.τ).loc Cert.GluGateIdeal.main_arg3) = m ((c.tc : Thread Cert.GluGateIdeal.nD Cert.GluGateIdeal.τ).loc Cert.GluGateIdeal.main_arg3)
          ∧ r.2.mem ((c.tc : Thread Cert.GluGateIdeal.nD Cert.GluGateIdeal.τ).loc Cert.GluGateIdeal.main_arg4) = m ((c.tc : Thread Cert.GluGateIdeal.nD Cert.GluGateIdeal.τ).loc Cert.GluGateIdeal.main_arg4))
      ∧ θ_run (Cert.GluGateRefIdeal.defs (F := Ideal)) (onTc (τ := Cert.GluGateRefIdeal.τ) (Cert.GluGateRefIdeal.main (F := Ideal))) ⟨m', fun _ => 0, g'⟩ (fun r => ∀ c : Dev Cert.GluGateRefIdeal.nD,
          r.2.mem ((c.tc : Thread Cert.GluGateRefIdeal.nD Cert.GluGateRefIdeal.τ).loc Cert.GluGateRefIdeal.main_v2) = v0 c
          ∧ r.2.mem ((c.tc : Thread Cert.GluGateRefIdeal.nD Cert.GluGateRefIdeal.τ).loc Cert.GluGateRefIdeal.main_v37) = v1 c
          ∧ r.2.mem ((c.tc : Thread Cert.GluGateRefIdeal.nD Cert.GluGateRefIdeal.τ).loc Cert.GluGateRefIdeal.main_arg0) = m' ((c.tc : Thread Cert.GluGateRefIdeal.nD Cert.GluGateRefIdeal.τ).loc Cert.GluGateRefIdeal.main_arg0)
          ∧ r.2.mem ((c.tc : Thread Cert.GluGateRefIdeal.nD Cert.GluGateRefIdeal.τ).loc Cert.GluGateRefIdeal.main_arg1) = m' ((c.tc : Thread Cert.GluGateRefIdeal.nD Cert.GluGateRefIdeal.τ).loc Cert.GluGateRefIdeal.main_arg1)
          ∧ r.2.mem ((c.tc : Thread Cert.GluGateRefIdeal.nD Cert.GluGateRefIdeal.τ).loc Cert.GluGateRefIdeal.main_arg2) = m' ((c.tc : Thread Cert.GluGateRefIdeal.nD Cert.GluGateRefIdeal.τ).loc Cert.GluGateRefIdeal.main_arg2)
          ∧ r.2.mem ((c.tc : Thread Cert.GluGateRefIdeal.nD Cert.GluGateRefIdeal.τ).loc Cert.GluGateRefIdeal.main_arg3) = m' ((c.tc : Thread Cert.GluGateRefIdeal.nD Cert.GluGateRefIdeal.τ).loc Cert.GluGateRefIdeal.main_arg3)
          ∧ r.2.mem ((c.tc : Thread Cert.GluGateRefIdeal.nD Cert.GluGateRefIdeal.τ).loc Cert.GluGateRefIdeal.main_arg4) = m' ((c.tc : Thread Cert.GluGateRefIdeal.nD Cert.GluGateRefIdeal.τ).loc Cert.GluGateRefIdeal.main_arg4))

def preserves_AttnNorm_AttnNormIdeal : Prop :=
  True

def algebraic_AttnNormIdeal_AttnNormRefIdeal [hAttnNormIdeal : Cert.AttnNormIdeal.Facts] [hAttnNormRefIdeal : Cert.AttnNormRefIdeal.Facts] : Prop :=
  ∀ (m : (ℓ : Loc Cert.AttnNormIdeal.nD Cert.AttnNormIdeal.τ Cert.AttnNormIdeal.sig) → Buf (Elt Ideal) ℓ) (g : Dev Cert.AttnNormIdeal.nD → PrngReg)
    (m' : (ℓ : Loc Cert.AttnNormRefIdeal.nD Cert.AttnNormRefIdeal.τ Cert.AttnNormRefIdeal.sig) → Buf (Elt Ideal) ℓ) (g' : Dev Cert.AttnNormRefIdeal.nD → PrngReg), Pre_AttnNormIdeal m →
    (∀ c : Dev Cert.AttnNormIdeal.nD,
      m' ((c.tc : Thread Cert.AttnNormRefIdeal.nD Cert.AttnNormRefIdeal.τ).loc Cert.AttnNormRefIdeal.main_arg0) = m ((c.tc : Thread Cert.AttnNormIdeal.nD Cert.AttnNormIdeal.τ).loc Cert.AttnNormIdeal.main_arg0)
      ∧ m' ((c.tc : Thread Cert.AttnNormRefIdeal.nD Cert.AttnNormRefIdeal.τ).loc Cert.AttnNormRefIdeal.main_arg1) = m ((c.tc : Thread Cert.AttnNormIdeal.nD Cert.AttnNormIdeal.τ).loc Cert.AttnNormIdeal.main_arg1)
      ∧ m' ((c.tc : Thread Cert.AttnNormRefIdeal.nD Cert.AttnNormRefIdeal.τ).loc Cert.AttnNormRefIdeal.main_arg2) = m ((c.tc : Thread Cert.AttnNormIdeal.nD Cert.AttnNormIdeal.τ).loc Cert.AttnNormIdeal.main_arg2)) →
    ∃ (v0 : (c : Dev Cert.AttnNormIdeal.nD) → Buf (Elt Ideal) ((c.tc : Thread Cert.AttnNormIdeal.nD Cert.AttnNormIdeal.τ).loc Cert.AttnNormIdeal.main_v0)),
      θ_run (Cert.AttnNormIdeal.defs (F := Ideal)) (onTc (τ := Cert.AttnNormIdeal.τ) (Cert.AttnNormIdeal.main (F := Ideal))) ⟨m, fun _ => 0, g⟩ (fun r => ∀ c : Dev Cert.AttnNormIdeal.nD,
          r.2.mem ((c.tc : Thread Cert.AttnNormIdeal.nD Cert.AttnNormIdeal.τ).loc Cert.AttnNormIdeal.main_v0) = v0 c
          ∧ r.2.mem ((c.tc : Thread Cert.AttnNormIdeal.nD Cert.AttnNormIdeal.τ).loc Cert.AttnNormIdeal.main_arg0) = m ((c.tc : Thread Cert.AttnNormIdeal.nD Cert.AttnNormIdeal.τ).loc Cert.AttnNormIdeal.main_arg0)
          ∧ r.2.mem ((c.tc : Thread Cert.AttnNormIdeal.nD Cert.AttnNormIdeal.τ).loc Cert.AttnNormIdeal.main_arg1) = m ((c.tc : Thread Cert.AttnNormIdeal.nD Cert.AttnNormIdeal.τ).loc Cert.AttnNormIdeal.main_arg1)
          ∧ r.2.mem ((c.tc : Thread Cert.AttnNormIdeal.nD Cert.AttnNormIdeal.τ).loc Cert.AttnNormIdeal.main_arg2) = m ((c.tc : Thread Cert.AttnNormIdeal.nD Cert.AttnNormIdeal.τ).loc Cert.AttnNormIdeal.main_arg2))
      ∧ θ_run (Cert.AttnNormRefIdeal.defs (F := Ideal)) (onTc (τ := Cert.AttnNormRefIdeal.τ) (Cert.AttnNormRefIdeal.main (F := Ideal))) ⟨m', fun _ => 0, g'⟩ (fun r => ∀ c : Dev Cert.AttnNormRefIdeal.nD,
          r.2.mem ((c.tc : Thread Cert.AttnNormRefIdeal.nD Cert.AttnNormRefIdeal.τ).loc Cert.AttnNormRefIdeal.main_v13) = v0 c
          ∧ r.2.mem ((c.tc : Thread Cert.AttnNormRefIdeal.nD Cert.AttnNormRefIdeal.τ).loc Cert.AttnNormRefIdeal.main_arg0) = m' ((c.tc : Thread Cert.AttnNormRefIdeal.nD Cert.AttnNormRefIdeal.τ).loc Cert.AttnNormRefIdeal.main_arg0)
          ∧ r.2.mem ((c.tc : Thread Cert.AttnNormRefIdeal.nD Cert.AttnNormRefIdeal.τ).loc Cert.AttnNormRefIdeal.main_arg1) = m' ((c.tc : Thread Cert.AttnNormRefIdeal.nD Cert.AttnNormRefIdeal.τ).loc Cert.AttnNormRefIdeal.main_arg1)
          ∧ r.2.mem ((c.tc : Thread Cert.AttnNormRefIdeal.nD Cert.AttnNormRefIdeal.τ).loc Cert.AttnNormRefIdeal.main_arg2) = m' ((c.tc : Thread Cert.AttnNormRefIdeal.nD Cert.AttnNormRefIdeal.τ).loc Cert.AttnNormRefIdeal.main_arg2))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamWIn_AdamWInIdeal : Prop :=
  True

def algebraic_AdamWInIdeal_AdamWInRefIdeal [hAdamWInIdeal : Cert.AdamWInIdeal.Facts] [hAdamWInRefIdeal : Cert.AdamWInRefIdeal.Facts] [hPre_w_in_device : Cert.Pre_w_in_device.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)
      ∧ m' ((c.tc : Thread Cert.AdamWInRefIdeal.nD Cert.AdamWInRefIdeal.τ).loc Cert.AdamWInRefIdeal.main_arg4) = m ((c.tc : Thread Cert.AdamWInIdeal.nD Cert.AdamWInIdeal.τ).loc Cert.AdamWInIdeal.main_arg4)
      ∧ m' ((c.tc : Thread Cert.AdamWInRefIdeal.nD Cert.AdamWInRefIdeal.τ).loc Cert.AdamWInRefIdeal.main_arg5) = m ((c.tc : Thread Cert.AdamWInIdeal.nD Cert.AdamWInIdeal.τ).loc Cert.AdamWInIdeal.main_arg5)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)) (v3 : (c : Dev Cert.AdamWInIdeal.nD) → Buf (Elt Ideal) ((c.tc : Thread Cert.AdamWInIdeal.nD Cert.AdamWInIdeal.τ).loc Cert.AdamWInIdeal.main_v0_3)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_v0_3) = v3 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3)
          ∧ r.2.mem ((c.tc : Thread Cert.AdamWInIdeal.nD Cert.AdamWInIdeal.τ).loc Cert.AdamWInIdeal.main_arg4) = m ((c.tc : Thread Cert.AdamWInIdeal.nD Cert.AdamWInIdeal.τ).loc Cert.AdamWInIdeal.main_arg4)
          ∧ r.2.mem ((c.tc : Thread Cert.AdamWInIdeal.nD Cert.AdamWInIdeal.τ).loc Cert.AdamWInIdeal.main_arg5) = m ((c.tc : Thread Cert.AdamWInIdeal.nD Cert.AdamWInIdeal.τ).loc Cert.AdamWInIdeal.main_arg5))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v9) = v0 c
          ∧ r.2.mem ((c.tc : Thread Cert.AdamWInRefIdeal.nD Cert.AdamWInRefIdeal.τ).loc Cert.AdamWInRefIdeal.main_v33) = v1 c
          ∧ r.2.mem ((c.tc : Thread Cert.AdamWInRefIdeal.nD Cert.AdamWInRefIdeal.τ).loc Cert.AdamWInRefIdeal.main_v14) = v2 c
          ∧ r.2.mem ((c.tc : Thread Cert.AdamWInRefIdeal.nD Cert.AdamWInRefIdeal.τ).loc Cert.AdamWInRefIdeal.main_v20) = v3 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3)
          ∧ r.2.mem ((c.tc : Thread Cert.AdamWInRefIdeal.nD Cert.AdamWInRefIdeal.τ).loc Cert.AdamWInRefIdeal.main_arg4) = m' ((c.tc : Thread Cert.AdamWInRefIdeal.nD Cert.AdamWInRefIdeal.τ).loc Cert.AdamWInRefIdeal.main_arg4)
          ∧ r.2.mem ((c.tc : Thread Cert.AdamWInRefIdeal.nD Cert.AdamWInRefIdeal.τ).loc Cert.AdamWInRefIdeal.main_arg5) = m' ((c.tc : Thread Cert.AdamWInRefIdeal.nD Cert.AdamWInRefIdeal.τ).loc Cert.AdamWInRefIdeal.main_arg5))

def preserves_AdamWGlu_AdamWGluIdeal : Prop :=
  True

def algebraic_AdamWGluIdeal_AdamWGluRefIdeal [hAdamWGluIdeal : Cert.AdamWGluIdeal.Facts] [hAdamWGluRefIdeal : Cert.AdamWGluRefIdeal.Facts] [hPre_w_glu_device : Cert.Pre_w_glu_device.Facts] : Prop :=
  ∀ (m : (ℓ : Loc Cert.AdamWGluIdeal.nD Cert.AdamWGluIdeal.τ Cert.AdamWGluIdeal.sig) → Buf (Elt Ideal) ℓ) (g : Dev Cert.AdamWGluIdeal.nD → PrngReg)
    (m' : (ℓ : Loc Cert.AdamWGluRefIdeal.nD Cert.AdamWGluRefIdeal.τ Cert.AdamWGluRefIdeal.sig) → Buf (Elt Ideal) ℓ) (g' : Dev Cert.AdamWGluRefIdeal.nD → PrngReg), Pre_AdamWGluIdeal m →
    (∀ c : Dev Cert.AdamWGluIdeal.nD,
      m' ((c.tc : Thread Cert.AdamWGluRefIdeal.nD Cert.AdamWGluRefIdeal.τ).loc Cert.AdamWGluRefIdeal.main_arg0) = m ((c.tc : Thread Cert.AdamWGluIdeal.nD Cert.AdamWGluIdeal.τ).loc Cert.AdamWGluIdeal.main_arg0)
      ∧ m' ((c.tc : Thread Cert.AdamWGluRefIdeal.nD Cert.AdamWGluRefIdeal.τ).loc Cert.AdamWGluRefIdeal.main_arg1) = m ((c.tc : Thread Cert.AdamWGluIdeal.nD Cert.AdamWGluIdeal.τ).loc Cert.AdamWGluIdeal.main_arg1)
      ∧ m' ((c.tc : Thread Cert.AdamWGluRefIdeal.nD Cert.AdamWGluRefIdeal.τ).loc Cert.AdamWGluRefIdeal.main_arg2) = m ((c.tc : Thread Cert.AdamWGluIdeal.nD Cert.AdamWGluIdeal.τ).loc Cert.AdamWGluIdeal.main_arg2)
      ∧ m' ((c.tc : Thread Cert.AdamWGluRefIdeal.nD Cert.AdamWGluRefIdeal.τ).loc Cert.AdamWGluRefIdeal.main_arg3) = m ((c.tc : Thread Cert.AdamWGluIdeal.nD Cert.AdamWGluIdeal.τ).loc Cert.AdamWGluIdeal.main_arg3)
      ∧ m' ((c.tc : Thread Cert.AdamWGluRefIdeal.nD Cert.AdamWGluRefIdeal.τ).loc Cert.AdamWGluRefIdeal.main_arg4) = m ((c.tc : Thread Cert.AdamWGluIdeal.nD Cert.AdamWGluIdeal.τ).loc Cert.AdamWGluIdeal.main_arg4)
      ∧ m' ((c.tc : Thread Cert.AdamWGluRefIdeal.nD Cert.AdamWGluRefIdeal.τ).loc Cert.AdamWGluRefIdeal.main_arg5) = m ((c.tc : Thread Cert.AdamWGluIdeal.nD Cert.AdamWGluIdeal.τ).loc Cert.AdamWGluIdeal.main_arg5)) →
    ∃ (v0 : (c : Dev Cert.AdamWGluIdeal.nD) → Buf (Elt Ideal) ((c.tc : Thread Cert.AdamWGluIdeal.nD Cert.AdamWGluIdeal.τ).loc Cert.AdamWGluIdeal.main_v0_0)) (v1 : (c : Dev Cert.AdamWGluIdeal.nD) → Buf (Elt Ideal) ((c.tc : Thread Cert.AdamWGluIdeal.nD Cert.AdamWGluIdeal.τ).loc Cert.AdamWGluIdeal.main_v0_1)) (v2 : (c : Dev Cert.AdamWGluIdeal.nD) → Buf (Elt Ideal) ((c.tc : Thread Cert.AdamWGluIdeal.nD Cert.AdamWGluIdeal.τ).loc Cert.AdamWGluIdeal.main_v0_2)) (v3 : (c : Dev Cert.AdamWGluIdeal.nD) → Buf (Elt Ideal) ((c.tc : Thread Cert.AdamWGluIdeal.nD Cert.AdamWGluIdeal.τ).loc Cert.AdamWGluIdeal.main_v0_3)),
      θ_run (Cert.AdamWGluIdeal.defs (F := Ideal)) (onTc (τ := Cert.AdamWGluIdeal.τ) (Cert.AdamWGluIdeal.main (F := Ideal))) ⟨m, fun _ => 0, g⟩ (fun r => ∀ c : Dev Cert.AdamWGluIdeal.nD,
          r.2.mem ((c.tc : Thread Cert.AdamWGluIdeal.nD Cert.AdamWGluIdeal.τ).loc Cert.AdamWGluIdeal.main_v0_0) = v0 c
          ∧ r.2.mem ((c.tc : Thread Cert.AdamWGluIdeal.nD Cert.AdamWGluIdeal.τ).loc Cert.AdamWGluIdeal.main_v0_1) = v1 c
          ∧ r.2.mem ((c.tc : Thread Cert.AdamWGluIdeal.nD Cert.AdamWGluIdeal.τ).loc Cert.AdamWGluIdeal.main_v0_2) = v2 c
          ∧ r.2.mem ((c.tc : Thread Cert.AdamWGluIdeal.nD Cert.AdamWGluIdeal.τ).loc Cert.AdamWGluIdeal.main_v0_3) = v3 c
          ∧ r.2.mem ((c.tc : Thread Cert.AdamWGluIdeal.nD Cert.AdamWGluIdeal.τ).loc Cert.AdamWGluIdeal.main_arg0) = m ((c.tc : Thread Cert.AdamWGluIdeal.nD Cert.AdamWGluIdeal.τ).loc Cert.AdamWGluIdeal.main_arg0)
          ∧ r.2.mem ((c.tc : Thread Cert.AdamWGluIdeal.nD Cert.AdamWGluIdeal.τ).loc Cert.AdamWGluIdeal.main_arg1) = m ((c.tc : Thread Cert.AdamWGluIdeal.nD Cert.AdamWGluIdeal.τ).loc Cert.AdamWGluIdeal.main_arg1)
          ∧ r.2.mem ((c.tc : Thread Cert.AdamWGluIdeal.nD Cert.AdamWGluIdeal.τ).loc Cert.AdamWGluIdeal.main_arg2) = m ((c.tc : Thread Cert.AdamWGluIdeal.nD Cert.AdamWGluIdeal.τ).loc Cert.AdamWGluIdeal.main_arg2)
          ∧ r.2.mem ((c.tc : Thread Cert.AdamWGluIdeal.nD Cert.AdamWGluIdeal.τ).loc Cert.AdamWGluIdeal.main_arg3) = m ((c.tc : Thread Cert.AdamWGluIdeal.nD Cert.AdamWGluIdeal.τ).loc Cert.AdamWGluIdeal.main_arg3)
          ∧ r.2.mem ((c.tc : Thread Cert.AdamWGluIdeal.nD Cert.AdamWGluIdeal.τ).loc Cert.AdamWGluIdeal.main_arg4) = m ((c.tc : Thread Cert.AdamWGluIdeal.nD Cert.AdamWGluIdeal.τ).loc Cert.AdamWGluIdeal.main_arg4)
          ∧ r.2.mem ((c.tc : Thread Cert.AdamWGluIdeal.nD Cert.AdamWGluIdeal.τ).loc Cert.AdamWGluIdeal.main_arg5) = m ((c.tc : Thread Cert.AdamWGluIdeal.nD Cert.AdamWGluIdeal.τ).loc Cert.AdamWGluIdeal.main_arg5))
      ∧ θ_run (Cert.AdamWGluRefIdeal.defs (F := Ideal)) (onTc (τ := Cert.AdamWGluRefIdeal.τ) (Cert.AdamWGluRefIdeal.main (F := Ideal))) ⟨m', fun _ => 0, g'⟩ (fun r => ∀ c : Dev Cert.AdamWGluRefIdeal.nD,
          r.2.mem ((c.tc : Thread Cert.AdamWGluRefIdeal.nD Cert.AdamWGluRefIdeal.τ).loc Cert.AdamWGluRefIdeal.main_v9) = v0 c
          ∧ r.2.mem ((c.tc : Thread Cert.AdamWGluRefIdeal.nD Cert.AdamWGluRefIdeal.τ).loc Cert.AdamWGluRefIdeal.main_v33) = v1 c
          ∧ r.2.mem ((c.tc : Thread Cert.AdamWGluRefIdeal.nD Cert.AdamWGluRefIdeal.τ).loc Cert.AdamWGluRefIdeal.main_v14) = v2 c
          ∧ r.2.mem ((c.tc : Thread Cert.AdamWGluRefIdeal.nD Cert.AdamWGluRefIdeal.τ).loc Cert.AdamWGluRefIdeal.main_v20) = v3 c
          ∧ r.2.mem ((c.tc : Thread Cert.AdamWGluRefIdeal.nD Cert.AdamWGluRefIdeal.τ).loc Cert.AdamWGluRefIdeal.main_arg0) = m' ((c.tc : Thread Cert.AdamWGluRefIdeal.nD Cert.AdamWGluRefIdeal.τ).loc Cert.AdamWGluRefIdeal.main_arg0)
          ∧ r.2.mem ((c.tc : Thread Cert.AdamWGluRefIdeal.nD Cert.AdamWGluRefIdeal.τ).loc Cert.AdamWGluRefIdeal.main_arg1) = m' ((c.tc : Thread Cert.AdamWGluRefIdeal.nD Cert.AdamWGluRefIdeal.τ).loc Cert.AdamWGluRefIdeal.main_arg1)
          ∧ r.2.mem ((c.tc : Thread Cert.AdamWGluRefIdeal.nD Cert.AdamWGluRefIdeal.τ).loc Cert.AdamWGluRefIdeal.main_arg2) = m' ((c.tc : Thread Cert.AdamWGluRefIdeal.nD Cert.AdamWGluRefIdeal.τ).loc Cert.AdamWGluRefIdeal.main_arg2)
          ∧ r.2.mem ((c.tc : Thread Cert.AdamWGluRefIdeal.nD Cert.AdamWGluRefIdeal.τ).loc Cert.AdamWGluRefIdeal.main_arg3) = m' ((c.tc : Thread Cert.AdamWGluRefIdeal.nD Cert.AdamWGluRefIdeal.τ).loc Cert.AdamWGluRefIdeal.main_arg3)
          ∧ r.2.mem ((c.tc : Thread Cert.AdamWGluRefIdeal.nD Cert.AdamWGluRefIdeal.τ).loc Cert.AdamWGluRefIdeal.main_arg4) = m' ((c.tc : Thread Cert.AdamWGluRefIdeal.nD Cert.AdamWGluRefIdeal.τ).loc Cert.AdamWGluRefIdeal.main_arg4)
          ∧ r.2.mem ((c.tc : Thread Cert.AdamWGluRefIdeal.nD Cert.AdamWGluRefIdeal.τ).loc Cert.AdamWGluRefIdeal.main_arg5) = m' ((c.tc : Thread Cert.AdamWGluRefIdeal.nD Cert.AdamWGluRefIdeal.τ).loc Cert.AdamWGluRefIdeal.main_arg5))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] [hPre_w_out_device : Cert.Pre_w_out_device.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)
      ∧ m' ((c.tc : Thread Cert.AdamWOutRefIdeal.nD Cert.AdamWOutRefIdeal.τ).loc Cert.AdamWOutRefIdeal.main_arg4) = m ((c.tc : Thread Cert.AdamWOutIdeal.nD Cert.AdamWOutIdeal.τ).loc Cert.AdamWOutIdeal.main_arg4)
      ∧ m' ((c.tc : Thread Cert.AdamWOutRefIdeal.nD Cert.AdamWOutRefIdeal.τ).loc Cert.AdamWOutRefIdeal.main_arg5) = m ((c.tc : Thread Cert.AdamWOutIdeal.nD Cert.AdamWOutIdeal.τ).loc Cert.AdamWOutIdeal.main_arg5)) →
    ∃ (v0 : (c : Dev Cert.AdamWOutIdeal.nD) → Buf (Elt Ideal) ((c.tc : Thread Cert.AdamWOutIdeal.nD Cert.AdamWOutIdeal.τ).loc Cert.AdamWOutIdeal.main_v0_0)) (v1 : (c : Dev Cert.AdamWOutIdeal.nD) → Buf (Elt Ideal) ((c.tc : Thread Cert.AdamWOutIdeal.nD Cert.AdamWOutIdeal.τ).loc Cert.AdamWOutIdeal.main_v0_1)) (v2 : (c : Dev Cert.AdamWOutIdeal.nD) → Buf (Elt Ideal) ((c.tc : Thread Cert.AdamWOutIdeal.nD Cert.AdamWOutIdeal.τ).loc Cert.AdamWOutIdeal.main_v0_2)) (v3 : (c : Dev Cert.AdamWOutIdeal.nD) → Buf (Elt Ideal) ((c.tc : Thread Cert.AdamWOutIdeal.nD Cert.AdamWOutIdeal.τ).loc Cert.AdamWOutIdeal.main_v0_3)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v0_0) = v0 c
          ∧ r.2.mem ((c.tc : Thread Cert.AdamWOutIdeal.nD Cert.AdamWOutIdeal.τ).loc Cert.AdamWOutIdeal.main_v0_1) = v1 c
          ∧ r.2.mem ((c.tc : Thread Cert.AdamWOutIdeal.nD Cert.AdamWOutIdeal.τ).loc Cert.AdamWOutIdeal.main_v0_2) = v2 c
          ∧ r.2.mem ((c.tc : Thread Cert.AdamWOutIdeal.nD Cert.AdamWOutIdeal.τ).loc Cert.AdamWOutIdeal.main_v0_3) = v3 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3)
          ∧ r.2.mem ((c.tc : Thread Cert.AdamWOutIdeal.nD Cert.AdamWOutIdeal.τ).loc Cert.AdamWOutIdeal.main_arg4) = m ((c.tc : Thread Cert.AdamWOutIdeal.nD Cert.AdamWOutIdeal.τ).loc Cert.AdamWOutIdeal.main_arg4)
          ∧ r.2.mem ((c.tc : Thread Cert.AdamWOutIdeal.nD Cert.AdamWOutIdeal.τ).loc Cert.AdamWOutIdeal.main_arg5) = m ((c.tc : Thread Cert.AdamWOutIdeal.nD Cert.AdamWOutIdeal.τ).loc Cert.AdamWOutIdeal.main_arg5))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v9) = v0 c
          ∧ r.2.mem ((c.tc : Thread Cert.AdamWOutRefIdeal.nD Cert.AdamWOutRefIdeal.τ).loc Cert.AdamWOutRefIdeal.main_v33) = v1 c
          ∧ r.2.mem ((c.tc : Thread Cert.AdamWOutRefIdeal.nD Cert.AdamWOutRefIdeal.τ).loc Cert.AdamWOutRefIdeal.main_v14) = v2 c
          ∧ r.2.mem ((c.tc : Thread Cert.AdamWOutRefIdeal.nD Cert.AdamWOutRefIdeal.τ).loc Cert.AdamWOutRefIdeal.main_v20) = v3 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3)
          ∧ r.2.mem ((c.tc : Thread Cert.AdamWOutRefIdeal.nD Cert.AdamWOutRefIdeal.τ).loc Cert.AdamWOutRefIdeal.main_arg4) = m' ((c.tc : Thread Cert.AdamWOutRefIdeal.nD Cert.AdamWOutRefIdeal.τ).loc Cert.AdamWOutRefIdeal.main_arg4)
          ∧ r.2.mem ((c.tc : Thread Cert.AdamWOutRefIdeal.nD Cert.AdamWOutRefIdeal.τ).loc Cert.AdamWOutRefIdeal.main_arg5) = m' ((c.tc : Thread Cert.AdamWOutRefIdeal.nD Cert.AdamWOutRefIdeal.τ).loc Cert.AdamWOutRefIdeal.main_arg5))

def preserves_AdamWMlpIn_AdamWMlpInIdeal : Prop :=
  True

def algebraic_AdamWMlpInIdeal_AdamWMlpInRefIdeal [hAdamWMlpInIdeal : Cert.AdamWMlpInIdeal.Facts] [hAdamWMlpInRefIdeal : Cert.AdamWMlpInRefIdeal.Facts] [hPre_w_mlp_in_device : Cert.Pre_w_mlp_in_device.Facts] : Prop :=
  ∀ (m : (ℓ : Loc Cert.AdamWMlpInIdeal.nD Cert.AdamWMlpInIdeal.τ Cert.AdamWMlpInIdeal.sig) → Buf (Elt Ideal) ℓ) (g : Dev Cert.AdamWMlpInIdeal.nD → PrngReg)
    (m' : (ℓ : Loc Cert.AdamWMlpInRefIdeal.nD Cert.AdamWMlpInRefIdeal.τ Cert.AdamWMlpInRefIdeal.sig) → Buf (Elt Ideal) ℓ) (g' : Dev Cert.AdamWMlpInRefIdeal.nD → PrngReg), Pre_AdamWMlpInIdeal m →
    (∀ c : Dev Cert.AdamWMlpInIdeal.nD,
      m' ((c.tc : Thread Cert.AdamWMlpInRefIdeal.nD Cert.AdamWMlpInRefIdeal.τ).loc Cert.AdamWMlpInRefIdeal.main_arg0) = m ((c.tc : Thread Cert.AdamWMlpInIdeal.nD Cert.AdamWMlpInIdeal.τ).loc Cert.AdamWMlpInIdeal.main_arg0)
      ∧ m' ((c.tc : Thread Cert.AdamWMlpInRefIdeal.nD Cert.AdamWMlpInRefIdeal.τ).loc Cert.AdamWMlpInRefIdeal.main_arg1) = m ((c.tc : Thread Cert.AdamWMlpInIdeal.nD Cert.AdamWMlpInIdeal.τ).loc Cert.AdamWMlpInIdeal.main_arg1)
      ∧ m' ((c.tc : Thread Cert.AdamWMlpInRefIdeal.nD Cert.AdamWMlpInRefIdeal.τ).loc Cert.AdamWMlpInRefIdeal.main_arg2) = m ((c.tc : Thread Cert.AdamWMlpInIdeal.nD Cert.AdamWMlpInIdeal.τ).loc Cert.AdamWMlpInIdeal.main_arg2)
      ∧ m' ((c.tc : Thread Cert.AdamWMlpInRefIdeal.nD Cert.AdamWMlpInRefIdeal.τ).loc Cert.AdamWMlpInRefIdeal.main_arg3) = m ((c.tc : Thread Cert.AdamWMlpInIdeal.nD Cert.AdamWMlpInIdeal.τ).loc Cert.AdamWMlpInIdeal.main_arg3)
      ∧ m' ((c.tc : Thread Cert.AdamWMlpInRefIdeal.nD Cert.AdamWMlpInRefIdeal.τ).loc Cert.AdamWMlpInRefIdeal.main_arg4) = m ((c.tc : Thread Cert.AdamWMlpInIdeal.nD Cert.AdamWMlpInIdeal.τ).loc Cert.AdamWMlpInIdeal.main_arg4)
      ∧ m' ((c.tc : Thread Cert.AdamWMlpInRefIdeal.nD Cert.AdamWMlpInRefIdeal.τ).loc Cert.AdamWMlpInRefIdeal.main_arg5) = m ((c.tc : Thread Cert.AdamWMlpInIdeal.nD Cert.AdamWMlpInIdeal.τ).loc Cert.AdamWMlpInIdeal.main_arg5)) →
    ∃ (v0 : (c : Dev Cert.AdamWMlpInIdeal.nD) → Buf (Elt Ideal) ((c.tc : Thread Cert.AdamWMlpInIdeal.nD Cert.AdamWMlpInIdeal.τ).loc Cert.AdamWMlpInIdeal.main_v0_0)) (v1 : (c : Dev Cert.AdamWMlpInIdeal.nD) → Buf (Elt Ideal) ((c.tc : Thread Cert.AdamWMlpInIdeal.nD Cert.AdamWMlpInIdeal.τ).loc Cert.AdamWMlpInIdeal.main_v0_1)) (v2 : (c : Dev Cert.AdamWMlpInIdeal.nD) → Buf (Elt Ideal) ((c.tc : Thread Cert.AdamWMlpInIdeal.nD Cert.AdamWMlpInIdeal.τ).loc Cert.AdamWMlpInIdeal.main_v0_2)) (v3 : (c : Dev Cert.AdamWMlpInIdeal.nD) → Buf (Elt Ideal) ((c.tc : Thread Cert.AdamWMlpInIdeal.nD Cert.AdamWMlpInIdeal.τ).loc Cert.AdamWMlpInIdeal.main_v0_3)),
      θ_run (Cert.AdamWMlpInIdeal.defs (F := Ideal)) (onTc (τ := Cert.AdamWMlpInIdeal.τ) (Cert.AdamWMlpInIdeal.main (F := Ideal))) ⟨m, fun _ => 0, g⟩ (fun r => ∀ c : Dev Cert.AdamWMlpInIdeal.nD,
          r.2.mem ((c.tc : Thread Cert.AdamWMlpInIdeal.nD Cert.AdamWMlpInIdeal.τ).loc Cert.AdamWMlpInIdeal.main_v0_0) = v0 c
          ∧ r.2.mem ((c.tc : Thread Cert.AdamWMlpInIdeal.nD Cert.AdamWMlpInIdeal.τ).loc Cert.AdamWMlpInIdeal.main_v0_1) = v1 c
          ∧ r.2.mem ((c.tc : Thread Cert.AdamWMlpInIdeal.nD Cert.AdamWMlpInIdeal.τ).loc Cert.AdamWMlpInIdeal.main_v0_2) = v2 c
          ∧ r.2.mem ((c.tc : Thread Cert.AdamWMlpInIdeal.nD Cert.AdamWMlpInIdeal.τ).loc Cert.AdamWMlpInIdeal.main_v0_3) = v3 c
          ∧ r.2.mem ((c.tc : Thread Cert.AdamWMlpInIdeal.nD Cert.AdamWMlpInIdeal.τ).loc Cert.AdamWMlpInIdeal.main_arg0) = m ((c.tc : Thread Cert.AdamWMlpInIdeal.nD Cert.AdamWMlpInIdeal.τ).loc Cert.AdamWMlpInIdeal.main_arg0)
          ∧ r.2.mem ((c.tc : Thread Cert.AdamWMlpInIdeal.nD Cert.AdamWMlpInIdeal.τ).loc Cert.AdamWMlpInIdeal.main_arg1) = m ((c.tc : Thread Cert.AdamWMlpInIdeal.nD Cert.AdamWMlpInIdeal.τ).loc Cert.AdamWMlpInIdeal.main_arg1)
          ∧ r.2.mem ((c.tc : Thread Cert.AdamWMlpInIdeal.nD Cert.AdamWMlpInIdeal.τ).loc Cert.AdamWMlpInIdeal.main_arg2) = m ((c.tc : Thread Cert.AdamWMlpInIdeal.nD Cert.AdamWMlpInIdeal.τ).loc Cert.AdamWMlpInIdeal.main_arg2)
          ∧ r.2.mem ((c.tc : Thread Cert.AdamWMlpInIdeal.nD Cert.AdamWMlpInIdeal.τ).loc Cert.AdamWMlpInIdeal.main_arg3) = m ((c.tc : Thread Cert.AdamWMlpInIdeal.nD Cert.AdamWMlpInIdeal.τ).loc Cert.AdamWMlpInIdeal.main_arg3)
          ∧ r.2.mem ((c.tc : Thread Cert.AdamWMlpInIdeal.nD Cert.AdamWMlpInIdeal.τ).loc Cert.AdamWMlpInIdeal.main_arg4) = m ((c.tc : Thread Cert.AdamWMlpInIdeal.nD Cert.AdamWMlpInIdeal.τ).loc Cert.AdamWMlpInIdeal.main_arg4)
          ∧ r.2.mem ((c.tc : Thread Cert.AdamWMlpInIdeal.nD Cert.AdamWMlpInIdeal.τ).loc Cert.AdamWMlpInIdeal.main_arg5) = m ((c.tc : Thread Cert.AdamWMlpInIdeal.nD Cert.AdamWMlpInIdeal.τ).loc Cert.AdamWMlpInIdeal.main_arg5))
      ∧ θ_run (Cert.AdamWMlpInRefIdeal.defs (F := Ideal)) (onTc (τ := Cert.AdamWMlpInRefIdeal.τ) (Cert.AdamWMlpInRefIdeal.main (F := Ideal))) ⟨m', fun _ => 0, g'⟩ (fun r => ∀ c : Dev Cert.AdamWMlpInRefIdeal.nD,
          r.2.mem ((c.tc : Thread Cert.AdamWMlpInRefIdeal.nD Cert.AdamWMlpInRefIdeal.τ).loc Cert.AdamWMlpInRefIdeal.main_v9) = v0 c
          ∧ r.2.mem ((c.tc : Thread Cert.AdamWMlpInRefIdeal.nD Cert.AdamWMlpInRefIdeal.τ).loc Cert.AdamWMlpInRefIdeal.main_v33) = v1 c
          ∧ r.2.mem ((c.tc : Thread Cert.AdamWMlpInRefIdeal.nD Cert.AdamWMlpInRefIdeal.τ).loc Cert.AdamWMlpInRefIdeal.main_v14) = v2 c
          ∧ r.2.mem ((c.tc : Thread Cert.AdamWMlpInRefIdeal.nD Cert.AdamWMlpInRefIdeal.τ).loc Cert.AdamWMlpInRefIdeal.main_v20) = v3 c
          ∧ r.2.mem ((c.tc : Thread Cert.AdamWMlpInRefIdeal.nD Cert.AdamWMlpInRefIdeal.τ).loc Cert.AdamWMlpInRefIdeal.main_arg0) = m' ((c.tc : Thread Cert.AdamWMlpInRefIdeal.nD Cert.AdamWMlpInRefIdeal.τ).loc Cert.AdamWMlpInRefIdeal.main_arg0)
          ∧ r.2.mem ((c.tc : Thread Cert.AdamWMlpInRefIdeal.nD Cert.AdamWMlpInRefIdeal.τ).loc Cert.AdamWMlpInRefIdeal.main_arg1) = m' ((c.tc : Thread Cert.AdamWMlpInRefIdeal.nD Cert.AdamWMlpInRefIdeal.τ).loc Cert.AdamWMlpInRefIdeal.main_arg1)
          ∧ r.2.mem ((c.tc : Thread Cert.AdamWMlpInRefIdeal.nD Cert.AdamWMlpInRefIdeal.τ).loc Cert.AdamWMlpInRefIdeal.main_arg2) = m' ((c.tc : Thread Cert.AdamWMlpInRefIdeal.nD Cert.AdamWMlpInRefIdeal.τ).loc Cert.AdamWMlpInRefIdeal.main_arg2)
          ∧ r.2.mem ((c.tc : Thread Cert.AdamWMlpInRefIdeal.nD Cert.AdamWMlpInRefIdeal.τ).loc Cert.AdamWMlpInRefIdeal.main_arg3) = m' ((c.tc : Thread Cert.AdamWMlpInRefIdeal.nD Cert.AdamWMlpInRefIdeal.τ).loc Cert.AdamWMlpInRefIdeal.main_arg3)
          ∧ r.2.mem ((c.tc : Thread Cert.AdamWMlpInRefIdeal.nD Cert.AdamWMlpInRefIdeal.τ).loc Cert.AdamWMlpInRefIdeal.main_arg4) = m' ((c.tc : Thread Cert.AdamWMlpInRefIdeal.nD Cert.AdamWMlpInRefIdeal.τ).loc Cert.AdamWMlpInRefIdeal.main_arg4)
          ∧ r.2.mem ((c.tc : Thread Cert.AdamWMlpInRefIdeal.nD Cert.AdamWMlpInRefIdeal.τ).loc Cert.AdamWMlpInRefIdeal.main_arg5) = m' ((c.tc : Thread Cert.AdamWMlpInRefIdeal.nD Cert.AdamWMlpInRefIdeal.τ).loc Cert.AdamWMlpInRefIdeal.main_arg5))

def preserves_AdamWMlpOut_AdamWMlpOutIdeal : Prop :=
  True

def algebraic_AdamWMlpOutIdeal_AdamWMlpOutRefIdeal [hAdamWMlpOutIdeal : Cert.AdamWMlpOutIdeal.Facts] [hAdamWMlpOutRefIdeal : Cert.AdamWMlpOutRefIdeal.Facts] [hPre_w_mlp_out_device : Cert.Pre_w_mlp_out_device.Facts] : Prop :=
  ∀ (m : (ℓ : Loc Cert.AdamWMlpOutIdeal.nD Cert.AdamWMlpOutIdeal.τ Cert.AdamWMlpOutIdeal.sig) → Buf (Elt Ideal) ℓ) (g : Dev Cert.AdamWMlpOutIdeal.nD → PrngReg)
    (m' : (ℓ : Loc Cert.AdamWMlpOutRefIdeal.nD Cert.AdamWMlpOutRefIdeal.τ Cert.AdamWMlpOutRefIdeal.sig) → Buf (Elt Ideal) ℓ) (g' : Dev Cert.AdamWMlpOutRefIdeal.nD → PrngReg), Pre_AdamWMlpOutIdeal m →
    (∀ c : Dev Cert.AdamWMlpOutIdeal.nD,
      m' ((c.tc : Thread Cert.AdamWMlpOutRefIdeal.nD Cert.AdamWMlpOutRefIdeal.τ).loc Cert.AdamWMlpOutRefIdeal.main_arg0) = m ((c.tc : Thread Cert.AdamWMlpOutIdeal.nD Cert.AdamWMlpOutIdeal.τ).loc Cert.AdamWMlpOutIdeal.main_arg0)
      ∧ m' ((c.tc : Thread Cert.AdamWMlpOutRefIdeal.nD Cert.AdamWMlpOutRefIdeal.τ).loc Cert.AdamWMlpOutRefIdeal.main_arg1) = m ((c.tc : Thread Cert.AdamWMlpOutIdeal.nD Cert.AdamWMlpOutIdeal.τ).loc Cert.AdamWMlpOutIdeal.main_arg1)
      ∧ m' ((c.tc : Thread Cert.AdamWMlpOutRefIdeal.nD Cert.AdamWMlpOutRefIdeal.τ).loc Cert.AdamWMlpOutRefIdeal.main_arg2) = m ((c.tc : Thread Cert.AdamWMlpOutIdeal.nD Cert.AdamWMlpOutIdeal.τ).loc Cert.AdamWMlpOutIdeal.main_arg2)
      ∧ m' ((c.tc : Thread Cert.AdamWMlpOutRefIdeal.nD Cert.AdamWMlpOutRefIdeal.τ).loc Cert.AdamWMlpOutRefIdeal.main_arg3) = m ((c.tc : Thread Cert.AdamWMlpOutIdeal.nD Cert.AdamWMlpOutIdeal.τ).loc Cert.AdamWMlpOutIdeal.main_arg3)
      ∧ m' ((c.tc : Thread Cert.AdamWMlpOutRefIdeal.nD Cert.AdamWMlpOutRefIdeal.τ).loc Cert.AdamWMlpOutRefIdeal.main_arg4) = m ((c.tc : Thread Cert.AdamWMlpOutIdeal.nD Cert.AdamWMlpOutIdeal.τ).loc Cert.AdamWMlpOutIdeal.main_arg4)
      ∧ m' ((c.tc : Thread Cert.AdamWMlpOutRefIdeal.nD Cert.AdamWMlpOutRefIdeal.τ).loc Cert.AdamWMlpOutRefIdeal.main_arg5) = m ((c.tc : Thread Cert.AdamWMlpOutIdeal.nD Cert.AdamWMlpOutIdeal.τ).loc Cert.AdamWMlpOutIdeal.main_arg5)) →
    ∃ (v0 : (c : Dev Cert.AdamWMlpOutIdeal.nD) → Buf (Elt Ideal) ((c.tc : Thread Cert.AdamWMlpOutIdeal.nD Cert.AdamWMlpOutIdeal.τ).loc Cert.AdamWMlpOutIdeal.main_v0_0)) (v1 : (c : Dev Cert.AdamWMlpOutIdeal.nD) → Buf (Elt Ideal) ((c.tc : Thread Cert.AdamWMlpOutIdeal.nD Cert.AdamWMlpOutIdeal.τ).loc Cert.AdamWMlpOutIdeal.main_v0_1)) (v2 : (c : Dev Cert.AdamWMlpOutIdeal.nD) → Buf (Elt Ideal) ((c.tc : Thread Cert.AdamWMlpOutIdeal.nD Cert.AdamWMlpOutIdeal.τ).loc Cert.AdamWMlpOutIdeal.main_v0_2)) (v3 : (c : Dev Cert.AdamWMlpOutIdeal.nD) → Buf (Elt Ideal) ((c.tc : Thread Cert.AdamWMlpOutIdeal.nD Cert.AdamWMlpOutIdeal.τ).loc Cert.AdamWMlpOutIdeal.main_v0_3)),
      θ_run (Cert.AdamWMlpOutIdeal.defs (F := Ideal)) (onTc (τ := Cert.AdamWMlpOutIdeal.τ) (Cert.AdamWMlpOutIdeal.main (F := Ideal))) ⟨m, fun _ => 0, g⟩ (fun r => ∀ c : Dev Cert.AdamWMlpOutIdeal.nD,
          r.2.mem ((c.tc : Thread Cert.AdamWMlpOutIdeal.nD Cert.AdamWMlpOutIdeal.τ).loc Cert.AdamWMlpOutIdeal.main_v0_0) = v0 c
          ∧ r.2.mem ((c.tc : Thread Cert.AdamWMlpOutIdeal.nD Cert.AdamWMlpOutIdeal.τ).loc Cert.AdamWMlpOutIdeal.main_v0_1) = v1 c
          ∧ r.2.mem ((c.tc : Thread Cert.AdamWMlpOutIdeal.nD Cert.AdamWMlpOutIdeal.τ).loc Cert.AdamWMlpOutIdeal.main_v0_2) = v2 c
          ∧ r.2.mem ((c.tc : Thread Cert.AdamWMlpOutIdeal.nD Cert.AdamWMlpOutIdeal.τ).loc Cert.AdamWMlpOutIdeal.main_v0_3) = v3 c
          ∧ r.2.mem ((c.tc : Thread Cert.AdamWMlpOutIdeal.nD Cert.AdamWMlpOutIdeal.τ).loc Cert.AdamWMlpOutIdeal.main_arg0) = m ((c.tc : Thread Cert.AdamWMlpOutIdeal.nD Cert.AdamWMlpOutIdeal.τ).loc Cert.AdamWMlpOutIdeal.main_arg0)
          ∧ r.2.mem ((c.tc : Thread Cert.AdamWMlpOutIdeal.nD Cert.AdamWMlpOutIdeal.τ).loc Cert.AdamWMlpOutIdeal.main_arg1) = m ((c.tc : Thread Cert.AdamWMlpOutIdeal.nD Cert.AdamWMlpOutIdeal.τ).loc Cert.AdamWMlpOutIdeal.main_arg1)
          ∧ r.2.mem ((c.tc : Thread Cert.AdamWMlpOutIdeal.nD Cert.AdamWMlpOutIdeal.τ).loc Cert.AdamWMlpOutIdeal.main_arg2) = m ((c.tc : Thread Cert.AdamWMlpOutIdeal.nD Cert.AdamWMlpOutIdeal.τ).loc Cert.AdamWMlpOutIdeal.main_arg2)
          ∧ r.2.mem ((c.tc : Thread Cert.AdamWMlpOutIdeal.nD Cert.AdamWMlpOutIdeal.τ).loc Cert.AdamWMlpOutIdeal.main_arg3) = m ((c.tc : Thread Cert.AdamWMlpOutIdeal.nD Cert.AdamWMlpOutIdeal.τ).loc Cert.AdamWMlpOutIdeal.main_arg3)
          ∧ r.2.mem ((c.tc : Thread Cert.AdamWMlpOutIdeal.nD Cert.AdamWMlpOutIdeal.τ).loc Cert.AdamWMlpOutIdeal.main_arg4) = m ((c.tc : Thread Cert.AdamWMlpOutIdeal.nD Cert.AdamWMlpOutIdeal.τ).loc Cert.AdamWMlpOutIdeal.main_arg4)
          ∧ r.2.mem ((c.tc : Thread Cert.AdamWMlpOutIdeal.nD Cert.AdamWMlpOutIdeal.τ).loc Cert.AdamWMlpOutIdeal.main_arg5) = m ((c.tc : Thread Cert.AdamWMlpOutIdeal.nD Cert.AdamWMlpOutIdeal.τ).loc Cert.AdamWMlpOutIdeal.main_arg5))
      ∧ θ_run (Cert.AdamWMlpOutRefIdeal.defs (F := Ideal)) (onTc (τ := Cert.AdamWMlpOutRefIdeal.τ) (Cert.AdamWMlpOutRefIdeal.main (F := Ideal))) ⟨m', fun _ => 0, g'⟩ (fun r => ∀ c : Dev Cert.AdamWMlpOutRefIdeal.nD,
          r.2.mem ((c.tc : Thread Cert.AdamWMlpOutRefIdeal.nD Cert.AdamWMlpOutRefIdeal.τ).loc Cert.AdamWMlpOutRefIdeal.main_v9) = v0 c
          ∧ r.2.mem ((c.tc : Thread Cert.AdamWMlpOutRefIdeal.nD Cert.AdamWMlpOutRefIdeal.τ).loc Cert.AdamWMlpOutRefIdeal.main_v33) = v1 c
          ∧ r.2.mem ((c.tc : Thread Cert.AdamWMlpOutRefIdeal.nD Cert.AdamWMlpOutRefIdeal.τ).loc Cert.AdamWMlpOutRefIdeal.main_v14) = v2 c
          ∧ r.2.mem ((c.tc : Thread Cert.AdamWMlpOutRefIdeal.nD Cert.AdamWMlpOutRefIdeal.τ).loc Cert.AdamWMlpOutRefIdeal.main_v20) = v3 c
          ∧ r.2.mem ((c.tc : Thread Cert.AdamWMlpOutRefIdeal.nD Cert.AdamWMlpOutRefIdeal.τ).loc Cert.AdamWMlpOutRefIdeal.main_arg0) = m' ((c.tc : Thread Cert.AdamWMlpOutRefIdeal.nD Cert.AdamWMlpOutRefIdeal.τ).loc Cert.AdamWMlpOutRefIdeal.main_arg0)
          ∧ r.2.mem ((c.tc : Thread Cert.AdamWMlpOutRefIdeal.nD Cert.AdamWMlpOutRefIdeal.τ).loc Cert.AdamWMlpOutRefIdeal.main_arg1) = m' ((c.tc : Thread Cert.AdamWMlpOutRefIdeal.nD Cert.AdamWMlpOutRefIdeal.τ).loc Cert.AdamWMlpOutRefIdeal.main_arg1)
          ∧ r.2.mem ((c.tc : Thread Cert.AdamWMlpOutRefIdeal.nD Cert.AdamWMlpOutRefIdeal.τ).loc Cert.AdamWMlpOutRefIdeal.main_arg2) = m' ((c.tc : Thread Cert.AdamWMlpOutRefIdeal.nD Cert.AdamWMlpOutRefIdeal.τ).loc Cert.AdamWMlpOutRefIdeal.main_arg2)
          ∧ r.2.mem ((c.tc : Thread Cert.AdamWMlpOutRefIdeal.nD Cert.AdamWMlpOutRefIdeal.τ).loc Cert.AdamWMlpOutRefIdeal.main_arg3) = m' ((c.tc : Thread Cert.AdamWMlpOutRefIdeal.nD Cert.AdamWMlpOutRefIdeal.τ).loc Cert.AdamWMlpOutRefIdeal.main_arg3)
          ∧ r.2.mem ((c.tc : Thread Cert.AdamWMlpOutRefIdeal.nD Cert.AdamWMlpOutRefIdeal.τ).loc Cert.AdamWMlpOutRefIdeal.main_arg4) = m' ((c.tc : Thread Cert.AdamWMlpOutRefIdeal.nD Cert.AdamWMlpOutRefIdeal.τ).loc Cert.AdamWMlpOutRefIdeal.main_arg4)
          ∧ r.2.mem ((c.tc : Thread Cert.AdamWMlpOutRefIdeal.nD Cert.AdamWMlpOutRefIdeal.τ).loc Cert.AdamWMlpOutRefIdeal.main_arg5) = m' ((c.tc : Thread Cert.AdamWMlpOutRefIdeal.nD Cert.AdamWMlpOutRefIdeal.τ).loc Cert.AdamWMlpOutRefIdeal.main_arg5))

def preserves_Proj_ProjIdeal : Prop :=
  True

def algebraic_ProjIdeal_ProjRefIdeal [hProjIdeal : Cert.ProjIdeal.Facts] [hProjRefIdeal : Cert.ProjRefIdeal.Facts] [hPre_finite_inputs : Cert.Pre_finite_inputs.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v12_0)) (v1 : (c : Dev Cert.ProjIdeal.nD) → Buf (Elt Ideal) ((c.tc : Thread Cert.ProjIdeal.nD Cert.ProjIdeal.τ).loc Cert.ProjIdeal.main_v12_1)) (v2 : (c : Dev Cert.ProjIdeal.nD) → Buf (Elt Ideal) ((c.tc : Thread Cert.ProjIdeal.nD Cert.ProjIdeal.τ).loc Cert.ProjIdeal.main_v12_2)) (v3 : (c : Dev Cert.ProjIdeal.nD) → Buf (Elt Ideal) ((c.tc : Thread Cert.ProjIdeal.nD Cert.ProjIdeal.τ).loc Cert.ProjIdeal.main_v12_3)) (v4 : (c : Dev Cert.ProjIdeal.nD) → Buf (Elt Ideal) ((c.tc : Thread Cert.ProjIdeal.nD Cert.ProjIdeal.τ).loc Cert.ProjIdeal.main_v12_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v12_0) = v0 c
          ∧ r.2.mem ((c.tc : Thread Cert.ProjIdeal.nD Cert.ProjIdeal.τ).loc Cert.ProjIdeal.main_v12_1) = v1 c
          ∧ r.2.mem ((c.tc : Thread Cert.ProjIdeal.nD Cert.ProjIdeal.τ).loc Cert.ProjIdeal.main_v12_2) = v2 c
          ∧ r.2.mem ((c.tc : Thread Cert.ProjIdeal.nD Cert.ProjIdeal.τ).loc Cert.ProjIdeal.main_v12_3) = v3 c
          ∧ r.2.mem ((c.tc : Thread Cert.ProjIdeal.nD Cert.ProjIdeal.τ).loc Cert.ProjIdeal.main_v12_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v13) = v0 c
          ∧ r.2.mem ((c.tc : Thread Cert.ProjRefIdeal.nD Cert.ProjRefIdeal.τ).loc Cert.ProjRefIdeal.main_v48) = v1 c
          ∧ r.2.mem ((c.tc : Thread Cert.ProjRefIdeal.nD Cert.ProjRefIdeal.τ).loc Cert.ProjRefIdeal.main_v50) = v2 c
          ∧ r.2.mem ((c.tc : Thread Cert.ProjRefIdeal.nD Cert.ProjRefIdeal.τ).loc Cert.ProjRefIdeal.main_v51) = v3 c
          ∧ r.2.mem ((c.tc : Thread Cert.ProjRefIdeal.nD Cert.ProjRefIdeal.τ).loc Cert.ProjRefIdeal.main_v52) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)
      ∧ m' ((c.tc : Thread Cert.SmallRefIdeal.nD Cert.SmallRefIdeal.τ).loc Cert.SmallRefIdeal.main_arg4) = m ((c.tc : Thread Cert.SmallIdeal.nD Cert.SmallIdeal.τ).loc Cert.SmallIdeal.main_arg4)
      ∧ m' ((c.tc : Thread Cert.SmallRefIdeal.nD Cert.SmallRefIdeal.τ).loc Cert.SmallRefIdeal.main_arg5) = m ((c.tc : Thread Cert.SmallIdeal.nD Cert.SmallIdeal.τ).loc Cert.SmallIdeal.main_arg5)
      ∧ m' ((c.tc : Thread Cert.SmallRefIdeal.nD Cert.SmallRefIdeal.τ).loc Cert.SmallRefIdeal.main_arg6) = m ((c.tc : Thread Cert.SmallIdeal.nD Cert.SmallIdeal.τ).loc Cert.SmallIdeal.main_arg6)
      ∧ m' ((c.tc : Thread Cert.SmallRefIdeal.nD Cert.SmallRefIdeal.τ).loc Cert.SmallRefIdeal.main_arg7) = m ((c.tc : Thread Cert.SmallIdeal.nD Cert.SmallIdeal.τ).loc Cert.SmallIdeal.main_arg7)
      ∧ m' ((c.tc : Thread Cert.SmallRefIdeal.nD Cert.SmallRefIdeal.τ).loc Cert.SmallRefIdeal.main_arg8) = m ((c.tc : Thread Cert.SmallIdeal.nD Cert.SmallIdeal.τ).loc Cert.SmallIdeal.main_arg8)
      ∧ m' ((c.tc : Thread Cert.SmallRefIdeal.nD Cert.SmallRefIdeal.τ).loc Cert.SmallRefIdeal.main_arg9) = m ((c.tc : Thread Cert.SmallIdeal.nD Cert.SmallIdeal.τ).loc Cert.SmallIdeal.main_arg9)
      ∧ m' ((c.tc : Thread Cert.SmallRefIdeal.nD Cert.SmallRefIdeal.τ).loc Cert.SmallRefIdeal.main_arg10) = m ((c.tc : Thread Cert.SmallIdeal.nD Cert.SmallIdeal.τ).loc Cert.SmallIdeal.main_arg10)
      ∧ m' ((c.tc : Thread Cert.SmallRefIdeal.nD Cert.SmallRefIdeal.τ).loc Cert.SmallRefIdeal.main_arg11) = m ((c.tc : Thread Cert.SmallIdeal.nD Cert.SmallIdeal.τ).loc Cert.SmallIdeal.main_arg11)
      ∧ m' ((c.tc : Thread Cert.SmallRefIdeal.nD Cert.SmallRefIdeal.τ).loc Cert.SmallRefIdeal.main_arg12) = m ((c.tc : Thread Cert.SmallIdeal.nD Cert.SmallIdeal.τ).loc Cert.SmallIdeal.main_arg12)
      ∧ m' ((c.tc : Thread Cert.SmallRefIdeal.nD Cert.SmallRefIdeal.τ).loc Cert.SmallRefIdeal.main_arg13) = m ((c.tc : Thread Cert.SmallIdeal.nD Cert.SmallIdeal.τ).loc Cert.SmallIdeal.main_arg13)
      ∧ m' ((c.tc : Thread Cert.SmallRefIdeal.nD Cert.SmallRefIdeal.τ).loc Cert.SmallRefIdeal.main_arg14) = m ((c.tc : Thread Cert.SmallIdeal.nD Cert.SmallIdeal.τ).loc Cert.SmallIdeal.main_arg14)
      ∧ m' ((c.tc : Thread Cert.SmallRefIdeal.nD Cert.SmallRefIdeal.τ).loc Cert.SmallRefIdeal.main_arg15) = m ((c.tc : Thread Cert.SmallIdeal.nD Cert.SmallIdeal.τ).loc Cert.SmallIdeal.main_arg15)
      ∧ m' ((c.tc : Thread Cert.SmallRefIdeal.nD Cert.SmallRefIdeal.τ).loc Cert.SmallRefIdeal.main_arg16) = m ((c.tc : Thread Cert.SmallIdeal.nD Cert.SmallIdeal.τ).loc Cert.SmallIdeal.main_arg16)
      ∧ m' ((c.tc : Thread Cert.SmallRefIdeal.nD Cert.SmallRefIdeal.τ).loc Cert.SmallRefIdeal.main_arg17) = m ((c.tc : Thread Cert.SmallIdeal.nD Cert.SmallIdeal.τ).loc Cert.SmallIdeal.main_arg17)
      ∧ m' ((c.tc : Thread Cert.SmallRefIdeal.nD Cert.SmallRefIdeal.τ).loc Cert.SmallRefIdeal.main_arg18) = m ((c.tc : Thread Cert.SmallIdeal.nD Cert.SmallIdeal.τ).loc Cert.SmallIdeal.main_arg18)
      ∧ m' ((c.tc : Thread Cert.SmallRefIdeal.nD Cert.SmallRefIdeal.τ).loc Cert.SmallRefIdeal.main_arg19) = m ((c.tc : Thread Cert.SmallIdeal.nD Cert.SmallIdeal.τ).loc Cert.SmallIdeal.main_arg19)
      ∧ m' ((c.tc : Thread Cert.SmallRefIdeal.nD Cert.SmallRefIdeal.τ).loc Cert.SmallRefIdeal.main_arg20) = m ((c.tc : Thread Cert.SmallIdeal.nD Cert.SmallIdeal.τ).loc Cert.SmallIdeal.main_arg20)
      ∧ m' ((c.tc : Thread Cert.SmallRefIdeal.nD Cert.SmallRefIdeal.τ).loc Cert.SmallRefIdeal.main_arg21) = m ((c.tc : Thread Cert.SmallIdeal.nD Cert.SmallIdeal.τ).loc Cert.SmallIdeal.main_arg21)
      ∧ m' ((c.tc : Thread Cert.SmallRefIdeal.nD Cert.SmallRefIdeal.τ).loc Cert.SmallRefIdeal.main_arg22) = m ((c.tc : Thread Cert.SmallIdeal.nD Cert.SmallIdeal.τ).loc Cert.SmallIdeal.main_arg22)
      ∧ m' ((c.tc : Thread Cert.SmallRefIdeal.nD Cert.SmallRefIdeal.τ).loc Cert.SmallRefIdeal.main_arg23) = m ((c.tc : Thread Cert.SmallIdeal.nD Cert.SmallIdeal.τ).loc Cert.SmallIdeal.main_arg23)
      ∧ m' ((c.tc : Thread Cert.SmallRefIdeal.nD Cert.SmallRefIdeal.τ).loc Cert.SmallRefIdeal.main_arg24) = m ((c.tc : Thread Cert.SmallIdeal.nD Cert.SmallIdeal.τ).loc Cert.SmallIdeal.main_arg24)
      ∧ m' ((c.tc : Thread Cert.SmallRefIdeal.nD Cert.SmallRefIdeal.τ).loc Cert.SmallRefIdeal.main_arg25) = m ((c.tc : Thread Cert.SmallIdeal.nD Cert.SmallIdeal.τ).loc Cert.SmallIdeal.main_arg25)
      ∧ m' ((c.tc : Thread Cert.SmallRefIdeal.nD Cert.SmallRefIdeal.τ).loc Cert.SmallRefIdeal.main_arg26) = m ((c.tc : Thread Cert.SmallIdeal.nD Cert.SmallIdeal.τ).loc Cert.SmallIdeal.main_arg26)
      ∧ m' ((c.tc : Thread Cert.SmallRefIdeal.nD Cert.SmallRefIdeal.τ).loc Cert.SmallRefIdeal.main_arg27) = m ((c.tc : Thread Cert.SmallIdeal.nD Cert.SmallIdeal.τ).loc Cert.SmallIdeal.main_arg27)
      ∧ m' ((c.tc : Thread Cert.SmallRefIdeal.nD Cert.SmallRefIdeal.τ).loc Cert.SmallRefIdeal.main_arg28) = m ((c.tc : Thread Cert.SmallIdeal.nD Cert.SmallIdeal.τ).loc Cert.SmallIdeal.main_arg28)
      ∧ m' ((c.tc : Thread Cert.SmallRefIdeal.nD Cert.SmallRefIdeal.τ).loc Cert.SmallRefIdeal.main_arg29) = m ((c.tc : Thread Cert.SmallIdeal.nD Cert.SmallIdeal.τ).loc Cert.SmallIdeal.main_arg29)
      ∧ m' ((c.tc : Thread Cert.SmallRefIdeal.nD Cert.SmallRefIdeal.τ).loc Cert.SmallRefIdeal.main_arg30) = m ((c.tc : Thread Cert.SmallIdeal.nD Cert.SmallIdeal.τ).loc Cert.SmallIdeal.main_arg30)
      ∧ m' ((c.tc : Thread Cert.SmallRefIdeal.nD Cert.SmallRefIdeal.τ).loc Cert.SmallRefIdeal.main_arg31) = m ((c.tc : Thread Cert.SmallIdeal.nD Cert.SmallIdeal.τ).loc Cert.SmallIdeal.main_arg31)
      ∧ m' ((c.tc : Thread Cert.SmallRefIdeal.nD Cert.SmallRefIdeal.τ).loc Cert.SmallRefIdeal.main_arg32) = m ((c.tc : Thread Cert.SmallIdeal.nD Cert.SmallIdeal.τ).loc Cert.SmallIdeal.main_arg32)
      ∧ m' ((c.tc : Thread Cert.SmallRefIdeal.nD Cert.SmallRefIdeal.τ).loc Cert.SmallRefIdeal.main_arg33) = m ((c.tc : Thread Cert.SmallIdeal.nD Cert.SmallIdeal.τ).loc Cert.SmallIdeal.main_arg33)
      ∧ m' ((c.tc : Thread Cert.SmallRefIdeal.nD Cert.SmallRefIdeal.τ).loc Cert.SmallRefIdeal.main_arg34) = m ((c.tc : Thread Cert.SmallIdeal.nD Cert.SmallIdeal.τ).loc Cert.SmallIdeal.main_arg34)
      ∧ m' ((c.tc : Thread Cert.SmallRefIdeal.nD Cert.SmallRefIdeal.τ).loc Cert.SmallRefIdeal.main_arg35) = m ((c.tc : Thread Cert.SmallIdeal.nD Cert.SmallIdeal.τ).loc Cert.SmallIdeal.main_arg35)
      ∧ m' ((c.tc : Thread Cert.SmallRefIdeal.nD Cert.SmallRefIdeal.τ).loc Cert.SmallRefIdeal.main_arg36) = m ((c.tc : Thread Cert.SmallIdeal.nD Cert.SmallIdeal.τ).loc Cert.SmallIdeal.main_arg36)
      ∧ m' ((c.tc : Thread Cert.SmallRefIdeal.nD Cert.SmallRefIdeal.τ).loc Cert.SmallRefIdeal.main_arg37) = m ((c.tc : Thread Cert.SmallIdeal.nD Cert.SmallIdeal.τ).loc Cert.SmallIdeal.main_arg37)
      ∧ m' ((c.tc : Thread Cert.SmallRefIdeal.nD Cert.SmallRefIdeal.τ).loc Cert.SmallRefIdeal.main_arg38) = m ((c.tc : Thread Cert.SmallIdeal.nD Cert.SmallIdeal.τ).loc Cert.SmallIdeal.main_arg38)
      ∧ m' ((c.tc : Thread Cert.SmallRefIdeal.nD Cert.SmallRefIdeal.τ).loc Cert.SmallRefIdeal.main_arg39) = m ((c.tc : Thread Cert.SmallIdeal.nD Cert.SmallIdeal.τ).loc Cert.SmallIdeal.main_arg39)
      ∧ m' ((c.tc : Thread Cert.SmallRefIdeal.nD Cert.SmallRefIdeal.τ).loc Cert.SmallRefIdeal.main_arg40) = m ((c.tc : Thread Cert.SmallIdeal.nD Cert.SmallIdeal.τ).loc Cert.SmallIdeal.main_arg40)
      ∧ m' ((c.tc : Thread Cert.SmallRefIdeal.nD Cert.SmallRefIdeal.τ).loc Cert.SmallRefIdeal.main_arg41) = m ((c.tc : Thread Cert.SmallIdeal.nD Cert.SmallIdeal.τ).loc Cert.SmallIdeal.main_arg41)
      ∧ m' ((c.tc : Thread Cert.SmallRefIdeal.nD Cert.SmallRefIdeal.τ).loc Cert.SmallRefIdeal.main_arg42) = m ((c.tc : Thread Cert.SmallIdeal.nD Cert.SmallIdeal.τ).loc Cert.SmallIdeal.main_arg42)
      ∧ m' ((c.tc : Thread Cert.SmallRefIdeal.nD Cert.SmallRefIdeal.τ).loc Cert.SmallRefIdeal.main_arg43) = m ((c.tc : Thread Cert.SmallIdeal.nD Cert.SmallIdeal.τ).loc Cert.SmallIdeal.main_arg43)
      ∧ m' ((c.tc : Thread Cert.SmallRefIdeal.nD Cert.SmallRefIdeal.τ).loc Cert.SmallRefIdeal.main_arg44) = m ((c.tc : Thread Cert.SmallIdeal.nD Cert.SmallIdeal.τ).loc Cert.SmallIdeal.main_arg44)
      ∧ m' ((c.tc : Thread Cert.SmallRefIdeal.nD Cert.SmallRefIdeal.τ).loc Cert.SmallRefIdeal.main_arg45) = m ((c.tc : Thread Cert.SmallIdeal.nD Cert.SmallIdeal.τ).loc Cert.SmallIdeal.main_arg45)
      ∧ m' ((c.tc : Thread Cert.SmallRefIdeal.nD Cert.SmallRefIdeal.τ).loc Cert.SmallRefIdeal.main_arg46) = m ((c.tc : Thread Cert.SmallIdeal.nD Cert.SmallIdeal.τ).loc Cert.SmallIdeal.main_arg46)
      ∧ m' ((c.tc : Thread Cert.SmallRefIdeal.nD Cert.SmallRefIdeal.τ).loc Cert.SmallRefIdeal.main_arg47) = m ((c.tc : Thread Cert.SmallIdeal.nD Cert.SmallIdeal.τ).loc Cert.SmallIdeal.main_arg47)
      ∧ m' ((c.tc : Thread Cert.SmallRefIdeal.nD Cert.SmallRefIdeal.τ).loc Cert.SmallRefIdeal.main_arg48) = m ((c.tc : Thread Cert.SmallIdeal.nD Cert.SmallIdeal.τ).loc Cert.SmallIdeal.main_arg48)
      ∧ m' ((c.tc : Thread Cert.SmallRefIdeal.nD Cert.SmallRefIdeal.τ).loc Cert.SmallRefIdeal.main_arg49) = m ((c.tc : Thread Cert.SmallIdeal.nD Cert.SmallIdeal.τ).loc Cert.SmallIdeal.main_arg49)
      ∧ m' ((c.tc : Thread Cert.SmallRefIdeal.nD Cert.SmallRefIdeal.τ).loc Cert.SmallRefIdeal.main_arg50) = m ((c.tc : Thread Cert.SmallIdeal.nD Cert.SmallIdeal.τ).loc Cert.SmallIdeal.main_arg50)
      ∧ m' ((c.tc : Thread Cert.SmallRefIdeal.nD Cert.SmallRefIdeal.τ).loc Cert.SmallRefIdeal.main_arg51) = m ((c.tc : Thread Cert.SmallIdeal.nD Cert.SmallIdeal.τ).loc Cert.SmallIdeal.main_arg51)
      ∧ m' ((c.tc : Thread Cert.SmallRefIdeal.nD Cert.SmallRefIdeal.τ).loc Cert.SmallRefIdeal.main_arg52) = m ((c.tc : Thread Cert.SmallIdeal.nD Cert.SmallIdeal.τ).loc Cert.SmallIdeal.main_arg52)
      ∧ m' ((c.tc : Thread Cert.SmallRefIdeal.nD Cert.SmallRefIdeal.τ).loc Cert.SmallRefIdeal.main_arg53) = m ((c.tc : Thread Cert.SmallIdeal.nD Cert.SmallIdeal.τ).loc Cert.SmallIdeal.main_arg53)
      ∧ m' ((c.tc : Thread Cert.SmallRefIdeal.nD Cert.SmallRefIdeal.τ).loc Cert.SmallRefIdeal.main_arg54) = m ((c.tc : Thread Cert.SmallIdeal.nD Cert.SmallIdeal.τ).loc Cert.SmallIdeal.main_arg54)
      ∧ m' ((c.tc : Thread Cert.SmallRefIdeal.nD Cert.SmallRefIdeal.τ).loc Cert.SmallRefIdeal.main_arg55) = m ((c.tc : Thread Cert.SmallIdeal.nD Cert.SmallIdeal.τ).loc Cert.SmallIdeal.main_arg55)
      ∧ m' ((c.tc : Thread Cert.SmallRefIdeal.nD Cert.SmallRefIdeal.τ).loc Cert.SmallRefIdeal.main_arg56) = m ((c.tc : Thread Cert.SmallIdeal.nD Cert.SmallIdeal.τ).loc Cert.SmallIdeal.main_arg56)
      ∧ m' ((c.tc : Thread Cert.SmallRefIdeal.nD Cert.SmallRefIdeal.τ).loc Cert.SmallRefIdeal.main_arg57) = m ((c.tc : Thread Cert.SmallIdeal.nD Cert.SmallIdeal.τ).loc Cert.SmallIdeal.main_arg57)
      ∧ m' ((c.tc : Thread Cert.SmallRefIdeal.nD Cert.SmallRefIdeal.τ).loc Cert.SmallRefIdeal.main_arg58) = m ((c.tc : Thread Cert.SmallIdeal.nD Cert.SmallIdeal.τ).loc Cert.SmallIdeal.main_arg58)
      ∧ m' ((c.tc : Thread Cert.SmallRefIdeal.nD Cert.SmallRefIdeal.τ).loc Cert.SmallRefIdeal.main_arg59) = m ((c.tc : Thread Cert.SmallIdeal.nD Cert.SmallIdeal.τ).loc Cert.SmallIdeal.main_arg59)
      ∧ m' ((c.tc : Thread Cert.SmallRefIdeal.nD Cert.SmallRefIdeal.τ).loc Cert.SmallRefIdeal.main_arg60) = m ((c.tc : Thread Cert.SmallIdeal.nD Cert.SmallIdeal.τ).loc Cert.SmallIdeal.main_arg60)) →
    ∃ (v0 : (c : Dev Cert.SmallIdeal.nD) → Buf (Elt Ideal) ((c.tc : Thread Cert.SmallIdeal.nD Cert.SmallIdeal.τ).loc Cert.SmallIdeal.main_v143)) (v1 : (c : Dev Cert.SmallIdeal.nD) → Buf (Elt Ideal) ((c.tc : Thread Cert.SmallIdeal.nD Cert.SmallIdeal.τ).loc Cert.SmallIdeal.main_v51)) (v2 : (c : Dev Cert.SmallIdeal.nD) → Buf (Elt Ideal) ((c.tc : Thread Cert.SmallIdeal.nD Cert.SmallIdeal.τ).loc Cert.SmallIdeal.main_v52)) (v3 : (c : Dev Cert.SmallIdeal.nD) → Buf (Elt Ideal) ((c.tc : Thread Cert.SmallIdeal.nD Cert.SmallIdeal.τ).loc Cert.SmallIdeal.main_v53)) (v4 : (c : Dev Cert.SmallIdeal.nD) → Buf (Elt Ideal) ((c.tc : Thread Cert.SmallIdeal.nD Cert.SmallIdeal.τ).loc Cert.SmallIdeal.main_v55)) (v5 : (c : Dev Cert.SmallIdeal.nD) → Buf (Elt Ideal) ((c.tc : Thread Cert.SmallIdeal.nD Cert.SmallIdeal.τ).loc Cert.SmallIdeal.main_v57)) (v6 : (c : Dev Cert.SmallIdeal.nD) → Buf (Elt Ideal) ((c.tc : Thread Cert.SmallIdeal.nD Cert.SmallIdeal.τ).loc Cert.SmallIdeal.main_v58)) (v7 : (c : Dev Cert.SmallIdeal.nD) → Buf (Elt Ideal) ((c.tc : Thread Cert.SmallIdeal.nD Cert.SmallIdeal.τ).loc Cert.SmallIdeal.main_v60)) (v8 : (c : Dev Cert.SmallIdeal.nD) → Buf (Elt Ideal) ((c.tc : Thread Cert.SmallIdeal.nD Cert.SmallIdeal.τ).loc Cert.SmallIdeal.main_v62)) (v9 : (c : Dev Cert.SmallIdeal.nD) → Buf (Elt Ideal) ((c.tc : Thread Cert.SmallIdeal.nD Cert.SmallIdeal.τ).loc Cert.SmallIdeal.main_v64)) (v10 : (c : Dev Cert.SmallIdeal.nD) → Buf (Elt Ideal) ((c.tc : Thread Cert.SmallIdeal.nD Cert.SmallIdeal.τ).loc Cert.SmallIdeal.main_v66)) (v11 : (c : Dev Cert.SmallIdeal.nD) → Buf (Elt Ideal) ((c.tc : Thread Cert.SmallIdeal.nD Cert.SmallIdeal.τ).loc Cert.SmallIdeal.main_v68)) (v12 : (c : Dev Cert.SmallIdeal.nD) → Buf (Elt Ideal) ((c.tc : Thread Cert.SmallIdeal.nD Cert.SmallIdeal.τ).loc Cert.SmallIdeal.main_v69)) (v13 : (c : Dev Cert.SmallIdeal.nD) → Buf (Elt Ideal) ((c.tc : Thread Cert.SmallIdeal.nD Cert.SmallIdeal.τ).loc Cert.SmallIdeal.main_v70)) (v14 : (c : Dev Cert.SmallIdeal.nD) → Buf (Elt Ideal) ((c.tc : Thread Cert.SmallIdeal.nD Cert.SmallIdeal.τ).loc Cert.SmallIdeal.main_v71)) (v15 : (c : Dev Cert.SmallIdeal.nD) → Buf (Elt Ideal) ((c.tc : Thread Cert.SmallIdeal.nD Cert.SmallIdeal.τ).loc Cert.SmallIdeal.main_v72)) (v16 : (c : Dev Cert.SmallIdeal.nD) → Buf (Elt Ideal) ((c.tc : Thread Cert.SmallIdeal.nD Cert.SmallIdeal.τ).loc Cert.SmallIdeal.main_v74)) (v17 : (c : Dev Cert.SmallIdeal.nD) → Buf (Elt Ideal) ((c.tc : Thread Cert.SmallIdeal.nD Cert.SmallIdeal.τ).loc Cert.SmallIdeal.main_v75)) (v18 : (c : Dev Cert.SmallIdeal.nD) → Buf (Elt Ideal) ((c.tc : Thread Cert.SmallIdeal.nD Cert.SmallIdeal.τ).loc Cert.SmallIdeal.main_v76)) (v19 : (c : Dev Cert.SmallIdeal.nD) → Buf (Elt Ideal) ((c.tc : Thread Cert.SmallIdeal.nD Cert.SmallIdeal.τ).loc Cert.SmallIdeal.main_v78)) (v20 : (c : Dev Cert.SmallIdeal.nD) → Buf (Elt Ideal) ((c.tc : Thread Cert.SmallIdeal.nD Cert.SmallIdeal.τ).loc Cert.SmallIdeal.main_v80)) (v21 : (c : Dev Cert.SmallIdeal.nD) → Buf (Elt Ideal) ((c.tc : Thread Cert.SmallIdeal.nD Cert.SmallIdeal.τ).loc Cert.SmallIdeal.main_v81)) (v22 : (c : Dev Cert.SmallIdeal.nD) → Buf (Elt Ideal) ((c.tc : Thread Cert.SmallIdeal.nD Cert.SmallIdeal.τ).loc Cert.SmallIdeal.main_v83)) (v23 : (c : Dev Cert.SmallIdeal.nD) → Buf (Elt Ideal) ((c.tc : Thread Cert.SmallIdeal.nD Cert.SmallIdeal.τ).loc Cert.SmallIdeal.main_v85)) (v24 : (c : Dev Cert.SmallIdeal.nD) → Buf (Elt Ideal) ((c.tc : Thread Cert.SmallIdeal.nD Cert.SmallIdeal.τ).loc Cert.SmallIdeal.main_v87)) (v25 : (c : Dev Cert.SmallIdeal.nD) → Buf (Elt Ideal) ((c.tc : Thread Cert.SmallIdeal.nD Cert.SmallIdeal.τ).loc Cert.SmallIdeal.main_v89)) (v26 : (c : Dev Cert.SmallIdeal.nD) → Buf (Elt Ideal) ((c.tc : Thread Cert.SmallIdeal.nD Cert.SmallIdeal.τ).loc Cert.SmallIdeal.main_v91)) (v27 : (c : Dev Cert.SmallIdeal.nD) → Buf (Elt Ideal) ((c.tc : Thread Cert.SmallIdeal.nD Cert.SmallIdeal.τ).loc Cert.SmallIdeal.main_v92)) (v28 : (c : Dev Cert.SmallIdeal.nD) → Buf (Elt Ideal) ((c.tc : Thread Cert.SmallIdeal.nD Cert.SmallIdeal.τ).loc Cert.SmallIdeal.main_v93)) (v29 : (c : Dev Cert.SmallIdeal.nD) → Buf (Elt Ideal) ((c.tc : Thread Cert.SmallIdeal.nD Cert.SmallIdeal.τ).loc Cert.SmallIdeal.main_v94)) (v30 : (c : Dev Cert.SmallIdeal.nD) → Buf (Elt Ideal) ((c.tc : Thread Cert.SmallIdeal.nD Cert.SmallIdeal.τ).loc Cert.SmallIdeal.main_v95)) (v31 : (c : Dev Cert.SmallIdeal.nD) → Buf (Elt Ideal) ((c.tc : Thread Cert.SmallIdeal.nD Cert.SmallIdeal.τ).loc Cert.SmallIdeal.main_v97)) (v32 : (c : Dev Cert.SmallIdeal.nD) → Buf (Elt Ideal) ((c.tc : Thread Cert.SmallIdeal.nD Cert.SmallIdeal.τ).loc Cert.SmallIdeal.main_v98)) (v33 : (c : Dev Cert.SmallIdeal.nD) → Buf (Elt Ideal) ((c.tc : Thread Cert.SmallIdeal.nD Cert.SmallIdeal.τ).loc Cert.SmallIdeal.main_v99)) (v34 : (c : Dev Cert.SmallIdeal.nD) → Buf (Elt Ideal) ((c.tc : Thread Cert.SmallIdeal.nD Cert.SmallIdeal.τ).loc Cert.SmallIdeal.main_v101)) (v35 : (c : Dev Cert.SmallIdeal.nD) → Buf (Elt Ideal) ((c.tc : Thread Cert.SmallIdeal.nD Cert.SmallIdeal.τ).loc Cert.SmallIdeal.main_v103)) (v36 : (c : Dev Cert.SmallIdeal.nD) → Buf (Elt Ideal) ((c.tc : Thread Cert.SmallIdeal.nD Cert.SmallIdeal.τ).loc Cert.SmallIdeal.main_v104)) (v37 : (c : Dev Cert.SmallIdeal.nD) → Buf (Elt Ideal) ((c.tc : Thread Cert.SmallIdeal.nD Cert.SmallIdeal.τ).loc Cert.SmallIdeal.main_v106)) (v38 : (c : Dev Cert.SmallIdeal.nD) → Buf (Elt Ideal) ((c.tc : Thread Cert.SmallIdeal.nD Cert.SmallIdeal.τ).loc Cert.SmallIdeal.main_v108)) (v39 : (c : Dev Cert.SmallIdeal.nD) → Buf (Elt Ideal) ((c.tc : Thread Cert.SmallIdeal.nD Cert.SmallIdeal.τ).loc Cert.SmallIdeal.main_v110)) (v40 : (c : Dev Cert.SmallIdeal.nD) → Buf (Elt Ideal) ((c.tc : Thread Cert.SmallIdeal.nD Cert.SmallIdeal.τ).loc Cert.SmallIdeal.main_v112)) (v41 : (c : Dev Cert.SmallIdeal.nD) → Buf (Elt Ideal) ((c.tc : Thread Cert.SmallIdeal.nD Cert.SmallIdeal.τ).loc Cert.SmallIdeal.main_v114)) (v42 : (c : Dev Cert.SmallIdeal.nD) → Buf (Elt Ideal) ((c.tc : Thread Cert.SmallIdeal.nD Cert.SmallIdeal.τ).loc Cert.SmallIdeal.main_v115)) (v43 : (c : Dev Cert.SmallIdeal.nD) → Buf (Elt Ideal) ((c.tc : Thread Cert.SmallIdeal.nD Cert.SmallIdeal.τ).loc Cert.SmallIdeal.main_v116)) (v44 : (c : Dev Cert.SmallIdeal.nD) → Buf (Elt Ideal) ((c.tc : Thread Cert.SmallIdeal.nD Cert.SmallIdeal.τ).loc Cert.SmallIdeal.main_v117)) (v45 : (c : Dev Cert.SmallIdeal.nD) → Buf (Elt Ideal) ((c.tc : Thread Cert.SmallIdeal.nD Cert.SmallIdeal.τ).loc Cert.SmallIdeal.main_v118)) (v46 : (c : Dev Cert.SmallIdeal.nD) → Buf (Elt Ideal) ((c.tc : Thread Cert.SmallIdeal.nD Cert.SmallIdeal.τ).loc Cert.SmallIdeal.main_v120)) (v47 : (c : Dev Cert.SmallIdeal.nD) → Buf (Elt Ideal) ((c.tc : Thread Cert.SmallIdeal.nD Cert.SmallIdeal.τ).loc Cert.SmallIdeal.main_v121)) (v48 : (c : Dev Cert.SmallIdeal.nD) → Buf (Elt Ideal) ((c.tc : Thread Cert.SmallIdeal.nD Cert.SmallIdeal.τ).loc Cert.SmallIdeal.main_v122)) (v49 : (c : Dev Cert.SmallIdeal.nD) → Buf (Elt Ideal) ((c.tc : Thread Cert.SmallIdeal.nD Cert.SmallIdeal.τ).loc Cert.SmallIdeal.main_v124)) (v50 : (c : Dev Cert.SmallIdeal.nD) → Buf (Elt Ideal) ((c.tc : Thread Cert.SmallIdeal.nD Cert.SmallIdeal.τ).loc Cert.SmallIdeal.main_v126)) (v51 : (c : Dev Cert.SmallIdeal.nD) → Buf (Elt Ideal) ((c.tc : Thread Cert.SmallIdeal.nD Cert.SmallIdeal.τ).loc Cert.SmallIdeal.main_v127)) (v52 : (c : Dev Cert.SmallIdeal.nD) → Buf (Elt Ideal) ((c.tc : Thread Cert.SmallIdeal.nD Cert.SmallIdeal.τ).loc Cert.SmallIdeal.main_v129)) (v53 : (c : Dev Cert.SmallIdeal.nD) → Buf (Elt Ideal) ((c.tc : Thread Cert.SmallIdeal.nD Cert.SmallIdeal.τ).loc Cert.SmallIdeal.main_v131)) (v54 : (c : Dev Cert.SmallIdeal.nD) → Buf (Elt Ideal) ((c.tc : Thread Cert.SmallIdeal.nD Cert.SmallIdeal.τ).loc Cert.SmallIdeal.main_v133)) (v55 : (c : Dev Cert.SmallIdeal.nD) → Buf (Elt Ideal) ((c.tc : Thread Cert.SmallIdeal.nD Cert.SmallIdeal.τ).loc Cert.SmallIdeal.main_v135)) (v56 : (c : Dev Cert.SmallIdeal.nD) → Buf (Elt Ideal) ((c.tc : Thread Cert.SmallIdeal.nD Cert.SmallIdeal.τ).loc Cert.SmallIdeal.main_v137)) (v57 : (c : Dev Cert.SmallIdeal.nD) → Buf (Elt Ideal) ((c.tc : Thread Cert.SmallIdeal.nD Cert.SmallIdeal.τ).loc Cert.SmallIdeal.main_v138)) (v58 : (c : Dev Cert.SmallIdeal.nD) → Buf (Elt Ideal) ((c.tc : Thread Cert.SmallIdeal.nD Cert.SmallIdeal.τ).loc Cert.SmallIdeal.main_v139)) (v59 : (c : Dev Cert.SmallIdeal.nD) → Buf (Elt Ideal) ((c.tc : Thread Cert.SmallIdeal.nD Cert.SmallIdeal.τ).loc Cert.SmallIdeal.main_v140)) (v60 : (c : Dev Cert.SmallIdeal.nD) → Buf (Elt Ideal) ((c.tc : Thread Cert.SmallIdeal.nD Cert.SmallIdeal.τ).loc Cert.SmallIdeal.main_v141)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v143) = v0 c
          ∧ r.2.mem ((c.tc : Thread Cert.SmallIdeal.nD Cert.SmallIdeal.τ).loc Cert.SmallIdeal.main_v51) = v1 c
          ∧ r.2.mem ((c.tc : Thread Cert.SmallIdeal.nD Cert.SmallIdeal.τ).loc Cert.SmallIdeal.main_v52) = v2 c
          ∧ r.2.mem ((c.tc : Thread Cert.SmallIdeal.nD Cert.SmallIdeal.τ).loc Cert.SmallIdeal.main_v53) = v3 c
          ∧ r.2.mem ((c.tc : Thread Cert.SmallIdeal.nD Cert.SmallIdeal.τ).loc Cert.SmallIdeal.main_v55) = v4 c
          ∧ r.2.mem ((c.tc : Thread Cert.SmallIdeal.nD Cert.SmallIdeal.τ).loc Cert.SmallIdeal.main_v57) = v5 c
          ∧ r.2.mem ((c.tc : Thread Cert.SmallIdeal.nD Cert.SmallIdeal.τ).loc Cert.SmallIdeal.main_v58) = v6 c
          ∧ r.2.mem ((c.tc : Thread Cert.SmallIdeal.nD Cert.SmallIdeal.τ).loc Cert.SmallIdeal.main_v60) = v7 c
          ∧ r.2.mem ((c.tc : Thread Cert.SmallIdeal.nD Cert.SmallIdeal.τ).loc Cert.SmallIdeal.main_v62) = v8 c
          ∧ r.2.mem ((c.tc : Thread Cert.SmallIdeal.nD Cert.SmallIdeal.τ).loc Cert.SmallIdeal.main_v64) = v9 c
          ∧ r.2.mem ((c.tc : Thread Cert.SmallIdeal.nD Cert.SmallIdeal.τ).loc Cert.SmallIdeal.main_v66) = v10 c
          ∧ r.2.mem ((c.tc : Thread Cert.SmallIdeal.nD Cert.SmallIdeal.τ).loc Cert.SmallIdeal.main_v68) = v11 c
          ∧ r.2.mem ((c.tc : Thread Cert.SmallIdeal.nD Cert.SmallIdeal.τ).loc Cert.SmallIdeal.main_v69) = v12 c
          ∧ r.2.mem ((c.tc : Thread Cert.SmallIdeal.nD Cert.SmallIdeal.τ).loc Cert.SmallIdeal.main_v70) = v13 c
          ∧ r.2.mem ((c.tc : Thread Cert.SmallIdeal.nD Cert.SmallIdeal.τ).loc Cert.SmallIdeal.main_v71) = v14 c
          ∧ r.2.mem ((c.tc : Thread Cert.SmallIdeal.nD Cert.SmallIdeal.τ).loc Cert.SmallIdeal.main_v72) = v15 c
          ∧ r.2.mem ((c.tc : Thread Cert.SmallIdeal.nD Cert.SmallIdeal.τ).loc Cert.SmallIdeal.main_v74) = v16 c
          ∧ r.2.mem ((c.tc : Thread Cert.SmallIdeal.nD Cert.SmallIdeal.τ).loc Cert.SmallIdeal.main_v75) = v17 c
          ∧ r.2.mem ((c.tc : Thread Cert.SmallIdeal.nD Cert.SmallIdeal.τ).loc Cert.SmallIdeal.main_v76) = v18 c
          ∧ r.2.mem ((c.tc : Thread Cert.SmallIdeal.nD Cert.SmallIdeal.τ).loc Cert.SmallIdeal.main_v78) = v19 c
          ∧ r.2.mem ((c.tc : Thread Cert.SmallIdeal.nD Cert.SmallIdeal.τ).loc Cert.SmallIdeal.main_v80) = v20 c
          ∧ r.2.mem ((c.tc : Thread Cert.SmallIdeal.nD Cert.SmallIdeal.τ).loc Cert.SmallIdeal.main_v81) = v21 c
          ∧ r.2.mem ((c.tc : Thread Cert.SmallIdeal.nD Cert.SmallIdeal.τ).loc Cert.SmallIdeal.main_v83) = v22 c
          ∧ r.2.mem ((c.tc : Thread Cert.SmallIdeal.nD Cert.SmallIdeal.τ).loc Cert.SmallIdeal.main_v85) = v23 c
          ∧ r.2.mem ((c.tc : Thread Cert.SmallIdeal.nD Cert.SmallIdeal.τ).loc Cert.SmallIdeal.main_v87) = v24 c
          ∧ r.2.mem ((c.tc : Thread Cert.SmallIdeal.nD Cert.SmallIdeal.τ).loc Cert.SmallIdeal.main_v89) = v25 c
          ∧ r.2.mem ((c.tc : Thread Cert.SmallIdeal.nD Cert.SmallIdeal.τ).loc Cert.SmallIdeal.main_v91) = v26 c
          ∧ r.2.mem ((c.tc : Thread Cert.SmallIdeal.nD Cert.SmallIdeal.τ).loc Cert.SmallIdeal.main_v92) = v27 c
          ∧ r.2.mem ((c.tc : Thread Cert.SmallIdeal.nD Cert.SmallIdeal.τ).loc Cert.SmallIdeal.main_v93) = v28 c
          ∧ r.2.mem ((c.tc : Thread Cert.SmallIdeal.nD Cert.SmallIdeal.τ).loc Cert.SmallIdeal.main_v94) = v29 c
          ∧ r.2.mem ((c.tc : Thread Cert.SmallIdeal.nD Cert.SmallIdeal.τ).loc Cert.SmallIdeal.main_v95) = v30 c
          ∧ r.2.mem ((c.tc : Thread Cert.SmallIdeal.nD Cert.SmallIdeal.τ).loc Cert.SmallIdeal.main_v97) = v31 c
          ∧ r.2.mem ((c.tc : Thread Cert.SmallIdeal.nD Cert.SmallIdeal.τ).loc Cert.SmallIdeal.main_v98) = v32 c
          ∧ r.2.mem ((c.tc : Thread Cert.SmallIdeal.nD Cert.SmallIdeal.τ).loc Cert.SmallIdeal.main_v99) = v33 c
          ∧ r.2.mem ((c.tc : Thread Cert.SmallIdeal.nD Cert.SmallIdeal.τ).loc Cert.SmallIdeal.main_v101) = v34 c
          ∧ r.2.mem ((c.tc : Thread Cert.SmallIdeal.nD Cert.SmallIdeal.τ).loc Cert.SmallIdeal.main_v103) = v35 c
          ∧ r.2.mem ((c.tc : Thread Cert.SmallIdeal.nD Cert.SmallIdeal.τ).loc Cert.SmallIdeal.main_v104) = v36 c
          ∧ r.2.mem ((c.tc : Thread Cert.SmallIdeal.nD Cert.SmallIdeal.τ).loc Cert.SmallIdeal.main_v106) = v37 c
          ∧ r.2.mem ((c.tc : Thread Cert.SmallIdeal.nD Cert.SmallIdeal.τ).loc Cert.SmallIdeal.main_v108) = v38 c
          ∧ r.2.mem ((c.tc : Thread Cert.SmallIdeal.nD Cert.SmallIdeal.τ).loc Cert.SmallIdeal.main_v110) = v39 c
          ∧ r.2.mem ((c.tc : Thread Cert.SmallIdeal.nD Cert.SmallIdeal.τ).loc Cert.SmallIdeal.main_v112) = v40 c
          ∧ r.2.mem ((c.tc : Thread Cert.SmallIdeal.nD Cert.SmallIdeal.τ).loc Cert.SmallIdeal.main_v114) = v41 c
          ∧ r.2.mem ((c.tc : Thread Cert.SmallIdeal.nD Cert.SmallIdeal.τ).loc Cert.SmallIdeal.main_v115) = v42 c
          ∧ r.2.mem ((c.tc : Thread Cert.SmallIdeal.nD Cert.SmallIdeal.τ).loc Cert.SmallIdeal.main_v116) = v43 c
          ∧ r.2.mem ((c.tc : Thread Cert.SmallIdeal.nD Cert.SmallIdeal.τ).loc Cert.SmallIdeal.main_v117) = v44 c
          ∧ r.2.mem ((c.tc : Thread Cert.SmallIdeal.nD Cert.SmallIdeal.τ).loc Cert.SmallIdeal.main_v118) = v45 c
          ∧ r.2.mem ((c.tc : Thread Cert.SmallIdeal.nD Cert.SmallIdeal.τ).loc Cert.SmallIdeal.main_v120) = v46 c
          ∧ r.2.mem ((c.tc : Thread Cert.SmallIdeal.nD Cert.SmallIdeal.τ).loc Cert.SmallIdeal.main_v121) = v47 c
          ∧ r.2.mem ((c.tc : Thread Cert.SmallIdeal.nD Cert.SmallIdeal.τ).loc Cert.SmallIdeal.main_v122) = v48 c
          ∧ r.2.mem ((c.tc : Thread Cert.SmallIdeal.nD Cert.SmallIdeal.τ).loc Cert.SmallIdeal.main_v124) = v49 c
          ∧ r.2.mem ((c.tc : Thread Cert.SmallIdeal.nD Cert.SmallIdeal.τ).loc Cert.SmallIdeal.main_v126) = v50 c
          ∧ r.2.mem ((c.tc : Thread Cert.SmallIdeal.nD Cert.SmallIdeal.τ).loc Cert.SmallIdeal.main_v127) = v51 c
          ∧ r.2.mem ((c.tc : Thread Cert.SmallIdeal.nD Cert.SmallIdeal.τ).loc Cert.SmallIdeal.main_v129) = v52 c
          ∧ r.2.mem ((c.tc : Thread Cert.SmallIdeal.nD Cert.SmallIdeal.τ).loc Cert.SmallIdeal.main_v131) = v53 c
          ∧ r.2.mem ((c.tc : Thread Cert.SmallIdeal.nD Cert.SmallIdeal.τ).loc Cert.SmallIdeal.main_v133) = v54 c
          ∧ r.2.mem ((c.tc : Thread Cert.SmallIdeal.nD Cert.SmallIdeal.τ).loc Cert.SmallIdeal.main_v135) = v55 c
          ∧ r.2.mem ((c.tc : Thread Cert.SmallIdeal.nD Cert.SmallIdeal.τ).loc Cert.SmallIdeal.main_v137) = v56 c
          ∧ r.2.mem ((c.tc : Thread Cert.SmallIdeal.nD Cert.SmallIdeal.τ).loc Cert.SmallIdeal.main_v138) = v57 c
          ∧ r.2.mem ((c.tc : Thread Cert.SmallIdeal.nD Cert.SmallIdeal.τ).loc Cert.SmallIdeal.main_v139) = v58 c
          ∧ r.2.mem ((c.tc : Thread Cert.SmallIdeal.nD Cert.SmallIdeal.τ).loc Cert.SmallIdeal.main_v140) = v59 c
          ∧ r.2.mem ((c.tc : Thread Cert.SmallIdeal.nD Cert.SmallIdeal.τ).loc Cert.SmallIdeal.main_v141) = v60 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
          ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
          ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
          ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
          ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
          ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
          ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
          ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
          ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
          ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
          ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
          ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
          ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
          ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
          ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
          ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
          ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
          ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
          ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
          ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
          ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24)
          ∧ r.2.mem ((c.tc : Thread Cert.SmallIdeal.nD Cert.SmallIdeal.τ).loc Cert.SmallIdeal.main_arg25) = m ((c.tc : Thread Cert.SmallIdeal.nD Cert.SmallIdeal.τ).loc Cert.SmallIdeal.main_arg25)
          ∧ r.2.mem ((c.tc : Thread Cert.SmallIdeal.nD Cert.SmallIdeal.τ).loc Cert.SmallIdeal.main_arg26) = m ((c.tc : Thread Cert.SmallIdeal.nD Cert.SmallIdeal.τ).loc Cert.SmallIdeal.main_arg26)
          ∧ r.2.mem ((c.tc : Thread Cert.SmallIdeal.nD Cert.SmallIdeal.τ).loc Cert.SmallIdeal.main_arg27) = m ((c.tc : Thread Cert.SmallIdeal.nD Cert.SmallIdeal.τ).loc Cert.SmallIdeal.main_arg27)
          ∧ r.2.mem ((c.tc : Thread Cert.SmallIdeal.nD Cert.SmallIdeal.τ).loc Cert.SmallIdeal.main_arg28) = m ((c.tc : Thread Cert.SmallIdeal.nD Cert.SmallIdeal.τ).loc Cert.SmallIdeal.main_arg28)
          ∧ r.2.mem ((c.tc : Thread Cert.SmallIdeal.nD Cert.SmallIdeal.τ).loc Cert.SmallIdeal.main_arg29) = m ((c.tc : Thread Cert.SmallIdeal.nD Cert.SmallIdeal.τ).loc Cert.SmallIdeal.main_arg29)
          ∧ r.2.mem ((c.tc : Thread Cert.SmallIdeal.nD Cert.SmallIdeal.τ).loc Cert.SmallIdeal.main_arg30) = m ((c.tc : Thread Cert.SmallIdeal.nD Cert.SmallIdeal.τ).loc Cert.SmallIdeal.main_arg30)
          ∧ r.2.mem ((c.tc : Thread Cert.SmallIdeal.nD Cert.SmallIdeal.τ).loc Cert.SmallIdeal.main_arg31) = m ((c.tc : Thread Cert.SmallIdeal.nD Cert.SmallIdeal.τ).loc Cert.SmallIdeal.main_arg31)
          ∧ r.2.mem ((c.tc : Thread Cert.SmallIdeal.nD Cert.SmallIdeal.τ).loc Cert.SmallIdeal.main_arg32) = m ((c.tc : Thread Cert.SmallIdeal.nD Cert.SmallIdeal.τ).loc Cert.SmallIdeal.main_arg32)
          ∧ r.2.mem ((c.tc : Thread Cert.SmallIdeal.nD Cert.SmallIdeal.τ).loc Cert.SmallIdeal.main_arg33) = m ((c.tc : Thread Cert.SmallIdeal.nD Cert.SmallIdeal.τ).loc Cert.SmallIdeal.main_arg33)
          ∧ r.2.mem ((c.tc : Thread Cert.SmallIdeal.nD Cert.SmallIdeal.τ).loc Cert.SmallIdeal.main_arg34) = m ((c.tc : Thread Cert.SmallIdeal.nD Cert.SmallIdeal.τ).loc Cert.SmallIdeal.main_arg34)
          ∧ r.2.mem ((c.tc : Thread Cert.SmallIdeal.nD Cert.SmallIdeal.τ).loc Cert.SmallIdeal.main_arg35) = m ((c.tc : Thread Cert.SmallIdeal.nD Cert.SmallIdeal.τ).loc Cert.SmallIdeal.main_arg35)
          ∧ r.2.mem ((c.tc : Thread Cert.SmallIdeal.nD Cert.SmallIdeal.τ).loc Cert.SmallIdeal.main_arg36) = m ((c.tc : Thread Cert.SmallIdeal.nD Cert.SmallIdeal.τ).loc Cert.SmallIdeal.main_arg36)
          ∧ r.2.mem ((c.tc : Thread Cert.SmallIdeal.nD Cert.SmallIdeal.τ).loc Cert.SmallIdeal.main_arg37) = m ((c.tc : Thread Cert.SmallIdeal.nD Cert.SmallIdeal.τ).loc Cert.SmallIdeal.main_arg37)
          ∧ r.2.mem ((c.tc : Thread Cert.SmallIdeal.nD Cert.SmallIdeal.τ).loc Cert.SmallIdeal.main_arg38) = m ((c.tc : Thread Cert.SmallIdeal.nD Cert.SmallIdeal.τ).loc Cert.SmallIdeal.main_arg38)
          ∧ r.2.mem ((c.tc : Thread Cert.SmallIdeal.nD Cert.SmallIdeal.τ).loc Cert.SmallIdeal.main_arg39) = m ((c.tc : Thread Cert.SmallIdeal.nD Cert.SmallIdeal.τ).loc Cert.SmallIdeal.main_arg39)
          ∧ r.2.mem ((c.tc : Thread Cert.SmallIdeal.nD Cert.SmallIdeal.τ).loc Cert.SmallIdeal.main_arg40) = m ((c.tc : Thread Cert.SmallIdeal.nD Cert.SmallIdeal.τ).loc Cert.SmallIdeal.main_arg40)
          ∧ r.2.mem ((c.tc : Thread Cert.SmallIdeal.nD Cert.SmallIdeal.τ).loc Cert.SmallIdeal.main_arg41) = m ((c.tc : Thread Cert.SmallIdeal.nD Cert.SmallIdeal.τ).loc Cert.SmallIdeal.main_arg41)
          ∧ r.2.mem ((c.tc : Thread Cert.SmallIdeal.nD Cert.SmallIdeal.τ).loc Cert.SmallIdeal.main_arg42) = m ((c.tc : Thread Cert.SmallIdeal.nD Cert.SmallIdeal.τ).loc Cert.SmallIdeal.main_arg42)
          ∧ r.2.mem ((c.tc : Thread Cert.SmallIdeal.nD Cert.SmallIdeal.τ).loc Cert.SmallIdeal.main_arg43) = m ((c.tc : Thread Cert.SmallIdeal.nD Cert.SmallIdeal.τ).loc Cert.SmallIdeal.main_arg43)
          ∧ r.2.mem ((c.tc : Thread Cert.SmallIdeal.nD Cert.SmallIdeal.τ).loc Cert.SmallIdeal.main_arg44) = m ((c.tc : Thread Cert.SmallIdeal.nD Cert.SmallIdeal.τ).loc Cert.SmallIdeal.main_arg44)
          ∧ r.2.mem ((c.tc : Thread Cert.SmallIdeal.nD Cert.SmallIdeal.τ).loc Cert.SmallIdeal.main_arg45) = m ((c.tc : Thread Cert.SmallIdeal.nD Cert.SmallIdeal.τ).loc Cert.SmallIdeal.main_arg45)
          ∧ r.2.mem ((c.tc : Thread Cert.SmallIdeal.nD Cert.SmallIdeal.τ).loc Cert.SmallIdeal.main_arg46) = m ((c.tc : Thread Cert.SmallIdeal.nD Cert.SmallIdeal.τ).loc Cert.SmallIdeal.main_arg46)
          ∧ r.2.mem ((c.tc : Thread Cert.SmallIdeal.nD Cert.SmallIdeal.τ).loc Cert.SmallIdeal.main_arg47) = m ((c.tc : Thread Cert.SmallIdeal.nD Cert.SmallIdeal.τ).loc Cert.SmallIdeal.main_arg47)
          ∧ r.2.mem ((c.tc : Thread Cert.SmallIdeal.nD Cert.SmallIdeal.τ).loc Cert.SmallIdeal.main_arg48) = m ((c.tc : Thread Cert.SmallIdeal.nD Cert.SmallIdeal.τ).loc Cert.SmallIdeal.main_arg48)
          ∧ r.2.mem ((c.tc : Thread Cert.SmallIdeal.nD Cert.SmallIdeal.τ).loc Cert.SmallIdeal.main_arg49) = m ((c.tc : Thread Cert.SmallIdeal.nD Cert.SmallIdeal.τ).loc Cert.SmallIdeal.main_arg49)
          ∧ r.2.mem ((c.tc : Thread Cert.SmallIdeal.nD Cert.SmallIdeal.τ).loc Cert.SmallIdeal.main_arg50) = m ((c.tc : Thread Cert.SmallIdeal.nD Cert.SmallIdeal.τ).loc Cert.SmallIdeal.main_arg50)
          ∧ r.2.mem ((c.tc : Thread Cert.SmallIdeal.nD Cert.SmallIdeal.τ).loc Cert.SmallIdeal.main_arg51) = m ((c.tc : Thread Cert.SmallIdeal.nD Cert.SmallIdeal.τ).loc Cert.SmallIdeal.main_arg51)
          ∧ r.2.mem ((c.tc : Thread Cert.SmallIdeal.nD Cert.SmallIdeal.τ).loc Cert.SmallIdeal.main_arg52) = m ((c.tc : Thread Cert.SmallIdeal.nD Cert.SmallIdeal.τ).loc Cert.SmallIdeal.main_arg52)
          ∧ r.2.mem ((c.tc : Thread Cert.SmallIdeal.nD Cert.SmallIdeal.τ).loc Cert.SmallIdeal.main_arg53) = m ((c.tc : Thread Cert.SmallIdeal.nD Cert.SmallIdeal.τ).loc Cert.SmallIdeal.main_arg53)
          ∧ r.2.mem ((c.tc : Thread Cert.SmallIdeal.nD Cert.SmallIdeal.τ).loc Cert.SmallIdeal.main_arg54) = m ((c.tc : Thread Cert.SmallIdeal.nD Cert.SmallIdeal.τ).loc Cert.SmallIdeal.main_arg54)
          ∧ r.2.mem ((c.tc : Thread Cert.SmallIdeal.nD Cert.SmallIdeal.τ).loc Cert.SmallIdeal.main_arg55) = m ((c.tc : Thread Cert.SmallIdeal.nD Cert.SmallIdeal.τ).loc Cert.SmallIdeal.main_arg55)
          ∧ r.2.mem ((c.tc : Thread Cert.SmallIdeal.nD Cert.SmallIdeal.τ).loc Cert.SmallIdeal.main_arg56) = m ((c.tc : Thread Cert.SmallIdeal.nD Cert.SmallIdeal.τ).loc Cert.SmallIdeal.main_arg56)
          ∧ r.2.mem ((c.tc : Thread Cert.SmallIdeal.nD Cert.SmallIdeal.τ).loc Cert.SmallIdeal.main_arg57) = m ((c.tc : Thread Cert.SmallIdeal.nD Cert.SmallIdeal.τ).loc Cert.SmallIdeal.main_arg57)
          ∧ r.2.mem ((c.tc : Thread Cert.SmallIdeal.nD Cert.SmallIdeal.τ).loc Cert.SmallIdeal.main_arg58) = m ((c.tc : Thread Cert.SmallIdeal.nD Cert.SmallIdeal.τ).loc Cert.SmallIdeal.main_arg58)
          ∧ r.2.mem ((c.tc : Thread Cert.SmallIdeal.nD Cert.SmallIdeal.τ).loc Cert.SmallIdeal.main_arg59) = m ((c.tc : Thread Cert.SmallIdeal.nD Cert.SmallIdeal.τ).loc Cert.SmallIdeal.main_arg59)
          ∧ r.2.mem ((c.tc : Thread Cert.SmallIdeal.nD Cert.SmallIdeal.τ).loc Cert.SmallIdeal.main_arg60) = m ((c.tc : Thread Cert.SmallIdeal.nD Cert.SmallIdeal.τ).loc Cert.SmallIdeal.main_arg60))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v375) = v0 c
          ∧ r.2.mem ((c.tc : Thread Cert.SmallRefIdeal.nD Cert.SmallRefIdeal.τ).loc Cert.SmallRefIdeal.main_v0) = v1 c
          ∧ r.2.mem ((c.tc : Thread Cert.SmallRefIdeal.nD Cert.SmallRefIdeal.τ).loc Cert.SmallRefIdeal.main_v25) = v2 c
          ∧ r.2.mem ((c.tc : Thread Cert.SmallRefIdeal.nD Cert.SmallRefIdeal.τ).loc Cert.SmallRefIdeal.main_v50) = v3 c
          ∧ r.2.mem ((c.tc : Thread Cert.SmallRefIdeal.nD Cert.SmallRefIdeal.τ).loc Cert.SmallRefIdeal.main_v75) = v4 c
          ∧ r.2.mem ((c.tc : Thread Cert.SmallRefIdeal.nD Cert.SmallRefIdeal.τ).loc Cert.SmallRefIdeal.main_v100) = v5 c
          ∧ r.2.mem ((c.tc : Thread Cert.SmallRefIdeal.nD Cert.SmallRefIdeal.τ).loc Cert.SmallRefIdeal.main_v125) = v6 c
          ∧ r.2.mem ((c.tc : Thread Cert.SmallRefIdeal.nD Cert.SmallRefIdeal.τ).loc Cert.SmallRefIdeal.main_v150) = v7 c
          ∧ r.2.mem ((c.tc : Thread Cert.SmallRefIdeal.nD Cert.SmallRefIdeal.τ).loc Cert.SmallRefIdeal.main_v175) = v8 c
          ∧ r.2.mem ((c.tc : Thread Cert.SmallRefIdeal.nD Cert.SmallRefIdeal.τ).loc Cert.SmallRefIdeal.main_v200) = v9 c
          ∧ r.2.mem ((c.tc : Thread Cert.SmallRefIdeal.nD Cert.SmallRefIdeal.τ).loc Cert.SmallRefIdeal.main_v225) = v10 c
          ∧ r.2.mem ((c.tc : Thread Cert.SmallRefIdeal.nD Cert.SmallRefIdeal.τ).loc Cert.SmallRefIdeal.main_v250) = v11 c
          ∧ r.2.mem ((c.tc : Thread Cert.SmallRefIdeal.nD Cert.SmallRefIdeal.τ).loc Cert.SmallRefIdeal.main_v275) = v12 c
          ∧ r.2.mem ((c.tc : Thread Cert.SmallRefIdeal.nD Cert.SmallRefIdeal.τ).loc Cert.SmallRefIdeal.main_v300) = v13 c
          ∧ r.2.mem ((c.tc : Thread Cert.SmallRefIdeal.nD Cert.SmallRefIdeal.τ).loc Cert.SmallRefIdeal.main_v325) = v14 c
          ∧ r.2.mem ((c.tc : Thread Cert.SmallRefIdeal.nD Cert.SmallRefIdeal.τ).loc Cert.SmallRefIdeal.main_v350) = v15 c
          ∧ r.2.mem ((c.tc : Thread Cert.SmallRefIdeal.nD Cert.SmallRefIdeal.τ).loc Cert.SmallRefIdeal.main_v24) = v16 c
          ∧ r.2.mem ((c.tc : Thread Cert.SmallRefIdeal.nD Cert.SmallRefIdeal.τ).loc Cert.SmallRefIdeal.main_v49) = v17 c
          ∧ r.2.mem ((c.tc : Thread Cert.SmallRefIdeal.nD Cert.SmallRefIdeal.τ).loc Cert.SmallRefIdeal.main_v74) = v18 c
          ∧ r.2.mem ((c.tc : Thread Cert.SmallRefIdeal.nD Cert.SmallRefIdeal.τ).loc Cert.SmallRefIdeal.main_v99) = v19 c
          ∧ r.2.mem ((c.tc : Thread Cert.SmallRefIdeal.nD Cert.SmallRefIdeal.τ).loc Cert.SmallRefIdeal.main_v124) = v20 c
          ∧ r.2.mem ((c.tc : Thread Cert.SmallRefIdeal.nD Cert.SmallRefIdeal.τ).loc Cert.SmallRefIdeal.main_v149) = v21 c
          ∧ r.2.mem ((c.tc : Thread Cert.SmallRefIdeal.nD Cert.SmallRefIdeal.τ).loc Cert.SmallRefIdeal.main_v174) = v22 c
          ∧ r.2.mem ((c.tc : Thread Cert.SmallRefIdeal.nD Cert.SmallRefIdeal.τ).loc Cert.SmallRefIdeal.main_v199) = v23 c
          ∧ r.2.mem ((c.tc : Thread Cert.SmallRefIdeal.nD Cert.SmallRefIdeal.τ).loc Cert.SmallRefIdeal.main_v224) = v24 c
          ∧ r.2.mem ((c.tc : Thread Cert.SmallRefIdeal.nD Cert.SmallRefIdeal.τ).loc Cert.SmallRefIdeal.main_v249) = v25 c
          ∧ r.2.mem ((c.tc : Thread Cert.SmallRefIdeal.nD Cert.SmallRefIdeal.τ).loc Cert.SmallRefIdeal.main_v274) = v26 c
          ∧ r.2.mem ((c.tc : Thread Cert.SmallRefIdeal.nD Cert.SmallRefIdeal.τ).loc Cert.SmallRefIdeal.main_v299) = v27 c
          ∧ r.2.mem ((c.tc : Thread Cert.SmallRefIdeal.nD Cert.SmallRefIdeal.τ).loc Cert.SmallRefIdeal.main_v324) = v28 c
          ∧ r.2.mem ((c.tc : Thread Cert.SmallRefIdeal.nD Cert.SmallRefIdeal.τ).loc Cert.SmallRefIdeal.main_v349) = v29 c
          ∧ r.2.mem ((c.tc : Thread Cert.SmallRefIdeal.nD Cert.SmallRefIdeal.τ).loc Cert.SmallRefIdeal.main_v374) = v30 c
          ∧ r.2.mem ((c.tc : Thread Cert.SmallRefIdeal.nD Cert.SmallRefIdeal.τ).loc Cert.SmallRefIdeal.main_v5) = v31 c
          ∧ r.2.mem ((c.tc : Thread Cert.SmallRefIdeal.nD Cert.SmallRefIdeal.τ).loc Cert.SmallRefIdeal.main_v30) = v32 c
          ∧ r.2.mem ((c.tc : Thread Cert.SmallRefIdeal.nD Cert.SmallRefIdeal.τ).loc Cert.SmallRefIdeal.main_v55) = v33 c
          ∧ r.2.mem ((c.tc : Thread Cert.SmallRefIdeal.nD Cert.SmallRefIdeal.τ).loc Cert.SmallRefIdeal.main_v80) = v34 c
          ∧ r.2.mem ((c.tc : Thread Cert.SmallRefIdeal.nD Cert.SmallRefIdeal.τ).loc Cert.SmallRefIdeal.main_v105) = v35 c
          ∧ r.2.mem ((c.tc : Thread Cert.SmallRefIdeal.nD Cert.SmallRefIdeal.τ).loc Cert.SmallRefIdeal.main_v130) = v36 c
          ∧ r.2.mem ((c.tc : Thread Cert.SmallRefIdeal.nD Cert.SmallRefIdeal.τ).loc Cert.SmallRefIdeal.main_v155) = v37 c
          ∧ r.2.mem ((c.tc : Thread Cert.SmallRefIdeal.nD Cert.SmallRefIdeal.τ).loc Cert.SmallRefIdeal.main_v180) = v38 c
          ∧ r.2.mem ((c.tc : Thread Cert.SmallRefIdeal.nD Cert.SmallRefIdeal.τ).loc Cert.SmallRefIdeal.main_v205) = v39 c
          ∧ r.2.mem ((c.tc : Thread Cert.SmallRefIdeal.nD Cert.SmallRefIdeal.τ).loc Cert.SmallRefIdeal.main_v230) = v40 c
          ∧ r.2.mem ((c.tc : Thread Cert.SmallRefIdeal.nD Cert.SmallRefIdeal.τ).loc Cert.SmallRefIdeal.main_v255) = v41 c
          ∧ r.2.mem ((c.tc : Thread Cert.SmallRefIdeal.nD Cert.SmallRefIdeal.τ).loc Cert.SmallRefIdeal.main_v280) = v42 c
          ∧ r.2.mem ((c.tc : Thread Cert.SmallRefIdeal.nD Cert.SmallRefIdeal.τ).loc Cert.SmallRefIdeal.main_v305) = v43 c
          ∧ r.2.mem ((c.tc : Thread Cert.SmallRefIdeal.nD Cert.SmallRefIdeal.τ).loc Cert.SmallRefIdeal.main_v330) = v44 c
          ∧ r.2.mem ((c.tc : Thread Cert.SmallRefIdeal.nD Cert.SmallRefIdeal.τ).loc Cert.SmallRefIdeal.main_v355) = v45 c
          ∧ r.2.mem ((c.tc : Thread Cert.SmallRefIdeal.nD Cert.SmallRefIdeal.τ).loc Cert.SmallRefIdeal.main_v11) = v46 c
          ∧ r.2.mem ((c.tc : Thread Cert.SmallRefIdeal.nD Cert.SmallRefIdeal.τ).loc Cert.SmallRefIdeal.main_v36) = v47 c
          ∧ r.2.mem ((c.tc : Thread Cert.SmallRefIdeal.nD Cert.SmallRefIdeal.τ).loc Cert.SmallRefIdeal.main_v61) = v48 c
          ∧ r.2.mem ((c.tc : Thread Cert.SmallRefIdeal.nD Cert.SmallRefIdeal.τ).loc Cert.SmallRefIdeal.main_v86) = v49 c
          ∧ r.2.mem ((c.tc : Thread Cert.SmallRefIdeal.nD Cert.SmallRefIdeal.τ).loc Cert.SmallRefIdeal.main_v111) = v50 c
          ∧ r.2.mem ((c.tc : Thread Cert.SmallRefIdeal.nD Cert.SmallRefIdeal.τ).loc Cert.SmallRefIdeal.main_v136) = v51 c
          ∧ r.2.mem ((c.tc : Thread Cert.SmallRefIdeal.nD Cert.SmallRefIdeal.τ).loc Cert.SmallRefIdeal.main_v161) = v52 c
          ∧ r.2.mem ((c.tc : Thread Cert.SmallRefIdeal.nD Cert.SmallRefIdeal.τ).loc Cert.SmallRefIdeal.main_v186) = v53 c
          ∧ r.2.mem ((c.tc : Thread Cert.SmallRefIdeal.nD Cert.SmallRefIdeal.τ).loc Cert.SmallRefIdeal.main_v211) = v54 c
          ∧ r.2.mem ((c.tc : Thread Cert.SmallRefIdeal.nD Cert.SmallRefIdeal.τ).loc Cert.SmallRefIdeal.main_v236) = v55 c
          ∧ r.2.mem ((c.tc : Thread Cert.SmallRefIdeal.nD Cert.SmallRefIdeal.τ).loc Cert.SmallRefIdeal.main_v261) = v56 c
          ∧ r.2.mem ((c.tc : Thread Cert.SmallRefIdeal.nD Cert.SmallRefIdeal.τ).loc Cert.SmallRefIdeal.main_v286) = v57 c
          ∧ r.2.mem ((c.tc : Thread Cert.SmallRefIdeal.nD Cert.SmallRefIdeal.τ).loc Cert.SmallRefIdeal.main_v311) = v58 c
          ∧ r.2.mem ((c.tc : Thread Cert.SmallRefIdeal.nD Cert.SmallRefIdeal.τ).loc Cert.SmallRefIdeal.main_v336) = v59 c
          ∧ r.2.mem ((c.tc : Thread Cert.SmallRefIdeal.nD Cert.SmallRefIdeal.τ).loc Cert.SmallRefIdeal.main_v361) = v60 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3)
          ∧ r.2.mem ((c.tc : Thread Cert.SmallRefIdeal.nD Cert.SmallRefIdeal.τ).loc Cert.SmallRefIdeal.main_arg4) = m' ((c.tc : Thread Cert.SmallRefIdeal.nD Cert.SmallRefIdeal.τ).loc Cert.SmallRefIdeal.main_arg4)
          ∧ r.2.mem ((c.tc : Thread Cert.SmallRefIdeal.nD Cert.SmallRefIdeal.τ).loc Cert.SmallRefIdeal.main_arg5) = m' ((c.tc : Thread Cert.SmallRefIdeal.nD Cert.SmallRefIdeal.τ).loc Cert.SmallRefIdeal.main_arg5)
          ∧ r.2.mem ((c.tc : Thread Cert.SmallRefIdeal.nD Cert.SmallRefIdeal.τ).loc Cert.SmallRefIdeal.main_arg6) = m' ((c.tc : Thread Cert.SmallRefIdeal.nD Cert.SmallRefIdeal.τ).loc Cert.SmallRefIdeal.main_arg6)
          ∧ r.2.mem ((c.tc : Thread Cert.SmallRefIdeal.nD Cert.SmallRefIdeal.τ).loc Cert.SmallRefIdeal.main_arg7) = m' ((c.tc : Thread Cert.SmallRefIdeal.nD Cert.SmallRefIdeal.τ).loc Cert.SmallRefIdeal.main_arg7)
          ∧ r.2.mem ((c.tc : Thread Cert.SmallRefIdeal.nD Cert.SmallRefIdeal.τ).loc Cert.SmallRefIdeal.main_arg8) = m' ((c.tc : Thread Cert.SmallRefIdeal.nD Cert.SmallRefIdeal.τ).loc Cert.SmallRefIdeal.main_arg8)
          ∧ r.2.mem ((c.tc : Thread Cert.SmallRefIdeal.nD Cert.SmallRefIdeal.τ).loc Cert.SmallRefIdeal.main_arg9) = m' ((c.tc : Thread Cert.SmallRefIdeal.nD Cert.SmallRefIdeal.τ).loc Cert.SmallRefIdeal.main_arg9)
          ∧ r.2.mem ((c.tc : Thread Cert.SmallRefIdeal.nD Cert.SmallRefIdeal.τ).loc Cert.SmallRefIdeal.main_arg10) = m' ((c.tc : Thread Cert.SmallRefIdeal.nD Cert.SmallRefIdeal.τ).loc Cert.SmallRefIdeal.main_arg10)
          ∧ r.2.mem ((c.tc : Thread Cert.SmallRefIdeal.nD Cert.SmallRefIdeal.τ).loc Cert.SmallRefIdeal.main_arg11) = m' ((c.tc : Thread Cert.SmallRefIdeal.nD Cert.SmallRefIdeal.τ).loc Cert.SmallRefIdeal.main_arg11)
          ∧ r.2.mem ((c.tc : Thread Cert.SmallRefIdeal.nD Cert.SmallRefIdeal.τ).loc Cert.SmallRefIdeal.main_arg12) = m' ((c.tc : Thread Cert.SmallRefIdeal.nD Cert.SmallRefIdeal.τ).loc Cert.SmallRefIdeal.main_arg12)
          ∧ r.2.mem ((c.tc : Thread Cert.SmallRefIdeal.nD Cert.SmallRefIdeal.τ).loc Cert.SmallRefIdeal.main_arg13) = m' ((c.tc : Thread Cert.SmallRefIdeal.nD Cert.SmallRefIdeal.τ).loc Cert.SmallRefIdeal.main_arg13)
          ∧ r.2.mem ((c.tc : Thread Cert.SmallRefIdeal.nD Cert.SmallRefIdeal.τ).loc Cert.SmallRefIdeal.main_arg14) = m' ((c.tc : Thread Cert.SmallRefIdeal.nD Cert.SmallRefIdeal.τ).loc Cert.SmallRefIdeal.main_arg14)
          ∧ r.2.mem ((c.tc : Thread Cert.SmallRefIdeal.nD Cert.SmallRefIdeal.τ).loc Cert.SmallRefIdeal.main_arg15) = m' ((c.tc : Thread Cert.SmallRefIdeal.nD Cert.SmallRefIdeal.τ).loc Cert.SmallRefIdeal.main_arg15)
          ∧ r.2.mem ((c.tc : Thread Cert.SmallRefIdeal.nD Cert.SmallRefIdeal.τ).loc Cert.SmallRefIdeal.main_arg16) = m' ((c.tc : Thread Cert.SmallRefIdeal.nD Cert.SmallRefIdeal.τ).loc Cert.SmallRefIdeal.main_arg16)
          ∧ r.2.mem ((c.tc : Thread Cert.SmallRefIdeal.nD Cert.SmallRefIdeal.τ).loc Cert.SmallRefIdeal.main_arg17) = m' ((c.tc : Thread Cert.SmallRefIdeal.nD Cert.SmallRefIdeal.τ).loc Cert.SmallRefIdeal.main_arg17)
          ∧ r.2.mem ((c.tc : Thread Cert.SmallRefIdeal.nD Cert.SmallRefIdeal.τ).loc Cert.SmallRefIdeal.main_arg18) = m' ((c.tc : Thread Cert.SmallRefIdeal.nD Cert.SmallRefIdeal.τ).loc Cert.SmallRefIdeal.main_arg18)
          ∧ r.2.mem ((c.tc : Thread Cert.SmallRefIdeal.nD Cert.SmallRefIdeal.τ).loc Cert.SmallRefIdeal.main_arg19) = m' ((c.tc : Thread Cert.SmallRefIdeal.nD Cert.SmallRefIdeal.τ).loc Cert.SmallRefIdeal.main_arg19)
          ∧ r.2.mem ((c.tc : Thread Cert.SmallRefIdeal.nD Cert.SmallRefIdeal.τ).loc Cert.SmallRefIdeal.main_arg20) = m' ((c.tc : Thread Cert.SmallRefIdeal.nD Cert.SmallRefIdeal.τ).loc Cert.SmallRefIdeal.main_arg20)
          ∧ r.2.mem ((c.tc : Thread Cert.SmallRefIdeal.nD Cert.SmallRefIdeal.τ).loc Cert.SmallRefIdeal.main_arg21) = m' ((c.tc : Thread Cert.SmallRefIdeal.nD Cert.SmallRefIdeal.τ).loc Cert.SmallRefIdeal.main_arg21)
          ∧ r.2.mem ((c.tc : Thread Cert.SmallRefIdeal.nD Cert.SmallRefIdeal.τ).loc Cert.SmallRefIdeal.main_arg22) = m' ((c.tc : Thread Cert.SmallRefIdeal.nD Cert.SmallRefIdeal.τ).loc Cert.SmallRefIdeal.main_arg22)
          ∧ r.2.mem ((c.tc : Thread Cert.SmallRefIdeal.nD Cert.SmallRefIdeal.τ).loc Cert.SmallRefIdeal.main_arg23) = m' ((c.tc : Thread Cert.SmallRefIdeal.nD Cert.SmallRefIdeal.τ).loc Cert.SmallRefIdeal.main_arg23)
          ∧ r.2.mem ((c.tc : Thread Cert.SmallRefIdeal.nD Cert.SmallRefIdeal.τ).loc Cert.SmallRefIdeal.main_arg24) = m' ((c.tc : Thread Cert.SmallRefIdeal.nD Cert.SmallRefIdeal.τ).loc Cert.SmallRefIdeal.main_arg24)
          ∧ r.2.mem ((c.tc : Thread Cert.SmallRefIdeal.nD Cert.SmallRefIdeal.τ).loc Cert.SmallRefIdeal.main_arg25) = m' ((c.tc : Thread Cert.SmallRefIdeal.nD Cert.SmallRefIdeal.τ).loc Cert.SmallRefIdeal.main_arg25)
          ∧ r.2.mem ((c.tc : Thread Cert.SmallRefIdeal.nD Cert.SmallRefIdeal.τ).loc Cert.SmallRefIdeal.main_arg26) = m' ((c.tc : Thread Cert.SmallRefIdeal.nD Cert.SmallRefIdeal.τ).loc Cert.SmallRefIdeal.main_arg26)
          ∧ r.2.mem ((c.tc : Thread Cert.SmallRefIdeal.nD Cert.SmallRefIdeal.τ).loc Cert.SmallRefIdeal.main_arg27) = m' ((c.tc : Thread Cert.SmallRefIdeal.nD Cert.SmallRefIdeal.τ).loc Cert.SmallRefIdeal.main_arg27)
          ∧ r.2.mem ((c.tc : Thread Cert.SmallRefIdeal.nD Cert.SmallRefIdeal.τ).loc Cert.SmallRefIdeal.main_arg28) = m' ((c.tc : Thread Cert.SmallRefIdeal.nD Cert.SmallRefIdeal.τ).loc Cert.SmallRefIdeal.main_arg28)
          ∧ r.2.mem ((c.tc : Thread Cert.SmallRefIdeal.nD Cert.SmallRefIdeal.τ).loc Cert.SmallRefIdeal.main_arg29) = m' ((c.tc : Thread Cert.SmallRefIdeal.nD Cert.SmallRefIdeal.τ).loc Cert.SmallRefIdeal.main_arg29)
          ∧ r.2.mem ((c.tc : Thread Cert.SmallRefIdeal.nD Cert.SmallRefIdeal.τ).loc Cert.SmallRefIdeal.main_arg30) = m' ((c.tc : Thread Cert.SmallRefIdeal.nD Cert.SmallRefIdeal.τ).loc Cert.SmallRefIdeal.main_arg30)
          ∧ r.2.mem ((c.tc : Thread Cert.SmallRefIdeal.nD Cert.SmallRefIdeal.τ).loc Cert.SmallRefIdeal.main_arg31) = m' ((c.tc : Thread Cert.SmallRefIdeal.nD Cert.SmallRefIdeal.τ).loc Cert.SmallRefIdeal.main_arg31)
          ∧ r.2.mem ((c.tc : Thread Cert.SmallRefIdeal.nD Cert.SmallRefIdeal.τ).loc Cert.SmallRefIdeal.main_arg32) = m' ((c.tc : Thread Cert.SmallRefIdeal.nD Cert.SmallRefIdeal.τ).loc Cert.SmallRefIdeal.main_arg32)
          ∧ r.2.mem ((c.tc : Thread Cert.SmallRefIdeal.nD Cert.SmallRefIdeal.τ).loc Cert.SmallRefIdeal.main_arg33) = m' ((c.tc : Thread Cert.SmallRefIdeal.nD Cert.SmallRefIdeal.τ).loc Cert.SmallRefIdeal.main_arg33)
          ∧ r.2.mem ((c.tc : Thread Cert.SmallRefIdeal.nD Cert.SmallRefIdeal.τ).loc Cert.SmallRefIdeal.main_arg34) = m' ((c.tc : Thread Cert.SmallRefIdeal.nD Cert.SmallRefIdeal.τ).loc Cert.SmallRefIdeal.main_arg34)
          ∧ r.2.mem ((c.tc : Thread Cert.SmallRefIdeal.nD Cert.SmallRefIdeal.τ).loc Cert.SmallRefIdeal.main_arg35) = m' ((c.tc : Thread Cert.SmallRefIdeal.nD Cert.SmallRefIdeal.τ).loc Cert.SmallRefIdeal.main_arg35)
          ∧ r.2.mem ((c.tc : Thread Cert.SmallRefIdeal.nD Cert.SmallRefIdeal.τ).loc Cert.SmallRefIdeal.main_arg36) = m' ((c.tc : Thread Cert.SmallRefIdeal.nD Cert.SmallRefIdeal.τ).loc Cert.SmallRefIdeal.main_arg36)
          ∧ r.2.mem ((c.tc : Thread Cert.SmallRefIdeal.nD Cert.SmallRefIdeal.τ).loc Cert.SmallRefIdeal.main_arg37) = m' ((c.tc : Thread Cert.SmallRefIdeal.nD Cert.SmallRefIdeal.τ).loc Cert.SmallRefIdeal.main_arg37)
          ∧ r.2.mem ((c.tc : Thread Cert.SmallRefIdeal.nD Cert.SmallRefIdeal.τ).loc Cert.SmallRefIdeal.main_arg38) = m' ((c.tc : Thread Cert.SmallRefIdeal.nD Cert.SmallRefIdeal.τ).loc Cert.SmallRefIdeal.main_arg38)
          ∧ r.2.mem ((c.tc : Thread Cert.SmallRefIdeal.nD Cert.SmallRefIdeal.τ).loc Cert.SmallRefIdeal.main_arg39) = m' ((c.tc : Thread Cert.SmallRefIdeal.nD Cert.SmallRefIdeal.τ).loc Cert.SmallRefIdeal.main_arg39)
          ∧ r.2.mem ((c.tc : Thread Cert.SmallRefIdeal.nD Cert.SmallRefIdeal.τ).loc Cert.SmallRefIdeal.main_arg40) = m' ((c.tc : Thread Cert.SmallRefIdeal.nD Cert.SmallRefIdeal.τ).loc Cert.SmallRefIdeal.main_arg40)
          ∧ r.2.mem ((c.tc : Thread Cert.SmallRefIdeal.nD Cert.SmallRefIdeal.τ).loc Cert.SmallRefIdeal.main_arg41) = m' ((c.tc : Thread Cert.SmallRefIdeal.nD Cert.SmallRefIdeal.τ).loc Cert.SmallRefIdeal.main_arg41)
          ∧ r.2.mem ((c.tc : Thread Cert.SmallRefIdeal.nD Cert.SmallRefIdeal.τ).loc Cert.SmallRefIdeal.main_arg42) = m' ((c.tc : Thread Cert.SmallRefIdeal.nD Cert.SmallRefIdeal.τ).loc Cert.SmallRefIdeal.main_arg42)
          ∧ r.2.mem ((c.tc : Thread Cert.SmallRefIdeal.nD Cert.SmallRefIdeal.τ).loc Cert.SmallRefIdeal.main_arg43) = m' ((c.tc : Thread Cert.SmallRefIdeal.nD Cert.SmallRefIdeal.τ).loc Cert.SmallRefIdeal.main_arg43)
          ∧ r.2.mem ((c.tc : Thread Cert.SmallRefIdeal.nD Cert.SmallRefIdeal.τ).loc Cert.SmallRefIdeal.main_arg44) = m' ((c.tc : Thread Cert.SmallRefIdeal.nD Cert.SmallRefIdeal.τ).loc Cert.SmallRefIdeal.main_arg44)
          ∧ r.2.mem ((c.tc : Thread Cert.SmallRefIdeal.nD Cert.SmallRefIdeal.τ).loc Cert.SmallRefIdeal.main_arg45) = m' ((c.tc : Thread Cert.SmallRefIdeal.nD Cert.SmallRefIdeal.τ).loc Cert.SmallRefIdeal.main_arg45)
          ∧ r.2.mem ((c.tc : Thread Cert.SmallRefIdeal.nD Cert.SmallRefIdeal.τ).loc Cert.SmallRefIdeal.main_arg46) = m' ((c.tc : Thread Cert.SmallRefIdeal.nD Cert.SmallRefIdeal.τ).loc Cert.SmallRefIdeal.main_arg46)
          ∧ r.2.mem ((c.tc : Thread Cert.SmallRefIdeal.nD Cert.SmallRefIdeal.τ).loc Cert.SmallRefIdeal.main_arg47) = m' ((c.tc : Thread Cert.SmallRefIdeal.nD Cert.SmallRefIdeal.τ).loc Cert.SmallRefIdeal.main_arg47)
          ∧ r.2.mem ((c.tc : Thread Cert.SmallRefIdeal.nD Cert.SmallRefIdeal.τ).loc Cert.SmallRefIdeal.main_arg48) = m' ((c.tc : Thread Cert.SmallRefIdeal.nD Cert.SmallRefIdeal.τ).loc Cert.SmallRefIdeal.main_arg48)
          ∧ r.2.mem ((c.tc : Thread Cert.SmallRefIdeal.nD Cert.SmallRefIdeal.τ).loc Cert.SmallRefIdeal.main_arg49) = m' ((c.tc : Thread Cert.SmallRefIdeal.nD Cert.SmallRefIdeal.τ).loc Cert.SmallRefIdeal.main_arg49)
          ∧ r.2.mem ((c.tc : Thread Cert.SmallRefIdeal.nD Cert.SmallRefIdeal.τ).loc Cert.SmallRefIdeal.main_arg50) = m' ((c.tc : Thread Cert.SmallRefIdeal.nD Cert.SmallRefIdeal.τ).loc Cert.SmallRefIdeal.main_arg50)
          ∧ r.2.mem ((c.tc : Thread Cert.SmallRefIdeal.nD Cert.SmallRefIdeal.τ).loc Cert.SmallRefIdeal.main_arg51) = m' ((c.tc : Thread Cert.SmallRefIdeal.nD Cert.SmallRefIdeal.τ).loc Cert.SmallRefIdeal.main_arg51)
          ∧ r.2.mem ((c.tc : Thread Cert.SmallRefIdeal.nD Cert.SmallRefIdeal.τ).loc Cert.SmallRefIdeal.main_arg52) = m' ((c.tc : Thread Cert.SmallRefIdeal.nD Cert.SmallRefIdeal.τ).loc Cert.SmallRefIdeal.main_arg52)
          ∧ r.2.mem ((c.tc : Thread Cert.SmallRefIdeal.nD Cert.SmallRefIdeal.τ).loc Cert.SmallRefIdeal.main_arg53) = m' ((c.tc : Thread Cert.SmallRefIdeal.nD Cert.SmallRefIdeal.τ).loc Cert.SmallRefIdeal.main_arg53)
          ∧ r.2.mem ((c.tc : Thread Cert.SmallRefIdeal.nD Cert.SmallRefIdeal.τ).loc Cert.SmallRefIdeal.main_arg54) = m' ((c.tc : Thread Cert.SmallRefIdeal.nD Cert.SmallRefIdeal.τ).loc Cert.SmallRefIdeal.main_arg54)
          ∧ r.2.mem ((c.tc : Thread Cert.SmallRefIdeal.nD Cert.SmallRefIdeal.τ).loc Cert.SmallRefIdeal.main_arg55) = m' ((c.tc : Thread Cert.SmallRefIdeal.nD Cert.SmallRefIdeal.τ).loc Cert.SmallRefIdeal.main_arg55)
          ∧ r.2.mem ((c.tc : Thread Cert.SmallRefIdeal.nD Cert.SmallRefIdeal.τ).loc Cert.SmallRefIdeal.main_arg56) = m' ((c.tc : Thread Cert.SmallRefIdeal.nD Cert.SmallRefIdeal.τ).loc Cert.SmallRefIdeal.main_arg56)
          ∧ r.2.mem ((c.tc : Thread Cert.SmallRefIdeal.nD Cert.SmallRefIdeal.τ).loc Cert.SmallRefIdeal.main_arg57) = m' ((c.tc : Thread Cert.SmallRefIdeal.nD Cert.SmallRefIdeal.τ).loc Cert.SmallRefIdeal.main_arg57)
          ∧ r.2.mem ((c.tc : Thread Cert.SmallRefIdeal.nD Cert.SmallRefIdeal.τ).loc Cert.SmallRefIdeal.main_arg58) = m' ((c.tc : Thread Cert.SmallRefIdeal.nD Cert.SmallRefIdeal.τ).loc Cert.SmallRefIdeal.main_arg58)
          ∧ r.2.mem ((c.tc : Thread Cert.SmallRefIdeal.nD Cert.SmallRefIdeal.τ).loc Cert.SmallRefIdeal.main_arg59) = m' ((c.tc : Thread Cert.SmallRefIdeal.nD Cert.SmallRefIdeal.τ).loc Cert.SmallRefIdeal.main_arg59)
          ∧ r.2.mem ((c.tc : Thread Cert.SmallRefIdeal.nD Cert.SmallRefIdeal.τ).loc Cert.SmallRefIdeal.main_arg60) = m' ((c.tc : Thread Cert.SmallRefIdeal.nD Cert.SmallRefIdeal.τ).loc Cert.SmallRefIdeal.main_arg60))

def Claim : Prop :=
  ∃ (hMlpOutDx : Cert.MlpOutDx.Facts) (hMlpOutDxIdeal : Cert.MlpOutDxIdeal.Facts) (hMlpOutDxRefIdeal : Cert.MlpOutDxRefIdeal.Facts) (hMlpOutDw : Cert.MlpOutDw.Facts) (hMlpOutDwIdeal : Cert.MlpOutDwIdeal.Facts) (hMlpOutDwRefIdeal : Cert.MlpOutDwRefIdeal.Facts) (hMlpInDw : Cert.MlpInDw.Facts) (hMlpInDwIdeal : Cert.MlpInDwIdeal.Facts) (hMlpInDwRefIdeal : Cert.MlpInDwRefIdeal.Facts) (hMlpInDx : Cert.MlpInDx.Facts) (hMlpInDxIdeal : Cert.MlpInDxIdeal.Facts) (hMlpInDxRefIdeal : Cert.MlpInDxRefIdeal.Facts) (hProjDx : Cert.ProjDx.Facts) (hProjDxIdeal : Cert.ProjDxIdeal.Facts) (hProjDxRefIdeal : Cert.ProjDxRefIdeal.Facts) (hProjDw : Cert.ProjDw.Facts) (hProjDwIdeal : Cert.ProjDwIdeal.Facts) (hProjDwRefIdeal : Cert.ProjDwRefIdeal.Facts) (hOutProjDx : Cert.OutProjDx.Facts) (hOutProjDxIdeal : Cert.OutProjDxIdeal.Facts) (hOutProjDxRefIdeal : Cert.OutProjDxRefIdeal.Facts) (hOutProjDw : Cert.OutProjDw.Facts) (hOutProjDwIdeal : Cert.OutProjDwIdeal.Facts) (hOutProjDwRefIdeal : Cert.OutProjDwRefIdeal.Facts) (hGluGateDx : Cert.GluGateDx.Facts) (hGluGateDxIdeal : Cert.GluGateDxIdeal.Facts) (hGluGateDxRefIdeal : Cert.GluGateDxRefIdeal.Facts) (hGluGateDw : Cert.GluGateDw.Facts) (hGluGateDwIdeal : Cert.GluGateDwIdeal.Facts) (hGluGateDwRefIdeal : Cert.GluGateDwRefIdeal.Facts) (hAttnNormBwd : Cert.AttnNormBwd.Facts) (hAttnNormBwdIdeal : Cert.AttnNormBwdIdeal.Facts) (hAttnNormBwdRefIdeal : Cert.AttnNormBwdRefIdeal.Facts) (hMlpIn : Cert.MlpIn.Facts) (hMlpInIdeal : Cert.MlpInIdeal.Facts) (hMlpInRefIdeal : Cert.MlpInRefIdeal.Facts) (hMlpOut : Cert.MlpOut.Facts) (hMlpOutIdeal : Cert.MlpOutIdeal.Facts) (hMlpOutRefIdeal : Cert.MlpOutRefIdeal.Facts) (hOutProj : Cert.OutProj.Facts) (hOutProjIdeal : Cert.OutProjIdeal.Facts) (hOutProjRefIdeal : Cert.OutProjRefIdeal.Facts) (hGluGate : Cert.GluGate.Facts) (hGluGateIdeal : Cert.GluGateIdeal.Facts) (hGluGateRefIdeal : Cert.GluGateRefIdeal.Facts) (hAttnNorm : Cert.AttnNorm.Facts) (hAttnNormIdeal : Cert.AttnNormIdeal.Facts) (hAttnNormRefIdeal : Cert.AttnNormRefIdeal.Facts) (hAdamSmall : Cert.AdamSmall.Facts) (hAdamSmallIdeal : Cert.AdamSmallIdeal.Facts) (hAdamSmallRefIdeal : Cert.AdamSmallRefIdeal.Facts) (hAdamWIn : Cert.AdamWIn.Facts) (hAdamWInIdeal : Cert.AdamWInIdeal.Facts) (hAdamWInRefIdeal : Cert.AdamWInRefIdeal.Facts) (hAdamWGlu : Cert.AdamWGlu.Facts) (hAdamWGluIdeal : Cert.AdamWGluIdeal.Facts) (hAdamWGluRefIdeal : Cert.AdamWGluRefIdeal.Facts) (hAdamWOut : Cert.AdamWOut.Facts) (hAdamWOutIdeal : Cert.AdamWOutIdeal.Facts) (hAdamWOutRefIdeal : Cert.AdamWOutRefIdeal.Facts) (hAdamWMlpIn : Cert.AdamWMlpIn.Facts) (hAdamWMlpInIdeal : Cert.AdamWMlpInIdeal.Facts) (hAdamWMlpInRefIdeal : Cert.AdamWMlpInRefIdeal.Facts) (hAdamWMlpOut : Cert.AdamWMlpOut.Facts) (hAdamWMlpOutIdeal : Cert.AdamWMlpOutIdeal.Facts) (hAdamWMlpOutRefIdeal : Cert.AdamWMlpOutRefIdeal.Facts) (hProj : Cert.Proj.Facts) (hProjIdeal : Cert.ProjIdeal.Facts) (hProjRefIdeal : Cert.ProjRefIdeal.Facts) (hSmall : Cert.Small.Facts) (hSmallIdeal : Cert.SmallIdeal.Facts) (hSmallRefIdeal : Cert.SmallRefIdeal.Facts) (hPre_w_in_device : Cert.Pre_w_in_device.Facts) (hPre_w_glu_device : Cert.Pre_w_glu_device.Facts) (hPre_w_out_device : Cert.Pre_w_out_device.Facts) (hPre_w_mlp_in_device : Cert.Pre_w_mlp_in_device.Facts) (hPre_w_mlp_out_device : Cert.Pre_w_mlp_out_device.Facts) (hPre_finite_inputs : Cert.Pre_finite_inputs.Facts),
    quiescent_MlpOutDx (hMlpOutDx := hMlpOutDx)
    ∧ quiescent_MlpOutDxIdeal (hMlpOutDxIdeal := hMlpOutDxIdeal)
    ∧ quiescent_MlpOutDxRefIdeal (hMlpOutDxRefIdeal := hMlpOutDxRefIdeal)
    ∧ quiescent_MlpOutDw (hMlpOutDw := hMlpOutDw)
    ∧ quiescent_MlpOutDwIdeal (hMlpOutDwIdeal := hMlpOutDwIdeal)
    ∧ quiescent_MlpOutDwRefIdeal (hMlpOutDwRefIdeal := hMlpOutDwRefIdeal)
    ∧ quiescent_MlpInDw (hMlpInDw := hMlpInDw)
    ∧ quiescent_MlpInDwIdeal (hMlpInDwIdeal := hMlpInDwIdeal)
    ∧ quiescent_MlpInDwRefIdeal (hMlpInDwRefIdeal := hMlpInDwRefIdeal)
    ∧ quiescent_MlpInDx (hMlpInDx := hMlpInDx)
    ∧ quiescent_MlpInDxIdeal (hMlpInDxIdeal := hMlpInDxIdeal)
    ∧ quiescent_MlpInDxRefIdeal (hMlpInDxRefIdeal := hMlpInDxRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_OutProjDx (hOutProjDx := hOutProjDx)
    ∧ quiescent_OutProjDxIdeal (hOutProjDxIdeal := hOutProjDxIdeal)
    ∧ quiescent_OutProjDxRefIdeal (hOutProjDxRefIdeal := hOutProjDxRefIdeal)
    ∧ quiescent_OutProjDw (hOutProjDw := hOutProjDw)
    ∧ quiescent_OutProjDwIdeal (hOutProjDwIdeal := hOutProjDwIdeal)
    ∧ quiescent_OutProjDwRefIdeal (hOutProjDwRefIdeal := hOutProjDwRefIdeal)
    ∧ quiescent_GluGateDx (hGluGateDx := hGluGateDx)
    ∧ quiescent_GluGateDxIdeal (hGluGateDxIdeal := hGluGateDxIdeal)
    ∧ quiescent_GluGateDxRefIdeal (hGluGateDxRefIdeal := hGluGateDxRefIdeal)
    ∧ quiescent_GluGateDw (hGluGateDw := hGluGateDw)
    ∧ quiescent_GluGateDwIdeal (hGluGateDwIdeal := hGluGateDwIdeal)
    ∧ quiescent_GluGateDwRefIdeal (hGluGateDwRefIdeal := hGluGateDwRefIdeal)
    ∧ quiescent_AttnNormBwd (hAttnNormBwd := hAttnNormBwd)
    ∧ quiescent_AttnNormBwdIdeal (hAttnNormBwdIdeal := hAttnNormBwdIdeal)
    ∧ quiescent_AttnNormBwdRefIdeal (hAttnNormBwdRefIdeal := hAttnNormBwdRefIdeal)
    ∧ quiescent_MlpIn (hMlpIn := hMlpIn)
    ∧ quiescent_MlpInIdeal (hMlpInIdeal := hMlpInIdeal)
    ∧ quiescent_MlpInRefIdeal (hMlpInRefIdeal := hMlpInRefIdeal)
    ∧ quiescent_MlpOut (hMlpOut := hMlpOut)
    ∧ quiescent_MlpOutIdeal (hMlpOutIdeal := hMlpOutIdeal)
    ∧ quiescent_MlpOutRefIdeal (hMlpOutRefIdeal := hMlpOutRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_GluGate (hGluGate := hGluGate)
    ∧ quiescent_GluGateIdeal (hGluGateIdeal := hGluGateIdeal)
    ∧ quiescent_GluGateRefIdeal (hGluGateRefIdeal := hGluGateRefIdeal)
    ∧ quiescent_AttnNorm (hAttnNorm := hAttnNorm)
    ∧ quiescent_AttnNormIdeal (hAttnNormIdeal := hAttnNormIdeal)
    ∧ quiescent_AttnNormRefIdeal (hAttnNormRefIdeal := hAttnNormRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamWIn (hAdamWIn := hAdamWIn) (hPre_w_in_device := hPre_w_in_device)
    ∧ quiescent_AdamWInIdeal (hAdamWInIdeal := hAdamWInIdeal) (hPre_w_in_device := hPre_w_in_device)
    ∧ quiescent_AdamWInRefIdeal (hAdamWInRefIdeal := hAdamWInRefIdeal)
    ∧ quiescent_AdamWInRefIdeal_pre_w_in_device (hAdamWInRefIdeal := hAdamWInRefIdeal) (hPre_w_in_device := hPre_w_in_device)
    ∧ quiescent_AdamWGlu (hAdamWGlu := hAdamWGlu) (hPre_w_glu_device := hPre_w_glu_device)
    ∧ quiescent_AdamWGluIdeal (hAdamWGluIdeal := hAdamWGluIdeal) (hPre_w_glu_device := hPre_w_glu_device)
    ∧ quiescent_AdamWGluRefIdeal (hAdamWGluRefIdeal := hAdamWGluRefIdeal)
    ∧ quiescent_AdamWGluRefIdeal_pre_w_glu_device (hAdamWGluRefIdeal := hAdamWGluRefIdeal) (hPre_w_glu_device := hPre_w_glu_device)
    ∧ quiescent_AdamWOut (hAdamWOut := hAdamWOut) (hPre_w_out_device := hPre_w_out_device)
    ∧ quiescent_AdamWOutIdeal (hAdamWOutIdeal := hAdamWOutIdeal) (hPre_w_out_device := hPre_w_out_device)
    ∧ quiescent_AdamWOutRefIdeal (hAdamWOutRefIdeal := hAdamWOutRefIdeal)
    ∧ quiescent_AdamWOutRefIdeal_pre_w_out_device (hAdamWOutRefIdeal := hAdamWOutRefIdeal) (hPre_w_out_device := hPre_w_out_device)
    ∧ quiescent_AdamWMlpIn (hAdamWMlpIn := hAdamWMlpIn) (hPre_w_mlp_in_device := hPre_w_mlp_in_device)
    ∧ quiescent_AdamWMlpInIdeal (hAdamWMlpInIdeal := hAdamWMlpInIdeal) (hPre_w_mlp_in_device := hPre_w_mlp_in_device)
    ∧ quiescent_AdamWMlpInRefIdeal (hAdamWMlpInRefIdeal := hAdamWMlpInRefIdeal)
    ∧ quiescent_AdamWMlpInRefIdeal_pre_w_mlp_in_device (hAdamWMlpInRefIdeal := hAdamWMlpInRefIdeal) (hPre_w_mlp_in_device := hPre_w_mlp_in_device)
    ∧ quiescent_AdamWMlpOut (hAdamWMlpOut := hAdamWMlpOut) (hPre_w_mlp_out_device := hPre_w_mlp_out_device)
    ∧ quiescent_AdamWMlpOutIdeal (hAdamWMlpOutIdeal := hAdamWMlpOutIdeal) (hPre_w_mlp_out_device := hPre_w_mlp_out_device)
    ∧ quiescent_AdamWMlpOutRefIdeal (hAdamWMlpOutRefIdeal := hAdamWMlpOutRefIdeal)
    ∧ quiescent_AdamWMlpOutRefIdeal_pre_w_mlp_out_device (hAdamWMlpOutRefIdeal := hAdamWMlpOutRefIdeal) (hPre_w_mlp_out_device := hPre_w_mlp_out_device)
    ∧ quiescent_Proj (hProj := hProj) (hPre_finite_inputs := hPre_finite_inputs)
    ∧ quiescent_ProjIdeal (hProjIdeal := hProjIdeal) (hPre_finite_inputs := hPre_finite_inputs)
    ∧ quiescent_ProjRefIdeal (hProjRefIdeal := hProjRefIdeal)
    ∧ quiescent_ProjRefIdeal_pre_finite_inputs (hProjRefIdeal := hProjRefIdeal) (hPre_finite_inputs := hPre_finite_inputs)
    ∧ quiescent_Small (hSmall := hSmall)
    ∧ quiescent_SmallIdeal (hSmallIdeal := hSmallIdeal)
    ∧ quiescent_SmallRefIdeal (hSmallRefIdeal := hSmallRefIdeal)
    ∧ preserves_MlpOutDx_MlpOutDxIdeal
    ∧ algebraic_MlpOutDxIdeal_MlpOutDxRefIdeal (hMlpOutDxIdeal := hMlpOutDxIdeal) (hMlpOutDxRefIdeal := hMlpOutDxRefIdeal)
    ∧ preserves_MlpOutDw_MlpOutDwIdeal
    ∧ algebraic_MlpOutDwIdeal_MlpOutDwRefIdeal (hMlpOutDwIdeal := hMlpOutDwIdeal) (hMlpOutDwRefIdeal := hMlpOutDwRefIdeal)
    ∧ preserves_MlpInDw_MlpInDwIdeal
    ∧ algebraic_MlpInDwIdeal_MlpInDwRefIdeal (hMlpInDwIdeal := hMlpInDwIdeal) (hMlpInDwRefIdeal := hMlpInDwRefIdeal)
    ∧ preserves_MlpInDx_MlpInDxIdeal
    ∧ algebraic_MlpInDxIdeal_MlpInDxRefIdeal (hMlpInDxIdeal := hMlpInDxIdeal) (hMlpInDxRefIdeal := hMlpInDxRefIdeal)
    ∧ preserves_ProjDx_ProjDxIdeal
    ∧ algebraic_ProjDxIdeal_ProjDxRefIdeal (hProjDxIdeal := hProjDxIdeal) (hProjDxRefIdeal := hProjDxRefIdeal)
    ∧ preserves_ProjDw_ProjDwIdeal
    ∧ algebraic_ProjDwIdeal_ProjDwRefIdeal (hProjDwIdeal := hProjDwIdeal) (hProjDwRefIdeal := hProjDwRefIdeal)
    ∧ preserves_OutProjDx_OutProjDxIdeal
    ∧ algebraic_OutProjDxIdeal_OutProjDxRefIdeal (hOutProjDxIdeal := hOutProjDxIdeal) (hOutProjDxRefIdeal := hOutProjDxRefIdeal)
    ∧ preserves_OutProjDw_OutProjDwIdeal
    ∧ algebraic_OutProjDwIdeal_OutProjDwRefIdeal (hOutProjDwIdeal := hOutProjDwIdeal) (hOutProjDwRefIdeal := hOutProjDwRefIdeal)
    ∧ preserves_GluGateDx_GluGateDxIdeal
    ∧ algebraic_GluGateDxIdeal_GluGateDxRefIdeal (hGluGateDxIdeal := hGluGateDxIdeal) (hGluGateDxRefIdeal := hGluGateDxRefIdeal)
    ∧ preserves_GluGateDw_GluGateDwIdeal
    ∧ algebraic_GluGateDwIdeal_GluGateDwRefIdeal (hGluGateDwIdeal := hGluGateDwIdeal) (hGluGateDwRefIdeal := hGluGateDwRefIdeal)
    ∧ preserves_AttnNormBwd_AttnNormBwdIdeal
    ∧ algebraic_AttnNormBwdIdeal_AttnNormBwdRefIdeal (hAttnNormBwdIdeal := hAttnNormBwdIdeal) (hAttnNormBwdRefIdeal := hAttnNormBwdRefIdeal)
    ∧ preserves_MlpIn_MlpInIdeal
    ∧ algebraic_MlpInIdeal_MlpInRefIdeal (hMlpInIdeal := hMlpInIdeal) (hMlpInRefIdeal := hMlpInRefIdeal)
    ∧ preserves_MlpOut_MlpOutIdeal
    ∧ algebraic_MlpOutIdeal_MlpOutRefIdeal (hMlpOutIdeal := hMlpOutIdeal) (hMlpOutRefIdeal := hMlpOutRefIdeal)
    ∧ preserves_OutProj_OutProjIdeal
    ∧ algebraic_OutProjIdeal_OutProjRefIdeal (hOutProjIdeal := hOutProjIdeal) (hOutProjRefIdeal := hOutProjRefIdeal)
    ∧ preserves_GluGate_GluGateIdeal
    ∧ algebraic_GluGateIdeal_GluGateRefIdeal (hGluGateIdeal := hGluGateIdeal) (hGluGateRefIdeal := hGluGateRefIdeal)
    ∧ preserves_AttnNorm_AttnNormIdeal
    ∧ algebraic_AttnNormIdeal_AttnNormRefIdeal (hAttnNormIdeal := hAttnNormIdeal) (hAttnNormRefIdeal := hAttnNormRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamWIn_AdamWInIdeal
    ∧ algebraic_AdamWInIdeal_AdamWInRefIdeal (hAdamWInIdeal := hAdamWInIdeal) (hAdamWInRefIdeal := hAdamWInRefIdeal) (hPre_w_in_device := hPre_w_in_device)
    ∧ preserves_AdamWGlu_AdamWGluIdeal
    ∧ algebraic_AdamWGluIdeal_AdamWGluRefIdeal (hAdamWGluIdeal := hAdamWGluIdeal) (hAdamWGluRefIdeal := hAdamWGluRefIdeal) (hPre_w_glu_device := hPre_w_glu_device)
    ∧ preserves_AdamWOut_AdamWOutIdeal
    ∧ algebraic_AdamWOutIdeal_AdamWOutRefIdeal (hAdamWOutIdeal := hAdamWOutIdeal) (hAdamWOutRefIdeal := hAdamWOutRefIdeal) (hPre_w_out_device := hPre_w_out_device)
    ∧ preserves_AdamWMlpIn_AdamWMlpInIdeal
    ∧ algebraic_AdamWMlpInIdeal_AdamWMlpInRefIdeal (hAdamWMlpInIdeal := hAdamWMlpInIdeal) (hAdamWMlpInRefIdeal := hAdamWMlpInRefIdeal) (hPre_w_mlp_in_device := hPre_w_mlp_in_device)
    ∧ preserves_AdamWMlpOut_AdamWMlpOutIdeal
    ∧ algebraic_AdamWMlpOutIdeal_AdamWMlpOutRefIdeal (hAdamWMlpOutIdeal := hAdamWMlpOutIdeal) (hAdamWMlpOutRefIdeal := hAdamWMlpOutRefIdeal) (hPre_w_mlp_out_device := hPre_w_mlp_out_device)
    ∧ preserves_Proj_ProjIdeal
    ∧ algebraic_ProjIdeal_ProjRefIdeal (hProjIdeal := hProjIdeal) (hProjRefIdeal := hProjRefIdeal) (hPre_finite_inputs := hPre_finite_inputs)
    ∧ preserves_Small_SmallIdeal
    ∧ algebraic_SmallIdeal_SmallRefIdeal (hSmallIdeal := hSmallIdeal) (hSmallRefIdeal := hSmallRefIdeal)
-- ==== Pre_finite_inputs.lean ====
abbrev S4096x1024 : Shape := ⟨2, ![4096, 1024]⟩
abbrev S1024x2048 : Shape := ⟨2, ![1024, 2048]⟩
abbrev S1x1024 : Shape := ⟨2, ![1, 1024]⟩
abbrev S64 : Shape := ⟨1, ![64]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S1024x2048 : S_.BroadcastsInDim S1024x2048 (![] : Fin 0 → Fin S1024x2048.rank)
  reducesTo_S1024x2048_S_d0_1 : S1024x2048.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S4096x1024 .f32) (main_arg1 : FVec F S1024x2048 .bf16) (main_arg2 : FVec F S1x1024 .f32) (main_arg3 : FVec F S64 .f32) (main_arg4 : FVec F S64 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2048 .f32 := (extf .f32 · bitsLt_bf16_f32) main_arg1
  let main_v5 : FVec F S1024x2048 .f32 := Host.absf main_v4
  let main_cst_0 : FVec F S_ .f32 := constant S_ .f32 0x7F800000#32
  let main_v6 : FVec F S1024x2048 .f32 := broadcastInDim S1024x2048 ![] bcast_S_S1024x2048 main_cst_0
  let main_v7 : IVec S1024x2048 1 := cmpf .olt main_v5 main_v6
  let main_c_1 : IVec S_ 1 := constantI S_ 1 1#1
  let main_v8 : IVec S_ 1 := (fun x v => Host.reduce IntOp.andi x v reducesTo_S1024x2048_S_d0_1 h_S_) main_v7 main_c_1
  let main_v9 : IVec S_ 1 := andi main_v3 main_v8
  let main_v10 : FVec F S1x1024 .f32 := Host.absf main_arg2
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  main_v14
-- ==== Pre_w_glu_device.lean ====
abbrev S8x64x512 : Shape := ⟨3, ![8, 64, 512]⟩
abbrev S1 : Shape := ⟨1, ![1]⟩
abbrev S64x512 : Shape := ⟨2, ![64, 512]⟩
abbrev S_ : Shape := ⟨0, ![]⟩

class Facts : Prop where
  shapeCasts_S1_S_ : S1.ShapeCasts S_

variable [Facts]

def fn {F : FTy → Type} [FloatOps F] (main_arg0 : FVec F S8x64x512 .f32) (main_arg1 : FVec F S8x64x512 .bf16) (main_arg2 : IVec S1 32) (main_arg3 : FVec F S64x512 .f32) (main_arg4 : FVec F S64x512 .f32) (main_arg5 : FVec F S64x512 .f32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 8#32
  let main_v3 : IVec S_ 1 := cmpi .slt main_v2 main_c_0
  let main_v4 : IVec S_ 1 := andi main_v1 main_v3
  main_v4
-- ==== Pre_w_in_device.lean ====
abbrev S8x1024x256 : Shape := ⟨3, ![8, 1024, 256]⟩
abbrev S1 : Shape := ⟨1, ![1]⟩
abbrev S1024x256 : Shape := ⟨2, ![1024, 256]⟩
abbrev S_ : Shape := ⟨0, ![]⟩

class Facts : Prop where
  shapeCasts_S1_S_ : S1.ShapeCasts S_

variable [Facts]

def fn {F : FTy → Type} [FloatOps F] (main_arg0 : FVec F S8x1024x256 .f32) (main_arg1 : FVec F S8x1024x256 .bf16) (main_arg2 : IVec S1 32) (main_arg3 : FVec F S1024x256 .f32) (main_arg4 : FVec F S1024x256 .f32) (main_arg5 : FVec F S1024x256 .f32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 8#32
  let main_v3 : IVec S_ 1 := cmpi .slt main_v2 main_c_0
  let main_v4 : IVec S_ 1 := andi main_v1 main_v3
  main_v4
-- ==== Pre_w_mlp_in_device.lean ====
abbrev S8x1024x512 : Shape := ⟨3, ![8, 1024, 512]⟩
abbrev S1 : Shape := ⟨1, ![1]⟩
abbrev S1024x512 : Shape := ⟨2, ![1024, 512]⟩
abbrev S_ : Shape := ⟨0, ![]⟩

class Facts : Prop where
  shapeCasts_S1_S_ : S1.ShapeCasts S_

variable [Facts]

def fn {F : FTy → Type} [FloatOps F] (main_arg0 : FVec F S8x1024x512 .f32) (main_arg1 : FVec F S8x1024x512 .bf16) (main_arg2 : IVec S1 32) (main_arg3 : FVec F S1024x512 .f32) (main_arg4 : FVec F S1024x512 .f32) (main_arg5 : FVec F S1024x512 .f32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 8#32
  let main_v3 : IVec S_ 1 := cmpi .slt main_v2 main_c_0
  let main_v4 : IVec S_ 1 := andi main_v1 main_v3
  main_v4
-- ==== Pre_w_mlp_out_device.lean ====
abbrev S8x512x1024 : Shape := ⟨3, ![8, 512, 1024]⟩
abbrev S1 : Shape := ⟨1, ![1]⟩
abbrev S512x1024 : Shape := ⟨2, ![512, 1024]⟩
abbrev S_ : Shape := ⟨0, ![]⟩

class Facts : Prop where
  shapeCasts_S1_S_ : S1.ShapeCasts S_

variable [Facts]

def fn {F : FTy → Type} [FloatOps F] (main_arg0 : FVec F S8x512x1024 .f32) (main_arg1 : FVec F S8x512x1024 .bf16) (main_arg2 : IVec S1 32) (main_arg3 : FVec F S512x1024 .f32) (main_arg4 : FVec F S512x1024 .f32) (main_arg5 : FVec F S512x1024 .f32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 8#32
  let main_v3 : IVec S_ 1 := cmpi .slt main_v2 main_c_0
  let main_v4 : IVec S_ 1 := andi main_v1 main_v3
  main_v4
-- ==== Pre_w_out_device.lean ====
abbrev S8x128x1024 : Shape := ⟨3, ![8, 128, 1024]⟩
abbrev S1 : Shape := ⟨1, ![1]⟩
abbrev S128x1024 : Shape := ⟨2, ![128, 1024]⟩
abbrev S_ : Shape := ⟨0, ![]⟩

class Facts : Prop where
  shapeCasts_S1_S_ : S1.ShapeCasts S_

variable [Facts]

def fn {F : FTy → Type} [FloatOps F] (main_arg0 : FVec F S8x128x1024 .f32) (main_arg1 : FVec F S8x128x1024 .bf16) (main_arg2 : IVec S1 32) (main_arg3 : FVec F S128x1024 .f32) (main_arg4 : FVec F S128x1024 .f32) (main_arg5 : FVec F S128x1024 .f32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 8#32
  let main_v3 : IVec S_ 1 := cmpi .slt main_v2 main_c_0
  let main_v4 : IVec S_ 1 := andi main_v1 main_v3
  main_v4
-- ==== MlpOutDx.lean ====
abbrev S4096x1024 : Shape := ⟨2, ![4096, 1024]⟩
abbrev S4096x4096 : Shape := ⟨2, ![4096, 4096]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpOutDxRefIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== MlpOutDw.lean ====
abbrev S4096x4096 : Shape := ⟨2, ![4096, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpOutDwRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlpInDw.lean ====
abbrev S4096x1024 : Shape := ⟨2, ![4096, 1024]⟩
abbrev S4096x4096 : Shape := ⟨2, ![4096, 4096]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .f32⟩
  | .hbm, ⟨3, _⟩ => ⟨S8x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .f32⟩
  | .local _ .vmem, ⟨4, _⟩ => ⟨S1x1024x512, .f32⟩
  | .local _ .vmem, ⟨5, _⟩ => ⟨S1x1024x512, .bf16⟩
  | .local _ .vmem, ⟨6, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpInDwRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S_, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MlpInDx.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== MlpInDxRefIdeal.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x4096, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S4096x4096, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== ProjDx.lean ====
abbrev S4096x2048 : Shape := ⟨2, ![4096, 2048]⟩
abbrev S1024x2048 : Shape := ⟨2, ![1024, 2048]⟩
abbrev S4096x1024 : Shape := ⟨2, ![4096, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== ProjDxRefIdeal.lean ====
abbrev S4096x2048 : Shape := ⟨2, ![4096, 2048]⟩
abbrev S1024x2048 : Shape := ⟨2, ![1024, 2048]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x2048, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x2048, .f32⟩
  | .hbm, ⟨26, _⟩ => ⟨S4096x2048, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== ProjDw.lean ====
abbrev S4096x1024 : Shape := ⟨2, ![4096, 1024]⟩
abbrev S4096x2048 : Shape := ⟨2, ![4096, 2048]⟩
abbrev S8x1024x256 : Shape := ⟨3, ![8, 1024, 256]⟩
abbrev S4096x256 : Shape := ⟨2, ![4096, 256]⟩
abbrev S1x1024x256 : Shape := ⟨3, ![1, 1024, 256]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S8x1024x256, .f32⟩
  | .hbm, ⟨3, _⟩ => ⟨S8x1024x256, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1x1024x256, .f32⟩
  | .local _ .vmem, ⟨4, _⟩ => ⟨S1x1024x256, .f32⟩
  | .local _ .vmem, ⟨5, _⟩ => ⟨S1x1024x256, .bf16⟩
  | .local _ .vmem, ⟨6, _⟩ => ⟨S1x1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjDwRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S_, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutProjDx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutProjDw.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .hbm, ⟨3, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GluGateDx.lean ====
abbrev S4096x512 : Shape := ⟨2, ![4096, 512]⟩
abbrev S512x512 : Shape := ⟨2, ![512, 512]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S4096x512, .bf16⟩
  | .hbm, ⟨1, _⟩ => ⟨S512x512, .bf16⟩
  | .hbm, ⟨2, _⟩ => ⟨S4096x512, .f32⟩
  | .hbm, ⟨3, _⟩ => ⟨S4096x512, .f32⟩
  | .hbm, ⟨4, _⟩ => ⟨S4096x512, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== GluGateDxRefIdeal.lean ====
abbrev S4096x512 : Shape := ⟨2, ![4096, 512]⟩
abbrev S512x512 : Shape := ⟨2, ![512, 512]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x512, .bf16⟩
  | .hbm, ⟨2, _⟩ => ⟨S4096x512, .f32⟩
  | .hbm, ⟨3, _⟩ => ⟨S4096x512, .f32⟩
  | .hbm, ⟨4, _⟩ => ⟨S512x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S_, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== GluGateDw.lean ====
abbrev S4096x512 : Shape := ⟨2, ![4096, 512]⟩
abbrev S512x512 : Shape := ⟨2, ![512, 512]⟩

abbrev nBuf : Space → Nat
  | .hbm => 4
  | .vmem => 4
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S512x512, .f32⟩
  | .hbm, ⟨3, _⟩ => ⟨S512x512, .bf16⟩
  | .local _ .vmem, ⟨0, _⟩ => ⟨S4096x512, .bf16⟩
  | .local _ .vmem, ⟨1, _⟩ => ⟨S4096x512, .bf16⟩
  | .local _ .vmem, ⟨2, _⟩ => ⟨S512x512, .f32⟩
  | .local _ .vmem, ⟨3, _⟩ => ⟨S512x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== GluGateDwRefIdeal.lean ====
abbrev S4096x512 : Shape := ⟨2, ![4096, 512]⟩
abbrev S_ : Shape := ⟨0, ![]⟩
abbrev S512x512 : Shape := ⟨2, ![512, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .f32⟩
  | .hbm, ⟨3, _⟩ => ⟨S_, .f32⟩
  | .hbm, ⟨4, _⟩ => ⟨S512x512, .f32⟩
  | .hbm, ⟨5, _⟩ => ⟨S4096x512, .f32⟩
  | .hbm, ⟨6, _⟩ => ⟨S4096x512, .f32⟩
  | .hbm, ⟨7, _⟩ => ⟨S512x512, .f32⟩
  | .hbm, ⟨8, _⟩ => ⟨S512x512, .f32⟩
  | .hbm, ⟨9, _⟩ => ⟨S512x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnNormBwd.lean ====
abbrev S4096x512 : Shape := ⟨2, ![4096, 512]⟩
abbrev S4096x1024 : Shape := ⟨2, ![4096, 1024]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S1x512, .f32⟩
  | .hbm, ⟨3, _⟩ => ⟨S4096x512, .f32⟩
  | .hbm, ⟨4, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== AttnNormBwdRefIdeal.lean ====
abbrev S4096x512 : Shape := ⟨2, ![4096, 512]⟩
abbrev S4096x1024 : Shape := ⟨2, ![4096, 1024]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S512 : Shape := ⟨1, ![512]⟩

abbrev nBuf : Space → Nat
  | .hbm => 46
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S1x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S512, .f32⟩
  | .hbm, ⟨26, _⟩ => ⟨S1x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x512, .f32⟩
  | .hbm, ⟨34, _⟩ => ⟨S4096x512, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== MlpIn.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpInRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== MlpOut.lean ====
abbrev S4096x4096 : Shape := ⟨2, ![4096, 4096]⟩
abbrev S4096x1024 : Shape := ⟨2, ![4096, 1024]⟩
abbrev S1x1 : Shape := ⟨2, ![1, 1]⟩
abbrev S512x4096 : Shape := ⟨2, ![512, 4096]⟩
abbrev S512x1024 : Shape := ⟨2, ![512, 1024]⟩
abbrev S1024 : Shape := ⟨1, ![1024]⟩
abbrev S1x1024 : Shape := ⟨2, ![1, 1024]⟩
abbrev S1 : Shape := ⟨1, ![1]⟩

abbrev nBuf : Space → Nat
  | .hbm => 7
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== MlpOutRefIdeal.lean ====
abbrev S4096x4096 : Shape := ⟨2, ![4096, 4096]⟩
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S1x1, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutProjRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== GluGate.lean ====
abbrev S4096x512 : Shape := ⟨2, ![4096, 512]⟩
abbrev S512x512 : Shape := ⟨2, ![512, 512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x512, .bf16⟩
  | .hbm, ⟨1, _⟩ => ⟨S512x512, .bf16⟩
  | .hbm, ⟨2, _⟩ => ⟨S4096x512, .f32⟩
  | .hbm, ⟨3, _⟩ => ⟨S1x512, .f32⟩
  | .hbm, ⟨4, _⟩ => ⟨S1x512, .f32⟩
  | .hbm, ⟨5, _⟩ => ⟨S4096x512, .f32⟩
  | .hbm, ⟨6, _⟩ => ⟨S4096x512, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | .local _ .vmem, ⟨5, _⟩ => ⟨S1x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | .local _ .vmem, ⟨9, _⟩ => ⟨S1024x512, .bf16⟩
  | .local _ .vmem, ⟨10, _⟩ => ⟨S1024x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== GluGateRefIdeal.lean ====
abbrev S4096x512 : Shape := ⟨2, ![4096, 512]⟩
abbrev S512x512 : Shape := ⟨2, ![512, 512]⟩
abbrev S1x512 : Shape := ⟨2, ![1, 512]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x512, .bf16⟩
  | .hbm, ⟨2, _⟩ => ⟨S4096x512, .f32⟩
  | .hbm, ⟨3, _⟩ => ⟨S1x512, .f32⟩
  | .hbm, ⟨4, _⟩ => ⟨S1x512, .f32⟩
  | .hbm, ⟨5, _⟩ => ⟨S4096x512, .f32⟩
  | .hbm, ⟨6, _⟩ => ⟨S512x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== AttnNorm.lean ====
abbrev S4096x512 : Shape := ⟨2, ![4096, 512]⟩
abbrev S1x512 : Shape := ⟨2, ![1, 512]⟩
abbrev S4096x1024 : Shape := ⟨2, ![4096, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x512, .bf16⟩
  | .hbm, ⟨2, _⟩ => ⟨S1x512, .f32⟩
  | .hbm, ⟨3, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S512x1024, .bf16⟩
  | .local _ .vmem, ⟨6, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnNormRefIdeal.lean ====
abbrev S4096x512 : Shape := ⟨2, ![4096, 512]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S4096x1024 : Shape := ⟨2, ![4096, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .bf16⟩
  | .hbm, ⟨2, _⟩ => ⟨S1x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .bf16⟩
  | .hbm, ⟨19, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== AdamSmall.lean ====
abbrev S8x144x1024 : Shape := ⟨3, ![8, 144, 1024]⟩
abbrev S144x1024 : Shape := ⟨2, ![144, 1024]⟩
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x144x1024, .f32⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S144x1024, .f32⟩
  | .hbm, ⟨5, _⟩ => ⟨S144x1024, .f32⟩
  | .hbm, ⟨6, _⟩ => ⟨S144x1024, .f32⟩
  | .hbm, ⟨7, _⟩ => ⟨S144x1024, .f32⟩
  | .local _ .vmem, ⟨0, _⟩ => ⟨S8x8x1024, .f32⟩
  | .local _ .vmem, ⟨1, _⟩ => ⟨S8x8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | _, _ => ⟨S8x144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![18], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallRefIdeal.lean ====
abbrev S8x144x1024 : Shape := ⟨3, ![8, 144, 1024]⟩
abbrev S144x1024 : Shape := ⟨2, ![144, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x144x1024, .f32⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S_, .f32⟩
  | .hbm, ⟨5, _⟩ => ⟨S144x1024, .f32⟩
  | .hbm, ⟨6, _⟩ => ⟨S_, .f32⟩
  | .hbm, ⟨7, _⟩ => ⟨S144x1024, .f32⟩
  | .hbm, ⟨8, _⟩ => ⟨S144x1024, .f32⟩
  | .hbm, ⟨9, _⟩ => ⟨S_, .f32⟩
  | .hbm, ⟨10, _⟩ => ⟨S144x1024, .f32⟩
  | .hbm, ⟨11, _⟩ => ⟨S144x1024, .f32⟩
  | .hbm, ⟨12, _⟩ => ⟨S144x1024, .f32⟩
  | .hbm, ⟨13, _⟩ => ⟨S_, .f32⟩
  | .hbm, ⟨14, _⟩ => ⟨S144x1024, .f32⟩
  | .hbm, ⟨15, _⟩ => ⟨S144x1024, .f32⟩
  | .hbm, ⟨16, _⟩ => ⟨S144x1024, .f32⟩
  | .hbm, ⟨17, _⟩ => ⟨S_, .f32⟩
  | .hbm, ⟨18, _⟩ => ⟨S144x1024, .f32⟩
  | .hbm, ⟨19, _⟩ => ⟨S144x1024, .f32⟩
  | .hbm, ⟨20, _⟩ => ⟨S144x1024, .f32⟩
  | .hbm, ⟨21, _⟩ => ⟨S_, .f32⟩
  | .hbm, ⟨22, _⟩ => ⟨S144x1024, .f32⟩
  | .hbm, ⟨23, _⟩ => ⟨S144x1024, .f32⟩
  | .hbm, ⟨24, _⟩ => ⟨S_, .f32⟩
  | .hbm, ⟨25, _⟩ => ⟨S144x1024, .f32⟩
  | .hbm, ⟨26, _⟩ => ⟨S144x1024, .f32⟩
  | .hbm, ⟨27, _⟩ => ⟨S144x1024, .f32⟩
  | .hbm, ⟨28, _⟩ => ⟨S_, .f32⟩
  | .hbm, ⟨29, _⟩ => ⟨S144x1024, .f32⟩
  | .hbm, ⟨30, _⟩ => ⟨S144x1024, .f32⟩
  | .hbm, ⟨31, _⟩ => ⟨S144x1024, .f32⟩
  | .hbm, ⟨32, _⟩ => ⟨S_, .f32⟩
  | .hbm, ⟨33, _⟩ => ⟨S144x1024, .f32⟩
  | .hbm, ⟨34, _⟩ => ⟨S144x1024, .f32⟩
  | .hbm, ⟨35, _⟩ => ⟨S144x1024, .f32⟩
  | .hbm, ⟨36, _⟩ => ⟨S_, .f32⟩
  | .hbm, ⟨37, _⟩ => ⟨S144x1024, .f32⟩
  | .hbm, ⟨38, _⟩ => ⟨S144x1024, .f32⟩
  | _, _ => ⟨S8x144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamWIn.lean ====
abbrev S8x1024x256 : Shape := ⟨3, ![8, 1024, 256]⟩
abbrev S1 : Shape := ⟨1, ![1]⟩
abbrev S1024x256 : Shape := ⟨2, ![1024, 256]⟩
abbrev S1x256x256 : Shape := ⟨3, ![1, 256, 256]⟩
abbrev S8x256x256 : Shape := ⟨3, ![8, 256, 256]⟩
abbrev S256x256 : Shape := ⟨2, ![256, 256]⟩

abbrev nBuf : Space → Nat
  | .hbm => 9
  | .vmem => 18
  | .smem => 1
  | _ => 0

abbrev bufTy : (tb : Table) → Fin (tcTables nBuf tb) → BufTy
  | .hbm, ⟨0, _⟩ => ⟨S8x1024x256, .f32⟩
  | .hbm, ⟨1, _⟩ => ⟨S8x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S1x256x256, .f32⟩
  | .local _ .vmem, ⟨1, _⟩ => ⟨S1x256x256, .f32⟩
  | .local _ .vmem, ⟨2, _⟩ => ⟨S8x256x256, .bf16⟩
  | .local _ .vmem, ⟨3, _⟩ => ⟨S8x256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .smem, ⟨0, _⟩ => ⟨S1, .i32⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWInRefIdeal.lean ====
abbrev S8x1024x256 : Shape := ⟨3, ![8, 1024, 256]⟩
abbrev S1 : Shape := ⟨1, ![1]⟩
abbrev S1024x256 : Shape := ⟨2, ![1024, 256]⟩
abbrev S8 : Shape := ⟨1, ![8]⟩
abbrev S8x1x1 : Shape := ⟨3, ![8, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S8x1024x256, .f32⟩
  | .hbm, ⟨1, _⟩ => ⟨S8x1024x256, .bf16⟩
  | .hbm, ⟨2, _⟩ => ⟨S1, .i32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S_, .f32⟩
  | .hbm, ⟨12, _⟩ => ⟨S_, .f32⟩
  | .hbm, ⟨13, _⟩ => ⟨S8x1024x256, .i1⟩
  | .hbm, ⟨14, _⟩ => ⟨S8x1024x256, .f32⟩
  | .hbm, ⟨15, _⟩ => ⟨S8x1024x256, .f32⟩
  | .hbm, ⟨16, _⟩ => ⟨S_, .f32⟩
  | .hbm, ⟨17, _⟩ => ⟨S1024x256, .f32⟩
  | .hbm, ⟨18, _⟩ => ⟨S8x1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | .hbm, ⟨40, _⟩ => ⟨S_, .f32⟩
  | .hbm, ⟨41, _⟩ => ⟨S1024x256, .f32⟩
  | .hbm, ⟨42, _⟩ => ⟨S1024x256, .f32⟩
  | .hbm, ⟨43, _⟩ => ⟨S1024x256, .f32⟩
  | .hbm, ⟨44, _⟩ => ⟨S_, .f32⟩
  | .hbm, ⟨45, _⟩ => ⟨S1024x256, .f32⟩
  | .hbm, ⟨46, _⟩ => ⟨S1024x256, .f32⟩
  | .hbm, ⟨47, _⟩ => ⟨S1024x256, .f32⟩
  | .hbm, ⟨48, _⟩ => ⟨S_, .f32⟩
  | .hbm, ⟨49, _⟩ => ⟨S1024x256, .f32⟩
  | .hbm, ⟨50, _⟩ => ⟨S1024x256, .f32⟩
  | .hbm, ⟨51, _⟩ => ⟨S1024x256, .f32⟩
  | .hbm, ⟨52, _⟩ => ⟨S_, .f32⟩
  | .hbm, ⟨53, _⟩ => ⟨S1024x256, .f32⟩
  | .hbm, ⟨54, _⟩ => ⟨S1024x256, .f32⟩
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== AdamWGlu.lean ====
abbrev S8x64x512 : Shape := ⟨3, ![8, 64, 512]⟩
abbrev S1 : Shape := ⟨1, ![1]⟩
abbrev S64x512 : Shape := ⟨2, ![64, 512]⟩
abbrev S1x64x512 : Shape := ⟨3, ![1, 64, 512]⟩

abbrev nBuf : Space → Nat
  | .hbm => 9
  | .vmem => 9
  | .smem => 1
  | _ => 0

abbrev bufTy : (tb : Table) → Fin (tcTables nBuf tb) → BufTy
  | .hbm, ⟨0, _⟩ => ⟨S8x64x512, .f32⟩
  | .hbm, ⟨1, _⟩ => ⟨S8x64x512, .bf16⟩
  | .hbm, ⟨2, _⟩ => ⟨S64x512, .f32⟩
  | .hbm, ⟨3, _⟩ => ⟨S64x512, .f32⟩
  | .hbm, ⟨4, _⟩ => ⟨S64x512, .f32⟩
  | .hbm, ⟨5, _⟩ => ⟨S64x512, .f32⟩
  | .hbm, ⟨6, _⟩ => ⟨S64x512, .f32⟩
  | .hbm, ⟨7, _⟩ => ⟨S64x512, .f32⟩
  | .hbm, ⟨8, _⟩ => ⟨S64x512, .f32⟩
  | .local _ .vmem, ⟨0, _⟩ => ⟨S1x64x512, .f32⟩
  | .local _ .vmem, ⟨1, _⟩ => ⟨S8x64x512, .bf16⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .smem, ⟨0, _⟩ => ⟨S1, .i32⟩
  | _, _ => ⟨S8x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamWGluRefIdeal.lean ====
abbrev S8x64x512 : Shape := ⟨3, ![8, 64, 512]⟩
abbrev S1 : Shape := ⟨1, ![1]⟩
abbrev S64x512 : Shape := ⟨2, ![64, 512]⟩
abbrev S8 : Shape := ⟨1, ![8]⟩
abbrev S8x1x1 : Shape := ⟨3, ![8, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S8x64x512, .f32⟩
  | .hbm, ⟨1, _⟩ => ⟨S8x64x512, .bf16⟩
  | .hbm, ⟨2, _⟩ => ⟨S1, .i32⟩
  | .hbm, ⟨3, _⟩ => ⟨S64x512, .f32⟩
  | .hbm, ⟨4, _⟩ => ⟨S64x512, .f32⟩
  | .hbm, ⟨5, _⟩ => ⟨S64x512, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S_, .f32⟩
  | .hbm, ⟨12, _⟩ => ⟨S_, .f32⟩
  | .hbm, ⟨13, _⟩ => ⟨S8x64x512, .i1⟩
  | .hbm, ⟨14, _⟩ => ⟨S8x64x512, .f32⟩
  | .hbm, ⟨15, _⟩ => ⟨S8x64x512, .f32⟩
  | .hbm, ⟨16, _⟩ => ⟨S_, .f32⟩
  | .hbm, ⟨17, _⟩ => ⟨S64x512, .f32⟩
  | .hbm, ⟨18, _⟩ => ⟨S8x64x512, .f32⟩
  | .hbm, ⟨19, _⟩ => ⟨S_, .f32⟩
  | .hbm, ⟨20, _⟩ => ⟨S64x512, .f32⟩
  | .hbm, ⟨21, _⟩ => ⟨S64x512, .f32⟩
  | .hbm, ⟨22, _⟩ => ⟨S_, .f32⟩
  | .hbm, ⟨23, _⟩ => ⟨S64x512, .f32⟩
  | .hbm, ⟨24, _⟩ => ⟨S64x512, .f32⟩
  | .hbm, ⟨25, _⟩ => ⟨S_, .f32⟩
  | .hbm, ⟨26, _⟩ => ⟨S64x512, .f32⟩
  | .hbm, ⟨27, _⟩ => ⟨S64x512, .f32⟩
  | .hbm, ⟨28, _⟩ => ⟨S64x512, .f32⟩
  | .hbm, ⟨29, _⟩ => ⟨S_, .f32⟩
  | .hbm, ⟨30, _⟩ => ⟨S64x512, .f32⟩
  | .hbm, ⟨31, _⟩ => ⟨S64x512, .f32⟩
  | .hbm, ⟨32, _⟩ => ⟨S64x512, .f32⟩
  | .hbm, ⟨33, _⟩ => ⟨S_, .f32⟩
  | .hbm, ⟨34, _⟩ => ⟨S64x512, .f32⟩
  | .hbm, ⟨35, _⟩ => ⟨S64x512, .f32⟩
  | .hbm, ⟨36, _⟩ => ⟨S64x512, .f32⟩
  | .hbm, ⟨37, _⟩ => ⟨S_, .f32⟩
  | .hbm, ⟨38, _⟩ => ⟨S64x512, .f32⟩
  | .hbm, ⟨39, _⟩ => ⟨S64x512, .f32⟩
  | .hbm, ⟨40, _⟩ => ⟨S_, .f32⟩
  | .hbm, ⟨41, _⟩ => ⟨S64x512, .f32⟩
  | .hbm, ⟨42, _⟩ => ⟨S64x512, .f32⟩
  | .hbm, ⟨43, _⟩ => ⟨S64x512, .f32⟩
  | .hbm, ⟨44, _⟩ => ⟨S_, .f32⟩
  | .hbm, ⟨45, _⟩ => ⟨S64x512, .f32⟩
  | .hbm, ⟨46, _⟩ => ⟨S64x512, .f32⟩
  | .hbm, ⟨47, _⟩ => ⟨S64x512, .f32⟩
  | .hbm, ⟨48, _⟩ => ⟨S_, .f32⟩
  | .hbm, ⟨49, _⟩ => ⟨S64x512, .f32⟩
  | .hbm, ⟨50, _⟩ => ⟨S64x512, .f32⟩
  | .hbm, ⟨51, _⟩ => ⟨S64x512, .f32⟩
  | .hbm, ⟨52, _⟩ => ⟨S_, .f32⟩
  | .hbm, ⟨53, _⟩ => ⟨S64x512, .f32⟩
  | .hbm, ⟨54, _⟩ => ⟨S64x512, .f32⟩
  | _, _ => ⟨S8x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== AdamWOut.lean ====
abbrev S8x128x1024 : Shape := ⟨3, ![8, 128, 1024]⟩
abbrev S1 : Shape := ⟨1, ![1]⟩
abbrev S128x1024 : Shape := ⟨2, ![128, 1024]⟩
abbrev S1x128x1024 : Shape := ⟨3, ![1, 128, 1024]⟩

abbrev nBuf : Space → Nat
  | .hbm => 9
  | .vmem => 9
  | .smem => 1
  | _ => 0

abbrev bufTy : (tb : Table) → Fin (tcTables nBuf tb) → BufTy
  | .hbm, ⟨0, _⟩ => ⟨S8x128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S1x128x1024, .f32⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S1, .i32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamWOutRefIdeal.lean ====
abbrev S8x128x1024 : Shape := ⟨3, ![8, 128, 1024]⟩
abbrev S1 : Shape := ⟨1, ![1]⟩
abbrev S128x1024 : Shape := ⟨2, ![128, 1024]⟩
abbrev S8 : Shape := ⟨1, ![8]⟩
abbrev S8x1x1 : Shape := ⟨3, ![8, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .bf16⟩
  | .hbm, ⟨2, _⟩ => ⟨S1, .i32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S_, .f32⟩
  | .hbm, ⟨12, _⟩ => ⟨S_, .f32⟩
  | .hbm, ⟨13, _⟩ => ⟨S8x128x1024, .i1⟩
  | .hbm, ⟨14, _⟩ => ⟨S8x128x1024, .f32⟩
  | .hbm, ⟨15, _⟩ => ⟨S8x128x1024, .f32⟩
  | .hbm, ⟨16, _⟩ => ⟨S_, .f32⟩
  | .hbm, ⟨17, _⟩ => ⟨S128x1024, .f32⟩
  | .hbm, ⟨18, _⟩ => ⟨S8x128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128x1024, .f32⟩
  | .hbm, ⟨42, _⟩ => ⟨S128x1024, .f32⟩
  | .hbm, ⟨43, _⟩ => ⟨S128x1024, .f32⟩
  | .hbm, ⟨44, _⟩ => ⟨S_, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S_, .f32⟩
  | .hbm, ⟨49, _⟩ => ⟨S128x1024, .f32⟩
  | .hbm, ⟨50, _⟩ => ⟨S128x1024, .f32⟩
  | .hbm, ⟨51, _⟩ => ⟨S128x1024, .f32⟩
  | .hbm, ⟨52, _⟩ => ⟨S_, .f32⟩
  | .hbm, ⟨53, _⟩ => ⟨S128x1024, .f32⟩
  | .hbm, ⟨54, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== AdamWMlpIn.lean ====
abbrev S8x1024x512 : Shape := ⟨3, ![8, 1024, 512]⟩
abbrev S1 : Shape := ⟨1, ![1]⟩
abbrev S1024x512 : Shape := ⟨2, ![1024, 512]⟩
abbrev S1x256x512 : Shape := ⟨3, ![1, 256, 512]⟩
abbrev S8x256x512 : Shape := ⟨3, ![8, 256, 512]⟩
abbrev S256x512 : Shape := ⟨2, ![256, 512]⟩

abbrev nBuf : Space → Nat
  | .hbm => 9
  | .vmem => 18
  | .smem => 1
  | _ => 0

abbrev bufTy : (tb : Table) → Fin (tcTables nBuf tb) → BufTy
  | .hbm, ⟨0, _⟩ => ⟨S8x1024x512, .f32⟩
  | .hbm, ⟨1, _⟩ => ⟨S8x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S1x256x512, .f32⟩
  | .local _ .vmem, ⟨1, _⟩ => ⟨S1x256x512, .f32⟩
  | .local _ .vmem, ⟨2, _⟩ => ⟨S8x256x512, .bf16⟩
  | .local _ .vmem, ⟨3, _⟩ => ⟨S8x256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .smem, ⟨0, _⟩ => ⟨S1, .i32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWMlpInRefIdeal.lean ====
abbrev S8x1024x512 : Shape := ⟨3, ![8, 1024, 512]⟩
abbrev S1 : Shape := ⟨1, ![1]⟩
abbrev S1024x512 : Shape := ⟨2, ![1024, 512]⟩
abbrev S8 : Shape := ⟨1, ![8]⟩
abbrev S8x1x1 : Shape := ⟨3, ![8, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .bf16⟩
  | .hbm, ⟨2, _⟩ => ⟨S1, .i32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S_, .f32⟩
  | .hbm, ⟨12, _⟩ => ⟨S_, .f32⟩
  | .hbm, ⟨13, _⟩ => ⟨S8x1024x512, .i1⟩
  | .hbm, ⟨14, _⟩ => ⟨S8x1024x512, .f32⟩
  | .hbm, ⟨15, _⟩ => ⟨S8x1024x512, .f32⟩
  | .hbm, ⟨16, _⟩ => ⟨S_, .f32⟩
  | .hbm, ⟨17, _⟩ => ⟨S1024x512, .f32⟩
  | .hbm, ⟨18, _⟩ => ⟨S8x1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | .hbm, ⟨40, _⟩ => ⟨S_, .f32⟩
  | .hbm, ⟨41, _⟩ => ⟨S1024x512, .f32⟩
  | .hbm, ⟨42, _⟩ => ⟨S1024x512, .f32⟩
  | .hbm, ⟨43, _⟩ => ⟨S1024x512, .f32⟩
  | .hbm, ⟨44, _⟩ => ⟨S_, .f32⟩
  | .hbm, ⟨45, _⟩ => ⟨S1024x512, .f32⟩
  | .hbm, ⟨46, _⟩ => ⟨S1024x512, .f32⟩
  | .hbm, ⟨47, _⟩ => ⟨S1024x512, .f32⟩
  | .hbm, ⟨48, _⟩ => ⟨S_, .f32⟩
  | .hbm, ⟨49, _⟩ => ⟨S1024x512, .f32⟩
  | .hbm, ⟨50, _⟩ => ⟨S1024x512, .f32⟩
  | .hbm, ⟨51, _⟩ => ⟨S1024x512, .f32⟩
  | .hbm, ⟨52, _⟩ => ⟨S_, .f32⟩
  | .hbm, ⟨53, _⟩ => ⟨S1024x512, .f32⟩
  | .hbm, ⟨54, _⟩ => ⟨S1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== AdamWMlpOut.lean ====
abbrev S8x512x1024 : Shape := ⟨3, ![8, 512, 1024]⟩
abbrev S1 : Shape := ⟨1, ![1]⟩
abbrev S512x1024 : Shape := ⟨2, ![512, 1024]⟩
abbrev S1x256x1024 : Shape := ⟨3, ![1, 256, 1024]⟩
abbrev S8x256x1024 : Shape := ⟨3, ![8, 256, 1024]⟩
abbrev S256x1024 : Shape := ⟨2, ![256, 1024]⟩

abbrev nBuf : Space → Nat
  | .hbm => 9
  | .vmem => 18
  | .smem => 1
  | _ => 0

abbrev bufTy : (tb : Table) → Fin (tcTables nBuf tb) → BufTy
  | .hbm, ⟨0, _⟩ => ⟨S8x512x1024, .f32⟩
  | .hbm, ⟨1, _⟩ => ⟨S8x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S1x256x1024, .f32⟩
  | .local _ .vmem, ⟨1, _⟩ => ⟨S1x256x1024, .f32⟩
  | .local _ .vmem, ⟨2, _⟩ => ⟨S8x256x1024, .bf16⟩
  | .local _ .vmem, ⟨3, _⟩ => ⟨S8x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .smem, ⟨0, _⟩ => ⟨S1, .i32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWMlpOutRefIdeal.lean ====
abbrev S8x512x1024 : Shape := ⟨3, ![8, 512, 1024]⟩
abbrev S1 : Shape := ⟨1, ![1]⟩
abbrev S512x1024 : Shape := ⟨2, ![512, 1024]⟩
abbrev S8 : Shape := ⟨1, ![8]⟩
abbrev S8x1x1 : Shape := ⟨3, ![8, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S8x512x1024, .f32⟩
  | .hbm, ⟨1, _⟩ => ⟨S8x512x1024, .bf16⟩
  | .hbm, ⟨2, _⟩ => ⟨S1, .i32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S_, .f32⟩
  | .hbm, ⟨12, _⟩ => ⟨S_, .f32⟩
  | .hbm, ⟨13, _⟩ => ⟨S8x512x1024, .i1⟩
  | .hbm, ⟨14, _⟩ => ⟨S8x512x1024, .f32⟩
  | .hbm, ⟨15, _⟩ => ⟨S8x512x1024, .f32⟩
  | .hbm, ⟨16, _⟩ => ⟨S_, .f32⟩
  | .hbm, ⟨17, _⟩ => ⟨S512x1024, .f32⟩
  | .hbm, ⟨18, _⟩ => ⟨S8x512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | .hbm, ⟨40, _⟩ => ⟨S_, .f32⟩
  | .hbm, ⟨41, _⟩ => ⟨S512x1024, .f32⟩
  | .hbm, ⟨42, _⟩ => ⟨S512x1024, .f32⟩
  | .hbm, ⟨43, _⟩ => ⟨S512x1024, .f32⟩
  | .hbm, ⟨44, _⟩ => ⟨S_, .f32⟩
  | .hbm, ⟨45, _⟩ => ⟨S512x1024, .f32⟩
  | .hbm, ⟨46, _⟩ => ⟨S512x1024, .f32⟩
  | .hbm, ⟨47, _⟩ => ⟨S512x1024, .f32⟩
  | .hbm, ⟨48, _⟩ => ⟨S_, .f32⟩
  | .hbm, ⟨49, _⟩ => ⟨S512x1024, .f32⟩
  | .hbm, ⟨50, _⟩ => ⟨S512x1024, .f32⟩
  | .hbm, ⟨51, _⟩ => ⟨S512x1024, .f32⟩
  | .hbm, ⟨52, _⟩ => ⟨S_, .f32⟩
  | .hbm, ⟨53, _⟩ => ⟨S512x1024, .f32⟩
  | .hbm, ⟨54, _⟩ => ⟨S512x1024, .f32⟩
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Proj.lean ====
abbrev S4096x1024 : Shape := ⟨2, ![4096, 1024]⟩
abbrev S1024x2048 : Shape := ⟨2, ![1024, 2048]⟩
abbrev S1x1024 : Shape := ⟨2, ![1, 1024]⟩
abbrev S64 : Shape := ⟨1, ![64]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S_ : Shape := ⟨0, ![]⟩
abbrev S1x2048 : Shape := ⟨2, ![1, 2048]⟩
abbrev S4096x2048 : Shape := ⟨2, ![4096, 2048]⟩
abbrev S4096x512 : Shape := ⟨2, ![4096, 512]⟩
abbrev S512x1024 : Shape := ⟨2, ![512, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 24
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024x2048, .bf16⟩
  | .hbm, ⟨2, _⟩ => ⟨S1x1024, .f32⟩
  | .hbm, ⟨3, _⟩ => ⟨S64, .f32⟩
  | .hbm, ⟨4, _⟩ => ⟨S64, .f32⟩
  | .hbm, ⟨5, _⟩ => ⟨S1x64, .f32⟩
  | .hbm, ⟨6, _⟩ => ⟨S1x1x1x64, .f32⟩
  | .hbm, ⟨7, _⟩ => ⟨S1x1x8x64, .f32⟩
  | .hbm, ⟨8, _⟩ => ⟨S1x512, .f32⟩
  | .hbm, ⟨9, _⟩ => ⟨S1x64, .f32⟩
  | .hbm, ⟨10, _⟩ => ⟨S1x1x1x64, .f32⟩
  | .hbm, ⟨11, _⟩ => ⟨S1x1x8x64, .f32⟩
  | .hbm, ⟨12, _⟩ => ⟨S1x512, .f32⟩
  | .hbm, ⟨13, _⟩ => ⟨S_, .f32⟩
  | .hbm, ⟨14, _⟩ => ⟨S1x512, .f32⟩
  | .hbm, ⟨15, _⟩ => ⟨S1x512, .f32⟩
  | .hbm, ⟨16, _⟩ => ⟨S_, .f32⟩
  | .hbm, ⟨17, _⟩ => ⟨S1x1024, .f32⟩
  | .hbm, ⟨18, _⟩ => ⟨S1x2048, .f32⟩
  | .hbm, ⟨19, _⟩ => ⟨S4096x2048, .f32⟩
  | .hbm, ⟨20, _⟩ => ⟨S4096x512, .bf16⟩
  | .hbm, ⟨21, _⟩ => ⟨S4096x512, .bf16⟩
  | .hbm, ⟨22, _⟩ => ⟨S4096x512, .bf16⟩
  | .hbm, ⟨23, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1x1024, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x1024, .bf16⟩
  | .local _ .vmem, ⟨14, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== ProjRefIdeal.lean ====
abbrev S4096x1024 : Shape := ⟨2, ![4096, 1024]⟩
abbrev S1024x2048 : Shape := ⟨2, ![1024, 2048]⟩
abbrev S1x1024 : Shape := ⟨2, ![1, 1024]⟩
abbrev S64 : Shape := ⟨1, ![64]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S4096x512 : Shape := ⟨2, ![4096, 512]⟩
abbrev S4096x8x64 : Shape := ⟨3, ![4096, 8, 64]⟩
abbrev S4096x8 : Shape := ⟨2, ![4096, 8]⟩
abbrev S4096x8x1 : Shape := ⟨3, ![4096, 8, 1]⟩
abbrev S1x1x64 : Shape := ⟨3, ![1, 1, 64]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .bf16⟩
  | .hbm, ⟨2, _⟩ => ⟨S1x1024, .f32⟩
  | .hbm, ⟨3, _⟩ => ⟨S64, .f32⟩
  | .hbm, ⟨4, _⟩ => ⟨S64, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1024x2048, .f32⟩
  | .hbm, ⟨21, _⟩ => ⟨S4096x2048, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x8x64, .f32⟩
  | .hbm, ⟨26, _⟩ => ⟨S4096x8x64, .f32⟩
  | .hbm, ⟨27, _⟩ => ⟨S_, .f32⟩
  | .hbm, ⟨28, _⟩ => ⟨S4096x8, .f32⟩
  | .hbm, ⟨29, _⟩ => ⟨S4096x8x1, .f32⟩
  | .hbm, ⟨30, _⟩ => ⟨S_, .f32⟩
  | .hbm, ⟨31, _⟩ => ⟨S4096x8x1, .f32⟩
  | .hbm, ⟨32, _⟩ => ⟨S4096x8x1, .f32⟩
  | .hbm, ⟨33, _⟩ => ⟨S_, .f32⟩
  | .hbm, ⟨34, _⟩ => ⟨S4096x8x1, .f32⟩
  | .hbm, ⟨35, _⟩ => ⟨S4096x8x1, .f32⟩
  | .hbm, ⟨36, _⟩ => ⟨S4096x8x1, .f32⟩
  | .hbm, ⟨37, _⟩ => ⟨S4096x8x64, .f32⟩
  | .hbm, ⟨38, _⟩ => ⟨S4096x8x64, .f32⟩
  | .hbm, ⟨39, _⟩ => ⟨S1x1x64, .f32⟩
  | .hbm, ⟨40, _⟩ => ⟨S4096x8x64, .f32⟩
  | .hbm, ⟨41, _⟩ => ⟨S4096x8x64, .f32⟩
  | .hbm, ⟨42, _⟩ => ⟨S_, .f32⟩
  | .hbm, ⟨43, _⟩ => ⟨S4096x8x64, .f32⟩
  | .hbm, ⟨44, _⟩ => ⟨S4096x8x64, .f32⟩
  | .hbm, ⟨45, _⟩ => ⟨S4096x8x64, .f32⟩
  | .hbm, ⟨46, _⟩ => ⟨S4096x8x64, .f32⟩
  | .hbm, ⟨47, _⟩ => ⟨S_, .f32⟩
  | .hbm, ⟨48, _⟩ => ⟨S4096x8, .f32⟩
  | .hbm, ⟨49, _⟩ => ⟨S4096x8x1, .f32⟩
  | .hbm, ⟨50, _⟩ => ⟨S_, .f32⟩
  | .hbm, ⟨51, _⟩ => ⟨S4096x8x1, .f32⟩
  | .hbm, ⟨52, _⟩ => ⟨S4096x8x1, .f32⟩
  | .hbm, ⟨53, _⟩ => ⟨S_, .f32⟩
  | .hbm, ⟨54, _⟩ => ⟨S4096x8x1, .f32⟩
  | .hbm, ⟨55, _⟩ => ⟨S4096x8x1, .f32⟩
  | .hbm, ⟨56, _⟩ => ⟨S4096x8x1, .f32⟩
  | .hbm, ⟨57, _⟩ => ⟨S4096x8x64, .f32⟩
  | .hbm, ⟨58, _⟩ => ⟨S4096x8x64, .f32⟩
  | .hbm, ⟨59, _⟩ => ⟨S1x1x64, .f32⟩
  | .hbm, ⟨60, _⟩ => ⟨S4096x8x64, .f32⟩
  | .hbm, ⟨61, _⟩ => ⟨S4096x8x64, .f32⟩
  | .hbm, ⟨62, _⟩ => ⟨S4096x512, .f32⟩
  | .hbm, ⟨63, _⟩ => ⟨S4096x512, .bf16⟩
  | .hbm, ⟨64, _⟩ => ⟨S4096x512, .f32⟩
  | .hbm, ⟨65, _⟩ => ⟨S4096x512, .bf16⟩
  | .hbm, ⟨66, _⟩ => ⟨S4096x512, .bf16⟩
  | .hbm, ⟨67, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Small.lean ====
abbrev S8 : Shape := ⟨1, ![8]⟩
abbrev S8x1024 : Shape := ⟨2, ![8, 1024]⟩
abbrev S8x64 : Shape := ⟨2, ![8, 64]⟩
abbrev S8x32x64 : Shape := ⟨3, ![8, 32, 64]⟩
abbrev S8x32 : Shape := ⟨2, ![8, 32]⟩
abbrev S8x32x64x16 : Shape := ⟨4, ![8, 32, 64, 16]⟩
abbrev S8x32x16x64 : Shape := ⟨4, ![8, 32, 16, 64]⟩
abbrev S8x32x16 : Shape := ⟨3, ![8, 32, 16]⟩
abbrev S8x512 : Shape := ⟨2, ![8, 512]⟩
abbrev S1024 : Shape := ⟨1, ![1024]⟩
abbrev S64 : Shape := ⟨1, ![64]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x16 : Shape := ⟨2, ![32, 16]⟩
abbrev S512 : Shape := ⟨1, ![512]⟩
abbrev S8x2048 : Shape := ⟨2, ![8, 2048]⟩
abbrev S8x32768 : Shape := ⟨2, ![8, 32768]⟩
abbrev S_ : Shape := ⟨0, ![]⟩
abbrev S8031 : Shape := ⟨1, ![8031]⟩
abbrev S8x1 : Shape := ⟨2, ![8, 1]⟩
abbrev S8x139424 : Shape := ⟨2, ![8, 139424]⟩
abbrev S8x8031 : Shape := ⟨2, ![8, 8031]⟩
abbrev S8x147456 : Shape := ⟨2, ![8, 147456]⟩
abbrev S8x144x1024 : Shape := ⟨3, ![8, 144, 1024]⟩
abbrev S2048 : Shape := ⟨1, ![2048]⟩
abbrev S32768 : Shape := ⟨1, ![32768]⟩
abbrev S1 : Shape := ⟨1, ![1]⟩
abbrev S139424 : Shape := ⟨1, ![139424]⟩
abbrev S147456 : Shape := ⟨1, ![147456]⟩
abbrev S144x1024 : Shape := ⟨2, ![144, 1024]⟩
abbrev S8x8x1024 : Shape := ⟨3, ![8, 8, 1024]⟩
abbrev S1x8x1024 : Shape := ⟨3, ![1, 8, 1024]⟩
abbrev S1x1 : Shape := ⟨2, ![1, 1]⟩

abbrev nBuf : Space → Nat
  | .hbm => 215
  | .vmem => 16
  | .smem => 0
  | _ => 0

abbrev hbmTy0_0 (i : Nat) : BufTy := match i % 128 with
  | 0 => ⟨S8, .f32⟩
  | 1 => ⟨S8x1024, .f32⟩
  | 2 => ⟨S8x64, .f32⟩
  | 3 => ⟨S8x64, .f32⟩
  | 4 => ⟨S8x32x64, .f32⟩
  | 5 => ⟨S8x32x64, .f32⟩
  | 6 => ⟨S8x32, .f32⟩
  | 7 => ⟨S8x32x64x16, .f32⟩
  | 8 => ⟨S8x32x64x16, .f32⟩
  | 9 => ⟨S8x32x16x64, .f32⟩
  | 10 => ⟨S8x32x16x64, .f32⟩
  | 11 => ⟨S8x32x16, .f32⟩
  | 12 => ⟨S8x512, .f32⟩
  | 13 => ⟨S8x512, .f32⟩
  | 14 => ⟨S8x512, .f32⟩
  | 15 => ⟨S8x1024, .f32⟩
  | 16 => ⟨S1024, .f32⟩
  | 17 => ⟨S64, .f32⟩
  | 18 => ⟨S64, .f32⟩
  | 19 => ⟨S32x64, .f32⟩
  | 20 => ⟨S32x64, .f32⟩
  | 21 => ⟨S32, .f32⟩
  | 22 => ⟨S32x64x16, .f32⟩
  | 23 => ⟨S32x64x16, .f32⟩
  | 24 => ⟨S32x16x64, .f32⟩
  | 25 => ⟨S32x16x64, .f32⟩
  | 26 => ⟨S32x16, .f32⟩
  | 27 => ⟨S512, .f32⟩
  | 28 => ⟨S512, .f32⟩
  | 29 => ⟨S512, .f32⟩
  | 30 => ⟨S1024, .f32⟩
  | 31 => ⟨S1024, .f32⟩
  | 32 => ⟨S64, .f32⟩
  | 33 => ⟨S64, .f32⟩
  | 34 => ⟨S32x64, .f32⟩
  | 35 => ⟨S32x64, .f32⟩
  | 36 => ⟨S32, .f32⟩
  | 37 => ⟨S32x64x16, .f32⟩
  | 38 => ⟨S32x64x16, .f32⟩
  | 39 => ⟨S32x16x64, .f32⟩
  | 40 => ⟨S32x16x64, .f32⟩
  | 41 => ⟨S32x16, .f32⟩
  | 42 => ⟨S512, .f32⟩
  | 43 => ⟨S512, .f32⟩
  | 44 => ⟨S512, .f32⟩
  | 45 => ⟨S1024, .f32⟩
  | 46 => ⟨S1024, .f32⟩
  | 47 => ⟨S64, .f32⟩
  | 48 => ⟨S64, .f32⟩
  | 49 => ⟨S32x64, .f32⟩
  | 50 => ⟨S32x64, .f32⟩
  | 51 => ⟨S32, .f32⟩
  | 52 => ⟨S32x64x16, .f32⟩
  | 53 => ⟨S32x64x16, .f32⟩
  | 54 => ⟨S32x16x64, .f32⟩
  | 55 => ⟨S32x16x64, .f32⟩
  | 56 => ⟨S32x16, .f32⟩
  | 57 => ⟨S512, .f32⟩
  | 58 => ⟨S512, .f32⟩
  | 59 => ⟨S512, .f32⟩
  | 60 => ⟨S1024, .f32⟩
  | 61 => ⟨S8x2048, .f32⟩
  | 62 => ⟨S8x2048, .f32⟩
  | 63 => ⟨S8x32768, .f32⟩
  | 64 => ⟨S8x32768, .f32⟩
  | 65 => ⟨S8x32768, .f32⟩
  | 66 => ⟨S8x32768, .f32⟩
  | 67 => ⟨S8x512, .f32⟩
  | 68 => ⟨S_, .f32⟩
  | 69 => ⟨S8031, .f32⟩
  | 70 => ⟨S8x1, .f32⟩
  | 71 => ⟨S8x139424, .f32⟩
  | 72 => ⟨S8x8031, .f32⟩
  | 73 => ⟨S8x147456, .f32⟩
  | 74 => ⟨S8x144x1024, .f32⟩
  | 75 => ⟨S2048, .f32⟩
  | 76 => ⟨S2048, .f32⟩
  | 77 => ⟨S32768, .f32⟩
  | 78 => ⟨S32768, .f32⟩
  | 79 => ⟨S32768, .f32⟩
  | 80 => ⟨S32768, .f32⟩
  | 81 => ⟨S512, .f32⟩
  | 82 => ⟨S_, .f32⟩
  | 83 => ⟨S8031, .f32⟩
  | 84 => ⟨S_, .f32⟩
  | 85 => ⟨S1, .f32⟩
  | 86 => ⟨S139424, .f32⟩
  | 87 => ⟨S147456, .f32⟩
  | 88 => ⟨S144x1024, .f32⟩
  | 89 => ⟨S2048, .f32⟩
  | 90 => ⟨S2048, .f32⟩
  | 91 => ⟨S32768, .f32⟩
  | 92 => ⟨S32768, .f32⟩
  | 93 => ⟨S32768, .f32⟩
  | 94 => ⟨S32768, .f32⟩
  | 95 => ⟨S512, .f32⟩
  | 96 => ⟨S_, .f32⟩
  | 97 => ⟨S8031, .f32⟩
  | 98 => ⟨S_, .f32⟩
  | 99 => ⟨S1, .f32⟩
  | 100 => ⟨S139424, .f32⟩
  | 101 => ⟨S147456, .f32⟩
  | 102 => ⟨S144x1024, .f32⟩
  | 103 => ⟨S2048, .f32⟩
  | 104 => ⟨S2048, .f32⟩
  | 105 => ⟨S32768, .f32⟩
  | 106 => ⟨S32768, .f32⟩
  | 107 => ⟨S32768, .f32⟩
  | 108 => ⟨S32768, .f32⟩
  | 109 => ⟨S512, .f32⟩
  | 110 => ⟨S_, .f32⟩
  | 111 => ⟨S8031, .f32⟩
  | 112 => ⟨S_, .f32⟩
  | 113 => ⟨S1, .f32⟩
  | 114 => ⟨S139424, .f32⟩
  | 115 => ⟨S147456, .f32⟩
  | 116 => ⟨S144x1024, .f32⟩
  | 117 => ⟨S144x1024, .f32⟩
  | 118 => ⟨S144x1024, .f32⟩
  | 119 => ⟨S144x1024, .f32⟩
  | 120 => ⟨S144x1024, .f32⟩
  | 121 => ⟨S147456, .f32⟩
  | 122 => ⟨S1024, .f32⟩
  | 123 => ⟨S64, .f32⟩
  | 124 => ⟨S64, .f32⟩
  | 125 => ⟨S2048, .f32⟩
  | 126 => ⟨S32x64, .f32⟩
  | 127 => ⟨S2048, .f32⟩
  | _ => ⟨S8, .f32⟩

abbrev hbmTy0_1 (i : Nat) : BufTy := match i % 128 with
  | 0 => ⟨S32x64, .f32⟩
  | 1 => ⟨S32, .f32⟩
  | 2 => ⟨S32768, .f32⟩
  | 3 => ⟨S32x64x16, .f32⟩
  | 4 => ⟨S32768, .f32⟩
  | 5 => ⟨S32x64x16, .f32⟩
  | 6 => ⟨S32768, .f32⟩
  | 7 => ⟨S32x16x64, .f32⟩
  | 8 => ⟨S32768, .f32⟩
  | 9 => ⟨S32x16x64, .f32⟩
  | 10 => ⟨S512, .f32⟩
  | 11 => ⟨S32x16, .f32⟩
  | 12 => ⟨S512, .f32⟩
  | 13 => ⟨S512, .f32⟩
  | 14 => ⟨S512, .f32⟩
  | 15 => ⟨S1024, .f32⟩
  | 16 => ⟨S147456, .f32⟩
  | 17 => ⟨S1024, .f32⟩
  | 18 => ⟨S64, .f32⟩
  | 19 => ⟨S64, .f32⟩
  | 20 => ⟨S2048, .f32⟩
  | 21 => ⟨S32x64, .f32⟩
  | 22 => ⟨S2048, .f32⟩
  | 23 => ⟨S32x64, .f32⟩
  | 24 => ⟨S32, .f32⟩
  | 25 => ⟨S32768, .f32⟩
  | 26 => ⟨S32x64x16, .f32⟩
  | 27 => ⟨S32768, .f32⟩
  | 28 => ⟨S32x64x16, .f32⟩
  | 29 => ⟨S32768, .f32⟩
  | 30 => ⟨S32x16x64, .f32⟩
  | 31 => ⟨S32768, .f32⟩
  | 32 => ⟨S32x16x64, .f32⟩
  | 33 => ⟨S512, .f32⟩
  | 34 => ⟨S32x16, .f32⟩
  | 35 => ⟨S512, .f32⟩
  | 36 => ⟨S512, .f32⟩
  | 37 => ⟨S512, .f32⟩
  | 38 => ⟨S1024, .f32⟩
  | 39 => ⟨S147456, .f32⟩
  | 40 => ⟨S1024, .f32⟩
  | 41 => ⟨S64, .f32⟩
  | 42 => ⟨S64, .f32⟩
  | 43 => ⟨S2048, .f32⟩
  | 44 => ⟨S32x64, .f32⟩
  | 45 => ⟨S2048, .f32⟩
  | 46 => ⟨S32x64, .f32⟩
  | 47 => ⟨S32, .f32⟩
  | 48 => ⟨S32768, .f32⟩
  | 49 => ⟨S32x64x16, .f32⟩
  | 50 => ⟨S32768, .f32⟩
  | 51 => ⟨S32x64x16, .f32⟩
  | 52 => ⟨S32768, .f32⟩
  | 53 => ⟨S32x16x64, .f32⟩
  | 54 => ⟨S32768, .f32⟩
  | 55 => ⟨S32x16x64, .f32⟩
  | 56 => ⟨S512, .f32⟩
  | 57 => ⟨S32x16, .f32⟩
  | 58 => ⟨S512, .f32⟩
  | 59 => ⟨S512, .f32⟩
  | 60 => ⟨S512, .f32⟩
  | 61 => ⟨S1024, .f32⟩
  | 62 => ⟨S147456, .f32⟩
  | 63 => ⟨S1024, .f32⟩
  | 64 => ⟨S64, .f32⟩
  | 65 => ⟨S64, .f32⟩
  | 66 => ⟨S2048, .f32⟩
  | 67 => ⟨S32x64, .f32⟩
  | 68 => ⟨S2048, .f32⟩
  | 69 => ⟨S32x64, .f32⟩
  | 70 => ⟨S32, .f32⟩
  | 71 => ⟨S32768, .f32⟩
  | 72 => ⟨S32x64x16, .f32⟩
  | 73 => ⟨S32768, .f32⟩
  | 74 => ⟨S32x64x16, .f32⟩
  | 75 => ⟨S32768, .f32⟩
  | 76 => ⟨S32x16x64, .f32⟩
  | 77 => ⟨S32768, .f32⟩
  | 78 => ⟨S32x16x64, .f32⟩
  | 79 => ⟨S512, .f32⟩
  | 80 => ⟨S32x16, .f32⟩
  | 81 => ⟨S512, .f32⟩
  | 82 => ⟨S512, .f32⟩
  | 83 => ⟨S512, .f32⟩
  | 84 => ⟨S1024, .f32⟩
  | 85 => ⟨S1x1, .f32⟩
  | 86 => ⟨S_, .f32⟩
  | _ => ⟨S8, .f32⟩

abbrev hbmTy (i : Nat) : BufTy := match i / 128 with
  | 0 => hbmTy0_0 i
  | 1 => hbmTy0_1 i
  | _ => ⟨S8, .f32⟩

abbrev bufTy : (tb : Table) → Fin (tcTables nBuf tb) → BufTy
  | .hbm, ⟨i, _⟩ => hbmTy i
  | .local _ .vmem, ⟨0, _⟩ => ⟨S8x8x1024, .f32⟩
  | .local _ .vmem, ⟨1, _⟩ => ⟨S8x8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_v0 : Ref sig .tc := ⟨.hbm, 61, rfl⟩
abbrev main_v1 : Ref sig .tc := ⟨.hbm, 62, rfl⟩
abbrev main_v2 : Ref sig .tc := ⟨.hbm, 63, rfl⟩
abbrev main_v3 : Ref sig .tc := ⟨.hbm, 64, rfl⟩
abbrev main_v4 : Ref sig .tc := ⟨.hbm, 65, rfl⟩
abbrev main_v5 : Ref sig .tc := ⟨.hbm, 66, rfl⟩
abbrev main_v6 : Ref sig .tc := ⟨.hbm, 67, rfl⟩
abbrev main_cst : Ref sig .tc := ⟨.hbm, 68, rfl⟩
abbrev main_v7 : Ref sig .tc := ⟨.hbm, 69, rfl⟩
abbrev main_v8 : Ref sig .tc := ⟨.hbm, 70, rfl⟩
abbrev main_v9 : Ref sig .tc := ⟨.hbm, 71, rfl⟩
abbrev main_v10 : Ref sig .tc := ⟨.hbm, 72, rfl⟩
abbrev main_v11 : Ref sig .tc := ⟨.hbm, 73, rfl⟩
abbrev main_v12 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_cst_0 : Ref sig .tc := ⟨.hbm, 82, rfl⟩
abbrev main_v20 : Ref sig .tc := ⟨.hbm, 83, rfl⟩
abbrev main_cst_1 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_cst_2 : Ref sig .tc := ⟨.hbm, 96, rfl⟩
abbrev main_v32 : Ref sig .tc := ⟨.hbm, 97, rfl⟩
abbrev main_cst_3 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_cst_4 : Ref sig .tc := ⟨.hbm, 110, rfl⟩
abbrev main_v44 : Ref sig .tc := ⟨.hbm, 111, rfl⟩
abbrev main_cst_5 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49_0 : Ref sig .tc := ⟨.hbm, 117, rfl⟩
abbrev main_v49_1 : Ref sig .tc := ⟨.hbm, 118, rfl⟩
abbrev main_v49_2 : Ref sig .tc := ⟨.hbm, 119, rfl⟩
abbrev main_v49_3 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![18], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SmallRefIdeal.lean ====
abbrev S8 : Shape := ⟨1, ![8]⟩
abbrev S8x1024 : Shape := ⟨2, ![8, 1024]⟩
abbrev S8x64 : Shape := ⟨2, ![8, 64]⟩
abbrev S8x32x64 : Shape := ⟨3, ![8, 32, 64]⟩
abbrev S8x32 : Shape := ⟨2, ![8, 32]⟩
abbrev S8x32x64x16 : Shape := ⟨4, ![8, 32, 64, 16]⟩
abbrev S8x32x16x64 : Shape := ⟨4, ![8, 32, 16, 64]⟩
abbrev S8x32x16 : Shape := ⟨3, ![8, 32, 16]⟩
abbrev S8x512 : Shape := ⟨2, ![8, 512]⟩
abbrev S1024 : Shape := ⟨1, ![1024]⟩
abbrev S64 : Shape := ⟨1, ![64]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x16 : Shape := ⟨2, ![32, 16]⟩
abbrev S512 : Shape := ⟨1, ![512]⟩
abbrev S_ : Shape := ⟨0, ![]⟩

abbrev nBuf : Space → Nat
  | .hbm => 588
  | .vmem => 0
  | .smem => 0
  | _ => 0

abbrev hbmTy0_0 (i : Nat) : BufTy := match i % 128 with
  | 0 => ⟨S8, .f32⟩
  | 1 => ⟨S8x1024, .f32⟩
  | 2 => ⟨S8x64, .f32⟩
  | 3 => ⟨S8x64, .f32⟩
  | 4 => ⟨S8x32x64, .f32⟩
  | 5 => ⟨S8x32x64, .f32⟩
  | 6 => ⟨S8x32, .f32⟩
  | 7 => ⟨S8x32x64x16, .f32⟩
  | 8 => ⟨S8x32x64x16, .f32⟩
  | 9 => ⟨S8x32x16x64, .f32⟩
  | 10 => ⟨S8x32x16x64, .f32⟩
  | 11 => ⟨S8x32x16, .f32⟩
  | 12 => ⟨S8x512, .f32⟩
  | 13 => ⟨S8x512, .f32⟩
  | 14 => ⟨S8x512, .f32⟩
  | 15 => ⟨S8x1024, .f32⟩
  | 16 => ⟨S1024, .f32⟩
  | 17 => ⟨S64, .f32⟩
  | 18 => ⟨S64, .f32⟩
  | 19 => ⟨S32x64, .f32⟩
  | 20 => ⟨S32x64, .f32⟩
  | 21 => ⟨S32, .f32⟩
  | 22 => ⟨S32x64x16, .f32⟩
  | 23 => ⟨S32x64x16, .f32⟩
  | 24 => ⟨S32x16x64, .f32⟩
  | 25 => ⟨S32x16x64, .f32⟩
  | 26 => ⟨S32x16, .f32⟩
  | 27 => ⟨S512, .f32⟩
  | 28 => ⟨S512, .f32⟩
  | 29 => ⟨S512, .f32⟩
  | 30 => ⟨S1024, .f32⟩
  | 31 => ⟨S1024, .f32⟩
  | 32 => ⟨S64, .f32⟩
  | 33 => ⟨S64, .f32⟩
  | 34 => ⟨S32x64, .f32⟩
  | 35 => ⟨S32x64, .f32⟩
  | 36 => ⟨S32, .f32⟩
  | 37 => ⟨S32x64x16, .f32⟩
  | 38 => ⟨S32x64x16, .f32⟩
  | 39 => ⟨S32x16x64, .f32⟩
  | 40 => ⟨S32x16x64, .f32⟩
  | 41 => ⟨S32x16, .f32⟩
  | 42 => ⟨S512, .f32⟩
  | 43 => ⟨S512, .f32⟩
  | 44 => ⟨S512, .f32⟩
  | 45 => ⟨S1024, .f32⟩
  | 46 => ⟨S1024, .f32⟩
  | 47 => ⟨S64, .f32⟩
  | 48 => ⟨S64, .f32⟩
  | 49 => ⟨S32x64, .f32⟩
  | 50 => ⟨S32x64, .f32⟩
  | 51 => ⟨S32, .f32⟩
  | 52 => ⟨S32x64x16, .f32⟩
  | 53 => ⟨S32x64x16, .f32⟩
  | 54 => ⟨S32x16x64, .f32⟩
  | 55 => ⟨S32x16x64, .f32⟩
  | 56 => ⟨S32x16, .f32⟩
  | 57 => ⟨S512, .f32⟩
  | 58 => ⟨S512, .f32⟩
  | 59 => ⟨S512, .f32⟩
  | 60 => ⟨S1024, .f32⟩
  | 61 => ⟨S_, .f32⟩
  | 62 => ⟨S1024, .f32⟩
  | 63 => ⟨S_, .f32⟩
  | 64 => ⟨S1024, .f32⟩
  | 65 => ⟨S1024, .f32⟩
  | 66 => ⟨S_, .f32⟩
  | 67 => ⟨S1024, .f32⟩
  | 68 => ⟨S1024, .f32⟩
  | 69 => ⟨S1024, .f32⟩
  | 70 => ⟨S_, .f32⟩
  | 71 => ⟨S1024, .f32⟩
  | 72 => ⟨S1024, .f32⟩
  | 73 => ⟨S1024, .f32⟩
  | 74 => ⟨S_, .f32⟩
  | 75 => ⟨S1024, .f32⟩
  | 76 => ⟨S1024, .f32⟩
  | 77 => ⟨S1024, .f32⟩
  | 78 => ⟨S_, .f32⟩
  | 79 => ⟨S1024, .f32⟩
  | 80 => ⟨S1024, .f32⟩
  | 81 => ⟨S_, .f32⟩
  | 82 => ⟨S1024, .f32⟩
  | 83 => ⟨S1024, .f32⟩
  | 84 => ⟨S1024, .f32⟩
  | 85 => ⟨S_, .f32⟩
  | 86 => ⟨S1024, .f32⟩
  | 87 => ⟨S1024, .f32⟩
  | 88 => ⟨S1024, .f32⟩
  | 89 => ⟨S_, .f32⟩
  | 90 => ⟨S1024, .f32⟩
  | 91 => ⟨S1024, .f32⟩
  | 92 => ⟨S1024, .f32⟩
  | 93 => ⟨S_, .f32⟩
  | 94 => ⟨S1024, .f32⟩
  | 95 => ⟨S1024, .f32⟩
  | 96 => ⟨S_, .f32⟩
  | 97 => ⟨S64, .f32⟩
  | 98 => ⟨S_, .f32⟩
  | 99 => ⟨S64, .f32⟩
  | 100 => ⟨S64, .f32⟩
  | 101 => ⟨S_, .f32⟩
  | 102 => ⟨S64, .f32⟩
  | 103 => ⟨S64, .f32⟩
  | 104 => ⟨S64, .f32⟩
  | 105 => ⟨S_, .f32⟩
  | 106 => ⟨S64, .f32⟩
  | 107 => ⟨S64, .f32⟩
  | 108 => ⟨S64, .f32⟩
  | 109 => ⟨S_, .f32⟩
  | 110 => ⟨S64, .f32⟩
  | 111 => ⟨S64, .f32⟩
  | 112 => ⟨S64, .f32⟩
  | 113 => ⟨S_, .f32⟩
  | 114 => ⟨S64, .f32⟩
  | 115 => ⟨S64, .f32⟩
  | 116 => ⟨S_, .f32⟩
  | 117 => ⟨S64, .f32⟩
  | 118 => ⟨S64, .f32⟩
  | 119 => ⟨S64, .f32⟩
  | 120 => ⟨S_, .f32⟩
  | 121 => ⟨S64, .f32⟩
  | 122 => ⟨S64, .f32⟩
  | 123 => ⟨S64, .f32⟩
  | 124 => ⟨S_, .f32⟩
  | 125 => ⟨S64, .f32⟩
  | 126 => ⟨S64, .f32⟩
  | 127 => ⟨S64, .f32⟩
  | _ => ⟨S8, .f32⟩

abbrev hbmTy0_1 (i : Nat) : BufTy := match i % 128 with
  | 0 => ⟨S_, .f32⟩
  | 1 => ⟨S64, .f32⟩
  | 2 => ⟨S64, .f32⟩
  | 3 => ⟨S_, .f32⟩
  | 4 => ⟨S64, .f32⟩
  | 5 => ⟨S_, .f32⟩
  | 6 => ⟨S64, .f32⟩
  | 7 => ⟨S64, .f32⟩
  | 8 => ⟨S_, .f32⟩
  | 9 => ⟨S64, .f32⟩
  | 10 => ⟨S64, .f32⟩
  | 11 => ⟨S64, .f32⟩
  | 12 => ⟨S_, .f32⟩
  | 13 => ⟨S64, .f32⟩
  | 14 => ⟨S64, .f32⟩
  | 15 => ⟨S64, .f32⟩
  | 16 => ⟨S_, .f32⟩
  | 17 => ⟨S64, .f32⟩
  | 18 => ⟨S64, .f32⟩
  | 19 => ⟨S64, .f32⟩
  | 20 => ⟨S_, .f32⟩
  | 21 => ⟨S64, .f32⟩
  | 22 => ⟨S64, .f32⟩
  | 23 => ⟨S_, .f32⟩
  | 24 => ⟨S64, .f32⟩
  | 25 => ⟨S64, .f32⟩
  | 26 => ⟨S64, .f32⟩
  | 27 => ⟨S_, .f32⟩
  | 28 => ⟨S64, .f32⟩
  | 29 => ⟨S64, .f32⟩
  | 30 => ⟨S64, .f32⟩
  | 31 => ⟨S_, .f32⟩
  | 32 => ⟨S64, .f32⟩
  | 33 => ⟨S64, .f32⟩
  | 34 => ⟨S64, .f32⟩
  | 35 => ⟨S_, .f32⟩
  | 36 => ⟨S64, .f32⟩
  | 37 => ⟨S64, .f32⟩
  | 38 => ⟨S_, .f32⟩
  | 39 => ⟨S32x64, .f32⟩
  | 40 => ⟨S_, .f32⟩
  | 41 => ⟨S32x64, .f32⟩
  | 42 => ⟨S32x64, .f32⟩
  | 43 => ⟨S_, .f32⟩
  | 44 => ⟨S32x64, .f32⟩
  | 45 => ⟨S32x64, .f32⟩
  | 46 => ⟨S32x64, .f32⟩
  | 47 => ⟨S_, .f32⟩
  | 48 => ⟨S32x64, .f32⟩
  | 49 => ⟨S32x64, .f32⟩
  | 50 => ⟨S32x64, .f32⟩
  | 51 => ⟨S_, .f32⟩
  | 52 => ⟨S32x64, .f32⟩
  | 53 => ⟨S32x64, .f32⟩
  | 54 => ⟨S32x64, .f32⟩
  | 55 => ⟨S_, .f32⟩
  | 56 => ⟨S32x64, .f32⟩
  | 57 => ⟨S32x64, .f32⟩
  | 58 => ⟨S_, .f32⟩
  | 59 => ⟨S32x64, .f32⟩
  | 60 => ⟨S32x64, .f32⟩
  | 61 => ⟨S32x64, .f32⟩
  | 62 => ⟨S_, .f32⟩
  | 63 => ⟨S32x64, .f32⟩
  | 64 => ⟨S32x64, .f32⟩
  | 65 => ⟨S32x64, .f32⟩
  | 66 => ⟨S_, .f32⟩
  | 67 => ⟨S32x64, .f32⟩
  | 68 => ⟨S32x64, .f32⟩
  | 69 => ⟨S32x64, .f32⟩
  | 70 => ⟨S_, .f32⟩
  | 71 => ⟨S32x64, .f32⟩
  | 72 => ⟨S32x64, .f32⟩
  | 73 => ⟨S_, .f32⟩
  | 74 => ⟨S32x64, .f32⟩
  | 75 => ⟨S_, .f32⟩
  | 76 => ⟨S32x64, .f32⟩
  | 77 => ⟨S32x64, .f32⟩
  | 78 => ⟨S_, .f32⟩
  | 79 => ⟨S32x64, .f32⟩
  | 80 => ⟨S32x64, .f32⟩
  | 81 => ⟨S32x64, .f32⟩
  | 82 => ⟨S_, .f32⟩
  | 83 => ⟨S32x64, .f32⟩
  | 84 => ⟨S32x64, .f32⟩
  | 85 => ⟨S32x64, .f32⟩
  | 86 => ⟨S_, .f32⟩
  | 87 => ⟨S32x64, .f32⟩
  | 88 => ⟨S32x64, .f32⟩
  | 89 => ⟨S32x64, .f32⟩
  | 90 => ⟨S_, .f32⟩
  | 91 => ⟨S32x64, .f32⟩
  | 92 => ⟨S32x64, .f32⟩
  | 93 => ⟨S_, .f32⟩
  | 94 => ⟨S32x64, .f32⟩
  | 95 => ⟨S32x64, .f32⟩
  | 96 => ⟨S32x64, .f32⟩
  | 97 => ⟨S_, .f32⟩
  | 98 => ⟨S32x64, .f32⟩
  | 99 => ⟨S32x64, .f32⟩
  | 100 => ⟨S32x64, .f32⟩
  | 101 => ⟨S_, .f32⟩
  | 102 => ⟨S32x64, .f32⟩
  | 103 => ⟨S32x64, .f32⟩
  | 104 => ⟨S32x64, .f32⟩
  | 105 => ⟨S_, .f32⟩
  | 106 => ⟨S32x64, .f32⟩
  | 107 => ⟨S32x64, .f32⟩
  | 108 => ⟨S_, .f32⟩
  | 109 => ⟨S32, .f32⟩
  | 110 => ⟨S_, .f32⟩
  | 111 => ⟨S32, .f32⟩
  | 112 => ⟨S32, .f32⟩
  | 113 => ⟨S_, .f32⟩
  | 114 => ⟨S32, .f32⟩
  | 115 => ⟨S32, .f32⟩
  | 116 => ⟨S32, .f32⟩
  | 117 => ⟨S_, .f32⟩
  | 118 => ⟨S32, .f32⟩
  | 119 => ⟨S32, .f32⟩
  | 120 => ⟨S32, .f32⟩
  | 121 => ⟨S_, .f32⟩
  | 122 => ⟨S32, .f32⟩
  | 123 => ⟨S32, .f32⟩
  | 124 => ⟨S32, .f32⟩
  | 125 => ⟨S_, .f32⟩
  | 126 => ⟨S32, .f32⟩
  | 127 => ⟨S32, .f32⟩
  | _ => ⟨S8, .f32⟩

abbrev hbmTy0_2 (i : Nat) : BufTy := match i % 128 with
  | 0 => ⟨S_, .f32⟩
  | 1 => ⟨S32, .f32⟩
  | 2 => ⟨S32, .f32⟩
  | 3 => ⟨S32, .f32⟩
  | 4 => ⟨S_, .f32⟩
  | 5 => ⟨S32, .f32⟩
  | 6 => ⟨S32, .f32⟩
  | 7 => ⟨S32, .f32⟩
  | 8 => ⟨S_, .f32⟩
  | 9 => ⟨S32, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32x64x16, .f32⟩
  | 17 => ⟨S_, .f32⟩
  | 18 => ⟨S32x64x16, .f32⟩
  | 19 => ⟨S32x64x16, .f32⟩
  | 20 => ⟨S_, .f32⟩
  | 21 => ⟨S32x64x16, .f32⟩
  | 22 => ⟨S32x64x16, .f32⟩
  | 23 => ⟨S32x64x16, .f32⟩
  | 24 => ⟨S_, .f32⟩
  | 25 => ⟨S32x64x16, .f32⟩
  | 26 => ⟨S32x64x16, .f32⟩
  | 27 => ⟨S32x64x16, .f32⟩
  | 28 => ⟨S_, .f32⟩
  | 29 => ⟨S32x64x16, .f32⟩
  | 30 => ⟨S32x64x16, .f32⟩
  | 31 => ⟨S32x64x16, .f32⟩
  | 32 => ⟨S_, .f32⟩
  | 33 => ⟨S32x64x16, .f32⟩
  | 34 => ⟨S32x64x16, .f32⟩
  | 35 => ⟨S_, .f32⟩
  | 36 => ⟨S32x64x16, .f32⟩
  | 37 => ⟨S32x64x16, .f32⟩
  | 38 => ⟨S32x64x16, .f32⟩
  | 39 => ⟨S_, .f32⟩
  | 40 => ⟨S32x64x16, .f32⟩
  | 41 => ⟨S32x64x16, .f32⟩
  | 42 => ⟨S32x64x16, .f32⟩
  | 43 => ⟨S_, .f32⟩
  | 44 => ⟨S32x64x16, .f32⟩
  | 45 => ⟨S32x64x16, .f32⟩
  | 46 => ⟨S32x64x16, .f32⟩
  | 47 => ⟨S_, .f32⟩
  | 48 => ⟨S32x64x16, .f32⟩
  | 49 => ⟨S32x64x16, .f32⟩
  | 50 => ⟨S_, .f32⟩
  | 51 => ⟨S32x64x16, .f32⟩
  | 52 => ⟨S_, .f32⟩
  | 53 => ⟨S32x64x16, .f32⟩
  | 54 => ⟨S32x64x16, .f32⟩
  | 55 => ⟨S_, .f32⟩
  | 56 => ⟨S32x64x16, .f32⟩
  | 57 => ⟨S32x64x16, .f32⟩
  | 58 => ⟨S32x64x16, .f32⟩
  | 59 => ⟨S_, .f32⟩
  | 60 => ⟨S32x64x16, .f32⟩
  | 61 => ⟨S32x64x16, .f32⟩
  | 62 => ⟨S32x64x16, .f32⟩
  | 63 => ⟨S_, .f32⟩
  | 64 => ⟨S32x64x16, .f32⟩
  | 65 => ⟨S32x64x16, .f32⟩
  | 66 => ⟨S32x64x16, .f32⟩
  | 67 => ⟨S_, .f32⟩
  | 68 => ⟨S32x64x16, .f32⟩
  | 69 => ⟨S32x64x16, .f32⟩
  | 70 => ⟨S_, .f32⟩
  | 71 => ⟨S32x64x16, .f32⟩
  | 72 => ⟨S32x64x16, .f32⟩
  | 73 => ⟨S32x64x16, .f32⟩
  | 74 => ⟨S_, .f32⟩
  | 75 => ⟨S32x64x16, .f32⟩
  | 76 => ⟨S32x64x16, .f32⟩
  | 77 => ⟨S32x64x16, .f32⟩
  | 78 => ⟨S_, .f32⟩
  | 79 => ⟨S32x64x16, .f32⟩
  | 80 => ⟨S32x64x16, .f32⟩
  | 81 => ⟨S32x64x16, .f32⟩
  | 82 => ⟨S_, .f32⟩
  | 83 => ⟨S32x64x16, .f32⟩
  | 84 => ⟨S32x64x16, .f32⟩
  | 85 => ⟨S_, .f32⟩
  | 86 => ⟨S32x16x64, .f32⟩
  | 87 => ⟨S_, .f32⟩
  | 88 => ⟨S32x16x64, .f32⟩
  | 89 => ⟨S32x16x64, .f32⟩
  | 90 => ⟨S_, .f32⟩
  | 91 => ⟨S32x16x64, .f32⟩
  | 92 => ⟨S32x16x64, .f32⟩
  | 93 => ⟨S32x16x64, .f32⟩
  | 94 => ⟨S_, .f32⟩
  | 95 => ⟨S32x16x64, .f32⟩
  | 96 => ⟨S32x16x64, .f32⟩
  | 97 => ⟨S32x16x64, .f32⟩
  | 98 => ⟨S_, .f32⟩
  | 99 => ⟨S32x16x64, .f32⟩
  | 100 => ⟨S32x16x64, .f32⟩
  | 101 => ⟨S32x16x64, .f32⟩
  | 102 => ⟨S_, .f32⟩
  | 103 => ⟨S32x16x64, .f32⟩
  | 104 => ⟨S32x16x64, .f32⟩
  | 105 => ⟨S_, .f32⟩
  | 106 => ⟨S32x16x64, .f32⟩
  | 107 => ⟨S32x16x64, .f32⟩
  | 108 => ⟨S32x16x64, .f32⟩
  | 109 => ⟨S_, .f32⟩
  | 110 => ⟨S32x16x64, .f32⟩
  | 111 => ⟨S32x16x64, .f32⟩
  | 112 => ⟨S32x16x64, .f32⟩
  | 113 => ⟨S_, .f32⟩
  | 114 => ⟨S32x16x64, .f32⟩
  | 115 => ⟨S32x16x64, .f32⟩
  | 116 => ⟨S32x16x64, .f32⟩
  | 117 => ⟨S_, .f32⟩
  | 118 => ⟨S32x16x64, .f32⟩
  | 119 => ⟨S32x16x64, .f32⟩
  | 120 => ⟨S_, .f32⟩
  | 121 => ⟨S32x16x64, .f32⟩
  | 122 => ⟨S_, .f32⟩
  | 123 => ⟨S32x16x64, .f32⟩
  | 124 => ⟨S32x16x64, .f32⟩
  | 125 => ⟨S_, .f32⟩
  | 126 => ⟨S32x16x64, .f32⟩
  | 127 => ⟨S32x16x64, .f32⟩
  | _ => ⟨S8, .f32⟩

abbrev hbmTy0_3 (i : Nat) : BufTy := match i % 128 with
  | 0 => ⟨S32x16x64, .f32⟩
  | 1 => ⟨S_, .f32⟩
  | 2 => ⟨S32x16x64, .f32⟩
  | 3 => ⟨S32x16x64, .f32⟩
  | 4 => ⟨S32x16x64, .f32⟩
  | 5 => ⟨S_, .f32⟩
  | 6 => ⟨S32x16x64, .f32⟩
  | 7 => ⟨S32x16x64, .f32⟩
  | 8 => ⟨S32x16x64, .f32⟩
  | 9 => ⟨S_, .f32⟩
  | 10 => ⟨S32x16x64, .f32⟩
  | 11 => ⟨S32x16x64, .f32⟩
  | 12 => ⟨S_, .f32⟩
  | 13 => ⟨S32x16x64, .f32⟩
  | 14 => ⟨S32x16x64, .f32⟩
  | 15 => ⟨S32x16x64, .f32⟩
  | 16 => ⟨S_, .f32⟩
  | 17 => ⟨S32x16x64, .f32⟩
  | 18 => ⟨S32x16x64, .f32⟩
  | 19 => ⟨S32x16x64, .f32⟩
  | 20 => ⟨S_, .f32⟩
  | 21 => ⟨S32x16x64, .f32⟩
  | 22 => ⟨S32x16x64, .f32⟩
  | 23 => ⟨S32x16x64, .f32⟩
  | 24 => ⟨S_, .f32⟩
  | 25 => ⟨S32x16x64, .f32⟩
  | 26 => ⟨S32x16x64, .f32⟩
  | 27 => ⟨S_, .f32⟩
  | 28 => ⟨S32x16, .f32⟩
  | 29 => ⟨S_, .f32⟩
  | 30 => ⟨S32x16, .f32⟩
  | 31 => ⟨S32x16, .f32⟩
  | 32 => ⟨S_, .f32⟩
  | 33 => ⟨S32x16, .f32⟩
  | 34 => ⟨S32x16, .f32⟩
  | 35 => ⟨S32x16, .f32⟩
  | 36 => ⟨S_, .f32⟩
  | 37 => ⟨S32x16, .f32⟩
  | 38 => ⟨S32x16, .f32⟩
  | 39 => ⟨S32x16, .f32⟩
  | 40 => ⟨S_, .f32⟩
  | 41 => ⟨S32x16, .f32⟩
  | 42 => ⟨S32x16, .f32⟩
  | 43 => ⟨S32x16, .f32⟩
  | 44 => ⟨S_, .f32⟩
  | 45 => ⟨S32x16, .f32⟩
  | 46 => ⟨S32x16, .f32⟩
  | 47 => ⟨S_, .f32⟩
  | 48 => ⟨S32x16, .f32⟩
  | 49 => ⟨S32x16, .f32⟩
  | 50 => ⟨S32x16, .f32⟩
  | 51 => ⟨S_, .f32⟩
  | 52 => ⟨S32x16, .f32⟩
  | 53 => ⟨S32x16, .f32⟩
  | 54 => ⟨S32x16, .f32⟩
  | 55 => ⟨S_, .f32⟩
  | 56 => ⟨S32x16, .f32⟩
  | 57 => ⟨S32x16, .f32⟩
  | 58 => ⟨S32x16, .f32⟩
  | 59 => ⟨S_, .f32⟩
  | 60 => ⟨S32x16, .f32⟩
  | 61 => ⟨S32x16, .f32⟩
  | 62 => ⟨S_, .f32⟩
  | 63 => ⟨S512, .f32⟩
  | 64 => ⟨S_, .f32⟩
  | 65 => ⟨S512, .f32⟩
  | 66 => ⟨S512, .f32⟩
  | 67 => ⟨S_, .f32⟩
  | 68 => ⟨S512, .f32⟩
  | 69 => ⟨S512, .f32⟩
  | 70 => ⟨S512, .f32⟩
  | 71 => ⟨S_, .f32⟩
  | 72 => ⟨S512, .f32⟩
  | 73 => ⟨S512, .f32⟩
  | 74 => ⟨S512, .f32⟩
  | 75 => ⟨S_, .f32⟩
  | 76 => ⟨S512, .f32⟩
  | 77 => ⟨S512, .f32⟩
  | 78 => ⟨S512, .f32⟩
  | 79 => ⟨S_, .f32⟩
  | 80 => ⟨S512, .f32⟩
  | 81 => ⟨S512, .f32⟩
  | 82 => ⟨S_, .f32⟩
  | 83 => ⟨S512, .f32⟩
  | 84 => ⟨S512, .f32⟩
  | 85 => ⟨S512, .f32⟩
  | 86 => ⟨S_, .f32⟩
  | 87 => ⟨S512, .f32⟩
  | 88 => ⟨S512, .f32⟩
  | 89 => ⟨S512, .f32⟩
  | 90 => ⟨S_, .f32⟩
  | 91 => ⟨S512, .f32⟩
  | 92 => ⟨S512, .f32⟩
  | 93 => ⟨S512, .f32⟩
  | 94 => ⟨S_, .f32⟩
  | 95 => ⟨S512, .f32⟩
  | 96 => ⟨S512, .f32⟩
  | 97 => ⟨S_, .f32⟩
  | 98 => ⟨S512, .f32⟩
  | 99 => ⟨S_, .f32⟩
  | 100 => ⟨S512, .f32⟩
  | 101 => ⟨S512, .f32⟩
  | 102 => ⟨S_, .f32⟩
  | 103 => ⟨S512, .f32⟩
  | 104 => ⟨S512, .f32⟩
  | 105 => ⟨S512, .f32⟩
  | 106 => ⟨S_, .f32⟩
  | 107 => ⟨S512, .f32⟩
  | 108 => ⟨S512, .f32⟩
  | 109 => ⟨S512, .f32⟩
  | 110 => ⟨S_, .f32⟩
  | 111 => ⟨S512, .f32⟩
  | 112 => ⟨S512, .f32⟩
  | 113 => ⟨S512, .f32⟩
  | 114 => ⟨S_, .f32⟩
  | 115 => ⟨S512, .f32⟩
  | 116 => ⟨S512, .f32⟩
  | 117 => ⟨S_, .f32⟩
  | 118 => ⟨S512, .f32⟩
  | 119 => ⟨S512, .f32⟩
  | 120 => ⟨S512, .f32⟩
  | 121 => ⟨S_, .f32⟩
  | 122 => ⟨S512, .f32⟩
  | 123 => ⟨S512, .f32⟩
  | 124 => ⟨S512, .f32⟩
  | 125 => ⟨S_, .f32⟩
  | 126 => ⟨S512, .f32⟩
  | 127 => ⟨S512, .f32⟩
  | _ => ⟨S8, .f32⟩

abbrev hbmTy0_4 (i : Nat) : BufTy := match i % 128 with
  | 0 => ⟨S512, .f32⟩
  | 1 => ⟨S_, .f32⟩
  | 2 => ⟨S512, .f32⟩
  | 3 => ⟨S512, .f32⟩
  | 4 => ⟨S_, .f32⟩
  | 5 => ⟨S512, .f32⟩
  | 6 => ⟨S_, .f32⟩
  | 7 => ⟨S512, .f32⟩
  | 8 => ⟨S512, .f32⟩
  | 9 => ⟨S_, .f32⟩
  | 10 => ⟨S512, .f32⟩
  | 11 => ⟨S512, .f32⟩
  | 12 => ⟨S512, .f32⟩
  | 13 => ⟨S_, .f32⟩
  | 14 => ⟨S512, .f32⟩
  | 15 => ⟨S512, .f32⟩
  | 16 => ⟨S512, .f32⟩
  | 17 => ⟨S_, .f32⟩
  | 18 => ⟨S512, .f32⟩
  | 19 => ⟨S512, .f32⟩
  | 20 => ⟨S512, .f32⟩
  | 21 => ⟨S_, .f32⟩
  | 22 => ⟨S512, .f32⟩
  | 23 => ⟨S512, .f32⟩
  | 24 => ⟨S_, .f32⟩
  | 25 => ⟨S512, .f32⟩
  | 26 => ⟨S512, .f32⟩
  | 27 => ⟨S512, .f32⟩
  | 28 => ⟨S_, .f32⟩
  | 29 => ⟨S512, .f32⟩
  | 30 => ⟨S512, .f32⟩
  | 31 => ⟨S512, .f32⟩
  | 32 => ⟨S_, .f32⟩
  | 33 => ⟨S512, .f32⟩
  | 34 => ⟨S512, .f32⟩
  | 35 => ⟨S512, .f32⟩
  | 36 => ⟨S_, .f32⟩
  | 37 => ⟨S512, .f32⟩
  | 38 => ⟨S512, .f32⟩
  | 39 => ⟨S_, .f32⟩
  | 40 => ⟨S1024, .f32⟩
  | 41 => ⟨S_, .f32⟩
  | 42 => ⟨S1024, .f32⟩
  | 43 => ⟨S1024, .f32⟩
  | 44 => ⟨S_, .f32⟩
  | 45 => ⟨S1024, .f32⟩
  | 46 => ⟨S1024, .f32⟩
  | 47 => ⟨S1024, .f32⟩
  | 48 => ⟨S_, .f32⟩
  | 49 => ⟨S1024, .f32⟩
  | 50 => ⟨S1024, .f32⟩
  | 51 => ⟨S1024, .f32⟩
  | 52 => ⟨S_, .f32⟩
  | 53 => ⟨S1024, .f32⟩
  | 54 => ⟨S1024, .f32⟩
  | 55 => ⟨S1024, .f32⟩
  | 56 => ⟨S_, .f32⟩
  | 57 => ⟨S1024, .f32⟩
  | 58 => ⟨S1024, .f32⟩
  | 59 => ⟨S_, .f32⟩
  | 60 => ⟨S1024, .f32⟩
  | 61 => ⟨S1024, .f32⟩
  | 62 => ⟨S1024, .f32⟩
  | 63 => ⟨S_, .f32⟩
  | 64 => ⟨S1024, .f32⟩
  | 65 => ⟨S1024, .f32⟩
  | 66 => ⟨S1024, .f32⟩
  | 67 => ⟨S_, .f32⟩
  | 68 => ⟨S1024, .f32⟩
  | 69 => ⟨S1024, .f32⟩
  | 70 => ⟨S1024, .f32⟩
  | 71 => ⟨S_, .f32⟩
  | 72 => ⟨S1024, .f32⟩
  | 73 => ⟨S1024, .f32⟩
  | 74 => ⟨S_, .f32⟩
  | 75 => ⟨S_, .f32⟩
  | _ => ⟨S8, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8, .f32⟩

abbrev bufTy : (tb : Table) → Fin (tcTables nBuf tb) → BufTy
  | .hbm, ⟨i, _⟩ => hbmTy i
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_cst : Ref sig .tc := ⟨.hbm, 61, rfl⟩
abbrev main_v0 : Ref sig .tc := ⟨.hbm, 62, rfl⟩
abbrev main_cst_0 : Ref sig .tc := ⟨.hbm, 63, rfl⟩
abbrev main_v1 : Ref sig .tc := ⟨.hbm, 64, rfl⟩
abbrev main_v2 : Ref sig .tc := ⟨.hbm, 65, rfl⟩
abbrev main_cst_1 : Ref sig .tc := ⟨.hbm, 66, rfl⟩
abbrev main_v3 : Ref sig .tc := ⟨.hbm, 67, rfl⟩
abbrev main_v4 : Ref sig .tc := ⟨.hbm, 68, rfl⟩
abbrev main_v5 : Ref sig .tc := ⟨.hbm, 69, rfl⟩
abbrev main_cst_2 : Ref sig .tc := ⟨.hbm, 70, rfl⟩
abbrev main_v6 : Ref sig .tc := ⟨.hbm, 71, rfl⟩
abbrev main_v7 : Ref sig .tc := ⟨.hbm, 72, rfl⟩
abbrev main_v8 : Ref sig .tc := ⟨.hbm, 73, rfl⟩
abbrev main_cst_3 : Ref sig .tc := ⟨.hbm, 74, rfl⟩
abbrev main_v9 : Ref sig .tc := ⟨.hbm, 75, rfl⟩
abbrev main_v10 : Ref sig .tc := ⟨.hbm, 76, rfl⟩
abbrev main_v11 : Ref sig .tc := ⟨.hbm, 77, rfl⟩
abbrev main_cst_4 : Ref sig .tc := ⟨.hbm, 78, rfl⟩
abbrev main_v12 : Ref sig .tc := ⟨.hbm, 79, rfl⟩
abbrev main_v13 : Ref sig .tc := ⟨.hbm, 80, rfl⟩
abbrev main_cst_5 : Ref sig .tc := ⟨.hbm, 81, rfl⟩
abbrev main_v14 : Ref sig .tc := ⟨.hbm, 82, rfl⟩
abbrev main_v15 : Ref sig .tc := ⟨.hbm, 83, rfl⟩
abbrev main_v16 : Ref sig .tc := ⟨.hbm, 84, rfl⟩
abbrev main_cst_6 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_cst_7 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_cst_8 : Ref sig .tc := ⟨.hbm, 93, rfl⟩
abbrev main_v23 : Ref sig .tc := ⟨.hbm, 94, rfl⟩
abbrev main_v24 : Ref sig .tc := ⟨.hbm, 95, rfl⟩
abbrev main_cst_9 : Ref sig .tc := ⟨.hbm, 96, rfl⟩
abbrev main_v25 : Ref sig .tc := ⟨.hbm, 97, rfl⟩
abbrev main_cst_10 : Ref sig .tc := ⟨.hbm, 98, rfl⟩
abbrev main_v26 : Ref sig .tc := ⟨.hbm, 99, rfl⟩
abbrev main_v27 : Ref sig .tc := ⟨.hbm, 100, rfl⟩
abbrev main_cst_11 : Ref sig .tc := ⟨.hbm, 101, rfl⟩
abbrev main_v28 : Ref sig .tc := ⟨.hbm, 102, rfl⟩
abbrev main_v29 : Ref sig .tc := ⟨.hbm, 103, rfl⟩
abbrev main_v30 : Ref sig .tc := ⟨.hbm, 104, rfl⟩
abbrev main_cst_12 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_cst_13 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_cst_14 : Ref sig .tc := ⟨.hbm, 113, rfl⟩
abbrev main_v37 : Ref sig .tc := ⟨.hbm, 114, rfl⟩
abbrev main_v38 : Ref sig .tc := ⟨.hbm, 115, rfl⟩
abbrev main_cst_15 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_cst_16 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_cst_17 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_cst_18 : Ref sig .tc := ⟨.hbm, 128, rfl⟩
abbrev main_v48 : Ref sig .tc := ⟨.hbm, 129, rfl⟩
abbrev main_v49 : Ref sig .tc := ⟨.hbm, 130, rfl⟩
abbrev main_cst_19 : Ref sig .tc := ⟨.hbm, 131, rfl⟩
abbrev main_v50 : Ref sig .tc := ⟨.hbm, 132, rfl⟩
abbrev main_cst_20 : Ref sig .tc := ⟨.hbm, 133, rfl⟩
abbrev main_v51 : Ref sig .tc := ⟨.hbm, 134, rfl⟩
abbrev main_v52 : Ref sig .tc := ⟨.hbm, 135, rfl⟩
abbrev main_cst_21 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_cst_22 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_cst_23 : Ref sig .tc := ⟨.hbm, 144, rfl⟩
abbrev main_v59 : Ref sig .tc := ⟨.hbm, 145, rfl⟩
abbrev main_v60 : Ref sig .tc := ⟨.hbm, 146, rfl⟩
abbrev main_v61 : Ref sig .tc := ⟨.hbm, 147, rfl⟩
abbrev main_cst_24 : Ref sig .tc := ⟨.hbm, 148, rfl⟩
abbrev main_v62 : Ref sig .tc := ⟨.hbm, 149, rfl⟩
abbrev main_v63 : Ref sig .tc := ⟨.hbm, 150, rfl⟩
abbrev main_cst_25 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_cst_26 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_cst_27 : Ref sig .tc := ⟨.hbm, 159, rfl⟩
abbrev main_v70 : Ref sig .tc := ⟨.hbm, 160, rfl⟩
abbrev main_v71 : Ref sig .tc := ⟨.hbm, 161, rfl⟩
abbrev main_v72 : Ref sig .tc := ⟨.hbm, 162, rfl⟩
abbrev main_cst_28 : Ref sig .tc := ⟨.hbm, 163, rfl⟩
abbrev main_v73 : Ref sig .tc := ⟨.hbm, 164, rfl⟩
abbrev main_v74 : Ref sig .tc := ⟨.hbm, 165, rfl⟩
abbrev main_cst_29 : Ref sig .tc := ⟨.hbm, 166, rfl⟩
abbrev main_v75 : Ref sig .tc := ⟨.hbm, 167, rfl⟩
abbrev main_cst_30 : Ref sig .tc := ⟨.hbm, 168, rfl⟩
abbrev main_v76 : Ref sig .tc := ⟨.hbm, 169, rfl⟩
abbrev main_v77 : Ref sig .tc := ⟨.hbm, 170, rfl⟩
abbrev main_cst_31 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_cst_32 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev main_cst_33 : Ref sig .tc := ⟨.hbm, 179, rfl⟩
abbrev main_v84 : Ref sig .tc := ⟨.hbm, 180, rfl⟩
abbrev main_v85 : Ref sig .tc := ⟨.hbm, 181, rfl⟩
abbrev main_v86 : Ref sig .tc := ⟨.hbm, 182, rfl⟩
abbrev main_cst_34 : Ref sig .tc := ⟨.hbm, 183, rfl⟩
abbrev main_v87 : Ref sig .tc := ⟨.hbm, 184, rfl⟩
abbrev main_v88 : Ref sig .tc := ⟨.hbm, 185, rfl⟩
abbrev main_cst_35 : Ref sig .tc := ⟨.hbm, 186, rfl⟩
abbrev main_v89 : Ref sig .tc := ⟨.hbm, 187, rfl⟩
abbrev main_v90 : Ref sig .tc := ⟨.hbm, 188, rfl⟩
abbrev main_v91 : Ref sig .tc := ⟨.hbm, 189, rfl⟩
abbrev main_cst_36 : Ref sig .tc := ⟨.hbm, 190, rfl⟩
abbrev main_v92 : Ref sig .tc := ⟨.hbm, 191, rfl⟩
abbrev main_v93 : Ref sig .tc := ⟨.hbm, 192, rfl⟩
abbrev main_v94 : Ref sig .tc := ⟨.hbm, 193, rfl⟩
abbrev main_cst_37 : Ref sig .tc := ⟨.hbm, 194, rfl⟩
abbrev main_v95 : Ref sig .tc := ⟨.hbm, 195, rfl⟩
abbrev main_v96 : Ref sig .tc := ⟨.hbm, 196, rfl⟩
abbrev main_v97 : Ref sig .tc := ⟨.hbm, 197, rfl⟩
abbrev main_cst_38 : Ref sig .tc := ⟨.hbm, 198, rfl⟩
abbrev main_v98 : Ref sig .tc := ⟨.hbm, 199, rfl⟩
abbrev main_v99 : Ref sig .tc := ⟨.hbm, 200, rfl⟩
abbrev main_cst_39 : Ref sig .tc := ⟨.hbm, 201, rfl⟩
abbrev main_v100 : Ref sig .tc := ⟨.hbm, 202, rfl⟩
abbrev main_cst_40 : Ref sig .tc := ⟨.hbm, 203, rfl⟩
abbrev main_v101 : Ref sig .tc := ⟨.hbm, 204, rfl⟩
abbrev main_v102 : Ref sig .tc := ⟨.hbm, 205, rfl⟩
abbrev main_cst_41 : Ref sig .tc := ⟨.hbm, 206, rfl⟩
abbrev main_v103 : Ref sig .tc := ⟨.hbm, 207, rfl⟩
abbrev main_v104 : Ref sig .tc := ⟨.hbm, 208, rfl⟩
abbrev main_v105 : Ref sig .tc := ⟨.hbm, 209, rfl⟩
abbrev main_cst_42 : Ref sig .tc := ⟨.hbm, 210, rfl⟩
abbrev main_v106 : Ref sig .tc := ⟨.hbm, 211, rfl⟩
abbrev main_v107 : Ref sig .tc := ⟨.hbm, 212, rfl⟩
abbrev main_v108 : Ref sig .tc := ⟨.hbm, 213, rfl⟩
abbrev main_cst_43 : Ref sig .tc := ⟨.hbm, 214, rfl⟩
abbrev main_v109 : Ref sig .tc := ⟨.hbm, 215, rfl⟩
abbrev main_v110 : Ref sig .tc := ⟨.hbm, 216, rfl⟩
abbrev main_v111 : Ref sig .tc := ⟨.hbm, 217, rfl⟩
abbrev main_cst_44 : Ref sig .tc := ⟨.hbm, 218, rfl⟩
abbrev main_v112 : Ref sig .tc := ⟨.hbm, 219, rfl⟩
abbrev main_v113 : Ref sig .tc := ⟨.hbm, 220, rfl⟩
abbrev main_cst_45 : Ref sig .tc := ⟨.hbm, 221, rfl⟩
abbrev main_v114 : Ref sig .tc := ⟨.hbm, 222, rfl⟩
abbrev main_v115 : Ref sig .tc := ⟨.hbm, 223, rfl⟩
abbrev main_v116 : Ref sig .tc := ⟨.hbm, 224, rfl⟩
abbrev main_cst_46 : Ref sig .tc := ⟨.hbm, 225, rfl⟩
abbrev main_v117 : Ref sig .tc := ⟨.hbm, 226, rfl⟩
abbrev main_v118 : Ref sig .tc := ⟨.hbm, 227, rfl⟩
abbrev main_v119 : Ref sig .tc := ⟨.hbm, 228, rfl⟩
abbrev main_cst_47 : Ref sig .tc := ⟨.hbm, 229, rfl⟩
abbrev main_v120 : Ref sig .tc := ⟨.hbm, 230, rfl⟩
abbrev main_v121 : Ref sig .tc := ⟨.hbm, 231, rfl⟩
abbrev main_v122 : Ref sig .tc := ⟨.hbm, 232, rfl⟩
abbrev main_cst_48 : Ref sig .tc := ⟨.hbm, 233, rfl⟩
abbrev main_v123 : Ref sig .tc := ⟨.hbm, 234, rfl⟩
abbrev main_v124 : Ref sig .tc := ⟨.hbm, 235, rfl⟩
abbrev main_cst_49 : Ref sig .tc := ⟨.hbm, 236, rfl⟩
abbrev main_v125 : Ref sig .tc := ⟨.hbm, 237, rfl⟩
abbrev main_cst_50 : Ref sig .tc := ⟨.hbm, 238, rfl⟩
abbrev main_v126 : Ref sig .tc := ⟨.hbm, 239, rfl⟩
abbrev main_v127 : Ref sig .tc := ⟨.hbm, 240, rfl⟩
abbrev main_cst_51 : Ref sig .tc := ⟨.hbm, 241, rfl⟩
abbrev main_v128 : Ref sig .tc := ⟨.hbm, 242, rfl⟩
abbrev main_v129 : Ref sig .tc := ⟨.hbm, 243, rfl⟩
abbrev main_v130 : Ref sig .tc := ⟨.hbm, 244, rfl⟩
abbrev main_cst_52 : Ref sig .tc := ⟨.hbm, 245, rfl⟩
abbrev main_v131 : Ref sig .tc := ⟨.hbm, 246, rfl⟩
abbrev main_v132 : Ref sig .tc := ⟨.hbm, 247, rfl⟩
abbrev main_v133 : Ref sig .tc := ⟨.hbm, 248, rfl⟩
abbrev main_cst_53 : Ref sig .tc := ⟨.hbm, 249, rfl⟩
abbrev main_v134 : Ref sig .tc := ⟨.hbm, 250, rfl⟩
abbrev main_v135 : Ref sig .tc := ⟨.hbm, 251, rfl⟩
abbrev main_v136 : Ref sig .tc := ⟨.hbm, 252, rfl⟩
abbrev main_cst_54 : Ref sig .tc := ⟨.hbm, 253, rfl⟩
abbrev main_v137 : Ref sig .tc := ⟨.hbm, 254, rfl⟩
abbrev main_v138 : Ref sig .tc := ⟨.hbm, 255, rfl⟩
abbrev main_cst_55 : Ref sig .tc := ⟨.hbm, 256, rfl⟩
abbrev main_v139 : Ref sig .tc := ⟨.hbm, 257, rfl⟩
abbrev main_v140 : Ref sig .tc := ⟨.hbm, 258, rfl⟩
abbrev main_v141 : Ref sig .tc := ⟨.hbm, 259, rfl⟩
abbrev main_cst_56 : Ref sig .tc := ⟨.hbm, 260, rfl⟩
abbrev main_v142 : Ref sig .tc := ⟨.hbm, 261, rfl⟩
abbrev main_v143 : Ref sig .tc := ⟨.hbm, 262, rfl⟩
abbrev main_v144 : Ref sig .tc := ⟨.hbm, 263, rfl⟩
abbrev main_cst_57 : Ref sig .tc := ⟨.hbm, 264, rfl⟩
abbrev main_v145 : Ref sig .tc := ⟨.hbm, 265, rfl⟩
abbrev main_v146 : Ref sig .tc := ⟨.hbm, 266, rfl⟩
abbrev main_v147 : Ref sig .tc := ⟨.hbm, 267, rfl⟩
abbrev main_cst_58 : Ref sig .tc := ⟨.hbm, 268, rfl⟩
abbrev main_v148 : Ref sig .tc := ⟨.hbm, 269, rfl⟩
abbrev main_v149 : Ref sig .tc := ⟨.hbm, 270, rfl⟩
abbrev main_cst_59 : Ref sig .tc := ⟨.hbm, 271, rfl⟩
abbrev main_v150 : Ref sig .tc := ⟨.hbm, 272, rfl⟩
abbrev main_cst_60 : Ref sig .tc := ⟨.hbm, 273, rfl⟩
abbrev main_v151 : Ref sig .tc := ⟨.hbm, 274, rfl⟩
abbrev main_v152 : Ref sig .tc := ⟨.hbm, 275, rfl⟩
abbrev main_cst_61 : Ref sig .tc := ⟨.hbm, 276, rfl⟩
abbrev main_v153 : Ref sig .tc := ⟨.hbm, 277, rfl⟩
abbrev main_v154 : Ref sig .tc := ⟨.hbm, 278, rfl⟩
abbrev main_v155 : Ref sig .tc := ⟨.hbm, 279, rfl⟩
abbrev main_cst_62 : Ref sig .tc := ⟨.hbm, 280, rfl⟩
abbrev main_v156 : Ref sig .tc := ⟨.hbm, 281, rfl⟩
abbrev main_v157 : Ref sig .tc := ⟨.hbm, 282, rfl⟩
abbrev main_v158 : Ref sig .tc := ⟨.hbm, 283, rfl⟩
abbrev main_cst_63 : Ref sig .tc := ⟨.hbm, 284, rfl⟩
abbrev main_v159 : Ref sig .tc := ⟨.hbm, 285, rfl⟩
abbrev main_v160 : Ref sig .tc := ⟨.hbm, 286, rfl⟩
abbrev main_v161 : Ref sig .tc := ⟨.hbm, 287, rfl⟩
abbrev main_cst_64 : Ref sig .tc := ⟨.hbm, 288, rfl⟩
abbrev main_v162 : Ref sig .tc := ⟨.hbm, 289, rfl⟩
abbrev main_v163 : Ref sig .tc := ⟨.hbm, 290, rfl⟩
abbrev main_cst_65 : Ref sig .tc := ⟨.hbm, 291, rfl⟩
abbrev main_v164 : Ref sig .tc := ⟨.hbm, 292, rfl⟩
abbrev main_v165 : Ref sig .tc := ⟨.hbm, 293, rfl⟩
abbrev main_v166 : Ref sig .tc := ⟨.hbm, 294, rfl⟩
abbrev main_cst_66 : Ref sig .tc := ⟨.hbm, 295, rfl⟩
abbrev main_v167 : Ref sig .tc := ⟨.hbm, 296, rfl⟩
abbrev main_v168 : Ref sig .tc := ⟨.hbm, 297, rfl⟩
abbrev main_v169 : Ref sig .tc := ⟨.hbm, 298, rfl⟩
abbrev main_cst_67 : Ref sig .tc := ⟨.hbm, 299, rfl⟩
abbrev main_v170 : Ref sig .tc := ⟨.hbm, 300, rfl⟩
abbrev main_v171 : Ref sig .tc := ⟨.hbm, 301, rfl⟩
abbrev main_v172 : Ref sig .tc := ⟨.hbm, 302, rfl⟩
abbrev main_cst_68 : Ref sig .tc := ⟨.hbm, 303, rfl⟩
abbrev main_v173 : Ref sig .tc := ⟨.hbm, 304, rfl⟩
abbrev main_v174 : Ref sig .tc := ⟨.hbm, 305, rfl⟩
abbrev main_cst_69 : Ref sig .tc := ⟨.hbm, 306, rfl⟩
abbrev main_v175 : Ref sig .tc := ⟨.hbm, 307, rfl⟩
abbrev main_cst_70 : Ref sig .tc := ⟨.hbm, 308, rfl⟩
abbrev main_v176 : Ref sig .tc := ⟨.hbm, 309, rfl⟩
abbrev main_v177 : Ref sig .tc := ⟨.hbm, 310, rfl⟩
abbrev main_cst_71 : Ref sig .tc := ⟨.hbm, 311, rfl⟩
abbrev main_v178 : Ref sig .tc := ⟨.hbm, 312, rfl⟩
abbrev main_v179 : Ref sig .tc := ⟨.hbm, 313, rfl⟩
abbrev main_v180 : Ref sig .tc := ⟨.hbm, 314, rfl⟩
abbrev main_cst_72 : Ref sig .tc := ⟨.hbm, 315, rfl⟩
abbrev main_v181 : Ref sig .tc := ⟨.hbm, 316, rfl⟩
abbrev main_v182 : Ref sig .tc := ⟨.hbm, 317, rfl⟩
abbrev main_v183 : Ref sig .tc := ⟨.hbm, 318, rfl⟩
abbrev main_cst_73 : Ref sig .tc := ⟨.hbm, 319, rfl⟩
abbrev main_v184 : Ref sig .tc := ⟨.hbm, 320, rfl⟩
abbrev main_v185 : Ref sig .tc := ⟨.hbm, 321, rfl⟩
abbrev main_v186 : Ref sig .tc := ⟨.hbm, 322, rfl⟩
abbrev main_cst_74 : Ref sig .tc := ⟨.hbm, 323, rfl⟩
abbrev main_v187 : Ref sig .tc := ⟨.hbm, 324, rfl⟩
abbrev main_v188 : Ref sig .tc := ⟨.hbm, 325, rfl⟩
abbrev main_cst_75 : Ref sig .tc := ⟨.hbm, 326, rfl⟩
abbrev main_v189 : Ref sig .tc := ⟨.hbm, 327, rfl⟩
abbrev main_v190 : Ref sig .tc := ⟨.hbm, 328, rfl⟩
abbrev main_v191 : Ref sig .tc := ⟨.hbm, 329, rfl⟩
abbrev main_cst_76 : Ref sig .tc := ⟨.hbm, 330, rfl⟩
abbrev main_v192 : Ref sig .tc := ⟨.hbm, 331, rfl⟩
abbrev main_v193 : Ref sig .tc := ⟨.hbm, 332, rfl⟩
abbrev main_v194 : Ref sig .tc := ⟨.hbm, 333, rfl⟩
abbrev main_cst_77 : Ref sig .tc := ⟨.hbm, 334, rfl⟩
abbrev main_v195 : Ref sig .tc := ⟨.hbm, 335, rfl⟩
abbrev main_v196 : Ref sig .tc := ⟨.hbm, 336, rfl⟩
abbrev main_v197 : Ref sig .tc := ⟨.hbm, 337, rfl⟩
abbrev main_cst_78 : Ref sig .tc := ⟨.hbm, 338, rfl⟩
abbrev main_v198 : Ref sig .tc := ⟨.hbm, 339, rfl⟩
abbrev main_v199 : Ref sig .tc := ⟨.hbm, 340, rfl⟩
abbrev main_cst_79 : Ref sig .tc := ⟨.hbm, 341, rfl⟩
abbrev main_v200 : Ref sig .tc := ⟨.hbm, 342, rfl⟩
abbrev main_cst_80 : Ref sig .tc := ⟨.hbm, 343, rfl⟩
abbrev main_v201 : Ref sig .tc := ⟨.hbm, 344, rfl⟩
abbrev main_v202 : Ref sig .tc := ⟨.hbm, 345, rfl⟩
abbrev main_cst_81 : Ref sig .tc := ⟨.hbm, 346, rfl⟩
abbrev main_v203 : Ref sig .tc := ⟨.hbm, 347, rfl⟩
abbrev main_v204 : Ref sig .tc := ⟨.hbm, 348, rfl⟩
abbrev main_v205 : Ref sig .tc := ⟨.hbm, 349, rfl⟩
abbrev main_cst_82 : Ref sig .tc := ⟨.hbm, 350, rfl⟩
abbrev main_v206 : Ref sig .tc := ⟨.hbm, 351, rfl⟩
abbrev main_v207 : Ref sig .tc := ⟨.hbm, 352, rfl⟩
abbrev main_v208 : Ref sig .tc := ⟨.hbm, 353, rfl⟩
abbrev main_cst_83 : Ref sig .tc := ⟨.hbm, 354, rfl⟩
abbrev main_v209 : Ref sig .tc := ⟨.hbm, 355, rfl⟩
abbrev main_v210 : Ref sig .tc := ⟨.hbm, 356, rfl⟩
abbrev main_v211 : Ref sig .tc := ⟨.hbm, 357, rfl⟩
abbrev main_cst_84 : Ref sig .tc := ⟨.hbm, 358, rfl⟩
abbrev main_v212 : Ref sig .tc := ⟨.hbm, 359, rfl⟩
abbrev main_v213 : Ref sig .tc := ⟨.hbm, 360, rfl⟩
abbrev main_cst_85 : Ref sig .tc := ⟨.hbm, 361, rfl⟩
abbrev main_v214 : Ref sig .tc := ⟨.hbm, 362, rfl⟩
abbrev main_v215 : Ref sig .tc := ⟨.hbm, 363, rfl⟩
abbrev main_v216 : Ref sig .tc := ⟨.hbm, 364, rfl⟩
abbrev main_cst_86 : Ref sig .tc := ⟨.hbm, 365, rfl⟩
abbrev main_v217 : Ref sig .tc := ⟨.hbm, 366, rfl⟩
abbrev main_v218 : Ref sig .tc := ⟨.hbm, 367, rfl⟩
abbrev main_v219 : Ref sig .tc := ⟨.hbm, 368, rfl⟩
abbrev main_cst_87 : Ref sig .tc := ⟨.hbm, 369, rfl⟩
abbrev main_v220 : Ref sig .tc := ⟨.hbm, 370, rfl⟩
abbrev main_v221 : Ref sig .tc := ⟨.hbm, 371, rfl⟩
abbrev main_v222 : Ref sig .tc := ⟨.hbm, 372, rfl⟩
abbrev main_cst_88 : Ref sig .tc := ⟨.hbm, 373, rfl⟩
abbrev main_v223 : Ref sig .tc := ⟨.hbm, 374, rfl⟩
abbrev main_v224 : Ref sig .tc := ⟨.hbm, 375, rfl⟩
abbrev main_cst_89 : Ref sig .tc := ⟨.hbm, 376, rfl⟩
abbrev main_v225 : Ref sig .tc := ⟨.hbm, 377, rfl⟩
abbrev main_cst_90 : Ref sig .tc := ⟨.hbm, 378, rfl⟩
abbrev main_v226 : Ref sig .tc := ⟨.hbm, 379, rfl⟩
abbrev main_v227 : Ref sig .tc := ⟨.hbm, 380, rfl⟩
abbrev main_cst_91 : Ref sig .tc := ⟨.hbm, 381, rfl⟩
abbrev main_v228 : Ref sig .tc := ⟨.hbm, 382, rfl⟩
abbrev main_v229 : Ref sig .tc := ⟨.hbm, 383, rfl⟩
abbrev main_v230 : Ref sig .tc := ⟨.hbm, 384, rfl⟩
abbrev main_cst_92 : Ref sig .tc := ⟨.hbm, 385, rfl⟩
abbrev main_v231 : Ref sig .tc := ⟨.hbm, 386, rfl⟩
abbrev main_v232 : Ref sig .tc := ⟨.hbm, 387, rfl⟩
abbrev main_v233 : Ref sig .tc := ⟨.hbm, 388, rfl⟩
abbrev main_cst_93 : Ref sig .tc := ⟨.hbm, 389, rfl⟩
abbrev main_v234 : Ref sig .tc := ⟨.hbm, 390, rfl⟩
abbrev main_v235 : Ref sig .tc := ⟨.hbm, 391, rfl⟩
abbrev main_v236 : Ref sig .tc := ⟨.hbm, 392, rfl⟩
abbrev main_cst_94 : Ref sig .tc := ⟨.hbm, 393, rfl⟩
abbrev main_v237 : Ref sig .tc := ⟨.hbm, 394, rfl⟩
abbrev main_v238 : Ref sig .tc := ⟨.hbm, 395, rfl⟩
abbrev main_cst_95 : Ref sig .tc := ⟨.hbm, 396, rfl⟩
abbrev main_v239 : Ref sig .tc := ⟨.hbm, 397, rfl⟩
abbrev main_v240 : Ref sig .tc := ⟨.hbm, 398, rfl⟩
abbrev main_v241 : Ref sig .tc := ⟨.hbm, 399, rfl⟩
abbrev main_cst_96 : Ref sig .tc := ⟨.hbm, 400, rfl⟩
abbrev main_v242 : Ref sig .tc := ⟨.hbm, 401, rfl⟩
abbrev main_v243 : Ref sig .tc := ⟨.hbm, 402, rfl⟩
abbrev main_v244 : Ref sig .tc := ⟨.hbm, 403, rfl⟩
abbrev main_cst_97 : Ref sig .tc := ⟨.hbm, 404, rfl⟩
abbrev main_v245 : Ref sig .tc := ⟨.hbm, 405, rfl⟩
abbrev main_v246 : Ref sig .tc := ⟨.hbm, 406, rfl⟩
abbrev main_v247 : Ref sig .tc := ⟨.hbm, 407, rfl⟩
abbrev main_cst_98 : Ref sig .tc := ⟨.hbm, 408, rfl⟩
abbrev main_v248 : Ref sig .tc := ⟨.hbm, 409, rfl⟩
abbrev main_v249 : Ref sig .tc := ⟨.hbm, 410, rfl⟩
abbrev main_cst_99 : Ref sig .tc := ⟨.hbm, 411, rfl⟩
abbrev main_v250 : Ref sig .tc := ⟨.hbm, 412, rfl⟩
abbrev main_cst_100 : Ref sig .tc := ⟨.hbm, 413, rfl⟩
abbrev main_v251 : Ref sig .tc := ⟨.hbm, 414, rfl⟩
abbrev main_v252 : Ref sig .tc := ⟨.hbm, 415, rfl⟩
abbrev main_cst_101 : Ref sig .tc := ⟨.hbm, 416, rfl⟩
abbrev main_v253 : Ref sig .tc := ⟨.hbm, 417, rfl⟩
abbrev main_v254 : Ref sig .tc := ⟨.hbm, 418, rfl⟩
abbrev main_v255 : Ref sig .tc := ⟨.hbm, 419, rfl⟩
abbrev main_cst_102 : Ref sig .tc := ⟨.hbm, 420, rfl⟩
abbrev main_v256 : Ref sig .tc := ⟨.hbm, 421, rfl⟩
abbrev main_v257 : Ref sig .tc := ⟨.hbm, 422, rfl⟩
abbrev main_v258 : Ref sig .tc := ⟨.hbm, 423, rfl⟩
abbrev main_cst_103 : Ref sig .tc := ⟨.hbm, 424, rfl⟩
abbrev main_v259 : Ref sig .tc := ⟨.hbm, 425, rfl⟩
abbrev main_v260 : Ref sig .tc := ⟨.hbm, 426, rfl⟩
abbrev main_v261 : Ref sig .tc := ⟨.hbm, 427, rfl⟩
abbrev main_cst_104 : Ref sig .tc := ⟨.hbm, 428, rfl⟩
abbrev main_v262 : Ref sig .tc := ⟨.hbm, 429, rfl⟩
abbrev main_v263 : Ref sig .tc := ⟨.hbm, 430, rfl⟩
abbrev main_cst_105 : Ref sig .tc := ⟨.hbm, 431, rfl⟩
abbrev main_v264 : Ref sig .tc := ⟨.hbm, 432, rfl⟩
abbrev main_v265 : Ref sig .tc := ⟨.hbm, 433, rfl⟩
abbrev main_v266 : Ref sig .tc := ⟨.hbm, 434, rfl⟩
abbrev main_cst_106 : Ref sig .tc := ⟨.hbm, 435, rfl⟩
abbrev main_v267 : Ref sig .tc := ⟨.hbm, 436, rfl⟩
abbrev main_v268 : Ref sig .tc := ⟨.hbm, 437, rfl⟩
abbrev main_v269 : Ref sig .tc := ⟨.hbm, 438, rfl⟩
abbrev main_cst_107 : Ref sig .tc := ⟨.hbm, 439, rfl⟩
abbrev main_v270 : Ref sig .tc := ⟨.hbm, 440, rfl⟩
abbrev main_v271 : Ref sig .tc := ⟨.hbm, 441, rfl⟩
abbrev main_v272 : Ref sig .tc := ⟨.hbm, 442, rfl⟩
abbrev main_cst_108 : Ref sig .tc := ⟨.hbm, 443, rfl⟩
abbrev main_v273 : Ref sig .tc := ⟨.hbm, 444, rfl⟩
abbrev main_v274 : Ref sig .tc := ⟨.hbm, 445, rfl⟩
abbrev main_cst_109 : Ref sig .tc := ⟨.hbm, 446, rfl⟩
abbrev main_v275 : Ref sig .tc := ⟨.hbm, 447, rfl⟩
abbrev main_cst_110 : Ref sig .tc := ⟨.hbm, 448, rfl⟩
abbrev main_v276 : Ref sig .tc := ⟨.hbm, 449, rfl⟩
abbrev main_v277 : Ref sig .tc := ⟨.hbm, 450, rfl⟩
abbrev main_cst_111 : Ref sig .tc := ⟨.hbm, 451, rfl⟩
abbrev main_v278 : Ref sig .tc := ⟨.hbm, 452, rfl⟩
abbrev main_v279 : Ref sig .tc := ⟨.hbm, 453, rfl⟩
abbrev main_v280 : Ref sig .tc := ⟨.hbm, 454, rfl⟩
abbrev main_cst_112 : Ref sig .tc := ⟨.hbm, 455, rfl⟩
abbrev main_v281 : Ref sig .tc := ⟨.hbm, 456, rfl⟩
abbrev main_v282 : Ref sig .tc := ⟨.hbm, 457, rfl⟩
abbrev main_v283 : Ref sig .tc := ⟨.hbm, 458, rfl⟩
abbrev main_cst_113 : Ref sig .tc := ⟨.hbm, 459, rfl⟩
abbrev main_v284 : Ref sig .tc := ⟨.hbm, 460, rfl⟩
abbrev main_v285 : Ref sig .tc := ⟨.hbm, 461, rfl⟩
abbrev main_v286 : Ref sig .tc := ⟨.hbm, 462, rfl⟩
abbrev main_cst_114 : Ref sig .tc := ⟨.hbm, 463, rfl⟩
abbrev main_v287 : Ref sig .tc := ⟨.hbm, 464, rfl⟩
abbrev main_v288 : Ref sig .tc := ⟨.hbm, 465, rfl⟩
abbrev main_cst_115 : Ref sig .tc := ⟨.hbm, 466, rfl⟩
abbrev main_v289 : Ref sig .tc := ⟨.hbm, 467, rfl⟩
abbrev main_v290 : Ref sig .tc := ⟨.hbm, 468, rfl⟩
abbrev main_v291 : Ref sig .tc := ⟨.hbm, 469, rfl⟩
abbrev main_cst_116 : Ref sig .tc := ⟨.hbm, 470, rfl⟩
abbrev main_v292 : Ref sig .tc := ⟨.hbm, 471, rfl⟩
abbrev main_v293 : Ref sig .tc := ⟨.hbm, 472, rfl⟩
abbrev main_v294 : Ref sig .tc := ⟨.hbm, 473, rfl⟩
abbrev main_cst_117 : Ref sig .tc := ⟨.hbm, 474, rfl⟩
abbrev main_v295 : Ref sig .tc := ⟨.hbm, 475, rfl⟩
abbrev main_v296 : Ref sig .tc := ⟨.hbm, 476, rfl⟩
abbrev main_v297 : Ref sig .tc := ⟨.hbm, 477, rfl⟩
abbrev main_cst_118 : Ref sig .tc := ⟨.hbm, 478, rfl⟩
abbrev main_v298 : Ref sig .tc := ⟨.hbm, 479, rfl⟩
abbrev main_v299 : Ref sig .tc := ⟨.hbm, 480, rfl⟩
abbrev main_cst_119 : Ref sig .tc := ⟨.hbm, 481, rfl⟩
abbrev main_v300 : Ref sig .tc := ⟨.hbm, 482, rfl⟩
abbrev main_cst_120 : Ref sig .tc := ⟨.hbm, 483, rfl⟩
abbrev main_v301 : Ref sig .tc := ⟨.hbm, 484, rfl⟩
abbrev main_v302 : Ref sig .tc := ⟨.hbm, 485, rfl⟩
abbrev main_cst_121 : Ref sig .tc := ⟨.hbm, 486, rfl⟩
abbrev main_v303 : Ref sig .tc := ⟨.hbm, 487, rfl⟩
abbrev main_v304 : Ref sig .tc := ⟨.hbm, 488, rfl⟩
abbrev main_v305 : Ref sig .tc := ⟨.hbm, 489, rfl⟩
abbrev main_cst_122 : Ref sig .tc := ⟨.hbm, 490, rfl⟩
abbrev main_v306 : Ref sig .tc := ⟨.hbm, 491, rfl⟩
abbrev main_v307 : Ref sig .tc := ⟨.hbm, 492, rfl⟩
abbrev main_v308 : Ref sig .tc := ⟨.hbm, 493, rfl⟩
abbrev main_cst_123 : Ref sig .tc := ⟨.hbm, 494, rfl⟩
abbrev main_v309 : Ref sig .tc := ⟨.hbm, 495, rfl⟩
abbrev main_v310 : Ref sig .tc := ⟨.hbm, 496, rfl⟩
abbrev main_v311 : Ref sig .tc := ⟨.hbm, 497, rfl⟩
abbrev main_cst_124 : Ref sig .tc := ⟨.hbm, 498, rfl⟩
abbrev main_v312 : Ref sig .tc := ⟨.hbm, 499, rfl⟩
abbrev main_v313 : Ref sig .tc := ⟨.hbm, 500, rfl⟩
abbrev main_cst_125 : Ref sig .tc := ⟨.hbm, 501, rfl⟩
abbrev main_v314 : Ref sig .tc := ⟨.hbm, 502, rfl⟩
abbrev main_v315 : Ref sig .tc := ⟨.hbm, 503, rfl⟩
abbrev main_v316 : Ref sig .tc := ⟨.hbm, 504, rfl⟩
abbrev main_cst_126 : Ref sig .tc := ⟨.hbm, 505, rfl⟩
abbrev main_v317 : Ref sig .tc := ⟨.hbm, 506, rfl⟩
abbrev main_v318 : Ref sig .tc := ⟨.hbm, 507, rfl⟩
abbrev main_v319 : Ref sig .tc := ⟨.hbm, 508, rfl⟩
abbrev main_cst_127 : Ref sig .tc := ⟨.hbm, 509, rfl⟩
abbrev main_v320 : Ref sig .tc := ⟨.hbm, 510, rfl⟩
abbrev main_v321 : Ref sig .tc := ⟨.hbm, 511, rfl⟩
abbrev main_v322 : Ref sig .tc := ⟨.hbm, 512, rfl⟩
abbrev main_cst_128 : Ref sig .tc := ⟨.hbm, 513, rfl⟩
abbrev main_v323 : Ref sig .tc := ⟨.hbm, 514, rfl⟩
abbrev main_v324 : Ref sig .tc := ⟨.hbm, 515, rfl⟩
abbrev main_cst_129 : Ref sig .tc := ⟨.hbm, 516, rfl⟩
abbrev main_v325 : Ref sig .tc := ⟨.hbm, 517, rfl⟩
abbrev main_cst_130 : Ref sig .tc := ⟨.hbm, 518, rfl⟩
abbrev main_v326 : Ref sig .tc := ⟨.hbm, 519, rfl⟩
abbrev main_v327 : Ref sig .tc := ⟨.hbm, 520, rfl⟩
abbrev main_cst_131 : Ref sig .tc := ⟨.hbm, 521, rfl⟩
abbrev main_v328 : Ref sig .tc := ⟨.hbm, 522, rfl⟩
abbrev main_v329 : Ref sig .tc := ⟨.hbm, 523, rfl⟩
abbrev main_v330 : Ref sig .tc := ⟨.hbm, 524, rfl⟩
abbrev main_cst_132 : Ref sig .tc := ⟨.hbm, 525, rfl⟩
abbrev main_v331 : Ref sig .tc := ⟨.hbm, 526, rfl⟩
abbrev main_v332 : Ref sig .tc := ⟨.hbm, 527, rfl⟩
abbrev main_v333 : Ref sig .tc := ⟨.hbm, 528, rfl⟩
abbrev main_cst_133 : Ref sig .tc := ⟨.hbm, 529, rfl⟩
abbrev main_v334 : Ref sig .tc := ⟨.hbm, 530, rfl⟩
abbrev main_v335 : Ref sig .tc := ⟨.hbm, 531, rfl⟩
abbrev main_v336 : Ref sig .tc := ⟨.hbm, 532, rfl⟩
abbrev main_cst_134 : Ref sig .tc := ⟨.hbm, 533, rfl⟩
abbrev main_v337 : Ref sig .tc := ⟨.hbm, 534, rfl⟩
abbrev main_v338 : Ref sig .tc := ⟨.hbm, 535, rfl⟩
abbrev main_cst_135 : Ref sig .tc := ⟨.hbm, 536, rfl⟩
abbrev main_v339 : Ref sig .tc := ⟨.hbm, 537, rfl⟩
abbrev main_v340 : Ref sig .tc := ⟨.hbm, 538, rfl⟩
abbrev main_v341 : Ref sig .tc := ⟨.hbm, 539, rfl⟩
abbrev main_cst_136 : Ref sig .tc := ⟨.hbm, 540, rfl⟩
abbrev main_v342 : Ref sig .tc := ⟨.hbm, 541, rfl⟩
abbrev main_v343 : Ref sig .tc := ⟨.hbm, 542, rfl⟩
abbrev main_v344 : Ref sig .tc := ⟨.hbm, 543, rfl⟩
abbrev main_cst_137 : Ref sig .tc := ⟨.hbm, 544, rfl⟩
abbrev main_v345 : Ref sig .tc := ⟨.hbm, 545, rfl⟩
abbrev main_v346 : Ref sig .tc := ⟨.hbm, 546, rfl⟩
abbrev main_v347 : Ref sig .tc := ⟨.hbm, 547, rfl⟩
abbrev main_cst_138 : Ref sig .tc := ⟨.hbm, 548, rfl⟩
abbrev main_v348 : Ref sig .tc := ⟨.hbm, 549, rfl⟩
abbrev main_v349 : Ref sig .tc := ⟨.hbm, 550, rfl⟩
abbrev main_cst_139 : Ref sig .tc := ⟨.hbm, 551, rfl⟩
abbrev main_v350 : Ref sig .tc := ⟨.hbm, 552, rfl⟩
abbrev main_cst_140 : Ref sig .tc := ⟨.hbm, 553, rfl⟩
abbrev main_v351 : Ref sig .tc := ⟨.hbm, 554, rfl⟩
abbrev main_v352 : Ref sig .tc := ⟨.hbm, 555, rfl⟩
abbrev main_cst_141 : Ref sig .tc := ⟨.hbm, 556, rfl⟩
abbrev main_v353 : Ref sig .tc := ⟨.hbm, 557, rfl⟩
abbrev main_v354 : Ref sig .tc := ⟨.hbm, 558, rfl⟩
abbrev main_v355 : Ref sig .tc := ⟨.hbm, 559, rfl⟩
abbrev main_cst_142 : Ref sig .tc := ⟨.hbm, 560, rfl⟩
abbrev main_v356 : Ref sig .tc := ⟨.hbm, 561, rfl⟩
abbrev main_v357 : Ref sig .tc := ⟨.hbm, 562, rfl⟩
abbrev main_v358 : Ref sig .tc := ⟨.hbm, 563, rfl⟩
abbrev main_cst_143 : Ref sig .tc := ⟨.hbm, 564, rfl⟩
abbrev main_v359 : Ref sig .tc := ⟨.hbm, 565, rfl⟩
abbrev main_v360 : Ref sig .tc := ⟨.hbm, 566, rfl⟩
abbrev main_v361 : Ref sig .tc := ⟨.hbm, 567, rfl⟩
abbrev main_cst_144 : Ref sig .tc := ⟨.hbm, 568, rfl⟩
abbrev main_v362 : Ref sig .tc := ⟨.hbm, 569, rfl⟩
abbrev main_v363 : Ref sig .tc := ⟨.hbm, 570, rfl⟩
abbrev main_cst_145 : Ref sig .tc := ⟨.hbm, 571, rfl⟩
abbrev main_v364 : Ref sig .tc := ⟨.hbm, 572, rfl⟩
abbrev main_v365 : Ref sig .tc := ⟨.hbm, 573, rfl⟩
abbrev main_v366 : Ref sig .tc := ⟨.hbm, 574, rfl⟩
abbrev main_cst_146 : Ref sig .tc := ⟨.hbm, 575, rfl⟩
abbrev main_v367 : Ref sig .tc := ⟨.hbm, 576, rfl⟩
abbrev main_v368 : Ref sig .tc := ⟨.hbm, 577, rfl⟩
abbrev main_v369 : Ref sig .tc := ⟨.hbm, 578, rfl⟩
abbrev main_cst_147 : Ref sig .tc := ⟨.hbm, 579, rfl⟩
abbrev main_v370 : Ref sig .tc := ⟨.hbm, 580, rfl⟩
abbrev main_v371 : Ref sig .tc := ⟨.hbm, 581, rfl⟩
abbrev main_v372 : Ref sig .tc := ⟨.hbm, 582, rfl⟩
abbrev main_cst_148 : Ref sig .tc := ⟨.hbm, 583, rfl⟩
abbrev main_v373 : Ref sig .tc := ⟨.hbm, 584, rfl⟩
abbrev main_v374 : Ref sig .tc := ⟨.hbm, 585, rfl⟩
abbrev main_cst_149 : Ref sig .tc := ⟨.hbm, 586, rfl⟩
abbrev main_v375 : Ref sig .tc := ⟨.hbm, 587, rfl⟩

abbrev nD : Nat := 1
abbrev τ : Topo := Topo.v7x

variable {F : FTy → Type} [FloatOps F]
-- ==== Proof.MlpOutDx.lean ====
/-
  The gradient of the squared-ReLU product `square(relu a) · w` with respect to `a`, on one device's 4096 tokens: the
  kernel's 1024 × 2048 blocks, the array they tile, and the reference's whole-array term are one function of the
  cotangent `d`, the weight `w` and the pre-activation `a`.
-/
module

public import proofs.«01_k».proof.Proof.Gen.MlpOutDxIdeal.Value
public import proofs.«01_k».proof.Proof.Gen.MlpOutDxRefIdeal.Run
public import proofs.«01_k».proof.Proof.Gen.MlpOutDxRefIdeal.Read
public import proofs.«01_k».proof.Defs
public import Idealize.ShloMosaic.Lib.Pointwise
public import Idealize.ShloMosaic.Lib.Pipeline.Value

@[expose] public section

set_option maxRecDepth 16384

noncomputable section

namespace Cert.Hand.MlpOutDx

open Cert.MlpOutDxIdeal Cert.MlpOutDxIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- Grid points tile the result: four row blocks by two column blocks. -/
theorem index_maps : ∀ t : Fin cfg0.N,
    win0_0.index t 0 = win0_3.index t 0 ∧ win0_0.index t 1 = 0
    ∧ win0_1.index t 0 = win0_3.index t 1 ∧ win0_1.index t 1 = 0
    ∧ win0_2.index t 0 = win0_3.index t 0 ∧ win0_2.index t 1 = win0_3.index t 1
    ∧ win0_3.index t 0 < 4 ∧ win0_3.index t 1 < 2 :=
  (by decide +kernel : ∀ t : Fin grid0.N, _)

/-- Every block of the result belongs to some grid point, and every point writes back. -/
theorem index_onto : ∀ (a : Fin 4) (b : Fin 2), ∃ t : Fin cfg0.N, (cfg0.win 3).flush t = true
    ∧ win0_3.index t 0 = a.val ∧ win0_3.index t 1 = b.val :=
  (by decide +kernel : ∀ (a : Fin 4) (b : Fin 2), ∃ t : Fin grid0.N, _)

/-- What the body leaves in the result block, element by element: the cotangent's row against the weight's row, times
    twice the rectified pre-activation. -/
theorem body_at (x0 : Vec Ideal S1024x1024 .bf16) (x1 : Vec Ideal S2048x1024 .bf16) (x2 : Vec Ideal S1024x2048 .bf16)
    (r : Fin 1024) (s : Fin 2048) :
    out0_3 (F := Ideal) x0 x1 x2 (ix2 r s)
      = (∑ k : Fin 1024, x0 (ix2 r k) * x1 (ix2 s k)) * (Ideal.ofBits .f32 0x40000000#32 * max (x2 (ix2 r s)) 0) := by
  unfold out0_3
  rw [View.canon_unit_zero (by decide), View.ld_unit_zero (S := S1024x1024) (by decide),
    View.ld_unit_zero (S := S2048x1024) (by decide), View.ld_unit_zero (S := S1024x2048) (by decide)]
  pointwise [k0_pay1]

/-- The reference's gradient at an element: nothing where the pre-activation is not positive, since there twice the
    rectified pre-activation is zero; the same product elsewhere. -/
theorem ref_at (d w : Vec Ideal S4096x1024 .bf16) (a : Vec Ideal S4096x4096 .bf16) (r s : Fin 4096) :
    Cert.MlpOutDxRefIdeal.Read.val_main_v15 (F := Ideal) d w a (ix2 r s)
      = (∑ k : Fin 1024, d (ix2 r k) * w (ix2 s k)) * (Ideal.ofBits .f32 0x40000000#32 * max (a (ix2 r s)) 0) := by
  rw [← Cert.MlpOutDxRefIdeal.Read.val_main_v15_eq]
  pointwise
  split
  · rfl
  · rename_i h
    rw [max_eq_right (not_lt.mp h), mul_zero, mul_zero]

/-- The result array as a function of the argument arrays: the reference's own term. -/
def G (c : Dev nD) : Buf (Elt Ideal) ((c : Thread nD τ).loc main_v0) :=
  Cert.MlpOutDxRefIdeal.Read.val_main_v15 (F := Ideal) (m ((c : Thread nD τ).loc main_arg0))
    (m ((c : Thread nD τ).loc main_arg1)) (m ((c : Thread nD τ).loc main_arg2))

/-- What a grid point writes back is its block of `G`. -/
theorem flushed_eq (c : Dev nD) (t : Fin cfg0.N) :
    (dats m 0 c).flushed 3 t = ((cfg0.win 3).blk t).view.read (Elt Ideal) (G m c) := by
  obtain ⟨h00, h01, h10, h11, h20, h21, hl0, hl1⟩ := index_maps t
  rw [Value.flushed3]
  funext y
  obtain ⟨r, s, rfl⟩ : ∃ (r : Fin 1024) (s : Fin 2048), y = ix2 r s := ⟨y 0, y 1, eq_ix2 y⟩
  show out0_3 (iblk m c 0 t) (iblk m c 1 t) (iblk m c 2 t) (ix2 r s) = G m c ((win0_3.rect t).emb (ix2 r s))
  have e : ((win0_3.rect t).emb (ix2 r s) : S4096x4096.Idx)
      = ix2 ⟨win0_3.index t 0 * 1024 + r.val, by omega⟩ ⟨win0_3.index t 1 * 2048 + s.val, by omega⟩ :=
    Shape.idx_ext₂ (win0_3.rect_emb_val t (ix2 r s) 0) (win0_3.rect_emb_val t (ix2 r s) 1)
  rw [e, G, ref_at, body_at]
  have a0 : ∀ k : Fin 1024, iblk m c 0 t (ix2 r k)
      = m ((c : Thread nD τ).loc main_arg0) (ix2 ⟨win0_3.index t 0 * 1024 + r.val, by omega⟩ k) := fun k => by
    show m ((c : Thread nD τ).loc main_arg0) ((win0_0.rect t).emb (ix2 r k)) = _
    exact congrArg _ (Shape.idx_ext₂ ((win0_0.rect_emb_val t (ix2 r k) 0).trans (by rw [h00]; rfl))
      ((win0_0.rect_emb_val t (ix2 r k) 1).trans (by rw [h01]; simp)))
  have a1 : ∀ k : Fin 1024, iblk m c 1 t (ix2 s k)
      = m ((c : Thread nD τ).loc main_arg1) (ix2 ⟨win0_3.index t 1 * 2048 + s.val, by omega⟩ k) := fun k => by
    show m ((c : Thread nD τ).loc main_arg1) ((win0_1.rect t).emb (ix2 s k)) = _
    exact congrArg _ (Shape.idx_ext₂ ((win0_1.rect_emb_val t (ix2 s k) 0).trans (by rw [h10]; rfl))
      ((win0_1.rect_emb_val t (ix2 s k) 1).trans (by rw [h11]; simp)))
  have a2 : iblk m c 2 t (ix2 r s) = m ((c : Thread nD τ).loc main_arg2)
      (ix2 ⟨win0_3.index t 0 * 1024 + r.val, by omega⟩ ⟨win0_3.index t 1 * 2048 + s.val, by omega⟩) := by
    show m ((c : Thread nD τ).loc main_arg2) ((win0_2.rect t).emb (ix2 r s)) = _
    exact congrArg _ (Shape.idx_ext₂ ((win0_2.rect_emb_val t (ix2 r s) 0).trans (by rw [h20]; rfl))
      ((win0_2.rect_emb_val t (ix2 r s) 1).trans (by rw [h21]; rfl)))
  simp only [a0, a1, a2]

/-- Every element of the result lies in a block that is written back. -/
theorem covered (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  obtain ⟨t, hf, e0, e1⟩ := index_onto ⟨(i 0).val / 1024, by omega⟩ ⟨(i 1).val / 2048, by omega⟩
  refine ⟨t, hf, ?_⟩
  show i ∈ ((View.whole main_v0).slice (win0_3.rect t)).set
  rw [View.set_slice_whole, Rect.mem_set_unit]
  intro a
  match a with
  | ⟨0, _⟩ => show win0_3.index t 0 * 1024 ≤ (i 0).val ∧ (i 0).val < win0_3.index t 0 * 1024 + 1024
              rw [e0]; dsimp only; omega
  | ⟨1, _⟩ => show win0_3.index t 1 * 2048 ≤ (i 1).val ∧ (i 1).val < win0_3.index t 1 * 2048 + 2048
              rw [e1]; dsimp only; omega

/-- After the run the kernel's result array is `G`. -/
theorem final (c : Dev nD) : (dats m 0 c).arrAt 3 cfg0.N = G m c :=
  (dats m 0 c).arrAt_eq_of_cover 3 (G m c) (fun t _ => flushed_eq m c t) covered

/-- The kernel and the reference leave equal results. -/
theorem algebraic : Cert.algebraic_MlpOutDxIdeal_MlpOutDxRefIdeal := fun m g m' g' _ hagree =>
  ⟨fun c => G m c,
    (θ_run _ _ _).mono (fun r h c => ⟨(h c).1.trans (final m c), (h c).2⟩) (Value.run_blocks (F := Ideal) m g),
    (θ_run _ _ _).mono (fun r h c => ⟨(h c).1.trans (by
      rw [(hagree c).1, (hagree c).2.1, (hagree c).2.2]; rfl), (h c).2⟩)
      (Cert.MlpOutDxRefIdeal.Value.run (F := Ideal) m' g')⟩

end Cert.Hand.MlpOutDx

end
-- ==== Proof.MlpOutDw.lean ====
/-
  The gradient of the product `act · w` with respect to `w`, on one device's 4096 tokens: `actᵀ · d`, in 1024 × 512
  blocks, kept in full and rounded.
-/
module

public import proofs.«01_k».proof.Proof.Gen.MlpOutDwIdeal.Value
public import proofs.«01_k».proof.Proof.Gen.MlpOutDwRefIdeal.Run
public import proofs.«01_k».proof.Proof.Gen.MlpOutDwRefIdeal.Read
public import proofs.«01_k».proof.Defs
public import Idealize.ShloMosaic.Lib.Pointwise
public import Idealize.ShloMosaic.Lib.Pipeline.Value

@[expose] public section

set_option maxRecDepth 16384

noncomputable section

namespace Cert.Hand.MlpOutDw

open Cert.MlpOutDwIdeal Cert.MlpOutDwIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- Grid points tile the result: four row blocks by two column blocks, the same for both results. -/
theorem index_maps : ∀ t : Fin cfg0.N,
    win0_0.index t 0 = 0 ∧ win0_0.index t 1 = win0_2.index t 0
    ∧ win0_1.index t 0 = 0 ∧ win0_1.index t 1 = win0_2.index t 1
    ∧ win0_3.index t 0 = win0_2.index t 0 ∧ win0_3.index t 1 = win0_2.index t 1
    ∧ win0_2.index t 0 < 4 ∧ win0_2.index t 1 < 2 :=
  (by decide +kernel : ∀ t : Fin grid0.N, _)

/-- Every block of the results belongs to some grid point, and every point writes back. -/
theorem index_onto : ∀ (a : Fin 4) (b : Fin 2), ∃ t : Fin cfg0.N, (cfg0.win 2).flush t = true ∧ (cfg0.win 3).flush t = true
    ∧ win0_2.index t 0 = a.val ∧ win0_2.index t 1 = b.val :=
  (by decide +kernel : ∀ (a : Fin 4) (b : Fin 2), ∃ t : Fin grid0.N, _)

/-- What the body leaves in the full-precision block. -/
theorem body_at (x0 : Vec Ideal S4096x1024 .bf16) (x1 : Vec Ideal S4096x512 .bf16) (r : Fin 1024) (s : Fin 512) :
    out0_2 (F := Ideal) x0 x1 (ix2 r s) = ∑ k : Fin 4096, x0 (ix2 k r) * x1 (ix2 k s) := by
  unfold out0_2
  rw [View.canon_unit_zero (by decide), View.ld_unit_zero (S := S4096x1024) (by decide),
    View.ld_unit_zero (S := S4096x512) (by decide)]
  pointwise [k0_pay1]

/-- What the body leaves in the rounded block: at exact values, the same. -/
theorem body_rounded_at (x0 : Vec Ideal S4096x1024 .bf16) (x1 : Vec Ideal S4096x512 .bf16) (r : Fin 1024) (s : Fin 512) :
    out0_3 (F := Ideal) x0 x1 (ix2 r s) = ∑ k : Fin 4096, x0 (ix2 k r) * x1 (ix2 k s) := by
  unfold out0_3
  rw [View.canon_unit_zero (by decide), View.ld_unit_zero (S := S4096x1024) (by decide),
    View.ld_unit_zero (S := S4096x512) (by decide)]
  pointwise [k0_pay2, k0_pay1]

/-- The reference's gradient at an element. -/
theorem ref_at (x0 : Vec Ideal S4096x4096 .bf16) (x1 : Vec Ideal S4096x1024 .bf16) (r : Fin 4096) (s : Fin 1024) :
    Cert.MlpOutDwRefIdeal.Read.val_main_v5 (F := Ideal) x0 x1 (ix2 r s) = ∑ k : Fin 4096, x0 (ix2 k r) * x1 (ix2 k s) := by
  rw [← Cert.MlpOutDwRefIdeal.Read.val_main_v5_eq]
  pointwise
  exact Finset.sum_congr rfl fun k _ => mul_comm _ _

/-- The result array as a function of the argument arrays: the reference's own term. -/
def G (c : Dev nD) : S4096x1024.Idx → EReal :=
  Cert.MlpOutDwRefIdeal.Read.val_main_v5 (F := Ideal) (m ((c : Thread nD τ).loc main_arg0)) (m ((c : Thread nD τ).loc main_arg1))

/-- A block's activations are columns of the activation array, -/
theorem lhs_at (c : Dev nD) (t : Fin cfg0.N) (k : Fin 4096) (r : Fin 1024) (h : win0_2.index t 0 * 1024 + r.val < 4096) :
    iblk m c 0 t (ix2 k r) = m ((c : Thread nD τ).loc main_arg0) (ix2 k ⟨win0_2.index t 0 * 1024 + r.val, h⟩) := by
  obtain ⟨h00, h01, -⟩ := index_maps t
  show m ((c : Thread nD τ).loc main_arg0) ((win0_0.rect t).emb (ix2 k r)) = _
  exact congrArg _ (Shape.idx_ext₂ ((win0_0.rect_emb_val t (ix2 k r) 0).trans (by rw [h00]; simp))
    ((win0_0.rect_emb_val t (ix2 k r) 1).trans (by rw [h01]; rfl)))

/-- and its cotangents columns of the cotangent array. -/
theorem rhs_at (c : Dev nD) (t : Fin cfg0.N) (k : Fin 4096) (s : Fin 512) (h : win0_2.index t 1 * 512 + s.val < 1024) :
    iblk m c 1 t (ix2 k s) = m ((c : Thread nD τ).loc main_arg1) (ix2 k ⟨win0_2.index t 1 * 512 + s.val, h⟩) := by
  obtain ⟨-, -, h10, h11, -⟩ := index_maps t
  show m ((c : Thread nD τ).loc main_arg1) ((win0_1.rect t).emb (ix2 k s)) = _
  exact congrArg _ (Shape.idx_ext₂ ((win0_1.rect_emb_val t (ix2 k s) 0).trans (by rw [h10]; simp))
    ((win0_1.rect_emb_val t (ix2 k s) 1).trans (by rw [h11]; rfl)))

/-- What a grid point writes back to the full-precision result is its block of `G`. -/
theorem flushed_eq (c : Dev nD) (t : Fin cfg0.N) :
    (dats m 0 c).flushed 2 t = ((cfg0.win 2).blk t).view.read (Elt Ideal) (G m c) := by
  obtain ⟨-, -, -, -, -, -, hl0, hl1⟩ := index_maps t
  rw [Value.flushed2]
  funext y
  obtain ⟨r, s, rfl⟩ : ∃ (r : Fin 1024) (s : Fin 512), y = ix2 r s := ⟨y 0, y 1, eq_ix2 y⟩
  show out0_2 (iblk m c 0 t) (iblk m c 1 t) (ix2 r s) = G m c ((win0_2.rect t).emb (ix2 r s))
  have e : ((win0_2.rect t).emb (ix2 r s) : S4096x1024.Idx)
      = ix2 ⟨win0_2.index t 0 * 1024 + r.val, by omega⟩ ⟨win0_2.index t 1 * 512 + s.val, by omega⟩ :=
    Shape.idx_ext₂ (win0_2.rect_emb_val t (ix2 r s) 0) (win0_2.rect_emb_val t (ix2 r s) 1)
  rw [e, G, ref_at, body_at]
  simp only [lhs_at m c t _ r (by omega), rhs_at m c t _ s (by omega)]

/-- And to the rounded result, likewise. -/
theorem flushed_rounded_eq (c : Dev nD) (t : Fin cfg0.N) :
    (dats m 0 c).flushed 3 t = ((cfg0.win 3).blk t).view.read (Elt Ideal) (G m c) := by
  obtain ⟨-, -, -, -, h30, h31, hl0, hl1⟩ := index_maps t
  rw [Value.flushed3]
  funext y
  obtain ⟨r, s, rfl⟩ : ∃ (r : Fin 1024) (s : Fin 512), y = ix2 r s := ⟨y 0, y 1, eq_ix2 y⟩
  show out0_3 (iblk m c 0 t) (iblk m c 1 t) (ix2 r s) = G m c ((win0_3.rect t).emb (ix2 r s))
  have e : ((win0_3.rect t).emb (ix2 r s) : S4096x1024.Idx)
      = ix2 ⟨win0_2.index t 0 * 1024 + r.val, by omega⟩ ⟨win0_2.index t 1 * 512 + s.val, by omega⟩ :=
    Shape.idx_ext₂ ((win0_3.rect_emb_val t (ix2 r s) 0).trans (by rw [h30]; rfl))
      ((win0_3.rect_emb_val t (ix2 r s) 1).trans (by rw [h31]; rfl))
  rw [e, G, ref_at, body_rounded_at]
  simp only [lhs_at m c t _ r (by omega), rhs_at m c t _ s (by omega)]

/-- Every element of the full-precision result lies in a block that is written back, -/
theorem covered (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  obtain ⟨t, hf, -, e0, e1⟩ := index_onto ⟨(i 0).val / 1024, by omega⟩ ⟨(i 1).val / 512, by omega⟩
  refine ⟨t, hf, ?_⟩
  show i ∈ ((View.whole main_v0_0).slice (win0_2.rect t)).set
  rw [View.set_slice_whole, Rect.mem_set_unit]
  intro a
  match a with
  | ⟨0, _⟩ => show win0_2.index t 0 * 1024 ≤ (i 0).val ∧ (i 0).val < win0_2.index t 0 * 1024 + 1024
              rw [e0]; dsimp only; omega
  | ⟨1, _⟩ => show win0_2.index t 1 * 512 ≤ (i 1).val ∧ (i 1).val < win0_2.index t 1 * 512 + 512
              rw [e1]; dsimp only; omega

/-- and of the rounded one. -/
theorem covered_rounded (i : S4096x1024.Idx) : ∃ t : Fin cfg0.N, (cfg0.win 3).flush t = true ∧ i ∈ ((cfg0.win 3).blk t).view.set := by
  have h0 : (i 0).val < 4096 := (i 0).isLt
  have h1 : (i 1).val < 1024 := (i 1).isLt
  obtain ⟨t, -, hf, e0, e1⟩ := index_onto ⟨(i 0).val / 1024, by omega⟩ ⟨(i 1).val / 512, by omega⟩
  obtain ⟨-, -, -, -, h30, h31, -⟩ := index_maps t
  refine ⟨t, hf, ?_⟩
  show i ∈ ((View.whole main_v0_1).slice (win0_3.rect t)).set
  rw [View.set_slice_whole, Rect.mem_set_unit]
  intro a
  match a with
  | ⟨0, _⟩ => show win0_3.index t 0 * 1024 ≤ (i 0).val ∧ (i 0).val < win0_3.index t 0 * 1024 + 1024
              rw [h30, e0]; dsimp only; omega
  | ⟨1, _⟩ => show win0_3.index t 1 * 512 ≤ (i 1).val ∧ (i 1).val < win0_3.index t 1 * 512 + 512
              rw [h31, e1]; dsimp only; omega

/-- After the run both of the kernel's result arrays are `G`. -/
theorem final (c : Dev nD) : (dats m 0 c).arrAt 2 cfg0.N = G m c :=
  (dats m 0 c).arrAt_eq_of_cover 2 (G m c) (fun t _ => flushed_eq m c t) covered
theorem final_rounded (c : Dev nD) : (dats m 0 c).arrAt 3 cfg0.N = G m c :=
  (dats m 0 c).arrAt_eq_of_cover 3 (G m c) (fun t _ => flushed_rounded_eq m c t) covered_rounded

/-- The kernel and the reference leave equal results. -/
theorem algebraic : Cert.algebraic_MlpOutDwIdeal_MlpOutDwRefIdeal := fun m g m' g' _ hagree =>
  ⟨fun c => G m c, fun c => G m c,
    (θ_run _ _ _).mono (fun r h c => ⟨(h c).1.trans (final m c), (h c).2.1.trans (final_rounded m c), (h c).2.2⟩)
      (Value.run_blocks (F := Ideal) m g),
    (θ_run _ _ _).mono (fun r h c => ⟨(h c).1.trans (by rw [(hagree c).1, (hagree c).2]; rfl),
        (h c).2.1.trans (by rw [(hagree c).1, (hagree c).2]; rfl), (h c).2.2⟩)
      (Cert.MlpOutDwRefIdeal.Value.run (F := Ideal) m' g')⟩

end Cert.Hand.MlpOutDw

end
-- ==== Proof.MlpInDw.lean ====
/-
  The gradient of the product `hn · w` with respect to `w`, on one device's 4096 tokens: `hnᵀ · d`, in eight blocks of
  512 columns stacked along a leading axis, kept in full and rounded.
-/
module

public import proofs.«01_k».proof.Proof.Gen.MlpInDwIdeal.Value
public import proofs.«01_k».proof.Proof.Gen.MlpInDwRefIdeal.Run
public import proofs.«01_k».proof.Proof.Gen.MlpInDwRefIdeal.Read
public import proofs.«01_k».proof.Defs
public import Idealize.ShloMosaic.Lib.Pointwise
public import Idealize.ShloMosaic.Lib.Pipeline.Value

@[expose] public section

set_option maxRecDepth 16384

noncomputable section

namespace Cert.Hand.MlpInDw

open Cert.MlpInDwIdeal Cert.MlpInDwIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- Grid point `t` holds column block `t` of the gradient, for both results. -/
theorem index_maps : ∀ t : Fin cfg0.N,
    win0_0.index t 0 = 0 ∧ win0_0.index t 1 = 0
    ∧ win0_1.index t 0 = 0 ∧ win0_1.index t 1 = t.val
    ∧ (win0_2.index t 0 = t.val ∧ win0_2.index t 1 = 0 ∧ win0_2.index t 2 = 0)
    ∧ (win0_3.index t 0 = t.val ∧ win0_3.index t 1 = 0 ∧ win0_3.index t 2 = 0)
    ∧ (cfg0.win 2).flush t = true ∧ (cfg0.win 3).flush t = true :=
  (by decide +kernel : ∀ t : Fin grid0.N, _)

/-- An index of a block has leading coordinate zero. -/
theorem block_idx (y : S1x1024x512.Idx) : ∃ (r : Fin 1024) (s : Fin 512), y = ix3 0 r s :=
  ⟨y 1, y 2, (eq_ix3 y).trans (congrArg (fun a => ix3 a (y 1) (y 2)) (Subsingleton.elim (α := Fin 1) _ _))⟩

/-- What the body leaves in the full-precision block. -/
theorem body_at (x0 : Vec Ideal S4096x1024 .bf16) (x1 : Vec Ideal S4096x512 .bf16) (r : Fin 1024) (s : Fin 512) :
    out0_2 (F := Ideal) x0 x1 (ix3 0 r s) = ∑ k : Fin 4096, x0 (ix2 k r) * x1 (ix2 k s) := by
  unfold out0_2
  rw [View.canon_unit_zero (by decide), View.ld_unit_zero (S := S4096x1024) (by decide),
    View.ld_unit_zero (S := S4096x512) (by decide)]
  pointwise [k0_pay2, k0_pay1]

/-- What the body leaves in the rounded block: at exact values, the same. -/
theorem body_rounded_at (x0 : Vec Ideal S4096x1024 .bf16) (x1 : Vec Ideal S4096x512 .bf16) (r : Fin 1024) (s : Fin 512) :
    out0_3 (F := Ideal) x0 x1 (ix3 0 r s) = ∑ k : Fin 4096, x0 (ix2 k r) * x1 (ix2 k s) := by
  unfold out0_3
  rw [View.canon_unit_zero (by decide), View.ld_unit_zero (S := S4096x1024) (by decide),
    View.ld_unit_zero (S := S4096x512) (by decide)]
  pointwise [k0_pay3, k0_pay1]

/-- The reference's gradient at an element of column block `b`. -/
theorem ref_at (x0 : Vec Ideal S4096x1024 .bf16) (x1 : Vec Ideal S4096x4096 .bf16) (b : Fin 8) (r : Fin 1024) (s : Fin 512) :
    Cert.MlpInDwRefIdeal.Read.val_main_v7 (F := Ideal) x0 x1 (ix3 b r s)
      = ∑ k : Fin 4096, x0 (ix2 k r) * x1 (ix2 k ⟨b.val * 512 + s.val, by omega⟩) := by
  rw [← Cert.MlpInDwRefIdeal.Read.val_main_v7_eq]
  pointwise
  exact Finset.sum_congr rfl fun k _ => mul_comm _ _

/-- The result array as a function of the argument arrays: the reference's own term. -/
def G (c : Dev nD) : S8x1024x512.Idx → EReal :=
  Cert.MlpInDwRefIdeal.Read.val_main_v7 (F := Ideal) (m ((c : Thread nD τ).loc main_arg0)) (m ((c : Thread nD τ).loc main_arg1))

/-- Every point reads all of the normalised input, -/
theorem lhs_at (c : Dev nD) (t : Fin cfg0.N) (k : Fin 4096) (r : Fin 1024) :
    iblk m c 0 t (ix2 k r) = m ((c : Thread nD τ).loc main_arg0) (ix2 k r) := by
  obtain ⟨h00, h01, -⟩ := index_maps t
  show m ((c : Thread nD τ).loc main_arg0) ((win0_0.rect t).emb (ix2 k r)) = _
  exact congrArg _ (Shape.idx_ext₂ ((win0_0.rect_emb_val t (ix2 k r) 0).trans (by rw [h00]; simp))
    ((win0_0.rect_emb_val t (ix2 k r) 1).trans (by rw [h01]; simp)))

/-- and its own column block of the cotangent. -/
theorem rhs_at (c : Dev nD) (t : Fin cfg0.N) (k : Fin 4096) (s : Fin 512) (h : t.val * 512 + s.val < 4096) :
    iblk m c 1 t (ix2 k s) = m ((c : Thread nD τ).loc main_arg1) (ix2 k ⟨t.val * 512 + s.val, h⟩) := by
  obtain ⟨-, -, h10, h11, -⟩ := index_maps t
  show m ((c : Thread nD τ).loc main_arg1) ((win0_1.rect t).emb (ix2 k s)) = _
  exact congrArg _ (Shape.idx_ext₂ ((win0_1.rect_emb_val t (ix2 k s) 0).trans (by rw [h10]; simp))
    ((win0_1.rect_emb_val t (ix2 k s) 1).trans (by rw [h11]; rfl)))

/-- What a grid point writes back to the full-precision result is its block of `G`. -/
theorem flushed_eq (c : Dev nD) (t : Fin cfg0.N) :
    (dats m 0 c).flushed 2 t = ((cfg0.win 2).blk t).view.read (Elt Ideal) (G m c) := by
  obtain ⟨-, -, -, -, ⟨h0, h1, h2⟩, -⟩ := index_maps t
  have ht : t.val < 8 := Nat.lt_of_lt_of_eq t.isLt N_0
  rw [Value.flushed2]
  funext y
  obtain ⟨r, s, rfl⟩ := block_idx y
  show out0_2 (iblk m c 0 t) (iblk m c 1 t) (ix3 0 r s) = G m c ((win0_2.rect t).emb (ix3 0 r s))
  have e : ((win0_2.rect t).emb (ix3 0 r s) : S8x1024x512.Idx) = ix3 ⟨t.val, ht⟩ r s := by
    funext a
    match a with
    | ⟨0, _⟩ => exact Fin.ext ((win0_2.rect_emb_val t (ix3 0 r s) 0).trans (by rw [h0]; simp))
    | ⟨1, _⟩ => exact Fin.ext ((win0_2.rect_emb_val t (ix3 0 r s) 1).trans (by rw [h1]; simp))
    | ⟨2, _⟩ => exact Fin.ext ((win0_2.rect_emb_val t (ix3 0 r s) 2).trans (by rw [h2]; simp))
  rw [e, G, ref_at, body_at]
  simp only [lhs_at m c t, rhs_at m c t _ s (by omega)]

/-- And to the rounded result, likewise. -/
theorem flushed_rounded_eq (c : Dev nD) (t : Fin cfg0.N) :
    (dats m 0 c).flushed 3 t = ((cfg0.win 3).blk t).view.read (Elt Ideal) (G m c) := by
  obtain ⟨-, -, -, -, -, ⟨h0, h1, h2⟩, -⟩ := index_maps t
  have ht : t.val < 8 := Nat.lt_of_lt_of_eq t.isLt N_0
  rw [Value.flushed3]
  funext y
  obtain ⟨r, s, rfl⟩ := block_idx y
  show out0_3 (iblk m c 0 t) (iblk m c 1 t) (ix3 0 r s) = G m c ((win0_3.rect t).emb (ix3 0 r s))
  have e : ((win0_3.rect t).emb (ix3 0 r s) : S8x1024x512.Idx) = ix3 ⟨t.val, ht⟩ r s := by
    funext a
    match a with
    | ⟨0, _⟩ => exact Fin.ext ((win0_3.rect_emb_val t (ix3 0 r s) 0).trans (by rw [h0]; simp))
    | ⟨1, _⟩ => exact Fin.ext ((win0_3.rect_emb_val t (ix3 0 r s) 1).trans (by rw [h1]; simp))
    | ⟨2, _⟩ => exact Fin.ext ((win0_3.rect_emb_val t (ix3 0 r s) 2).trans (by rw [h2]; simp))
  rw [e, G, ref_at, body_rounded_at]
  simp only [lhs_at m c t, rhs_at m c t _ s (by omega)]

/-- Every element of the full-precision result lies in a block that is written back, -/
theorem covered (i : S8x1024x512.Idx) : ∃ t : Fin cfg0.N, (cfg0.win 2).flush t = true ∧ i ∈ ((cfg0.win 2).blk t).view.set := by
  have h0 : (i 0).val < 8 := (i 0).isLt
  have h1 : (i 1).val < 1024 := (i 1).isLt
  have h2 : (i 2).val < 512 := (i 2).isLt
  obtain ⟨t, ht⟩ : ∃ t : Fin cfg0.N, t.val = (i 0).val := ⟨⟨(i 0).val, Nat.lt_of_lt_of_eq h0 N_0.symm⟩, rfl⟩
  obtain ⟨-, -, -, -, ⟨e0, e1, e2⟩, -, hf, -⟩ := index_maps t
  refine ⟨t, hf, ?_⟩
  show i ∈ ((View.whole main_v0_0).slice (win0_2.rect t)).set
  rw [View.set_slice_whole, Rect.mem_set_unit]
  intro a
  match a with
  | ⟨0, _⟩ => show win0_2.index t 0 * 1 ≤ (i 0).val ∧ (i 0).val < win0_2.index t 0 * 1 + 1
              rw [e0]; omega
  | ⟨1, _⟩ => show win0_2.index t 1 * 1024 ≤ (i 1).val ∧ (i 1).val < win0_2.index t 1 * 1024 + 1024
              rw [e1]; omega
  | ⟨2, _⟩ => show win0_2.index t 2 * 512 ≤ (i 2).val ∧ (i 2).val < win0_2.index t 2 * 512 + 512
              rw [e2]; omega

/-- and of the rounded one. -/
theorem covered_rounded (i : S8x1024x512.Idx) : ∃ t : Fin cfg0.N, (cfg0.win 3).flush t = true ∧ i ∈ ((cfg0.win 3).blk t).view.set := by
  have h0 : (i 0).val < 8 := (i 0).isLt
  have h1 : (i 1).val < 1024 := (i 1).isLt
  have h2 : (i 2).val < 512 := (i 2).isLt
  obtain ⟨t, ht⟩ : ∃ t : Fin cfg0.N, t.val = (i 0).val := ⟨⟨(i 0).val, Nat.lt_of_lt_of_eq h0 N_0.symm⟩, rfl⟩
  obtain ⟨-, -, -, -, -, ⟨e0, e1, e2⟩, -, hf⟩ := index_maps t
  refine ⟨t, hf, ?_⟩
  show i ∈ ((View.whole main_v0_1).slice (win0_3.rect t)).set
  rw [View.set_slice_whole, Rect.mem_set_unit]
  intro a
  match a with
  | ⟨0, _⟩ => show win0_3.index t 0 * 1 ≤ (i 0).val ∧ (i 0).val < win0_3.index t 0 * 1 + 1
              rw [e0]; omega
  | ⟨1, _⟩ => show win0_3.index t 1 * 1024 ≤ (i 1).val ∧ (i 1).val < win0_3.index t 1 * 1024 + 1024
              rw [e1]; omega
  | ⟨2, _⟩ => show win0_3.index t 2 * 512 ≤ (i 2).val ∧ (i 2).val < win0_3.index t 2 * 512 + 512
              rw [e2]; omega

/-- After the run both of the kernel's result arrays are `G`. -/
theorem final (c : Dev nD) : (dats m 0 c).arrAt 2 cfg0.N = G m c :=
  (dats m 0 c).arrAt_eq_of_cover 2 (G m c) (fun t _ => flushed_eq m c t) covered
theorem final_rounded (c : Dev nD) : (dats m 0 c).arrAt 3 cfg0.N = G m c :=
  (dats m 0 c).arrAt_eq_of_cover 3 (G m c) (fun t _ => flushed_rounded_eq m c t) covered_rounded

/-- The kernel and the reference leave equal results. -/
theorem algebraic : Cert.algebraic_MlpInDwIdeal_MlpInDwRefIdeal := fun m g m' g' _ hagree =>
  ⟨fun c => G m c, fun c => G m c,
    (θ_run _ _ _).mono (fun r h c => ⟨(h c).1.trans (final m c), (h c).2.1.trans (final_rounded m c), (h c).2.2⟩)
      (Value.run_blocks (F := Ideal) m g),
    (θ_run _ _ _).mono (fun r h c => ⟨(h c).1.trans (by rw [(hagree c).1, (hagree c).2]; rfl),
        (h c).2.1.trans (by rw [(hagree c).1, (hagree c).2]; rfl), (h c).2.2⟩)
      (Cert.MlpInDwRefIdeal.Value.run (F := Ideal) m' g')⟩

end Cert.Hand.MlpInDw

end
-- ==== Proof.NormGrad.lean ====
/-
  The gradient of a root-mean-square normalisation of one row of 1024 numbers, as both a kernel's body and the
  differentiated reference compute it, and the sum over rows that a gain's gradient is.
-/
module

public import Idealize.ShloMosaic.PureOps.Ideal

@[expose] public section

noncomputable section

namespace Cert.Hand.NormGrad

open Idealize.ShloMosaic
open scoped BigOperators

/-- The constants of the two programs: the row length, the guard under the root, and minus one half. -/
abbrev len : EReal := Ideal.ofBits FTy.f32 0x44800000#32
abbrev guard : EReal := Ideal.ofBits FTy.f32 0x358637BD#32
abbrev negHalf : EReal := Ideal.ofBits FTy.f32 0xBF000000#32

/-- The guarded mean square of a row. -/
def ms (h : Fin 1024 → EReal) : EReal := Ideal.div (∑ x, h x * h x) len + guard

/-- The factor a row's own entry is multiplied by in the part of the gradient that comes through the mean square: `u` is
    the cotangent of the normalised row and `g` the gain. -/
def corr (u h g : Fin 1024 → EReal) : EReal :=
  ∑ _x : Fin 1, Ideal.div ((∑ x, h x * (u x * g x)) * (negHalf * Ideal.div (Ideal.rsqrt (ms h)) (ms h))) len

/-- The gradient at entry `s`, added to a cotangent `d` that arrives beside it. The mean square is of `h · h`, so its
    part appears once for each factor. -/
def dx (u h g d : Fin 1024 → EReal) (s : Fin 1024) : EReal :=
  d s + (u s * g s * Ideal.rsqrt (ms h) + h s * corr u h g + corr u h g * h s)

/-- One row's part of the gain's gradient at entry `s`. -/
def dgRow (u h : Fin 1024 → EReal) (s : Fin 1024) : EReal := h s * Ideal.rsqrt (ms h) * u s

/-- A running sum that starts from the first block of `b` rows and adds one block a step has, after step `n`, added every
    row of the first `n + 1` blocks. -/
theorem running_sum (T : ℕ → EReal) (b N : ℕ) (acc : (n : ℕ) → n < N → EReal)
    (h0 : ∀ h, acc 0 h = ∑ r : Fin b, T r.val)
    (hs : ∀ n h, acc (n + 1) h = acc n (Nat.lt_of_succ_lt h) + ∑ r : Fin b, T ((n + 1) * b + r.val)) :
    ∀ n h, acc n h = ∑ i ∈ Finset.range ((n + 1) * b), T i
  | 0, h => by rw [h0, Nat.zero_add, Nat.one_mul, Finset.sum_range]
  | n + 1, h => by
    rw [hs, running_sum T b N acc h0 hs n, Nat.add_mul (n + 1) 1 b, Nat.one_mul, Finset.sum_range_add,
      Finset.sum_range (fun x => T ((n + 1) * b + x))]

end Cert.Hand.NormGrad

end
-- ==== Proof.MlpInDxAt.lean ====
/-
  The gradient of `rmsnorm(h, g) · w` with respect to `h` and `g`, with the cotangent of the residual stream added, on one
  device's 4096 tokens: each grid point takes 512 rows; the gain's gradient is one row that the eight points add up.
-/
module

public import proofs.«01_k».proof.Proof.Gen.MlpInDxIdeal.Value
public import proofs.«01_k».proof.Proof.Gen.MlpInDxRefIdeal.Run
public import proofs.«01_k».proof.Proof.Gen.MlpInDxRefIdeal.Read
public import proofs.«01_k».proof.Defs
public import Idealize.ShloMosaic.Lib.Pointwise
public import Idealize.ShloMosaic.Lib.Pipeline.Value
public import proofs.«01_k».proof.Proof.NormGrad
public import Idealize.ShloMosaic.Lib.Tactic

@[expose] public section

set_option maxRecDepth 16384

noncomputable section

namespace Cert.Hand.MlpInDx

open Cert.MlpInDxIdeal Cert.MlpInDxIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

theorem hz : (![0, 0] : Fin 2 → Nat) = fun _ => 0 := funext fun a => by fin_cases a <;> rfl

/-! ## What a grid point leaves in its three output blocks -/

theorem out_A_5 (c : Dev nD) (i : grid0.Coords) (a0 : Memref sig .tc .vmem S512x4096 .bf16) (h0 : a0.IsWhole) (a1 : Memref sig .tc .vmem S1024x4096 .bf16) (h1 : a1.IsWhole) (a2 : Memref sig .tc .vmem S512x1024 .f32) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .bf16) (h6 : a6.IsWhole) (a7 : Memref sig .tc .vmem S1x1024 .f32) (h7 : a7.IsWhole) (hc : cond0_0 i)
    (x0 : Vec Ideal S512x4096 .bf16) (x1 : Vec Ideal S1024x4096 .bf16) (x2 : Vec Ideal S512x1024 .f32) (x3 : Vec Ideal S512x1024 .f32) (x4 : Vec Ideal S1x1024 .f32) :
    out0_A_5 c i a0 h0 a1 h1 a2 h2 a3 h3 a4 h4 a5 h5 a6 h6 a7 h7 hc x0 x1 x2 x3 x4 = k0_pay1 x3 (k0_pay11 x0 x1 x2 x4) (k0_pay12 x0 x1 x2 x4) := by
  unfold out0_A_5
  rw [View.read_writes_eq_canon _ _ _ (cover0_A_5 c i a0 h0 a1 h1 a2 h2 a3 h3 a4 h4 a5 h5 a6 h6 a7 h7 hc x0 x1 x2 x3 x4)]
  unfold kernelRun0_A
  dsimp only
  sl_unfold_words
  rw [View.canon_unit_zero hz]
  simp only [View.readAt_eq_ld, h0.read_unread, h1.read_unread, h2.read_unread, h3.read_unread, h4.read_unread, View.ld_unit_zero (S := S512x4096) hz, View.ld_unit_zero (S := S1024x4096) hz, View.ld_unit_zero (S := S512x1024) hz, View.ld_unit_zero (S := S1x1024) hz]

theorem out_A_6 (c : Dev nD) (i : grid0.Coords) (a0 : Memref sig .tc .vmem S512x4096 .bf16) (h0 : a0.IsWhole) (a1 : Memref sig .tc .vmem S1024x4096 .bf16) (h1 : a1.IsWhole) (a2 : Memref sig .tc .vmem S512x1024 .f32) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .bf16) (h6 : a6.IsWhole) (a7 : Memref sig .tc .vmem S1x1024 .f32) (h7 : a7.IsWhole) (hc : cond0_0 i)
    (x0 : Vec Ideal S512x4096 .bf16) (x1 : Vec Ideal S1024x4096 .bf16) (x2 : Vec Ideal S512x1024 .f32) (x3 : Vec Ideal S512x1024 .f32) (x4 : Vec Ideal S1x1024 .f32) :
    out0_A_6 c i a0 h0 a1 h1 a2 h2 a3 h3 a4 h4 a5 h5 a6 h6 a7 h7 hc x0 x1 x2 x3 x4 = k0_pay2 x3 (k0_pay11 x0 x1 x2 x4) (k0_pay12 x0 x1 x2 x4) := by
  unfold out0_A_6
  rw [View.read_writes_eq_canon _ _ _ (cover0_A_6 c i a0 h0 a1 h1 a2 h2 a3 h3 a4 h4 a5 h5 a6 h6 a7 h7 hc x0 x1 x2 x3 x4)]
  unfold kernelRun0_A
  dsimp only
  sl_unfold_words
  rw [View.canon_unit_zero hz]
  simp only [View.readAt_eq_ld, h0.read_unread, h1.read_unread, h2.read_unread, h3.read_unread, h4.read_unread, View.ld_unit_zero (S := S512x4096) hz, View.ld_unit_zero (S := S1024x4096) hz, View.ld_unit_zero (S := S512x1024) hz, View.ld_unit_zero (S := S1x1024) hz]

theorem out_A_7 (c : Dev nD) (i : grid0.Coords) (a0 : Memref sig .tc .vmem S512x4096 .bf16) (h0 : a0.IsWhole) (a1 : Memref sig .tc .vmem S1024x4096 .bf16) (h1 : a1.IsWhole) (a2 : Memref sig .tc .vmem S512x1024 .f32) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .bf16) (h6 : a6.IsWhole) (a7 : Memref sig .tc .vmem S1x1024 .f32) (h7 : a7.IsWhole) (hc : cond0_0 i)
    (x0 : Vec Ideal S512x4096 .bf16) (x1 : Vec Ideal S1024x4096 .bf16) (x2 : Vec Ideal S512x1024 .f32) (x3 : Vec Ideal S512x1024 .f32) (x4 : Vec Ideal S1x1024 .f32) :
    out0_A_7 c i a0 h0 a1 h1 a2 h2 a3 h3 a4 h4 a5 h5 a6 h6 a7 h7 hc x0 x1 x2 x3 x4 = k0_pay4 (k0_pay8 x0 x1 x2) (k0_pay3 (F := Ideal)) := by
  unfold out0_A_7
  rw [View.read_writes_eq_canon _ _ _ (cover0_A_7 c i a0 h0 a1 h1 a2 h2 a3 h3 a4 h4 a5 h5 a6 h6 a7 h7 hc x0 x1 x2 x3 x4)]
  unfold kernelRun0_A
  dsimp only
  sl_unfold_words
  rw [View.canon_cons_unit_zero (S := S1x1024) hz, View.readCov_unit_zero (S := S1x1024) _ hz]
  simp only [View.readAt_eq_ld, h0.read_unread, h1.read_unread, h2.read_unread, h3.read_unread, h4.read_unread, View.ld_unit_zero (S := S512x4096) hz, View.ld_unit_zero (S := S1024x4096) hz, View.ld_unit_zero (S := S512x1024) hz, View.ld_unit_zero (S := S1x1024) hz]

theorem out_B_5 (c : Dev nD) (i : grid0.Coords) (a0 : Memref sig .tc .vmem S512x4096 .bf16) (h0 : a0.IsWhole) (a1 : Memref sig .tc .vmem S1024x4096 .bf16) (h1 : a1.IsWhole) (a2 : Memref sig .tc .vmem S512x1024 .f32) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .bf16) (h6 : a6.IsWhole) (a7 : Memref sig .tc .vmem S1x1024 .f32) (h7 : a7.IsWhole) (hc : ¬cond0_0 i)
    (x0 : Vec Ideal S512x4096 .bf16) (x1 : Vec Ideal S1024x4096 .bf16) (x2 : Vec Ideal S512x1024 .f32) (x3 : Vec Ideal S512x1024 .f32) (x4 : Vec Ideal S1x1024 .f32) (xo : Vec Ideal S1x1024 .f32) :
    out0_B_5 c i a0 h0 a1 h1 a2 h2 a3 h3 a4 h4 a5 h5 a6 h6 a7 h7 hc x0 x1 x2 x3 x4 xo = k0_pay1 x3 (k0_pay11 x0 x1 x2 x4) (k0_pay12 x0 x1 x2 x4) := by
  unfold out0_B_5
  rw [View.read_writes_eq_canon _ _ _ (cover0_B_5 c i a0 h0 a1 h1 a2 h2 a3 h3 a4 h4 a5 h5 a6 h6 a7 h7 hc x0 x1 x2 x3 x4 xo)]
  unfold kernelRun0_B
  dsimp only
  sl_unfold_words
  rw [View.canon_unit_zero hz]
  simp only [View.readAt_eq_ld, h0.read_unread, h1.read_unread, h2.read_unread, h3.read_unread, h4.read_unread, h7.read_unread, View.ld_unit_zero (S := S512x4096) hz, View.ld_unit_zero (S := S1024x4096) hz, View.ld_unit_zero (S := S512x1024) hz, View.ld_unit_zero (S := S1x1024) hz]

theorem out_B_6 (c : Dev nD) (i : grid0.Coords) (a0 : Memref sig .tc .vmem S512x4096 .bf16) (h0 : a0.IsWhole) (a1 : Memref sig .tc .vmem S1024x4096 .bf16) (h1 : a1.IsWhole) (a2 : Memref sig .tc .vmem S512x1024 .f32) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .bf16) (h6 : a6.IsWhole) (a7 : Memref sig .tc .vmem S1x1024 .f32) (h7 : a7.IsWhole) (hc : ¬cond0_0 i)
    (x0 : Vec Ideal S512x4096 .bf16) (x1 : Vec Ideal S1024x4096 .bf16) (x2 : Vec Ideal S512x1024 .f32) (x3 : Vec Ideal S512x1024 .f32) (x4 : Vec Ideal S1x1024 .f32) (xo : Vec Ideal S1x1024 .f32) :
    out0_B_6 c i a0 h0 a1 h1 a2 h2 a3 h3 a4 h4 a5 h5 a6 h6 a7 h7 hc x0 x1 x2 x3 x4 xo = k0_pay2 x3 (k0_pay11 x0 x1 x2 x4) (k0_pay12 x0 x1 x2 x4) := by
  unfold out0_B_6
  rw [View.read_writes_eq_canon _ _ _ (cover0_B_6 c i a0 h0 a1 h1 a2 h2 a3 h3 a4 h4 a5 h5 a6 h6 a7 h7 hc x0 x1 x2 x3 x4 xo)]
  unfold kernelRun0_B
  dsimp only
  sl_unfold_words
  rw [View.canon_unit_zero hz]
  simp only [View.readAt_eq_ld, h0.read_unread, h1.read_unread, h2.read_unread, h3.read_unread, h4.read_unread, h7.read_unread, View.ld_unit_zero (S := S512x4096) hz, View.ld_unit_zero (S := S1024x4096) hz, View.ld_unit_zero (S := S512x1024) hz, View.ld_unit_zero (S := S1x1024) hz]

theorem out_B_7 (c : Dev nD) (i : grid0.Coords) (a0 : Memref sig .tc .vmem S512x4096 .bf16) (h0 : a0.IsWhole) (a1 : Memref sig .tc .vmem S1024x4096 .bf16) (h1 : a1.IsWhole) (a2 : Memref sig .tc .vmem S512x1024 .f32) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .bf16) (h6 : a6.IsWhole) (a7 : Memref sig .tc .vmem S1x1024 .f32) (h7 : a7.IsWhole) (hc : ¬cond0_0 i)
    (x0 : Vec Ideal S512x4096 .bf16) (x1 : Vec Ideal S1024x4096 .bf16) (x2 : Vec Ideal S512x1024 .f32) (x3 : Vec Ideal S512x1024 .f32) (x4 : Vec Ideal S1x1024 .f32) (xo : Vec Ideal S1x1024 .f32) :
    out0_B_7 c i a0 h0 a1 h1 a2 h2 a3 h3 a4 h4 a5 h5 a6 h6 a7 h7 hc x0 x1 x2 x3 x4 xo = k0_pay4 (k0_pay8 x0 x1 x2) xo := by
  unfold out0_B_7
  rw [View.read_writes_eq_canon _ _ _ (cover0_B_7 c i a0 h0 a1 h1 a2 h2 a3 h3 a4 h4 a5 h5 a6 h6 a7 h7 hc x0 x1 x2 x3 x4 xo)]
  unfold kernelRun0_B
  dsimp only
  sl_unfold_words
  rw [View.canon_unit_zero hz]
  simp only [View.readAt_eq_ld, h0.read_unread, h1.read_unread, h2.read_unread, h3.read_unread, h4.read_unread, h7.read_unread, View.ld_unit_zero (S := S512x4096) hz, View.ld_unit_zero (S := S1024x4096) hz, View.ld_unit_zero (S := S512x1024) hz, View.ld_unit_zero (S := S1x1024) hz]

/-! ## At an element -/

open NormGrad

theorem body_at (x0 : Vec Ideal S512x4096 .bf16) (x1 : Vec Ideal S1024x4096 .bf16) (x2 : Vec Ideal S512x1024 .f32) (x3 : Vec Ideal S512x1024 .f32) (x4 : Vec Ideal S1x1024 .f32) (r : Fin 512) (s : Fin 1024) :
    k0_pay1 x3 (k0_pay11 x0 x1 x2 x4) (k0_pay12 x0 x1 x2 x4) (ix2 r s)
      = dx (fun s => ∑ k : Fin 4096, x0 (ix2 r k) * x1 (ix2 s k)) (fun s => x2 (ix2 r s)) (fun s => x4 (ix2 0 s)) (fun s => x3 (ix2 r s)) s := by
  unfold_payloads
  pointwise
  rfl

theorem body_rounded_at (x0 : Vec Ideal S512x4096 .bf16) (x1 : Vec Ideal S1024x4096 .bf16) (x2 : Vec Ideal S512x1024 .f32) (x3 : Vec Ideal S512x1024 .f32) (x4 : Vec Ideal S1x1024 .f32) (r : Fin 512) (s : Fin 1024) :
    k0_pay2 x3 (k0_pay11 x0 x1 x2 x4) (k0_pay12 x0 x1 x2 x4) (ix2 r s)
      = dx (fun s => ∑ k : Fin 4096, x0 (ix2 r k) * x1 (ix2 s k)) (fun s => x2 (ix2 r s)) (fun s => x4 (ix2 0 s)) (fun s => x3 (ix2 r s)) s := by
  unfold_payloads
  pointwise
  rfl

theorem body_gain_at (x0 : Vec Ideal S512x4096 .bf16) (x1 : Vec Ideal S1024x4096 .bf16) (x2 : Vec Ideal S512x1024 .f32) (xo : Vec Ideal S1x1024 .f32) (s : Fin 1024) :
    k0_pay4 (k0_pay8 x0 x1 x2) xo (ix2 0 s)
      = xo (ix2 0 s) + ∑ r : Fin 512, dgRow (fun s => ∑ k : Fin 4096, x0 (ix2 r k) * x1 (ix2 s k)) (fun s => x2 (ix2 r s)) s := by
  unfold_payloads
  pointwise
  rfl

theorem body_zero_at (s : Fin 1024) : k0_pay3 (F := Ideal) (ix2 0 s) = 0 := by
  pointwise [k0_pay3]

theorem ref_at (x0 : Vec Ideal S4096x4096 .bf16) (x1 : Vec Ideal S1024x4096 .bf16) (x2 : Vec Ideal S4096x1024 .f32) (x3 : Vec Ideal S4096x1024 .f32) (x4 : Vec Ideal S1x1024 .f32) (r : Fin 4096) (s : Fin 1024) :
    Cert.MlpInDxRefIdeal.Read.val_main_v38 (F := Ideal) x0 x1 x2 x3 x4 (ix2 r s)
      = dx (fun s => ∑ k : Fin 4096, x0 (ix2 r k) * x1 (ix2 s k)) (fun s => x2 (ix2 r s)) (fun s => x4 (ix2 0 s)) (fun s => x3 (ix2 r s)) s := by
  pointwise [Cert.MlpInDxRefIdeal.Read.val_main_v0, Cert.MlpInDxRefIdeal.Read.val_main_v1, Cert.MlpInDxRefIdeal.Read.val_main_v2, Cert.MlpInDxRefIdeal.Read.val_main_v3, Cert.MlpInDxRefIdeal.Read.val_main_v4, Cert.MlpInDxRefIdeal.Read.val_main_v5, Cert.MlpInDxRefIdeal.Read.val_main_v6, Cert.MlpInDxRefIdeal.Read.val_main_v7, Cert.MlpInDxRefIdeal.Read.val_main_v8, Cert.MlpInDxRefIdeal.Read.val_main_v9, Cert.MlpInDxRefIdeal.Read.val_main_v10, Cert.MlpInDxRefIdeal.Read.val_main_v11, Cert.MlpInDxRefIdeal.Read.val_main_v17, Cert.MlpInDxRefIdeal.Read.val_main_v18, Cert.MlpInDxRefIdeal.Read.val_main_v22, Cert.MlpInDxRefIdeal.Read.val_main_v23, Cert.MlpInDxRefIdeal.Read.val_main_v24, Cert.MlpInDxRefIdeal.Read.val_main_v25, Cert.MlpInDxRefIdeal.Read.val_main_v26, Cert.MlpInDxRefIdeal.Read.val_main_v27, Cert.MlpInDxRefIdeal.Read.val_main_v28, Cert.MlpInDxRefIdeal.Read.val_main_v29, Cert.MlpInDxRefIdeal.Read.val_main_v30, Cert.MlpInDxRefIdeal.Read.val_main_v31, Cert.MlpInDxRefIdeal.Read.val_main_v32, Cert.MlpInDxRefIdeal.Read.val_main_v33, Cert.MlpInDxRefIdeal.Read.val_main_v34, Cert.MlpInDxRefIdeal.Read.val_main_v35, Cert.MlpInDxRefIdeal.Read.val_main_v36, Cert.MlpInDxRefIdeal.Read.val_main_v37, Cert.MlpInDxRefIdeal.Read.val_main_v38, Cert.MlpInDxRefIdeal.Read.val_main_v39, Cert.MlpInDxRefIdeal.Read.val_main_cst, Cert.MlpInDxRefIdeal.Read.val_main_cst_0, Cert.MlpInDxRefIdeal.Read.val_main_cst_1, Cert.MlpInDxRefIdeal.Read.val_main_cst_2, Cert.MlpInDxRefIdeal.Read.val_main_cst_4, Cert.MlpInDxRefIdeal.Read.val_main_cst_5, Cert.MlpInDxRefIdeal.Read.val_main_cst_6]
  simp only [dx, add_assoc]
  rfl

theorem ref_rounded (x0 : Vec Ideal S4096x4096 .bf16) (x1 : Vec Ideal S1024x4096 .bf16) (x2 x3 : Vec Ideal S4096x1024 .f32) (x4 : Vec Ideal S1x1024 .f32) :
    Cert.MlpInDxRefIdeal.Read.val_main_v39 (F := Ideal) x0 x1 x2 x3 x4 = Cert.MlpInDxRefIdeal.Read.val_main_v38 (F := Ideal) x0 x1 x2 x3 x4 := rfl

theorem ref_gain_at (x0 : Vec Ideal S4096x4096 .bf16) (x1 : Vec Ideal S1024x4096 .bf16) (x2 : Vec Ideal S4096x1024 .f32) (s : Fin 1024) :
    Cert.MlpInDxRefIdeal.Read.val_main_v21 (F := Ideal) x0 x1 x2 (ix2 0 s)
      = ∑ r : Fin 4096, dgRow (fun s => ∑ k : Fin 4096, x0 (ix2 r k) * x1 (ix2 s k)) (fun s => x2 (ix2 r s)) s := by
  rw [← Cert.MlpInDxRefIdeal.Read.val_main_v21_eq]
  pointwise
  rfl

end Cert.Hand.MlpInDx

end
-- ==== Proof.MlpInDx.lean ====
/-
  The result arrays of the kernel that carries the gradient through the residual block's first product and its
  normalisation, and their equality with the reference's.
-/
module

public import proofs.«01_k».proof.Proof.Gen.MlpInDxIdeal.Value
public import proofs.«01_k».proof.Proof.Gen.MlpInDxRefIdeal.Run
public import proofs.«01_k».proof.Proof.Gen.MlpInDxRefIdeal.Read
public import proofs.«01_k».proof.Defs
public import Idealize.ShloMosaic.Lib.Pointwise
public import Idealize.ShloMosaic.Lib.Pipeline.Value
public import proofs.«01_k».proof.Proof.MlpInDxAt

@[expose] public section

set_option maxRecDepth 16384

noncomputable section

namespace Cert.Hand.MlpInDx

open Cert.MlpInDxIdeal Cert.MlpInDxIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

open NormGrad

/-- Grid point `t` takes rows `512 t` to `512 t + 511`; the weights, the gain and the gain's gradient stay in place. -/
theorem index_maps : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0)
    ∧ (win0_5.index t 0 = t.val ∧ win0_5.index t 1 = 0) ∧ (win0_6.index t 0 = t.val ∧ win0_6.index t 1 = 0)
    ∧ (win0_7.index t 0 = 0 ∧ win0_7.index t 1 = 0)
    ∧ (cfg0.win 5).flush t = true ∧ (cfg0.win 6).flush t = true :=
  (by decide +kernel : ∀ t : Fin grid0.N, _)

/-- The argument arrays. -/
abbrev A0 (c : Dev nD) : S4096x4096.Idx → EReal := m ((c : Thread nD τ).loc main_arg0)
abbrev A1 (c : Dev nD) : S1024x4096.Idx → EReal := m ((c : Thread nD τ).loc main_arg1)
abbrev A2 (c : Dev nD) : S4096x1024.Idx → EReal := m ((c : Thread nD τ).loc main_arg2)
abbrev A3 (c : Dev nD) : S4096x1024.Idx → EReal := m ((c : Thread nD τ).loc main_arg3)
abbrev A4 (c : Dev nD) : S1x1024.Idx → EReal := m ((c : Thread nD τ).loc main_arg4)

/-- The blocks of the first three that grid point `t` reads. -/
abbrev I0 (c : Dev nD) (t : Fin cfg0.N) : S512x4096.Idx → EReal := iblk m c 0 t
abbrev I1 (c : Dev nD) (t : Fin cfg0.N) : S1024x4096.Idx → EReal := iblk m c 1 t
abbrev I2 (c : Dev nD) (t : Fin cfg0.N) : S512x1024.Idx → EReal := iblk m c 2 t

/-- The gradient with respect to the input, and the gain's, as the reference's own terms. -/
def G (c : Dev nD) : S4096x1024.Idx → EReal :=
  Cert.MlpInDxRefIdeal.Read.val_main_v38 (F := Ideal) (A0 m c) (A1 m c) (A2 m c) (A3 m c) (A4 m c)
def Gg (c : Dev nD) : S1x1024.Idx → EReal :=
  Cert.MlpInDxRefIdeal.Read.val_main_v21 (F := Ideal) (A0 m c) (A1 m c) (A2 m c)

/-! ## What a grid point reads -/

theorem in0_at (c : Dev nD) (t : Fin cfg0.N) (r : Fin 512) (k : Fin 4096) (h : t.val * 512 + r.val < 4096) :
    iblk m c 0 t (ix2 r k) = A0 m c (ix2 ⟨t.val * 512 + r.val, h⟩ k) := by
  have hi := index_maps t
  show m ((c : Thread nD τ).loc main_arg0) ((win0_0.rect t).emb (ix2 r k)) = _
  exact congrArg _ (Shape.idx_ext₂ ((win0_0.rect_emb_val t (ix2 r k) 0).trans (by rw [hi.1.1]; rfl))
    ((win0_0.rect_emb_val t (ix2 r k) 1).trans (by rw [hi.1.2]; simp)))

theorem in1_at (c : Dev nD) (t : Fin cfg0.N) (r : Fin 1024) (k : Fin 4096) :
    iblk m c 1 t (ix2 r k) = A1 m c (ix2 r k) := by
  have hi := index_maps t
  show m ((c : Thread nD τ).loc main_arg1) ((win0_1.rect t).emb (ix2 r k)) = _
  exact congrArg _ (Shape.idx_ext₂ ((win0_1.rect_emb_val t (ix2 r k) 0).trans (by rw [hi.2.1.1]; simp))
    ((win0_1.rect_emb_val t (ix2 r k) 1).trans (by rw [hi.2.1.2]; simp)))

theorem in2_at (c : Dev nD) (t : Fin cfg0.N) (r : Fin 512) (k : Fin 1024) (h : t.val * 512 + r.val < 4096) :
    iblk m c 2 t (ix2 r k) = A2 m c (ix2 ⟨t.val * 512 + r.val, h⟩ k) := by
  have hi := index_maps t
  show m ((c : Thread nD τ).loc main_arg2) ((win0_2.rect t).emb (ix2 r k)) = _
  exact congrArg _ (Shape.idx_ext₂ ((win0_2.rect_emb_val t (ix2 r k) 0).trans (by rw [hi.2.2.1.1]; rfl))
    ((win0_2.rect_emb_val t (ix2 r k) 1).trans (by rw [hi.2.2.1.2]; simp)))

theorem in3_at (c : Dev nD) (t : Fin cfg0.N) (r : Fin 512) (k : Fin 1024) (h : t.val * 512 + r.val < 4096) :
    iblk m c 3 t (ix2 r k) = A3 m c (ix2 ⟨t.val * 512 + r.val, h⟩ k) := by
  have hi := index_maps t
  show m ((c : Thread nD τ).loc main_arg3) ((win0_3.rect t).emb (ix2 r k)) = _
  exact congrArg _ (Shape.idx_ext₂ ((win0_3.rect_emb_val t (ix2 r k) 0).trans (by rw [hi.2.2.2.1.1]; rfl))
    ((win0_3.rect_emb_val t (ix2 r k) 1).trans (by rw [hi.2.2.2.1.2]; simp)))

theorem in4_at (c : Dev nD) (t : Fin cfg0.N) (r : Fin 1) (k : Fin 1024) :
    iblk m c 4 t (ix2 r k) = A4 m c (ix2 r k) := by
  have hi := index_maps t
  show m ((c : Thread nD τ).loc main_arg4) ((win0_4.rect t).emb (ix2 r k)) = _
  exact congrArg _ (Shape.idx_ext₂ ((win0_4.rect_emb_val t (ix2 r k) 0).trans (by rw [hi.2.2.2.2.1.1]; simp))
    ((win0_4.rect_emb_val t (ix2 r k) 1).trans (by rw [hi.2.2.2.2.1.2]; simp)))

/-! ## The gradient with respect to the input, in full and rounded -/

theorem flushed_eq (c : Dev nD) (t : Fin cfg0.N) :
    (dats m 0 c).flushed 5 t = ((cfg0.win 5).blk t).view.read (Elt Ideal) (G m c) := by
  have ht : t.val < 8 := Nat.lt_of_lt_of_eq t.isLt N_0
  have hi := index_maps t
  funext y
  obtain ⟨r, s, rfl⟩ : ∃ (r : Fin 512) (s : Fin 1024), y = ix2 r s := ⟨y 0, y 1, eq_ix2 y⟩
  have hb : (dats m 0 c).flushed 5 t (ix2 r s)
      = k0_pay1 (iblk m c 3 t) (k0_pay11 (iblk m c 0 t) (iblk m c 1 t) (iblk m c 2 t) (iblk m c 4 t))
          (k0_pay12 (iblk m c 0 t) (iblk m c 1 t) (iblk m c 2 t) (iblk m c 4 t)) (ix2 r s) := by
    by_cases h : t.val % 8 = 0
    · rw [Value.flushed5_A m c t h, out_A_5]; rfl
    · rw [Value.flushed5_B m c t h, out_B_5]; rfl
  show _ = G m c ((win0_5.rect t).emb (ix2 r s))
  have e : ((win0_5.rect t).emb (ix2 r s) : S4096x1024.Idx) = ix2 ⟨t.val * 512 + r.val, by omega⟩ s :=
    Shape.idx_ext₂ ((win0_5.rect_emb_val t (ix2 r s) 0).trans (by rw [hi.2.2.2.2.2.1.1]; rfl))
      ((win0_5.rect_emb_val t (ix2 r s) 1).trans (by rw [hi.2.2.2.2.2.1.2]; simp))
  rw [hb, e, G, ref_at, body_at]
  simp only [in0_at m c t r _ (by omega), in1_at, in2_at m c t r _ (by omega), in3_at m c t r _ (by omega), in4_at]

theorem covered (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  obtain ⟨t, ht⟩ : ∃ t : Fin cfg0.N, t.val = (i 0).val / 512 := ⟨⟨(i 0).val / 512, Nat.lt_of_lt_of_eq (by omega) N_0.symm⟩, rfl⟩
  have hi := index_maps t
  refine ⟨t, hi.2.2.2.2.2.2.2.2.1, ?_⟩
  show i ∈ ((View.whole main_v0_0).slice (win0_5.rect t)).set
  rw [View.set_slice_whole, Rect.mem_set_unit]
  intro a
  match a with
  | ⟨0, _⟩ => show win0_5.index t 0 * 512 ≤ (i 0).val ∧ (i 0).val < win0_5.index t 0 * 512 + 512
              rw [hi.2.2.2.2.2.1.1]; omega
  | ⟨1, _⟩ => show win0_5.index t 1 * 1024 ≤ (i 1).val ∧ (i 1).val < win0_5.index t 1 * 1024 + 1024
              rw [hi.2.2.2.2.2.1.2]; omega

theorem final (c : Dev nD) : (dats m 0 c).arrAt 5 cfg0.N = G m c :=
  (dats m 0 c).arrAt_eq_of_cover 5 (G m c) (fun t _ => flushed_eq m c t) covered

theorem flushed_rounded_eq (c : Dev nD) (t : Fin cfg0.N) :
    (dats m 0 c).flushed 6 t = ((cfg0.win 6).blk t).view.read (Elt Ideal) (G m c) := by
  have ht : t.val < 8 := Nat.lt_of_lt_of_eq t.isLt N_0
  have hi := index_maps t
  funext y
  obtain ⟨r, s, rfl⟩ : ∃ (r : Fin 512) (s : Fin 1024), y = ix2 r s := ⟨y 0, y 1, eq_ix2 y⟩
  have hb : (dats m 0 c).flushed 6 t (ix2 r s)
      = k0_pay2 (iblk m c 3 t) (k0_pay11 (iblk m c 0 t) (iblk m c 1 t) (iblk m c 2 t) (iblk m c 4 t))
          (k0_pay12 (iblk m c 0 t) (iblk m c 1 t) (iblk m c 2 t) (iblk m c 4 t)) (ix2 r s) := by
    by_cases h : t.val % 8 = 0
    · rw [Value.flushed6_A m c t h, out_A_6]; rfl
    · rw [Value.flushed6_B m c t h, out_B_6]; rfl
  show _ = G m c ((win0_6.rect t).emb (ix2 r s))
  have e : ((win0_6.rect t).emb (ix2 r s) : S4096x1024.Idx) = ix2 ⟨t.val * 512 + r.val, by omega⟩ s :=
    Shape.idx_ext₂ ((win0_6.rect_emb_val t (ix2 r s) 0).trans (by rw [hi.2.2.2.2.2.2.1.1]; rfl))
      ((win0_6.rect_emb_val t (ix2 r s) 1).trans (by rw [hi.2.2.2.2.2.2.1.2]; simp))
  rw [hb, e, G, ref_at, body_rounded_at]
  simp only [in0_at m c t r _ (by omega), in1_at, in2_at m c t r _ (by omega), in3_at m c t r _ (by omega), in4_at]

theorem covered_rounded (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  obtain ⟨t, ht⟩ : ∃ t : Fin cfg0.N, t.val = (i 0).val / 512 := ⟨⟨(i 0).val / 512, Nat.lt_of_lt_of_eq (by omega) N_0.symm⟩, rfl⟩
  have hi := index_maps t
  refine ⟨t, hi.2.2.2.2.2.2.2.2.2, ?_⟩
  show i ∈ ((View.whole main_v0_1).slice (win0_6.rect t)).set
  rw [View.set_slice_whole, Rect.mem_set_unit]
  intro a
  match a with
  | ⟨0, _⟩ => show win0_6.index t 0 * 512 ≤ (i 0).val ∧ (i 0).val < win0_6.index t 0 * 512 + 512
              rw [hi.2.2.2.2.2.2.1.1]; omega
  | ⟨1, _⟩ => show win0_6.index t 1 * 1024 ≤ (i 1).val ∧ (i 1).val < win0_6.index t 1 * 1024 + 1024
              rw [hi.2.2.2.2.2.2.1.2]; omega

theorem final_rounded (c : Dev nD) : (dats m 0 c).arrAt 6 cfg0.N = G m c :=
  (dats m 0 c).arrAt_eq_of_cover 6 (G m c) (fun t _ => flushed_rounded_eq m c t) covered_rounded

/-! ## The gain's gradient -/

/-- Row `i`'s part of the gain's gradient at entry `s`; nothing past the last row. -/
def term (c : Dev nD) (s : Fin 1024) (i : ℕ) : EReal :=
  if h : i < 4096 then
    dgRow (fun s => ∑ k : Fin 4096, A0 m c (ix2 ⟨i, h⟩ k) * A1 m c (ix2 s k)) (fun s => A2 m c (ix2 ⟨i, h⟩ s)) s
  else 0

/-- The rows of point `t`, summed. -/
theorem rows_at (c : Dev nD) (t : Fin cfg0.N) (s : Fin 1024) :
    (∑ r : Fin 512, dgRow (fun s => ∑ k : Fin 4096, I0 m c t (ix2 r k) * I1 m c t (ix2 s k)) (fun s => I2 m c t (ix2 r s)) s)
      = ∑ r : Fin 512, term m c s (t.val * 512 + r.val) := by
  have ht : t.val < 8 := Nat.lt_of_lt_of_eq t.isLt N_0
  refine Finset.sum_congr rfl fun r _ => ?_
  have h : t.val * 512 + r.val < 4096 := by omega
  rw [term, dif_pos h]
  simp only [in0_at m c t r _ h, in1_at, in2_at m c t r _ h]

/-- After point `n` the gain's block holds the rows so far. -/
theorem acc_at (c : Dev nD) (s : Fin 1024) : ∀ (n : ℕ) (h : n < cfg0.N),
    (outsAt0 m c n h).2.2 (ix2 0 s) = ∑ i ∈ Finset.range ((n + 1) * 512), term m c s i := by
  refine running_sum (term m c s) 512 cfg0.N (fun n h => (outsAt0 m c n h).2.2 (ix2 0 s)) (fun h => ?_) (fun n h => ?_)
  · have e := outsAt0_A m c ⟨0, h⟩ rfl
    dsimp only at e ⊢
    rw [e]
    dsimp only
    rw [out_A_7, body_gain_at, body_zero_at, zero_add, rows_at m c ⟨0, h⟩ s]
    simp only [Nat.zero_mul, Nat.zero_add]
  · have hN : cfg0.N = 8 := N_0
    have e := outsAt0_B m c ⟨n + 1, h⟩ (by dsimp only; omega)
    dsimp only at e ⊢
    rw [e]
    dsimp only
    rw [out_B_7, body_gain_at, rows_at m c ⟨n + 1, h⟩ s]
    rfl

/-- All the rows: the reference's sum. -/
theorem term_sum (c : Dev nD) (s : Fin 1024) : (∑ i ∈ Finset.range 4096, term m c s i) = Gg m c (ix2 0 s) := by
  rw [Gg, ref_gain_at, Finset.sum_range]
  exact Finset.sum_congr rfl fun r _ => by rw [term, dif_pos r.isLt]

/-- The one point that writes the gain's gradient back writes the whole of it. -/
theorem flushed_gain_eq (c : Dev nD) (t : Fin cfg0.N) (hf : (cfg0.win 7).flush t = true) :
    (dats m 0 c).flushed 7 t = ((cfg0.win 7).blk t).view.read (Elt Ideal) (Gg m c) := by
  have ht : t.val < 8 := Nat.lt_of_lt_of_eq t.isLt N_0
  have h7 : t.val = 7 := by have := (flush0_7 t).mp hf; omega
  have hi := index_maps t
  funext y
  obtain ⟨s, rfl⟩ : ∃ s : Fin 1024, y = ix2 0 s :=
    ⟨y 1, (eq_ix2 y).trans (congrArg (fun a => ix2 a (y 1)) (Subsingleton.elim (α := Fin 1) _ _))⟩
  rw [Value.flushed7]
  show (outsAt0 m c t.val t.isLt).2.2 (ix2 0 s) = Gg m c ((win0_7.rect t).emb (ix2 0 s))
  have e : ((win0_7.rect t).emb (ix2 0 s) : S1x1024.Idx) = ix2 0 s :=
    Shape.idx_ext₂ ((win0_7.rect_emb_val t (ix2 0 s) 0).trans (by rw [hi.2.2.2.2.2.2.2.1.1]; simp))
      ((win0_7.rect_emb_val t (ix2 0 s) 1).trans (by rw [hi.2.2.2.2.2.2.2.1.2]; simp))
  rw [e, acc_at, ← term_sum, h7]

theorem covered_gain (i : S1x1024.Idx) : ∃ t : Fin cfg0.N, (cfg0.win 7).flush t = true ∧ i ∈ ((cfg0.win 7).blk t).view.set := by
  have h0 : (i 0).val < 1 := (i 0).isLt
  have h1 : (i 1).val < 1024 := (i 1).isLt
  obtain ⟨t, ht⟩ : ∃ t : Fin cfg0.N, t.val = 7 := ⟨⟨7, Nat.lt_of_lt_of_eq (by omega) N_0.symm⟩, rfl⟩
  have hi := index_maps t
  refine ⟨t, (flush0_7 t).mpr (by omega), ?_⟩
  show i ∈ ((View.whole main_v0_2).slice (win0_7.rect t)).set
  rw [View.set_slice_whole, Rect.mem_set_unit]
  intro a
  match a with
  | ⟨0, _⟩ => show win0_7.index t 0 * 1 ≤ (i 0).val ∧ (i 0).val < win0_7.index t 0 * 1 + 1
              rw [hi.2.2.2.2.2.2.2.1.1]; omega
  | ⟨1, _⟩ => show win0_7.index t 1 * 1024 ≤ (i 1).val ∧ (i 1).val < win0_7.index t 1 * 1024 + 1024
              rw [hi.2.2.2.2.2.2.2.1.2]; omega

theorem final_gain (c : Dev nD) : (dats m 0 c).arrAt 7 cfg0.N = Gg m c :=
  (dats m 0 c).arrAt_eq_of_cover 7 (Gg m c) (flushed_gain_eq m c) covered_gain

/-- The kernel and the reference leave equal results. -/
theorem algebraic : Cert.algebraic_MlpInDxIdeal_MlpInDxRefIdeal := fun m g m' g' _ hagree =>
  ⟨fun c => G m c, fun c => G m c, fun c => Gg m c,
    (θ_run _ _ _).mono (fun r h c => ⟨(h c).1.trans (final m c), (h c).2.1.trans (final_rounded m c),
        (h c).2.2.1.trans (final_gain m c), (h c).2.2.2⟩)
      (Value.run_blocks (F := Ideal) m g),
    (θ_run _ _ _).mono (fun r h c => by
        obtain ⟨e0, e1, e2, e3, e4⟩ := hagree c
        refine ⟨(h c).1.trans ?_, (h c).2.1.trans ?_, (h c).2.2.1.trans ?_, (h c).2.2.2⟩
        · rw [Cert.MlpInDxRefIdeal.Read.val_main_v38_eq, e0, e1, e2, e3, e4]; rfl
        · rw [Cert.MlpInDxRefIdeal.Read.val_main_v39_eq, e0, e1, e2, e3, e4]; rfl
        · rw [e0, e1, e2]; rfl)
      (Cert.MlpInDxRefIdeal.Value.run (F := Ideal) m' g')⟩

end Cert.Hand.MlpInDx

end
-- ==== Proof.Blocks.lean ====
/-
  Two facts about arrays cut into eight blocks of 512 rows: a sum over all rows is the sum of the blocks' sums, and an
  index of a one-row block is its column.
-/
module

public import Idealize.ShloMosaic.PureOps.Ideal
public import Idealize.ShloMosaic.Lib.Pointwise

@[expose] public section

noncomputable section

namespace Cert.Hand.Blocks

open Idealize.ShloMosaic
open scoped BigOperators

/-- A sum over 4096 rows, taken block by block. -/
theorem sum_rows (f : Fin 4096 → EReal) :
    ∑ R : Fin 4096, f R = ∑ t : Fin 8, ∑ r : Fin 512, f ⟨t.val * 512 + r.val, by omega⟩ := by
  have hb : ∀ (T : ℕ → EReal) (n : ℕ),
      ∑ i ∈ Finset.range (n * 512), T i = ∑ t ∈ Finset.range n, ∑ r ∈ Finset.range 512, T (t * 512 + r) := by
    intro T n
    induction n with
    | zero => simp
    | succ n ih => rw [Nat.succ_mul, Finset.sum_range_add, ih,
      Finset.sum_range_succ (fun t => ∑ r ∈ Finset.range 512, T (t * 512 + r))]
  have h := hb (fun i => if h : i < 4096 then f ⟨i, h⟩ else 0) 8
  rw [show 8 * 512 = 4096 from rfl, Finset.sum_range, Finset.sum_range] at h
  refine (Finset.sum_congr rfl fun R _ => ?_).trans (h.trans (Finset.sum_congr rfl fun t _ => ?_))
  · rw [dif_pos R.isLt]
  · rw [Finset.sum_range]
    exact Finset.sum_congr rfl fun r _ => dif_pos _

/-- An index of a block of one row has row zero. -/
theorem row_idx {W : ℕ} (y : (⟨2, ![1, W]⟩ : Shape).Idx) : ∃ s : Fin W, y = ix2 0 s :=
  ⟨y 1, (eq_ix2 y).trans (congrArg (fun a => ix2 a (y 1)) (Subsingleton.elim (α := Fin 1) _ _))⟩

end Cert.Hand.Blocks

end
-- ==== Proof.ProjDx.lean ====
/-
  The gradient of `rmsnorm(x, g) · w` with respect to `x` and `g`, with the cotangent of the residual stream added, on
  one device's 4096 tokens: each grid point takes 512 rows; the gain's gradient is one row that the eight points add up.
-/
module

public import proofs.«01_k».proof.Proof.Gen.ProjDxIdeal.Value
public import proofs.«01_k».proof.Proof.Gen.ProjDxRefIdeal.Run
public import proofs.«01_k».proof.Proof.Gen.ProjDxRefIdeal.Read
public import proofs.«01_k».proof.Defs
public import Idealize.ShloMosaic.Lib.Pointwise
public import Idealize.ShloMosaic.Lib.Pipeline.Value
public import proofs.«01_k».proof.Proof.Blocks
public import Idealize.ShloMosaic.Lib.Tactic

@[expose] public section

set_option maxRecDepth 16384

noncomputable section

namespace Cert.Hand.ProjDx

open Cert.ProjDxIdeal Cert.ProjDxIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

theorem hz : (![0, 0] : Fin 2 → Nat) = fun _ => 0 := funext fun a => by fin_cases a <;> rfl

/-! ## What a grid point leaves in its output blocks -/

theorem out_A_5 (c : Dev nD) (i : grid0.Coords) (a0 : Memref sig .tc .vmem S512x2048 .bf16) (h0 : a0.IsWhole) (a1 : Memref sig .tc .vmem S1024x2048 .bf16) (h1 : a1.IsWhole) (a2 : Memref sig .tc .vmem S512x1024 .f32) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S1x1024 .f32) (h6 : a6.IsWhole) (hc : cond0_0 i)
    (x0 : Vec Ideal S512x2048 .bf16) (x1 : Vec Ideal S1024x2048 .bf16) (x2 : Vec Ideal S512x1024 .f32) (x3 : Vec Ideal S512x1024 .f32) (x4 : Vec Ideal S1x1024 .f32) :
    out0_A_5 c i a0 h0 a1 h1 a2 h2 a3 h3 a4 h4 a5 h5 a6 h6 hc x0 x1 x2 x3 x4 = k0_pay1 x3 (k0_pay10 x0 x1 x2 x4) (k0_pay11 x0 x1 x2 x4) := by
  unfold out0_A_5
  rw [View.read_writes_eq_canon _ _ _ (cover0_A_5 c i a0 h0 a1 h1 a2 h2 a3 h3 a4 h4 a5 h5 a6 h6 hc x0 x1 x2 x3 x4)]
  unfold kernelRun0_A
  dsimp only
  sl_unfold_words
  rw [View.canon_unit_zero hz]
  simp only [View.readAt_eq_ld, h0.read_unread, h1.read_unread, h2.read_unread, h3.read_unread, h4.read_unread, View.ld_unit_zero (S := S1024x2048) hz, View.ld_unit_zero (S := S1x1024) hz, View.ld_unit_zero (S := S512x1024) hz, View.ld_unit_zero (S := S512x2048) hz]

theorem out_A_6 (c : Dev nD) (i : grid0.Coords) (a0 : Memref sig .tc .vmem S512x2048 .bf16) (h0 : a0.IsWhole) (a1 : Memref sig .tc .vmem S1024x2048 .bf16) (h1 : a1.IsWhole) (a2 : Memref sig .tc .vmem S512x1024 .f32) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S1x1024 .f32) (h6 : a6.IsWhole) (hc : cond0_0 i)
    (x0 : Vec Ideal S512x2048 .bf16) (x1 : Vec Ideal S1024x2048 .bf16) (x2 : Vec Ideal S512x1024 .f32) (x3 : Vec Ideal S512x1024 .f32) (x4 : Vec Ideal S1x1024 .f32) :
    out0_A_6 c i a0 h0 a1 h1 a2 h2 a3 h3 a4 h4 a5 h5 a6 h6 hc x0 x1 x2 x3 x4 = k0_pay3 (k0_pay7 x0 x1 x2) (k0_pay2 (F := Ideal)) := by
  unfold out0_A_6
  rw [View.read_writes_eq_canon _ _ _ (cover0_A_6 c i a0 h0 a1 h1 a2 h2 a3 h3 a4 h4 a5 h5 a6 h6 hc x0 x1 x2 x3 x4)]
  unfold kernelRun0_A
  dsimp only
  sl_unfold_words
  rw [View.canon_cons_unit_zero (S := S1x1024) hz, View.readCov_unit_zero (S := S1x1024) _ hz]
  simp only [View.readAt_eq_ld, h0.read_unread, h1.read_unread, h2.read_unread, h3.read_unread, h4.read_unread, View.ld_unit_zero (S := S1024x2048) hz, View.ld_unit_zero (S := S1x1024) hz, View.ld_unit_zero (S := S512x1024) hz, View.ld_unit_zero (S := S512x2048) hz]

theorem out_B_5 (c : Dev nD) (i : grid0.Coords) (a0 : Memref sig .tc .vmem S512x2048 .bf16) (h0 : a0.IsWhole) (a1 : Memref sig .tc .vmem S1024x2048 .bf16) (h1 : a1.IsWhole) (a2 : Memref sig .tc .vmem S512x1024 .f32) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S1x1024 .f32) (h6 : a6.IsWhole) (hc : ¬cond0_0 i)
    (x0 : Vec Ideal S512x2048 .bf16) (x1 : Vec Ideal S1024x2048 .bf16) (x2 : Vec Ideal S512x1024 .f32) (x3 : Vec Ideal S512x1024 .f32) (x4 : Vec Ideal S1x1024 .f32) (o6 : Vec Ideal S1x1024 .f32) :
    out0_B_5 c i a0 h0 a1 h1 a2 h2 a3 h3 a4 h4 a5 h5 a6 h6 hc x0 x1 x2 x3 x4 o6 = k0_pay1 x3 (k0_pay10 x0 x1 x2 x4) (k0_pay11 x0 x1 x2 x4) := by
  unfold out0_B_5
  rw [View.read_writes_eq_canon _ _ _ (cover0_B_5 c i a0 h0 a1 h1 a2 h2 a3 h3 a4 h4 a5 h5 a6 h6 hc x0 x1 x2 x3 x4 o6)]
  unfold kernelRun0_B
  dsimp only
  sl_unfold_words
  rw [View.canon_unit_zero hz]
  simp only [View.readAt_eq_ld, h0.read_unread, h1.read_unread, h2.read_unread, h3.read_unread, h4.read_unread, h6.read_unread, View.ld_unit_zero (S := S1024x2048) hz, View.ld_unit_zero (S := S1x1024) hz, View.ld_unit_zero (S := S512x1024) hz, View.ld_unit_zero (S := S512x2048) hz]

theorem out_B_6 (c : Dev nD) (i : grid0.Coords) (a0 : Memref sig .tc .vmem S512x2048 .bf16) (h0 : a0.IsWhole) (a1 : Memref sig .tc .vmem S1024x2048 .bf16) (h1 : a1.IsWhole) (a2 : Memref sig .tc .vmem S512x1024 .f32) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S1x1024 .f32) (h6 : a6.IsWhole) (hc : ¬cond0_0 i)
    (x0 : Vec Ideal S512x2048 .bf16) (x1 : Vec Ideal S1024x2048 .bf16) (x2 : Vec Ideal S512x1024 .f32) (x3 : Vec Ideal S512x1024 .f32) (x4 : Vec Ideal S1x1024 .f32) (o6 : Vec Ideal S1x1024 .f32) :
    out0_B_6 c i a0 h0 a1 h1 a2 h2 a3 h3 a4 h4 a5 h5 a6 h6 hc x0 x1 x2 x3 x4 o6 = k0_pay3 (k0_pay7 x0 x1 x2) o6 := by
  unfold out0_B_6
  rw [View.read_writes_eq_canon _ _ _ (cover0_B_6 c i a0 h0 a1 h1 a2 h2 a3 h3 a4 h4 a5 h5 a6 h6 hc x0 x1 x2 x3 x4 o6)]
  unfold kernelRun0_B
  dsimp only
  sl_unfold_words
  rw [View.canon_unit_zero hz]
  simp only [View.readAt_eq_ld, h0.read_unread, h1.read_unread, h2.read_unread, h3.read_unread, h4.read_unread, h6.read_unread, View.ld_unit_zero (S := S1024x2048) hz, View.ld_unit_zero (S := S1x1024) hz, View.ld_unit_zero (S := S512x1024) hz, View.ld_unit_zero (S := S512x2048) hz]

/-! ## What a grid point reads -/

/-- Grid point `t` takes rows `512 t` to `512 t + 511`; the rest stays in place. -/
theorem index_maps : ∀ t : Fin cfg0.N,
    win0_0.index t 0 = t.val
    ∧ win0_0.index t 1 = 0
    ∧ win0_1.index t 0 = 0
    ∧ win0_1.index t 1 = 0
    ∧ win0_2.index t 0 = t.val
    ∧ win0_2.index t 1 = 0
    ∧ win0_3.index t 0 = t.val
    ∧ win0_3.index t 1 = 0
    ∧ win0_4.index t 0 = 0
    ∧ win0_4.index t 1 = 0
    ∧ win0_5.index t 0 = t.val
    ∧ win0_5.index t 1 = 0
    ∧ win0_6.index t 0 = 0
    ∧ win0_6.index t 1 = 0 :=
  (by decide +kernel : ∀ t : Fin grid0.N, _)

/-- The argument arrays, and the blocks of them that grid point `t` reads. -/
abbrev A0 (c : Dev nD) : S4096x2048.Idx → EReal := m ((c : Thread nD τ).loc main_arg0)
abbrev A1 (c : Dev nD) : S1024x2048.Idx → EReal := m ((c : Thread nD τ).loc main_arg1)
abbrev A2 (c : Dev nD) : S4096x1024.Idx → EReal := m ((c : Thread nD τ).loc main_arg2)
abbrev A3 (c : Dev nD) : S4096x1024.Idx → EReal := m ((c : Thread nD τ).loc main_arg3)
abbrev A4 (c : Dev nD) : S1x1024.Idx → EReal := m ((c : Thread nD τ).loc main_arg4)
abbrev I0 (c : Dev nD) (t : Fin cfg0.N) : S512x2048.Idx → EReal := iblk m c 0 t
abbrev I1 (c : Dev nD) (t : Fin cfg0.N) : S1024x2048.Idx → EReal := iblk m c 1 t
abbrev I2 (c : Dev nD) (t : Fin cfg0.N) : S512x1024.Idx → EReal := iblk m c 2 t
abbrev I3 (c : Dev nD) (t : Fin cfg0.N) : S512x1024.Idx → EReal := iblk m c 3 t
abbrev I4 (c : Dev nD) (t : Fin cfg0.N) : S1x1024.Idx → EReal := iblk m c 4 t

theorem in0_at (c : Dev nD) (t : Fin cfg0.N) (r : Fin 512) (k : Fin 2048) (h : t.val * 512 + r.val < 4096) :
    I0 m c t (ix2 r k) = A0 m c (ix2 ⟨t.val * 512 + r.val, h⟩ k) := by
  have hi := index_maps t
  show m ((c : Thread nD τ).loc main_arg0) ((win0_0.rect t).emb (ix2 r k)) = _
  exact congrArg _ (Shape.idx_ext₂ ((win0_0.rect_emb_val t (ix2 r k) 0).trans (by rw [hi.1]; rfl))
    ((win0_0.rect_emb_val t (ix2 r k) 1).trans (by rw [hi.2.1]; simp)))

theorem in1_at (c : Dev nD) (t : Fin cfg0.N) (r : Fin 1024) (k : Fin 2048) :
    I1 m c t (ix2 r k) = A1 m c (ix2 r k) := by
  have hi := index_maps t
  show m ((c : Thread nD τ).loc main_arg1) ((win0_1.rect t).emb (ix2 r k)) = _
  exact congrArg _ (Shape.idx_ext₂ ((win0_1.rect_emb_val t (ix2 r k) 0).trans (by rw [hi.2.2.1]; simp))
    ((win0_1.rect_emb_val t (ix2 r k) 1).trans (by rw [hi.2.2.2.1]; simp)))

theorem in2_at (c : Dev nD) (t : Fin cfg0.N) (r : Fin 512) (k : Fin 1024) (h : t.val * 512 + r.val < 4096) :
    I2 m c t (ix2 r k) = A2 m c (ix2 ⟨t.val * 512 + r.val, h⟩ k) := by
  have hi := index_maps t
  show m ((c : Thread nD τ).loc main_arg2) ((win0_2.rect t).emb (ix2 r k)) = _
  exact congrArg _ (Shape.idx_ext₂ ((win0_2.rect_emb_val t (ix2 r k) 0).trans (by rw [hi.2.2.2.2.1]; rfl))
    ((win0_2.rect_emb_val t (ix2 r k) 1).trans (by rw [hi.2.2.2.2.2.1]; simp)))

theorem in3_at (c : Dev nD) (t : Fin cfg0.N) (r : Fin 512) (k : Fin 1024) (h : t.val * 512 + r.val < 4096) :
    I3 m c t (ix2 r k) = A3 m c (ix2 ⟨t.val * 512 + r.val, h⟩ k) := by
  have hi := index_maps t
  show m ((c : Thread nD τ).loc main_arg3) ((win0_3.rect t).emb (ix2 r k)) = _
  exact congrArg _ (Shape.idx_ext₂ ((win0_3.rect_emb_val t (ix2 r k) 0).trans (by rw [hi.2.2.2.2.2.2.1]; rfl))
    ((win0_3.rect_emb_val t (ix2 r k) 1).trans (by rw [hi.2.2.2.2.2.2.2.1]; simp)))

theorem in4_at (c : Dev nD) (t : Fin cfg0.N) (r : Fin 1) (k : Fin 1024) :
    I4 m c t (ix2 r k) = A4 m c (ix2 r k) := by
  have hi := index_maps t
  show m ((c : Thread nD τ).loc main_arg4) ((win0_4.rect t).emb (ix2 r k)) = _
  exact congrArg _ (Shape.idx_ext₂ ((win0_4.rect_emb_val t (ix2 r k) 0).trans (by rw [hi.2.2.2.2.2.2.2.2.1]; simp))
    ((win0_4.rect_emb_val t (ix2 r k) 1).trans (by rw [hi.2.2.2.2.2.2.2.2.2.1]; simp)))

/-! ## A block of each result and the reference's array -/

theorem same5 (x0 : Vec Ideal S512x2048 .bf16) (x1 : Vec Ideal S1024x2048 .bf16) (x2 : Vec Ideal S512x1024 .f32) (x3 : Vec Ideal S512x1024 .f32) (x4 : Vec Ideal S1x1024 .f32)
    (X0 : Vec Ideal S4096x2048 .bf16) (X1 : Vec Ideal S1024x2048 .bf16) (X2 : Vec Ideal S4096x1024 .f32) (X3 : Vec Ideal S4096x1024 .f32) (X4 : Vec Ideal S1x1024 .f32)
    (r : Fin 512) (s : Fin 1024) (R : Fin 4096)
    (h0 : ∀ l : Fin 2048, x0 (ix2 r l) = X0 (ix2 R l))
    (h1 : ∀ (k : Fin 1024) (l : Fin 2048), x1 (ix2 k l) = X1 (ix2 k l))
    (h2 : ∀ l : Fin 1024, x2 (ix2 r l) = X2 (ix2 R l))
    (h3 : ∀ l : Fin 1024, x3 (ix2 r l) = X3 (ix2 R l))
    (h4 : ∀ (k : Fin 1) (l : Fin 1024), x4 (ix2 k l) = X4 (ix2 k l)) :
    k0_pay1 x3 (k0_pay10 x0 x1 x2 x4) (k0_pay11 x0 x1 x2 x4) (ix2 r s)
      = Cert.ProjDxRefIdeal.Read.val_main_v38 (F := Ideal) X0 X1 X2 X3 X4 (ix2 R s) := by
  unfold_payloads
  pointwise [Cert.ProjDxRefIdeal.Read.val_main_v0, Cert.ProjDxRefIdeal.Read.val_main_v1, Cert.ProjDxRefIdeal.Read.val_main_cst, Cert.ProjDxRefIdeal.Read.val_main_v2, Cert.ProjDxRefIdeal.Read.val_main_v3, Cert.ProjDxRefIdeal.Read.val_main_cst_0, Cert.ProjDxRefIdeal.Read.val_main_v4, Cert.ProjDxRefIdeal.Read.val_main_v5, Cert.ProjDxRefIdeal.Read.val_main_cst_1, Cert.ProjDxRefIdeal.Read.val_main_v6, Cert.ProjDxRefIdeal.Read.val_main_v7, Cert.ProjDxRefIdeal.Read.val_main_v8, Cert.ProjDxRefIdeal.Read.val_main_v9, Cert.ProjDxRefIdeal.Read.val_main_cst_2, Cert.ProjDxRefIdeal.Read.val_main_v10, Cert.ProjDxRefIdeal.Read.val_main_v11, Cert.ProjDxRefIdeal.Read.val_main_v12, Cert.ProjDxRefIdeal.Read.val_main_v13, Cert.ProjDxRefIdeal.Read.val_main_v14, Cert.ProjDxRefIdeal.Read.val_main_v15, Cert.ProjDxRefIdeal.Read.val_main_v16, Cert.ProjDxRefIdeal.Read.val_main_v17, Cert.ProjDxRefIdeal.Read.val_main_v18, Cert.ProjDxRefIdeal.Read.val_main_v19, Cert.ProjDxRefIdeal.Read.val_main_cst_3, Cert.ProjDxRefIdeal.Read.val_main_v20, Cert.ProjDxRefIdeal.Read.val_main_v21, Cert.ProjDxRefIdeal.Read.val_main_v22, Cert.ProjDxRefIdeal.Read.val_main_v23, Cert.ProjDxRefIdeal.Read.val_main_v24, Cert.ProjDxRefIdeal.Read.val_main_cst_4, Cert.ProjDxRefIdeal.Read.val_main_v25, Cert.ProjDxRefIdeal.Read.val_main_v26, Cert.ProjDxRefIdeal.Read.val_main_v27, Cert.ProjDxRefIdeal.Read.val_main_v28, Cert.ProjDxRefIdeal.Read.val_main_v29, Cert.ProjDxRefIdeal.Read.val_main_v30, Cert.ProjDxRefIdeal.Read.val_main_cst_5, Cert.ProjDxRefIdeal.Read.val_main_v31, Cert.ProjDxRefIdeal.Read.val_main_v32, Cert.ProjDxRefIdeal.Read.val_main_cst_6, Cert.ProjDxRefIdeal.Read.val_main_v33, Cert.ProjDxRefIdeal.Read.val_main_v34, Cert.ProjDxRefIdeal.Read.val_main_v35, Cert.ProjDxRefIdeal.Read.val_main_v36, Cert.ProjDxRefIdeal.Read.val_main_v37, Cert.ProjDxRefIdeal.Read.val_main_v38]
  simp only [h0, h1, h2, h3, h4, add_assoc]

/-- The result array as a function of the argument arrays: the reference's own term. -/
def G5 (c : Dev nD) : S4096x1024.Idx → EReal :=
  Cert.ProjDxRefIdeal.Read.val_main_v38 (F := Ideal) (A0 m c) (A1 m c) (A2 m c) (A3 m c) (A4 m c)

theorem flushed5_eq (c : Dev nD) (t : Fin cfg0.N) :
    (dats m 0 c).flushed 5 t = ((cfg0.win 5).blk t).view.read (Elt Ideal) (G5 m c) := by
  have ht : t.val < 8 := Nat.lt_of_lt_of_eq t.isLt N_0
  have hi := index_maps t
  funext y
  obtain ⟨r, s, rfl⟩ : ∃ (r : Fin 512) (s : Fin 1024), y = ix2 r s := ⟨y 0, y 1, eq_ix2 y⟩
  have hb : (dats m 0 c).flushed 5 t (ix2 r s)
      = k0_pay1 (iblk m c 3 t) (k0_pay10 (iblk m c 0 t) (iblk m c 1 t) (iblk m c 2 t) (iblk m c 4 t)) (k0_pay11 (iblk m c 0 t) (iblk m c 1 t) (iblk m c 2 t) (iblk m c 4 t)) (ix2 r s) := by
    by_cases h : t.val % 8 = 0
    · rw [Value.flushed5_A m c t h, out_A_5]; rfl
    · rw [Value.flushed5_B m c t h, out_B_5]; rfl
  show _ = G5 m c ((win0_5.rect t).emb (ix2 r s))
  have e : ((win0_5.rect t).emb (ix2 r s) : S4096x1024.Idx) = ix2 ⟨t.val * 512 + r.val, by omega⟩ s :=
    Shape.idx_ext₂ ((win0_5.rect_emb_val t (ix2 r s) 0).trans (by rw [hi.2.2.2.2.2.2.2.2.2.2.1]; rfl))
      ((win0_5.rect_emb_val t (ix2 r s) 1).trans (by rw [hi.2.2.2.2.2.2.2.2.2.2.2.1]; simp))
  rw [hb, e]
  exact same5 _ _ _ _ _ _ _ _ _ _ r s _ (fun l => in0_at m c t r l (by omega)) (fun k l => in1_at m c t k l) (fun l => in2_at m c t r l (by omega)) (fun l => in3_at m c t r l (by omega)) (fun k l => in4_at m c t k l)

theorem covered5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  obtain ⟨t, ht⟩ : ∃ t : Fin cfg0.N, t.val = (i 0).val / 512 := ⟨⟨(i 0).val / 512, Nat.lt_of_lt_of_eq (by omega) N_0.symm⟩, rfl⟩
  have hi := index_maps t
  refine ⟨t, flush0_5 t, ?_⟩
  show i ∈ ((View.whole main_v0_0).slice (win0_5.rect t)).set
  rw [View.set_slice_whole, Rect.mem_set_unit]
  intro a
  match a with
  | ⟨0, _⟩ => show win0_5.index t 0 * 512 ≤ (i 0).val ∧ (i 0).val < win0_5.index t 0 * 512 + 512
              rw [hi.2.2.2.2.2.2.2.2.2.2.1]; omega
  | ⟨1, _⟩ => show win0_5.index t 1 * 1024 ≤ (i 1).val ∧ (i 1).val < win0_5.index t 1 * 1024 + 1024
              rw [hi.2.2.2.2.2.2.2.2.2.2.2.1]; omega

/-- After the run the result array is `G5`. -/
theorem final5 (c : Dev nD) : (dats m 0 c).arrAt 5 cfg0.N = G5 m c :=
  (dats m 0 c).arrAt_eq_of_cover 5 (G5 m c) (fun t _ => flushed5_eq m c t) covered5

/-! ## The row that the grid points add up: window 6 -/

theorem zero6_at (s : Fin 1024) : k0_pay2 (F := Ideal) (ix2 0 s) = 0 := by
  pointwise [k0_pay2]

theorem step6_at (v o : Vec Ideal S1x1024 .f32) (s : Fin 1024) : k0_pay3 v o (ix2 0 s) = o (ix2 0 s) + v (ix2 0 s) := by
  pointwise [k0_pay3]

/-- The reference's sum over all rows is the sum of the points' sums over their own rows. -/
theorem split6 (x0 : Fin 8 → S512x2048.Idx → EReal) (x1 : Fin 8 → S1024x2048.Idx → EReal) (x2 : Fin 8 → S512x1024.Idx → EReal)
    (X0 : Vec Ideal S4096x2048 .bf16) (X1 : Vec Ideal S1024x2048 .bf16) (X2 : Vec Ideal S4096x1024 .f32)
    (h0 : ∀ (t : Fin 8) (r : Fin 512) (l : Fin 2048), x0 t (ix2 r l) = X0 (ix2 ⟨t.val * 512 + r.val, by omega⟩ l))
    (h1 : ∀ (t : Fin 8) (k : Fin 1024) (l : Fin 2048), x1 t (ix2 k l) = X1 (ix2 k l))
    (h2 : ∀ (t : Fin 8) (r : Fin 512) (l : Fin 1024), x2 t (ix2 r l) = X2 (ix2 ⟨t.val * 512 + r.val, by omega⟩ l)) (s : Fin 1024) :
    Cert.ProjDxRefIdeal.Read.val_main_v21 (F := Ideal) X0 X1 X2 (ix2 0 s)
      = ∑ t : Fin 8, k0_pay7 (F := Ideal) (x0 t) (x1 t) (x2 t) (ix2 0 s) := by
  unfold_payloads
  pointwise [Cert.ProjDxRefIdeal.Read.val_main_v0, Cert.ProjDxRefIdeal.Read.val_main_v1, Cert.ProjDxRefIdeal.Read.val_main_cst, Cert.ProjDxRefIdeal.Read.val_main_v2, Cert.ProjDxRefIdeal.Read.val_main_v3, Cert.ProjDxRefIdeal.Read.val_main_cst_0, Cert.ProjDxRefIdeal.Read.val_main_v4, Cert.ProjDxRefIdeal.Read.val_main_v5, Cert.ProjDxRefIdeal.Read.val_main_cst_1, Cert.ProjDxRefIdeal.Read.val_main_v6, Cert.ProjDxRefIdeal.Read.val_main_v7, Cert.ProjDxRefIdeal.Read.val_main_v8, Cert.ProjDxRefIdeal.Read.val_main_v9, Cert.ProjDxRefIdeal.Read.val_main_cst_2, Cert.ProjDxRefIdeal.Read.val_main_v10, Cert.ProjDxRefIdeal.Read.val_main_v11, Cert.ProjDxRefIdeal.Read.val_main_v12, Cert.ProjDxRefIdeal.Read.val_main_v13, Cert.ProjDxRefIdeal.Read.val_main_v14, Cert.ProjDxRefIdeal.Read.val_main_v15, Cert.ProjDxRefIdeal.Read.val_main_v16, Cert.ProjDxRefIdeal.Read.val_main_v17, Cert.ProjDxRefIdeal.Read.val_main_v18, Cert.ProjDxRefIdeal.Read.val_main_v19, Cert.ProjDxRefIdeal.Read.val_main_cst_3, Cert.ProjDxRefIdeal.Read.val_main_v20, Cert.ProjDxRefIdeal.Read.val_main_v21, Cert.ProjDxRefIdeal.Read.val_main_v22, Cert.ProjDxRefIdeal.Read.val_main_v23, Cert.ProjDxRefIdeal.Read.val_main_v24, Cert.ProjDxRefIdeal.Read.val_main_cst_4, Cert.ProjDxRefIdeal.Read.val_main_v25, Cert.ProjDxRefIdeal.Read.val_main_v26, Cert.ProjDxRefIdeal.Read.val_main_v27, Cert.ProjDxRefIdeal.Read.val_main_v28, Cert.ProjDxRefIdeal.Read.val_main_v29, Cert.ProjDxRefIdeal.Read.val_main_v30, Cert.ProjDxRefIdeal.Read.val_main_cst_5, Cert.ProjDxRefIdeal.Read.val_main_v31, Cert.ProjDxRefIdeal.Read.val_main_v32, Cert.ProjDxRefIdeal.Read.val_main_cst_6, Cert.ProjDxRefIdeal.Read.val_main_v33, Cert.ProjDxRefIdeal.Read.val_main_v34, Cert.ProjDxRefIdeal.Read.val_main_v35, Cert.ProjDxRefIdeal.Read.val_main_v36, Cert.ProjDxRefIdeal.Read.val_main_v37, Cert.ProjDxRefIdeal.Read.val_main_v38]
  rw [Blocks.sum_rows]
  refine Finset.sum_congr rfl fun t _ => ?_
  pointwise
  simp only [h0, h1, h2]

def G6 (c : Dev nD) : S1x1024.Idx → EReal :=
  Cert.ProjDxRefIdeal.Read.val_main_v21 (F := Ideal) (A0 m c) (A1 m c) (A2 m c)

/-- Point `n`'s part of the sum at entry `s`; nothing past the last point. -/
def term6 (c : Dev nD) (s : Fin 1024) (n : ℕ) : EReal :=
  if h : n < cfg0.N then k0_pay7 (iblk m c 0 ⟨n, h⟩) (iblk m c 1 ⟨n, h⟩) (iblk m c 2 ⟨n, h⟩) (ix2 0 s) else 0

/-- After point `n` the block holds the parts so far. -/
theorem acc6_at (c : Dev nD) (s : Fin 1024) : ∀ (n : ℕ) (h : n < cfg0.N),
    (outsAt0 m c n h).2 (ix2 0 s) = ∑ i ∈ Finset.range (n + 1), term6 m c s i
  | 0, h => by
    have e := outsAt0_A m c ⟨0, h⟩ rfl
    dsimp only at e ⊢
    rw [e]
    dsimp only
    rw [out_A_6, step6_at, zero6_at, zero_add, Finset.sum_range_one, term6, dif_pos h]
  | n + 1, h => by
    have hN : cfg0.N = 8 := N_0
    have e := outsAt0_B m c ⟨n + 1, h⟩ (by dsimp only; omega)
    dsimp only at e ⊢
    rw [e]
    dsimp only
    rw [out_B_6, step6_at, Finset.sum_range_succ, ← acc6_at c s n (Nat.lt_of_succ_lt h), term6, dif_pos h]
    rfl

/-- All the points: the reference's sum. -/
theorem term6_sum (c : Dev nD) (s : Fin 1024) : (∑ i ∈ Finset.range 8, term6 m c s i) = G6 m c (ix2 0 s) := by
  have hN : cfg0.N = 8 := N_0
  rw [G6, split6 (fun t => I0 m c ⟨t.val, Nat.lt_of_lt_of_eq t.isLt hN.symm⟩) (fun t => I1 m c ⟨t.val, Nat.lt_of_lt_of_eq t.isLt hN.symm⟩) (fun t => I2 m c ⟨t.val, Nat.lt_of_lt_of_eq t.isLt hN.symm⟩) _ _ _ (fun t r l => in0_at m c _ r l (by omega)) (fun t k l => in1_at m c _ k l) (fun t r l => in2_at m c _ r l (by omega)), Finset.sum_range]
  exact Finset.sum_congr rfl fun t _ => by rw [term6, dif_pos (Nat.lt_of_lt_of_eq t.isLt hN.symm)]

/-- The one point that writes the row back writes the whole of it. -/
theorem flushed6_eq (c : Dev nD) (t : Fin cfg0.N) (hf : (cfg0.win 6).flush t = true) :
    (dats m 0 c).flushed 6 t = ((cfg0.win 6).blk t).view.read (Elt Ideal) (G6 m c) := by
  have ht : t.val < 8 := Nat.lt_of_lt_of_eq t.isLt N_0
  have h7 : t.val = 7 := by have := (flush0_6 t).mp hf; omega
  have hi := index_maps t
  funext y
  obtain ⟨s, rfl⟩ : ∃ s : Fin 1024, y = ix2 0 s := Blocks.row_idx y
  rw [Value.flushed6]
  show (outsAt0 m c t.val t.isLt).2 (ix2 0 s) = G6 m c ((win0_6.rect t).emb (ix2 0 s))
  have e : ((win0_6.rect t).emb (ix2 0 s) : S1x1024.Idx) = ix2 0 s :=
    Shape.idx_ext₂ ((win0_6.rect_emb_val t (ix2 0 s) 0).trans (by rw [hi.2.2.2.2.2.2.2.2.2.2.2.2.1]; simp))
      ((win0_6.rect_emb_val t (ix2 0 s) 1).trans (by rw [hi.2.2.2.2.2.2.2.2.2.2.2.2.2]; simp))
  rw [e, acc6_at, ← term6_sum, h7]

theorem covered6 (i : S1x1024.Idx) : ∃ t : Fin cfg0.N, (cfg0.win 6).flush t = true ∧ i ∈ ((cfg0.win 6).blk t).view.set := by
  have h0 : (i 0).val < 1 := (i 0).isLt
  have h1 : (i 1).val < 1024 := (i 1).isLt
  obtain ⟨t, ht⟩ : ∃ t : Fin cfg0.N, t.val = 7 := ⟨⟨7, Nat.lt_of_lt_of_eq (by omega) N_0.symm⟩, rfl⟩
  have hi := index_maps t
  refine ⟨t, (flush0_6 t).mpr (by omega), ?_⟩
  show i ∈ ((View.whole main_v0_1).slice (win0_6.rect t)).set
  rw [View.set_slice_whole, Rect.mem_set_unit]
  intro a
  match a with
  | ⟨0, _⟩ => show win0_6.index t 0 * 1 ≤ (i 0).val ∧ (i 0).val < win0_6.index t 0 * 1 + 1
              rw [hi.2.2.2.2.2.2.2.2.2.2.2.2.1]; omega
  | ⟨1, _⟩ => show win0_6.index t 1 * 1024 ≤ (i 1).val ∧ (i 1).val < win0_6.index t 1 * 1024 + 1024
              rw [hi.2.2.2.2.2.2.2.2.2.2.2.2.2]; omega

theorem final6 (c : Dev nD) : (dats m 0 c).arrAt 6 cfg0.N = G6 m c :=
  (dats m 0 c).arrAt_eq_of_cover 6 (G6 m c) (flushed6_eq m c) covered6

/-- The kernel and the reference leave equal results. -/
theorem algebraic : Cert.algebraic_ProjDxIdeal_ProjDxRefIdeal := fun m g m' g' _ hagree =>
  ⟨fun c => G5 m c, fun c => G6 m c,
    (θ_run _ _ _).mono (fun r h c => ⟨(h c).1.trans (final5 m c), (h c).2.1.trans (final6 m c), (h c).2.2⟩)
      (Value.run_blocks (F := Ideal) m g),
    (θ_run _ _ _).mono (fun r h c => by
        obtain ⟨e0, e1, e2, e3, e4⟩ := hagree c
        refine ⟨(h c).1.trans ?_, (h c).2.1.trans ?_, (h c).2.2⟩
        · rw [Cert.ProjDxRefIdeal.Read.val_main_v38_eq, e0, e1, e2, e3, e4]; rfl
        · rw [e0, e1, e2]; rfl)
      (Cert.ProjDxRefIdeal.Value.run (F := Ideal) m' g')⟩

end Cert.Hand.ProjDx

end
-- ==== Proof.ProjDw.lean ====
/-
  The gradient of the product `xn · w` with respect to `w`, on one device's 4096 tokens: `xnᵀ · d`, in eight blocks of
  256 columns stacked along a leading axis, kept in full and rounded.
-/
module

public import proofs.«01_k».proof.Proof.Gen.ProjDwIdeal.Value
public import proofs.«01_k».proof.Proof.Gen.ProjDwRefIdeal.Run
public import proofs.«01_k».proof.Proof.Gen.ProjDwRefIdeal.Read
public import proofs.«01_k».proof.Defs
public import Idealize.ShloMosaic.Lib.Pointwise
public import Idealize.ShloMosaic.Lib.Pipeline.Value

@[expose] public section

set_option maxRecDepth 16384

noncomputable section

namespace Cert.Hand.ProjDw

open Cert.ProjDwIdeal Cert.ProjDwIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- Grid point `t` holds column block `t` of the gradient, for both results. -/
theorem index_maps : ∀ t : Fin cfg0.N,
    win0_0.index t 0 = 0 ∧ win0_0.index t 1 = 0
    ∧ win0_1.index t 0 = 0 ∧ win0_1.index t 1 = t.val
    ∧ (win0_2.index t 0 = t.val ∧ win0_2.index t 1 = 0 ∧ win0_2.index t 2 = 0)
    ∧ (win0_3.index t 0 = t.val ∧ win0_3.index t 1 = 0 ∧ win0_3.index t 2 = 0)
    ∧ (cfg0.win 2).flush t = true ∧ (cfg0.win 3).flush t = true :=
  (by decide +kernel : ∀ t : Fin grid0.N, _)

/-- An index of a block has leading coordinate zero. -/
theorem block_idx (y : S1x1024x256.Idx) : ∃ (r : Fin 1024) (s : Fin 256), y = ix3 0 r s :=
  ⟨y 1, y 2, (eq_ix3 y).trans (congrArg (fun a => ix3 a (y 1) (y 2)) (Subsingleton.elim (α := Fin 1) _ _))⟩

/-- What the body leaves in the full-precision block. -/
theorem body_at (x0 : Vec Ideal S4096x1024 .bf16) (x1 : Vec Ideal S4096x256 .bf16) (r : Fin 1024) (s : Fin 256) :
    out0_2 (F := Ideal) x0 x1 (ix3 0 r s) = ∑ k : Fin 4096, x0 (ix2 k r) * x1 (ix2 k s) := by
  unfold out0_2
  rw [View.canon_unit_zero (by decide), View.ld_unit_zero (S := S4096x1024) (by decide),
    View.ld_unit_zero (S := S4096x256) (by decide)]
  pointwise [k0_pay2, k0_pay1]

/-- What the body leaves in the rounded block: at exact values, the same. -/
theorem body_rounded_at (x0 : Vec Ideal S4096x1024 .bf16) (x1 : Vec Ideal S4096x256 .bf16) (r : Fin 1024) (s : Fin 256) :
    out0_3 (F := Ideal) x0 x1 (ix3 0 r s) = ∑ k : Fin 4096, x0 (ix2 k r) * x1 (ix2 k s) := by
  unfold out0_3
  rw [View.canon_unit_zero (by decide), View.ld_unit_zero (S := S4096x1024) (by decide),
    View.ld_unit_zero (S := S4096x256) (by decide)]
  pointwise [k0_pay3, k0_pay1]

/-- The reference's gradient at an element of column block `b`. -/
theorem ref_at (x0 : Vec Ideal S4096x1024 .bf16) (x1 : Vec Ideal S4096x2048 .bf16) (b : Fin 8) (r : Fin 1024) (s : Fin 256) :
    Cert.ProjDwRefIdeal.Read.val_main_v7 (F := Ideal) x0 x1 (ix3 b r s)
      = ∑ k : Fin 4096, x0 (ix2 k r) * x1 (ix2 k ⟨b.val * 256 + s.val, by omega⟩) := by
  rw [← Cert.ProjDwRefIdeal.Read.val_main_v7_eq]
  pointwise
  exact Finset.sum_congr rfl fun k _ => mul_comm _ _

/-- The result array as a function of the argument arrays: the reference's own term. -/
def G (c : Dev nD) : S8x1024x256.Idx → EReal :=
  Cert.ProjDwRefIdeal.Read.val_main_v7 (F := Ideal) (m ((c : Thread nD τ).loc main_arg0)) (m ((c : Thread nD τ).loc main_arg1))

/-- Every point reads all of the normalised input, -/
theorem lhs_at (c : Dev nD) (t : Fin cfg0.N) (k : Fin 4096) (r : Fin 1024) :
    iblk m c 0 t (ix2 k r) = m ((c : Thread nD τ).loc main_arg0) (ix2 k r) := by
  obtain ⟨h00, h01, -⟩ := index_maps t
  show m ((c : Thread nD τ).loc main_arg0) ((win0_0.rect t).emb (ix2 k r)) = _
  exact congrArg _ (Shape.idx_ext₂ ((win0_0.rect_emb_val t (ix2 k r) 0).trans (by rw [h00]; simp))
    ((win0_0.rect_emb_val t (ix2 k r) 1).trans (by rw [h01]; simp)))

/-- and its own column block of the cotangent. -/
theorem rhs_at (c : Dev nD) (t : Fin cfg0.N) (k : Fin 4096) (s : Fin 256) (h : t.val * 256 + s.val < 2048) :
    iblk m c 1 t (ix2 k s) = m ((c : Thread nD τ).loc main_arg1) (ix2 k ⟨t.val * 256 + s.val, h⟩) := by
  obtain ⟨-, -, h10, h11, -⟩ := index_maps t
  show m ((c : Thread nD τ).loc main_arg1) ((win0_1.rect t).emb (ix2 k s)) = _
  exact congrArg _ (Shape.idx_ext₂ ((win0_1.rect_emb_val t (ix2 k s) 0).trans (by rw [h10]; simp))
    ((win0_1.rect_emb_val t (ix2 k s) 1).trans (by rw [h11]; rfl)))

/-- What a grid point writes back to the full-precision result is its block of `G`. -/
theorem flushed_eq (c : Dev nD) (t : Fin cfg0.N) :
    (dats m 0 c).flushed 2 t = ((cfg0.win 2).blk t).view.read (Elt Ideal) (G m c) := by
  obtain ⟨-, -, -, -, ⟨h0, h1, h2⟩, -⟩ := index_maps t
  have ht : t.val < 8 := Nat.lt_of_lt_of_eq t.isLt N_0
  rw [Value.flushed2]
  funext y
  obtain ⟨r, s, rfl⟩ := block_idx y
  show out0_2 (iblk m c 0 t) (iblk m c 1 t) (ix3 0 r s) = G m c ((win0_2.rect t).emb (ix3 0 r s))
  have e : ((win0_2.rect t).emb (ix3 0 r s) : S8x1024x256.Idx) = ix3 ⟨t.val, ht⟩ r s := by
    funext a
    match a with
    | ⟨0, _⟩ => exact Fin.ext ((win0_2.rect_emb_val t (ix3 0 r s) 0).trans (by rw [h0]; simp))
    | ⟨1, _⟩ => exact Fin.ext ((win0_2.rect_emb_val t (ix3 0 r s) 1).trans (by rw [h1]; simp))
    | ⟨2, _⟩ => exact Fin.ext ((win0_2.rect_emb_val t (ix3 0 r s) 2).trans (by rw [h2]; simp))
  rw [e, G, ref_at, body_at]
  simp only [lhs_at m c t, rhs_at m c t _ s (by omega)]

/-- And to the rounded result, likewise. -/
theorem flushed_rounded_eq (c : Dev nD) (t : Fin cfg0.N) :
    (dats m 0 c).flushed 3 t = ((cfg0.win 3).blk t).view.read (Elt Ideal) (G m c) := by
  obtain ⟨-, -, -, -, -, ⟨h0, h1, h2⟩, -⟩ := index_maps t
  have ht : t.val < 8 := Nat.lt_of_lt_of_eq t.isLt N_0
  rw [Value.flushed3]
  funext y
  obtain ⟨r, s, rfl⟩ := block_idx y
  show out0_3 (iblk m c 0 t) (iblk m c 1 t) (ix3 0 r s) = G m c ((win0_3.rect t).emb (ix3 0 r s))
  have e : ((win0_3.rect t).emb (ix3 0 r s) : S8x1024x256.Idx) = ix3 ⟨t.val, ht⟩ r s := by
    funext a
    match a with
    | ⟨0, _⟩ => exact Fin.ext ((win0_3.rect_emb_val t (ix3 0 r s) 0).trans (by rw [h0]; simp))
    | ⟨1, _⟩ => exact Fin.ext ((win0_3.rect_emb_val t (ix3 0 r s) 1).trans (by rw [h1]; simp))
    | ⟨2, _⟩ => exact Fin.ext ((win0_3.rect_emb_val t (ix3 0 r s) 2).trans (by rw [h2]; simp))
  rw [e, G, ref_at, body_rounded_at]
  simp only [lhs_at m c t, rhs_at m c t _ s (by omega)]

/-- Every element of the full-precision result lies in a block that is written back, -/
theorem covered (i : S8x1024x256.Idx) : ∃ t : Fin cfg0.N, (cfg0.win 2).flush t = true ∧ i ∈ ((cfg0.win 2).blk t).view.set := by
  have h0 : (i 0).val < 8 := (i 0).isLt
  have h1 : (i 1).val < 1024 := (i 1).isLt
  have h2 : (i 2).val < 256 := (i 2).isLt
  obtain ⟨t, ht⟩ : ∃ t : Fin cfg0.N, t.val = (i 0).val := ⟨⟨(i 0).val, Nat.lt_of_lt_of_eq h0 N_0.symm⟩, rfl⟩
  obtain ⟨-, -, -, -, ⟨e0, e1, e2⟩, -, hf, -⟩ := index_maps t
  refine ⟨t, hf, ?_⟩
  show i ∈ ((View.whole main_v0_0).slice (win0_2.rect t)).set
  rw [View.set_slice_whole, Rect.mem_set_unit]
  intro a
  match a with
  | ⟨0, _⟩ => show win0_2.index t 0 * 1 ≤ (i 0).val ∧ (i 0).val < win0_2.index t 0 * 1 + 1
              rw [e0]; omega
  | ⟨1, _⟩ => show win0_2.index t 1 * 1024 ≤ (i 1).val ∧ (i 1).val < win0_2.index t 1 * 1024 + 1024
              rw [e1]; omega
  | ⟨2, _⟩ => show win0_2.index t 2 * 256 ≤ (i 2).val ∧ (i 2).val < win0_2.index t 2 * 256 + 256
              rw [e2]; omega

/-- and of the rounded one. -/
theorem covered_rounded (i : S8x1024x256.Idx) : ∃ t : Fin cfg0.N, (cfg0.win 3).flush t = true ∧ i ∈ ((cfg0.win 3).blk t).view.set := by
  have h0 : (i 0).val < 8 := (i 0).isLt
  have h1 : (i 1).val < 1024 := (i 1).isLt
  have h2 : (i 2).val < 256 := (i 2).isLt
  obtain ⟨t, ht⟩ : ∃ t : Fin cfg0.N, t.val = (i 0).val := ⟨⟨(i 0).val, Nat.lt_of_lt_of_eq h0 N_0.symm⟩, rfl⟩
  obtain ⟨-, -, -, -, -, ⟨e0, e1, e2⟩, -, hf⟩ := index_maps t
  refine ⟨t, hf, ?_⟩
  show i ∈ ((View.whole main_v0_1).slice (win0_3.rect t)).set
  rw [View.set_slice_whole, Rect.mem_set_unit]
  intro a
  match a with
  | ⟨0, _⟩ => show win0_3.index t 0 * 1 ≤ (i 0).val ∧ (i 0).val < win0_3.index t 0 * 1 + 1
              rw [e0]; omega
  | ⟨1, _⟩ => show win0_3.index t 1 * 1024 ≤ (i 1).val ∧ (i 1).val < win0_3.index t 1 * 1024 + 1024
              rw [e1]; omega
  | ⟨2, _⟩ => show win0_3.index t 2 * 256 ≤ (i 2).val ∧ (i 2).val < win0_3.index t 2 * 256 + 256
              rw [e2]; omega

/-- After the run both of the kernel's result arrays are `G`. -/
theorem final (c : Dev nD) : (dats m 0 c).arrAt 2 cfg0.N = G m c :=
  (dats m 0 c).arrAt_eq_of_cover 2 (G m c) (fun t _ => flushed_eq m c t) covered
theorem final_rounded (c : Dev nD) : (dats m 0 c).arrAt 3 cfg0.N = G m c :=
  (dats m 0 c).arrAt_eq_of_cover 3 (G m c) (fun t _ => flushed_rounded_eq m c t) covered_rounded

/-- The kernel and the reference leave equal results. -/
theorem algebraic : Cert.algebraic_ProjDwIdeal_ProjDwRefIdeal := fun m g m' g' _ hagree =>
  ⟨fun c => G m c, fun c => G m c,
    (θ_run _ _ _).mono (fun r h c => ⟨(h c).1.trans (final m c), (h c).2.1.trans (final_rounded m c), (h c).2.2⟩)
      (Value.run_blocks (F := Ideal) m g),
    (θ_run _ _ _).mono (fun r h c => ⟨(h c).1.trans (by rw [(hagree c).1, (hagree c).2]; rfl),
        (h c).2.1.trans (by rw [(hagree c).1, (hagree c).2]; rfl), (h c).2.2⟩)
      (Cert.ProjDwRefIdeal.Value.run (F := Ideal) m' g')⟩

end Cert.Hand.ProjDw

end
-- ==== Proof.OutProjDx.lean ====
/-
  The gradient of the mixing layer's output product with respect to the mixed heads, on one device's 4096 tokens.
-/
module

public import proofs.«01_k».proof.Proof.Gen.OutProjDxIdeal.Value
public import proofs.«01_k».proof.Proof.Gen.OutProjDxRefIdeal.Run
public import proofs.«01_k».proof.Proof.Gen.OutProjDxRefIdeal.Read
public import proofs.«01_k».proof.Defs
public import Idealize.ShloMosaic.Lib.Pointwise
public import Idealize.ShloMosaic.Lib.Pipeline.Value

@[expose] public section

set_option maxRecDepth 16384

noncomputable section

namespace Cert.Hand.OutProjDx

open Cert.OutProjDxIdeal Cert.OutProjDxIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- Grid points tile the result: 4 row blocks by 1 column blocks; where each argument's block lies. -/
theorem index_maps : ∀ t : Fin cfg0.N,
    win0_0.index t 0 = win0_2.index t 0
    ∧ win0_0.index t 1 = 0
    ∧ win0_1.index t 0 = 0
    ∧ win0_1.index t 1 = 0
    ∧ win0_2.index t 0 < 4
    ∧ win0_2.index t 1 < 1 :=
  (by decide +kernel : ∀ t : Fin grid0.N, _)

/-- Every block of the results belongs to some grid point, and every point writes back. -/
theorem index_onto : ∀ (a : Fin 4) (b : Fin 1), ∃ t : Fin cfg0.N,
    (cfg0.win 2).flush t = true
    ∧ win0_2.index t 0 = a.val ∧ win0_2.index t 1 = b.val :=
  (by decide +kernel : ∀ (a : Fin 4) (b : Fin 1), ∃ t : Fin grid0.N, _)

/-- The argument arrays. -/
abbrev A0 (c : Dev nD) : S4096x1024.Idx → EReal := m ((c : Thread nD τ).loc main_arg0)
abbrev A1 (c : Dev nD) : S1024x1024.Idx → EReal := m ((c : Thread nD τ).loc main_arg1)

/-! ## What a grid point reads -/

theorem in0_at (c : Dev nD) (t : Fin cfg0.N) (r : Fin 1024) (s : Fin 1024) (h0 : win0_2.index t 0 * 1024 + r.val < 4096) :
    iblk m c 0 t (ix2 r s) = A0 m c (ix2 ⟨win0_2.index t 0 * 1024 + r.val, h0⟩ s) := by
  have hi := index_maps t
  show m ((c : Thread nD τ).loc main_arg0) ((win0_0.rect t).emb (ix2 r s)) = _
  exact congrArg _ (Shape.idx_ext₂ ((win0_0.rect_emb_val t (ix2 r s) 0).trans (by rw [hi.1]; rfl))
    ((win0_0.rect_emb_val t (ix2 r s) 1).trans (by rw [hi.2.1]; simp)))

theorem in1_at (c : Dev nD) (t : Fin cfg0.N) (r : Fin 1024) (s : Fin 1024) :
    iblk m c 1 t (ix2 r s) = A1 m c (ix2 r s) := by
  have hi := index_maps t
  show m ((c : Thread nD τ).loc main_arg1) ((win0_1.rect t).emb (ix2 r s)) = _
  exact congrArg _ (Shape.idx_ext₂ ((win0_1.rect_emb_val t (ix2 r s) 0).trans (by rw [hi.2.2.1]; simp))
    ((win0_1.rect_emb_val t (ix2 r s) 1).trans (by rw [hi.2.2.2.1]; simp)))

/-! ## A block of each result and the reference's array -/

theorem same2 (x0 : Vec Ideal S1024x1024 .bf16) (x1 : Vec Ideal S1024x1024 .bf16)
    (X0 : Vec Ideal S4096x1024 .bf16) (X1 : Vec Ideal S1024x1024 .bf16)
    (r : Fin 1024) (s : Fin 1024) (R : Fin 4096)
    (h0 : ∀ (l : Fin 1024), x0 (ix2 r l) = X0 (ix2 R l))
    (h1 : ∀ (k : Fin 1024) (l : Fin 1024), x1 (ix2 k l) = X1 (ix2 k l)) :
    out0_2 (F := Ideal) x0 x1 (ix2 r s)
      = Cert.OutProjDxRefIdeal.Read.val_main_v4 (F := Ideal) X0 X1 (ix2 R s) := by
  unfold out0_2
  rw [View.canon_unit_zero (by decide)]
  simp only [View.ld_unit_zero (S := S1024x1024) (by decide : (![0, 0] : Fin 2 → Nat) = fun _ => 0)]
  unfold_payloads
  pointwise [Cert.OutProjDxRefIdeal.Read.val_main_v0, Cert.OutProjDxRefIdeal.Read.val_main_cst, Cert.OutProjDxRefIdeal.Read.val_main_v1, Cert.OutProjDxRefIdeal.Read.val_main_v2, Cert.OutProjDxRefIdeal.Read.val_main_v3, Cert.OutProjDxRefIdeal.Read.val_main_v4]
  simp only [h0, h1]

/-- The result array as a function of the argument arrays: the reference's own term. -/
def G2 (c : Dev nD) : S4096x1024.Idx → EReal :=
  Cert.OutProjDxRefIdeal.Read.val_main_v4 (F := Ideal) (A0 m c) (A1 m c)

theorem flushed2_eq (c : Dev nD) (t : Fin cfg0.N) :
    (dats m 0 c).flushed 2 t = ((cfg0.win 2).blk t).view.read (Elt Ideal) (G2 m c) := by
  have hi := index_maps t
  have hl0 := hi.2.2.2.2.1
  have hl1 := hi.2.2.2.2.2
  rw [Value.flushed2]
  funext y
  obtain ⟨r, s, rfl⟩ : ∃ (r : Fin 1024) (s : Fin 1024), y = ix2 r s := ⟨y 0, y 1, eq_ix2 y⟩
  show out0_2 (iblk m c 0 t) (iblk m c 1 t) (ix2 r s) = G2 m c ((win0_2.rect t).emb (ix2 r s))
  have e : ((win0_2.rect t).emb (ix2 r s) : S4096x1024.Idx)
      = ix2 ⟨win0_2.index t 0 * 1024 + r.val, by omega⟩ s :=
    Shape.idx_ext₂ ((win0_2.rect_emb_val t (ix2 r s) 0).trans rfl)
      ((win0_2.rect_emb_val t (ix2 r s) 1).trans (by rw [Nat.lt_one_iff.mp hl1]; simp))
  rw [e]
  exact same2 _ _ _ _ r s _ (fun l => in0_at m c t r l (by omega)) (fun k l => in1_at m c t k l)

theorem covered2 (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  obtain ⟨t, hf⟩ := index_onto ⟨(i 0).val / 1024, by omega⟩ ⟨(i 1).val / 1024, by omega⟩
  have hi := index_maps t
  have e0 := hf.2.1
  have e1 := hf.2.2
  dsimp only at e0 e1
  refine ⟨t, hf.1, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024
              omega
  | ⟨1, _⟩ => show win0_2.index t 1 * 1024 ≤ (i 1).val ∧ (i 1).val < win0_2.index t 1 * 1024 + 1024
              omega

/-- After the run the result array is `G2`. -/
theorem final2 (c : Dev nD) : (dats m 0 c).arrAt 2 cfg0.N = G2 m c :=
  (dats m 0 c).arrAt_eq_of_cover 2 (G2 m c) (fun t _ => flushed2_eq m c t) covered2

/-- The kernel and the reference leave equal results. -/
theorem algebraic : Cert.algebraic_OutProjDxIdeal_OutProjDxRefIdeal := fun m g m' g' _ hagree =>
  ⟨fun c => G2 m c,
    (θ_run _ _ _).mono (fun r h c => ⟨(h c).1.trans (final2 m c), (h c).2⟩)
      (Value.run_blocks (F := Ideal) m g),
    (θ_run _ _ _).mono (fun r h c => by
        obtain ⟨e0, e1⟩ := hagree c
        refine ⟨(h c).1.trans ?_, (h c).2⟩
        · rw [e0, e1]; rfl)
      (Cert.OutProjDxRefIdeal.Value.run (F := Ideal) m' g')⟩

end Cert.Hand.OutProjDx

end
-- ==== Proof.OutProjDw.lean ====
/-
  The gradient of the mixing layer's output product with respect to its weight, on one device's 4096 tokens.
-/
module

public import proofs.«01_k».proof.Proof.Gen.OutProjDwIdeal.Value
public import proofs.«01_k».proof.Proof.Gen.OutProjDwRefIdeal.Run
public import proofs.«01_k».proof.Proof.Gen.OutProjDwRefIdeal.Read
public import proofs.«01_k».proof.Defs
public import Idealize.ShloMosaic.Lib.Pointwise
public import Idealize.ShloMosaic.Lib.Pipeline.Value

@[expose] public section

set_option maxRecDepth 16384

noncomputable section

namespace Cert.Hand.OutProjDw

open Cert.OutProjDwIdeal Cert.OutProjDwIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- Grid points tile the result: 1 row blocks by 2 column blocks; where each argument's block lies. -/
theorem index_maps : ∀ t : Fin cfg0.N,
    win0_0.index t 0 = 0
    ∧ win0_0.index t 1 = win0_2.index t 0
    ∧ win0_1.index t 0 = 0
    ∧ win0_1.index t 1 = win0_2.index t 1
    ∧ win0_3.index t 0 = win0_2.index t 0
    ∧ win0_3.index t 1 = win0_2.index t 1
    ∧ win0_2.index t 0 < 1
    ∧ win0_2.index t 1 < 2 :=
  (by decide +kernel : ∀ t : Fin grid0.N, _)

/-- Every block of the results belongs to some grid point, and every point writes back. -/
theorem index_onto : ∀ (a : Fin 1) (b : Fin 2), ∃ t : Fin cfg0.N,
    (cfg0.win 2).flush t = true ∧ (cfg0.win 3).flush t = true
    ∧ win0_2.index t 0 = a.val ∧ win0_2.index t 1 = b.val :=
  (by decide +kernel : ∀ (a : Fin 1) (b : Fin 2), ∃ t : Fin grid0.N, _)

/-- The argument arrays. -/
abbrev A0 (c : Dev nD) : S4096x1024.Idx → EReal := m ((c : Thread nD τ).loc main_arg0)
abbrev A1 (c : Dev nD) : S4096x1024.Idx → EReal := m ((c : Thread nD τ).loc main_arg1)

/-! ## What a grid point reads -/

theorem in0_at (c : Dev nD) (t : Fin cfg0.N) (r : Fin 4096) (s : Fin 1024) (h1 : win0_2.index t 0 * 1024 + s.val < 1024) :
    iblk m c 0 t (ix2 r s) = A0 m c (ix2 r ⟨win0_2.index t 0 * 1024 + s.val, h1⟩) := by
  have hi := index_maps t
  show m ((c : Thread nD τ).loc main_arg0) ((win0_0.rect t).emb (ix2 r s)) = _
  exact congrArg _ (Shape.idx_ext₂ ((win0_0.rect_emb_val t (ix2 r s) 0).trans (by rw [hi.1]; simp))
    ((win0_0.rect_emb_val t (ix2 r s) 1).trans (by rw [hi.2.1]; rfl)))

theorem in1_at (c : Dev nD) (t : Fin cfg0.N) (r : Fin 4096) (s : Fin 512) (h1 : win0_2.index t 1 * 512 + s.val < 1024) :
    iblk m c 1 t (ix2 r s) = A1 m c (ix2 r ⟨win0_2.index t 1 * 512 + s.val, h1⟩) := by
  have hi := index_maps t
  show m ((c : Thread nD τ).loc main_arg1) ((win0_1.rect t).emb (ix2 r s)) = _
  exact congrArg _ (Shape.idx_ext₂ ((win0_1.rect_emb_val t (ix2 r s) 0).trans (by rw [hi.2.2.1]; simp))
    ((win0_1.rect_emb_val t (ix2 r s) 1).trans (by rw [hi.2.2.2.1]; rfl)))

/-! ## A block of each result and the reference's array -/

theorem same2 (x0 : Vec Ideal S4096x1024 .bf16) (x1 : Vec Ideal S4096x512 .bf16)
    (X0 : Vec Ideal S4096x1024 .bf16) (X1 : Vec Ideal S4096x1024 .bf16)
    (r : Fin 1024) (s : Fin 512) (R : Fin 1024) (S : Fin 1024)
    (h0 : ∀ (k : Fin 4096), x0 (ix2 k r) = X0 (ix2 k R))
    (h1 : ∀ (k : Fin 4096), x1 (ix2 k s) = X1 (ix2 k S)) :
    out0_2 (F := Ideal) x0 x1 (ix2 r s)
      = Cert.OutProjDwRefIdeal.Read.val_main_v5 (F := Ideal) X0 X1 (ix2 R S) := by
  unfold out0_2
  rw [View.canon_unit_zero (by decide)]
  simp only [View.ld_unit_zero (S := S4096x1024) (by decide : (![0, 0] : Fin 2 → Nat) = fun _ => 0), View.ld_unit_zero (S := S4096x512) (by decide : (![0, 0] : Fin 2 → Nat) = fun _ => 0)]
  unfold_payloads
  pointwise [Cert.OutProjDwRefIdeal.Read.val_main_v0, Cert.OutProjDwRefIdeal.Read.val_main_cst, Cert.OutProjDwRefIdeal.Read.val_main_v1, Cert.OutProjDwRefIdeal.Read.val_main_v2, Cert.OutProjDwRefIdeal.Read.val_main_v3, Cert.OutProjDwRefIdeal.Read.val_main_v4, Cert.OutProjDwRefIdeal.Read.val_main_v5, Cert.OutProjDwRefIdeal.Read.val_main_v6]
  simp only [h0, h1, mul_comm]

theorem same3 (x0 : Vec Ideal S4096x1024 .bf16) (x1 : Vec Ideal S4096x512 .bf16)
    (X0 : Vec Ideal S4096x1024 .bf16) (X1 : Vec Ideal S4096x1024 .bf16)
    (r : Fin 1024) (s : Fin 512) (R : Fin 1024) (S : Fin 1024)
    (h0 : ∀ (k : Fin 4096), x0 (ix2 k r) = X0 (ix2 k R))
    (h1 : ∀ (k : Fin 4096), x1 (ix2 k s) = X1 (ix2 k S)) :
    out0_3 (F := Ideal) x0 x1 (ix2 r s)
      = Cert.OutProjDwRefIdeal.Read.val_main_v6 (F := Ideal) X0 X1 (ix2 R S) := by
  unfold out0_3
  rw [View.canon_unit_zero (by decide)]
  simp only [View.ld_unit_zero (S := S4096x1024) (by decide : (![0, 0] : Fin 2 → Nat) = fun _ => 0), View.ld_unit_zero (S := S4096x512) (by decide : (![0, 0] : Fin 2 → Nat) = fun _ => 0)]
  unfold_payloads
  pointwise [Cert.OutProjDwRefIdeal.Read.val_main_v0, Cert.OutProjDwRefIdeal.Read.val_main_cst, Cert.OutProjDwRefIdeal.Read.val_main_v1, Cert.OutProjDwRefIdeal.Read.val_main_v2, Cert.OutProjDwRefIdeal.Read.val_main_v3, Cert.OutProjDwRefIdeal.Read.val_main_v4, Cert.OutProjDwRefIdeal.Read.val_main_v5, Cert.OutProjDwRefIdeal.Read.val_main_v6]
  simp only [h0, h1, mul_comm]

/-- The result array as a function of the argument arrays: the reference's own term. -/
def G2 (c : Dev nD) : S1024x1024.Idx → EReal :=
  Cert.OutProjDwRefIdeal.Read.val_main_v5 (F := Ideal) (A0 m c) (A1 m c)

theorem flushed2_eq (c : Dev nD) (t : Fin cfg0.N) :
    (dats m 0 c).flushed 2 t = ((cfg0.win 2).blk t).view.read (Elt Ideal) (G2 m c) := by
  have hi := index_maps t
  have hl0 := hi.2.2.2.2.2.2.1
  have hl1 := hi.2.2.2.2.2.2.2
  rw [Value.flushed2]
  funext y
  obtain ⟨r, s, rfl⟩ : ∃ (r : Fin 1024) (s : Fin 512), y = ix2 r s := ⟨y 0, y 1, eq_ix2 y⟩
  show out0_2 (iblk m c 0 t) (iblk m c 1 t) (ix2 r s) = G2 m c ((win0_2.rect t).emb (ix2 r s))
  have e : ((win0_2.rect t).emb (ix2 r s) : S1024x1024.Idx)
      = ix2 ⟨win0_2.index t 0 * 1024 + r.val, by omega⟩ ⟨win0_2.index t 1 * 512 + s.val, by omega⟩ :=
    Shape.idx_ext₂ ((win0_2.rect_emb_val t (ix2 r s) 0).trans rfl)
      ((win0_2.rect_emb_val t (ix2 r s) 1).trans rfl)
  rw [e]
  exact same2 _ _ _ _ r s _ _ (fun k => in0_at m c t k r (by omega)) (fun k => in1_at m c t k s (by omega))

theorem covered2 (i : S1024x1024.Idx) : ∃ t : Fin cfg0.N, (cfg0.win 2).flush t = true ∧ i ∈ ((cfg0.win 2).blk t).view.set := by
  have h0 : (i 0).val < 1024 := (i 0).isLt
  have h1 : (i 1).val < 1024 := (i 1).isLt
  obtain ⟨t, hf⟩ := index_onto ⟨(i 0).val / 1024, by omega⟩ ⟨(i 1).val / 512, by omega⟩
  have hi := index_maps t
  have e0 := hf.2.2.1
  have e1 := hf.2.2.2
  dsimp only at e0 e1
  refine ⟨t, hf.1, ?_⟩
  show i ∈ ((View.whole main_v0_0).slice (win0_2.rect t)).set
  rw [View.set_slice_whole, Rect.mem_set_unit]
  intro a
  match a with
  | ⟨0, _⟩ => show win0_2.index t 0 * 1024 ≤ (i 0).val ∧ (i 0).val < win0_2.index t 0 * 1024 + 1024
              omega
  | ⟨1, _⟩ => show win0_2.index t 1 * 512 ≤ (i 1).val ∧ (i 1).val < win0_2.index t 1 * 512 + 512
              omega

/-- After the run the result array is `G2`. -/
theorem final2 (c : Dev nD) : (dats m 0 c).arrAt 2 cfg0.N = G2 m c :=
  (dats m 0 c).arrAt_eq_of_cover 2 (G2 m c) (fun t _ => flushed2_eq m c t) covered2

/-- The result array as a function of the argument arrays: the reference's own term. -/
def G3 (c : Dev nD) : S1024x1024.Idx → EReal :=
  Cert.OutProjDwRefIdeal.Read.val_main_v6 (F := Ideal) (A0 m c) (A1 m c)

theorem flushed3_eq (c : Dev nD) (t : Fin cfg0.N) :
    (dats m 0 c).flushed 3 t = ((cfg0.win 3).blk t).view.read (Elt Ideal) (G3 m c) := by
  have hi := index_maps t
  have hl0 := hi.2.2.2.2.2.2.1
  have hl1 := hi.2.2.2.2.2.2.2
  rw [Value.flushed3]
  funext y
  obtain ⟨r, s, rfl⟩ : ∃ (r : Fin 1024) (s : Fin 512), y = ix2 r s := ⟨y 0, y 1, eq_ix2 y⟩
  show out0_3 (iblk m c 0 t) (iblk m c 1 t) (ix2 r s) = G3 m c ((win0_3.rect t).emb (ix2 r s))
  have e : ((win0_3.rect t).emb (ix2 r s) : S1024x1024.Idx)
      = ix2 ⟨win0_2.index t 0 * 1024 + r.val, by omega⟩ ⟨win0_2.index t 1 * 512 + s.val, by omega⟩ :=
    Shape.idx_ext₂ ((win0_3.rect_emb_val t (ix2 r s) 0).trans (by rw [hi.2.2.2.2.1]; rfl))
      ((win0_3.rect_emb_val t (ix2 r s) 1).trans (by rw [hi.2.2.2.2.2.1]; rfl))
  rw [e]
  exact same3 _ _ _ _ r s _ _ (fun k => in0_at m c t k r (by omega)) (fun k => in1_at m c t k s (by omega))

theorem covered3 (i : S1024x1024.Idx) : ∃ t : Fin cfg0.N, (cfg0.win 3).flush t = true ∧ i ∈ ((cfg0.win 3).blk t).view.set := by
  have h0 : (i 0).val < 1024 := (i 0).isLt
  have h1 : (i 1).val < 1024 := (i 1).isLt
  obtain ⟨t, hf⟩ := index_onto ⟨(i 0).val / 1024, by omega⟩ ⟨(i 1).val / 512, by omega⟩
  have hi := index_maps t
  have e0 := hf.2.2.1
  have e1 := hf.2.2.2
  dsimp only at e0 e1
  refine ⟨t, hf.2.1, ?_⟩
  show i ∈ ((View.whole main_v0_1).slice (win0_3.rect t)).set
  rw [View.set_slice_whole, Rect.mem_set_unit]
  intro a
  match a with
  | ⟨0, _⟩ => show win0_3.index t 0 * 1024 ≤ (i 0).val ∧ (i 0).val < win0_3.index t 0 * 1024 + 1024
              rw [hi.2.2.2.2.1]; omega
  | ⟨1, _⟩ => show win0_3.index t 1 * 512 ≤ (i 1).val ∧ (i 1).val < win0_3.index t 1 * 512 + 512
              rw [hi.2.2.2.2.2.1]; omega

/-- After the run the result array is `G3`. -/
theorem final3 (c : Dev nD) : (dats m 0 c).arrAt 3 cfg0.N = G3 m c :=
  (dats m 0 c).arrAt_eq_of_cover 3 (G3 m c) (fun t _ => flushed3_eq m c t) covered3

/-- The kernel and the reference leave equal results. -/
theorem algebraic : Cert.algebraic_OutProjDwIdeal_OutProjDwRefIdeal := fun m g m' g' _ hagree =>
  ⟨fun c => G2 m c, fun c => G3 m c,
    (θ_run _ _ _).mono (fun r h c => ⟨(h c).1.trans (final2 m c), (h c).2.1.trans (final3 m c), (h c).2.2⟩)
      (Value.run_blocks (F := Ideal) m g),
    (θ_run _ _ _).mono (fun r h c => by
        obtain ⟨e0, e1⟩ := hagree c
        refine ⟨(h c).1.trans ?_, (h c).2.1.trans ?_, (h c).2.2⟩
        · rw [e0, e1]; rfl
        · rw [e0, e1]; rfl)
      (Cert.OutProjDwRefIdeal.Value.run (F := Ideal) m' g')⟩

end Cert.Hand.OutProjDw

end
-- ==== Proof.GluGateDx.lean ====
/-
  The gradient of the gate's product with respect to the recurrence's output, through the activation in front of it, on
  one device's 4096 tokens.
-/
module

public import proofs.«01_k».proof.Proof.Gen.GluGateDxIdeal.Value
public import proofs.«01_k».proof.Proof.Gen.GluGateDxRefIdeal.Run
public import proofs.«01_k».proof.Proof.Gen.GluGateDxRefIdeal.Read
public import proofs.«01_k».proof.Defs
public import Idealize.ShloMosaic.Lib.Pointwise
public import Idealize.ShloMosaic.Lib.Pipeline.Value

@[expose] public section

set_option maxRecDepth 16384

noncomputable section

namespace Cert.Hand.GluGateDx

open Cert.GluGateDxIdeal Cert.GluGateDxIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- Grid points tile the result: 4 row blocks by 1 column blocks; where each argument's block lies. -/
theorem index_maps : ∀ t : Fin cfg0.N,
    win0_0.index t 0 = win0_4.index t 0
    ∧ win0_0.index t 1 = 0
    ∧ win0_1.index t 0 = 0
    ∧ win0_1.index t 1 = 0
    ∧ win0_2.index t 0 = win0_4.index t 0
    ∧ win0_2.index t 1 = 0
    ∧ win0_3.index t 0 = win0_4.index t 0
    ∧ win0_3.index t 1 = 0
    ∧ win0_4.index t 0 < 4
    ∧ win0_4.index t 1 < 1 :=
  (by decide +kernel : ∀ t : Fin grid0.N, _)

/-- Every block of the results belongs to some grid point, and every point writes back. -/
theorem index_onto : ∀ (a : Fin 4) (b : Fin 1), ∃ t : Fin cfg0.N,
    (cfg0.win 4).flush t = true
    ∧ win0_4.index t 0 = a.val ∧ win0_4.index t 1 = b.val :=
  (by decide +kernel : ∀ (a : Fin 4) (b : Fin 1), ∃ t : Fin grid0.N, _)

/-- The argument arrays. -/
abbrev A0 (c : Dev nD) : S4096x512.Idx → EReal := m ((c : Thread nD τ).loc main_arg0)
abbrev A1 (c : Dev nD) : S512x512.Idx → EReal := m ((c : Thread nD τ).loc main_arg1)
abbrev A2 (c : Dev nD) : S4096x512.Idx → EReal := m ((c : Thread nD τ).loc main_arg2)
abbrev A3 (c : Dev nD) : S4096x512.Idx → EReal := m ((c : Thread nD τ).loc main_arg3)

/-! ## What a grid point reads -/

theorem in0_at (c : Dev nD) (t : Fin cfg0.N) (r : Fin 1024) (s : Fin 512) (h0 : win0_4.index t 0 * 1024 + r.val < 4096) :
    iblk m c 0 t (ix2 r s) = A0 m c (ix2 ⟨win0_4.index t 0 * 1024 + r.val, h0⟩ s) := by
  have hi := index_maps t
  show m ((c : Thread nD τ).loc main_arg0) ((win0_0.rect t).emb (ix2 r s)) = _
  exact congrArg _ (Shape.idx_ext₂ ((win0_0.rect_emb_val t (ix2 r s) 0).trans (by rw [hi.1]; rfl))
    ((win0_0.rect_emb_val t (ix2 r s) 1).trans (by rw [hi.2.1]; simp)))

theorem in1_at (c : Dev nD) (t : Fin cfg0.N) (r : Fin 512) (s : Fin 512) :
    iblk m c 1 t (ix2 r s) = A1 m c (ix2 r s) := by
  have hi := index_maps t
  show m ((c : Thread nD τ).loc main_arg1) ((win0_1.rect t).emb (ix2 r s)) = _
  exact congrArg _ (Shape.idx_ext₂ ((win0_1.rect_emb_val t (ix2 r s) 0).trans (by rw [hi.2.2.1]; simp))
    ((win0_1.rect_emb_val t (ix2 r s) 1).trans (by rw [hi.2.2.2.1]; simp)))

theorem in2_at (c : Dev nD) (t : Fin cfg0.N) (r : Fin 1024) (s : Fin 512) (h0 : win0_4.index t 0 * 1024 + r.val < 4096) :
    iblk m c 2 t (ix2 r s) = A2 m c (ix2 ⟨win0_4.index t 0 * 1024 + r.val, h0⟩ s) := by
  have hi := index_maps t
  show m ((c : Thread nD τ).loc main_arg2) ((win0_2.rect t).emb (ix2 r s)) = _
  exact congrArg _ (Shape.idx_ext₂ ((win0_2.rect_emb_val t (ix2 r s) 0).trans (by rw [hi.2.2.2.2.1]; rfl))
    ((win0_2.rect_emb_val t (ix2 r s) 1).trans (by rw [hi.2.2.2.2.2.1]; simp)))

theorem in3_at (c : Dev nD) (t : Fin cfg0.N) (r : Fin 1024) (s : Fin 512) (h0 : win0_4.index t 0 * 1024 + r.val < 4096) :
    iblk m c 3 t (ix2 r s) = A3 m c (ix2 ⟨win0_4.index t 0 * 1024 + r.val, h0⟩ s) := by
  have hi := index_maps t
  show m ((c : Thread nD τ).loc main_arg3) ((win0_3.rect t).emb (ix2 r s)) = _
  exact congrArg _ (Shape.idx_ext₂ ((win0_3.rect_emb_val t (ix2 r s) 0).trans (by rw [hi.2.2.2.2.2.2.1]; rfl))
    ((win0_3.rect_emb_val t (ix2 r s) 1).trans (by rw [hi.2.2.2.2.2.2.2.1]; simp)))

/-! ## A block of each result and the reference's array -/

theorem same4 (x0 : Vec Ideal S1024x512 .bf16) (x1 : Vec Ideal S512x512 .bf16) (x2 : Vec Ideal S1024x512 .f32) (x3 : Vec Ideal S1024x512 .f32)
    (X0 : Vec Ideal S4096x512 .bf16) (X1 : Vec Ideal S512x512 .bf16) (X2 : Vec Ideal S4096x512 .f32) (X3 : Vec Ideal S4096x512 .f32)
    (r : Fin 1024) (s : Fin 512) (R : Fin 4096)
    (h0 : ∀ (l : Fin 512), x0 (ix2 r l) = X0 (ix2 R l))
    (h1 : ∀ (k : Fin 512) (l : Fin 512), x1 (ix2 k l) = X1 (ix2 k l))
    (h2 : ∀ (l : Fin 512), x2 (ix2 r l) = X2 (ix2 R l))
    (h3 : ∀ (l : Fin 512), x3 (ix2 r l) = X3 (ix2 R l)) :
    out0_4 (F := Ideal) x0 x1 x2 x3 (ix2 r s)
      = Cert.GluGateDxRefIdeal.Read.val_main_v37 (F := Ideal) X0 X1 X2 X3 (ix2 R s) := by
  unfold out0_4
  rw [View.canon_unit_zero (by decide)]
  simp only [View.ld_unit_zero (S := S1024x512) (by decide : (![0, 0] : Fin 2 → Nat) = fun _ => 0), View.ld_unit_zero (S := S512x512) (by decide : (![0, 0] : Fin 2 → Nat) = fun _ => 0)]
  unfold_payloads
  pointwise [Cert.GluGateDxRefIdeal.Read.val_main_v0, Cert.GluGateDxRefIdeal.Read.val_main_v1, Cert.GluGateDxRefIdeal.Read.val_main_v2, Cert.GluGateDxRefIdeal.Read.val_main_v3, Cert.GluGateDxRefIdeal.Read.val_main_cst, Cert.GluGateDxRefIdeal.Read.val_main_v4, Cert.GluGateDxRefIdeal.Read.val_main_v5, Cert.GluGateDxRefIdeal.Read.val_main_cst_0, Cert.GluGateDxRefIdeal.Read.val_main_v6, Cert.GluGateDxRefIdeal.Read.val_main_v7, Cert.GluGateDxRefIdeal.Read.val_main_v8, Cert.GluGateDxRefIdeal.Read.val_main_cst_1, Cert.GluGateDxRefIdeal.Read.val_main_v9, Cert.GluGateDxRefIdeal.Read.val_main_v10, Cert.GluGateDxRefIdeal.Read.val_main_v11, Cert.GluGateDxRefIdeal.Read.val_main_cst_2, Cert.GluGateDxRefIdeal.Read.val_main_v12, Cert.GluGateDxRefIdeal.Read.val_main_v13, Cert.GluGateDxRefIdeal.Read.val_main_cst_3, Cert.GluGateDxRefIdeal.Read.val_main_v14, Cert.GluGateDxRefIdeal.Read.val_main_v15, Cert.GluGateDxRefIdeal.Read.val_main_v16, Cert.GluGateDxRefIdeal.Read.val_main_cst_4, Cert.GluGateDxRefIdeal.Read.val_main_v17, Cert.GluGateDxRefIdeal.Read.val_main_v18, Cert.GluGateDxRefIdeal.Read.val_main_cst_5, Cert.GluGateDxRefIdeal.Read.val_main_v19, Cert.GluGateDxRefIdeal.Read.val_main_v20, Cert.GluGateDxRefIdeal.Read.val_main_v21, Cert.GluGateDxRefIdeal.Read.val_main_v22, Cert.GluGateDxRefIdeal.Read.val_main_v23, Cert.GluGateDxRefIdeal.Read.val_main_v24, Cert.GluGateDxRefIdeal.Read.val_main_v25, Cert.GluGateDxRefIdeal.Read.val_main_v26, Cert.GluGateDxRefIdeal.Read.val_main_cst_6, Cert.GluGateDxRefIdeal.Read.val_main_v27, Cert.GluGateDxRefIdeal.Read.val_main_v28, Cert.GluGateDxRefIdeal.Read.val_main_v29, Cert.GluGateDxRefIdeal.Read.val_main_cst_7, Cert.GluGateDxRefIdeal.Read.val_main_v30, Cert.GluGateDxRefIdeal.Read.val_main_v31, Cert.GluGateDxRefIdeal.Read.val_main_v32, Cert.GluGateDxRefIdeal.Read.val_main_cst_8, Cert.GluGateDxRefIdeal.Read.val_main_v33, Cert.GluGateDxRefIdeal.Read.val_main_v34, Cert.GluGateDxRefIdeal.Read.val_main_v35, Cert.GluGateDxRefIdeal.Read.val_main_v36, Cert.GluGateDxRefIdeal.Read.val_main_v37]
  simp only [h0, h1, h2, h3, mul_assoc]

/-- The result array as a function of the argument arrays: the reference's own term. -/
def G4 (c : Dev nD) : S4096x512.Idx → EReal :=
  Cert.GluGateDxRefIdeal.Read.val_main_v37 (F := Ideal) (A0 m c) (A1 m c) (A2 m c) (A3 m c)

theorem flushed4_eq (c : Dev nD) (t : Fin cfg0.N) :
    (dats m 0 c).flushed 4 t = ((cfg0.win 4).blk t).view.read (Elt Ideal) (G4 m c) := by
  have hi := index_maps t
  have hl0 := hi.2.2.2.2.2.2.2.2.1
  have hl1 := hi.2.2.2.2.2.2.2.2.2
  rw [Value.flushed4]
  funext y
  obtain ⟨r, s, rfl⟩ : ∃ (r : Fin 1024) (s : Fin 512), y = ix2 r s := ⟨y 0, y 1, eq_ix2 y⟩
  show out0_4 (iblk m c 0 t) (iblk m c 1 t) (iblk m c 2 t) (iblk m c 3 t) (ix2 r s) = G4 m c ((win0_4.rect t).emb (ix2 r s))
  have e : ((win0_4.rect t).emb (ix2 r s) : S4096x512.Idx)
      = ix2 ⟨win0_4.index t 0 * 1024 + r.val, by omega⟩ s :=
    Shape.idx_ext₂ ((win0_4.rect_emb_val t (ix2 r s) 0).trans rfl)
      ((win0_4.rect_emb_val t (ix2 r s) 1).trans (by rw [Nat.lt_one_iff.mp hl1]; simp))
  rw [e]
  exact same4 _ _ _ _ _ _ _ _ r s _ (fun l => in0_at m c t r l (by omega)) (fun k l => in1_at m c t k l) (fun l => in2_at m c t r l (by omega)) (fun l => in3_at m c t r l (by omega))

theorem covered4 (i : S4096x512.Idx) : ∃ t : Fin cfg0.N, (cfg0.win 4).flush t = true ∧ i ∈ ((cfg0.win 4).blk t).view.set := by
  have h0 : (i 0).val < 4096 := (i 0).isLt
  have h1 : (i 1).val < 512 := (i 1).isLt
  obtain ⟨t, hf⟩ := index_onto ⟨(i 0).val / 1024, by omega⟩ ⟨(i 1).val / 512, by omega⟩
  have hi := index_maps t
  have e0 := hf.2.1
  have e1 := hf.2.2
  dsimp only at e0 e1
  refine ⟨t, hf.1, ?_⟩
  show i ∈ ((View.whole main_v0).slice (win0_4.rect t)).set
  rw [View.set_slice_whole, Rect.mem_set_unit]
  intro a
  match a with
  | ⟨0, _⟩ => show win0_4.index t 0 * 1024 ≤ (i 0).val ∧ (i 0).val < win0_4.index t 0 * 1024 + 1024
              omega
  | ⟨1, _⟩ => show win0_4.index t 1 * 512 ≤ (i 1).val ∧ (i 1).val < win0_4.index t 1 * 512 + 512
              omega

/-- After the run the result array is `G4`. -/
theorem final4 (c : Dev nD) : (dats m 0 c).arrAt 4 cfg0.N = G4 m c :=
  (dats m 0 c).arrAt_eq_of_cover 4 (G4 m c) (fun t _ => flushed4_eq m c t) covered4

/-- The kernel and the reference leave equal results. -/
theorem algebraic : Cert.algebraic_GluGateDxIdeal_GluGateDxRefIdeal := fun m g m' g' _ hagree =>
  ⟨fun c => G4 m c,
    (θ_run _ _ _).mono (fun r h c => ⟨(h c).1.trans (final4 m c), (h c).2⟩)
      (Value.run_blocks (F := Ideal) m g),
    (θ_run _ _ _).mono (fun r h c => by
        obtain ⟨e0, e1, e2, e3⟩ := hagree c
        refine ⟨(h c).1.trans ?_, (h c).2⟩
        · rw [e0, e1, e2, e3]; rfl)
      (Cert.GluGateDxRefIdeal.Value.run (F := Ideal) m' g')⟩

end Cert.Hand.GluGateDx

end
-- ==== Proof.GluGateDw.lean ====
/-
  The gradient of the gate's product with respect to its weight, on one device's 4096 tokens.
-/
module

public import proofs.«01_k».proof.Proof.Gen.GluGateDwIdeal.Value
public import proofs.«01_k».proof.Proof.Gen.GluGateDwRefIdeal.Run
public import proofs.«01_k».proof.Proof.Gen.GluGateDwRefIdeal.Read
public import proofs.«01_k».proof.Defs
public import Idealize.ShloMosaic.Lib.Pointwise
public import Idealize.ShloMosaic.Lib.Pipeline.Value

@[expose] public section

set_option maxRecDepth 16384

noncomputable section

namespace Cert.Hand.GluGateDw

open Cert.GluGateDwIdeal Cert.GluGateDwIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- Grid points tile the result: 1 row blocks by 1 column blocks; where each argument's block lies. -/
theorem index_maps : ∀ t : Fin cfg0.N,
    win0_0.index t 0 = 0
    ∧ win0_0.index t 1 = win0_2.index t 0
    ∧ win0_1.index t 0 = 0
    ∧ win0_1.index t 1 = 0
    ∧ win0_3.index t 0 = win0_2.index t 0
    ∧ win0_3.index t 1 = win0_2.index t 1
    ∧ win0_2.index t 0 < 1
    ∧ win0_2.index t 1 < 1 :=
  (by decide +kernel : ∀ t : Fin grid0.N, _)

/-- Every block of the results belongs to some grid point, and every point writes back. -/
theorem index_onto : ∀ (a : Fin 1) (b : Fin 1), ∃ t : Fin cfg0.N,
    (cfg0.win 2).flush t = true ∧ (cfg0.win 3).flush t = true
    ∧ win0_2.index t 0 = a.val ∧ win0_2.index t 1 = b.val :=
  (by decide +kernel : ∀ (a : Fin 1) (b : Fin 1), ∃ t : Fin grid0.N, _)

/-- The argument arrays. -/
abbrev A0 (c : Dev nD) : S4096x512.Idx → EReal := m ((c : Thread nD τ).loc main_arg0)
abbrev A1 (c : Dev nD) : S4096x512.Idx → EReal := m ((c : Thread nD τ).loc main_arg1)

/-! ## What a grid point reads -/

theorem in0_at (c : Dev nD) (t : Fin cfg0.N) (r : Fin 4096) (s : Fin 512) (h1 : win0_2.index t 0 * 512 + s.val < 512) :
    iblk m c 0 t (ix2 r s) = A0 m c (ix2 r ⟨win0_2.index t 0 * 512 + s.val, h1⟩) := by
  have hi := index_maps t
  show m ((c : Thread nD τ).loc main_arg0) ((win0_0.rect t).emb (ix2 r s)) = _
  exact congrArg _ (Shape.idx_ext₂ ((win0_0.rect_emb_val t (ix2 r s) 0).trans (by rw [hi.1]; simp))
    ((win0_0.rect_emb_val t (ix2 r s) 1).trans (by rw [hi.2.1]; rfl)))

theorem in1_at (c : Dev nD) (t : Fin cfg0.N) (r : Fin 4096) (s : Fin 512) :
    iblk m c 1 t (ix2 r s) = A1 m c (ix2 r s) := by
  have hi := index_maps t
  show m ((c : Thread nD τ).loc main_arg1) ((win0_1.rect t).emb (ix2 r s)) = _
  exact congrArg _ (Shape.idx_ext₂ ((win0_1.rect_emb_val t (ix2 r s) 0).trans (by rw [hi.2.2.1]; simp))
    ((win0_1.rect_emb_val t (ix2 r s) 1).trans (by rw [hi.2.2.2.1]; simp)))

/-! ## A block of each result and the reference's array -/

theorem same2 (x0 : Vec Ideal S4096x512 .bf16) (x1 : Vec Ideal S4096x512 .bf16)
    (X0 : Vec Ideal S4096x512 .bf16) (X1 : Vec Ideal S4096x512 .bf16)
    (r : Fin 512) (s : Fin 512) (R : Fin 512)
    (h0 : ∀ (k : Fin 4096), x0 (ix2 k r) = X0 (ix2 k R))
    (h1 : ∀ (k : Fin 4096) (l : Fin 512), x1 (ix2 k l) = X1 (ix2 k l)) :
    out0_2 (F := Ideal) x0 x1 (ix2 r s)
      = Cert.GluGateDwRefIdeal.Read.val_main_v5 (F := Ideal) X0 X1 (ix2 R s) := by
  unfold out0_2
  rw [View.canon_unit_zero (by decide)]
  simp only [View.ld_unit_zero (S := S4096x512) (by decide : (![0, 0] : Fin 2 → Nat) = fun _ => 0)]
  unfold_payloads
  pointwise [Cert.GluGateDwRefIdeal.Read.val_main_v0, Cert.GluGateDwRefIdeal.Read.val_main_cst, Cert.GluGateDwRefIdeal.Read.val_main_v1, Cert.GluGateDwRefIdeal.Read.val_main_v2, Cert.GluGateDwRefIdeal.Read.val_main_v3, Cert.GluGateDwRefIdeal.Read.val_main_v4, Cert.GluGateDwRefIdeal.Read.val_main_v5, Cert.GluGateDwRefIdeal.Read.val_main_v6]
  simp only [h0, h1, mul_comm]

theorem same3 (x0 : Vec Ideal S4096x512 .bf16) (x1 : Vec Ideal S4096x512 .bf16)
    (X0 : Vec Ideal S4096x512 .bf16) (X1 : Vec Ideal S4096x512 .bf16)
    (r : Fin 512) (s : Fin 512) (R : Fin 512)
    (h0 : ∀ (k : Fin 4096), x0 (ix2 k r) = X0 (ix2 k R))
    (h1 : ∀ (k : Fin 4096) (l : Fin 512), x1 (ix2 k l) = X1 (ix2 k l)) :
    out0_3 (F := Ideal) x0 x1 (ix2 r s)
      = Cert.GluGateDwRefIdeal.Read.val_main_v6 (F := Ideal) X0 X1 (ix2 R s) := by
  unfold out0_3
  rw [View.canon_unit_zero (by decide)]
  simp only [View.ld_unit_zero (S := S4096x512) (by decide : (![0, 0] : Fin 2 → Nat) = fun _ => 0)]
  unfold_payloads
  pointwise [Cert.GluGateDwRefIdeal.Read.val_main_v0, Cert.GluGateDwRefIdeal.Read.val_main_cst, Cert.GluGateDwRefIdeal.Read.val_main_v1, Cert.GluGateDwRefIdeal.Read.val_main_v2, Cert.GluGateDwRefIdeal.Read.val_main_v3, Cert.GluGateDwRefIdeal.Read.val_main_v4, Cert.GluGateDwRefIdeal.Read.val_main_v5, Cert.GluGateDwRefIdeal.Read.val_main_v6]
  simp only [h0, h1, mul_comm]

/-- The result array as a function of the argument arrays: the reference's own term. -/
def G2 (c : Dev nD) : S512x512.Idx → EReal :=
  Cert.GluGateDwRefIdeal.Read.val_main_v5 (F := Ideal) (A0 m c) (A1 m c)

theorem flushed2_eq (c : Dev nD) (t : Fin cfg0.N) :
    (dats m 0 c).flushed 2 t = ((cfg0.win 2).blk t).view.read (Elt Ideal) (G2 m c) := by
  have hi := index_maps t
  have hl0 := hi.2.2.2.2.2.2.1
  have hl1 := hi.2.2.2.2.2.2.2
  rw [Value.flushed2]
  funext y
  obtain ⟨r, s, rfl⟩ : ∃ (r : Fin 512) (s : Fin 512), y = ix2 r s := ⟨y 0, y 1, eq_ix2 y⟩
  show out0_2 (iblk m c 0 t) (iblk m c 1 t) (ix2 r s) = G2 m c ((win0_2.rect t).emb (ix2 r s))
  have e : ((win0_2.rect t).emb (ix2 r s) : S512x512.Idx)
      = ix2 ⟨win0_2.index t 0 * 512 + r.val, by omega⟩ s :=
    Shape.idx_ext₂ ((win0_2.rect_emb_val t (ix2 r s) 0).trans rfl)
      ((win0_2.rect_emb_val t (ix2 r s) 1).trans (by rw [Nat.lt_one_iff.mp hl1]; simp))
  rw [e]
  exact same2 _ _ _ _ r s _ (fun k => in0_at m c t k r (by omega)) (fun k l => in1_at m c t k l)

theorem covered2 (i : S512x512.Idx) : ∃ t : Fin cfg0.N, (cfg0.win 2).flush t = true ∧ i ∈ ((cfg0.win 2).blk t).view.set := by
  have h0 : (i 0).val < 512 := (i 0).isLt
  have h1 : (i 1).val < 512 := (i 1).isLt
  obtain ⟨t, hf⟩ := index_onto ⟨(i 0).val / 512, by omega⟩ ⟨(i 1).val / 512, by omega⟩
  have hi := index_maps t
  have e0 := hf.2.2.1
  have e1 := hf.2.2.2
  dsimp only at e0 e1
  refine ⟨t, hf.1, ?_⟩
  show i ∈ ((View.whole main_v0_0).slice (win0_2.rect t)).set
  rw [View.set_slice_whole, Rect.mem_set_unit]
  intro a
  match a with
  | ⟨0, _⟩ => show win0_2.index t 0 * 512 ≤ (i 0).val ∧ (i 0).val < win0_2.index t 0 * 512 + 512
              omega
  | ⟨1, _⟩ => show win0_2.index t 1 * 512 ≤ (i 1).val ∧ (i 1).val < win0_2.index t 1 * 512 + 512
              omega

/-- After the run the result array is `G2`. -/
theorem final2 (c : Dev nD) : (dats m 0 c).arrAt 2 cfg0.N = G2 m c :=
  (dats m 0 c).arrAt_eq_of_cover 2 (G2 m c) (fun t _ => flushed2_eq m c t) covered2

/-- The result array as a function of the argument arrays: the reference's own term. -/
def G3 (c : Dev nD) : S512x512.Idx → EReal :=
  Cert.GluGateDwRefIdeal.Read.val_main_v6 (F := Ideal) (A0 m c) (A1 m c)

theorem flushed3_eq (c : Dev nD) (t : Fin cfg0.N) :
    (dats m 0 c).flushed 3 t = ((cfg0.win 3).blk t).view.read (Elt Ideal) (G3 m c) := by
  have hi := index_maps t
  have hl0 := hi.2.2.2.2.2.2.1
  have hl1 := hi.2.2.2.2.2.2.2
  rw [Value.flushed3]
  funext y
  obtain ⟨r, s, rfl⟩ : ∃ (r : Fin 512) (s : Fin 512), y = ix2 r s := ⟨y 0, y 1, eq_ix2 y⟩
  show out0_3 (iblk m c 0 t) (iblk m c 1 t) (ix2 r s) = G3 m c ((win0_3.rect t).emb (ix2 r s))
  have e : ((win0_3.rect t).emb (ix2 r s) : S512x512.Idx)
      = ix2 ⟨win0_2.index t 0 * 512 + r.val, by omega⟩ s :=
    Shape.idx_ext₂ ((win0_3.rect_emb_val t (ix2 r s) 0).trans (by rw [hi.2.2.2.2.1]; rfl))
      ((win0_3.rect_emb_val t (ix2 r s) 1).trans (by rw [hi.2.2.2.2.2.1]; rw [Nat.lt_one_iff.mp hl1]; simp))
  rw [e]
  exact same3 _ _ _ _ r s _ (fun k => in0_at m c t k r (by omega)) (fun k l => in1_at m c t k l)

theorem covered3 (i : S512x512.Idx) : ∃ t : Fin cfg0.N, (cfg0.win 3).flush t = true ∧ i ∈ ((cfg0.win 3).blk t).view.set := by
  have h0 : (i 0).val < 512 := (i 0).isLt
  have h1 : (i 1).val < 512 := (i 1).isLt
  obtain ⟨t, hf⟩ := index_onto ⟨(i 0).val / 512, by omega⟩ ⟨(i 1).val / 512, by omega⟩
  have hi := index_maps t
  have e0 := hf.2.2.1
  have e1 := hf.2.2.2
  dsimp only at e0 e1
  refine ⟨t, hf.2.1, ?_⟩
  show i ∈ ((View.whole main_v0_1).slice (win0_3.rect t)).set
  rw [View.set_slice_whole, Rect.mem_set_unit]
  intro a
  match a with
  | ⟨0, _⟩ => show win0_3.index t 0 * 512 ≤ (i 0).val ∧ (i 0).val < win0_3.index t 0 * 512 + 512
              rw [hi.2.2.2.2.1]; omega
  | ⟨1, _⟩ => show win0_3.index t 1 * 512 ≤ (i 1).val ∧ (i 1).val < win0_3.index t 1 * 512 + 512
              rw [hi.2.2.2.2.2.1]; omega

/-- After the run the result array is `G3`. -/
theorem final3 (c : Dev nD) : (dats m 0 c).arrAt 3 cfg0.N = G3 m c :=
  (dats m 0 c).arrAt_eq_of_cover 3 (G3 m c) (fun t _ => flushed3_eq m c t) covered3

/-- The kernel and the reference leave equal results. -/
theorem algebraic : Cert.algebraic_GluGateDwIdeal_GluGateDwRefIdeal := fun m g m' g' _ hagree =>
  ⟨fun c => G2 m c, fun c => G3 m c,
    (θ_run _ _ _).mono (fun r h c => ⟨(h c).1.trans (final2 m c), (h c).2.1.trans (final3 m c), (h c).2.2⟩)
      (Value.run_blocks (F := Ideal) m g),
    (θ_run _ _ _).mono (fun r h c => by
        obtain ⟨e0, e1⟩ := hagree c
        refine ⟨(h c).1.trans ?_, (h c).2.1.trans ?_, (h c).2.2⟩
        · rw [e0, e1]; rfl
        · rw [e0, e1]; rfl)
      (Cert.GluGateDwRefIdeal.Value.run (F := Ideal) m' g')⟩

end Cert.Hand.GluGateDw

end
-- ==== Proof.AttnNormBwd.lean ====
/-
  The gradient of the attention output's normalisation with respect to its input and its gain, on one device's 4096
  tokens: each grid point takes 512 rows; the gain's gradient is one row that the eight points add up.
-/
module

public import proofs.«01_k».proof.Proof.Gen.AttnNormBwdIdeal.Value
public import proofs.«01_k».proof.Proof.Gen.AttnNormBwdRefIdeal.Run
public import proofs.«01_k».proof.Proof.Gen.AttnNormBwdRefIdeal.Read
public import proofs.«01_k».proof.Defs
public import Idealize.ShloMosaic.Lib.Pointwise
public import Idealize.ShloMosaic.Lib.Pipeline.Value
public import proofs.«01_k».proof.Proof.Blocks
public import Idealize.ShloMosaic.Lib.Tactic

@[expose] public section

set_option maxRecDepth 16384

noncomputable section

namespace Cert.Hand.AttnNormBwd

open Cert.AttnNormBwdIdeal Cert.AttnNormBwdIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

theorem hz : (![0, 0] : Fin 2 → Nat) = fun _ => 0 := funext fun a => by fin_cases a <;> rfl

/-! ## What a grid point leaves in its output blocks -/

theorem out_A_3 (c : Dev nD) (i : grid0.Coords) (a0 : Memref sig .tc .vmem S512x512 .f32) (h0 : a0.IsWhole) (a1 : Memref sig .tc .vmem S512x512 .f32) (h1 : a1.IsWhole) (a2 : Memref sig .tc .vmem S1x512 .f32) (h2 : a2.IsWhole) (a3 : Memref sig .tc .vmem S512x512 .f32) (h3 : a3.IsWhole) (a4 : Memref sig .tc .vmem S1x512 .f32) (h4 : a4.IsWhole) (hc : cond0_0 i)
    (x0 : Vec Ideal S512x512 .f32) (x1 : Vec Ideal S512x512 .f32) (x2 : Vec Ideal S1x512 .f32) :
    out0_A_3 c i a0 h0 a1 h1 a2 h2 a3 h3 a4 h4 hc x0 x1 x2 = k0_pay6 x0 x1 x2 := by
  unfold out0_A_3
  rw [View.read_writes_eq_canon _ _ _ (cover0_A_3 c i a0 h0 a1 h1 a2 h2 a3 h3 a4 h4 hc x0 x1 x2)]
  unfold kernelRun0_A
  dsimp only
  sl_unfold_words
  rw [View.canon_unit_zero hz]
  simp only [View.readAt_eq_ld, h0.read_unread, h1.read_unread, h2.read_unread, View.ld_unit_zero (S := S1x512) hz, View.ld_unit_zero (S := S512x512) hz]

theorem out_A_4 (c : Dev nD) (i : grid0.Coords) (a0 : Memref sig .tc .vmem S512x512 .f32) (h0 : a0.IsWhole) (a1 : Memref sig .tc .vmem S512x512 .f32) (h1 : a1.IsWhole) (a2 : Memref sig .tc .vmem S1x512 .f32) (h2 : a2.IsWhole) (a3 : Memref sig .tc .vmem S512x512 .f32) (h3 : a3.IsWhole) (a4 : Memref sig .tc .vmem S1x512 .f32) (h4 : a4.IsWhole) (hc : cond0_0 i)
    (x0 : Vec Ideal S512x512 .f32) (x1 : Vec Ideal S512x512 .f32) (x2 : Vec Ideal S1x512 .f32) :
    out0_A_4 c i a0 h0 a1 h1 a2 h2 a3 h3 a4 h4 hc x0 x1 x2 = k0_pay2 (k0_pay5 x0 x1) (k0_pay1 (F := Ideal)) := by
  unfold out0_A_4
  rw [View.read_writes_eq_canon _ _ _ (cover0_A_4 c i a0 h0 a1 h1 a2 h2 a3 h3 a4 h4 hc x0 x1 x2)]
  unfold kernelRun0_A
  dsimp only
  sl_unfold_words
  rw [View.canon_cons_unit_zero (S := S1x512) hz, View.readCov_unit_zero (S := S1x512) _ hz]
  simp only [View.readAt_eq_ld, h0.read_unread, h1.read_unread, h2.read_unread, View.ld_unit_zero (S := S1x512) hz, View.ld_unit_zero (S := S512x512) hz]

theorem out_B_3 (c : Dev nD) (i : grid0.Coords) (a0 : Memref sig .tc .vmem S512x512 .f32) (h0 : a0.IsWhole) (a1 : Memref sig .tc .vmem S512x512 .f32) (h1 : a1.IsWhole) (a2 : Memref sig .tc .vmem S1x512 .f32) (h2 : a2.IsWhole) (a3 : Memref sig .tc .vmem S512x512 .f32) (h3 : a3.IsWhole) (a4 : Memref sig .tc .vmem S1x512 .f32) (h4 : a4.IsWhole) (hc : ¬cond0_0 i)
    (x0 : Vec Ideal S512x512 .f32) (x1 : Vec Ideal S512x512 .f32) (x2 : Vec Ideal S1x512 .f32) (o4 : Vec Ideal S1x512 .f32) :
    out0_B_3 c i a0 h0 a1 h1 a2 h2 a3 h3 a4 h4 hc x0 x1 x2 o4 = k0_pay6 x0 x1 x2 := by
  unfold out0_B_3
  rw [View.read_writes_eq_canon _ _ _ (cover0_B_3 c i a0 h0 a1 h1 a2 h2 a3 h3 a4 h4 hc x0 x1 x2 o4)]
  unfold kernelRun0_B
  dsimp only
  sl_unfold_words
  rw [View.canon_unit_zero hz]
  simp only [View.readAt_eq_ld, h0.read_unread, h1.read_unread, h2.read_unread, h4.read_unread, View.ld_unit_zero (S := S1x512) hz, View.ld_unit_zero (S := S512x512) hz]

theorem out_B_4 (c : Dev nD) (i : grid0.Coords) (a0 : Memref sig .tc .vmem S512x512 .f32) (h0 : a0.IsWhole) (a1 : Memref sig .tc .vmem S512x512 .f32) (h1 : a1.IsWhole) (a2 : Memref sig .tc .vmem S1x512 .f32) (h2 : a2.IsWhole) (a3 : Memref sig .tc .vmem S512x512 .f32) (h3 : a3.IsWhole) (a4 : Memref sig .tc .vmem S1x512 .f32) (h4 : a4.IsWhole) (hc : ¬cond0_0 i)
    (x0 : Vec Ideal S512x512 .f32) (x1 : Vec Ideal S512x512 .f32) (x2 : Vec Ideal S1x512 .f32) (o4 : Vec Ideal S1x512 .f32) :
    out0_B_4 c i a0 h0 a1 h1 a2 h2 a3 h3 a4 h4 hc x0 x1 x2 o4 = k0_pay2 (k0_pay5 x0 x1) o4 := by
  unfold out0_B_4
  rw [View.read_writes_eq_canon _ _ _ (cover0_B_4 c i a0 h0 a1 h1 a2 h2 a3 h3 a4 h4 hc x0 x1 x2 o4)]
  unfold kernelRun0_B
  dsimp only
  sl_unfold_words
  rw [View.canon_unit_zero hz]
  simp only [View.readAt_eq_ld, h0.read_unread, h1.read_unread, h2.read_unread, h4.read_unread, View.ld_unit_zero (S := S1x512) hz, View.ld_unit_zero (S := S512x512) hz]

/-! ## What a grid point reads -/

/-- Grid point `t` takes rows `512 t` to `512 t + 511`; the rest stays in place. -/
theorem index_maps : ∀ t : Fin cfg0.N,
    win0_0.index t 0 = t.val
    ∧ win0_0.index t 1 = 0
    ∧ win0_1.index t 0 = t.val
    ∧ win0_1.index t 1 = 0
    ∧ win0_2.index t 0 = 0
    ∧ win0_2.index t 1 = 0
    ∧ win0_3.index t 0 = t.val
    ∧ win0_3.index t 1 = 0
    ∧ win0_4.index t 0 = 0
    ∧ win0_4.index t 1 = 0 :=
  (by decide +kernel : ∀ t : Fin grid0.N, _)

/-- The argument arrays, and the blocks of them that grid point `t` reads. -/
abbrev A0 (c : Dev nD) : S4096x512.Idx → EReal := m ((c : Thread nD τ).loc main_arg0)
abbrev A1 (c : Dev nD) : S4096x1024.Idx → EReal := m ((c : Thread nD τ).loc main_arg1)
abbrev A2 (c : Dev nD) : S1x512.Idx → EReal := m ((c : Thread nD τ).loc main_arg2)
abbrev I0 (c : Dev nD) (t : Fin cfg0.N) : S512x512.Idx → EReal := iblk m c 0 t
abbrev I1 (c : Dev nD) (t : Fin cfg0.N) : S512x512.Idx → EReal := iblk m c 1 t
abbrev I2 (c : Dev nD) (t : Fin cfg0.N) : S1x512.Idx → EReal := iblk m c 2 t

theorem in0_at (c : Dev nD) (t : Fin cfg0.N) (r : Fin 512) (k : Fin 512) (h : t.val * 512 + r.val < 4096) :
    I0 m c t (ix2 r k) = A0 m c (ix2 ⟨t.val * 512 + r.val, h⟩ k) := by
  have hi := index_maps t
  show m ((c : Thread nD τ).loc main_arg0) ((win0_0.rect t).emb (ix2 r k)) = _
  exact congrArg _ (Shape.idx_ext₂ ((win0_0.rect_emb_val t (ix2 r k) 0).trans (by rw [hi.1]; rfl))
    ((win0_0.rect_emb_val t (ix2 r k) 1).trans (by rw [hi.2.1]; simp)))

theorem in1_at (c : Dev nD) (t : Fin cfg0.N) (r : Fin 512) (k : Fin 512) (h : t.val * 512 + r.val < 4096) :
    I1 m c t (ix2 r k) = A1 m c (ix2 ⟨t.val * 512 + r.val, h⟩ ⟨k.val, by omega⟩) := by
  have hi := index_maps t
  show m ((c : Thread nD τ).loc main_arg1) ((win0_1.rect t).emb (ix2 r k)) = _
  exact congrArg _ (Shape.idx_ext₂ ((win0_1.rect_emb_val t (ix2 r k) 0).trans (by rw [hi.2.2.1]; rfl))
    ((win0_1.rect_emb_val t (ix2 r k) 1).trans (by rw [hi.2.2.2.1]; simp)))

theorem in2_at (c : Dev nD) (t : Fin cfg0.N) (r : Fin 1) (k : Fin 512) :
    I2 m c t (ix2 r k) = A2 m c (ix2 r k) := by
  have hi := index_maps t
  show m ((c : Thread nD τ).loc main_arg2) ((win0_2.rect t).emb (ix2 r k)) = _
  exact congrArg _ (Shape.idx_ext₂ ((win0_2.rect_emb_val t (ix2 r k) 0).trans (by rw [hi.2.2.2.2.1]; simp))
    ((win0_2.rect_emb_val t (ix2 r k) 1).trans (by rw [hi.2.2.2.2.2.1]; simp)))

/-! ## A block of each result and the reference's array -/

theorem same3 (x0 : Vec Ideal S512x512 .f32) (x1 : Vec Ideal S512x512 .f32) (x2 : Vec Ideal S1x512 .f32)
    (X0 : Vec Ideal S4096x512 .f32) (X1 : Vec Ideal S4096x1024 .f32) (X2 : Vec Ideal S1x512 .f32)
    (r : Fin 512) (s : Fin 512) (R : Fin 4096)
    (h0 : ∀ l : Fin 512, x0 (ix2 r l) = X0 (ix2 R l))
    (h1 : ∀ l : Fin 512, x1 (ix2 r l) = X1 (ix2 R ⟨l.val, by omega⟩))
    (h2 : ∀ (k : Fin 1) (l : Fin 512), x2 (ix2 k l) = X2 (ix2 k l)) :
    k0_pay6 x0 x1 x2 (ix2 r s)
      = Cert.AttnNormBwdRefIdeal.Read.val_main_v34 (F := Ideal) X0 X1 X2 (ix2 R s) := by
  unfold_payloads
  pointwise [Cert.AttnNormBwdRefIdeal.Read.val_main_v0, Cert.AttnNormBwdRefIdeal.Read.val_main_cst, Cert.AttnNormBwdRefIdeal.Read.val_main_v1, Cert.AttnNormBwdRefIdeal.Read.val_main_v2, Cert.AttnNormBwdRefIdeal.Read.val_main_cst_0, Cert.AttnNormBwdRefIdeal.Read.val_main_v3, Cert.AttnNormBwdRefIdeal.Read.val_main_v4, Cert.AttnNormBwdRefIdeal.Read.val_main_cst_1, Cert.AttnNormBwdRefIdeal.Read.val_main_v5, Cert.AttnNormBwdRefIdeal.Read.val_main_v6, Cert.AttnNormBwdRefIdeal.Read.val_main_v7, Cert.AttnNormBwdRefIdeal.Read.val_main_v8, Cert.AttnNormBwdRefIdeal.Read.val_main_cst_2, Cert.AttnNormBwdRefIdeal.Read.val_main_v9, Cert.AttnNormBwdRefIdeal.Read.val_main_v10, Cert.AttnNormBwdRefIdeal.Read.val_main_v11, Cert.AttnNormBwdRefIdeal.Read.val_main_v12, Cert.AttnNormBwdRefIdeal.Read.val_main_v13, Cert.AttnNormBwdRefIdeal.Read.val_main_v14, Cert.AttnNormBwdRefIdeal.Read.val_main_v15, Cert.AttnNormBwdRefIdeal.Read.val_main_v16, Cert.AttnNormBwdRefIdeal.Read.val_main_cst_3, Cert.AttnNormBwdRefIdeal.Read.val_main_v17, Cert.AttnNormBwdRefIdeal.Read.val_main_v18, Cert.AttnNormBwdRefIdeal.Read.val_main_v19, Cert.AttnNormBwdRefIdeal.Read.val_main_v20, Cert.AttnNormBwdRefIdeal.Read.val_main_v21, Cert.AttnNormBwdRefIdeal.Read.val_main_cst_4, Cert.AttnNormBwdRefIdeal.Read.val_main_v22, Cert.AttnNormBwdRefIdeal.Read.val_main_v23, Cert.AttnNormBwdRefIdeal.Read.val_main_v24, Cert.AttnNormBwdRefIdeal.Read.val_main_v25, Cert.AttnNormBwdRefIdeal.Read.val_main_v26, Cert.AttnNormBwdRefIdeal.Read.val_main_cst_5, Cert.AttnNormBwdRefIdeal.Read.val_main_v27, Cert.AttnNormBwdRefIdeal.Read.val_main_v28, Cert.AttnNormBwdRefIdeal.Read.val_main_cst_6, Cert.AttnNormBwdRefIdeal.Read.val_main_v29, Cert.AttnNormBwdRefIdeal.Read.val_main_v30, Cert.AttnNormBwdRefIdeal.Read.val_main_v31, Cert.AttnNormBwdRefIdeal.Read.val_main_v32, Cert.AttnNormBwdRefIdeal.Read.val_main_v33, Cert.AttnNormBwdRefIdeal.Read.val_main_v34]
  simp only [h0, h1, h2, add_assoc]

/-- The result array as a function of the argument arrays: the reference's own term. -/
def G3 (c : Dev nD) : S4096x512.Idx → EReal :=
  Cert.AttnNormBwdRefIdeal.Read.val_main_v34 (F := Ideal) (A0 m c) (A1 m c) (A2 m c)

theorem flushed3_eq (c : Dev nD) (t : Fin cfg0.N) :
    (dats m 0 c).flushed 3 t = ((cfg0.win 3).blk t).view.read (Elt Ideal) (G3 m c) := by
  have ht : t.val < 8 := Nat.lt_of_lt_of_eq t.isLt N_0
  have hi := index_maps t
  funext y
  obtain ⟨r, s, rfl⟩ : ∃ (r : Fin 512) (s : Fin 512), y = ix2 r s := ⟨y 0, y 1, eq_ix2 y⟩
  have hb : (dats m 0 c).flushed 3 t (ix2 r s)
      = k0_pay6 (iblk m c 0 t) (iblk m c 1 t) (iblk m c 2 t) (ix2 r s) := by
    by_cases h : t.val % 8 = 0
    · rw [Value.flushed3_A m c t h, out_A_3]; rfl
    · rw [Value.flushed3_B m c t h, out_B_3]; rfl
  show _ = G3 m c ((win0_3.rect t).emb (ix2 r s))
  have e : ((win0_3.rect t).emb (ix2 r s) : S4096x512.Idx) = ix2 ⟨t.val * 512 + r.val, by omega⟩ s :=
    Shape.idx_ext₂ ((win0_3.rect_emb_val t (ix2 r s) 0).trans (by rw [hi.2.2.2.2.2.2.1]; rfl))
      ((win0_3.rect_emb_val t (ix2 r s) 1).trans (by rw [hi.2.2.2.2.2.2.2.1]; simp))
  rw [hb, e]
  exact same3 _ _ _ _ _ _ r s _ (fun l => in0_at m c t r l (by omega)) (fun l => in1_at m c t r l (by omega)) (fun k l => in2_at m c t k l)

theorem covered3 (i : S4096x512.Idx) : ∃ t : Fin cfg0.N, (cfg0.win 3).flush t = true ∧ i ∈ ((cfg0.win 3).blk t).view.set := by
  have h0 : (i 0).val < 4096 := (i 0).isLt
  have h1 : (i 1).val < 512 := (i 1).isLt
  obtain ⟨t, ht⟩ : ∃ t : Fin cfg0.N, t.val = (i 0).val / 512 := ⟨⟨(i 0).val / 512, Nat.lt_of_lt_of_eq (by omega) N_0.symm⟩, rfl⟩
  have hi := index_maps t
  refine ⟨t, flush0_3 t, ?_⟩
  show i ∈ ((View.whole main_v0_0).slice (win0_3.rect t)).set
  rw [View.set_slice_whole, Rect.mem_set_unit]
  intro a
  match a with
  | ⟨0, _⟩ => show win0_3.index t 0 * 512 ≤ (i 0).val ∧ (i 0).val < win0_3.index t 0 * 512 + 512
              rw [hi.2.2.2.2.2.2.1]; omega
  | ⟨1, _⟩ => show win0_3.index t 1 * 512 ≤ (i 1).val ∧ (i 1).val < win0_3.index t 1 * 512 + 512
              rw [hi.2.2.2.2.2.2.2.1]; omega

/-- After the run the result array is `G3`. -/
theorem final3 (c : Dev nD) : (dats m 0 c).arrAt 3 cfg0.N = G3 m c :=
  (dats m 0 c).arrAt_eq_of_cover 3 (G3 m c) (fun t _ => flushed3_eq m c t) covered3

/-! ## The row that the grid points add up: window 4 -/

theorem zero4_at (s : Fin 512) : k0_pay1 (F := Ideal) (ix2 0 s) = 0 := by
  pointwise [k0_pay1]

theorem step4_at (v o : Vec Ideal S1x512 .f32) (s : Fin 512) : k0_pay2 v o (ix2 0 s) = o (ix2 0 s) + v (ix2 0 s) := by
  pointwise [k0_pay2]

/-- The reference's sum over all rows is the sum of the points' sums over their own rows. -/
theorem split4 (x0 : Fin 8 → S512x512.Idx → EReal) (x1 : Fin 8 → S512x512.Idx → EReal)
    (X0 : Vec Ideal S4096x512 .f32) (X1 : Vec Ideal S4096x1024 .f32)
    (h0 : ∀ (t : Fin 8) (r : Fin 512) (l : Fin 512), x0 t (ix2 r l) = X0 (ix2 ⟨t.val * 512 + r.val, by omega⟩ l))
    (h1 : ∀ (t : Fin 8) (r : Fin 512) (l : Fin 512), x1 t (ix2 r l) = X1 (ix2 ⟨t.val * 512 + r.val, by omega⟩ ⟨l.val, by omega⟩)) (s : Fin 512) :
    Cert.AttnNormBwdRefIdeal.Read.val_main_v18 (F := Ideal) X0 X1 (ix2 0 s)
      = ∑ t : Fin 8, k0_pay5 (F := Ideal) (x0 t) (x1 t) (ix2 0 s) := by
  unfold_payloads
  pointwise [Cert.AttnNormBwdRefIdeal.Read.val_main_v0, Cert.AttnNormBwdRefIdeal.Read.val_main_cst, Cert.AttnNormBwdRefIdeal.Read.val_main_v1, Cert.AttnNormBwdRefIdeal.Read.val_main_v2, Cert.AttnNormBwdRefIdeal.Read.val_main_cst_0, Cert.AttnNormBwdRefIdeal.Read.val_main_v3, Cert.AttnNormBwdRefIdeal.Read.val_main_v4, Cert.AttnNormBwdRefIdeal.Read.val_main_cst_1, Cert.AttnNormBwdRefIdeal.Read.val_main_v5, Cert.AttnNormBwdRefIdeal.Read.val_main_v6, Cert.AttnNormBwdRefIdeal.Read.val_main_v7, Cert.AttnNormBwdRefIdeal.Read.val_main_v8, Cert.AttnNormBwdRefIdeal.Read.val_main_cst_2, Cert.AttnNormBwdRefIdeal.Read.val_main_v9, Cert.AttnNormBwdRefIdeal.Read.val_main_v10, Cert.AttnNormBwdRefIdeal.Read.val_main_v11, Cert.AttnNormBwdRefIdeal.Read.val_main_v12, Cert.AttnNormBwdRefIdeal.Read.val_main_v13, Cert.AttnNormBwdRefIdeal.Read.val_main_v14, Cert.AttnNormBwdRefIdeal.Read.val_main_v15, Cert.AttnNormBwdRefIdeal.Read.val_main_v16, Cert.AttnNormBwdRefIdeal.Read.val_main_cst_3, Cert.AttnNormBwdRefIdeal.Read.val_main_v17, Cert.AttnNormBwdRefIdeal.Read.val_main_v18, Cert.AttnNormBwdRefIdeal.Read.val_main_v19, Cert.AttnNormBwdRefIdeal.Read.val_main_v20, Cert.AttnNormBwdRefIdeal.Read.val_main_v21, Cert.AttnNormBwdRefIdeal.Read.val_main_cst_4, Cert.AttnNormBwdRefIdeal.Read.val_main_v22, Cert.AttnNormBwdRefIdeal.Read.val_main_v23, Cert.AttnNormBwdRefIdeal.Read.val_main_v24, Cert.AttnNormBwdRefIdeal.Read.val_main_v25, Cert.AttnNormBwdRefIdeal.Read.val_main_v26, Cert.AttnNormBwdRefIdeal.Read.val_main_cst_5, Cert.AttnNormBwdRefIdeal.Read.val_main_v27, Cert.AttnNormBwdRefIdeal.Read.val_main_v28, Cert.AttnNormBwdRefIdeal.Read.val_main_cst_6, Cert.AttnNormBwdRefIdeal.Read.val_main_v29, Cert.AttnNormBwdRefIdeal.Read.val_main_v30, Cert.AttnNormBwdRefIdeal.Read.val_main_v31, Cert.AttnNormBwdRefIdeal.Read.val_main_v32, Cert.AttnNormBwdRefIdeal.Read.val_main_v33, Cert.AttnNormBwdRefIdeal.Read.val_main_v34]
  rw [Blocks.sum_rows]
  refine Finset.sum_congr rfl fun t _ => ?_
  pointwise
  simp only [h0, h1]

def G4 (c : Dev nD) : S1x512.Idx → EReal :=
  Cert.AttnNormBwdRefIdeal.Read.val_main_v18 (F := Ideal) (A0 m c) (A1 m c)

/-- Point `n`'s part of the sum at entry `s`; nothing past the last point. -/
def term4 (c : Dev nD) (s : Fin 512) (n : ℕ) : EReal :=
  if h : n < cfg0.N then k0_pay5 (iblk m c 0 ⟨n, h⟩) (iblk m c 1 ⟨n, h⟩) (ix2 0 s) else 0

/-- After point `n` the block holds the parts so far. -/
theorem acc4_at (c : Dev nD) (s : Fin 512) : ∀ (n : ℕ) (h : n < cfg0.N),
    (outsAt0 m c n h).2 (ix2 0 s) = ∑ i ∈ Finset.range (n + 1), term4 m c s i
  | 0, h => by
    have e := outsAt0_A m c ⟨0, h⟩ rfl
    dsimp only at e ⊢
    rw [e]
    dsimp only
    rw [out_A_4, step4_at, zero4_at, zero_add, Finset.sum_range_one, term4, dif_pos h]
  | n + 1, h => by
    have hN : cfg0.N = 8 := N_0
    have e := outsAt0_B m c ⟨n + 1, h⟩ (by dsimp only; omega)
    dsimp only at e ⊢
    rw [e]
    dsimp only
    rw [out_B_4, step4_at, Finset.sum_range_succ, ← acc4_at c s n (Nat.lt_of_succ_lt h), term4, dif_pos h]
    rfl

/-- All the points: the reference's sum. -/
theorem term4_sum (c : Dev nD) (s : Fin 512) : (∑ i ∈ Finset.range 8, term4 m c s i) = G4 m c (ix2 0 s) := by
  have hN : cfg0.N = 8 := N_0
  rw [G4, split4 (fun t => I0 m c ⟨t.val, Nat.lt_of_lt_of_eq t.isLt hN.symm⟩) (fun t => I1 m c ⟨t.val, Nat.lt_of_lt_of_eq t.isLt hN.symm⟩) _ _ (fun t r l => in0_at m c _ r l (by omega)) (fun t r l => in1_at m c _ r l (by omega)), Finset.sum_range]
  exact Finset.sum_congr rfl fun t _ => by rw [term4, dif_pos (Nat.lt_of_lt_of_eq t.isLt hN.symm)]

/-- The one point that writes the row back writes the whole of it. -/
theorem flushed4_eq (c : Dev nD) (t : Fin cfg0.N) (hf : (cfg0.win 4).flush t = true) :
    (dats m 0 c).flushed 4 t = ((cfg0.win 4).blk t).view.read (Elt Ideal) (G4 m c) := by
  have ht : t.val < 8 := Nat.lt_of_lt_of_eq t.isLt N_0
  have h7 : t.val = 7 := by have := (flush0_4 t).mp hf; omega
  have hi := index_maps t
  funext y
  obtain ⟨s, rfl⟩ : ∃ s : Fin 512, y = ix2 0 s := Blocks.row_idx y
  rw [Value.flushed4]
  show (outsAt0 m c t.val t.isLt).2 (ix2 0 s) = G4 m c ((win0_4.rect t).emb (ix2 0 s))
  have e : ((win0_4.rect t).emb (ix2 0 s) : S1x512.Idx) = ix2 0 s :=
    Shape.idx_ext₂ ((win0_4.rect_emb_val t (ix2 0 s) 0).trans (by rw [hi.2.2.2.2.2.2.2.2.1]; simp))
      ((win0_4.rect_emb_val t (ix2 0 s) 1).trans (by rw [hi.2.2.2.2.2.2.2.2.2]; simp))
  rw [e, acc4_at, ← term4_sum, h7]

theorem covered4 (i : S1x512.Idx) : ∃ t : Fin cfg0.N, (cfg0.win 4).flush t = true ∧ i ∈ ((cfg0.win 4).blk t).view.set := by
  have h0 : (i 0).val < 1 := (i 0).isLt
  have h1 : (i 1).val < 512 := (i 1).isLt
  obtain ⟨t, ht⟩ : ∃ t : Fin cfg0.N, t.val = 7 := ⟨⟨7, Nat.lt_of_lt_of_eq (by omega) N_0.symm⟩, rfl⟩
  have hi := index_maps t
  refine ⟨t, (flush0_4 t).mpr (by omega), ?_⟩
  show i ∈ ((View.whole main_v0_1).slice (win0_4.rect t)).set
  rw [View.set_slice_whole, Rect.mem_set_unit]
  intro a
  match a with
  | ⟨0, _⟩ => show win0_4.index t 0 * 1 ≤ (i 0).val ∧ (i 0).val < win0_4.index t 0 * 1 + 1
              rw [hi.2.2.2.2.2.2.2.2.1]; omega
  | ⟨1, _⟩ => show win0_4.index t 1 * 512 ≤ (i 1).val ∧ (i 1).val < win0_4.index t 1 * 512 + 512
              rw [hi.2.2.2.2.2.2.2.2.2]; omega

theorem final4 (c : Dev nD) : (dats m 0 c).arrAt 4 cfg0.N = G4 m c :=
  (dats m 0 c).arrAt_eq_of_cover 4 (G4 m c) (flushed4_eq m c) covered4

/-- The kernel and the reference leave equal results. -/
theorem algebraic : Cert.algebraic_AttnNormBwdIdeal_AttnNormBwdRefIdeal := fun m g m' g' _ hagree =>
  ⟨fun c => G3 m c, fun c => G4 m c,
    (θ_run _ _ _).mono (fun r h c => ⟨(h c).1.trans (final3 m c), (h c).2.1.trans (final4 m c), (h c).2.2⟩)
      (Value.run_blocks (F := Ideal) m g),
    (θ_run _ _ _).mono (fun r h c => by
        obtain ⟨e0, e1, e2⟩ := hagree c
        refine ⟨(h c).1.trans ?_, (h c).2.1.trans ?_, (h c).2.2⟩
        · rw [e0, e1, e2]; rfl
        · rw [e0, e1]; rfl)
      (Cert.AttnNormBwdRefIdeal.Value.run (F := Ideal) m' g')⟩

end Cert.Hand.AttnNormBwd

end
-- ==== Proof.MlpIn.lean ====
/-
  The first product of the squared-ReLU block, and the squared rectification of it, on one device's 4096 tokens.
-/
module

public import proofs.«01_k».proof.Proof.Gen.MlpInIdeal.Value
public import proofs.«01_k».proof.Proof.Gen.MlpInRefIdeal.Run
public import proofs.«01_k».proof.Proof.Gen.MlpInRefIdeal.Read
public import proofs.«01_k».proof.Defs
public import Idealize.ShloMosaic.Lib.Pointwise
public import Idealize.ShloMosaic.Lib.Pipeline.Value

@[expose] public section

set_option maxRecDepth 16384

noncomputable section

namespace Cert.Hand.MlpIn

open Cert.MlpInIdeal Cert.MlpInIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- Grid points tile the result: 4 row blocks by 2 column blocks; where each argument's block lies. -/
theorem index_maps : ∀ t : Fin cfg0.N,
    win0_0.index t 0 = win0_2.index t 0
    ∧ win0_0.index t 1 = 0
    ∧ win0_1.index t 0 = 0
    ∧ win0_1.index t 1 = win0_2.index t 1
    ∧ win0_3.index t 0 = win0_2.index t 0
    ∧ win0_3.index t 1 = win0_2.index t 1
    ∧ win0_2.index t 0 < 4
    ∧ win0_2.index t 1 < 2 :=
  (by decide +kernel : ∀ t : Fin grid0.N, _)

/-- Every block of the results belongs to some grid point, and every point writes back. -/
theorem index_onto : ∀ (a : Fin 4) (b : Fin 2), ∃ t : Fin cfg0.N,
    (cfg0.win 2).flush t = true ∧ (cfg0.win 3).flush t = true
    ∧ win0_2.index t 0 = a.val ∧ win0_2.index t 1 = b.val :=
  (by decide +kernel : ∀ (a : Fin 4) (b : Fin 2), ∃ t : Fin grid0.N, _)

/-- The argument arrays. -/
abbrev A0 (c : Dev nD) : S4096x1024.Idx → EReal := m ((c : Thread nD τ).loc main_arg0)
abbrev A1 (c : Dev nD) : S1024x4096.Idx → EReal := m ((c : Thread nD τ).loc main_arg1)

/-! ## What a grid point reads -/

theorem in0_at (c : Dev nD) (t : Fin cfg0.N) (r : Fin 1024) (s : Fin 1024) (h0 : win0_2.index t 0 * 1024 + r.val < 4096) :
    iblk m c 0 t (ix2 r s) = A0 m c (ix2 ⟨win0_2.index t 0 * 1024 + r.val, h0⟩ s) := by
  have hi := index_maps t
  show m ((c : Thread nD τ).loc main_arg0) ((win0_0.rect t).emb (ix2 r s)) = _
  exact congrArg _ (Shape.idx_ext₂ ((win0_0.rect_emb_val t (ix2 r s) 0).trans (by rw [hi.1]; rfl))
    ((win0_0.rect_emb_val t (ix2 r s) 1).trans (by rw [hi.2.1]; simp)))

theorem in1_at (c : Dev nD) (t : Fin cfg0.N) (r : Fin 1024) (s : Fin 2048) (h1 : win0_2.index t 1 * 2048 + s.val < 4096) :
    iblk m c 1 t (ix2 r s) = A1 m c (ix2 r ⟨win0_2.index t 1 * 2048 + s.val, h1⟩) := by
  have hi := index_maps t
  show m ((c : Thread nD τ).loc main_arg1) ((win0_1.rect t).emb (ix2 r s)) = _
  exact congrArg _ (Shape.idx_ext₂ ((win0_1.rect_emb_val t (ix2 r s) 0).trans (by rw [hi.2.2.1]; simp))
    ((win0_1.rect_emb_val t (ix2 r s) 1).trans (by rw [hi.2.2.2.1]; rfl)))

/-! ## A block of each result and the reference's array -/

theorem same2 (x0 : Vec Ideal S1024x1024 .bf16) (x1 : Vec Ideal S1024x2048 .bf16)
    (X0 : Vec Ideal S4096x1024 .bf16) (X1 : Vec Ideal S1024x4096 .bf16)
    (r : Fin 1024) (s : Fin 2048) (R : Fin 4096) (S : Fin 4096)
    (h0 : ∀ (l : Fin 1024), x0 (ix2 r l) = X0 (ix2 R l))
    (h1 : ∀ (k : Fin 1024), x1 (ix2 k s) = X1 (ix2 k S)) :
    out0_2 (F := Ideal) x0 x1 (ix2 r s)
      = Cert.MlpInRefIdeal.Read.val_main_v5 (F := Ideal) X0 X1 (ix2 R S) := by
  unfold out0_2
  rw [View.canon_unit_zero (by decide)]
  simp only [View.ld_unit_zero (S := S1024x1024) (by decide : (![0, 0] : Fin 2 → Nat) = fun _ => 0), View.ld_unit_zero (S := S1024x2048) (by decide : (![0, 0] : Fin 2 → Nat) = fun _ => 0)]
  unfold_payloads
  pointwise [Cert.MlpInRefIdeal.Read.val_main_v0, Cert.MlpInRefIdeal.Read.val_main_v1, Cert.MlpInRefIdeal.Read.val_main_v2, Cert.MlpInRefIdeal.Read.val_main_call0_cst, Cert.MlpInRefIdeal.Read.val_main_call0_v0, Cert.MlpInRefIdeal.Read.val_main_v3, Cert.MlpInRefIdeal.Read.val_main_v4, Cert.MlpInRefIdeal.Read.val_main_v5, Cert.MlpInRefIdeal.Read.val_main_v6]
  simp only [h0, h1]

theorem same3 (x0 : Vec Ideal S1024x1024 .bf16) (x1 : Vec Ideal S1024x2048 .bf16)
    (X0 : Vec Ideal S4096x1024 .bf16) (X1 : Vec Ideal S1024x4096 .bf16)
    (r : Fin 1024) (s : Fin 2048) (R : Fin 4096) (S : Fin 4096)
    (h0 : ∀ (l : Fin 1024), x0 (ix2 r l) = X0 (ix2 R l))
    (h1 : ∀ (k : Fin 1024), x1 (ix2 k s) = X1 (ix2 k S)) :
    out0_3 (F := Ideal) x0 x1 (ix2 r s)
      = Cert.MlpInRefIdeal.Read.val_main_v6 (F := Ideal) X0 X1 (ix2 R S) := by
  unfold out0_3
  rw [View.canon_unit_zero (by decide)]
  simp only [View.ld_unit_zero (S := S1024x1024) (by decide : (![0, 0] : Fin 2 → Nat) = fun _ => 0), View.ld_unit_zero (S := S1024x2048) (by decide : (![0, 0] : Fin 2 → Nat) = fun _ => 0)]
  unfold_payloads
  pointwise [Cert.MlpInRefIdeal.Read.val_main_v0, Cert.MlpInRefIdeal.Read.val_main_v1, Cert.MlpInRefIdeal.Read.val_main_v2, Cert.MlpInRefIdeal.Read.val_main_call0_cst, Cert.MlpInRefIdeal.Read.val_main_call0_v0, Cert.MlpInRefIdeal.Read.val_main_v3, Cert.MlpInRefIdeal.Read.val_main_v4, Cert.MlpInRefIdeal.Read.val_main_v5, Cert.MlpInRefIdeal.Read.val_main_v6]
  simp only [h0, h1]

/-- The result array as a function of the argument arrays: the reference's own term. -/
def G2 (c : Dev nD) : S4096x4096.Idx → EReal :=
  Cert.MlpInRefIdeal.Read.val_main_v5 (F := Ideal) (A0 m c) (A1 m c)

theorem flushed2_eq (c : Dev nD) (t : Fin cfg0.N) :
    (dats m 0 c).flushed 2 t = ((cfg0.win 2).blk t).view.read (Elt Ideal) (G2 m c) := by
  have hi := index_maps t
  have hl0 := hi.2.2.2.2.2.2.1
  have hl1 := hi.2.2.2.2.2.2.2
  rw [Value.flushed2]
  funext y
  obtain ⟨r, s, rfl⟩ : ∃ (r : Fin 1024) (s : Fin 2048), y = ix2 r s := ⟨y 0, y 1, eq_ix2 y⟩
  show out0_2 (iblk m c 0 t) (iblk m c 1 t) (ix2 r s) = G2 m c ((win0_2.rect t).emb (ix2 r s))
  have e : ((win0_2.rect t).emb (ix2 r s) : S4096x4096.Idx)
      = ix2 ⟨win0_2.index t 0 * 1024 + r.val, by omega⟩ ⟨win0_2.index t 1 * 2048 + s.val, by omega⟩ :=
    Shape.idx_ext₂ ((win0_2.rect_emb_val t (ix2 r s) 0).trans rfl)
      ((win0_2.rect_emb_val t (ix2 r s) 1).trans rfl)
  rw [e]
  exact same2 _ _ _ _ r s _ _ (fun l => in0_at m c t r l (by omega)) (fun k => in1_at m c t k s (by omega))

theorem covered2 (i : S4096x4096.Idx) : ∃ t : Fin cfg0.N, (cfg0.win 2).flush t = true ∧ i ∈ ((cfg0.win 2).blk t).view.set := by
  have h0 : (i 0).val < 4096 := (i 0).isLt
  have h1 : (i 1).val < 4096 := (i 1).isLt
  obtain ⟨t, hf⟩ := index_onto ⟨(i 0).val / 1024, by omega⟩ ⟨(i 1).val / 2048, by omega⟩
  have hi := index_maps t
  have e0 := hf.2.2.1
  have e1 := hf.2.2.2
  dsimp only at e0 e1
  refine ⟨t, hf.1, ?_⟩
  show i ∈ ((View.whole main_v0_0).slice (win0_2.rect t)).set
  rw [View.set_slice_whole, Rect.mem_set_unit]
  intro a
  match a with
  | ⟨0, _⟩ => show win0_2.index t 0 * 1024 ≤ (i 0).val ∧ (i 0).val < win0_2.index t 0 * 1024 + 1024
              omega
  | ⟨1, _⟩ => show win0_2.index t 1 * 2048 ≤ (i 1).val ∧ (i 1).val < win0_2.index t 1 * 2048 + 2048
              omega

/-- After the run the result array is `G2`. -/
theorem final2 (c : Dev nD) : (dats m 0 c).arrAt 2 cfg0.N = G2 m c :=
  (dats m 0 c).arrAt_eq_of_cover 2 (G2 m c) (fun t _ => flushed2_eq m c t) covered2

/-- The result array as a function of the argument arrays: the reference's own term. -/
def G3 (c : Dev nD) : S4096x4096.Idx → EReal :=
  Cert.MlpInRefIdeal.Read.val_main_v6 (F := Ideal) (A0 m c) (A1 m c)

theorem flushed3_eq (c : Dev nD) (t : Fin cfg0.N) :
    (dats m 0 c).flushed 3 t = ((cfg0.win 3).blk t).view.read (Elt Ideal) (G3 m c) := by
  have hi := index_maps t
  have hl0 := hi.2.2.2.2.2.2.1
  have hl1 := hi.2.2.2.2.2.2.2
  rw [Value.flushed3]
  funext y
  obtain ⟨r, s, rfl⟩ : ∃ (r : Fin 1024) (s : Fin 2048), y = ix2 r s := ⟨y 0, y 1, eq_ix2 y⟩
  show out0_3 (iblk m c 0 t) (iblk m c 1 t) (ix2 r s) = G3 m c ((win0_3.rect t).emb (ix2 r s))
  have e : ((win0_3.rect t).emb (ix2 r s) : S4096x4096.Idx)
      = ix2 ⟨win0_2.index t 0 * 1024 + r.val, by omega⟩ ⟨win0_2.index t 1 * 2048 + s.val, by omega⟩ :=
    Shape.idx_ext₂ ((win0_3.rect_emb_val t (ix2 r s) 0).trans (by rw [hi.2.2.2.2.1]; rfl))
      ((win0_3.rect_emb_val t (ix2 r s) 1).trans (by rw [hi.2.2.2.2.2.1]; rfl))
  rw [e]
  exact same3 _ _ _ _ r s _ _ (fun l => in0_at m c t r l (by omega)) (fun k => in1_at m c t k s (by omega))

theorem covered3 (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  obtain ⟨t, hf⟩ := index_onto ⟨(i 0).val / 1024, by omega⟩ ⟨(i 1).val / 2048, by omega⟩
  have hi := index_maps t
  have e0 := hf.2.2.1
  have e1 := hf.2.2.2
  dsimp only at e0 e1
  refine ⟨t, hf.2.1, ?_⟩
  show i ∈ ((View.whole main_v0_1).slice (win0_3.rect t)).set
  rw [View.set_slice_whole, Rect.mem_set_unit]
  intro a
  match a with
  | ⟨0, _⟩ => show win0_3.index t 0 * 1024 ≤ (i 0).val ∧ (i 0).val < win0_3.index t 0 * 1024 + 1024
              rw [hi.2.2.2.2.1]; omega
  | ⟨1, _⟩ => show win0_3.index t 1 * 2048 ≤ (i 1).val ∧ (i 1).val < win0_3.index t 1 * 2048 + 2048
              rw [hi.2.2.2.2.2.1]; omega

/-- After the run the result array is `G3`. -/
theorem final3 (c : Dev nD) : (dats m 0 c).arrAt 3 cfg0.N = G3 m c :=
  (dats m 0 c).arrAt_eq_of_cover 3 (G3 m c) (fun t _ => flushed3_eq m c t) covered3

/-- The kernel and the reference leave equal results. -/
theorem algebraic : Cert.algebraic_MlpInIdeal_MlpInRefIdeal := fun m g m' g' _ hagree =>
  ⟨fun c => G2 m c, fun c => G3 m c,
    (θ_run _ _ _).mono (fun r h c => ⟨(h c).1.trans (final2 m c), (h c).2.1.trans (final3 m c), (h c).2.2⟩)
      (Value.run_blocks (F := Ideal) m g),
    (θ_run _ _ _).mono (fun r h c => by
        obtain ⟨e0, e1⟩ := hagree c
        refine ⟨(h c).1.trans ?_, (h c).2.1.trans ?_, (h c).2.2⟩
        · rw [e0, e1]; rfl
        · rw [e0, e1]; rfl)
      (Cert.MlpInRefIdeal.Value.run (F := Ideal) m' g')⟩

end Cert.Hand.MlpIn

end
-- ==== Proof.Scale.lean ====
/-
  Constants of the loss and of the head normalisation, and scaling a sum by one of them.
-/
module

public import Idealize.ShloMosaic.PureOps.Ideal
public import Idealize.ShloMosaic.PureOps.Ideal.Laws
public import Idealize.ShloMosaic.Lib.IdealHost

@[expose] public section

noncomputable section

namespace Cert.Hand.Scale

open Idealize.ShloMosaic
open scoped BigOperators

theorem two : Ideal.ofBits .f32 0x40000000#32 = ((2 : ℝ) : EReal) := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

theorem width : Ideal.ofBits .f32 0x44800000#32 = ((1024 : ℝ) : EReal) := by
  simp [Ideal.ofBits, Ideal.ieee, -EReal.coe_mul]; norm_num

theorem inv_width : Ideal.ofBits .f32 0x3A800000#32 = ((1 / 1024 : ℝ) : EReal) := by
  simp [Ideal.ofBits, Ideal.ieee, -EReal.coe_mul]; norm_num

theorem half_inv_width : Ideal.ofBits .f32 0x3A000000#32 = ((1 / 2048 : ℝ) : EReal) := by
  simp [Ideal.ofBits, Ideal.ieee, -EReal.coe_mul]; norm_num

/-- Dividing by the width is multiplying by its reciprocal. -/
theorem div_width (x : EReal) : Ideal.div x (Ideal.ofBits .f32 0x44800000#32) = x * ((1 / 1024 : ℝ) : EReal) := by
  rw [width]; exact Ideal.div_coe (by norm_num) x

/-- A nonnegative real factor distributes over a sum, whatever the summands are. -/
theorem sum_mul {ι : Type*} (s : Finset ι) (f : ι → EReal) (a : ℝ) (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi,
      EReal.right_distrib_of_nonneg_of_ne_top (by exact_mod_cast ha) (EReal.coe_ne_top a), ih]

/-- The scale of the gradient of half a mean square, as the reference multiplies it out. -/
theorem grad_scale (x : EReal) :
    Ideal.div (Ideal.ofBits .f32 0x3F000000#32) (Ideal.ofBits .f32 0x44800000#32) * (Ideal.ofBits .f32 0x40000000#32 * x)
      = x * Ideal.ofBits .f32 0x3A800000#32 := by
  rw [div_width, half, two, inv_width, ← mul_assoc, ← EReal.coe_mul, ← EReal.coe_mul, mul_comm]
  norm_num

/-! ## Constants of the head normalisation -/

theorem head_size : Ideal.ofBits .f32 0x42800000#32 = ((64 : ℝ) : EReal) := by
  simp [Ideal.ofBits, Ideal.ieee, -EReal.coe_mul]; norm_num

theorem inv_head_size : Ideal.ofBits .f32 0x3C800000#32 = ((1 / 64 : ℝ) : EReal) := by
  simp [Ideal.ofBits, Ideal.ieee, -EReal.coe_mul]; norm_num

/-- Dividing by the size of a head is multiplying by its reciprocal. -/
theorem div_head_size (x : EReal) :
    Ideal.div x (Ideal.ofBits .f32 0x42800000#32) = x * Ideal.ofBits .f32 0x3C800000#32 := by
  rw [head_size, inv_head_size]; exact Ideal.div_coe (by norm_num) x

/-- The number added under the root is a positive real. -/
theorem guard_pos : ∃ e : ℝ, 0 < e ∧ Ideal.ofBits .f32 0x358637BD#32 = (e : EReal) :=
  ⟨8796093 * 2 ^ (-43 : ℤ), by positivity, by simp [Ideal.ofBits, Ideal.ieee, -EReal.coe_mul]⟩

theorem infinity : Ideal.ofBits .f32 0x7F800000#32 = ⊤ := by
  simp [Ideal.ofBits, Ideal.ieee]

end Cert.Hand.Scale

end
-- ==== Proof.MlpOut.lean ====
/-
  The second product of the MLP with the residual added, and the loss against the target: half the mean square of the
  error, its gradient, and that gradient rounded, on one device's 4096 tokens.
-/
module

public import proofs.«01_k».proof.Proof.Gen.MlpOutIdeal.Value
public import proofs.«01_k».proof.Proof.Gen.MlpOutRefIdeal.Run
public import proofs.«01_k».proof.Proof.Gen.MlpOutRefIdeal.Read
public import proofs.«01_k».proof.Defs
public import Idealize.ShloMosaic.Lib.Pointwise
public import Idealize.ShloMosaic.Lib.Pipeline.Value
public import proofs.«01_k».proof.Proof.Blocks
public import Idealize.ShloMosaic.Lib.Tactic
public import proofs.«01_k».proof.Proof.Scale

@[expose] public section

set_option maxRecDepth 16384

noncomputable section

namespace Cert.Hand.MlpOut

open Cert.MlpOutIdeal Cert.MlpOutIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

theorem hz : (![0, 0] : Fin 2 → Nat) = fun _ => 0 := funext fun a => by fin_cases a <;> rfl

/-! ## What a grid point leaves in its output blocks -/

theorem out_A_4 (c : Dev nD) (i : grid0.Coords) (a0 : Memref sig .tc .vmem S512x4096 .bf16) (h0 : a0.IsWhole) (a1 : Memref sig .tc .vmem S4096x1024 .bf16) (h1 : a1.IsWhole) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S512x1024 .bf16) (h5 : a5.IsWhole) (a6 : Memref sig .tc .vmem S1x1 .f32) (h6 : a6.IsWhole) (hc : cond0_0 i)
    (x0 : Vec Ideal S512x4096 .bf16) (x1 : Vec Ideal S4096x1024 .bf16) (x2 : Vec Ideal S512x1024 .f32) (x3 : Vec Ideal S512x1024 .f32) :
    out0_A_4 c i a0 h0 a1 h1 a2 h2 a3 h3 a4 h4 a5 h5 a6 h6 hc x0 x1 x2 x3 = k0_pay2 x0 x1 x2 x3 := by
  unfold out0_A_4
  rw [View.read_writes_eq_canon _ _ _ (cover0_A_4 c i a0 h0 a1 h1 a2 h2 a3 h3 a4 h4 a5 h5 a6 h6 hc x0 x1 x2 x3)]
  unfold kernelRun0_A
  dsimp only
  sl_unfold_words
  rw [View.canon_unit_zero hz]
  simp only [View.readAt_eq_ld, h0.read_unread, h1.read_unread, h2.read_unread, h3.read_unread, View.ld_unit_zero (S := S1x1) hz, View.ld_unit_zero (S := S4096x1024) hz, View.ld_unit_zero (S := S512x1024) hz, View.ld_unit_zero (S := S512x4096) hz]

theorem out_A_5 (c : Dev nD) (i : grid0.Coords) (a0 : Memref sig .tc .vmem S512x4096 .bf16) (h0 : a0.IsWhole) (a1 : Memref sig .tc .vmem S4096x1024 .bf16) (h1 : a1.IsWhole) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S512x1024 .bf16) (h5 : a5.IsWhole) (a6 : Memref sig .tc .vmem S1x1 .f32) (h6 : a6.IsWhole) (hc : cond0_0 i)
    (x0 : Vec Ideal S512x4096 .bf16) (x1 : Vec Ideal S4096x1024 .bf16) (x2 : Vec Ideal S512x1024 .f32) (x3 : Vec Ideal S512x1024 .f32) :
    out0_A_5 c i a0 h0 a1 h1 a2 h2 a3 h3 a4 h4 a5 h5 a6 h6 hc x0 x1 x2 x3 = k0_pay3 x0 x1 x2 x3 := by
  unfold out0_A_5
  rw [View.read_writes_eq_canon _ _ _ (cover0_A_5 c i a0 h0 a1 h1 a2 h2 a3 h3 a4 h4 a5 h5 a6 h6 hc x0 x1 x2 x3)]
  unfold kernelRun0_A
  dsimp only
  sl_unfold_words
  rw [View.canon_unit_zero hz]
  simp only [View.readAt_eq_ld, h0.read_unread, h1.read_unread, h2.read_unread, h3.read_unread, View.ld_unit_zero (S := S1x1) hz, View.ld_unit_zero (S := S4096x1024) hz, View.ld_unit_zero (S := S512x1024) hz, View.ld_unit_zero (S := S512x4096) hz]

theorem out_A_6 (c : Dev nD) (i : grid0.Coords) (a0 : Memref sig .tc .vmem S512x4096 .bf16) (h0 : a0.IsWhole) (a1 : Memref sig .tc .vmem S4096x1024 .bf16) (h1 : a1.IsWhole) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S512x1024 .bf16) (h5 : a5.IsWhole) (a6 : Memref sig .tc .vmem S1x1 .f32) (h6 : a6.IsWhole) (hc : cond0_0 i)
    (x0 : Vec Ideal S512x4096 .bf16) (x1 : Vec Ideal S4096x1024 .bf16) (x2 : Vec Ideal S512x1024 .f32) (x3 : Vec Ideal S512x1024 .f32) :
    out0_A_6 c i a0 h0 a1 h1 a2 h2 a3 h3 a4 h4 a5 h5 a6 h6 hc x0 x1 x2 x3 = k0_pay5 x0 x1 x2 x3 (k0_pay4 (F := Ideal)) := by
  unfold out0_A_6
  rw [View.read_writes_eq_canon _ _ _ (cover0_A_6 c i a0 h0 a1 h1 a2 h2 a3 h3 a4 h4 a5 h5 a6 h6 hc x0 x1 x2 x3)]
  unfold kernelRun0_A
  dsimp only
  sl_unfold_words
  rw [View.canon_cons_unit_zero (S := S1x1) hz, View.readCov_unit_zero (S := S1x1) _ hz]
  simp only [View.readAt_eq_ld, h0.read_unread, h1.read_unread, h2.read_unread, h3.read_unread, View.ld_unit_zero (S := S1x1) hz, View.ld_unit_zero (S := S4096x1024) hz, View.ld_unit_zero (S := S512x1024) hz, View.ld_unit_zero (S := S512x4096) hz]

theorem out_B_4 (c : Dev nD) (i : grid0.Coords) (a0 : Memref sig .tc .vmem S512x4096 .bf16) (h0 : a0.IsWhole) (a1 : Memref sig .tc .vmem S4096x1024 .bf16) (h1 : a1.IsWhole) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S512x1024 .bf16) (h5 : a5.IsWhole) (a6 : Memref sig .tc .vmem S1x1 .f32) (h6 : a6.IsWhole) (hc : ¬cond0_0 i)
    (x0 : Vec Ideal S512x4096 .bf16) (x1 : Vec Ideal S4096x1024 .bf16) (x2 : Vec Ideal S512x1024 .f32) (x3 : Vec Ideal S512x1024 .f32) (o6 : Vec Ideal S1x1 .f32) :
    out0_B_4 c i a0 h0 a1 h1 a2 h2 a3 h3 a4 h4 a5 h5 a6 h6 hc x0 x1 x2 x3 o6 = k0_pay2 x0 x1 x2 x3 := by
  unfold out0_B_4
  rw [View.read_writes_eq_canon _ _ _ (cover0_B_4 c i a0 h0 a1 h1 a2 h2 a3 h3 a4 h4 a5 h5 a6 h6 hc x0 x1 x2 x3 o6)]
  unfold kernelRun0_B
  dsimp only
  sl_unfold_words
  rw [View.canon_unit_zero hz]
  simp only [View.readAt_eq_ld, h0.read_unread, h1.read_unread, h2.read_unread, h3.read_unread, h6.read_unread, View.ld_unit_zero (S := S1x1) hz, View.ld_unit_zero (S := S4096x1024) hz, View.ld_unit_zero (S := S512x1024) hz, View.ld_unit_zero (S := S512x4096) hz]

theorem out_B_5 (c : Dev nD) (i : grid0.Coords) (a0 : Memref sig .tc .vmem S512x4096 .bf16) (h0 : a0.IsWhole) (a1 : Memref sig .tc .vmem S4096x1024 .bf16) (h1 : a1.IsWhole) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S512x1024 .bf16) (h5 : a5.IsWhole) (a6 : Memref sig .tc .vmem S1x1 .f32) (h6 : a6.IsWhole) (hc : ¬cond0_0 i)
    (x0 : Vec Ideal S512x4096 .bf16) (x1 : Vec Ideal S4096x1024 .bf16) (x2 : Vec Ideal S512x1024 .f32) (x3 : Vec Ideal S512x1024 .f32) (o6 : Vec Ideal S1x1 .f32) :
    out0_B_5 c i a0 h0 a1 h1 a2 h2 a3 h3 a4 h4 a5 h5 a6 h6 hc x0 x1 x2 x3 o6 = k0_pay3 x0 x1 x2 x3 := by
  unfold out0_B_5
  rw [View.read_writes_eq_canon _ _ _ (cover0_B_5 c i a0 h0 a1 h1 a2 h2 a3 h3 a4 h4 a5 h5 a6 h6 hc x0 x1 x2 x3 o6)]
  unfold kernelRun0_B
  dsimp only
  sl_unfold_words
  rw [View.canon_unit_zero hz]
  simp only [View.readAt_eq_ld, h0.read_unread, h1.read_unread, h2.read_unread, h3.read_unread, h6.read_unread, View.ld_unit_zero (S := S1x1) hz, View.ld_unit_zero (S := S4096x1024) hz, View.ld_unit_zero (S := S512x1024) hz, View.ld_unit_zero (S := S512x4096) hz]

theorem out_B_6 (c : Dev nD) (i : grid0.Coords) (a0 : Memref sig .tc .vmem S512x4096 .bf16) (h0 : a0.IsWhole) (a1 : Memref sig .tc .vmem S4096x1024 .bf16) (h1 : a1.IsWhole) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S512x1024 .bf16) (h5 : a5.IsWhole) (a6 : Memref sig .tc .vmem S1x1 .f32) (h6 : a6.IsWhole) (hc : ¬cond0_0 i)
    (x0 : Vec Ideal S512x4096 .bf16) (x1 : Vec Ideal S4096x1024 .bf16) (x2 : Vec Ideal S512x1024 .f32) (x3 : Vec Ideal S512x1024 .f32) (o6 : Vec Ideal S1x1 .f32) :
    out0_B_6 c i a0 h0 a1 h1 a2 h2 a3 h3 a4 h4 a5 h5 a6 h6 hc x0 x1 x2 x3 o6 = k0_pay5 x0 x1 x2 x3 o6 := by
  unfold out0_B_6
  rw [View.read_writes_eq_canon _ _ _ (cover0_B_6 c i a0 h0 a1 h1 a2 h2 a3 h3 a4 h4 a5 h5 a6 h6 hc x0 x1 x2 x3 o6)]
  unfold kernelRun0_B
  dsimp only
  sl_unfold_words
  rw [View.canon_unit_zero hz]
  simp only [View.readAt_eq_ld, h0.read_unread, h1.read_unread, h2.read_unread, h3.read_unread, h6.read_unread, View.ld_unit_zero (S := S1x1) hz, View.ld_unit_zero (S := S4096x1024) hz, View.ld_unit_zero (S := S512x1024) hz, View.ld_unit_zero (S := S512x4096) hz]

/-- What one grid point adds to the loss. -/
def lossPart (x0 : Vec Ideal S512x4096 .bf16) (x1 : Vec Ideal S4096x1024 .bf16) (x2 : Vec Ideal S512x1024 .f32)
    (x3 : Vec Ideal S512x1024 .f32) : Vec Ideal S1x1 .f32 := k0_pay5 x0 x1 x2 x3 (fun _ => 0)

/-! ## What a grid point reads -/

/-- Grid point `t` takes rows `512 t` to `512 t + 511`; the rest stays in place. -/
theorem index_maps : ∀ t : Fin cfg0.N,
    win0_0.index t 0 = t.val
    ∧ win0_0.index t 1 = 0
    ∧ win0_1.index t 0 = 0
    ∧ win0_1.index t 1 = 0
    ∧ win0_2.index t 0 = t.val
    ∧ win0_2.index t 1 = 0
    ∧ win0_3.index t 0 = t.val
    ∧ win0_3.index t 1 = 0
    ∧ win0_4.index t 0 = t.val
    ∧ win0_4.index t 1 = 0
    ∧ win0_5.index t 0 = t.val
    ∧ win0_5.index t 1 = 0
    ∧ win0_6.index t 0 = 0
    ∧ win0_6.index t 1 = 0 :=
  (by decide +kernel : ∀ t : Fin grid0.N, _)

/-- The argument arrays, and the blocks of them that grid point `t` reads. -/
abbrev A0 (c : Dev nD) : S4096x4096.Idx → EReal := m ((c : Thread nD τ).loc main_arg0)
abbrev A1 (c : Dev nD) : S4096x1024.Idx → EReal := m ((c : Thread nD τ).loc main_arg1)
abbrev A2 (c : Dev nD) : S4096x1024.Idx → EReal := m ((c : Thread nD τ).loc main_arg2)
abbrev A3 (c : Dev nD) : S4096x1024.Idx → EReal := m ((c : Thread nD τ).loc main_arg3)
abbrev I0 (c : Dev nD) (t : Fin cfg0.N) : S512x4096.Idx → EReal := iblk m c 0 t
abbrev I1 (c : Dev nD) (t : Fin cfg0.N) : S4096x1024.Idx → EReal := iblk m c 1 t
abbrev I2 (c : Dev nD) (t : Fin cfg0.N) : S512x1024.Idx → EReal := iblk m c 2 t
abbrev I3 (c : Dev nD) (t : Fin cfg0.N) : S512x1024.Idx → EReal := iblk m c 3 t

theorem in0_at (c : Dev nD) (t : Fin cfg0.N) (r : Fin 512) (k : Fin 4096) (h : t.val * 512 + r.val < 4096) :
    I0 m c t (ix2 r k) = A0 m c (ix2 ⟨t.val * 512 + r.val, h⟩ k) := by
  have hi := index_maps t
  show m ((c : Thread nD τ).loc main_arg0) ((win0_0.rect t).emb (ix2 r k)) = _
  exact congrArg _ (Shape.idx_ext₂ ((win0_0.rect_emb_val t (ix2 r k) 0).trans (by rw [hi.1]; rfl))
    ((win0_0.rect_emb_val t (ix2 r k) 1).trans (by rw [hi.2.1]; simp)))

theorem in1_at (c : Dev nD) (t : Fin cfg0.N) (r : Fin 4096) (k : Fin 1024) :
    I1 m c t (ix2 r k) = A1 m c (ix2 r k) := by
  have hi := index_maps t
  show m ((c : Thread nD τ).loc main_arg1) ((win0_1.rect t).emb (ix2 r k)) = _
  exact congrArg _ (Shape.idx_ext₂ ((win0_1.rect_emb_val t (ix2 r k) 0).trans (by rw [hi.2.2.1]; simp))
    ((win0_1.rect_emb_val t (ix2 r k) 1).trans (by rw [hi.2.2.2.1]; simp)))

theorem in2_at (c : Dev nD) (t : Fin cfg0.N) (r : Fin 512) (k : Fin 1024) (h : t.val * 512 + r.val < 4096) :
    I2 m c t (ix2 r k) = A2 m c (ix2 ⟨t.val * 512 + r.val, h⟩ k) := by
  have hi := index_maps t
  show m ((c : Thread nD τ).loc main_arg2) ((win0_2.rect t).emb (ix2 r k)) = _
  exact congrArg _ (Shape.idx_ext₂ ((win0_2.rect_emb_val t (ix2 r k) 0).trans (by rw [hi.2.2.2.2.1]; rfl))
    ((win0_2.rect_emb_val t (ix2 r k) 1).trans (by rw [hi.2.2.2.2.2.1]; simp)))

theorem in3_at (c : Dev nD) (t : Fin cfg0.N) (r : Fin 512) (k : Fin 1024) (h : t.val * 512 + r.val < 4096) :
    I3 m c t (ix2 r k) = A3 m c (ix2 ⟨t.val * 512 + r.val, h⟩ k) := by
  have hi := index_maps t
  show m ((c : Thread nD τ).loc main_arg3) ((win0_3.rect t).emb (ix2 r k)) = _
  exact congrArg _ (Shape.idx_ext₂ ((win0_3.rect_emb_val t (ix2 r k) 0).trans (by rw [hi.2.2.2.2.2.2.1]; rfl))
    ((win0_3.rect_emb_val t (ix2 r k) 1).trans (by rw [hi.2.2.2.2.2.2.2.1]; simp)))

/-! ## A block of each result and the reference's array -/

theorem same4 (x0 : Vec Ideal S512x4096 .bf16) (x1 : Vec Ideal S4096x1024 .bf16) (x2 : Vec Ideal S512x1024 .f32) (x3 : Vec Ideal S512x1024 .f32)
    (X0 : Vec Ideal S4096x4096 .bf16) (X1 : Vec Ideal S4096x1024 .bf16) (X2 : Vec Ideal S4096x1024 .f32) (X3 : Vec Ideal S4096x1024 .f32)
    (r : Fin 512) (s : Fin 1024) (R : Fin 4096)
    (h0 : ∀ l : Fin 4096, x0 (ix2 r l) = X0 (ix2 R l))
    (h1 : ∀ (k : Fin 4096) (l : Fin 1024), x1 (ix2 k l) = X1 (ix2 k l))
    (h2 : ∀ l : Fin 1024, x2 (ix2 r l) = X2 (ix2 R l))
    (h3 : ∀ l : Fin 1024, x3 (ix2 r l) = X3 (ix2 R l)) :
    k0_pay2 x0 x1 x2 x3 (ix2 r s)
      = Cert.MlpOutRefIdeal.Read.val_main_v18 (F := Ideal) X0 X1 X2 X3 (ix2 R s) := by
  unfold_payloads
  pointwise [Cert.MlpOutRefIdeal.Read.val_main_v0, Cert.MlpOutRefIdeal.Read.val_main_v1, Cert.MlpOutRefIdeal.Read.val_main_v2, Cert.MlpOutRefIdeal.Read.val_main_v3, Cert.MlpOutRefIdeal.Read.val_main_v4, Cert.MlpOutRefIdeal.Read.val_main_v5, Cert.MlpOutRefIdeal.Read.val_main_cst, Cert.MlpOutRefIdeal.Read.val_main_v6, Cert.MlpOutRefIdeal.Read.val_main_v7, Cert.MlpOutRefIdeal.Read.val_main_cst_0, Cert.MlpOutRefIdeal.Read.val_main_v8, Cert.MlpOutRefIdeal.Read.val_main_cst_1, Cert.MlpOutRefIdeal.Read.val_main_v9, Cert.MlpOutRefIdeal.Read.val_main_v10, Cert.MlpOutRefIdeal.Read.val_main_cst_2, Cert.MlpOutRefIdeal.Read.val_main_v11, Cert.MlpOutRefIdeal.Read.val_main_cst_3, Cert.MlpOutRefIdeal.Read.val_main_v12, Cert.MlpOutRefIdeal.Read.val_main_cst_4, Cert.MlpOutRefIdeal.Read.val_main_cst_5, Cert.MlpOutRefIdeal.Read.val_main_v13, Cert.MlpOutRefIdeal.Read.val_main_v14, Cert.MlpOutRefIdeal.Read.val_main_cst_6, Cert.MlpOutRefIdeal.Read.val_main_v15, Cert.MlpOutRefIdeal.Read.val_main_v16, Cert.MlpOutRefIdeal.Read.val_main_v17, Cert.MlpOutRefIdeal.Read.val_main_v18, Cert.MlpOutRefIdeal.Read.val_main_v19, Cert.MlpOutRefIdeal.Read.val_main_v20]
  simp only [h0, h1, h2, h3, Scale.grad_scale, add_comm]

/-- The result array as a function of the argument arrays: the reference's own term. -/
def G4 (c : Dev nD) : S4096x1024.Idx → EReal :=
  Cert.MlpOutRefIdeal.Read.val_main_v18 (F := Ideal) (A0 m c) (A1 m c) (A2 m c) (A3 m c)

theorem flushed4_eq (c : Dev nD) (t : Fin cfg0.N) :
    (dats m 0 c).flushed 4 t = ((cfg0.win 4).blk t).view.read (Elt Ideal) (G4 m c) := by
  have ht : t.val < 8 := Nat.lt_of_lt_of_eq t.isLt N_0
  have hi := index_maps t
  funext y
  obtain ⟨r, s, rfl⟩ : ∃ (r : Fin 512) (s : Fin 1024), y = ix2 r s := ⟨y 0, y 1, eq_ix2 y⟩
  have hb : (dats m 0 c).flushed 4 t (ix2 r s)
      = k0_pay2 (iblk m c 0 t) (iblk m c 1 t) (iblk m c 2 t) (iblk m c 3 t) (ix2 r s) := by
    by_cases h : t.val % 8 = 0
    · rw [Value.flushed4_A m c t h, out_A_4]; rfl
    · rw [Value.flushed4_B m c t h, out_B_4]; rfl
  show _ = G4 m c ((win0_4.rect t).emb (ix2 r s))
  have e : ((win0_4.rect t).emb (ix2 r s) : S4096x1024.Idx) = ix2 ⟨t.val * 512 + r.val, by omega⟩ s :=
    Shape.idx_ext₂ ((win0_4.rect_emb_val t (ix2 r s) 0).trans (by rw [hi.2.2.2.2.2.2.2.2.1]; rfl))
      ((win0_4.rect_emb_val t (ix2 r s) 1).trans (by rw [hi.2.2.2.2.2.2.2.2.2.1]; simp))
  rw [hb, e]
  exact same4 _ _ _ _ _ _ _ _ r s _ (fun l => in0_at m c t r l (by omega)) (fun k l => in1_at m c t k l) (fun l => in2_at m c t r l (by omega)) (fun l => in3_at m c t r l (by omega))

theorem covered4 (i : S4096x1024.Idx) : ∃ t : Fin cfg0.N, (cfg0.win 4).flush t = true ∧ i ∈ ((cfg0.win 4).blk t).view.set := by
  have h0 : (i 0).val < 4096 := (i 0).isLt
  have h1 : (i 1).val < 1024 := (i 1).isLt
  obtain ⟨t, ht⟩ : ∃ t : Fin cfg0.N, t.val = (i 0).val / 512 := ⟨⟨(i 0).val / 512, Nat.lt_of_lt_of_eq (by omega) N_0.symm⟩, rfl⟩
  have hi := index_maps t
  refine ⟨t, flush0_4 t, ?_⟩
  show i ∈ ((View.whole main_v0_0).slice (win0_4.rect t)).set
  rw [View.set_slice_whole, Rect.mem_set_unit]
  intro a
  match a with
  | ⟨0, _⟩ => show win0_4.index t 0 * 512 ≤ (i 0).val ∧ (i 0).val < win0_4.index t 0 * 512 + 512
              rw [hi.2.2.2.2.2.2.2.2.1]; omega
  | ⟨1, _⟩ => show win0_4.index t 1 * 1024 ≤ (i 1).val ∧ (i 1).val < win0_4.index t 1 * 1024 + 1024
              rw [hi.2.2.2.2.2.2.2.2.2.1]; omega

/-- After the run the result array is `G4`. -/
theorem final4 (c : Dev nD) : (dats m 0 c).arrAt 4 cfg0.N = G4 m c :=
  (dats m 0 c).arrAt_eq_of_cover 4 (G4 m c) (fun t _ => flushed4_eq m c t) covered4

theorem same5 (x0 : Vec Ideal S512x4096 .bf16) (x1 : Vec Ideal S4096x1024 .bf16) (x2 : Vec Ideal S512x1024 .f32) (x3 : Vec Ideal S512x1024 .f32)
    (X0 : Vec Ideal S4096x4096 .bf16) (X1 : Vec Ideal S4096x1024 .bf16) (X2 : Vec Ideal S4096x1024 .f32) (X3 : Vec Ideal S4096x1024 .f32)
    (r : Fin 512) (s : Fin 1024) (R : Fin 4096)
    (h0 : ∀ l : Fin 4096, x0 (ix2 r l) = X0 (ix2 R l))
    (h1 : ∀ (k : Fin 4096) (l : Fin 1024), x1 (ix2 k l) = X1 (ix2 k l))
    (h2 : ∀ l : Fin 1024, x2 (ix2 r l) = X2 (ix2 R l))
    (h3 : ∀ l : Fin 1024, x3 (ix2 r l) = X3 (ix2 R l)) :
    k0_pay3 x0 x1 x2 x3 (ix2 r s)
      = Cert.MlpOutRefIdeal.Read.val_main_v19 (F := Ideal) X0 X1 X2 X3 (ix2 R s) := by
  unfold_payloads
  pointwise [Cert.MlpOutRefIdeal.Read.val_main_v0, Cert.MlpOutRefIdeal.Read.val_main_v1, Cert.MlpOutRefIdeal.Read.val_main_v2, Cert.MlpOutRefIdeal.Read.val_main_v3, Cert.MlpOutRefIdeal.Read.val_main_v4, Cert.MlpOutRefIdeal.Read.val_main_v5, Cert.MlpOutRefIdeal.Read.val_main_cst, Cert.MlpOutRefIdeal.Read.val_main_v6, Cert.MlpOutRefIdeal.Read.val_main_v7, Cert.MlpOutRefIdeal.Read.val_main_cst_0, Cert.MlpOutRefIdeal.Read.val_main_v8, Cert.MlpOutRefIdeal.Read.val_main_cst_1, Cert.MlpOutRefIdeal.Read.val_main_v9, Cert.MlpOutRefIdeal.Read.val_main_v10, Cert.MlpOutRefIdeal.Read.val_main_cst_2, Cert.MlpOutRefIdeal.Read.val_main_v11, Cert.MlpOutRefIdeal.Read.val_main_cst_3, Cert.MlpOutRefIdeal.Read.val_main_v12, Cert.MlpOutRefIdeal.Read.val_main_cst_4, Cert.MlpOutRefIdeal.Read.val_main_cst_5, Cert.MlpOutRefIdeal.Read.val_main_v13, Cert.MlpOutRefIdeal.Read.val_main_v14, Cert.MlpOutRefIdeal.Read.val_main_cst_6, Cert.MlpOutRefIdeal.Read.val_main_v15, Cert.MlpOutRefIdeal.Read.val_main_v16, Cert.MlpOutRefIdeal.Read.val_main_v17, Cert.MlpOutRefIdeal.Read.val_main_v18, Cert.MlpOutRefIdeal.Read.val_main_v19, Cert.MlpOutRefIdeal.Read.val_main_v20]
  simp only [h0, h1, h2, h3, Scale.grad_scale, add_comm]

/-- The result array as a function of the argument arrays: the reference's own term. -/
def G5 (c : Dev nD) : S4096x1024.Idx → EReal :=
  Cert.MlpOutRefIdeal.Read.val_main_v19 (F := Ideal) (A0 m c) (A1 m c) (A2 m c) (A3 m c)

theorem flushed5_eq (c : Dev nD) (t : Fin cfg0.N) :
    (dats m 0 c).flushed 5 t = ((cfg0.win 5).blk t).view.read (Elt Ideal) (G5 m c) := by
  have ht : t.val < 8 := Nat.lt_of_lt_of_eq t.isLt N_0
  have hi := index_maps t
  funext y
  obtain ⟨r, s, rfl⟩ : ∃ (r : Fin 512) (s : Fin 1024), y = ix2 r s := ⟨y 0, y 1, eq_ix2 y⟩
  have hb : (dats m 0 c).flushed 5 t (ix2 r s)
      = k0_pay3 (iblk m c 0 t) (iblk m c 1 t) (iblk m c 2 t) (iblk m c 3 t) (ix2 r s) := by
    by_cases h : t.val % 8 = 0
    · rw [Value.flushed5_A m c t h, out_A_5]; rfl
    · rw [Value.flushed5_B m c t h, out_B_5]; rfl
  show _ = G5 m c ((win0_5.rect t).emb (ix2 r s))
  have e : ((win0_5.rect t).emb (ix2 r s) : S4096x1024.Idx) = ix2 ⟨t.val * 512 + r.val, by omega⟩ s :=
    Shape.idx_ext₂ ((win0_5.rect_emb_val t (ix2 r s) 0).trans (by rw [hi.2.2.2.2.2.2.2.2.2.2.1]; rfl))
      ((win0_5.rect_emb_val t (ix2 r s) 1).trans (by rw [hi.2.2.2.2.2.2.2.2.2.2.2.1]; simp))
  rw [hb, e]
  exact same5 _ _ _ _ _ _ _ _ r s _ (fun l => in0_at m c t r l (by omega)) (fun k l => in1_at m c t k l) (fun l => in2_at m c t r l (by omega)) (fun l => in3_at m c t r l (by omega))

theorem covered5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  obtain ⟨t, ht⟩ : ∃ t : Fin cfg0.N, t.val = (i 0).val / 512 := ⟨⟨(i 0).val / 512, Nat.lt_of_lt_of_eq (by omega) N_0.symm⟩, rfl⟩
  have hi := index_maps t
  refine ⟨t, flush0_5 t, ?_⟩
  show i ∈ ((View.whole main_v0_1).slice (win0_5.rect t)).set
  rw [View.set_slice_whole, Rect.mem_set_unit]
  intro a
  match a with
  | ⟨0, _⟩ => show win0_5.index t 0 * 512 ≤ (i 0).val ∧ (i 0).val < win0_5.index t 0 * 512 + 512
              rw [hi.2.2.2.2.2.2.2.2.2.2.1]; omega
  | ⟨1, _⟩ => show win0_5.index t 1 * 1024 ≤ (i 1).val ∧ (i 1).val < win0_5.index t 1 * 1024 + 1024
              rw [hi.2.2.2.2.2.2.2.2.2.2.2.1]; omega

/-- After the run the result array is `G5`. -/
theorem final5 (c : Dev nD) : (dats m 0 c).arrAt 5 cfg0.N = G5 m c :=
  (dats m 0 c).arrAt_eq_of_cover 5 (G5 m c) (fun t _ => flushed5_eq m c t) covered5

/-! ## The row that the grid points add up: window 6 -/

theorem zero6_at (s : Fin 1) : k0_pay4 (F := Ideal) (ix2 0 s) = 0 := by
  pointwise [k0_pay4]

theorem step6_at (x0 : Vec Ideal S512x4096 .bf16) (x1 : Vec Ideal S4096x1024 .bf16) (x2 : Vec Ideal S512x1024 .f32) (x3 : Vec Ideal S512x1024 .f32) (o : Vec Ideal S1x1 .f32) (s : Fin 1) :
    k0_pay5 x0 x1 x2 x3 o (ix2 0 s) = o (ix2 0 s) + lossPart x0 x1 x2 x3 (ix2 0 s) := by
  unfold lossPart
  unfold_payloads
  pointwise

/-- The reference's sum over all rows is the sum of the points' sums over their own rows. -/
theorem split6 (x0 : Fin 8 → S512x4096.Idx → EReal) (x1 : Fin 8 → S4096x1024.Idx → EReal) (x2 : Fin 8 → S512x1024.Idx → EReal) (x3 : Fin 8 → S512x1024.Idx → EReal)
    (X0 : Vec Ideal S4096x4096 .bf16) (X1 : Vec Ideal S4096x1024 .bf16) (X2 : Vec Ideal S4096x1024 .f32) (X3 : Vec Ideal S4096x1024 .f32)
    (h0 : ∀ (t : Fin 8) (r : Fin 512) (l : Fin 4096), x0 t (ix2 r l) = X0 (ix2 ⟨t.val * 512 + r.val, by omega⟩ l))
    (h1 : ∀ (t : Fin 8) (k : Fin 4096) (l : Fin 1024), x1 t (ix2 k l) = X1 (ix2 k l))
    (h2 : ∀ (t : Fin 8) (r : Fin 512) (l : Fin 1024), x2 t (ix2 r l) = X2 (ix2 ⟨t.val * 512 + r.val, by omega⟩ l))
    (h3 : ∀ (t : Fin 8) (r : Fin 512) (l : Fin 1024), x3 t (ix2 r l) = X3 (ix2 ⟨t.val * 512 + r.val, by omega⟩ l)) (s : Fin 1) :
    Cert.MlpOutRefIdeal.Read.val_main_v20 (F := Ideal) X0 X1 X2 X3 (ix2 0 s)
      = ∑ t : Fin 8, lossPart (x0 t) (x1 t) (x2 t) (x3 t) (ix2 0 s) := by
  unfold_payloads
  pointwise [Cert.MlpOutRefIdeal.Read.val_main_v0, Cert.MlpOutRefIdeal.Read.val_main_v1, Cert.MlpOutRefIdeal.Read.val_main_v2, Cert.MlpOutRefIdeal.Read.val_main_v3, Cert.MlpOutRefIdeal.Read.val_main_v4, Cert.MlpOutRefIdeal.Read.val_main_v5, Cert.MlpOutRefIdeal.Read.val_main_cst, Cert.MlpOutRefIdeal.Read.val_main_v6, Cert.MlpOutRefIdeal.Read.val_main_v7, Cert.MlpOutRefIdeal.Read.val_main_cst_0, Cert.MlpOutRefIdeal.Read.val_main_v8, Cert.MlpOutRefIdeal.Read.val_main_cst_1, Cert.MlpOutRefIdeal.Read.val_main_v9, Cert.MlpOutRefIdeal.Read.val_main_v10, Cert.MlpOutRefIdeal.Read.val_main_cst_2, Cert.MlpOutRefIdeal.Read.val_main_v11, Cert.MlpOutRefIdeal.Read.val_main_cst_3, Cert.MlpOutRefIdeal.Read.val_main_v12, Cert.MlpOutRefIdeal.Read.val_main_cst_4, Cert.MlpOutRefIdeal.Read.val_main_cst_5, Cert.MlpOutRefIdeal.Read.val_main_v13, Cert.MlpOutRefIdeal.Read.val_main_v14, Cert.MlpOutRefIdeal.Read.val_main_cst_6, Cert.MlpOutRefIdeal.Read.val_main_v15, Cert.MlpOutRefIdeal.Read.val_main_v16, Cert.MlpOutRefIdeal.Read.val_main_v17, Cert.MlpOutRefIdeal.Read.val_main_v18, Cert.MlpOutRefIdeal.Read.val_main_v19, Cert.MlpOutRefIdeal.Read.val_main_v20]
  simp only [Scale.div_width]
  rw [← Scale.sum_mul _ _ _ (by norm_num), Scale.half, mul_comm, mul_assoc, ← EReal.coe_mul, Blocks.sum_rows,
    Scale.sum_mul _ _ _ (by norm_num)]
  refine Finset.sum_congr rfl fun t _ => ?_
  unfold lossPart
  unfold_payloads
  pointwise
  simp only [h0, h1, h2, h3, Scale.half_inv_width, zero_add]
  rw [Finset.sum_comm]
  congr 1
  · simp only [add_comm]
  · exact congrArg _ (by norm_num)

def G6 (c : Dev nD) : S1x1.Idx → EReal :=
  Cert.MlpOutRefIdeal.Read.val_main_v20 (F := Ideal) (A0 m c) (A1 m c) (A2 m c) (A3 m c)

/-- Point `n`'s part of the sum at entry `s`; nothing past the last point. -/
def term6 (c : Dev nD) (s : Fin 1) (n : ℕ) : EReal :=
  if h : n < cfg0.N then lossPart (iblk m c 0 ⟨n, h⟩) (iblk m c 1 ⟨n, h⟩) (iblk m c 2 ⟨n, h⟩) (iblk m c 3 ⟨n, h⟩) (ix2 0 s) else 0

/-- After point `n` the block holds the parts so far. -/
theorem acc6_at (c : Dev nD) (s : Fin 1) : ∀ (n : ℕ) (h : n < cfg0.N),
    (outsAt0 m c n h).2.2 (ix2 0 s) = ∑ i ∈ Finset.range (n + 1), term6 m c s i
  | 0, h => by
    have e := outsAt0_A m c ⟨0, h⟩ rfl
    dsimp only at e ⊢
    rw [e]
    dsimp only
    rw [out_A_6, step6_at, zero6_at, zero_add, Finset.sum_range_one, term6, dif_pos h]
  | n + 1, h => by
    have hN : cfg0.N = 8 := N_0
    have e := outsAt0_B m c ⟨n + 1, h⟩ (by dsimp only; omega)
    dsimp only at e ⊢
    rw [e]
    dsimp only
    rw [out_B_6, step6_at, Finset.sum_range_succ, ← acc6_at c s n (Nat.lt_of_succ_lt h), term6, dif_pos h]
    rfl

/-- All the points: the reference's sum. -/
theorem term6_sum (c : Dev nD) (s : Fin 1) : (∑ i ∈ Finset.range 8, term6 m c s i) = G6 m c (ix2 0 s) := by
  have hN : cfg0.N = 8 := N_0
  rw [G6, split6 (fun t => I0 m c ⟨t.val, Nat.lt_of_lt_of_eq t.isLt hN.symm⟩) (fun t => I1 m c ⟨t.val, Nat.lt_of_lt_of_eq t.isLt hN.symm⟩) (fun t => I2 m c ⟨t.val, Nat.lt_of_lt_of_eq t.isLt hN.symm⟩) (fun t => I3 m c ⟨t.val, Nat.lt_of_lt_of_eq t.isLt hN.symm⟩) _ _ _ _ (fun t r l => in0_at m c _ r l (by omega)) (fun t k l => in1_at m c _ k l) (fun t r l => in2_at m c _ r l (by omega)) (fun t r l => in3_at m c _ r l (by omega)), Finset.sum_range]
  exact Finset.sum_congr rfl fun t _ => by rw [term6, dif_pos (Nat.lt_of_lt_of_eq t.isLt hN.symm)]

/-- The one point that writes the row back writes the whole of it. -/
theorem flushed6_eq (c : Dev nD) (t : Fin cfg0.N) (hf : (cfg0.win 6).flush t = true) :
    (dats m 0 c).flushed 6 t = ((cfg0.win 6).blk t).view.read (Elt Ideal) (G6 m c) := by
  have ht : t.val < 8 := Nat.lt_of_lt_of_eq t.isLt N_0
  have h7 : t.val = 7 := by have := (flush0_6 t).mp hf; omega
  have hi := index_maps t
  funext y
  obtain ⟨s, rfl⟩ : ∃ s : Fin 1, y = ix2 0 s := Blocks.row_idx y
  rw [Value.flushed6]
  show (outsAt0 m c t.val t.isLt).2.2 (ix2 0 s) = G6 m c ((win0_6.rect t).emb (ix2 0 s))
  have e : ((win0_6.rect t).emb (ix2 0 s) : S1x1.Idx) = ix2 0 s :=
    Shape.idx_ext₂ ((win0_6.rect_emb_val t (ix2 0 s) 0).trans (by rw [hi.2.2.2.2.2.2.2.2.2.2.2.2.1]; simp))
      ((win0_6.rect_emb_val t (ix2 0 s) 1).trans (by rw [hi.2.2.2.2.2.2.2.2.2.2.2.2.2]; simp))
  rw [e, acc6_at, ← term6_sum, h7]

theorem covered6 (i : S1x1.Idx) : ∃ t : Fin cfg0.N, (cfg0.win 6).flush t = true ∧ i ∈ ((cfg0.win 6).blk t).view.set := by
  have h0 : (i 0).val < 1 := (i 0).isLt
  have h1 : (i 1).val < 1 := (i 1).isLt
  obtain ⟨t, ht⟩ : ∃ t : Fin cfg0.N, t.val = 7 := ⟨⟨7, Nat.lt_of_lt_of_eq (by omega) N_0.symm⟩, rfl⟩
  have hi := index_maps t
  refine ⟨t, (flush0_6 t).mpr (by omega), ?_⟩
  show i ∈ ((View.whole main_v0_2).slice (win0_6.rect t)).set
  rw [View.set_slice_whole, Rect.mem_set_unit]
  intro a
  match a with
  | ⟨0, _⟩ => show win0_6.index t 0 * 1 ≤ (i 0).val ∧ (i 0).val < win0_6.index t 0 * 1 + 1
              rw [hi.2.2.2.2.2.2.2.2.2.2.2.2.1]; omega
  | ⟨1, _⟩ => show win0_6.index t 1 * 1 ≤ (i 1).val ∧ (i 1).val < win0_6.index t 1 * 1 + 1
              rw [hi.2.2.2.2.2.2.2.2.2.2.2.2.2]; omega

theorem final6 (c : Dev nD) : (dats m 0 c).arrAt 6 cfg0.N = G6 m c :=
  (dats m 0 c).arrAt_eq_of_cover 6 (G6 m c) (flushed6_eq m c) covered6

/-- The kernel and the reference leave equal results. -/
theorem algebraic : Cert.algebraic_MlpOutIdeal_MlpOutRefIdeal := fun m g m' g' _ hagree =>
  ⟨fun c => G4 m c, fun c => G5 m c, fun c => G6 m c,
    (θ_run _ _ _).mono (fun r h c => ⟨(h c).1.trans (final4 m c), (h c).2.1.trans (final5 m c), (h c).2.2.1.trans (final6 m c), (h c).2.2.2⟩)
      (Value.run_blocks (F := Ideal) m g),
    (θ_run _ _ _).mono (fun r h c => by
        obtain ⟨e0, e1, e2, e3⟩ := hagree c
        refine ⟨(h c).1.trans ?_, (h c).2.1.trans ?_, (h c).2.2.1.trans ?_, (h c).2.2.2⟩
        · rw [e0, e1, e2, e3]; rfl
        · rw [e0, e1, e2, e3]; rfl
        · rw [e0, e1, e2, e3]; rfl)
      (Cert.MlpOutRefIdeal.Value.run (F := Ideal) m' g')⟩

end Cert.Hand.MlpOut

end
-- ==== Proof.OutProj.lean ====
/-
  The mixing layer's output product added to the residual stream, and its normalisation, on one device's 4096 tokens.
-/
module

public import proofs.«01_k».proof.Proof.Gen.OutProjIdeal.Value
public import proofs.«01_k».proof.Proof.Gen.OutProjRefIdeal.Run
public import proofs.«01_k».proof.Proof.Gen.OutProjRefIdeal.Read
public import proofs.«01_k».proof.Defs
public import Idealize.ShloMosaic.Lib.Pointwise
public import Idealize.ShloMosaic.Lib.Pipeline.Value

@[expose] public section

set_option maxRecDepth 16384

noncomputable section

namespace Cert.Hand.OutProj

open Cert.OutProjIdeal Cert.OutProjIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- Grid points tile the result: 4 row blocks by 1 column blocks; where each argument's block lies. -/
theorem index_maps : ∀ t : Fin cfg0.N,
    win0_0.index t 0 = win0_4.index t 0
    ∧ win0_0.index t 1 = 0
    ∧ win0_1.index t 0 = 0
    ∧ win0_1.index t 1 = 0
    ∧ win0_2.index t 0 = win0_4.index t 0
    ∧ win0_2.index t 1 = 0
    ∧ win0_3.index t 0 = 0
    ∧ win0_3.index t 1 = 0
    ∧ win0_5.index t 0 = win0_4.index t 0
    ∧ win0_5.index t 1 = win0_4.index t 1
    ∧ win0_4.index t 0 < 4
    ∧ win0_4.index t 1 < 1 :=
  (by decide +kernel : ∀ t : Fin grid0.N, _)

/-- Every block of the results belongs to some grid point, and every point writes back. -/
theorem index_onto : ∀ (a : Fin 4) (b : Fin 1), ∃ t : Fin cfg0.N,
    (cfg0.win 4).flush t = true ∧ (cfg0.win 5).flush t = true
    ∧ win0_4.index t 0 = a.val ∧ win0_4.index t 1 = b.val :=
  (by decide +kernel : ∀ (a : Fin 4) (b : Fin 1), ∃ t : Fin grid0.N, _)

/-- The argument arrays. -/
abbrev A0 (c : Dev nD) : S4096x1024.Idx → EReal := m ((c : Thread nD τ).loc main_arg0)
abbrev A1 (c : Dev nD) : S1024x1024.Idx → EReal := m ((c : Thread nD τ).loc main_arg1)
abbrev A2 (c : Dev nD) : S4096x1024.Idx → EReal := m ((c : Thread nD τ).loc main_arg2)
abbrev A3 (c : Dev nD) : S1x1024.Idx → EReal := m ((c : Thread nD τ).loc main_arg3)

/-! ## What a grid point reads -/

theorem in0_at (c : Dev nD) (t : Fin cfg0.N) (r : Fin 1024) (s : Fin 1024) (h0 : win0_4.index t 0 * 1024 + r.val < 4096) :
    iblk m c 0 t (ix2 r s) = A0 m c (ix2 ⟨win0_4.index t 0 * 1024 + r.val, h0⟩ s) := by
  have hi := index_maps t
  show m ((c : Thread nD τ).loc main_arg0) ((win0_0.rect t).emb (ix2 r s)) = _
  exact congrArg _ (Shape.idx_ext₂ ((win0_0.rect_emb_val t (ix2 r s) 0).trans (by rw [hi.1]; rfl))
    ((win0_0.rect_emb_val t (ix2 r s) 1).trans (by rw [hi.2.1]; simp)))

theorem in1_at (c : Dev nD) (t : Fin cfg0.N) (r : Fin 1024) (s : Fin 1024) :
    iblk m c 1 t (ix2 r s) = A1 m c (ix2 r s) := by
  have hi := index_maps t
  show m ((c : Thread nD τ).loc main_arg1) ((win0_1.rect t).emb (ix2 r s)) = _
  exact congrArg _ (Shape.idx_ext₂ ((win0_1.rect_emb_val t (ix2 r s) 0).trans (by rw [hi.2.2.1]; simp))
    ((win0_1.rect_emb_val t (ix2 r s) 1).trans (by rw [hi.2.2.2.1]; simp)))

theorem in2_at (c : Dev nD) (t : Fin cfg0.N) (r : Fin 1024) (s : Fin 1024) (h0 : win0_4.index t 0 * 1024 + r.val < 4096) :
    iblk m c 2 t (ix2 r s) = A2 m c (ix2 ⟨win0_4.index t 0 * 1024 + r.val, h0⟩ s) := by
  have hi := index_maps t
  show m ((c : Thread nD τ).loc main_arg2) ((win0_2.rect t).emb (ix2 r s)) = _
  exact congrArg _ (Shape.idx_ext₂ ((win0_2.rect_emb_val t (ix2 r s) 0).trans (by rw [hi.2.2.2.2.1]; rfl))
    ((win0_2.rect_emb_val t (ix2 r s) 1).trans (by rw [hi.2.2.2.2.2.1]; simp)))

theorem in3_at (c : Dev nD) (t : Fin cfg0.N) (r : Fin 1) (s : Fin 1024) :
    iblk m c 3 t (ix2 r s) = A3 m c (ix2 r s) := by
  have hi := index_maps t
  show m ((c : Thread nD τ).loc main_arg3) ((win0_3.rect t).emb (ix2 r s)) = _
  exact congrArg _ (Shape.idx_ext₂ ((win0_3.rect_emb_val t (ix2 r s) 0).trans (by rw [hi.2.2.2.2.2.2.1]; simp))
    ((win0_3.rect_emb_val t (ix2 r s) 1).trans (by rw [hi.2.2.2.2.2.2.2.1]; simp)))

/-! ## A block of each result and the reference's array -/

theorem same4 (x0 : Vec Ideal S1024x1024 .bf16) (x1 : Vec Ideal S1024x1024 .bf16) (x2 : Vec Ideal S1024x1024 .f32) (x3 : Vec Ideal S1x1024 .f32)
    (X0 : Vec Ideal S4096x1024 .bf16) (X1 : Vec Ideal S1024x1024 .bf16) (X2 : Vec Ideal S4096x1024 .f32) (X3 : Vec Ideal S1x1024 .f32)
    (r : Fin 1024) (s : Fin 1024) (R : Fin 4096)
    (h0 : ∀ (l : Fin 1024), x0 (ix2 r l) = X0 (ix2 R l))
    (h1 : ∀ (k : Fin 1024) (l : Fin 1024), x1 (ix2 k l) = X1 (ix2 k l))
    (h2 : ∀ (l : Fin 1024), x2 (ix2 r l) = X2 (ix2 R l))
    (h3 : ∀ (k : Fin 1) (l : Fin 1024), x3 (ix2 k l) = X3 (ix2 k l)) :
    out0_4 (F := Ideal) x0 x1 x2 x3 (ix2 r s)
      = Cert.OutProjRefIdeal.Read.val_main_v3 (F := Ideal) X0 X1 X2 (ix2 R s) := by
  unfold out0_4
  rw [View.canon_unit_zero (by decide)]
  simp only [View.ld_unit_zero (S := S1024x1024) (by decide : (![0, 0] : Fin 2 → Nat) = fun _ => 0), View.ld_unit_zero (S := S1x1024) (by decide : (![0, 0] : Fin 2 → Nat) = fun _ => 0)]
  unfold_payloads
  pointwise [Cert.OutProjRefIdeal.Read.val_main_v0, Cert.OutProjRefIdeal.Read.val_main_v1, Cert.OutProjRefIdeal.Read.val_main_v2, Cert.OutProjRefIdeal.Read.val_main_v3, Cert.OutProjRefIdeal.Read.val_main_v4, Cert.OutProjRefIdeal.Read.val_main_cst, Cert.OutProjRefIdeal.Read.val_main_v5, Cert.OutProjRefIdeal.Read.val_main_v6, Cert.OutProjRefIdeal.Read.val_main_cst_0, Cert.OutProjRefIdeal.Read.val_main_v7, Cert.OutProjRefIdeal.Read.val_main_v8, Cert.OutProjRefIdeal.Read.val_main_cst_1, Cert.OutProjRefIdeal.Read.val_main_v9, Cert.OutProjRefIdeal.Read.val_main_v10, Cert.OutProjRefIdeal.Read.val_main_v11, Cert.OutProjRefIdeal.Read.val_main_v12, Cert.OutProjRefIdeal.Read.val_main_v13, Cert.OutProjRefIdeal.Read.val_main_v14, Cert.OutProjRefIdeal.Read.val_main_v15, Cert.OutProjRefIdeal.Read.val_main_v16]
  simp only [h0, h1, h2, h3, add_comm]

theorem same5 (x0 : Vec Ideal S1024x1024 .bf16) (x1 : Vec Ideal S1024x1024 .bf16) (x2 : Vec Ideal S1024x1024 .f32) (x3 : Vec Ideal S1x1024 .f32)
    (X0 : Vec Ideal S4096x1024 .bf16) (X1 : Vec Ideal S1024x1024 .bf16) (X2 : Vec Ideal S4096x1024 .f32) (X3 : Vec Ideal S1x1024 .f32)
    (r : Fin 1024) (s : Fin 1024) (R : Fin 4096)
    (h0 : ∀ (l : Fin 1024), x0 (ix2 r l) = X0 (ix2 R l))
    (h1 : ∀ (k : Fin 1024) (l : Fin 1024), x1 (ix2 k l) = X1 (ix2 k l))
    (h2 : ∀ (l : Fin 1024), x2 (ix2 r l) = X2 (ix2 R l))
    (h3 : ∀ (k : Fin 1) (l : Fin 1024), x3 (ix2 k l) = X3 (ix2 k l)) :
    out0_5 (F := Ideal) x0 x1 x2 x3 (ix2 r s)
      = Cert.OutProjRefIdeal.Read.val_main_v16 (F := Ideal) X0 X1 X2 X3 (ix2 R s) := by
  unfold out0_5
  rw [View.canon_unit_zero (by decide)]
  simp only [View.ld_unit_zero (S := S1024x1024) (by decide : (![0, 0] : Fin 2 → Nat) = fun _ => 0), View.ld_unit_zero (S := S1x1024) (by decide : (![0, 0] : Fin 2 → Nat) = fun _ => 0)]
  unfold_payloads
  pointwise [Cert.OutProjRefIdeal.Read.val_main_v0, Cert.OutProjRefIdeal.Read.val_main_v1, Cert.OutProjRefIdeal.Read.val_main_v2, Cert.OutProjRefIdeal.Read.val_main_v3, Cert.OutProjRefIdeal.Read.val_main_v4, Cert.OutProjRefIdeal.Read.val_main_cst, Cert.OutProjRefIdeal.Read.val_main_v5, Cert.OutProjRefIdeal.Read.val_main_v6, Cert.OutProjRefIdeal.Read.val_main_cst_0, Cert.OutProjRefIdeal.Read.val_main_v7, Cert.OutProjRefIdeal.Read.val_main_v8, Cert.OutProjRefIdeal.Read.val_main_cst_1, Cert.OutProjRefIdeal.Read.val_main_v9, Cert.OutProjRefIdeal.Read.val_main_v10, Cert.OutProjRefIdeal.Read.val_main_v11, Cert.OutProjRefIdeal.Read.val_main_v12, Cert.OutProjRefIdeal.Read.val_main_v13, Cert.OutProjRefIdeal.Read.val_main_v14, Cert.OutProjRefIdeal.Read.val_main_v15, Cert.OutProjRefIdeal.Read.val_main_v16]
  simp only [h0, h1, h2, h3, add_comm]

/-- The result array as a function of the argument arrays: the reference's own term. -/
def G4 (c : Dev nD) : S4096x1024.Idx → EReal :=
  Cert.OutProjRefIdeal.Read.val_main_v3 (F := Ideal) (A0 m c) (A1 m c) (A2 m c)

theorem flushed4_eq (c : Dev nD) (t : Fin cfg0.N) :
    (dats m 0 c).flushed 4 t = ((cfg0.win 4).blk t).view.read (Elt Ideal) (G4 m c) := by
  have hi := index_maps t
  have hl0 := hi.2.2.2.2.2.2.2.2.2.2.1
  have hl1 := hi.2.2.2.2.2.2.2.2.2.2.2
  rw [Value.flushed4]
  funext y
  obtain ⟨r, s, rfl⟩ : ∃ (r : Fin 1024) (s : Fin 1024), y = ix2 r s := ⟨y 0, y 1, eq_ix2 y⟩
  show out0_4 (iblk m c 0 t) (iblk m c 1 t) (iblk m c 2 t) (iblk m c 3 t) (ix2 r s) = G4 m c ((win0_4.rect t).emb (ix2 r s))
  have e : ((win0_4.rect t).emb (ix2 r s) : S4096x1024.Idx)
      = ix2 ⟨win0_4.index t 0 * 1024 + r.val, by omega⟩ s :=
    Shape.idx_ext₂ ((win0_4.rect_emb_val t (ix2 r s) 0).trans rfl)
      ((win0_4.rect_emb_val t (ix2 r s) 1).trans (by rw [Nat.lt_one_iff.mp hl1]; simp))
  rw [e]
  exact same4 _ _ _ _ _ _ _ _ r s _ (fun l => in0_at m c t r l (by omega)) (fun k l => in1_at m c t k l) (fun l => in2_at m c t r l (by omega)) (fun k l => in3_at m c t k l)

theorem covered4 (i : S4096x1024.Idx) : ∃ t : Fin cfg0.N, (cfg0.win 4).flush t = true ∧ i ∈ ((cfg0.win 4).blk t).view.set := by
  have h0 : (i 0).val < 4096 := (i 0).isLt
  have h1 : (i 1).val < 1024 := (i 1).isLt
  obtain ⟨t, hf⟩ := index_onto ⟨(i 0).val / 1024, by omega⟩ ⟨(i 1).val / 1024, by omega⟩
  have hi := index_maps t
  have e0 := hf.2.2.1
  have e1 := hf.2.2.2
  dsimp only at e0 e1
  refine ⟨t, hf.1, ?_⟩
  show i ∈ ((View.whole main_v0_0).slice (win0_4.rect t)).set
  rw [View.set_slice_whole, Rect.mem_set_unit]
  intro a
  match a with
  | ⟨0, _⟩ => show win0_4.index t 0 * 1024 ≤ (i 0).val ∧ (i 0).val < win0_4.index t 0 * 1024 + 1024
              omega
  | ⟨1, _⟩ => show win0_4.index t 1 * 1024 ≤ (i 1).val ∧ (i 1).val < win0_4.index t 1 * 1024 + 1024
              omega

/-- After the run the result array is `G4`. -/
theorem final4 (c : Dev nD) : (dats m 0 c).arrAt 4 cfg0.N = G4 m c :=
  (dats m 0 c).arrAt_eq_of_cover 4 (G4 m c) (fun t _ => flushed4_eq m c t) covered4

/-- The result array as a function of the argument arrays: the reference's own term. -/
def G5 (c : Dev nD) : S4096x1024.Idx → EReal :=
  Cert.OutProjRefIdeal.Read.val_main_v16 (F := Ideal) (A0 m c) (A1 m c) (A2 m c) (A3 m c)

theorem flushed5_eq (c : Dev nD) (t : Fin cfg0.N) :
    (dats m 0 c).flushed 5 t = ((cfg0.win 5).blk t).view.read (Elt Ideal) (G5 m c) := by
  have hi := index_maps t
  have hl0 := hi.2.2.2.2.2.2.2.2.2.2.1
  have hl1 := hi.2.2.2.2.2.2.2.2.2.2.2
  rw [Value.flushed5]
  funext y
  obtain ⟨r, s, rfl⟩ : ∃ (r : Fin 1024) (s : Fin 1024), y = ix2 r s := ⟨y 0, y 1, eq_ix2 y⟩
  show out0_5 (iblk m c 0 t) (iblk m c 1 t) (iblk m c 2 t) (iblk m c 3 t) (ix2 r s) = G5 m c ((win0_5.rect t).emb (ix2 r s))
  have e : ((win0_5.rect t).emb (ix2 r s) : S4096x1024.Idx)
      = ix2 ⟨win0_4.index t 0 * 1024 + r.val, by omega⟩ s :=
    Shape.idx_ext₂ ((win0_5.rect_emb_val t (ix2 r s) 0).trans (by rw [hi.2.2.2.2.2.2.2.2.1]; rfl))
      ((win0_5.rect_emb_val t (ix2 r s) 1).trans (by rw [hi.2.2.2.2.2.2.2.2.2.1]; rw [Nat.lt_one_iff.mp hl1]; simp))
  rw [e]
  exact same5 _ _ _ _ _ _ _ _ r s _ (fun l => in0_at m c t r l (by omega)) (fun k l => in1_at m c t k l) (fun l => in2_at m c t r l (by omega)) (fun k l => in3_at m c t k l)

theorem covered5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  obtain ⟨t, hf⟩ := index_onto ⟨(i 0).val / 1024, by omega⟩ ⟨(i 1).val / 1024, by omega⟩
  have hi := index_maps t
  have e0 := hf.2.2.1
  have e1 := hf.2.2.2
  dsimp only at e0 e1
  refine ⟨t, hf.2.1, ?_⟩
  show i ∈ ((View.whole main_v0_1).slice (win0_5.rect t)).set
  rw [View.set_slice_whole, Rect.mem_set_unit]
  intro a
  match a with
  | ⟨0, _⟩ => show win0_5.index t 0 * 1024 ≤ (i 0).val ∧ (i 0).val < win0_5.index t 0 * 1024 + 1024
              rw [hi.2.2.2.2.2.2.2.2.1]; omega
  | ⟨1, _⟩ => show win0_5.index t 1 * 1024 ≤ (i 1).val ∧ (i 1).val < win0_5.index t 1 * 1024 + 1024
              rw [hi.2.2.2.2.2.2.2.2.2.1]; omega

/-- After the run the result array is `G5`. -/
theorem final5 (c : Dev nD) : (dats m 0 c).arrAt 5 cfg0.N = G5 m c :=
  (dats m 0 c).arrAt_eq_of_cover 5 (G5 m c) (fun t _ => flushed5_eq m c t) covered5

/-- The kernel and the reference leave equal results. -/
theorem algebraic : Cert.algebraic_OutProjIdeal_OutProjRefIdeal := fun m g m' g' _ hagree =>
  ⟨fun c => G4 m c, fun c => G5 m c,
    (θ_run _ _ _).mono (fun r h c => ⟨(h c).1.trans (final4 m c), (h c).2.1.trans (final5 m c), (h c).2.2⟩)
      (Value.run_blocks (F := Ideal) m g),
    (θ_run _ _ _).mono (fun r h c => by
        obtain ⟨e0, e1, e2, e3⟩ := hagree c
        refine ⟨(h c).1.trans ?_, (h c).2.1.trans ?_, (h c).2.2⟩
        · rw [e0, e1, e2]; rfl
        · rw [e0, e1, e2, e3]; rfl)
      (Cert.OutProjRefIdeal.Value.run (F := Ideal) m' g')⟩

end Cert.Hand.OutProj

end
-- ==== Proof.GluGate.lean ====
/-
  The gate's product, and the normalised gated branch it makes with the recurrence's output, on one device's 4096
  tokens.
-/
module

public import proofs.«01_k».proof.Proof.Gen.GluGateIdeal.Value
public import proofs.«01_k».proof.Proof.Gen.GluGateRefIdeal.Run
public import proofs.«01_k».proof.Proof.Gen.GluGateRefIdeal.Read
public import proofs.«01_k».proof.Defs
public import Idealize.ShloMosaic.Lib.Pointwise
public import Idealize.ShloMosaic.Lib.Pipeline.Value

@[expose] public section

set_option maxRecDepth 16384

noncomputable section

namespace Cert.Hand.GluGate

open Cert.GluGateIdeal Cert.GluGateIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- Grid points tile the result: 4 row blocks by 1 column blocks; where each argument's block lies. -/
theorem index_maps : ∀ t : Fin cfg0.N,
    win0_0.index t 0 = win0_5.index t 0
    ∧ win0_0.index t 1 = 0
    ∧ win0_1.index t 0 = 0
    ∧ win0_1.index t 1 = 0
    ∧ win0_2.index t 0 = win0_5.index t 0
    ∧ win0_2.index t 1 = 0
    ∧ win0_3.index t 0 = 0
    ∧ win0_3.index t 1 = 0
    ∧ win0_4.index t 0 = 0
    ∧ win0_4.index t 1 = 0
    ∧ win0_6.index t 0 = win0_5.index t 0
    ∧ win0_6.index t 1 = win0_5.index t 1
    ∧ win0_5.index t 0 < 4
    ∧ win0_5.index t 1 < 1 :=
  (by decide +kernel : ∀ t : Fin grid0.N, _)

/-- Every block of the results belongs to some grid point, and every point writes back. -/
theorem index_onto : ∀ (a : Fin 4) (b : Fin 1), ∃ t : Fin cfg0.N,
    (cfg0.win 5).flush t = true ∧ (cfg0.win 6).flush t = true
    ∧ win0_5.index t 0 = a.val ∧ win0_5.index t 1 = b.val :=
  (by decide +kernel : ∀ (a : Fin 4) (b : Fin 1), ∃ t : Fin grid0.N, _)

/-- The argument arrays. -/
abbrev A0 (c : Dev nD) : S4096x512.Idx → EReal := m ((c : Thread nD τ).loc main_arg0)
abbrev A1 (c : Dev nD) : S512x512.Idx → EReal := m ((c : Thread nD τ).loc main_arg1)
abbrev A2 (c : Dev nD) : S4096x512.Idx → EReal := m ((c : Thread nD τ).loc main_arg2)
abbrev A3 (c : Dev nD) : S1x512.Idx → EReal := m ((c : Thread nD τ).loc main_arg3)
abbrev A4 (c : Dev nD) : S1x512.Idx → EReal := m ((c : Thread nD τ).loc main_arg4)

/-! ## What a grid point reads -/

theorem in0_at (c : Dev nD) (t : Fin cfg0.N) (r : Fin 1024) (s : Fin 512) (h0 : win0_5.index t 0 * 1024 + r.val < 4096) :
    iblk m c 0 t (ix2 r s) = A0 m c (ix2 ⟨win0_5.index t 0 * 1024 + r.val, h0⟩ s) := by
  have hi := index_maps t
  show m ((c : Thread nD τ).loc main_arg0) ((win0_0.rect t).emb (ix2 r s)) = _
  exact congrArg _ (Shape.idx_ext₂ ((win0_0.rect_emb_val t (ix2 r s) 0).trans (by rw [hi.1]; rfl))
    ((win0_0.rect_emb_val t (ix2 r s) 1).trans (by rw [hi.2.1]; simp)))

theorem in1_at (c : Dev nD) (t : Fin cfg0.N) (r : Fin 512) (s : Fin 512) :
    iblk m c 1 t (ix2 r s) = A1 m c (ix2 r s) := by
  have hi := index_maps t
  show m ((c : Thread nD τ).loc main_arg1) ((win0_1.rect t).emb (ix2 r s)) = _
  exact congrArg _ (Shape.idx_ext₂ ((win0_1.rect_emb_val t (ix2 r s) 0).trans (by rw [hi.2.2.1]; simp))
    ((win0_1.rect_emb_val t (ix2 r s) 1).trans (by rw [hi.2.2.2.1]; simp)))

theorem in2_at (c : Dev nD) (t : Fin cfg0.N) (r : Fin 1024) (s : Fin 512) (h0 : win0_5.index t 0 * 1024 + r.val < 4096) :
    iblk m c 2 t (ix2 r s) = A2 m c (ix2 ⟨win0_5.index t 0 * 1024 + r.val, h0⟩ s) := by
  have hi := index_maps t
  show m ((c : Thread nD τ).loc main_arg2) ((win0_2.rect t).emb (ix2 r s)) = _
  exact congrArg _ (Shape.idx_ext₂ ((win0_2.rect_emb_val t (ix2 r s) 0).trans (by rw [hi.2.2.2.2.1]; rfl))
    ((win0_2.rect_emb_val t (ix2 r s) 1).trans (by rw [hi.2.2.2.2.2.1]; simp)))

theorem in3_at (c : Dev nD) (t : Fin cfg0.N) (r : Fin 1) (s : Fin 512) :
    iblk m c 3 t (ix2 r s) = A3 m c (ix2 r s) := by
  have hi := index_maps t
  show m ((c : Thread nD τ).loc main_arg3) ((win0_3.rect t).emb (ix2 r s)) = _
  exact congrArg _ (Shape.idx_ext₂ ((win0_3.rect_emb_val t (ix2 r s) 0).trans (by rw [hi.2.2.2.2.2.2.1]; simp))
    ((win0_3.rect_emb_val t (ix2 r s) 1).trans (by rw [hi.2.2.2.2.2.2.2.1]; simp)))

theorem in4_at (c : Dev nD) (t : Fin cfg0.N) (r : Fin 1) (s : Fin 512) :
    iblk m c 4 t (ix2 r s) = A4 m c (ix2 r s) := by
  have hi := index_maps t
  show m ((c : Thread nD τ).loc main_arg4) ((win0_4.rect t).emb (ix2 r s)) = _
  exact congrArg _ (Shape.idx_ext₂ ((win0_4.rect_emb_val t (ix2 r s) 0).trans (by rw [hi.2.2.2.2.2.2.2.2.1]; simp))
    ((win0_4.rect_emb_val t (ix2 r s) 1).trans (by rw [hi.2.2.2.2.2.2.2.2.2.1]; simp)))

/-! ## A block of each result and the reference's array -/

theorem same5 (x0 : Vec Ideal S1024x512 .bf16) (x1 : Vec Ideal S512x512 .bf16) (x2 : Vec Ideal S1024x512 .f32) (x3 : Vec Ideal S1x512 .f32) (x4 : Vec Ideal S1x512 .f32)
    (X0 : Vec Ideal S4096x512 .bf16) (X1 : Vec Ideal S512x512 .bf16) (X2 : Vec Ideal S4096x512 .f32) (X3 : Vec Ideal S1x512 .f32) (X4 : Vec Ideal S1x512 .f32)
    (r : Fin 1024) (s : Fin 512) (R : Fin 4096)
    (h0 : ∀ (l : Fin 512), x0 (ix2 r l) = X0 (ix2 R l))
    (h1 : ∀ (k : Fin 512) (l : Fin 512), x1 (ix2 k l) = X1 (ix2 k l))
    (h2 : ∀ (l : Fin 512), x2 (ix2 r l) = X2 (ix2 R l))
    (h3 : ∀ (k : Fin 1) (l : Fin 512), x3 (ix2 k l) = X3 (ix2 k l))
    (h4 : ∀ (k : Fin 1) (l : Fin 512), x4 (ix2 k l) = X4 (ix2 k l)) :
    out0_5 (F := Ideal) x0 x1 x2 x3 x4 (ix2 r s)
      = Cert.GluGateRefIdeal.Read.val_main_v2 (F := Ideal) X0 X1 (ix2 R s) := by
  unfold out0_5
  rw [View.canon_unit_zero (by decide)]
  simp only [View.ld_unit_zero (S := S1024x512) (by decide : (![0, 0] : Fin 2 → Nat) = fun _ => 0), View.ld_unit_zero (S := S1x512) (by decide : (![0, 0] : Fin 2 → Nat) = fun _ => 0), View.ld_unit_zero (S := S512x512) (by decide : (![0, 0] : Fin 2 → Nat) = fun _ => 0)]
  unfold_payloads
  pointwise [Cert.GluGateRefIdeal.Read.val_main_v0, Cert.GluGateRefIdeal.Read.val_main_v1, Cert.GluGateRefIdeal.Read.val_main_v2, Cert.GluGateRefIdeal.Read.val_main_v3, Cert.GluGateRefIdeal.Read.val_main_v4, Cert.GluGateRefIdeal.Read.val_main_cst, Cert.GluGateRefIdeal.Read.val_main_v5, Cert.GluGateRefIdeal.Read.val_main_v6, Cert.GluGateRefIdeal.Read.val_main_v7, Cert.GluGateRefIdeal.Read.val_main_cst_0, Cert.GluGateRefIdeal.Read.val_main_v8, Cert.GluGateRefIdeal.Read.val_main_v9, Cert.GluGateRefIdeal.Read.val_main_v10, Cert.GluGateRefIdeal.Read.val_main_cst_1, Cert.GluGateRefIdeal.Read.val_main_v11, Cert.GluGateRefIdeal.Read.val_main_v12, Cert.GluGateRefIdeal.Read.val_main_cst_2, Cert.GluGateRefIdeal.Read.val_main_v13, Cert.GluGateRefIdeal.Read.val_main_v14, Cert.GluGateRefIdeal.Read.val_main_v15, Cert.GluGateRefIdeal.Read.val_main_v16, Cert.GluGateRefIdeal.Read.val_main_v17, Cert.GluGateRefIdeal.Read.val_main_v18, Cert.GluGateRefIdeal.Read.val_main_v19, Cert.GluGateRefIdeal.Read.val_main_cst_3, Cert.GluGateRefIdeal.Read.val_main_v20, Cert.GluGateRefIdeal.Read.val_main_v21, Cert.GluGateRefIdeal.Read.val_main_cst_4, Cert.GluGateRefIdeal.Read.val_main_v22, Cert.GluGateRefIdeal.Read.val_main_v23, Cert.GluGateRefIdeal.Read.val_main_v24, Cert.GluGateRefIdeal.Read.val_main_v25, Cert.GluGateRefIdeal.Read.val_main_cst_5, Cert.GluGateRefIdeal.Read.val_main_v26, Cert.GluGateRefIdeal.Read.val_main_v27, Cert.GluGateRefIdeal.Read.val_main_cst_6, Cert.GluGateRefIdeal.Read.val_main_v28, Cert.GluGateRefIdeal.Read.val_main_v29, Cert.GluGateRefIdeal.Read.val_main_cst_7, Cert.GluGateRefIdeal.Read.val_main_v30, Cert.GluGateRefIdeal.Read.val_main_v31, Cert.GluGateRefIdeal.Read.val_main_v32, Cert.GluGateRefIdeal.Read.val_main_v33, Cert.GluGateRefIdeal.Read.val_main_v34, Cert.GluGateRefIdeal.Read.val_main_v35, Cert.GluGateRefIdeal.Read.val_main_v36, Cert.GluGateRefIdeal.Read.val_main_v37]
  simp only [h0, h1, h2, h3, h4, Ideal.logistic, mul_assoc]

theorem same6 (x0 : Vec Ideal S1024x512 .bf16) (x1 : Vec Ideal S512x512 .bf16) (x2 : Vec Ideal S1024x512 .f32) (x3 : Vec Ideal S1x512 .f32) (x4 : Vec Ideal S1x512 .f32)
    (X0 : Vec Ideal S4096x512 .bf16) (X1 : Vec Ideal S512x512 .bf16) (X2 : Vec Ideal S4096x512 .f32) (X3 : Vec Ideal S1x512 .f32) (X4 : Vec Ideal S1x512 .f32)
    (r : Fin 1024) (s : Fin 512) (R : Fin 4096)
    (h0 : ∀ (l : Fin 512), x0 (ix2 r l) = X0 (ix2 R l))
    (h1 : ∀ (k : Fin 512) (l : Fin 512), x1 (ix2 k l) = X1 (ix2 k l))
    (h2 : ∀ (l : Fin 512), x2 (ix2 r l) = X2 (ix2 R l))
    (h3 : ∀ (k : Fin 1) (l : Fin 512), x3 (ix2 k l) = X3 (ix2 k l))
    (h4 : ∀ (k : Fin 1) (l : Fin 512), x4 (ix2 k l) = X4 (ix2 k l)) :
    out0_6 (F := Ideal) x0 x1 x2 x3 x4 (ix2 r s)
      = Cert.GluGateRefIdeal.Read.val_main_v37 (F := Ideal) X0 X1 X2 X3 X4 (ix2 R s) := by
  unfold out0_6
  rw [View.canon_unit_zero (by decide)]
  simp only [View.ld_unit_zero (S := S1024x512) (by decide : (![0, 0] : Fin 2 → Nat) = fun _ => 0), View.ld_unit_zero (S := S1x512) (by decide : (![0, 0] : Fin 2 → Nat) = fun _ => 0), View.ld_unit_zero (S := S512x512) (by decide : (![0, 0] : Fin 2 → Nat) = fun _ => 0)]
  unfold_payloads
  pointwise [Cert.GluGateRefIdeal.Read.val_main_v0, Cert.GluGateRefIdeal.Read.val_main_v1, Cert.GluGateRefIdeal.Read.val_main_v2, Cert.GluGateRefIdeal.Read.val_main_v3, Cert.GluGateRefIdeal.Read.val_main_v4, Cert.GluGateRefIdeal.Read.val_main_cst, Cert.GluGateRefIdeal.Read.val_main_v5, Cert.GluGateRefIdeal.Read.val_main_v6, Cert.GluGateRefIdeal.Read.val_main_v7, Cert.GluGateRefIdeal.Read.val_main_cst_0, Cert.GluGateRefIdeal.Read.val_main_v8, Cert.GluGateRefIdeal.Read.val_main_v9, Cert.GluGateRefIdeal.Read.val_main_v10, Cert.GluGateRefIdeal.Read.val_main_cst_1, Cert.GluGateRefIdeal.Read.val_main_v11, Cert.GluGateRefIdeal.Read.val_main_v12, Cert.GluGateRefIdeal.Read.val_main_cst_2, Cert.GluGateRefIdeal.Read.val_main_v13, Cert.GluGateRefIdeal.Read.val_main_v14, Cert.GluGateRefIdeal.Read.val_main_v15, Cert.GluGateRefIdeal.Read.val_main_v16, Cert.GluGateRefIdeal.Read.val_main_v17, Cert.GluGateRefIdeal.Read.val_main_v18, Cert.GluGateRefIdeal.Read.val_main_v19, Cert.GluGateRefIdeal.Read.val_main_cst_3, Cert.GluGateRefIdeal.Read.val_main_v20, Cert.GluGateRefIdeal.Read.val_main_v21, Cert.GluGateRefIdeal.Read.val_main_cst_4, Cert.GluGateRefIdeal.Read.val_main_v22, Cert.GluGateRefIdeal.Read.val_main_v23, Cert.GluGateRefIdeal.Read.val_main_v24, Cert.GluGateRefIdeal.Read.val_main_v25, Cert.GluGateRefIdeal.Read.val_main_cst_5, Cert.GluGateRefIdeal.Read.val_main_v26, Cert.GluGateRefIdeal.Read.val_main_v27, Cert.GluGateRefIdeal.Read.val_main_cst_6, Cert.GluGateRefIdeal.Read.val_main_v28, Cert.GluGateRefIdeal.Read.val_main_v29, Cert.GluGateRefIdeal.Read.val_main_cst_7, Cert.GluGateRefIdeal.Read.val_main_v30, Cert.GluGateRefIdeal.Read.val_main_v31, Cert.GluGateRefIdeal.Read.val_main_v32, Cert.GluGateRefIdeal.Read.val_main_v33, Cert.GluGateRefIdeal.Read.val_main_v34, Cert.GluGateRefIdeal.Read.val_main_v35, Cert.GluGateRefIdeal.Read.val_main_v36, Cert.GluGateRefIdeal.Read.val_main_v37]
  simp only [h0, h1, h2, h3, h4, Ideal.logistic, mul_assoc]

/-- The result array as a function of the argument arrays: the reference's own term. -/
def G5 (c : Dev nD) : S4096x512.Idx → EReal :=
  Cert.GluGateRefIdeal.Read.val_main_v2 (F := Ideal) (A0 m c) (A1 m c)

theorem flushed5_eq (c : Dev nD) (t : Fin cfg0.N) :
    (dats m 0 c).flushed 5 t = ((cfg0.win 5).blk t).view.read (Elt Ideal) (G5 m c) := by
  have hi := index_maps t
  have hl0 := hi.2.2.2.2.2.2.2.2.2.2.2.2.1
  have hl1 := hi.2.2.2.2.2.2.2.2.2.2.2.2.2
  rw [Value.flushed5]
  funext y
  obtain ⟨r, s, rfl⟩ : ∃ (r : Fin 1024) (s : Fin 512), y = ix2 r s := ⟨y 0, y 1, eq_ix2 y⟩
  show out0_5 (iblk m c 0 t) (iblk m c 1 t) (iblk m c 2 t) (iblk m c 3 t) (iblk m c 4 t) (ix2 r s) = G5 m c ((win0_5.rect t).emb (ix2 r s))
  have e : ((win0_5.rect t).emb (ix2 r s) : S4096x512.Idx)
      = ix2 ⟨win0_5.index t 0 * 1024 + r.val, by omega⟩ s :=
    Shape.idx_ext₂ ((win0_5.rect_emb_val t (ix2 r s) 0).trans rfl)
      ((win0_5.rect_emb_val t (ix2 r s) 1).trans (by rw [Nat.lt_one_iff.mp hl1]; simp))
  rw [e]
  exact same5 _ _ _ _ _ _ _ _ _ _ r s _ (fun l => in0_at m c t r l (by omega)) (fun k l => in1_at m c t k l) (fun l => in2_at m c t r l (by omega)) (fun k l => in3_at m c t k l) (fun k l => in4_at m c t k l)

theorem covered5 (i : S4096x512.Idx) : ∃ t : Fin cfg0.N, (cfg0.win 5).flush t = true ∧ i ∈ ((cfg0.win 5).blk t).view.set := by
  have h0 : (i 0).val < 4096 := (i 0).isLt
  have h1 : (i 1).val < 512 := (i 1).isLt
  obtain ⟨t, hf⟩ := index_onto ⟨(i 0).val / 1024, by omega⟩ ⟨(i 1).val / 512, by omega⟩
  have hi := index_maps t
  have e0 := hf.2.2.1
  have e1 := hf.2.2.2
  dsimp only at e0 e1
  refine ⟨t, hf.1, ?_⟩
  show i ∈ ((View.whole main_v0_0).slice (win0_5.rect t)).set
  rw [View.set_slice_whole, Rect.mem_set_unit]
  intro a
  match a with
  | ⟨0, _⟩ => show win0_5.index t 0 * 1024 ≤ (i 0).val ∧ (i 0).val < win0_5.index t 0 * 1024 + 1024
              omega
  | ⟨1, _⟩ => show win0_5.index t 1 * 512 ≤ (i 1).val ∧ (i 1).val < win0_5.index t 1 * 512 + 512
              omega

/-- After the run the result array is `G5`. -/
theorem final5 (c : Dev nD) : (dats m 0 c).arrAt 5 cfg0.N = G5 m c :=
  (dats m 0 c).arrAt_eq_of_cover 5 (G5 m c) (fun t _ => flushed5_eq m c t) covered5

/-- The result array as a function of the argument arrays: the reference's own term. -/
def G6 (c : Dev nD) : S4096x512.Idx → EReal :=
  Cert.GluGateRefIdeal.Read.val_main_v37 (F := Ideal) (A0 m c) (A1 m c) (A2 m c) (A3 m c) (A4 m c)

theorem flushed6_eq (c : Dev nD) (t : Fin cfg0.N) :
    (dats m 0 c).flushed 6 t = ((cfg0.win 6).blk t).view.read (Elt Ideal) (G6 m c) := by
  have hi := index_maps t
  have hl0 := hi.2.2.2.2.2.2.2.2.2.2.2.2.1
  have hl1 := hi.2.2.2.2.2.2.2.2.2.2.2.2.2
  rw [Value.flushed6]
  funext y
  obtain ⟨r, s, rfl⟩ : ∃ (r : Fin 1024) (s : Fin 512), y = ix2 r s := ⟨y 0, y 1, eq_ix2 y⟩
  show out0_6 (iblk m c 0 t) (iblk m c 1 t) (iblk m c 2 t) (iblk m c 3 t) (iblk m c 4 t) (ix2 r s) = G6 m c ((win0_6.rect t).emb (ix2 r s))
  have e : ((win0_6.rect t).emb (ix2 r s) : S4096x512.Idx)
      = ix2 ⟨win0_5.index t 0 * 1024 + r.val, by omega⟩ s :=
    Shape.idx_ext₂ ((win0_6.rect_emb_val t (ix2 r s) 0).trans (by rw [hi.2.2.2.2.2.2.2.2.2.2.1]; rfl))
      ((win0_6.rect_emb_val t (ix2 r s) 1).trans (by rw [hi.2.2.2.2.2.2.2.2.2.2.2.1]; rw [Nat.lt_one_iff.mp hl1]; simp))
  rw [e]
  exact same6 _ _ _ _ _ _ _ _ _ _ r s _ (fun l => in0_at m c t r l (by omega)) (fun k l => in1_at m c t k l) (fun l => in2_at m c t r l (by omega)) (fun k l => in3_at m c t k l) (fun k l => in4_at m c t k l)

theorem covered6 (i : S4096x512.Idx) : ∃ t : Fin cfg0.N, (cfg0.win 6).flush t = true ∧ i ∈ ((cfg0.win 6).blk t).view.set := by
  have h0 : (i 0).val < 4096 := (i 0).isLt
  have h1 : (i 1).val < 512 := (i 1).isLt
  obtain ⟨t, hf⟩ := index_onto ⟨(i 0).val / 1024, by omega⟩ ⟨(i 1).val / 512, by omega⟩
  have hi := index_maps t
  have e0 := hf.2.2.1
  have e1 := hf.2.2.2
  dsimp only at e0 e1
  refine ⟨t, hf.2.1, ?_⟩
  show i ∈ ((View.whole main_v0_1).slice (win0_6.rect t)).set
  rw [View.set_slice_whole, Rect.mem_set_unit]
  intro a
  match a with
  | ⟨0, _⟩ => show win0_6.index t 0 * 1024 ≤ (i 0).val ∧ (i 0).val < win0_6.index t 0 * 1024 + 1024
              rw [hi.2.2.2.2.2.2.2.2.2.2.1]; omega
  | ⟨1, _⟩ => show win0_6.index t 1 * 512 ≤ (i 1).val ∧ (i 1).val < win0_6.index t 1 * 512 + 512
              rw [hi.2.2.2.2.2.2.2.2.2.2.2.1]; omega

/-- After the run the result array is `G6`. -/
theorem final6 (c : Dev nD) : (dats m 0 c).arrAt 6 cfg0.N = G6 m c :=
  (dats m 0 c).arrAt_eq_of_cover 6 (G6 m c) (fun t _ => flushed6_eq m c t) covered6

/-- The kernel and the reference leave equal results. -/
theorem algebraic : Cert.algebraic_GluGateIdeal_GluGateRefIdeal := fun m g m' g' _ hagree =>
  ⟨fun c => G5 m c, fun c => G6 m c,
    (θ_run _ _ _).mono (fun r h c => ⟨(h c).1.trans (final5 m c), (h c).2.1.trans (final6 m c), (h c).2.2⟩)
      (Value.run_blocks (F := Ideal) m g),
    (θ_run _ _ _).mono (fun r h c => by
        obtain ⟨e0, e1, e2, e3, e4⟩ := hagree c
        refine ⟨(h c).1.trans ?_, (h c).2.1.trans ?_, (h c).2.2⟩
        · rw [e0, e1]; rfl
        · rw [e0, e1, e2, e3, e4]; rfl)
      (Cert.GluGateRefIdeal.Value.run (F := Ideal) m' g')⟩

end Cert.Hand.GluGate

end
-- ==== Proof.AttnNorm.lean ====
/-
  The normalised attention output beside the recurrence's, on one device's 4096 tokens.
-/
module

public import proofs.«01_k».proof.Proof.Gen.AttnNormIdeal.Value
public import proofs.«01_k».proof.Proof.Gen.AttnNormRefIdeal.Run
public import proofs.«01_k».proof.Proof.Gen.AttnNormRefIdeal.Read
public import proofs.«01_k».proof.Defs
public import Idealize.ShloMosaic.Lib.Pointwise
public import Idealize.ShloMosaic.Lib.Pipeline.Value

@[expose] public section

set_option maxRecDepth 16384

noncomputable section

namespace Cert.Hand.AttnNorm

open Cert.AttnNormIdeal Cert.AttnNormIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- Grid points tile the result: 8 row blocks by 1 column blocks; where each argument's block lies. -/
theorem index_maps : ∀ t : Fin cfg0.N,
    win0_0.index t 0 = win0_3.index t 0
    ∧ win0_0.index t 1 = 0
    ∧ win0_1.index t 0 = win0_3.index t 0
    ∧ win0_1.index t 1 = 0
    ∧ win0_2.index t 0 = 0
    ∧ win0_2.index t 1 = 0
    ∧ win0_3.index t 0 < 8
    ∧ win0_3.index t 1 < 1 :=
  (by decide +kernel : ∀ t : Fin grid0.N, _)

/-- Every block of the results belongs to some grid point, and every point writes back. -/
theorem index_onto : ∀ (a : Fin 8) (b : Fin 1), ∃ t : Fin cfg0.N,
    (cfg0.win 3).flush t = true
    ∧ win0_3.index t 0 = a.val ∧ win0_3.index t 1 = b.val :=
  (by decide +kernel : ∀ (a : Fin 8) (b : Fin 1), ∃ t : Fin grid0.N, _)

/-- The argument arrays. -/
abbrev A0 (c : Dev nD) : S4096x512.Idx → EReal := m ((c : Thread nD τ).loc main_arg0)
abbrev A1 (c : Dev nD) : S4096x512.Idx → EReal := m ((c : Thread nD τ).loc main_arg1)
abbrev A2 (c : Dev nD) : S1x512.Idx → EReal := m ((c : Thread nD τ).loc main_arg2)

/-! ## What a grid point reads -/

theorem in0_at (c : Dev nD) (t : Fin cfg0.N) (r : Fin 512) (s : Fin 512) (h0 : win0_3.index t 0 * 512 + r.val < 4096) :
    iblk m c 0 t (ix2 r s) = A0 m c (ix2 ⟨win0_3.index t 0 * 512 + r.val, h0⟩ s) := by
  have hi := index_maps t
  show m ((c : Thread nD τ).loc main_arg0) ((win0_0.rect t).emb (ix2 r s)) = _
  exact congrArg _ (Shape.idx_ext₂ ((win0_0.rect_emb_val t (ix2 r s) 0).trans (by rw [hi.1]; rfl))
    ((win0_0.rect_emb_val t (ix2 r s) 1).trans (by rw [hi.2.1]; simp)))

theorem in1_at (c : Dev nD) (t : Fin cfg0.N) (r : Fin 512) (s : Fin 512) (h0 : win0_3.index t 0 * 512 + r.val < 4096) :
    iblk m c 1 t (ix2 r s) = A1 m c (ix2 ⟨win0_3.index t 0 * 512 + r.val, h0⟩ s) := by
  have hi := index_maps t
  show m ((c : Thread nD τ).loc main_arg1) ((win0_1.rect t).emb (ix2 r s)) = _
  exact congrArg _ (Shape.idx_ext₂ ((win0_1.rect_emb_val t (ix2 r s) 0).trans (by rw [hi.2.2.1]; rfl))
    ((win0_1.rect_emb_val t (ix2 r s) 1).trans (by rw [hi.2.2.2.1]; simp)))

theorem in2_at (c : Dev nD) (t : Fin cfg0.N) (r : Fin 1) (s : Fin 512) :
    iblk m c 2 t (ix2 r s) = A2 m c (ix2 r s) := by
  have hi := index_maps t
  show m ((c : Thread nD τ).loc main_arg2) ((win0_2.rect t).emb (ix2 r s)) = _
  exact congrArg _ (Shape.idx_ext₂ ((win0_2.rect_emb_val t (ix2 r s) 0).trans (by rw [hi.2.2.2.2.1]; simp))
    ((win0_2.rect_emb_val t (ix2 r s) 1).trans (by rw [hi.2.2.2.2.2.1]; simp)))

/-! ## A block of each result and the reference's array -/

theorem same3 (x0 : Vec Ideal S512x512 .f32) (x1 : Vec Ideal S512x512 .bf16) (x2 : Vec Ideal S1x512 .f32)
    (X0 : Vec Ideal S4096x512 .f32) (X1 : Vec Ideal S4096x512 .bf16) (X2 : Vec Ideal S1x512 .f32)
    (r : Fin 512) (s : Fin 1024) (R : Fin 4096)
    (h0 : ∀ (l : Fin 512), x0 (ix2 r l) = X0 (ix2 R l))
    (h1 : ∀ (l : Fin 512), x1 (ix2 r l) = X1 (ix2 R l))
    (h2 : ∀ (k : Fin 1) (l : Fin 512), x2 (ix2 k l) = X2 (ix2 k l)) :
    out0_3 (F := Ideal) x0 x1 x2 (ix2 r s)
      = Cert.AttnNormRefIdeal.Read.val_main_v13 (F := Ideal) X0 X1 X2 (ix2 R s) := by
  unfold out0_3
  rw [View.canon_unit_zero (by decide)]
  simp only [View.ld_unit_zero (S := S1x512) (by decide : (![0, 0] : Fin 2 → Nat) = fun _ => 0), View.ld_unit_zero (S := S512x512) (by decide : (![0, 0] : Fin 2 → Nat) = fun _ => 0)]
  unfold_payloads
  pointwise [Cert.AttnNormRefIdeal.Read.val_main_v0, Cert.AttnNormRefIdeal.Read.val_main_cst, Cert.AttnNormRefIdeal.Read.val_main_v1, Cert.AttnNormRefIdeal.Read.val_main_v2, Cert.AttnNormRefIdeal.Read.val_main_cst_0, Cert.AttnNormRefIdeal.Read.val_main_v3, Cert.AttnNormRefIdeal.Read.val_main_v4, Cert.AttnNormRefIdeal.Read.val_main_cst_1, Cert.AttnNormRefIdeal.Read.val_main_v5, Cert.AttnNormRefIdeal.Read.val_main_v6, Cert.AttnNormRefIdeal.Read.val_main_v7, Cert.AttnNormRefIdeal.Read.val_main_v8, Cert.AttnNormRefIdeal.Read.val_main_v9, Cert.AttnNormRefIdeal.Read.val_main_v10, Cert.AttnNormRefIdeal.Read.val_main_v11, Cert.AttnNormRefIdeal.Read.val_main_v12, Cert.AttnNormRefIdeal.Read.val_main_v13]
  simp only [h0, h1, h2]

/-- The result array as a function of the argument arrays: the reference's own term. -/
def G3 (c : Dev nD) : S4096x1024.Idx → EReal :=
  Cert.AttnNormRefIdeal.Read.val_main_v13 (F := Ideal) (A0 m c) (A1 m c) (A2 m c)

theorem flushed3_eq (c : Dev nD) (t : Fin cfg0.N) :
    (dats m 0 c).flushed 3 t = ((cfg0.win 3).blk t).view.read (Elt Ideal) (G3 m c) := by
  have hi := index_maps t
  have hl0 := hi.2.2.2.2.2.2.1
  have hl1 := hi.2.2.2.2.2.2.2
  rw [Value.flushed3]
  funext y
  obtain ⟨r, s, rfl⟩ : ∃ (r : Fin 512) (s : Fin 1024), y = ix2 r s := ⟨y 0, y 1, eq_ix2 y⟩
  show out0_3 (iblk m c 0 t) (iblk m c 1 t) (iblk m c 2 t) (ix2 r s) = G3 m c ((win0_3.rect t).emb (ix2 r s))
  have e : ((win0_3.rect t).emb (ix2 r s) : S4096x1024.Idx)
      = ix2 ⟨win0_3.index t 0 * 512 + r.val, by omega⟩ s :=
    Shape.idx_ext₂ ((win0_3.rect_emb_val t (ix2 r s) 0).trans rfl)
      ((win0_3.rect_emb_val t (ix2 r s) 1).trans (by rw [Nat.lt_one_iff.mp hl1]; simp))
  rw [e]
  exact same3 _ _ _ _ _ _ r s _ (fun l => in0_at m c t r l (by omega)) (fun l => in1_at m c t r l (by omega)) (fun k l => in2_at m c t k l)

theorem covered3 (i : S4096x1024.Idx) : ∃ t : Fin cfg0.N, (cfg0.win 3).flush t = true ∧ i ∈ ((cfg0.win 3).blk t).view.set := by
  have h0 : (i 0).val < 4096 := (i 0).isLt
  have h1 : (i 1).val < 1024 := (i 1).isLt
  obtain ⟨t, hf⟩ := index_onto ⟨(i 0).val / 512, by omega⟩ ⟨(i 1).val / 1024, by omega⟩
  have hi := index_maps t
  have e0 := hf.2.1
  have e1 := hf.2.2
  dsimp only at e0 e1
  refine ⟨t, hf.1, ?_⟩
  show i ∈ ((View.whole main_v0).slice (win0_3.rect t)).set
  rw [View.set_slice_whole, Rect.mem_set_unit]
  intro a
  match a with
  | ⟨0, _⟩ => show win0_3.index t 0 * 512 ≤ (i 0).val ∧ (i 0).val < win0_3.index t 0 * 512 + 512
              omega
  | ⟨1, _⟩ => show win0_3.index t 1 * 1024 ≤ (i 1).val ∧ (i 1).val < win0_3.index t 1 * 1024 + 1024
              omega

/-- After the run the result array is `G3`. -/
theorem final3 (c : Dev nD) : (dats m 0 c).arrAt 3 cfg0.N = G3 m c :=
  (dats m 0 c).arrAt_eq_of_cover 3 (G3 m c) (fun t _ => flushed3_eq m c t) covered3

/-- The kernel and the reference leave equal results. -/
theorem algebraic : Cert.algebraic_AttnNormIdeal_AttnNormRefIdeal := fun m g m' g' _ hagree =>
  ⟨fun c => G3 m c,
    (θ_run _ _ _).mono (fun r h c => ⟨(h c).1.trans (final3 m c), (h c).2⟩)
      (Value.run_blocks (F := Ideal) m g),
    (θ_run _ _ _).mono (fun r h c => by
        obtain ⟨e0, e1, e2⟩ := hagree c
        refine ⟨(h c).1.trans ?_, (h c).2⟩
        · rw [e0, e1, e2]; rfl)
      (Cert.AttnNormRefIdeal.Value.run (F := Ideal) m' g')⟩

end Cert.Hand.AttnNorm

end
-- ==== Proof.AdamSmall.lean ====
/-
  The optimiser's step on the weights that every device holds whole, packed one after another: the gradient is the sum of
  the eight devices' parts.
-/
module

public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Defs
public import Idealize.ShloMosaic.Lib.Pointwise
public import Idealize.ShloMosaic.Lib.Pipeline.Value

@[expose] public section

set_option maxRecDepth 16384

noncomputable section

namespace Cert.Hand.AdamSmall

open Cert.AdamSmallIdeal Cert.AdamSmallIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- Grid points tile the result: 18 row blocks by 1 column blocks; where each argument's block lies. -/
theorem index_maps : ∀ t : Fin cfg0.N,
    win0_0.index t 1 = win0_4.index t 0
    ∧ (win0_0.index t 0 = 0 ∧ win0_0.index t 2 = 0)
    ∧ win0_1.index t 0 = win0_4.index t 0
    ∧ win0_1.index t 1 = 0
    ∧ win0_2.index t 0 = win0_4.index t 0
    ∧ win0_2.index t 1 = 0
    ∧ win0_3.index t 0 = win0_4.index t 0
    ∧ win0_3.index t 1 = 0
    ∧ win0_5.index t 0 = win0_4.index t 0
    ∧ win0_5.index t 1 = win0_4.index t 1
    ∧ win0_6.index t 0 = win0_4.index t 0
    ∧ win0_6.index t 1 = win0_4.index t 1
    ∧ win0_7.index t 0 = win0_4.index t 0
    ∧ win0_7.index t 1 = win0_4.index t 1
    ∧ win0_4.index t 0 < 18
    ∧ win0_4.index t 1 < 1 :=
  (by decide +kernel : ∀ t : Fin grid0.N, _)

/-- Every block of the results belongs to some grid point, and every point writes back. -/
theorem index_onto : ∀ (a : Fin 18) (b : Fin 1), ∃ t : Fin cfg0.N,
    (cfg0.win 4).flush t = true ∧ (cfg0.win 5).flush t = true ∧ (cfg0.win 6).flush t = true ∧ (cfg0.win 7).flush t = true
    ∧ win0_4.index t 0 = a.val ∧ win0_4.index t 1 = b.val :=
  (by decide +kernel : ∀ (a : Fin 18) (b : Fin 1), ∃ t : Fin grid0.N, _)

/-- The argument arrays. -/
abbrev A0 (c : Dev nD) : S8x144x1024.Idx → EReal := m ((c : Thread nD τ).loc main_arg0)
abbrev A1 (c : Dev nD) : S144x1024.Idx → EReal := m ((c : Thread nD τ).loc main_arg1)
abbrev A2 (c : Dev nD) : S144x1024.Idx → EReal := m ((c : Thread nD τ).loc main_arg2)
abbrev A3 (c : Dev nD) : S144x1024.Idx → EReal := m ((c : Thread nD τ).loc main_arg3)

/-! ## What a grid point reads -/

theorem in0_at (c : Dev nD) (t : Fin cfg0.N) (j : Fin 8) (r : Fin 8) (s : Fin 1024) (h0 : win0_4.index t 0 * 8 + r.val < 144) :
    iblk m c 0 t (ix3 j r s) = A0 m c (ix3 j ⟨win0_4.index t 0 * 8 + r.val, h0⟩ s) := by
  have hi := index_maps t
  show m ((c : Thread nD τ).loc main_arg0) ((win0_0.rect t).emb (ix3 j r s)) = _
  refine congrArg _ (funext fun a => Fin.ext ?_)
  match a with
  | ⟨0, _⟩ => exact (win0_0.rect_emb_val t (ix3 j r s) 0).trans (by rw [hi.2.1.1]; simp)
  | ⟨1, _⟩ => exact (win0_0.rect_emb_val t (ix3 j r s) 1).trans (by rw [hi.1]; rfl)
  | ⟨2, _⟩ => exact (win0_0.rect_emb_val t (ix3 j r s) 2).trans (by rw [hi.2.1.2]; simp)

theorem in1_at (c : Dev nD) (t : Fin cfg0.N) (r : Fin 8) (s : Fin 1024) (h0 : win0_4.index t 0 * 8 + r.val < 144) :
    iblk m c 1 t (ix2 r s) = A1 m c (ix2 ⟨win0_4.index t 0 * 8 + r.val, h0⟩ s) := by
  have hi := index_maps t
  show m ((c : Thread nD τ).loc main_arg1) ((win0_1.rect t).emb (ix2 r s)) = _
  exact congrArg _ (Shape.idx_ext₂ ((win0_1.rect_emb_val t (ix2 r s) 0).trans (by rw [hi.2.2.1]; rfl))
    ((win0_1.rect_emb_val t (ix2 r s) 1).trans (by rw [hi.2.2.2.1]; simp)))

theorem in2_at (c : Dev nD) (t : Fin cfg0.N) (r : Fin 8) (s : Fin 1024) (h0 : win0_4.index t 0 * 8 + r.val < 144) :
    iblk m c 2 t (ix2 r s) = A2 m c (ix2 ⟨win0_4.index t 0 * 8 + r.val, h0⟩ s) := by
  have hi := index_maps t
  show m ((c : Thread nD τ).loc main_arg2) ((win0_2.rect t).emb (ix2 r s)) = _
  exact congrArg _ (Shape.idx_ext₂ ((win0_2.rect_emb_val t (ix2 r s) 0).trans (by rw [hi.2.2.2.2.1]; rfl))
    ((win0_2.rect_emb_val t (ix2 r s) 1).trans (by rw [hi.2.2.2.2.2.1]; simp)))

theorem in3_at (c : Dev nD) (t : Fin cfg0.N) (r : Fin 8) (s : Fin 1024) (h0 : win0_4.index t 0 * 8 + r.val < 144) :
    iblk m c 3 t (ix2 r s) = A3 m c (ix2 ⟨win0_4.index t 0 * 8 + r.val, h0⟩ s) := by
  have hi := index_maps t
  show m ((c : Thread nD τ).loc main_arg3) ((win0_3.rect t).emb (ix2 r s)) = _
  exact congrArg _ (Shape.idx_ext₂ ((win0_3.rect_emb_val t (ix2 r s) 0).trans (by rw [hi.2.2.2.2.2.2.1]; rfl))
    ((win0_3.rect_emb_val t (ix2 r s) 1).trans (by rw [hi.2.2.2.2.2.2.2.1]; simp)))

/-! ## A block of each result and the reference's array -/

theorem same4 (x0 : Vec Ideal S8x8x1024 .f32) (x1 : Vec Ideal S8x1024 .f32) (x2 : Vec Ideal S8x1024 .f32) (x3 : Vec Ideal S8x1024 .f32)
    (X0 : Vec Ideal S8x144x1024 .f32) (X1 : Vec Ideal S144x1024 .f32) (X2 : Vec Ideal S144x1024 .f32) (X3 : Vec Ideal S144x1024 .f32)
    (r : Fin 8) (s : Fin 1024) (R : Fin 144)
    (h0 : ∀ (j : Fin 8) (l : Fin 1024), x0 (ix3 j r l) = X0 (ix3 j R l))
    (h1 : ∀ (l : Fin 1024), x1 (ix2 r l) = X1 (ix2 R l))
    (h2 : ∀ (l : Fin 1024), x2 (ix2 r l) = X2 (ix2 R l))
    (h3 : ∀ (l : Fin 1024), x3 (ix2 r l) = X3 (ix2 R l)) :
    out0_4 (F := Ideal) x0 x1 x2 x3 (ix2 r s)
      = Cert.AdamSmallRefIdeal.Read.val_main_v0 (F := Ideal) X0 (ix2 R s) := by
  unfold out0_4
  rw [View.canon_unit_zero (by decide)]
  try simp only [View.ld_unit_zero (S := S8x1024) (by decide : (![0, 0] : Fin 2 → Nat) = fun _ => 0)]
  unfold_payloads
  pointwise [Cert.AdamSmallRefIdeal.Read.val_main_cst, Cert.AdamSmallRefIdeal.Read.val_main_v0, Cert.AdamSmallRefIdeal.Read.val_main_cst_0, Cert.AdamSmallRefIdeal.Read.val_main_v1, Cert.AdamSmallRefIdeal.Read.val_main_v2, Cert.AdamSmallRefIdeal.Read.val_main_cst_1, Cert.AdamSmallRefIdeal.Read.val_main_v3, Cert.AdamSmallRefIdeal.Read.val_main_v4, Cert.AdamSmallRefIdeal.Read.val_main_v5, Cert.AdamSmallRefIdeal.Read.val_main_cst_2, Cert.AdamSmallRefIdeal.Read.val_main_v6, Cert.AdamSmallRefIdeal.Read.val_main_v7, Cert.AdamSmallRefIdeal.Read.val_main_v8, Cert.AdamSmallRefIdeal.Read.val_main_cst_3, Cert.AdamSmallRefIdeal.Read.val_main_v9, Cert.AdamSmallRefIdeal.Read.val_main_v10, Cert.AdamSmallRefIdeal.Read.val_main_v11, Cert.AdamSmallRefIdeal.Read.val_main_cst_4, Cert.AdamSmallRefIdeal.Read.val_main_v12, Cert.AdamSmallRefIdeal.Read.val_main_v13, Cert.AdamSmallRefIdeal.Read.val_main_cst_5, Cert.AdamSmallRefIdeal.Read.val_main_v14, Cert.AdamSmallRefIdeal.Read.val_main_v15, Cert.AdamSmallRefIdeal.Read.val_main_v16, Cert.AdamSmallRefIdeal.Read.val_main_cst_6, Cert.AdamSmallRefIdeal.Read.val_main_v17, Cert.AdamSmallRefIdeal.Read.val_main_v18, Cert.AdamSmallRefIdeal.Read.val_main_v19, Cert.AdamSmallRefIdeal.Read.val_main_cst_7, Cert.AdamSmallRefIdeal.Read.val_main_v20, Cert.AdamSmallRefIdeal.Read.val_main_v21, Cert.AdamSmallRefIdeal.Read.val_main_v22, Cert.AdamSmallRefIdeal.Read.val_main_cst_8, Cert.AdamSmallRefIdeal.Read.val_main_v23, Cert.AdamSmallRefIdeal.Read.val_main_v24]
  simp only [h0, h1, h2, h3, Fin.sum_univ_eight]

theorem same5 (x0 : Vec Ideal S8x8x1024 .f32) (x1 : Vec Ideal S8x1024 .f32) (x2 : Vec Ideal S8x1024 .f32) (x3 : Vec Ideal S8x1024 .f32)
    (X0 : Vec Ideal S8x144x1024 .f32) (X1 : Vec Ideal S144x1024 .f32) (X2 : Vec Ideal S144x1024 .f32) (X3 : Vec Ideal S144x1024 .f32)
    (r : Fin 8) (s : Fin 1024) (R : Fin 144)
    (h0 : ∀ (j : Fin 8) (l : Fin 1024), x0 (ix3 j r l) = X0 (ix3 j R l))
    (h1 : ∀ (l : Fin 1024), x1 (ix2 r l) = X1 (ix2 R l))
    (h2 : ∀ (l : Fin 1024), x2 (ix2 r l) = X2 (ix2 R l))
    (h3 : ∀ (l : Fin 1024), x3 (ix2 r l) = X3 (ix2 R l)) :
    out0_5 (F := Ideal) x0 x1 x2 x3 (ix2 r s)
      = Cert.AdamSmallRefIdeal.Read.val_main_v24 (F := Ideal) X0 X1 X2 X3 (ix2 R s) := by
  unfold out0_5
  rw [View.canon_unit_zero (by decide)]
  try simp only [View.ld_unit_zero (S := S8x1024) (by decide : (![0, 0] : Fin 2 → Nat) = fun _ => 0)]
  unfold_payloads
  pointwise [Cert.AdamSmallRefIdeal.Read.val_main_cst, Cert.AdamSmallRefIdeal.Read.val_main_v0, Cert.AdamSmallRefIdeal.Read.val_main_cst_0, Cert.AdamSmallRefIdeal.Read.val_main_v1, Cert.AdamSmallRefIdeal.Read.val_main_v2, Cert.AdamSmallRefIdeal.Read.val_main_cst_1, Cert.AdamSmallRefIdeal.Read.val_main_v3, Cert.AdamSmallRefIdeal.Read.val_main_v4, Cert.AdamSmallRefIdeal.Read.val_main_v5, Cert.AdamSmallRefIdeal.Read.val_main_cst_2, Cert.AdamSmallRefIdeal.Read.val_main_v6, Cert.AdamSmallRefIdeal.Read.val_main_v7, Cert.AdamSmallRefIdeal.Read.val_main_v8, Cert.AdamSmallRefIdeal.Read.val_main_cst_3, Cert.AdamSmallRefIdeal.Read.val_main_v9, Cert.AdamSmallRefIdeal.Read.val_main_v10, Cert.AdamSmallRefIdeal.Read.val_main_v11, Cert.AdamSmallRefIdeal.Read.val_main_cst_4, Cert.AdamSmallRefIdeal.Read.val_main_v12, Cert.AdamSmallRefIdeal.Read.val_main_v13, Cert.AdamSmallRefIdeal.Read.val_main_cst_5, Cert.AdamSmallRefIdeal.Read.val_main_v14, Cert.AdamSmallRefIdeal.Read.val_main_v15, Cert.AdamSmallRefIdeal.Read.val_main_v16, Cert.AdamSmallRefIdeal.Read.val_main_cst_6, Cert.AdamSmallRefIdeal.Read.val_main_v17, Cert.AdamSmallRefIdeal.Read.val_main_v18, Cert.AdamSmallRefIdeal.Read.val_main_v19, Cert.AdamSmallRefIdeal.Read.val_main_cst_7, Cert.AdamSmallRefIdeal.Read.val_main_v20, Cert.AdamSmallRefIdeal.Read.val_main_v21, Cert.AdamSmallRefIdeal.Read.val_main_v22, Cert.AdamSmallRefIdeal.Read.val_main_cst_8, Cert.AdamSmallRefIdeal.Read.val_main_v23, Cert.AdamSmallRefIdeal.Read.val_main_v24]
  simp only [h0, h1, h2, h3, Fin.sum_univ_eight]

theorem same6 (x0 : Vec Ideal S8x8x1024 .f32) (x1 : Vec Ideal S8x1024 .f32) (x2 : Vec Ideal S8x1024 .f32) (x3 : Vec Ideal S8x1024 .f32)
    (X0 : Vec Ideal S8x144x1024 .f32) (X1 : Vec Ideal S144x1024 .f32) (X2 : Vec Ideal S144x1024 .f32) (X3 : Vec Ideal S144x1024 .f32)
    (r : Fin 8) (s : Fin 1024) (R : Fin 144)
    (h0 : ∀ (j : Fin 8) (l : Fin 1024), x0 (ix3 j r l) = X0 (ix3 j R l))
    (h1 : ∀ (l : Fin 1024), x1 (ix2 r l) = X1 (ix2 R l))
    (h2 : ∀ (l : Fin 1024), x2 (ix2 r l) = X2 (ix2 R l))
    (h3 : ∀ (l : Fin 1024), x3 (ix2 r l) = X3 (ix2 R l)) :
    out0_6 (F := Ideal) x0 x1 x2 x3 (ix2 r s)
      = Cert.AdamSmallRefIdeal.Read.val_main_v5 (F := Ideal) X0 X2 (ix2 R s) := by
  unfold out0_6
  rw [View.canon_unit_zero (by decide)]
  try simp only [View.ld_unit_zero (S := S8x1024) (by decide : (![0, 0] : Fin 2 → Nat) = fun _ => 0)]
  unfold_payloads
  pointwise [Cert.AdamSmallRefIdeal.Read.val_main_cst, Cert.AdamSmallRefIdeal.Read.val_main_v0, Cert.AdamSmallRefIdeal.Read.val_main_cst_0, Cert.AdamSmallRefIdeal.Read.val_main_v1, Cert.AdamSmallRefIdeal.Read.val_main_v2, Cert.AdamSmallRefIdeal.Read.val_main_cst_1, Cert.AdamSmallRefIdeal.Read.val_main_v3, Cert.AdamSmallRefIdeal.Read.val_main_v4, Cert.AdamSmallRefIdeal.Read.val_main_v5, Cert.AdamSmallRefIdeal.Read.val_main_cst_2, Cert.AdamSmallRefIdeal.Read.val_main_v6, Cert.AdamSmallRefIdeal.Read.val_main_v7, Cert.AdamSmallRefIdeal.Read.val_main_v8, Cert.AdamSmallRefIdeal.Read.val_main_cst_3, Cert.AdamSmallRefIdeal.Read.val_main_v9, Cert.AdamSmallRefIdeal.Read.val_main_v10, Cert.AdamSmallRefIdeal.Read.val_main_v11, Cert.AdamSmallRefIdeal.Read.val_main_cst_4, Cert.AdamSmallRefIdeal.Read.val_main_v12, Cert.AdamSmallRefIdeal.Read.val_main_v13, Cert.AdamSmallRefIdeal.Read.val_main_cst_5, Cert.AdamSmallRefIdeal.Read.val_main_v14, Cert.AdamSmallRefIdeal.Read.val_main_v15, Cert.AdamSmallRefIdeal.Read.val_main_v16, Cert.AdamSmallRefIdeal.Read.val_main_cst_6, Cert.AdamSmallRefIdeal.Read.val_main_v17, Cert.AdamSmallRefIdeal.Read.val_main_v18, Cert.AdamSmallRefIdeal.Read.val_main_v19, Cert.AdamSmallRefIdeal.Read.val_main_cst_7, Cert.AdamSmallRefIdeal.Read.val_main_v20, Cert.AdamSmallRefIdeal.Read.val_main_v21, Cert.AdamSmallRefIdeal.Read.val_main_v22, Cert.AdamSmallRefIdeal.Read.val_main_cst_8, Cert.AdamSmallRefIdeal.Read.val_main_v23, Cert.AdamSmallRefIdeal.Read.val_main_v24]
  simp only [h0, h1, h2, h3, Fin.sum_univ_eight]

theorem same7 (x0 : Vec Ideal S8x8x1024 .f32) (x1 : Vec Ideal S8x1024 .f32) (x2 : Vec Ideal S8x1024 .f32) (x3 : Vec Ideal S8x1024 .f32)
    (X0 : Vec Ideal S8x144x1024 .f32) (X1 : Vec Ideal S144x1024 .f32) (X2 : Vec Ideal S144x1024 .f32) (X3 : Vec Ideal S144x1024 .f32)
    (r : Fin 8) (s : Fin 1024) (R : Fin 144)
    (h0 : ∀ (j : Fin 8) (l : Fin 1024), x0 (ix3 j r l) = X0 (ix3 j R l))
    (h1 : ∀ (l : Fin 1024), x1 (ix2 r l) = X1 (ix2 R l))
    (h2 : ∀ (l : Fin 1024), x2 (ix2 r l) = X2 (ix2 R l))
    (h3 : ∀ (l : Fin 1024), x3 (ix2 r l) = X3 (ix2 R l)) :
    out0_7 (F := Ideal) x0 x1 x2 x3 (ix2 r s)
      = Cert.AdamSmallRefIdeal.Read.val_main_v11 (F := Ideal) X0 X3 (ix2 R s) := by
  unfold out0_7
  rw [View.canon_unit_zero (by decide)]
  try simp only [View.ld_unit_zero (S := S8x1024) (by decide : (![0, 0] : Fin 2 → Nat) = fun _ => 0)]
  unfold_payloads
  pointwise [Cert.AdamSmallRefIdeal.Read.val_main_cst, Cert.AdamSmallRefIdeal.Read.val_main_v0, Cert.AdamSmallRefIdeal.Read.val_main_cst_0, Cert.AdamSmallRefIdeal.Read.val_main_v1, Cert.AdamSmallRefIdeal.Read.val_main_v2, Cert.AdamSmallRefIdeal.Read.val_main_cst_1, Cert.AdamSmallRefIdeal.Read.val_main_v3, Cert.AdamSmallRefIdeal.Read.val_main_v4, Cert.AdamSmallRefIdeal.Read.val_main_v5, Cert.AdamSmallRefIdeal.Read.val_main_cst_2, Cert.AdamSmallRefIdeal.Read.val_main_v6, Cert.AdamSmallRefIdeal.Read.val_main_v7, Cert.AdamSmallRefIdeal.Read.val_main_v8, Cert.AdamSmallRefIdeal.Read.val_main_cst_3, Cert.AdamSmallRefIdeal.Read.val_main_v9, Cert.AdamSmallRefIdeal.Read.val_main_v10, Cert.AdamSmallRefIdeal.Read.val_main_v11, Cert.AdamSmallRefIdeal.Read.val_main_cst_4, Cert.AdamSmallRefIdeal.Read.val_main_v12, Cert.AdamSmallRefIdeal.Read.val_main_v13, Cert.AdamSmallRefIdeal.Read.val_main_cst_5, Cert.AdamSmallRefIdeal.Read.val_main_v14, Cert.AdamSmallRefIdeal.Read.val_main_v15, Cert.AdamSmallRefIdeal.Read.val_main_v16, Cert.AdamSmallRefIdeal.Read.val_main_cst_6, Cert.AdamSmallRefIdeal.Read.val_main_v17, Cert.AdamSmallRefIdeal.Read.val_main_v18, Cert.AdamSmallRefIdeal.Read.val_main_v19, Cert.AdamSmallRefIdeal.Read.val_main_cst_7, Cert.AdamSmallRefIdeal.Read.val_main_v20, Cert.AdamSmallRefIdeal.Read.val_main_v21, Cert.AdamSmallRefIdeal.Read.val_main_v22, Cert.AdamSmallRefIdeal.Read.val_main_cst_8, Cert.AdamSmallRefIdeal.Read.val_main_v23, Cert.AdamSmallRefIdeal.Read.val_main_v24]
  simp only [h0, h1, h2, h3, Fin.sum_univ_eight]

/-- The result array as a function of the argument arrays: the reference's own term. -/
def G4 (c : Dev nD) : S144x1024.Idx → EReal :=
  Cert.AdamSmallRefIdeal.Read.val_main_v0 (F := Ideal) (A0 m c)

theorem flushed4_eq (c : Dev nD) (t : Fin cfg0.N) :
    (dats m 0 c).flushed 4 t = ((cfg0.win 4).blk t).view.read (Elt Ideal) (G4 m c) := by
  have hi := index_maps t
  have hl0 := hi.2.2.2.2.2.2.2.2.2.2.2.2.2.2.1
  have hl1 := hi.2.2.2.2.2.2.2.2.2.2.2.2.2.2.2
  rw [Value.flushed4]
  funext y
  obtain ⟨r, s, rfl⟩ : ∃ (r : Fin 8) (s : Fin 1024), y = ix2 r s := ⟨y 0, y 1, eq_ix2 y⟩
  show out0_4 (iblk m c 0 t) (iblk m c 1 t) (iblk m c 2 t) (iblk m c 3 t) (ix2 r s) = G4 m c ((win0_4.rect t).emb (ix2 r s))
  have e : ((win0_4.rect t).emb (ix2 r s) : S144x1024.Idx)
      = ix2 ⟨win0_4.index t 0 * 8 + r.val, by omega⟩ s :=
    Shape.idx_ext₂ ((win0_4.rect_emb_val t (ix2 r s) 0).trans rfl)
      ((win0_4.rect_emb_val t (ix2 r s) 1).trans (by rw [Nat.lt_one_iff.mp hl1]; simp))
  rw [e]
  exact same4 _ _ _ _ _ _ _ _ r s _ (fun j l => in0_at m c t j r l (by omega)) (fun l => in1_at m c t r l (by omega)) (fun l => in2_at m c t r l (by omega)) (fun l => in3_at m c t r l (by omega))

theorem covered4 (i : S144x1024.Idx) : ∃ t : Fin cfg0.N, (cfg0.win 4).flush t = true ∧ i ∈ ((cfg0.win 4).blk t).view.set := by
  have h0 : (i 0).val < 144 := (i 0).isLt
  have h1 : (i 1).val < 1024 := (i 1).isLt
  obtain ⟨t, hf⟩ := index_onto ⟨(i 0).val / 8, by omega⟩ ⟨(i 1).val / 1024, by omega⟩
  have hi := index_maps t
  have e0 := hf.2.2.2.2.1
  have e1 := hf.2.2.2.2.2
  dsimp only at e0 e1
  refine ⟨t, hf.1, ?_⟩
  show i ∈ ((View.whole main_v0_0).slice (win0_4.rect t)).set
  rw [View.set_slice_whole, Rect.mem_set_unit]
  intro a
  match a with
  | ⟨0, _⟩ => show win0_4.index t 0 * 8 ≤ (i 0).val ∧ (i 0).val < win0_4.index t 0 * 8 + 8
              omega
  | ⟨1, _⟩ => show win0_4.index t 1 * 1024 ≤ (i 1).val ∧ (i 1).val < win0_4.index t 1 * 1024 + 1024
              omega

/-- After the run the result array is `G4`. -/
theorem final4 (c : Dev nD) : (dats m 0 c).arrAt 4 cfg0.N = G4 m c :=
  (dats m 0 c).arrAt_eq_of_cover 4 (G4 m c) (fun t _ => flushed4_eq m c t) covered4

/-- The result array as a function of the argument arrays: the reference's own term. -/
def G5 (c : Dev nD) : S144x1024.Idx → EReal :=
  Cert.AdamSmallRefIdeal.Read.val_main_v24 (F := Ideal) (A0 m c) (A1 m c) (A2 m c) (A3 m c)

theorem flushed5_eq (c : Dev nD) (t : Fin cfg0.N) :
    (dats m 0 c).flushed 5 t = ((cfg0.win 5).blk t).view.read (Elt Ideal) (G5 m c) := by
  have hi := index_maps t
  have hl0 := hi.2.2.2.2.2.2.2.2.2.2.2.2.2.2.1
  have hl1 := hi.2.2.2.2.2.2.2.2.2.2.2.2.2.2.2
  rw [Value.flushed5]
  funext y
  obtain ⟨r, s, rfl⟩ : ∃ (r : Fin 8) (s : Fin 1024), y = ix2 r s := ⟨y 0, y 1, eq_ix2 y⟩
  show out0_5 (iblk m c 0 t) (iblk m c 1 t) (iblk m c 2 t) (iblk m c 3 t) (ix2 r s) = G5 m c ((win0_5.rect t).emb (ix2 r s))
  have e : ((win0_5.rect t).emb (ix2 r s) : S144x1024.Idx)
      = ix2 ⟨win0_4.index t 0 * 8 + r.val, by omega⟩ s :=
    Shape.idx_ext₂ ((win0_5.rect_emb_val t (ix2 r s) 0).trans (by rw [hi.2.2.2.2.2.2.2.2.1]; rfl))
      ((win0_5.rect_emb_val t (ix2 r s) 1).trans (by rw [hi.2.2.2.2.2.2.2.2.2.1]; rw [Nat.lt_one_iff.mp hl1]; simp))
  rw [e]
  exact same5 _ _ _ _ _ _ _ _ r s _ (fun j l => in0_at m c t j r l (by omega)) (fun l => in1_at m c t r l (by omega)) (fun l => in2_at m c t r l (by omega)) (fun l => in3_at m c t r l (by omega))

theorem covered5 (i : S144x1024.Idx) : ∃ t : Fin cfg0.N, (cfg0.win 5).flush t = true ∧ i ∈ ((cfg0.win 5).blk t).view.set := by
  have h0 : (i 0).val < 144 := (i 0).isLt
  have h1 : (i 1).val < 1024 := (i 1).isLt
  obtain ⟨t, hf⟩ := index_onto ⟨(i 0).val / 8, by omega⟩ ⟨(i 1).val / 1024, by omega⟩
  have hi := index_maps t
  have e0 := hf.2.2.2.2.1
  have e1 := hf.2.2.2.2.2
  dsimp only at e0 e1
  refine ⟨t, hf.2.1, ?_⟩
  show i ∈ ((View.whole main_v0_1).slice (win0_5.rect t)).set
  rw [View.set_slice_whole, Rect.mem_set_unit]
  intro a
  match a with
  | ⟨0, _⟩ => show win0_5.index t 0 * 8 ≤ (i 0).val ∧ (i 0).val < win0_5.index t 0 * 8 + 8
              rw [hi.2.2.2.2.2.2.2.2.1]; omega
  | ⟨1, _⟩ => show win0_5.index t 1 * 1024 ≤ (i 1).val ∧ (i 1).val < win0_5.index t 1 * 1024 + 1024
              rw [hi.2.2.2.2.2.2.2.2.2.1]; omega

/-- After the run the result array is `G5`. -/
theorem final5 (c : Dev nD) : (dats m 0 c).arrAt 5 cfg0.N = G5 m c :=
  (dats m 0 c).arrAt_eq_of_cover 5 (G5 m c) (fun t _ => flushed5_eq m c t) covered5

/-- The result array as a function of the argument arrays: the reference's own term. -/
def G6 (c : Dev nD) : S144x1024.Idx → EReal :=
  Cert.AdamSmallRefIdeal.Read.val_main_v5 (F := Ideal) (A0 m c) (A2 m c)

theorem flushed6_eq (c : Dev nD) (t : Fin cfg0.N) :
    (dats m 0 c).flushed 6 t = ((cfg0.win 6).blk t).view.read (Elt Ideal) (G6 m c) := by
  have hi := index_maps t
  have hl0 := hi.2.2.2.2.2.2.2.2.2.2.2.2.2.2.1
  have hl1 := hi.2.2.2.2.2.2.2.2.2.2.2.2.2.2.2
  rw [Value.flushed6]
  funext y
  obtain ⟨r, s, rfl⟩ : ∃ (r : Fin 8) (s : Fin 1024), y = ix2 r s := ⟨y 0, y 1, eq_ix2 y⟩
  show out0_6 (iblk m c 0 t) (iblk m c 1 t) (iblk m c 2 t) (iblk m c 3 t) (ix2 r s) = G6 m c ((win0_6.rect t).emb (ix2 r s))
  have e : ((win0_6.rect t).emb (ix2 r s) : S144x1024.Idx)
      = ix2 ⟨win0_4.index t 0 * 8 + r.val, by omega⟩ s :=
    Shape.idx_ext₂ ((win0_6.rect_emb_val t (ix2 r s) 0).trans (by rw [hi.2.2.2.2.2.2.2.2.2.2.1]; rfl))
      ((win0_6.rect_emb_val t (ix2 r s) 1).trans (by rw [hi.2.2.2.2.2.2.2.2.2.2.2.1]; rw [Nat.lt_one_iff.mp hl1]; simp))
  rw [e]
  exact same6 _ _ _ _ _ _ _ _ r s _ (fun j l => in0_at m c t j r l (by omega)) (fun l => in1_at m c t r l (by omega)) (fun l => in2_at m c t r l (by omega)) (fun l => in3_at m c t r l (by omega))

theorem covered6 (i : S144x1024.Idx) : ∃ t : Fin cfg0.N, (cfg0.win 6).flush t = true ∧ i ∈ ((cfg0.win 6).blk t).view.set := by
  have h0 : (i 0).val < 144 := (i 0).isLt
  have h1 : (i 1).val < 1024 := (i 1).isLt
  obtain ⟨t, hf⟩ := index_onto ⟨(i 0).val / 8, by omega⟩ ⟨(i 1).val / 1024, by omega⟩
  have hi := index_maps t
  have e0 := hf.2.2.2.2.1
  have e1 := hf.2.2.2.2.2
  dsimp only at e0 e1
  refine ⟨t, hf.2.2.1, ?_⟩
  show i ∈ ((View.whole main_v0_2).slice (win0_6.rect t)).set
  rw [View.set_slice_whole, Rect.mem_set_unit]
  intro a
  match a with
  | ⟨0, _⟩ => show win0_6.index t 0 * 8 ≤ (i 0).val ∧ (i 0).val < win0_6.index t 0 * 8 + 8
              rw [hi.2.2.2.2.2.2.2.2.2.2.1]; omega
  | ⟨1, _⟩ => show win0_6.index t 1 * 1024 ≤ (i 1).val ∧ (i 1).val < win0_6.index t 1 * 1024 + 1024
              rw [hi.2.2.2.2.2.2.2.2.2.2.2.1]; omega

/-- After the run the result array is `G6`. -/
theorem final6 (c : Dev nD) : (dats m 0 c).arrAt 6 cfg0.N = G6 m c :=
  (dats m 0 c).arrAt_eq_of_cover 6 (G6 m c) (fun t _ => flushed6_eq m c t) covered6

/-- The result array as a function of the argument arrays: the reference's own term. -/
def G7 (c : Dev nD) : S144x1024.Idx → EReal :=
  Cert.AdamSmallRefIdeal.Read.val_main_v11 (F := Ideal) (A0 m c) (A3 m c)

theorem flushed7_eq (c : Dev nD) (t : Fin cfg0.N) :
    (dats m 0 c).flushed 7 t = ((cfg0.win 7).blk t).view.read (Elt Ideal) (G7 m c) := by
  have hi := index_maps t
  have hl0 := hi.2.2.2.2.2.2.2.2.2.2.2.2.2.2.1
  have hl1 := hi.2.2.2.2.2.2.2.2.2.2.2.2.2.2.2
  rw [Value.flushed7]
  funext y
  obtain ⟨r, s, rfl⟩ : ∃ (r : Fin 8) (s : Fin 1024), y = ix2 r s := ⟨y 0, y 1, eq_ix2 y⟩
  show out0_7 (iblk m c 0 t) (iblk m c 1 t) (iblk m c 2 t) (iblk m c 3 t) (ix2 r s) = G7 m c ((win0_7.rect t).emb (ix2 r s))
  have e : ((win0_7.rect t).emb (ix2 r s) : S144x1024.Idx)
      = ix2 ⟨win0_4.index t 0 * 8 + r.val, by omega⟩ s :=
    Shape.idx_ext₂ ((win0_7.rect_emb_val t (ix2 r s) 0).trans (by rw [hi.2.2.2.2.2.2.2.2.2.2.2.2.1]; rfl))
      ((win0_7.rect_emb_val t (ix2 r s) 1).trans (by rw [hi.2.2.2.2.2.2.2.2.2.2.2.2.2.1]; rw [Nat.lt_one_iff.mp hl1]; simp))
  rw [e]
  exact same7 _ _ _ _ _ _ _ _ r s _ (fun j l => in0_at m c t j r l (by omega)) (fun l => in1_at m c t r l (by omega)) (fun l => in2_at m c t r l (by omega)) (fun l => in3_at m c t r l (by omega))

theorem covered7 (i : S144x1024.Idx) : ∃ t : Fin cfg0.N, (cfg0.win 7).flush t = true ∧ i ∈ ((cfg0.win 7).blk t).view.set := by
  have h0 : (i 0).val < 144 := (i 0).isLt
  have h1 : (i 1).val < 1024 := (i 1).isLt
  obtain ⟨t, hf⟩ := index_onto ⟨(i 0).val / 8, by omega⟩ ⟨(i 1).val / 1024, by omega⟩
  have hi := index_maps t
  have e0 := hf.2.2.2.2.1
  have e1 := hf.2.2.2.2.2
  dsimp only at e0 e1
  refine ⟨t, hf.2.2.2.1, ?_⟩
  show i ∈ ((View.whole main_v0_3).slice (win0_7.rect t)).set
  rw [View.set_slice_whole, Rect.mem_set_unit]
  intro a
  match a with
  | ⟨0, _⟩ => show win0_7.index t 0 * 8 ≤ (i 0).val ∧ (i 0).val < win0_7.index t 0 * 8 + 8
              rw [hi.2.2.2.2.2.2.2.2.2.2.2.2.1]; omega
  | ⟨1, _⟩ => show win0_7.index t 1 * 1024 ≤ (i 1).val ∧ (i 1).val < win0_7.index t 1 * 1024 + 1024
              rw [hi.2.2.2.2.2.2.2.2.2.2.2.2.2.1]; omega

/-- After the run the result array is `G7`. -/
theorem final7 (c : Dev nD) : (dats m 0 c).arrAt 7 cfg0.N = G7 m c :=
  (dats m 0 c).arrAt_eq_of_cover 7 (G7 m c) (fun t _ => flushed7_eq m c t) covered7

/-- The kernel and the reference leave equal results. -/
theorem algebraic : Cert.algebraic_AdamSmallIdeal_AdamSmallRefIdeal := fun m g m' g' _ hagree =>
  ⟨fun c => G4 m c, fun c => G5 m c, fun c => G6 m c, fun c => G7 m c,
    (θ_run _ _ _).mono (fun r h c => ⟨(h c).1.trans (final4 m c), (h c).2.1.trans (final5 m c), (h c).2.2.1.trans (final6 m c), (h c).2.2.2.1.trans (final7 m c), (h c).2.2.2.2⟩)
      (Value.run_blocks (F := Ideal) m g),
    (θ_run _ _ _).mono (fun r h c => by
        obtain ⟨e0, e1, e2, e3⟩ := hagree c
        refine ⟨(h c).1.trans ?_, (h c).2.1.trans ?_, (h c).2.2.1.trans ?_, (h c).2.2.2.1.trans ?_, (h c).2.2.2.2⟩
        · rw [e0]; rfl
        · rw [e0, e1, e2, e3]; rfl
        · rw [e0, e2]; rfl
        · rw [e0, e3]; rfl)
      (Cert.AdamSmallRefIdeal.Value.run (F := Ideal) m' g')⟩

end Cert.Hand.AdamSmall

end
-- ==== Proof.DeviceWord.lean ====
/-
  A word that names one of the eight devices.
-/
module

public import Idealize.ShloMosaic.Lib.Pointwise
public import Idealize.ShloMosaic.Lib.Pipeline.Value

@[expose] public section

namespace Cert.Hand.DeviceWord

open Idealize.ShloMosaic
open scoped BigOperators

theorem and_one {p q : Bool} : IntOp.andi (BitVec.ofBool p) (BitVec.ofBool q) = 1#1 ↔ p = true ∧ q = true := by
  cases p <;> cases q <;> decide

/-- A word that is at least 0 and below 8 as a signed number is below 8. -/
theorem lt_eight {w : BitVec 32} (e : IntOp.andi (IntOp.cmpi .sge w 0#32) (IntOp.cmpi .slt w 8#32) = 1#1) : w.toNat < 8 := by
  simp only [IntOp.cmpi, and_one, BitVec.sle_eq_decide, BitVec.slt_eq_decide, decide_eq_true_eq, BitVec.toInt_eq_toNat_cond,
    BitVec.toNat_ofNat, Nat.reducePow, Nat.reduceMod] at e
  omega

/-- An array of one element has one index. -/
theorem one_index (y z : (⟨1, ![1]⟩ : Shape).Idx) : y = z :=
  funext fun a => by match a with | ⟨0, _⟩ => exact Subsingleton.elim (α := Fin 1) _ _

theorem block_le {n : Nat} (h : n < 8) : (n + 1) * 1 ≤ 8 := by omega

/-- Two indices of three axes are equal where their coordinates are. -/
theorem idx_ext₃ {n : Fin 3 → ℕ} {x y : (a : Fin 3) → Fin (n a)} (h0 : (x 0 : ℕ) = y 0) (h1 : (x 1 : ℕ) = y 1)
    (h2 : (x 2 : ℕ) = y 2) : x = y :=
  funext fun a => Fin.ext (by match a with | ⟨0, _⟩ => exact h0 | ⟨1, _⟩ => exact h1 | ⟨2, _⟩ => exact h2)

/-- A sum over the eight of the terms whose number is the word has one term. -/
theorem pick {w : BitVec 32} (n : Fin 8) (hw : w.toNat = n.val) (f : Fin 8 → EReal) :
    ∑ j : Fin 8, Scalar.select (IntOp.cmpi .eq (BitVec.ofNat 32 j.val) w) (f j) 0 = f n := by
  have hj : ∀ j : Fin 8, (BitVec.ofNat 32 j.val == w) = decide (j = n) := fun j => by
    rw [Bool.eq_iff_iff, beq_iff_eq, decide_eq_true_eq, ← BitVec.toNat_inj, BitVec.toNat_ofNat, hw, Fin.ext_iff,
      Nat.mod_eq_of_lt (by omega)]
  rw [Finset.sum_eq_single n]
  · simp [IntOp.cmpi, hj, Scalar.select]
  · intro j _ h
    simp [IntOp.cmpi, hj, Scalar.select, h]
  · exact fun h => absurd (Finset.mem_univ n) h

end Cert.Hand.DeviceWord
-- ==== Proof.AdamWIn.lean ====
/-
  The optimiser's step on `w_in`: the gradient is the device's own block of its product plus the eight blocks it holds
  of what was sent. The kernel adds them one by one, a tile of rows at a time; the reference takes the sum of the eight.
  The own block is the one whose number the device's word names; the precondition says that it names one of the eight.
-/
module

public import proofs.«01_k».proof.Proof.Gen.AdamWIn.Frame
public import proofs.«01_k».proof.Proof.Gen.AdamWInIdeal.Frame
public import proofs.«01_k».proof.Proof.Gen.AdamWInRefIdeal.Run
public import proofs.«01_k».proof.Proof.Gen.AdamWInRefIdeal.Read
public import proofs.«01_k».proof.Proof.Gen.Pre_w_in_device
public import proofs.«01_k».proof.Defs
public import proofs.«01_k».proof.Proof.DeviceWord
public import Idealize.ShloMosaic.Lib.Pointwise
public import Idealize.ShloMosaic.Lib.Tactic
public import Idealize.ShloMosaic.Lib.Pipeline.Value

@[expose] public section

set_option maxRecDepth 16384

noncomputable section

namespace Cert.Hand.AdamWIn

open Cert.AdamWInIdeal Cert.AdamWInIdeal.Gen Idealize.ShloMosaic Idealize.ShloMosaic.TcCoe Idealize.SL.Sem
open Idealize.ShloMosaic.Pipeline (Dat)
open scoped BigOperators

/-! ## What the precondition says -/

/-- The device's word names one of the eight. -/
theorem word_lt {F : FTy → Type} [FloatOps F] {x0 : FVec F Cert.Pre_w_in_device.S8x1024x256 .f32} {x1 : FVec F Cert.Pre_w_in_device.S8x1024x256 .bf16}
    {x2 : IVec Cert.Pre_w_in_device.S1 32} {x3 x4 x5 : FVec F Cert.Pre_w_in_device.S1024x256 .f32}
    (h : Cert.Pre_w_in_device.fn x0 x1 x2 x3 x4 x5 = fun _ => 1#1) (y : Cert.Pre_w_in_device.S1.Idx) : (x2 y).toNat < 8 := by
  have e := congrFun h (fun a => a.elim0)
  simp only [Cert.Pre_w_in_device.fn, andi, cmpi, constantI, shapeCast] at e
  exact DeviceWord.one_index y _ ▸ DeviceWord.lt_eight e

/-- So the kernel's block of the own product lies inside the array. -/
theorem bits_ok (m : (ℓ : Loc Cert.AdamWIn.nD Cert.AdamWIn.τ Cert.AdamWIn.sig) → Buf (Elt Bits) ℓ) (h : Cert.Pre_AdamWIn m) :
    Cert.AdamWIn.Gen.Ok m := fun i =>
  ⟨fun a => by
    have k := word_lt (h 0)
    have hi : (i 0).val < 4 := (i 0).isLt
    match a with
    | ⟨0, _⟩ => exact DeviceWord.block_le (k _)
    | ⟨1, _⟩ => show ((BitVec.ofNat 32 (i 0).val).toNat + 1) * 256 ≤ 1024
                rw [BitVec.toNat_ofNat]; omega
    | ⟨2, _⟩ => show (0 + 1) * 256 ≤ 256
                omega, .inl rfl⟩

variable (m : (ℓ : Loc nD τ sig) → Buf (Elt Ideal) ℓ)

theorem ideal_ok (h : Cert.Pre_AdamWInIdeal m) : Ok m := fun i =>
  ⟨fun a => by
    have k := word_lt (h 0)
    have hi : (i 0).val < 4 := (i 0).isLt
    match a with
    | ⟨0, _⟩ => exact DeviceWord.block_le (k _)
    | ⟨1, _⟩ => show ((BitVec.ofNat 32 (i 0).val).toNat + 1) * 256 ≤ 1024
                rw [BitVec.toNat_ofNat]; omega
    | ⟨2, _⟩ => show (0 + 1) * 256 ≤ 256
                omega, .inl rfl⟩

/-! ## One element: the kernel's sum and the reference's -/

/-- The own block as the reference reads it: the one block whose number the word is. -/
theorem own_at (X0 : Vec Ideal S8x1024x256 .f32) (X2 : (⟨S1, .i32⟩ : BufTy).Contents (Elt Ideal)) (n : Fin 8)
    (hn : ∀ y, (X2 y).toNat = n.val) (R : Fin 1024) (s : Fin 256) :
    Cert.AdamWInRefIdeal.Read.val_main_v6 (F := Ideal) X0 X2 (ix2 R s) = X0 (ix3 n R s) := by
  pointwise [Cert.AdamWInRefIdeal.Read.val_main_v0, Cert.AdamWInRefIdeal.Read.val_main_v1, Cert.AdamWInRefIdeal.Read.val_main_v2,
    Cert.AdamWInRefIdeal.Read.val_main_v3, Cert.AdamWInRefIdeal.Read.val_main_v4, Cert.AdamWInRefIdeal.Read.val_main_cst,
    Cert.AdamWInRefIdeal.Read.val_main_call0_v0, Cert.AdamWInRefIdeal.Read.val_main_call0_v1, Cert.AdamWInRefIdeal.Read.val_main_call0_v2,
    Cert.AdamWInRefIdeal.Read.val_main_v5, Cert.AdamWInRefIdeal.Read.val_main_cst_0, Cert.AdamWInRefIdeal.Read.val_main_v6]
  have z : (id (constant (F := Ideal) Cert.AdamWInRefIdeal.S_ .f32 0#32) : Cert.AdamWInRefIdeal.S_.Idx → EReal) ix0 = 0 := by
    show (constant (F := Ideal) Cert.AdamWInRefIdeal.S_ .f32 0#32 : Cert.AdamWInRefIdeal.S_.Idx → EReal) ix0 = 0
    pointwise
  simp only [z]
  exact DeviceWord.pick n (hn _) fun j => X0 (ix3 j R s)

theorem same5 (c : Dev nD) (i : grid0.Coords) (a0 : Memref sig .tc .vmem S1x256x256 .f32) (h0 : a0.IsWhole)
    (a1 : Memref sig .tc .vmem S8x256x256 .bf16) (h1 : a1.IsWhole)
    (a2 : Memref sig .tc .vmem S256x256 .f32) (h2 : a2.IsWhole)
    (a3 : Memref sig .tc .vmem S256x256 .f32) (h3 : a3.IsWhole)
    (a4 : Memref sig .tc .vmem S256x256 .f32) (h4 : a4.IsWhole)
    (a5 : Memref sig .tc .vmem S256x256 .f32) (h5 : a5.IsWhole)
    (a6 : Memref sig .tc .vmem S256x256 .f32) (h6 : a6.IsWhole)
    (a7 : Memref sig .tc .vmem S256x256 .f32) (h7 : a7.IsWhole)
    (a8 : Memref sig .tc .vmem S256x256 .f32) (h8 : a8.IsWhole)
    (x0 : Vec Ideal S1x256x256 .f32) (x1 : Vec Ideal S8x256x256 .bf16) (x2 : Vec Ideal S256x256 .f32) (x3 : Vec Ideal S256x256 .f32) (x4 : Vec Ideal S256x256 .f32)
    (xt : TbBuf0 (F := Ideal) c tbM0_0)
    (X0 : Vec Ideal S8x1024x256 .f32) (X1 : Vec Ideal S8x1024x256 .bf16) (X2 : (⟨S1, .i32⟩ : BufTy).Contents (Elt Ideal)) (X3 X4 X5 : Vec Ideal S1024x256 .f32)
    (r : Fin 256) (s : Fin 256) (R : Fin 1024) (n : Fin 8) (hn : ∀ y, (X2 y).toNat = n.val)
    (e0 : x0 (ix3 0 r s) = X0 (ix3 n R s))
    (e1 : ∀ j, x1 (ix3 j r s) = X1 (ix3 j R s))
    (e2 : x2 (ix2 r s) = X3 (ix2 R s))
    (e3 : x3 (ix2 r s) = X4 (ix2 R s))
    (e4 : x4 (ix2 r s) = X5 (ix2 R s)) :
    out0_A_5 (F := Ideal) c i a0 h0 a1 h1 a2 h2 a3 h3 a4 h4 a5 h5 a6 h6 a7 h7 a8 h8 x0 x1 x2 x3 x4 xt (ix2 r s)
      = Cert.AdamWInRefIdeal.Read.val_main_v9 (F := Ideal) X0 X1 X2 (ix2 R s) := by
  have hz : (![0, 0] : Fin 2 → Nat) = fun _ => 0 := by decide
  unfold out0_A_5
  rw [View.read_writes_eq_canon _ _ _ (cover0_A_5 c i a0 h0 a1 h1 a2 h2 a3 h3 a4 h4 a5 h5 a6 h6 a7 h7 a8 h8 x0 x1 x2 x3 x4 xt)]
  unfold kernelRun0_A
  dsimp only
  sl_unfold_words
  rw [View.canon_unit_zero hz]
  simp only [View.readAt_eq_ld, h0.read_unread, h1.read_unread, h2.read_unread, h3.read_unread, h4.read_unread, View.ld_unit_zero (S := S256x256) hz]
  have own := own_at X0 X2 n hn R s
  unfold_payloads
  pointwise [Cert.AdamWInRefIdeal.Read.val_main_v7, Cert.AdamWInRefIdeal.Read.val_main_cst_1, Cert.AdamWInRefIdeal.Read.val_main_v8,
    Cert.AdamWInRefIdeal.Read.val_main_v9, Cert.AdamWInRefIdeal.Read.val_main_cst_2, Cert.AdamWInRefIdeal.Read.val_main_v10,
    Cert.AdamWInRefIdeal.Read.val_main_v11, Cert.AdamWInRefIdeal.Read.val_main_cst_3, Cert.AdamWInRefIdeal.Read.val_main_v12,
    Cert.AdamWInRefIdeal.Read.val_main_v13, Cert.AdamWInRefIdeal.Read.val_main_v14, Cert.AdamWInRefIdeal.Read.val_main_cst_4,
    Cert.AdamWInRefIdeal.Read.val_main_v15, Cert.AdamWInRefIdeal.Read.val_main_v16, Cert.AdamWInRefIdeal.Read.val_main_v17,
    Cert.AdamWInRefIdeal.Read.val_main_cst_5, Cert.AdamWInRefIdeal.Read.val_main_v18, Cert.AdamWInRefIdeal.Read.val_main_v19,
    Cert.AdamWInRefIdeal.Read.val_main_v20, Cert.AdamWInRefIdeal.Read.val_main_cst_6, Cert.AdamWInRefIdeal.Read.val_main_v21,
    Cert.AdamWInRefIdeal.Read.val_main_v22, Cert.AdamWInRefIdeal.Read.val_main_cst_7, Cert.AdamWInRefIdeal.Read.val_main_v23,
    Cert.AdamWInRefIdeal.Read.val_main_v24, Cert.AdamWInRefIdeal.Read.val_main_v25, Cert.AdamWInRefIdeal.Read.val_main_cst_8,
    Cert.AdamWInRefIdeal.Read.val_main_v26, Cert.AdamWInRefIdeal.Read.val_main_v27, Cert.AdamWInRefIdeal.Read.val_main_v28,
    Cert.AdamWInRefIdeal.Read.val_main_cst_9, Cert.AdamWInRefIdeal.Read.val_main_v29, Cert.AdamWInRefIdeal.Read.val_main_v30,
    Cert.AdamWInRefIdeal.Read.val_main_v31, Cert.AdamWInRefIdeal.Read.val_main_cst_10, Cert.AdamWInRefIdeal.Read.val_main_v32,
    Cert.AdamWInRefIdeal.Read.val_main_v33]
  simp only [own, e0, e1, e2, e3, e4, Fin.sum_univ_eight, add_assoc, zero_add]

theorem same6 (c : Dev nD) (i : grid0.Coords) (a0 : Memref sig .tc .vmem S1x256x256 .f32) (h0 : a0.IsWhole)
    (a1 : Memref sig .tc .vmem S8x256x256 .bf16) (h1 : a1.IsWhole)
    (a2 : Memref sig .tc .vmem S256x256 .f32) (h2 : a2.IsWhole)
    (a3 : Memref sig .tc .vmem S256x256 .f32) (h3 : a3.IsWhole)
    (a4 : Memref sig .tc .vmem S256x256 .f32) (h4 : a4.IsWhole)
    (a5 : Memref sig .tc .vmem S256x256 .f32) (h5 : a5.IsWhole)
    (a6 : Memref sig .tc .vmem S256x256 .f32) (h6 : a6.IsWhole)
    (a7 : Memref sig .tc .vmem S256x256 .f32) (h7 : a7.IsWhole)
    (a8 : Memref sig .tc .vmem S256x256 .f32) (h8 : a8.IsWhole)
    (x0 : Vec Ideal S1x256x256 .f32) (x1 : Vec Ideal S8x256x256 .bf16) (x2 : Vec Ideal S256x256 .f32) (x3 : Vec Ideal S256x256 .f32) (x4 : Vec Ideal S256x256 .f32)
    (xt : TbBuf0 (F := Ideal) c tbM0_0)
    (X0 : Vec Ideal S8x1024x256 .f32) (X1 : Vec Ideal S8x1024x256 .bf16) (X2 : (⟨S1, .i32⟩ : BufTy).Contents (Elt Ideal)) (X3 X4 X5 : Vec Ideal S1024x256 .f32)
    (r : Fin 256) (s : Fin 256) (R : Fin 1024) (n : Fin 8) (hn : ∀ y, (X2 y).toNat = n.val)
    (e0 : x0 (ix3 0 r s) = X0 (ix3 n R s))
    (e1 : ∀ j, x1 (ix3 j r s) = X1 (ix3 j R s))
    (e2 : x2 (ix2 r s) = X3 (ix2 R s))
    (e3 : x3 (ix2 r s) = X4 (ix2 R s))
    (e4 : x4 (ix2 r s) = X5 (ix2 R s)) :
    out0_A_6 (F := Ideal) c i a0 h0 a1 h1 a2 h2 a3 h3 a4 h4 a5 h5 a6 h6 a7 h7 a8 h8 x0 x1 x2 x3 x4 xt (ix2 r s)
      = Cert.AdamWInRefIdeal.Read.val_main_v33 (F := Ideal) X0 X1 X2 X3 X4 X5 (ix2 R s) := by
  have hz : (![0, 0] : Fin 2 → Nat) = fun _ => 0 := by decide
  unfold out0_A_6
  rw [View.read_writes_eq_canon _ _ _ (cover0_A_6 c i a0 h0 a1 h1 a2 h2 a3 h3 a4 h4 a5 h5 a6 h6 a7 h7 a8 h8 x0 x1 x2 x3 x4 xt)]
  unfold kernelRun0_A
  dsimp only
  sl_unfold_words
  rw [View.canon_unit_zero hz]
  simp only [View.readAt_eq_ld, h0.read_unread, h1.read_unread, h2.read_unread, h3.read_unread, h4.read_unread, View.ld_unit_zero (S := S256x256) hz]
  have own := own_at X0 X2 n hn R s
  unfold_payloads
  pointwise [Cert.AdamWInRefIdeal.Read.val_main_v7, Cert.AdamWInRefIdeal.Read.val_main_cst_1, Cert.AdamWInRefIdeal.Read.val_main_v8,
    Cert.AdamWInRefIdeal.Read.val_main_v9, Cert.AdamWInRefIdeal.Read.val_main_cst_2, Cert.AdamWInRefIdeal.Read.val_main_v10,
    Cert.AdamWInRefIdeal.Read.val_main_v11, Cert.AdamWInRefIdeal.Read.val_main_cst_3, Cert.AdamWInRefIdeal.Read.val_main_v12,
    Cert.AdamWInRefIdeal.Read.val_main_v13, Cert.AdamWInRefIdeal.Read.val_main_v14, Cert.AdamWInRefIdeal.Read.val_main_cst_4,
    Cert.AdamWInRefIdeal.Read.val_main_v15, Cert.AdamWInRefIdeal.Read.val_main_v16, Cert.AdamWInRefIdeal.Read.val_main_v17,
    Cert.AdamWInRefIdeal.Read.val_main_cst_5, Cert.AdamWInRefIdeal.Read.val_main_v18, Cert.AdamWInRefIdeal.Read.val_main_v19,
    Cert.AdamWInRefIdeal.Read.val_main_v20, Cert.AdamWInRefIdeal.Read.val_main_cst_6, Cert.AdamWInRefIdeal.Read.val_main_v21,
    Cert.AdamWInRefIdeal.Read.val_main_v22, Cert.AdamWInRefIdeal.Read.val_main_cst_7, Cert.AdamWInRefIdeal.Read.val_main_v23,
    Cert.AdamWInRefIdeal.Read.val_main_v24, Cert.AdamWInRefIdeal.Read.val_main_v25, Cert.AdamWInRefIdeal.Read.val_main_cst_8,
    Cert.AdamWInRefIdeal.Read.val_main_v26, Cert.AdamWInRefIdeal.Read.val_main_v27, Cert.AdamWInRefIdeal.Read.val_main_v28,
    Cert.AdamWInRefIdeal.Read.val_main_cst_9, Cert.AdamWInRefIdeal.Read.val_main_v29, Cert.AdamWInRefIdeal.Read.val_main_v30,
    Cert.AdamWInRefIdeal.Read.val_main_v31, Cert.AdamWInRefIdeal.Read.val_main_cst_10, Cert.AdamWInRefIdeal.Read.val_main_v32,
    Cert.AdamWInRefIdeal.Read.val_main_v33]
  simp only [own, e0, e1, e2, e3, e4, Fin.sum_univ_eight, add_assoc, zero_add]

theorem same7 (c : Dev nD) (i : grid0.Coords) (a0 : Memref sig .tc .vmem S1x256x256 .f32) (h0 : a0.IsWhole)
    (a1 : Memref sig .tc .vmem S8x256x256 .bf16) (h1 : a1.IsWhole)
    (a2 : Memref sig .tc .vmem S256x256 .f32) (h2 : a2.IsWhole)
    (a3 : Memref sig .tc .vmem S256x256 .f32) (h3 : a3.IsWhole)
    (a4 : Memref sig .tc .vmem S256x256 .f32) (h4 : a4.IsWhole)
    (a5 : Memref sig .tc .vmem S256x256 .f32) (h5 : a5.IsWhole)
    (a6 : Memref sig .tc .vmem S256x256 .f32) (h6 : a6.IsWhole)
    (a7 : Memref sig .tc .vmem S256x256 .f32) (h7 : a7.IsWhole)
    (a8 : Memref sig .tc .vmem S256x256 .f32) (h8 : a8.IsWhole)
    (x0 : Vec Ideal S1x256x256 .f32) (x1 : Vec Ideal S8x256x256 .bf16) (x2 : Vec Ideal S256x256 .f32) (x3 : Vec Ideal S256x256 .f32) (x4 : Vec Ideal S256x256 .f32)
    (xt : TbBuf0 (F := Ideal) c tbM0_0)
    (X0 : Vec Ideal S8x1024x256 .f32) (X1 : Vec Ideal S8x1024x256 .bf16) (X2 : (⟨S1, .i32⟩ : BufTy).Contents (Elt Ideal)) (X3 X4 X5 : Vec Ideal S1024x256 .f32)
    (r : Fin 256) (s : Fin 256) (R : Fin 1024) (n : Fin 8) (hn : ∀ y, (X2 y).toNat = n.val)
    (e0 : x0 (ix3 0 r s) = X0 (ix3 n R s))
    (e1 : ∀ j, x1 (ix3 j r s) = X1 (ix3 j R s))
    (e2 : x2 (ix2 r s) = X3 (ix2 R s))
    (e3 : x3 (ix2 r s) = X4 (ix2 R s))
    (e4 : x4 (ix2 r s) = X5 (ix2 R s)) :
    out0_A_7 (F := Ideal) c i a0 h0 a1 h1 a2 h2 a3 h3 a4 h4 a5 h5 a6 h6 a7 h7 a8 h8 x0 x1 x2 x3 x4 xt (ix2 r s)
      = Cert.AdamWInRefIdeal.Read.val_main_v14 (F := Ideal) X0 X1 X2 X4 (ix2 R s) := by
  have hz : (![0, 0] : Fin 2 → Nat) = fun _ => 0 := by decide
  unfold out0_A_7
  rw [View.read_writes_eq_canon _ _ _ (cover0_A_7 c i a0 h0 a1 h1 a2 h2 a3 h3 a4 h4 a5 h5 a6 h6 a7 h7 a8 h8 x0 x1 x2 x3 x4 xt)]
  unfold kernelRun0_A
  dsimp only
  sl_unfold_words
  rw [View.canon_unit_zero hz]
  simp only [View.readAt_eq_ld, h0.read_unread, h1.read_unread, h2.read_unread, h3.read_unread, h4.read_unread, View.ld_unit_zero (S := S256x256) hz]
  have own := own_at X0 X2 n hn R s
  unfold_payloads
  pointwise [Cert.AdamWInRefIdeal.Read.val_main_v7, Cert.AdamWInRefIdeal.Read.val_main_cst_1, Cert.AdamWInRefIdeal.Read.val_main_v8,
    Cert.AdamWInRefIdeal.Read.val_main_v9, Cert.AdamWInRefIdeal.Read.val_main_cst_2, Cert.AdamWInRefIdeal.Read.val_main_v10,
    Cert.AdamWInRefIdeal.Read.val_main_v11, Cert.AdamWInRefIdeal.Read.val_main_cst_3, Cert.AdamWInRefIdeal.Read.val_main_v12,
    Cert.AdamWInRefIdeal.Read.val_main_v13, Cert.AdamWInRefIdeal.Read.val_main_v14, Cert.AdamWInRefIdeal.Read.val_main_cst_4,
    Cert.AdamWInRefIdeal.Read.val_main_v15, Cert.AdamWInRefIdeal.Read.val_main_v16, Cert.AdamWInRefIdeal.Read.val_main_v17,
    Cert.AdamWInRefIdeal.Read.val_main_cst_5, Cert.AdamWInRefIdeal.Read.val_main_v18, Cert.AdamWInRefIdeal.Read.val_main_v19,
    Cert.AdamWInRefIdeal.Read.val_main_v20, Cert.AdamWInRefIdeal.Read.val_main_cst_6, Cert.AdamWInRefIdeal.Read.val_main_v21,
    Cert.AdamWInRefIdeal.Read.val_main_v22, Cert.AdamWInRefIdeal.Read.val_main_cst_7, Cert.AdamWInRefIdeal.Read.val_main_v23,
    Cert.AdamWInRefIdeal.Read.val_main_v24, Cert.AdamWInRefIdeal.Read.val_main_v25, Cert.AdamWInRefIdeal.Read.val_main_cst_8,
    Cert.AdamWInRefIdeal.Read.val_main_v26, Cert.AdamWInRefIdeal.Read.val_main_v27, Cert.AdamWInRefIdeal.Read.val_main_v28,
    Cert.AdamWInRefIdeal.Read.val_main_cst_9, Cert.AdamWInRefIdeal.Read.val_main_v29, Cert.AdamWInRefIdeal.Read.val_main_v30,
    Cert.AdamWInRefIdeal.Read.val_main_v31, Cert.AdamWInRefIdeal.Read.val_main_cst_10, Cert.AdamWInRefIdeal.Read.val_main_v32,
    Cert.AdamWInRefIdeal.Read.val_main_v33]
  simp only [own, e0, e1, e2, e3, e4, Fin.sum_univ_eight, add_assoc, zero_add]

theorem same8 (c : Dev nD) (i : grid0.Coords) (a0 : Memref sig .tc .vmem S1x256x256 .f32) (h0 : a0.IsWhole)
    (a1 : Memref sig .tc .vmem S8x256x256 .bf16) (h1 : a1.IsWhole)
    (a2 : Memref sig .tc .vmem S256x256 .f32) (h2 : a2.IsWhole)
    (a3 : Memref sig .tc .vmem S256x256 .f32) (h3 : a3.IsWhole)
    (a4 : Memref sig .tc .vmem S256x256 .f32) (h4 : a4.IsWhole)
    (a5 : Memref sig .tc .vmem S256x256 .f32) (h5 : a5.IsWhole)
    (a6 : Memref sig .tc .vmem S256x256 .f32) (h6 : a6.IsWhole)
    (a7 : Memref sig .tc .vmem S256x256 .f32) (h7 : a7.IsWhole)
    (a8 : Memref sig .tc .vmem S256x256 .f32) (h8 : a8.IsWhole)
    (x0 : Vec Ideal S1x256x256 .f32) (x1 : Vec Ideal S8x256x256 .bf16) (x2 : Vec Ideal S256x256 .f32) (x3 : Vec Ideal S256x256 .f32) (x4 : Vec Ideal S256x256 .f32)
    (xt : TbBuf0 (F := Ideal) c tbM0_0)
    (X0 : Vec Ideal S8x1024x256 .f32) (X1 : Vec Ideal S8x1024x256 .bf16) (X2 : (⟨S1, .i32⟩ : BufTy).Contents (Elt Ideal)) (X3 X4 X5 : Vec Ideal S1024x256 .f32)
    (r : Fin 256) (s : Fin 256) (R : Fin 1024) (n : Fin 8) (hn : ∀ y, (X2 y).toNat = n.val)
    (e0 : x0 (ix3 0 r s) = X0 (ix3 n R s))
    (e1 : ∀ j, x1 (ix3 j r s) = X1 (ix3 j R s))
    (e2 : x2 (ix2 r s) = X3 (ix2 R s))
    (e3 : x3 (ix2 r s) = X4 (ix2 R s))
    (e4 : x4 (ix2 r s) = X5 (ix2 R s)) :
    out0_A_8 (F := Ideal) c i a0 h0 a1 h1 a2 h2 a3 h3 a4 h4 a5 h5 a6 h6 a7 h7 a8 h8 x0 x1 x2 x3 x4 xt (ix2 r s)
      = Cert.AdamWInRefIdeal.Read.val_main_v20 (F := Ideal) X0 X1 X2 X5 (ix2 R s) := by
  have hz : (![0, 0] : Fin 2 → Nat) = fun _ => 0 := by decide
  unfold out0_A_8
  rw [View.read_writes_eq_canon _ _ _ (cover0_A_8 c i a0 h0 a1 h1 a2 h2 a3 h3 a4 h4 a5 h5 a6 h6 a7 h7 a8 h8 x0 x1 x2 x3 x4 xt)]
  unfold kernelRun0_A
  dsimp only
  sl_unfold_words
  rw [View.canon_unit_zero hz]
  simp only [View.readAt_eq_ld, h0.read_unread, h1.read_unread, h2.read_unread, h3.read_unread, h4.read_unread, View.ld_unit_zero (S := S256x256) hz]
  have own := own_at X0 X2 n hn R s
  unfold_payloads
  pointwise [Cert.AdamWInRefIdeal.Read.val_main_v7, Cert.AdamWInRefIdeal.Read.val_main_cst_1, Cert.AdamWInRefIdeal.Read.val_main_v8,
    Cert.AdamWInRefIdeal.Read.val_main_v9, Cert.AdamWInRefIdeal.Read.val_main_cst_2, Cert.AdamWInRefIdeal.Read.val_main_v10,
    Cert.AdamWInRefIdeal.Read.val_main_v11, Cert.AdamWInRefIdeal.Read.val_main_cst_3, Cert.AdamWInRefIdeal.Read.val_main_v12,
    Cert.AdamWInRefIdeal.Read.val_main_v13, Cert.AdamWInRefIdeal.Read.val_main_v14, Cert.AdamWInRefIdeal.Read.val_main_cst_4,
    Cert.AdamWInRefIdeal.Read.val_main_v15, Cert.AdamWInRefIdeal.Read.val_main_v16, Cert.AdamWInRefIdeal.Read.val_main_v17,
    Cert.AdamWInRefIdeal.Read.val_main_cst_5, Cert.AdamWInRefIdeal.Read.val_main_v18, Cert.AdamWInRefIdeal.Read.val_main_v19,
    Cert.AdamWInRefIdeal.Read.val_main_v20, Cert.AdamWInRefIdeal.Read.val_main_cst_6, Cert.AdamWInRefIdeal.Read.val_main_v21,
    Cert.AdamWInRefIdeal.Read.val_main_v22, Cert.AdamWInRefIdeal.Read.val_main_cst_7, Cert.AdamWInRefIdeal.Read.val_main_v23,
    Cert.AdamWInRefIdeal.Read.val_main_v24, Cert.AdamWInRefIdeal.Read.val_main_v25, Cert.AdamWInRefIdeal.Read.val_main_cst_8,
    Cert.AdamWInRefIdeal.Read.val_main_v26, Cert.AdamWInRefIdeal.Read.val_main_v27, Cert.AdamWInRefIdeal.Read.val_main_v28,
    Cert.AdamWInRefIdeal.Read.val_main_cst_9, Cert.AdamWInRefIdeal.Read.val_main_v29, Cert.AdamWInRefIdeal.Read.val_main_v30,
    Cert.AdamWInRefIdeal.Read.val_main_v31, Cert.AdamWInRefIdeal.Read.val_main_cst_10, Cert.AdamWInRefIdeal.Read.val_main_v32,
    Cert.AdamWInRefIdeal.Read.val_main_v33]
  simp only [own, e0, e1, e2, e3, e4, Fin.sum_univ_eight, add_assoc, zero_add]

/-! ## What a grid point reads and writes -/

/-- The argument arrays. -/
abbrev A0 (c : Dev nD) : S8x1024x256.Idx → EReal := m ((c : Thread nD τ).loc main_arg0)
abbrev A1 (c : Dev nD) : S8x1024x256.Idx → EReal := m ((c : Thread nD τ).loc main_arg1)
abbrev A2 (c : Dev nD) : (⟨S1, .i32⟩ : BufTy).Contents (Elt Ideal) := m ((c : Thread nD τ).loc main_arg2)
abbrev A3 (c : Dev nD) : S1024x256.Idx → EReal := m ((c : Thread nD τ).loc main_arg3)
abbrev A4 (c : Dev nD) : S1024x256.Idx → EReal := m ((c : Thread nD τ).loc main_arg4)
abbrev A5 (c : Dev nD) : S1024x256.Idx → EReal := m ((c : Thread nD τ).loc main_arg5)

/-- The row tile of a grid point. -/
abbrev tile (t : Fin grid0.N) : Nat := (grid0.coords t 0).val

theorem tile_lt (t : Fin grid0.N) : tile t < 4 := (grid0.coords t 0).isLt

theorem row_lt (t : Fin grid0.N) (r : Fin 256) : tile t * 256 + r.val < 1024 := by have := tile_lt t; omega

theorem maps : ∀ t : Fin grid0.N,
    cc0_transform_1 (grid0.coords t) = ![0, tile t, 0]
    ∧ cc0_transform_2 (grid0.coords t) = ![tile t, 0] ∧ cc0_transform_3 (grid0.coords t) = ![tile t, 0]
    ∧ cc0_transform_4 (grid0.coords t) = ![tile t, 0] ∧ cc0_transform_5 (grid0.coords t) = ![tile t, 0]
    ∧ cc0_transform_6 (grid0.coords t) = ![tile t, 0] ∧ cc0_transform_7 (grid0.coords t) = ![tile t, 0]
    ∧ cc0_transform_8 (grid0.coords t) = ![tile t, 0] := by decide +kernel

theorem tile_onto : ∀ a : Fin 4, ∃ t : Fin grid0.N, tile t = a.val := by decide +kernel

theorem flushes5 : ∀ t : Fin grid0.N, Pipeline.Window.flushOf grid0 true cc0_transform_5 t = true := by decide +kernel
theorem flushes6 : ∀ t : Fin grid0.N, Pipeline.Window.flushOf grid0 true cc0_transform_6 t = true := by decide +kernel
theorem flushes7 : ∀ t : Fin grid0.N, Pipeline.Window.flushOf grid0 true cc0_transform_7 t = true := by decide +kernel
theorem flushes8 : ∀ t : Fin grid0.N, Pipeline.Window.flushOf grid0 true cc0_transform_8 t = true := by decide +kernel

variable (hO : Ok m)

theorem in0_at (c : Dev nD) (t : Fin grid0.N) (n : Fin 8) (hn : ∀ y, (A2 m c y).toNat = n.val) (r : Fin 256) (s : Fin 256) :
    iblk m hO c 0 t (ix3 0 r s) = A0 m c (ix3 n ⟨tile t * 256 + r.val, row_lt t r⟩ s) := by
  obtain rfl : c = 0 := Subsingleton.elim _ _
  show m (((0 : Dev nD) : Thread nD τ).loc main_arg0) ((((cfgM m hO).win 0).rect t).emb (ix3 0 r s)) = _
  refine congrArg _ (DeviceWord.idx_ext₃ ?_ ?_ ?_)
  · refine (((cfgM m hO).win 0).rect_emb_val t (ix3 0 r s : S1x256x256.Idx) (0 : Fin 3)).trans ?_
    show (BitVec.toNat _) * 1 + 0 = n.val
    rw [Nat.mul_one, Nat.add_zero]
    exact hn _
  · refine (((cfgM m hO).win 0).rect_emb_val t (ix3 0 r s : S1x256x256.Idx) (1 : Fin 3)).trans ?_
    show (BitVec.ofNat 32 (tile t)).toNat * 256 + r.val = tile t * 256 + r.val
    have := tile_lt t
    rw [BitVec.toNat_ofNat, Nat.mod_eq_of_lt (by omega)]
  · refine (((cfgM m hO).win 0).rect_emb_val t (ix3 0 r s : S1x256x256.Idx) (2 : Fin 3)).trans ?_
    show 0 * 256 + s.val = s.val
    omega

theorem in1_at (c : Dev nD) (t : Fin grid0.N) (j : Fin 8) (r : Fin 256) (s : Fin 256) :
    iblk m hO c 1 t (ix3 j r s) = A1 m c (ix3 j ⟨tile t * 256 + r.val, row_lt t r⟩ s) := by
  have e : ((cfgM m hO).win 1).index t = ![0, tile t, 0] := (maps t).1
  show m ((c : Thread nD τ).loc main_arg1) ((((cfgM m hO).win 1).rect t).emb (ix3 j r s)) = _
  exact congrArg _ (DeviceWord.idx_ext₃
    ((((cfgM m hO).win 1).rect_emb_val t (ix3 j r s : S8x256x256.Idx) (0 : Fin 3)).trans (by rw [e]; show 0 * 8 + j.val = j.val; omega))
    ((((cfgM m hO).win 1).rect_emb_val t (ix3 j r s : S8x256x256.Idx) (1 : Fin 3)).trans (by rw [e]; rfl))
    ((((cfgM m hO).win 1).rect_emb_val t (ix3 j r s : S8x256x256.Idx) (2 : Fin 3)).trans (by rw [e]; show 0 * 256 + s.val = s.val; omega)))

theorem in2_at (c : Dev nD) (t : Fin grid0.N) (r : Fin 256) (s : Fin 256) :
    iblk m hO c 2 t (ix2 r s) = A3 m c (ix2 ⟨tile t * 256 + r.val, row_lt t r⟩ s) := by
  have e : ((cfgM m hO).win 2).index t = ![tile t, 0] := (maps t).2.1
  show m ((c : Thread nD τ).loc main_arg3) ((((cfgM m hO).win 2).rect t).emb (ix2 r s)) = _
  exact congrArg _ (Shape.idx_ext₂
    ((((cfgM m hO).win 2).rect_emb_val t (ix2 r s : S256x256.Idx) (0 : Fin 2)).trans (by rw [e]; rfl))
    ((((cfgM m hO).win 2).rect_emb_val t (ix2 r s : S256x256.Idx) (1 : Fin 2)).trans (by rw [e]; show 0 * 256 + s.val = s.val; omega)))

theorem in3_at (c : Dev nD) (t : Fin grid0.N) (r : Fin 256) (s : Fin 256) :
    iblk m hO c 3 t (ix2 r s) = A4 m c (ix2 ⟨tile t * 256 + r.val, row_lt t r⟩ s) := by
  have e : ((cfgM m hO).win 3).index t = ![tile t, 0] := (maps t).2.2.1
  show m ((c : Thread nD τ).loc main_arg4) ((((cfgM m hO).win 3).rect t).emb (ix2 r s)) = _
  exact congrArg _ (Shape.idx_ext₂
    ((((cfgM m hO).win 3).rect_emb_val t (ix2 r s : S256x256.Idx) (0 : Fin 2)).trans (by rw [e]; rfl))
    ((((cfgM m hO).win 3).rect_emb_val t (ix2 r s : S256x256.Idx) (1 : Fin 2)).trans (by rw [e]; show 0 * 256 + s.val = s.val; omega)))

theorem in4_at (c : Dev nD) (t : Fin grid0.N) (r : Fin 256) (s : Fin 256) :
    iblk m hO c 4 t (ix2 r s) = A5 m c (ix2 ⟨tile t * 256 + r.val, row_lt t r⟩ s) := by
  have e : ((cfgM m hO).win 4).index t = ![tile t, 0] := (maps t).2.2.2.1
  show m ((c : Thread nD τ).loc main_arg5) ((((cfgM m hO).win 4).rect t).emb (ix2 r s)) = _
  exact congrArg _ (Shape.idx_ext₂
    ((((cfgM m hO).win 4).rect_emb_val t (ix2 r s : S256x256.Idx) (0 : Fin 2)).trans (by rw [e]; rfl))
    ((((cfgM m hO).win 4).rect_emb_val t (ix2 r s : S256x256.Idx) (1 : Fin 2)).trans (by rw [e]; show 0 * 256 + s.val = s.val; omega)))

/-- The gradient, as a function of the argument arrays: the reference's own term. -/
def G5 (c : Dev nD) : S1024x256.Idx → EReal :=
  Cert.AdamWInRefIdeal.Read.val_main_v9 (F := Ideal) (A0 m c) (A1 m c) (A2 m c)

theorem place5 (t : Fin grid0.N) (r : Fin 256) (s : Fin 256) :
    ((((cfgM m hO).win 5).rect t).emb (ix2 r s : S256x256.Idx) : S1024x256.Idx) = ix2 ⟨tile t * 256 + r.val, row_lt t r⟩ s := by
  have e : ((cfgM m hO).win 5).index t = ![tile t, 0] := (maps t).2.2.2.2.1
  exact Shape.idx_ext₂
    ((((cfgM m hO).win 5).rect_emb_val t (ix2 r s : S256x256.Idx) (0 : Fin 2)).trans (by rw [e]; rfl))
    ((((cfgM m hO).win 5).rect_emb_val t (ix2 r s : S256x256.Idx) (1 : Fin 2)).trans (by rw [e]; show 0 * 256 + s.val = s.val; omega))

theorem out5_at (c : Dev nD) (n : Fin 8) (hn : ∀ y, (A2 m c y).toNat = n.val) (t : Fin grid0.N) (r : Fin 256) (s : Fin 256) :
    (outsAt0 m hO c t).1 (ix2 r s) = G5 m c (ix2 ⟨tile t * 256 + r.val, row_lt t r⟩ s) := by
  unfold outsAt0 G5
  dsimp only
  exact same5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (A0 m c) (A1 m c) (A2 m c) (A3 m c) (A4 m c) (A5 m c) r s _
    n hn (in0_at m hO c t n hn r s) (fun j => in1_at m hO c t j r s) (in2_at m hO c t r s) (in3_at m hO c t r s) (in4_at m hO c t r s)

theorem flushed5_eq (c : Dev nD) (n : Fin 8) (hn : ∀ y, (A2 m c y).toNat = n.val) (t : Fin grid0.N) :
    (dats m hO 0 c).flushed 5 t = (((cfgM m hO).win 5).blk t).view.read (Elt Ideal) (G5 m c) := by
  show ((cfgM m hO).win 5).cut (grid0.coords t) ((dats m hO 0 c).after 5 t) = _
  rw [after0_5]
  refine funext fun (y : S256x256.Idx) => ?_
  obtain ⟨r, s, rfl⟩ : ∃ (r : Fin 256) (s : Fin 256), y = ix2 r s := ⟨y 0, y 1, eq_ix2 y⟩
  exact (out5_at m hO c n hn t r s).trans (congrArg (G5 m c) (place5 m hO t r s).symm)

theorem covered5 (c : Dev nD) (i : S1024x256.Idx) :
    ∃ t : Fin grid0.N, ((cfgM m hO).win 5).flush t = true ∧ i ∈ (((cfgM m hO).win 5).blk t).view.set := by
  have h0 : (i 0).val < 1024 := (i 0).isLt
  obtain ⟨t, e0⟩ := tile_onto ⟨(i 0).val / 256, by omega⟩
  refine ⟨t, flushes5 t, ?_⟩
  have k : (((cfgM m hO).win 5).blk t).view.emb (ix2 (⟨(i 0).val % 256, by omega⟩ : Fin 256) (i 1) : S256x256.Idx) = i :=
    (place5 m hO t _ _).trans (Shape.idx_ext₂ (by show tile t * 256 + (i 0).val % 256 = (i 0).val; rw [e0]; dsimp only; omega) rfl)
  exact k ▸ View.emb_mem_set _ _

theorem final5 (c : Dev nD) (n : Fin 8) (hn : ∀ y, (A2 m c y).toNat = n.val) :
    (dats m hO 0 c).arrAt 5 (cfgM m hO).N = G5 m c :=
  (dats m hO 0 c).arrAt_eq_of_cover 5 (G5 m c) (fun t _ => flushed5_eq m hO c n hn t) (covered5 m hO c)

/-- The weight's step, as a function of the argument arrays: the reference's own term. -/
def G6 (c : Dev nD) : S1024x256.Idx → EReal :=
  Cert.AdamWInRefIdeal.Read.val_main_v33 (F := Ideal) (A0 m c) (A1 m c) (A2 m c) (A3 m c) (A4 m c) (A5 m c)

theorem place6 (t : Fin grid0.N) (r : Fin 256) (s : Fin 256) :
    ((((cfgM m hO).win 6).rect t).emb (ix2 r s : S256x256.Idx) : S1024x256.Idx) = ix2 ⟨tile t * 256 + r.val, row_lt t r⟩ s := by
  have e : ((cfgM m hO).win 6).index t = ![tile t, 0] := (maps t).2.2.2.2.2.1
  exact Shape.idx_ext₂
    ((((cfgM m hO).win 6).rect_emb_val t (ix2 r s : S256x256.Idx) (0 : Fin 2)).trans (by rw [e]; rfl))
    ((((cfgM m hO).win 6).rect_emb_val t (ix2 r s : S256x256.Idx) (1 : Fin 2)).trans (by rw [e]; show 0 * 256 + s.val = s.val; omega))

theorem out6_at (c : Dev nD) (n : Fin 8) (hn : ∀ y, (A2 m c y).toNat = n.val) (t : Fin grid0.N) (r : Fin 256) (s : Fin 256) :
    (outsAt0 m hO c t).2.1 (ix2 r s) = G6 m c (ix2 ⟨tile t * 256 + r.val, row_lt t r⟩ s) := by
  unfold outsAt0 G6
  dsimp only
  exact same6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (A0 m c) (A1 m c) (A2 m c) (A3 m c) (A4 m c) (A5 m c) r s _
    n hn (in0_at m hO c t n hn r s) (fun j => in1_at m hO c t j r s) (in2_at m hO c t r s) (in3_at m hO c t r s) (in4_at m hO c t r s)

theorem flushed6_eq (c : Dev nD) (n : Fin 8) (hn : ∀ y, (A2 m c y).toNat = n.val) (t : Fin grid0.N) :
    (dats m hO 0 c).flushed 6 t = (((cfgM m hO).win 6).blk t).view.read (Elt Ideal) (G6 m c) := by
  show ((cfgM m hO).win 6).cut (grid0.coords t) ((dats m hO 0 c).after 6 t) = _
  rw [after0_6]
  refine funext fun (y : S256x256.Idx) => ?_
  obtain ⟨r, s, rfl⟩ : ∃ (r : Fin 256) (s : Fin 256), y = ix2 r s := ⟨y 0, y 1, eq_ix2 y⟩
  exact (out6_at m hO c n hn t r s).trans (congrArg (G6 m c) (place6 m hO t r s).symm)

theorem covered6 (c : Dev nD) (i : S1024x256.Idx) :
    ∃ t : Fin grid0.N, ((cfgM m hO).win 6).flush t = true ∧ i ∈ (((cfgM m hO).win 6).blk t).view.set := by
  have h0 : (i 0).val < 1024 := (i 0).isLt
  obtain ⟨t, e0⟩ := tile_onto ⟨(i 0).val / 256, by omega⟩
  refine ⟨t, flushes6 t, ?_⟩
  have k : (((cfgM m hO).win 6).blk t).view.emb (ix2 (⟨(i 0).val % 256, by omega⟩ : Fin 256) (i 1) : S256x256.Idx) = i :=
    (place6 m hO t _ _).trans (Shape.idx_ext₂ (by show tile t * 256 + (i 0).val % 256 = (i 0).val; rw [e0]; dsimp only; omega) rfl)
  exact k ▸ View.emb_mem_set _ _

theorem final6 (c : Dev nD) (n : Fin 8) (hn : ∀ y, (A2 m c y).toNat = n.val) :
    (dats m hO 0 c).arrAt 6 (cfgM m hO).N = G6 m c :=
  (dats m hO 0 c).arrAt_eq_of_cover 6 (G6 m c) (fun t _ => flushed6_eq m hO c n hn t) (covered6 m hO c)

/-- The first moment, as a function of the argument arrays: the reference's own term. -/
def G7 (c : Dev nD) : S1024x256.Idx → EReal :=
  Cert.AdamWInRefIdeal.Read.val_main_v14 (F := Ideal) (A0 m c) (A1 m c) (A2 m c) (A4 m c)

theorem place7 (t : Fin grid0.N) (r : Fin 256) (s : Fin 256) :
    ((((cfgM m hO).win 7).rect t).emb (ix2 r s : S256x256.Idx) : S1024x256.Idx) = ix2 ⟨tile t * 256 + r.val, row_lt t r⟩ s := by
  have e : ((cfgM m hO).win 7).index t = ![tile t, 0] := (maps t).2.2.2.2.2.2.1
  exact Shape.idx_ext₂
    ((((cfgM m hO).win 7).rect_emb_val t (ix2 r s : S256x256.Idx) (0 : Fin 2)).trans (by rw [e]; rfl))
    ((((cfgM m hO).win 7).rect_emb_val t (ix2 r s : S256x256.Idx) (1 : Fin 2)).trans (by rw [e]; show 0 * 256 + s.val = s.val; omega))

theorem out7_at (c : Dev nD) (n : Fin 8) (hn : ∀ y, (A2 m c y).toNat = n.val) (t : Fin grid0.N) (r : Fin 256) (s : Fin 256) :
    (outsAt0 m hO c t).2.2.1 (ix2 r s) = G7 m c (ix2 ⟨tile t * 256 + r.val, row_lt t r⟩ s) := by
  unfold outsAt0 G7
  dsimp only
  exact same7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (A0 m c) (A1 m c) (A2 m c) (A3 m c) (A4 m c) (A5 m c) r s _
    n hn (in0_at m hO c t n hn r s) (fun j => in1_at m hO c t j r s) (in2_at m hO c t r s) (in3_at m hO c t r s) (in4_at m hO c t r s)

theorem flushed7_eq (c : Dev nD) (n : Fin 8) (hn : ∀ y, (A2 m c y).toNat = n.val) (t : Fin grid0.N) :
    (dats m hO 0 c).flushed 7 t = (((cfgM m hO).win 7).blk t).view.read (Elt Ideal) (G7 m c) := by
  show ((cfgM m hO).win 7).cut (grid0.coords t) ((dats m hO 0 c).after 7 t) = _
  rw [after0_7]
  refine funext fun (y : S256x256.Idx) => ?_
  obtain ⟨r, s, rfl⟩ : ∃ (r : Fin 256) (s : Fin 256), y = ix2 r s := ⟨y 0, y 1, eq_ix2 y⟩
  exact (out7_at m hO c n hn t r s).trans (congrArg (G7 m c) (place7 m hO t r s).symm)

theorem covered7 (c : Dev nD) (i : S1024x256.Idx) :
    ∃ t : Fin grid0.N, ((cfgM m hO).win 7).flush t = true ∧ i ∈ (((cfgM m hO).win 7).blk t).view.set := by
  have h0 : (i 0).val < 1024 := (i 0).isLt
  obtain ⟨t, e0⟩ := tile_onto ⟨(i 0).val / 256, by omega⟩
  refine ⟨t, flushes7 t, ?_⟩
  have k : (((cfgM m hO).win 7).blk t).view.emb (ix2 (⟨(i 0).val % 256, by omega⟩ : Fin 256) (i 1) : S256x256.Idx) = i :=
    (place7 m hO t _ _).trans (Shape.idx_ext₂ (by show tile t * 256 + (i 0).val % 256 = (i 0).val; rw [e0]; dsimp only; omega) rfl)
  exact k ▸ View.emb_mem_set _ _

theorem final7 (c : Dev nD) (n : Fin 8) (hn : ∀ y, (A2 m c y).toNat = n.val) :
    (dats m hO 0 c).arrAt 7 (cfgM m hO).N = G7 m c :=
  (dats m hO 0 c).arrAt_eq_of_cover 7 (G7 m c) (fun t _ => flushed7_eq m hO c n hn t) (covered7 m hO c)

/-- The second moment, as a function of the argument arrays: the reference's own term. -/
def G8 (c : Dev nD) : S1024x256.Idx → EReal :=
  Cert.AdamWInRefIdeal.Read.val_main_v20 (F := Ideal) (A0 m c) (A1 m c) (A2 m c) (A5 m c)

theorem place8 (t : Fin grid0.N) (r : Fin 256) (s : Fin 256) :
    ((((cfgM m hO).win 8).rect t).emb (ix2 r s : S256x256.Idx) : S1024x256.Idx) = ix2 ⟨tile t * 256 + r.val, row_lt t r⟩ s := by
  have e : ((cfgM m hO).win 8).index t = ![tile t, 0] := (maps t).2.2.2.2.2.2.2
  exact Shape.idx_ext₂
    ((((cfgM m hO).win 8).rect_emb_val t (ix2 r s : S256x256.Idx) (0 : Fin 2)).trans (by rw [e]; rfl))
    ((((cfgM m hO).win 8).rect_emb_val t (ix2 r s : S256x256.Idx) (1 : Fin 2)).trans (by rw [e]; show 0 * 256 + s.val = s.val; omega))

theorem out8_at (c : Dev nD) (n : Fin 8) (hn : ∀ y, (A2 m c y).toNat = n.val) (t : Fin grid0.N) (r : Fin 256) (s : Fin 256) :
    (outsAt0 m hO c t).2.2.2 (ix2 r s) = G8 m c (ix2 ⟨tile t * 256 + r.val, row_lt t r⟩ s) := by
  unfold outsAt0 G8
  dsimp only
  exact same8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (A0 m c) (A1 m c) (A2 m c) (A3 m c) (A4 m c) (A5 m c) r s _
    n hn (in0_at m hO c t n hn r s) (fun j => in1_at m hO c t j r s) (in2_at m hO c t r s) (in3_at m hO c t r s) (in4_at m hO c t r s)

theorem flushed8_eq (c : Dev nD) (n : Fin 8) (hn : ∀ y, (A2 m c y).toNat = n.val) (t : Fin grid0.N) :
    (dats m hO 0 c).flushed 8 t = (((cfgM m hO).win 8).blk t).view.read (Elt Ideal) (G8 m c) := by
  show ((cfgM m hO).win 8).cut (grid0.coords t) ((dats m hO 0 c).after 8 t) = _
  rw [after0_8]
  refine funext fun (y : S256x256.Idx) => ?_
  obtain ⟨r, s, rfl⟩ : ∃ (r : Fin 256) (s : Fin 256), y = ix2 r s := ⟨y 0, y 1, eq_ix2 y⟩
  exact (out8_at m hO c n hn t r s).trans (congrArg (G8 m c) (place8 m hO t r s).symm)

theorem covered8 (c : Dev nD) (i : S1024x256.Idx) :
    ∃ t : Fin grid0.N, ((cfgM m hO).win 8).flush t = true ∧ i ∈ (((cfgM m hO).win 8).blk t).view.set := by
  have h0 : (i 0).val < 1024 := (i 0).isLt
  obtain ⟨t, e0⟩ := tile_onto ⟨(i 0).val / 256, by omega⟩
  refine ⟨t, flushes8 t, ?_⟩
  have k : (((cfgM m hO).win 8).blk t).view.emb (ix2 (⟨(i 0).val % 256, by omega⟩ : Fin 256) (i 1) : S256x256.Idx) = i :=
    (place8 m hO t _ _).trans (Shape.idx_ext₂ (by show tile t * 256 + (i 0).val % 256 = (i 0).val; rw [e0]; dsimp only; omega) rfl)
  exact k ▸ View.emb_mem_set _ _

theorem final8 (c : Dev nD) (n : Fin 8) (hn : ∀ y, (A2 m c y).toNat = n.val) :
    (dats m hO 0 c).arrAt 8 (cfgM m hO).N = G8 m c :=
  (dats m hO 0 c).arrAt_eq_of_cover 8 (G8 m c) (fun t _ => flushed8_eq m hO c n hn t) (covered8 m hO c)

/-- The kernel and the reference leave equal results. -/
theorem algebraic : Cert.algebraic_AdamWInIdeal_AdamWInRefIdeal := fun m g m' g' hpre hagree => by
  have hO := ideal_ok m hpre
  have hw : ∀ (c : Dev nD) (y : S1.Idx), (A2 m c y).toNat = (⟨(A2 m c (ix1 0)).toNat, word_lt (hpre c) _⟩ : Fin 8).val :=
    fun c y => congrArg (fun z : S1.Idx => (A2 m c z).toNat) (DeviceWord.one_index _ _)
  exact ⟨fun c => G5 m c, fun c => G6 m c, fun c => G7 m c, fun c => G8 m c,
    (θ_run _ _ _).mono (fun r h c =>
      ⟨((h.1 c).1 5).trans (final5 m hO c _ (hw c)), ((h.1 c).1 6).trans (final6 m hO c _ (hw c)),
        ((h.1 c).1 7).trans (final7 m hO c _ (hw c)), ((h.1 c).1 8).trans (final8 m hO c _ (hw c)), h.2 c⟩)
      (θ_run_and (run_main m g hO) (unchanged m g hO)),
    (θ_run _ _ _).mono (fun r h c => ⟨(h c).1.trans (by
        rw [(hagree c).1, (hagree c).2.1, (hagree c).2.2.1]; rfl), (h c).2.1.trans (by
        rw [(hagree c).1, (hagree c).2.1, (hagree c).2.2.1, (hagree c).2.2.2.1, (hagree c).2.2.2.2.1, (hagree c).2.2.2.2.2]; rfl), (h c).2.2.1.trans (by
        rw [(hagree c).1, (hagree c).2.1, (hagree c).2.2.1, (hagree c).2.2.2.2.1]; rfl), (h c).2.2.2.1.trans (by
        rw [(hagree c).1, (hagree c).2.1, (hagree c).2.2.1, (hagree c).2.2.2.2.2]; rfl), (h c).2.2.2.2⟩)
      (Cert.AdamWInRefIdeal.Value.run (F := Ideal) m' g')⟩

end Cert.Hand.AdamWIn

end
-- ==== Proof.AdamWGlu.lean ====
/-
  The optimiser's step on `w_glu`: the gradient is the device's own block of its product plus the eight blocks it holds
  of what was sent. The kernel adds them one by one, a tile of rows at a time; the reference takes the sum of the eight.
  The own block is the one whose number the device's word names; the precondition says that it names one of the eight.
-/
module

public import proofs.«01_k».proof.Proof.Gen.AdamWGlu.Frame
public import proofs.«01_k».proof.Proof.Gen.AdamWGluIdeal.Frame
public import proofs.«01_k».proof.Proof.Gen.AdamWGluRefIdeal.Run
public import proofs.«01_k».proof.Proof.Gen.AdamWGluRefIdeal.Read
public import proofs.«01_k».proof.Proof.Gen.Pre_w_glu_device
public import proofs.«01_k».proof.Defs
public import proofs.«01_k».proof.Proof.DeviceWord
public import Idealize.ShloMosaic.Lib.Pointwise
public import Idealize.ShloMosaic.Lib.Tactic
public import Idealize.ShloMosaic.Lib.Pipeline.Value

@[expose] public section

set_option maxRecDepth 16384

noncomputable section

namespace Cert.Hand.AdamWGlu

open Cert.AdamWGluIdeal Cert.AdamWGluIdeal.Gen Idealize.ShloMosaic Idealize.ShloMosaic.TcCoe Idealize.SL.Sem
open Idealize.ShloMosaic.Pipeline (Dat)
open scoped BigOperators

/-! ## What the precondition says -/

/-- The device's word names one of the eight. -/
theorem word_lt {F : FTy → Type} [FloatOps F] {x0 : FVec F Cert.Pre_w_glu_device.S8x64x512 .f32} {x1 : FVec F Cert.Pre_w_glu_device.S8x64x512 .bf16}
    {x2 : IVec Cert.Pre_w_glu_device.S1 32} {x3 x4 x5 : FVec F Cert.Pre_w_glu_device.S64x512 .f32}
    (h : Cert.Pre_w_glu_device.fn x0 x1 x2 x3 x4 x5 = fun _ => 1#1) (y : Cert.Pre_w_glu_device.S1.Idx) : (x2 y).toNat < 8 := by
  have e := congrFun h (fun a => a.elim0)
  simp only [Cert.Pre_w_glu_device.fn, andi, cmpi, constantI, shapeCast] at e
  exact DeviceWord.one_index y _ ▸ DeviceWord.lt_eight e

/-- So the kernel's block of the own product lies inside the array. -/
theorem bits_ok (m : (ℓ : Loc Cert.AdamWGlu.nD Cert.AdamWGlu.τ Cert.AdamWGlu.sig) → Buf (Elt Bits) ℓ) (h : Cert.Pre_AdamWGlu m) :
    Cert.AdamWGlu.Gen.Ok m := fun i =>
  ⟨fun a => by
    have k := word_lt (h 0)
    have hi : (i 0).val < 1 := (i 0).isLt
    match a with
    | ⟨0, _⟩ => exact DeviceWord.block_le (k _)
    | ⟨1, _⟩ => show ((BitVec.ofNat 32 (i 0).val).toNat + 1) * 64 ≤ 64
                rw [BitVec.toNat_ofNat]; omega
    | ⟨2, _⟩ => show (0 + 1) * 512 ≤ 512
                omega, .inl rfl⟩

variable (m : (ℓ : Loc nD τ sig) → Buf (Elt Ideal) ℓ)

theorem ideal_ok (h : Cert.Pre_AdamWGluIdeal m) : Ok m := fun i =>
  ⟨fun a => by
    have k := word_lt (h 0)
    have hi : (i 0).val < 1 := (i 0).isLt
    match a with
    | ⟨0, _⟩ => exact DeviceWord.block_le (k _)
    | ⟨1, _⟩ => show ((BitVec.ofNat 32 (i 0).val).toNat + 1) * 64 ≤ 64
                rw [BitVec.toNat_ofNat]; omega
    | ⟨2, _⟩ => show (0 + 1) * 512 ≤ 512
                omega, .inl rfl⟩

/-! ## One element: the kernel's sum and the reference's -/

/-- The own block as the reference reads it: the one block whose number the word is. -/
theorem own_at (X0 : Vec Ideal S8x64x512 .f32) (X2 : (⟨S1, .i32⟩ : BufTy).Contents (Elt Ideal)) (n : Fin 8)
    (hn : ∀ y, (X2 y).toNat = n.val) (R : Fin 64) (s : Fin 512) :
    Cert.AdamWGluRefIdeal.Read.val_main_v6 (F := Ideal) X0 X2 (ix2 R s) = X0 (ix3 n R s) := by
  pointwise [Cert.AdamWGluRefIdeal.Read.val_main_v0, Cert.AdamWGluRefIdeal.Read.val_main_v1, Cert.AdamWGluRefIdeal.Read.val_main_v2,
    Cert.AdamWGluRefIdeal.Read.val_main_v3, Cert.AdamWGluRefIdeal.Read.val_main_v4, Cert.AdamWGluRefIdeal.Read.val_main_cst,
    Cert.AdamWGluRefIdeal.Read.val_main_call0_v0, Cert.AdamWGluRefIdeal.Read.val_main_call0_v1, Cert.AdamWGluRefIdeal.Read.val_main_call0_v2,
    Cert.AdamWGluRefIdeal.Read.val_main_v5, Cert.AdamWGluRefIdeal.Read.val_main_cst_0, Cert.AdamWGluRefIdeal.Read.val_main_v6]
  have z : (id (constant (F := Ideal) Cert.AdamWGluRefIdeal.S_ .f32 0#32) : Cert.AdamWGluRefIdeal.S_.Idx → EReal) ix0 = 0 := by
    show (constant (F := Ideal) Cert.AdamWGluRefIdeal.S_ .f32 0#32 : Cert.AdamWGluRefIdeal.S_.Idx → EReal) ix0 = 0
    pointwise
  simp only [z]
  exact DeviceWord.pick n (hn _) fun j => X0 (ix3 j R s)

theorem same5 (c : Dev nD) (i : grid0.Coords) (a0 : Memref sig .tc .vmem S1x64x512 .f32) (h0 : a0.IsWhole)
    (a1 : Memref sig .tc .vmem S8x64x512 .bf16) (h1 : a1.IsWhole)
    (a2 : Memref sig .tc .vmem S64x512 .f32) (h2 : a2.IsWhole)
    (a3 : Memref sig .tc .vmem S64x512 .f32) (h3 : a3.IsWhole)
    (a4 : Memref sig .tc .vmem S64x512 .f32) (h4 : a4.IsWhole)
    (a5 : Memref sig .tc .vmem S64x512 .f32) (h5 : a5.IsWhole)
    (a6 : Memref sig .tc .vmem S64x512 .f32) (h6 : a6.IsWhole)
    (a7 : Memref sig .tc .vmem S64x512 .f32) (h7 : a7.IsWhole)
    (a8 : Memref sig .tc .vmem S64x512 .f32) (h8 : a8.IsWhole)
    (x0 : Vec Ideal S1x64x512 .f32) (x1 : Vec Ideal S8x64x512 .bf16) (x2 : Vec Ideal S64x512 .f32) (x3 : Vec Ideal S64x512 .f32) (x4 : Vec Ideal S64x512 .f32)
    (xt : TbBuf0 (F := Ideal) c tbM0_0)
    (X0 : Vec Ideal S8x64x512 .f32) (X1 : Vec Ideal S8x64x512 .bf16) (X2 : (⟨S1, .i32⟩ : BufTy).Contents (Elt Ideal)) (X3 X4 X5 : Vec Ideal S64x512 .f32)
    (r : Fin 64) (s : Fin 512) (R : Fin 64) (n : Fin 8) (hn : ∀ y, (X2 y).toNat = n.val)
    (e0 : x0 (ix3 0 r s) = X0 (ix3 n R s))
    (e1 : ∀ j, x1 (ix3 j r s) = X1 (ix3 j R s))
    (e2 : x2 (ix2 r s) = X3 (ix2 R s))
    (e3 : x3 (ix2 r s) = X4 (ix2 R s))
    (e4 : x4 (ix2 r s) = X5 (ix2 R s)) :
    out0_A_5 (F := Ideal) c i a0 h0 a1 h1 a2 h2 a3 h3 a4 h4 a5 h5 a6 h6 a7 h7 a8 h8 x0 x1 x2 x3 x4 xt (ix2 r s)
      = Cert.AdamWGluRefIdeal.Read.val_main_v9 (F := Ideal) X0 X1 X2 (ix2 R s) := by
  have hz : (![0, 0] : Fin 2 → Nat) = fun _ => 0 := by decide
  unfold out0_A_5
  rw [View.read_writes_eq_canon _ _ _ (cover0_A_5 c i a0 h0 a1 h1 a2 h2 a3 h3 a4 h4 a5 h5 a6 h6 a7 h7 a8 h8 x0 x1 x2 x3 x4 xt)]
  unfold kernelRun0_A
  dsimp only
  sl_unfold_words
  rw [View.canon_unit_zero hz]
  simp only [View.readAt_eq_ld, h0.read_unread, h1.read_unread, h2.read_unread, h3.read_unread, h4.read_unread, View.ld_unit_zero (S := S64x512) hz]
  have own := own_at X0 X2 n hn R s
  unfold_payloads
  pointwise [Cert.AdamWGluRefIdeal.Read.val_main_v7, Cert.AdamWGluRefIdeal.Read.val_main_cst_1, Cert.AdamWGluRefIdeal.Read.val_main_v8,
    Cert.AdamWGluRefIdeal.Read.val_main_v9, Cert.AdamWGluRefIdeal.Read.val_main_cst_2, Cert.AdamWGluRefIdeal.Read.val_main_v10,
    Cert.AdamWGluRefIdeal.Read.val_main_v11, Cert.AdamWGluRefIdeal.Read.val_main_cst_3, Cert.AdamWGluRefIdeal.Read.val_main_v12,
    Cert.AdamWGluRefIdeal.Read.val_main_v13, Cert.AdamWGluRefIdeal.Read.val_main_v14, Cert.AdamWGluRefIdeal.Read.val_main_cst_4,
    Cert.AdamWGluRefIdeal.Read.val_main_v15, Cert.AdamWGluRefIdeal.Read.val_main_v16, Cert.AdamWGluRefIdeal.Read.val_main_v17,
    Cert.AdamWGluRefIdeal.Read.val_main_cst_5, Cert.AdamWGluRefIdeal.Read.val_main_v18, Cert.AdamWGluRefIdeal.Read.val_main_v19,
    Cert.AdamWGluRefIdeal.Read.val_main_v20, Cert.AdamWGluRefIdeal.Read.val_main_cst_6, Cert.AdamWGluRefIdeal.Read.val_main_v21,
    Cert.AdamWGluRefIdeal.Read.val_main_v22, Cert.AdamWGluRefIdeal.Read.val_main_cst_7, Cert.AdamWGluRefIdeal.Read.val_main_v23,
    Cert.AdamWGluRefIdeal.Read.val_main_v24, Cert.AdamWGluRefIdeal.Read.val_main_v25, Cert.AdamWGluRefIdeal.Read.val_main_cst_8,
    Cert.AdamWGluRefIdeal.Read.val_main_v26, Cert.AdamWGluRefIdeal.Read.val_main_v27, Cert.AdamWGluRefIdeal.Read.val_main_v28,
    Cert.AdamWGluRefIdeal.Read.val_main_cst_9, Cert.AdamWGluRefIdeal.Read.val_main_v29, Cert.AdamWGluRefIdeal.Read.val_main_v30,
    Cert.AdamWGluRefIdeal.Read.val_main_v31, Cert.AdamWGluRefIdeal.Read.val_main_cst_10, Cert.AdamWGluRefIdeal.Read.val_main_v32,
    Cert.AdamWGluRefIdeal.Read.val_main_v33]
  simp only [own, e0, e1, e2, e3, e4, Fin.sum_univ_eight, add_assoc, zero_add]

theorem same6 (c : Dev nD) (i : grid0.Coords) (a0 : Memref sig .tc .vmem S1x64x512 .f32) (h0 : a0.IsWhole)
    (a1 : Memref sig .tc .vmem S8x64x512 .bf16) (h1 : a1.IsWhole)
    (a2 : Memref sig .tc .vmem S64x512 .f32) (h2 : a2.IsWhole)
    (a3 : Memref sig .tc .vmem S64x512 .f32) (h3 : a3.IsWhole)
    (a4 : Memref sig .tc .vmem S64x512 .f32) (h4 : a4.IsWhole)
    (a5 : Memref sig .tc .vmem S64x512 .f32) (h5 : a5.IsWhole)
    (a6 : Memref sig .tc .vmem S64x512 .f32) (h6 : a6.IsWhole)
    (a7 : Memref sig .tc .vmem S64x512 .f32) (h7 : a7.IsWhole)
    (a8 : Memref sig .tc .vmem S64x512 .f32) (h8 : a8.IsWhole)
    (x0 : Vec Ideal S1x64x512 .f32) (x1 : Vec Ideal S8x64x512 .bf16) (x2 : Vec Ideal S64x512 .f32) (x3 : Vec Ideal S64x512 .f32) (x4 : Vec Ideal S64x512 .f32)
    (xt : TbBuf0 (F := Ideal) c tbM0_0)
    (X0 : Vec Ideal S8x64x512 .f32) (X1 : Vec Ideal S8x64x512 .bf16) (X2 : (⟨S1, .i32⟩ : BufTy).Contents (Elt Ideal)) (X3 X4 X5 : Vec Ideal S64x512 .f32)
    (r : Fin 64) (s : Fin 512) (R : Fin 64) (n : Fin 8) (hn : ∀ y, (X2 y).toNat = n.val)
    (e0 : x0 (ix3 0 r s) = X0 (ix3 n R s))
    (e1 : ∀ j, x1 (ix3 j r s) = X1 (ix3 j R s))
    (e2 : x2 (ix2 r s) = X3 (ix2 R s))
    (e3 : x3 (ix2 r s) = X4 (ix2 R s))
    (e4 : x4 (ix2 r s) = X5 (ix2 R s)) :
    out0_A_6 (F := Ideal) c i a0 h0 a1 h1 a2 h2 a3 h3 a4 h4 a5 h5 a6 h6 a7 h7 a8 h8 x0 x1 x2 x3 x4 xt (ix2 r s)
      = Cert.AdamWGluRefIdeal.Read.val_main_v33 (F := Ideal) X0 X1 X2 X3 X4 X5 (ix2 R s) := by
  have hz : (![0, 0] : Fin 2 → Nat) = fun _ => 0 := by decide
  unfold out0_A_6
  rw [View.read_writes_eq_canon _ _ _ (cover0_A_6 c i a0 h0 a1 h1 a2 h2 a3 h3 a4 h4 a5 h5 a6 h6 a7 h7 a8 h8 x0 x1 x2 x3 x4 xt)]
  unfold kernelRun0_A
  dsimp only
  sl_unfold_words
  rw [View.canon_unit_zero hz]
  simp only [View.readAt_eq_ld, h0.read_unread, h1.read_unread, h2.read_unread, h3.read_unread, h4.read_unread, View.ld_unit_zero (S := S64x512) hz]
  have own := own_at X0 X2 n hn R s
  unfold_payloads
  pointwise [Cert.AdamWGluRefIdeal.Read.val_main_v7, Cert.AdamWGluRefIdeal.Read.val_main_cst_1, Cert.AdamWGluRefIdeal.Read.val_main_v8,
    Cert.AdamWGluRefIdeal.Read.val_main_v9, Cert.AdamWGluRefIdeal.Read.val_main_cst_2, Cert.AdamWGluRefIdeal.Read.val_main_v10,
    Cert.AdamWGluRefIdeal.Read.val_main_v11, Cert.AdamWGluRefIdeal.Read.val_main_cst_3, Cert.AdamWGluRefIdeal.Read.val_main_v12,
    Cert.AdamWGluRefIdeal.Read.val_main_v13, Cert.AdamWGluRefIdeal.Read.val_main_v14, Cert.AdamWGluRefIdeal.Read.val_main_cst_4,
    Cert.AdamWGluRefIdeal.Read.val_main_v15, Cert.AdamWGluRefIdeal.Read.val_main_v16, Cert.AdamWGluRefIdeal.Read.val_main_v17,
    Cert.AdamWGluRefIdeal.Read.val_main_cst_5, Cert.AdamWGluRefIdeal.Read.val_main_v18, Cert.AdamWGluRefIdeal.Read.val_main_v19,
    Cert.AdamWGluRefIdeal.Read.val_main_v20, Cert.AdamWGluRefIdeal.Read.val_main_cst_6, Cert.AdamWGluRefIdeal.Read.val_main_v21,
    Cert.AdamWGluRefIdeal.Read.val_main_v22, Cert.AdamWGluRefIdeal.Read.val_main_cst_7, Cert.AdamWGluRefIdeal.Read.val_main_v23,
    Cert.AdamWGluRefIdeal.Read.val_main_v24, Cert.AdamWGluRefIdeal.Read.val_main_v25, Cert.AdamWGluRefIdeal.Read.val_main_cst_8,
    Cert.AdamWGluRefIdeal.Read.val_main_v26, Cert.AdamWGluRefIdeal.Read.val_main_v27, Cert.AdamWGluRefIdeal.Read.val_main_v28,
    Cert.AdamWGluRefIdeal.Read.val_main_cst_9, Cert.AdamWGluRefIdeal.Read.val_main_v29, Cert.AdamWGluRefIdeal.Read.val_main_v30,
    Cert.AdamWGluRefIdeal.Read.val_main_v31, Cert.AdamWGluRefIdeal.Read.val_main_cst_10, Cert.AdamWGluRefIdeal.Read.val_main_v32,
    Cert.AdamWGluRefIdeal.Read.val_main_v33]
  simp only [own, e0, e1, e2, e3, e4, Fin.sum_univ_eight, add_assoc, zero_add]

theorem same7 (c : Dev nD) (i : grid0.Coords) (a0 : Memref sig .tc .vmem S1x64x512 .f32) (h0 : a0.IsWhole)
    (a1 : Memref sig .tc .vmem S8x64x512 .bf16) (h1 : a1.IsWhole)
    (a2 : Memref sig .tc .vmem S64x512 .f32) (h2 : a2.IsWhole)
    (a3 : Memref sig .tc .vmem S64x512 .f32) (h3 : a3.IsWhole)
    (a4 : Memref sig .tc .vmem S64x512 .f32) (h4 : a4.IsWhole)
    (a5 : Memref sig .tc .vmem S64x512 .f32) (h5 : a5.IsWhole)
    (a6 : Memref sig .tc .vmem S64x512 .f32) (h6 : a6.IsWhole)
    (a7 : Memref sig .tc .vmem S64x512 .f32) (h7 : a7.IsWhole)
    (a8 : Memref sig .tc .vmem S64x512 .f32) (h8 : a8.IsWhole)
    (x0 : Vec Ideal S1x64x512 .f32) (x1 : Vec Ideal S8x64x512 .bf16) (x2 : Vec Ideal S64x512 .f32) (x3 : Vec Ideal S64x512 .f32) (x4 : Vec Ideal S64x512 .f32)
    (xt : TbBuf0 (F := Ideal) c tbM0_0)
    (X0 : Vec Ideal S8x64x512 .f32) (X1 : Vec Ideal S8x64x512 .bf16) (X2 : (⟨S1, .i32⟩ : BufTy).Contents (Elt Ideal)) (X3 X4 X5 : Vec Ideal S64x512 .f32)
    (r : Fin 64) (s : Fin 512) (R : Fin 64) (n : Fin 8) (hn : ∀ y, (X2 y).toNat = n.val)
    (e0 : x0 (ix3 0 r s) = X0 (ix3 n R s))
    (e1 : ∀ j, x1 (ix3 j r s) = X1 (ix3 j R s))
    (e2 : x2 (ix2 r s) = X3 (ix2 R s))
    (e3 : x3 (ix2 r s) = X4 (ix2 R s))
    (e4 : x4 (ix2 r s) = X5 (ix2 R s)) :
    out0_A_7 (F := Ideal) c i a0 h0 a1 h1 a2 h2 a3 h3 a4 h4 a5 h5 a6 h6 a7 h7 a8 h8 x0 x1 x2 x3 x4 xt (ix2 r s)
      = Cert.AdamWGluRefIdeal.Read.val_main_v14 (F := Ideal) X0 X1 X2 X4 (ix2 R s) := by
  have hz : (![0, 0] : Fin 2 → Nat) = fun _ => 0 := by decide
  unfold out0_A_7
  rw [View.read_writes_eq_canon _ _ _ (cover0_A_7 c i a0 h0 a1 h1 a2 h2 a3 h3 a4 h4 a5 h5 a6 h6 a7 h7 a8 h8 x0 x1 x2 x3 x4 xt)]
  unfold kernelRun0_A
  dsimp only
  sl_unfold_words
  rw [View.canon_unit_zero hz]
  simp only [View.readAt_eq_ld, h0.read_unread, h1.read_unread, h2.read_unread, h3.read_unread, h4.read_unread, View.ld_unit_zero (S := S64x512) hz]
  have own := own_at X0 X2 n hn R s
  unfold_payloads
  pointwise [Cert.AdamWGluRefIdeal.Read.val_main_v7, Cert.AdamWGluRefIdeal.Read.val_main_cst_1, Cert.AdamWGluRefIdeal.Read.val_main_v8,
    Cert.AdamWGluRefIdeal.Read.val_main_v9, Cert.AdamWGluRefIdeal.Read.val_main_cst_2, Cert.AdamWGluRefIdeal.Read.val_main_v10,
    Cert.AdamWGluRefIdeal.Read.val_main_v11, Cert.AdamWGluRefIdeal.Read.val_main_cst_3, Cert.AdamWGluRefIdeal.Read.val_main_v12,
    Cert.AdamWGluRefIdeal.Read.val_main_v13, Cert.AdamWGluRefIdeal.Read.val_main_v14, Cert.AdamWGluRefIdeal.Read.val_main_cst_4,
    Cert.AdamWGluRefIdeal.Read.val_main_v15, Cert.AdamWGluRefIdeal.Read.val_main_v16, Cert.AdamWGluRefIdeal.Read.val_main_v17,
    Cert.AdamWGluRefIdeal.Read.val_main_cst_5, Cert.AdamWGluRefIdeal.Read.val_main_v18, Cert.AdamWGluRefIdeal.Read.val_main_v19,
    Cert.AdamWGluRefIdeal.Read.val_main_v20, Cert.AdamWGluRefIdeal.Read.val_main_cst_6, Cert.AdamWGluRefIdeal.Read.val_main_v21,
    Cert.AdamWGluRefIdeal.Read.val_main_v22, Cert.AdamWGluRefIdeal.Read.val_main_cst_7, Cert.AdamWGluRefIdeal.Read.val_main_v23,
    Cert.AdamWGluRefIdeal.Read.val_main_v24, Cert.AdamWGluRefIdeal.Read.val_main_v25, Cert.AdamWGluRefIdeal.Read.val_main_cst_8,
    Cert.AdamWGluRefIdeal.Read.val_main_v26, Cert.AdamWGluRefIdeal.Read.val_main_v27, Cert.AdamWGluRefIdeal.Read.val_main_v28,
    Cert.AdamWGluRefIdeal.Read.val_main_cst_9, Cert.AdamWGluRefIdeal.Read.val_main_v29, Cert.AdamWGluRefIdeal.Read.val_main_v30,
    Cert.AdamWGluRefIdeal.Read.val_main_v31, Cert.AdamWGluRefIdeal.Read.val_main_cst_10, Cert.AdamWGluRefIdeal.Read.val_main_v32,
    Cert.AdamWGluRefIdeal.Read.val_main_v33]
  simp only [own, e0, e1, e2, e3, e4, Fin.sum_univ_eight, add_assoc, zero_add]

theorem same8 (c : Dev nD) (i : grid0.Coords) (a0 : Memref sig .tc .vmem S1x64x512 .f32) (h0 : a0.IsWhole)
    (a1 : Memref sig .tc .vmem S8x64x512 .bf16) (h1 : a1.IsWhole)
    (a2 : Memref sig .tc .vmem S64x512 .f32) (h2 : a2.IsWhole)
    (a3 : Memref sig .tc .vmem S64x512 .f32) (h3 : a3.IsWhole)
    (a4 : Memref sig .tc .vmem S64x512 .f32) (h4 : a4.IsWhole)
    (a5 : Memref sig .tc .vmem S64x512 .f32) (h5 : a5.IsWhole)
    (a6 : Memref sig .tc .vmem S64x512 .f32) (h6 : a6.IsWhole)
    (a7 : Memref sig .tc .vmem S64x512 .f32) (h7 : a7.IsWhole)
    (a8 : Memref sig .tc .vmem S64x512 .f32) (h8 : a8.IsWhole)
    (x0 : Vec Ideal S1x64x512 .f32) (x1 : Vec Ideal S8x64x512 .bf16) (x2 : Vec Ideal S64x512 .f32) (x3 : Vec Ideal S64x512 .f32) (x4 : Vec Ideal S64x512 .f32)
    (xt : TbBuf0 (F := Ideal) c tbM0_0)
    (X0 : Vec Ideal S8x64x512 .f32) (X1 : Vec Ideal S8x64x512 .bf16) (X2 : (⟨S1, .i32⟩ : BufTy).Contents (Elt Ideal)) (X3 X4 X5 : Vec Ideal S64x512 .f32)
    (r : Fin 64) (s : Fin 512) (R : Fin 64) (n : Fin 8) (hn : ∀ y, (X2 y).toNat = n.val)
    (e0 : x0 (ix3 0 r s) = X0 (ix3 n R s))
    (e1 : ∀ j, x1 (ix3 j r s) = X1 (ix3 j R s))
    (e2 : x2 (ix2 r s) = X3 (ix2 R s))
    (e3 : x3 (ix2 r s) = X4 (ix2 R s))
    (e4 : x4 (ix2 r s) = X5 (ix2 R s)) :
    out0_A_8 (F := Ideal) c i a0 h0 a1 h1 a2 h2 a3 h3 a4 h4 a5 h5 a6 h6 a7 h7 a8 h8 x0 x1 x2 x3 x4 xt (ix2 r s)
      = Cert.AdamWGluRefIdeal.Read.val_main_v20 (F := Ideal) X0 X1 X2 X5 (ix2 R s) := by
  have hz : (![0, 0] : Fin 2 → Nat) = fun _ => 0 := by decide
  unfold out0_A_8
  rw [View.read_writes_eq_canon _ _ _ (cover0_A_8 c i a0 h0 a1 h1 a2 h2 a3 h3 a4 h4 a5 h5 a6 h6 a7 h7 a8 h8 x0 x1 x2 x3 x4 xt)]
  unfold kernelRun0_A
  dsimp only
  sl_unfold_words
  rw [View.canon_unit_zero hz]
  simp only [View.readAt_eq_ld, h0.read_unread, h1.read_unread, h2.read_unread, h3.read_unread, h4.read_unread, View.ld_unit_zero (S := S64x512) hz]
  have own := own_at X0 X2 n hn R s
  unfold_payloads
  pointwise [Cert.AdamWGluRefIdeal.Read.val_main_v7, Cert.AdamWGluRefIdeal.Read.val_main_cst_1, Cert.AdamWGluRefIdeal.Read.val_main_v8,
    Cert.AdamWGluRefIdeal.Read.val_main_v9, Cert.AdamWGluRefIdeal.Read.val_main_cst_2, Cert.AdamWGluRefIdeal.Read.val_main_v10,
    Cert.AdamWGluRefIdeal.Read.val_main_v11, Cert.AdamWGluRefIdeal.Read.val_main_cst_3, Cert.AdamWGluRefIdeal.Read.val_main_v12,
    Cert.AdamWGluRefIdeal.Read.val_main_v13, Cert.AdamWGluRefIdeal.Read.val_main_v14, Cert.AdamWGluRefIdeal.Read.val_main_cst_4,
    Cert.AdamWGluRefIdeal.Read.val_main_v15, Cert.AdamWGluRefIdeal.Read.val_main_v16, Cert.AdamWGluRefIdeal.Read.val_main_v17,
    Cert.AdamWGluRefIdeal.Read.val_main_cst_5, Cert.AdamWGluRefIdeal.Read.val_main_v18, Cert.AdamWGluRefIdeal.Read.val_main_v19,
    Cert.AdamWGluRefIdeal.Read.val_main_v20, Cert.AdamWGluRefIdeal.Read.val_main_cst_6, Cert.AdamWGluRefIdeal.Read.val_main_v21,
    Cert.AdamWGluRefIdeal.Read.val_main_v22, Cert.AdamWGluRefIdeal.Read.val_main_cst_7, Cert.AdamWGluRefIdeal.Read.val_main_v23,
    Cert.AdamWGluRefIdeal.Read.val_main_v24, Cert.AdamWGluRefIdeal.Read.val_main_v25, Cert.AdamWGluRefIdeal.Read.val_main_cst_8,
    Cert.AdamWGluRefIdeal.Read.val_main_v26, Cert.AdamWGluRefIdeal.Read.val_main_v27, Cert.AdamWGluRefIdeal.Read.val_main_v28,
    Cert.AdamWGluRefIdeal.Read.val_main_cst_9, Cert.AdamWGluRefIdeal.Read.val_main_v29, Cert.AdamWGluRefIdeal.Read.val_main_v30,
    Cert.AdamWGluRefIdeal.Read.val_main_v31, Cert.AdamWGluRefIdeal.Read.val_main_cst_10, Cert.AdamWGluRefIdeal.Read.val_main_v32,
    Cert.AdamWGluRefIdeal.Read.val_main_v33]
  simp only [own, e0, e1, e2, e3, e4, Fin.sum_univ_eight, add_assoc, zero_add]

/-! ## What a grid point reads and writes -/

/-- The argument arrays. -/
abbrev A0 (c : Dev nD) : S8x64x512.Idx → EReal := m ((c : Thread nD τ).loc main_arg0)
abbrev A1 (c : Dev nD) : S8x64x512.Idx → EReal := m ((c : Thread nD τ).loc main_arg1)
abbrev A2 (c : Dev nD) : (⟨S1, .i32⟩ : BufTy).Contents (Elt Ideal) := m ((c : Thread nD τ).loc main_arg2)
abbrev A3 (c : Dev nD) : S64x512.Idx → EReal := m ((c : Thread nD τ).loc main_arg3)
abbrev A4 (c : Dev nD) : S64x512.Idx → EReal := m ((c : Thread nD τ).loc main_arg4)
abbrev A5 (c : Dev nD) : S64x512.Idx → EReal := m ((c : Thread nD τ).loc main_arg5)

/-- The row tile of a grid point. -/
abbrev tile (t : Fin grid0.N) : Nat := (grid0.coords t 0).val

theorem tile_lt (t : Fin grid0.N) : tile t < 1 := (grid0.coords t 0).isLt

theorem row_lt (t : Fin grid0.N) (r : Fin 64) : tile t * 64 + r.val < 64 := by have := tile_lt t; omega

theorem maps : ∀ t : Fin grid0.N,
    cc0_transform_1 (grid0.coords t) = ![0, tile t, 0]
    ∧ cc0_transform_2 (grid0.coords t) = ![tile t, 0] ∧ cc0_transform_3 (grid0.coords t) = ![tile t, 0]
    ∧ cc0_transform_4 (grid0.coords t) = ![tile t, 0] ∧ cc0_transform_5 (grid0.coords t) = ![tile t, 0]
    ∧ cc0_transform_6 (grid0.coords t) = ![tile t, 0] ∧ cc0_transform_7 (grid0.coords t) = ![tile t, 0]
    ∧ cc0_transform_8 (grid0.coords t) = ![tile t, 0] := by decide +kernel

theorem tile_onto : ∀ a : Fin 1, ∃ t : Fin grid0.N, tile t = a.val := by decide +kernel

theorem flushes5 : ∀ t : Fin grid0.N, Pipeline.Window.flushOf grid0 true cc0_transform_5 t = true := by decide +kernel
theorem flushes6 : ∀ t : Fin grid0.N, Pipeline.Window.flushOf grid0 true cc0_transform_6 t = true := by decide +kernel
theorem flushes7 : ∀ t : Fin grid0.N, Pipeline.Window.flushOf grid0 true cc0_transform_7 t = true := by decide +kernel
theorem flushes8 : ∀ t : Fin grid0.N, Pipeline.Window.flushOf grid0 true cc0_transform_8 t = true := by decide +kernel

variable (hO : Ok m)

theorem in0_at (c : Dev nD) (t : Fin grid0.N) (n : Fin 8) (hn : ∀ y, (A2 m c y).toNat = n.val) (r : Fin 64) (s : Fin 512) :
    iblk m hO c 0 t (ix3 0 r s) = A0 m c (ix3 n ⟨tile t * 64 + r.val, row_lt t r⟩ s) := by
  obtain rfl : c = 0 := Subsingleton.elim _ _
  show m (((0 : Dev nD) : Thread nD τ).loc main_arg0) ((((cfgM m hO).win 0).rect t).emb (ix3 0 r s)) = _
  refine congrArg _ (DeviceWord.idx_ext₃ ?_ ?_ ?_)
  · refine (((cfgM m hO).win 0).rect_emb_val t (ix3 0 r s : S1x64x512.Idx) (0 : Fin 3)).trans ?_
    show (BitVec.toNat _) * 1 + 0 = n.val
    rw [Nat.mul_one, Nat.add_zero]
    exact hn _
  · refine (((cfgM m hO).win 0).rect_emb_val t (ix3 0 r s : S1x64x512.Idx) (1 : Fin 3)).trans ?_
    show (BitVec.ofNat 32 (tile t)).toNat * 64 + r.val = tile t * 64 + r.val
    have := tile_lt t
    rw [BitVec.toNat_ofNat, Nat.mod_eq_of_lt (by omega)]
  · refine (((cfgM m hO).win 0).rect_emb_val t (ix3 0 r s : S1x64x512.Idx) (2 : Fin 3)).trans ?_
    show 0 * 512 + s.val = s.val
    omega

theorem in1_at (c : Dev nD) (t : Fin grid0.N) (j : Fin 8) (r : Fin 64) (s : Fin 512) :
    iblk m hO c 1 t (ix3 j r s) = A1 m c (ix3 j ⟨tile t * 64 + r.val, row_lt t r⟩ s) := by
  have e : ((cfgM m hO).win 1).index t = ![0, tile t, 0] := (maps t).1
  show m ((c : Thread nD τ).loc main_arg1) ((((cfgM m hO).win 1).rect t).emb (ix3 j r s)) = _
  exact congrArg _ (DeviceWord.idx_ext₃
    ((((cfgM m hO).win 1).rect_emb_val t (ix3 j r s : S8x64x512.Idx) (0 : Fin 3)).trans (by rw [e]; show 0 * 8 + j.val = j.val; omega))
    ((((cfgM m hO).win 1).rect_emb_val t (ix3 j r s : S8x64x512.Idx) (1 : Fin 3)).trans (by rw [e]; rfl))
    ((((cfgM m hO).win 1).rect_emb_val t (ix3 j r s : S8x64x512.Idx) (2 : Fin 3)).trans (by rw [e]; show 0 * 512 + s.val = s.val; omega)))

theorem in2_at (c : Dev nD) (t : Fin grid0.N) (r : Fin 64) (s : Fin 512) :
    iblk m hO c 2 t (ix2 r s) = A3 m c (ix2 ⟨tile t * 64 + r.val, row_lt t r⟩ s) := by
  have e : ((cfgM m hO).win 2).index t = ![tile t, 0] := (maps t).2.1
  show m ((c : Thread nD τ).loc main_arg3) ((((cfgM m hO).win 2).rect t).emb (ix2 r s)) = _
  exact congrArg _ (Shape.idx_ext₂
    ((((cfgM m hO).win 2).rect_emb_val t (ix2 r s : S64x512.Idx) (0 : Fin 2)).trans (by rw [e]; rfl))
    ((((cfgM m hO).win 2).rect_emb_val t (ix2 r s : S64x512.Idx) (1 : Fin 2)).trans (by rw [e]; show 0 * 512 + s.val = s.val; omega)))

theorem in3_at (c : Dev nD) (t : Fin grid0.N) (r : Fin 64) (s : Fin 512) :
    iblk m hO c 3 t (ix2 r s) = A4 m c (ix2 ⟨tile t * 64 + r.val, row_lt t r⟩ s) := by
  have e : ((cfgM m hO).win 3).index t = ![tile t, 0] := (maps t).2.2.1
  show m ((c : Thread nD τ).loc main_arg4) ((((cfgM m hO).win 3).rect t).emb (ix2 r s)) = _
  exact congrArg _ (Shape.idx_ext₂
    ((((cfgM m hO).win 3).rect_emb_val t (ix2 r s : S64x512.Idx) (0 : Fin 2)).trans (by rw [e]; rfl))
    ((((cfgM m hO).win 3).rect_emb_val t (ix2 r s : S64x512.Idx) (1 : Fin 2)).trans (by rw [e]; show 0 * 512 + s.val = s.val; omega)))

theorem in4_at (c : Dev nD) (t : Fin grid0.N) (r : Fin 64) (s : Fin 512) :
    iblk m hO c 4 t (ix2 r s) = A5 m c (ix2 ⟨tile t * 64 + r.val, row_lt t r⟩ s) := by
  have e : ((cfgM m hO).win 4).index t = ![tile t, 0] := (maps t).2.2.2.1
  show m ((c : Thread nD τ).loc main_arg5) ((((cfgM m hO).win 4).rect t).emb (ix2 r s)) = _
  exact congrArg _ (Shape.idx_ext₂
    ((((cfgM m hO).win 4).rect_emb_val t (ix2 r s : S64x512.Idx) (0 : Fin 2)).trans (by rw [e]; rfl))
    ((((cfgM m hO).win 4).rect_emb_val t (ix2 r s : S64x512.Idx) (1 : Fin 2)).trans (by rw [e]; show 0 * 512 + s.val = s.val; omega)))

/-- The gradient, as a function of the argument arrays: the reference's own term. -/
def G5 (c : Dev nD) : S64x512.Idx → EReal :=
  Cert.AdamWGluRefIdeal.Read.val_main_v9 (F := Ideal) (A0 m c) (A1 m c) (A2 m c)

theorem place5 (t : Fin grid0.N) (r : Fin 64) (s : Fin 512) :
    ((((cfgM m hO).win 5).rect t).emb (ix2 r s : S64x512.Idx) : S64x512.Idx) = ix2 ⟨tile t * 64 + r.val, row_lt t r⟩ s := by
  have e : ((cfgM m hO).win 5).index t = ![tile t, 0] := (maps t).2.2.2.2.1
  exact Shape.idx_ext₂
    ((((cfgM m hO).win 5).rect_emb_val t (ix2 r s : S64x512.Idx) (0 : Fin 2)).trans (by rw [e]; rfl))
    ((((cfgM m hO).win 5).rect_emb_val t (ix2 r s : S64x512.Idx) (1 : Fin 2)).trans (by rw [e]; show 0 * 512 + s.val = s.val; omega))

theorem out5_at (c : Dev nD) (n : Fin 8) (hn : ∀ y, (A2 m c y).toNat = n.val) (t : Fin grid0.N) (r : Fin 64) (s : Fin 512) :
    (outsAt0 m hO c t).1 (ix2 r s) = G5 m c (ix2 ⟨tile t * 64 + r.val, row_lt t r⟩ s) := by
  unfold outsAt0 G5
  dsimp only
  exact same5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (A0 m c) (A1 m c) (A2 m c) (A3 m c) (A4 m c) (A5 m c) r s _
    n hn (in0_at m hO c t n hn r s) (fun j => in1_at m hO c t j r s) (in2_at m hO c t r s) (in3_at m hO c t r s) (in4_at m hO c t r s)

theorem flushed5_eq (c : Dev nD) (n : Fin 8) (hn : ∀ y, (A2 m c y).toNat = n.val) (t : Fin grid0.N) :
    (dats m hO 0 c).flushed 5 t = (((cfgM m hO).win 5).blk t).view.read (Elt Ideal) (G5 m c) := by
  show ((cfgM m hO).win 5).cut (grid0.coords t) ((dats m hO 0 c).after 5 t) = _
  rw [after0_5]
  refine funext fun (y : S64x512.Idx) => ?_
  obtain ⟨r, s, rfl⟩ : ∃ (r : Fin 64) (s : Fin 512), y = ix2 r s := ⟨y 0, y 1, eq_ix2 y⟩
  exact (out5_at m hO c n hn t r s).trans (congrArg (G5 m c) (place5 m hO t r s).symm)

theorem covered5 (c : Dev nD) (i : S64x512.Idx) :
    ∃ t : Fin grid0.N, ((cfgM m hO).win 5).flush t = true ∧ i ∈ (((cfgM m hO).win 5).blk t).view.set := by
  have h0 : (i 0).val < 64 := (i 0).isLt
  obtain ⟨t, e0⟩ := tile_onto ⟨(i 0).val / 64, by omega⟩
  refine ⟨t, flushes5 t, ?_⟩
  have k : (((cfgM m hO).win 5).blk t).view.emb (ix2 (⟨(i 0).val % 64, by omega⟩ : Fin 64) (i 1) : S64x512.Idx) = i :=
    (place5 m hO t _ _).trans (Shape.idx_ext₂ (by show tile t * 64 + (i 0).val % 64 = (i 0).val; rw [e0]; dsimp only; omega) rfl)
  exact k ▸ View.emb_mem_set _ _

theorem final5 (c : Dev nD) (n : Fin 8) (hn : ∀ y, (A2 m c y).toNat = n.val) :
    (dats m hO 0 c).arrAt 5 (cfgM m hO).N = G5 m c :=
  (dats m hO 0 c).arrAt_eq_of_cover 5 (G5 m c) (fun t _ => flushed5_eq m hO c n hn t) (covered5 m hO c)

/-- The weight's step, as a function of the argument arrays: the reference's own term. -/
def G6 (c : Dev nD) : S64x512.Idx → EReal :=
  Cert.AdamWGluRefIdeal.Read.val_main_v33 (F := Ideal) (A0 m c) (A1 m c) (A2 m c) (A3 m c) (A4 m c) (A5 m c)

theorem place6 (t : Fin grid0.N) (r : Fin 64) (s : Fin 512) :
    ((((cfgM m hO).win 6).rect t).emb (ix2 r s : S64x512.Idx) : S64x512.Idx) = ix2 ⟨tile t * 64 + r.val, row_lt t r⟩ s := by
  have e : ((cfgM m hO).win 6).index t = ![tile t, 0] := (maps t).2.2.2.2.2.1
  exact Shape.idx_ext₂
    ((((cfgM m hO).win 6).rect_emb_val t (ix2 r s : S64x512.Idx) (0 : Fin 2)).trans (by rw [e]; rfl))
    ((((cfgM m hO).win 6).rect_emb_val t (ix2 r s : S64x512.Idx) (1 : Fin 2)).trans (by rw [e]; show 0 * 512 + s.val = s.val; omega))

theorem out6_at (c : Dev nD) (n : Fin 8) (hn : ∀ y, (A2 m c y).toNat = n.val) (t : Fin grid0.N) (r : Fin 64) (s : Fin 512) :
    (outsAt0 m hO c t).2.1 (ix2 r s) = G6 m c (ix2 ⟨tile t * 64 + r.val, row_lt t r⟩ s) := by
  unfold outsAt0 G6
  dsimp only
  exact same6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (A0 m c) (A1 m c) (A2 m c) (A3 m c) (A4 m c) (A5 m c) r s _
    n hn (in0_at m hO c t n hn r s) (fun j => in1_at m hO c t j r s) (in2_at m hO c t r s) (in3_at m hO c t r s) (in4_at m hO c t r s)

theorem flushed6_eq (c : Dev nD) (n : Fin 8) (hn : ∀ y, (A2 m c y).toNat = n.val) (t : Fin grid0.N) :
    (dats m hO 0 c).flushed 6 t = (((cfgM m hO).win 6).blk t).view.read (Elt Ideal) (G6 m c) := by
  show ((cfgM m hO).win 6).cut (grid0.coords t) ((dats m hO 0 c).after 6 t) = _
  rw [after0_6]
  refine funext fun (y : S64x512.Idx) => ?_
  obtain ⟨r, s, rfl⟩ : ∃ (r : Fin 64) (s : Fin 512), y = ix2 r s := ⟨y 0, y 1, eq_ix2 y⟩
  exact (out6_at m hO c n hn t r s).trans (congrArg (G6 m c) (place6 m hO t r s).symm)

theorem covered6 (c : Dev nD) (i : S64x512.Idx) :
    ∃ t : Fin grid0.N, ((cfgM m hO).win 6).flush t = true ∧ i ∈ (((cfgM m hO).win 6).blk t).view.set := by
  have h0 : (i 0).val < 64 := (i 0).isLt
  obtain ⟨t, e0⟩ := tile_onto ⟨(i 0).val / 64, by omega⟩
  refine ⟨t, flushes6 t, ?_⟩
  have k : (((cfgM m hO).win 6).blk t).view.emb (ix2 (⟨(i 0).val % 64, by omega⟩ : Fin 64) (i 1) : S64x512.Idx) = i :=
    (place6 m hO t _ _).trans (Shape.idx_ext₂ (by show tile t * 64 + (i 0).val % 64 = (i 0).val; rw [e0]; dsimp only; omega) rfl)
  exact k ▸ View.emb_mem_set _ _

theorem final6 (c : Dev nD) (n : Fin 8) (hn : ∀ y, (A2 m c y).toNat = n.val) :
    (dats m hO 0 c).arrAt 6 (cfgM m hO).N = G6 m c :=
  (dats m hO 0 c).arrAt_eq_of_cover 6 (G6 m c) (fun t _ => flushed6_eq m hO c n hn t) (covered6 m hO c)

/-- The first moment, as a function of the argument arrays: the reference's own term. -/
def G7 (c : Dev nD) : S64x512.Idx → EReal :=
  Cert.AdamWGluRefIdeal.Read.val_main_v14 (F := Ideal) (A0 m c) (A1 m c) (A2 m c) (A4 m c)

theorem place7 (t : Fin grid0.N) (r : Fin 64) (s : Fin 512) :
    ((((cfgM m hO).win 7).rect t).emb (ix2 r s : S64x512.Idx) : S64x512.Idx) = ix2 ⟨tile t * 64 + r.val, row_lt t r⟩ s := by
  have e : ((cfgM m hO).win 7).index t = ![tile t, 0] := (maps t).2.2.2.2.2.2.1
  exact Shape.idx_ext₂
    ((((cfgM m hO).win 7).rect_emb_val t (ix2 r s : S64x512.Idx) (0 : Fin 2)).trans (by rw [e]; rfl))
    ((((cfgM m hO).win 7).rect_emb_val t (ix2 r s : S64x512.Idx) (1 : Fin 2)).trans (by rw [e]; show 0 * 512 + s.val = s.val; omega))

theorem out7_at (c : Dev nD) (n : Fin 8) (hn : ∀ y, (A2 m c y).toNat = n.val) (t : Fin grid0.N) (r : Fin 64) (s : Fin 512) :
    (outsAt0 m hO c t).2.2.1 (ix2 r s) = G7 m c (ix2 ⟨tile t * 64 + r.val, row_lt t r⟩ s) := by
  unfold outsAt0 G7
  dsimp only
  exact same7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (A0 m c) (A1 m c) (A2 m c) (A3 m c) (A4 m c) (A5 m c) r s _
    n hn (in0_at m hO c t n hn r s) (fun j => in1_at m hO c t j r s) (in2_at m hO c t r s) (in3_at m hO c t r s) (in4_at m hO c t r s)

theorem flushed7_eq (c : Dev nD) (n : Fin 8) (hn : ∀ y, (A2 m c y).toNat = n.val) (t : Fin grid0.N) :
    (dats m hO 0 c).flushed 7 t = (((cfgM m hO).win 7).blk t).view.read (Elt Ideal) (G7 m c) := by
  show ((cfgM m hO).win 7).cut (grid0.coords t) ((dats m hO 0 c).after 7 t) = _
  rw [after0_7]
  refine funext fun (y : S64x512.Idx) => ?_
  obtain ⟨r, s, rfl⟩ : ∃ (r : Fin 64) (s : Fin 512), y = ix2 r s := ⟨y 0, y 1, eq_ix2 y⟩
  exact (out7_at m hO c n hn t r s).trans (congrArg (G7 m c) (place7 m hO t r s).symm)

theorem covered7 (c : Dev nD) (i : S64x512.Idx) :
    ∃ t : Fin grid0.N, ((cfgM m hO).win 7).flush t = true ∧ i ∈ (((cfgM m hO).win 7).blk t).view.set := by
  have h0 : (i 0).val < 64 := (i 0).isLt
  obtain ⟨t, e0⟩ := tile_onto ⟨(i 0).val / 64, by omega⟩
  refine ⟨t, flushes7 t, ?_⟩
  have k : (((cfgM m hO).win 7).blk t).view.emb (ix2 (⟨(i 0).val % 64, by omega⟩ : Fin 64) (i 1) : S64x512.Idx) = i :=
    (place7 m hO t _ _).trans (Shape.idx_ext₂ (by show tile t * 64 + (i 0).val % 64 = (i 0).val; rw [e0]; dsimp only; omega) rfl)
  exact k ▸ View.emb_mem_set _ _

theorem final7 (c : Dev nD) (n : Fin 8) (hn : ∀ y, (A2 m c y).toNat = n.val) :
    (dats m hO 0 c).arrAt 7 (cfgM m hO).N = G7 m c :=
  (dats m hO 0 c).arrAt_eq_of_cover 7 (G7 m c) (fun t _ => flushed7_eq m hO c n hn t) (covered7 m hO c)

/-- The second moment, as a function of the argument arrays: the reference's own term. -/
def G8 (c : Dev nD) : S64x512.Idx → EReal :=
  Cert.AdamWGluRefIdeal.Read.val_main_v20 (F := Ideal) (A0 m c) (A1 m c) (A2 m c) (A5 m c)

theorem place8 (t : Fin grid0.N) (r : Fin 64) (s : Fin 512) :
    ((((cfgM m hO).win 8).rect t).emb (ix2 r s : S64x512.Idx) : S64x512.Idx) = ix2 ⟨tile t * 64 + r.val, row_lt t r⟩ s := by
  have e : ((cfgM m hO).win 8).index t = ![tile t, 0] := (maps t).2.2.2.2.2.2.2
  exact Shape.idx_ext₂
    ((((cfgM m hO).win 8).rect_emb_val t (ix2 r s : S64x512.Idx) (0 : Fin 2)).trans (by rw [e]; rfl))
    ((((cfgM m hO).win 8).rect_emb_val t (ix2 r s : S64x512.Idx) (1 : Fin 2)).trans (by rw [e]; show 0 * 512 + s.val = s.val; omega))

theorem out8_at (c : Dev nD) (n : Fin 8) (hn : ∀ y, (A2 m c y).toNat = n.val) (t : Fin grid0.N) (r : Fin 64) (s : Fin 512) :
    (outsAt0 m hO c t).2.2.2 (ix2 r s) = G8 m c (ix2 ⟨tile t * 64 + r.val, row_lt t r⟩ s) := by
  unfold outsAt0 G8
  dsimp only
  exact same8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (A0 m c) (A1 m c) (A2 m c) (A3 m c) (A4 m c) (A5 m c) r s _
    n hn (in0_at m hO c t n hn r s) (fun j => in1_at m hO c t j r s) (in2_at m hO c t r s) (in3_at m hO c t r s) (in4_at m hO c t r s)

theorem flushed8_eq (c : Dev nD) (n : Fin 8) (hn : ∀ y, (A2 m c y).toNat = n.val) (t : Fin grid0.N) :
    (dats m hO 0 c).flushed 8 t = (((cfgM m hO).win 8).blk t).view.read (Elt Ideal) (G8 m c) := by
  show ((cfgM m hO).win 8).cut (grid0.coords t) ((dats m hO 0 c).after 8 t) = _
  rw [after0_8]
  refine funext fun (y : S64x512.Idx) => ?_
  obtain ⟨r, s, rfl⟩ : ∃ (r : Fin 64) (s : Fin 512), y = ix2 r s := ⟨y 0, y 1, eq_ix2 y⟩
  exact (out8_at m hO c n hn t r s).trans (congrArg (G8 m c) (place8 m hO t r s).symm)

theorem covered8 (c : Dev nD) (i : S64x512.Idx) :
    ∃ t : Fin grid0.N, ((cfgM m hO).win 8).flush t = true ∧ i ∈ (((cfgM m hO).win 8).blk t).view.set := by
  have h0 : (i 0).val < 64 := (i 0).isLt
  obtain ⟨t, e0⟩ := tile_onto ⟨(i 0).val / 64, by omega⟩
  refine ⟨t, flushes8 t, ?_⟩
  have k : (((cfgM m hO).win 8).blk t).view.emb (ix2 (⟨(i 0).val % 64, by omega⟩ : Fin 64) (i 1) : S64x512.Idx) = i :=
    (place8 m hO t _ _).trans (Shape.idx_ext₂ (by show tile t * 64 + (i 0).val % 64 = (i 0).val; rw [e0]; dsimp only; omega) rfl)
  exact k ▸ View.emb_mem_set _ _

theorem final8 (c : Dev nD) (n : Fin 8) (hn : ∀ y, (A2 m c y).toNat = n.val) :
    (dats m hO 0 c).arrAt 8 (cfgM m hO).N = G8 m c :=
  (dats m hO 0 c).arrAt_eq_of_cover 8 (G8 m c) (fun t _ => flushed8_eq m hO c n hn t) (covered8 m hO c)

/-- The kernel and the reference leave equal results. -/
theorem algebraic : Cert.algebraic_AdamWGluIdeal_AdamWGluRefIdeal := fun m g m' g' hpre hagree => by
  have hO := ideal_ok m hpre
  have hw : ∀ (c : Dev nD) (y : S1.Idx), (A2 m c y).toNat = (⟨(A2 m c (ix1 0)).toNat, word_lt (hpre c) _⟩ : Fin 8).val :=
    fun c y => congrArg (fun z : S1.Idx => (A2 m c z).toNat) (DeviceWord.one_index _ _)
  exact ⟨fun c => G5 m c, fun c => G6 m c, fun c => G7 m c, fun c => G8 m c,
    (θ_run _ _ _).mono (fun r h c =>
      ⟨((h.1 c).1 5).trans (final5 m hO c _ (hw c)), ((h.1 c).1 6).trans (final6 m hO c _ (hw c)),
        ((h.1 c).1 7).trans (final7 m hO c _ (hw c)), ((h.1 c).1 8).trans (final8 m hO c _ (hw c)), h.2 c⟩)
      (θ_run_and (run_main m g hO) (unchanged m g hO)),
    (θ_run _ _ _).mono (fun r h c => ⟨(h c).1.trans (by
        rw [(hagree c).1, (hagree c).2.1, (hagree c).2.2.1]; rfl), (h c).2.1.trans (by
        rw [(hagree c).1, (hagree c).2.1, (hagree c).2.2.1, (hagree c).2.2.2.1, (hagree c).2.2.2.2.1, (hagree c).2.2.2.2.2]; rfl), (h c).2.2.1.trans (by
        rw [(hagree c).1, (hagree c).2.1, (hagree c).2.2.1, (hagree c).2.2.2.2.1]; rfl), (h c).2.2.2.1.trans (by
        rw [(hagree c).1, (hagree c).2.1, (hagree c).2.2.1, (hagree c).2.2.2.2.2]; rfl), (h c).2.2.2.2⟩)
      (Cert.AdamWGluRefIdeal.Value.run (F := Ideal) m' g')⟩

end Cert.Hand.AdamWGlu

end
-- ==== Proof.AdamWOut.lean ====
/-
  The optimiser's step on `w_out`: the gradient is the device's own block of its product plus the eight blocks it holds
  of what was sent. The kernel adds them one by one, a tile of rows at a time; the reference takes the sum of the eight.
  The own block is the one whose number the device's word names; the precondition says that it names one of the eight.
-/
module

public import proofs.«01_k».proof.Proof.Gen.AdamWOut.Frame
public import proofs.«01_k».proof.Proof.Gen.AdamWOutIdeal.Frame
public import proofs.«01_k».proof.Proof.Gen.AdamWOutRefIdeal.Run
public import proofs.«01_k».proof.Proof.Gen.AdamWOutRefIdeal.Read
public import proofs.«01_k».proof.Proof.Gen.Pre_w_out_device
public import proofs.«01_k».proof.Defs
public import proofs.«01_k».proof.Proof.DeviceWord
public import Idealize.ShloMosaic.Lib.Pointwise
public import Idealize.ShloMosaic.Lib.Tactic
public import Idealize.ShloMosaic.Lib.Pipeline.Value

@[expose] public section

set_option maxRecDepth 16384

noncomputable section

namespace Cert.Hand.AdamWOut

open Cert.AdamWOutIdeal Cert.AdamWOutIdeal.Gen Idealize.ShloMosaic Idealize.ShloMosaic.TcCoe Idealize.SL.Sem
open Idealize.ShloMosaic.Pipeline (Dat)
open scoped BigOperators

/-! ## What the precondition says -/

/-- The device's word names one of the eight. -/
theorem word_lt {F : FTy → Type} [FloatOps F] {x0 : FVec F Cert.Pre_w_out_device.S8x128x1024 .f32} {x1 : FVec F Cert.Pre_w_out_device.S8x128x1024 .bf16}
    {x2 : IVec Cert.Pre_w_out_device.S1 32} {x3 x4 x5 : FVec F Cert.Pre_w_out_device.S128x1024 .f32}
    (h : Cert.Pre_w_out_device.fn x0 x1 x2 x3 x4 x5 = fun _ => 1#1) (y : Cert.Pre_w_out_device.S1.Idx) : (x2 y).toNat < 8 := by
  have e := congrFun h (fun a => a.elim0)
  simp only [Cert.Pre_w_out_device.fn, andi, cmpi, constantI, shapeCast] at e
  exact DeviceWord.one_index y _ ▸ DeviceWord.lt_eight e

/-- So the kernel's block of the own product lies inside the array. -/
theorem bits_ok (m : (ℓ : Loc Cert.AdamWOut.nD Cert.AdamWOut.τ Cert.AdamWOut.sig) → Buf (Elt Bits) ℓ) (h : Cert.Pre_AdamWOut m) :
    Cert.AdamWOut.Gen.Ok m := fun i =>
  ⟨fun a => by
    have k := word_lt (h 0)
    have hi : (i 0).val < 1 := (i 0).isLt
    match a with
    | ⟨0, _⟩ => exact DeviceWord.block_le (k _)
    | ⟨1, _⟩ => show ((BitVec.ofNat 32 (i 0).val).toNat + 1) * 128 ≤ 128
                rw [BitVec.toNat_ofNat]; omega
    | ⟨2, _⟩ => show (0 + 1) * 1024 ≤ 1024
                omega, .inl rfl⟩

variable (m : (ℓ : Loc nD τ sig) → Buf (Elt Ideal) ℓ)

theorem ideal_ok (h : Cert.Pre_AdamWOutIdeal m) : Ok m := fun i =>
  ⟨fun a => by
    have k := word_lt (h 0)
    have hi : (i 0).val < 1 := (i 0).isLt
    match a with
    | ⟨0, _⟩ => exact DeviceWord.block_le (k _)
    | ⟨1, _⟩ => show ((BitVec.ofNat 32 (i 0).val).toNat + 1) * 128 ≤ 128
                rw [BitVec.toNat_ofNat]; omega
    | ⟨2, _⟩ => show (0 + 1) * 1024 ≤ 1024
                omega, .inl rfl⟩

/-! ## One element: the kernel's sum and the reference's -/

/-- The own block as the reference reads it: the one block whose number the word is. -/
theorem own_at (X0 : Vec Ideal S8x128x1024 .f32) (X2 : (⟨S1, .i32⟩ : BufTy).Contents (Elt Ideal)) (n : Fin 8)
    (hn : ∀ y, (X2 y).toNat = n.val) (R : Fin 128) (s : Fin 1024) :
    Cert.AdamWOutRefIdeal.Read.val_main_v6 (F := Ideal) X0 X2 (ix2 R s) = X0 (ix3 n R s) := by
  pointwise [Cert.AdamWOutRefIdeal.Read.val_main_v0, Cert.AdamWOutRefIdeal.Read.val_main_v1, Cert.AdamWOutRefIdeal.Read.val_main_v2,
    Cert.AdamWOutRefIdeal.Read.val_main_v3, Cert.AdamWOutRefIdeal.Read.val_main_v4, Cert.AdamWOutRefIdeal.Read.val_main_cst,
    Cert.AdamWOutRefIdeal.Read.val_main_call0_v0, Cert.AdamWOutRefIdeal.Read.val_main_call0_v1, Cert.AdamWOutRefIdeal.Read.val_main_call0_v2,
    Cert.AdamWOutRefIdeal.Read.val_main_v5, Cert.AdamWOutRefIdeal.Read.val_main_cst_0, Cert.AdamWOutRefIdeal.Read.val_main_v6]
  have z : (id (constant (F := Ideal) Cert.AdamWOutRefIdeal.S_ .f32 0#32) : Cert.AdamWOutRefIdeal.S_.Idx → EReal) ix0 = 0 := by
    show (constant (F := Ideal) Cert.AdamWOutRefIdeal.S_ .f32 0#32 : Cert.AdamWOutRefIdeal.S_.Idx → EReal) ix0 = 0
    pointwise
  simp only [z]
  exact DeviceWord.pick n (hn _) fun j => X0 (ix3 j R s)

theorem same5 (c : Dev nD) (i : grid0.Coords) (a0 : Memref sig .tc .vmem S1x128x1024 .f32) (h0 : a0.IsWhole)
    (a1 : Memref sig .tc .vmem S8x128x1024 .bf16) (h1 : a1.IsWhole)
    (a2 : Memref sig .tc .vmem S128x1024 .f32) (h2 : a2.IsWhole)
    (a3 : Memref sig .tc .vmem S128x1024 .f32) (h3 : a3.IsWhole)
    (a4 : Memref sig .tc .vmem S128x1024 .f32) (h4 : a4.IsWhole)
    (a5 : Memref sig .tc .vmem S128x1024 .f32) (h5 : a5.IsWhole)
    (a6 : Memref sig .tc .vmem S128x1024 .f32) (h6 : a6.IsWhole)
    (a7 : Memref sig .tc .vmem S128x1024 .f32) (h7 : a7.IsWhole)
    (a8 : Memref sig .tc .vmem S128x1024 .f32) (h8 : a8.IsWhole)
    (x0 : Vec Ideal S1x128x1024 .f32) (x1 : Vec Ideal S8x128x1024 .bf16) (x2 : Vec Ideal S128x1024 .f32) (x3 : Vec Ideal S128x1024 .f32) (x4 : Vec Ideal S128x1024 .f32)
    (xt : TbBuf0 (F := Ideal) c tbM0_0)
    (X0 : Vec Ideal S8x128x1024 .f32) (X1 : Vec Ideal S8x128x1024 .bf16) (X2 : (⟨S1, .i32⟩ : BufTy).Contents (Elt Ideal)) (X3 X4 X5 : Vec Ideal S128x1024 .f32)
    (r : Fin 128) (s : Fin 1024) (R : Fin 128) (n : Fin 8) (hn : ∀ y, (X2 y).toNat = n.val)
    (e0 : x0 (ix3 0 r s) = X0 (ix3 n R s))
    (e1 : ∀ j, x1 (ix3 j r s) = X1 (ix3 j R s))
    (e2 : x2 (ix2 r s) = X3 (ix2 R s))
    (e3 : x3 (ix2 r s) = X4 (ix2 R s))
    (e4 : x4 (ix2 r s) = X5 (ix2 R s)) :
    out0_A_5 (F := Ideal) c i a0 h0 a1 h1 a2 h2 a3 h3 a4 h4 a5 h5 a6 h6 a7 h7 a8 h8 x0 x1 x2 x3 x4 xt (ix2 r s)
      = Cert.AdamWOutRefIdeal.Read.val_main_v9 (F := Ideal) X0 X1 X2 (ix2 R s) := by
  have hz : (![0, 0] : Fin 2 → Nat) = fun _ => 0 := by decide
  unfold out0_A_5
  rw [View.read_writes_eq_canon _ _ _ (cover0_A_5 c i a0 h0 a1 h1 a2 h2 a3 h3 a4 h4 a5 h5 a6 h6 a7 h7 a8 h8 x0 x1 x2 x3 x4 xt)]
  unfold kernelRun0_A
  dsimp only
  sl_unfold_words
  rw [View.canon_unit_zero hz]
  simp only [View.readAt_eq_ld, h0.read_unread, h1.read_unread, h2.read_unread, h3.read_unread, h4.read_unread, View.ld_unit_zero (S := S128x1024) hz]
  have own := own_at X0 X2 n hn R s
  unfold_payloads
  pointwise [Cert.AdamWOutRefIdeal.Read.val_main_v7, Cert.AdamWOutRefIdeal.Read.val_main_cst_1, Cert.AdamWOutRefIdeal.Read.val_main_v8,
    Cert.AdamWOutRefIdeal.Read.val_main_v9, Cert.AdamWOutRefIdeal.Read.val_main_cst_2, Cert.AdamWOutRefIdeal.Read.val_main_v10,
    Cert.AdamWOutRefIdeal.Read.val_main_v11, Cert.AdamWOutRefIdeal.Read.val_main_cst_3, Cert.AdamWOutRefIdeal.Read.val_main_v12,
    Cert.AdamWOutRefIdeal.Read.val_main_v13, Cert.AdamWOutRefIdeal.Read.val_main_v14, Cert.AdamWOutRefIdeal.Read.val_main_cst_4,
    Cert.AdamWOutRefIdeal.Read.val_main_v15, Cert.AdamWOutRefIdeal.Read.val_main_v16, Cert.AdamWOutRefIdeal.Read.val_main_v17,
    Cert.AdamWOutRefIdeal.Read.val_main_cst_5, Cert.AdamWOutRefIdeal.Read.val_main_v18, Cert.AdamWOutRefIdeal.Read.val_main_v19,
    Cert.AdamWOutRefIdeal.Read.val_main_v20, Cert.AdamWOutRefIdeal.Read.val_main_cst_6, Cert.AdamWOutRefIdeal.Read.val_main_v21,
    Cert.AdamWOutRefIdeal.Read.val_main_v22, Cert.AdamWOutRefIdeal.Read.val_main_cst_7, Cert.AdamWOutRefIdeal.Read.val_main_v23,
    Cert.AdamWOutRefIdeal.Read.val_main_v24, Cert.AdamWOutRefIdeal.Read.val_main_v25, Cert.AdamWOutRefIdeal.Read.val_main_cst_8,
    Cert.AdamWOutRefIdeal.Read.val_main_v26, Cert.AdamWOutRefIdeal.Read.val_main_v27, Cert.AdamWOutRefIdeal.Read.val_main_v28,
    Cert.AdamWOutRefIdeal.Read.val_main_cst_9, Cert.AdamWOutRefIdeal.Read.val_main_v29, Cert.AdamWOutRefIdeal.Read.val_main_v30,
    Cert.AdamWOutRefIdeal.Read.val_main_v31, Cert.AdamWOutRefIdeal.Read.val_main_cst_10, Cert.AdamWOutRefIdeal.Read.val_main_v32,
    Cert.AdamWOutRefIdeal.Read.val_main_v33]
  simp only [own, e0, e1, e2, e3, e4, Fin.sum_univ_eight, add_assoc, zero_add]

theorem same6 (c : Dev nD) (i : grid0.Coords) (a0 : Memref sig .tc .vmem S1x128x1024 .f32) (h0 : a0.IsWhole)
    (a1 : Memref sig .tc .vmem S8x128x1024 .bf16) (h1 : a1.IsWhole)
    (a2 : Memref sig .tc .vmem S128x1024 .f32) (h2 : a2.IsWhole)
    (a3 : Memref sig .tc .vmem S128x1024 .f32) (h3 : a3.IsWhole)
    (a4 : Memref sig .tc .vmem S128x1024 .f32) (h4 : a4.IsWhole)
    (a5 : Memref sig .tc .vmem S128x1024 .f32) (h5 : a5.IsWhole)
    (a6 : Memref sig .tc .vmem S128x1024 .f32) (h6 : a6.IsWhole)
    (a7 : Memref sig .tc .vmem S128x1024 .f32) (h7 : a7.IsWhole)
    (a8 : Memref sig .tc .vmem S128x1024 .f32) (h8 : a8.IsWhole)
    (x0 : Vec Ideal S1x128x1024 .f32) (x1 : Vec Ideal S8x128x1024 .bf16) (x2 : Vec Ideal S128x1024 .f32) (x3 : Vec Ideal S128x1024 .f32) (x4 : Vec Ideal S128x1024 .f32)
    (xt : TbBuf0 (F := Ideal) c tbM0_0)
    (X0 : Vec Ideal S8x128x1024 .f32) (X1 : Vec Ideal S8x128x1024 .bf16) (X2 : (⟨S1, .i32⟩ : BufTy).Contents (Elt Ideal)) (X3 X4 X5 : Vec Ideal S128x1024 .f32)
    (r : Fin 128) (s : Fin 1024) (R : Fin 128) (n : Fin 8) (hn : ∀ y, (X2 y).toNat = n.val)
    (e0 : x0 (ix3 0 r s) = X0 (ix3 n R s))
    (e1 : ∀ j, x1 (ix3 j r s) = X1 (ix3 j R s))
    (e2 : x2 (ix2 r s) = X3 (ix2 R s))
    (e3 : x3 (ix2 r s) = X4 (ix2 R s))
    (e4 : x4 (ix2 r s) = X5 (ix2 R s)) :
    out0_A_6 (F := Ideal) c i a0 h0 a1 h1 a2 h2 a3 h3 a4 h4 a5 h5 a6 h6 a7 h7 a8 h8 x0 x1 x2 x3 x4 xt (ix2 r s)
      = Cert.AdamWOutRefIdeal.Read.val_main_v33 (F := Ideal) X0 X1 X2 X3 X4 X5 (ix2 R s) := by
  have hz : (![0, 0] : Fin 2 → Nat) = fun _ => 0 := by decide
  unfold out0_A_6
  rw [View.read_writes_eq_canon _ _ _ (cover0_A_6 c i a0 h0 a1 h1 a2 h2 a3 h3 a4 h4 a5 h5 a6 h6 a7 h7 a8 h8 x0 x1 x2 x3 x4 xt)]
  unfold kernelRun0_A
  dsimp only
  sl_unfold_words
  rw [View.canon_unit_zero hz]
  simp only [View.readAt_eq_ld, h0.read_unread, h1.read_unread, h2.read_unread, h3.read_unread, h4.read_unread, View.ld_unit_zero (S := S128x1024) hz]
  have own := own_at X0 X2 n hn R s
  unfold_payloads
  pointwise [Cert.AdamWOutRefIdeal.Read.val_main_v7, Cert.AdamWOutRefIdeal.Read.val_main_cst_1, Cert.AdamWOutRefIdeal.Read.val_main_v8,
    Cert.AdamWOutRefIdeal.Read.val_main_v9, Cert.AdamWOutRefIdeal.Read.val_main_cst_2, Cert.AdamWOutRefIdeal.Read.val_main_v10,
    Cert.AdamWOutRefIdeal.Read.val_main_v11, Cert.AdamWOutRefIdeal.Read.val_main_cst_3, Cert.AdamWOutRefIdeal.Read.val_main_v12,
    Cert.AdamWOutRefIdeal.Read.val_main_v13, Cert.AdamWOutRefIdeal.Read.val_main_v14, Cert.AdamWOutRefIdeal.Read.val_main_cst_4,
    Cert.AdamWOutRefIdeal.Read.val_main_v15, Cert.AdamWOutRefIdeal.Read.val_main_v16, Cert.AdamWOutRefIdeal.Read.val_main_v17,
    Cert.AdamWOutRefIdeal.Read.val_main_cst_5, Cert.AdamWOutRefIdeal.Read.val_main_v18, Cert.AdamWOutRefIdeal.Read.val_main_v19,
    Cert.AdamWOutRefIdeal.Read.val_main_v20, Cert.AdamWOutRefIdeal.Read.val_main_cst_6, Cert.AdamWOutRefIdeal.Read.val_main_v21,
    Cert.AdamWOutRefIdeal.Read.val_main_v22, Cert.AdamWOutRefIdeal.Read.val_main_cst_7, Cert.AdamWOutRefIdeal.Read.val_main_v23,
    Cert.AdamWOutRefIdeal.Read.val_main_v24, Cert.AdamWOutRefIdeal.Read.val_main_v25, Cert.AdamWOutRefIdeal.Read.val_main_cst_8,
    Cert.AdamWOutRefIdeal.Read.val_main_v26, Cert.AdamWOutRefIdeal.Read.val_main_v27, Cert.AdamWOutRefIdeal.Read.val_main_v28,
    Cert.AdamWOutRefIdeal.Read.val_main_cst_9, Cert.AdamWOutRefIdeal.Read.val_main_v29, Cert.AdamWOutRefIdeal.Read.val_main_v30,
    Cert.AdamWOutRefIdeal.Read.val_main_v31, Cert.AdamWOutRefIdeal.Read.val_main_cst_10, Cert.AdamWOutRefIdeal.Read.val_main_v32,
    Cert.AdamWOutRefIdeal.Read.val_main_v33]
  simp only [own, e0, e1, e2, e3, e4, Fin.sum_univ_eight, add_assoc, zero_add]

theorem same7 (c : Dev nD) (i : grid0.Coords) (a0 : Memref sig .tc .vmem S1x128x1024 .f32) (h0 : a0.IsWhole)
    (a1 : Memref sig .tc .vmem S8x128x1024 .bf16) (h1 : a1.IsWhole)
    (a2 : Memref sig .tc .vmem S128x1024 .f32) (h2 : a2.IsWhole)
    (a3 : Memref sig .tc .vmem S128x1024 .f32) (h3 : a3.IsWhole)
    (a4 : Memref sig .tc .vmem S128x1024 .f32) (h4 : a4.IsWhole)
    (a5 : Memref sig .tc .vmem S128x1024 .f32) (h5 : a5.IsWhole)
    (a6 : Memref sig .tc .vmem S128x1024 .f32) (h6 : a6.IsWhole)
    (a7 : Memref sig .tc .vmem S128x1024 .f32) (h7 : a7.IsWhole)
    (a8 : Memref sig .tc .vmem S128x1024 .f32) (h8 : a8.IsWhole)
    (x0 : Vec Ideal S1x128x1024 .f32) (x1 : Vec Ideal S8x128x1024 .bf16) (x2 : Vec Ideal S128x1024 .f32) (x3 : Vec Ideal S128x1024 .f32) (x4 : Vec Ideal S128x1024 .f32)
    (xt : TbBuf0 (F := Ideal) c tbM0_0)
    (X0 : Vec Ideal S8x128x1024 .f32) (X1 : Vec Ideal S8x128x1024 .bf16) (X2 : (⟨S1, .i32⟩ : BufTy).Contents (Elt Ideal)) (X3 X4 X5 : Vec Ideal S128x1024 .f32)
    (r : Fin 128) (s : Fin 1024) (R : Fin 128) (n : Fin 8) (hn : ∀ y, (X2 y).toNat = n.val)
    (e0 : x0 (ix3 0 r s) = X0 (ix3 n R s))
    (e1 : ∀ j, x1 (ix3 j r s) = X1 (ix3 j R s))
    (e2 : x2 (ix2 r s) = X3 (ix2 R s))
    (e3 : x3 (ix2 r s) = X4 (ix2 R s))
    (e4 : x4 (ix2 r s) = X5 (ix2 R s)) :
    out0_A_7 (F := Ideal) c i a0 h0 a1 h1 a2 h2 a3 h3 a4 h4 a5 h5 a6 h6 a7 h7 a8 h8 x0 x1 x2 x3 x4 xt (ix2 r s)
      = Cert.AdamWOutRefIdeal.Read.val_main_v14 (F := Ideal) X0 X1 X2 X4 (ix2 R s) := by
  have hz : (![0, 0] : Fin 2 → Nat) = fun _ => 0 := by decide
  unfold out0_A_7
  rw [View.read_writes_eq_canon _ _ _ (cover0_A_7 c i a0 h0 a1 h1 a2 h2 a3 h3 a4 h4 a5 h5 a6 h6 a7 h7 a8 h8 x0 x1 x2 x3 x4 xt)]
  unfold kernelRun0_A
  dsimp only
  sl_unfold_words
  rw [View.canon_unit_zero hz]
  simp only [View.readAt_eq_ld, h0.read_unread, h1.read_unread, h2.read_unread, h3.read_unread, h4.read_unread, View.ld_unit_zero (S := S128x1024) hz]
  have own := own_at X0 X2 n hn R s
  unfold_payloads
  pointwise [Cert.AdamWOutRefIdeal.Read.val_main_v7, Cert.AdamWOutRefIdeal.Read.val_main_cst_1, Cert.AdamWOutRefIdeal.Read.val_main_v8,
    Cert.AdamWOutRefIdeal.Read.val_main_v9, Cert.AdamWOutRefIdeal.Read.val_main_cst_2, Cert.AdamWOutRefIdeal.Read.val_main_v10,
    Cert.AdamWOutRefIdeal.Read.val_main_v11, Cert.AdamWOutRefIdeal.Read.val_main_cst_3, Cert.AdamWOutRefIdeal.Read.val_main_v12,
    Cert.AdamWOutRefIdeal.Read.val_main_v13, Cert.AdamWOutRefIdeal.Read.val_main_v14, Cert.AdamWOutRefIdeal.Read.val_main_cst_4,
    Cert.AdamWOutRefIdeal.Read.val_main_v15, Cert.AdamWOutRefIdeal.Read.val_main_v16, Cert.AdamWOutRefIdeal.Read.val_main_v17,
    Cert.AdamWOutRefIdeal.Read.val_main_cst_5, Cert.AdamWOutRefIdeal.Read.val_main_v18, Cert.AdamWOutRefIdeal.Read.val_main_v19,
    Cert.AdamWOutRefIdeal.Read.val_main_v20, Cert.AdamWOutRefIdeal.Read.val_main_cst_6, Cert.AdamWOutRefIdeal.Read.val_main_v21,
    Cert.AdamWOutRefIdeal.Read.val_main_v22, Cert.AdamWOutRefIdeal.Read.val_main_cst_7, Cert.AdamWOutRefIdeal.Read.val_main_v23,
    Cert.AdamWOutRefIdeal.Read.val_main_v24, Cert.AdamWOutRefIdeal.Read.val_main_v25, Cert.AdamWOutRefIdeal.Read.val_main_cst_8,
    Cert.AdamWOutRefIdeal.Read.val_main_v26, Cert.AdamWOutRefIdeal.Read.val_main_v27, Cert.AdamWOutRefIdeal.Read.val_main_v28,
    Cert.AdamWOutRefIdeal.Read.val_main_cst_9, Cert.AdamWOutRefIdeal.Read.val_main_v29, Cert.AdamWOutRefIdeal.Read.val_main_v30,
    Cert.AdamWOutRefIdeal.Read.val_main_v31, Cert.AdamWOutRefIdeal.Read.val_main_cst_10, Cert.AdamWOutRefIdeal.Read.val_main_v32,
    Cert.AdamWOutRefIdeal.Read.val_main_v33]
  simp only [own, e0, e1, e2, e3, e4, Fin.sum_univ_eight, add_assoc, zero_add]

theorem same8 (c : Dev nD) (i : grid0.Coords) (a0 : Memref sig .tc .vmem S1x128x1024 .f32) (h0 : a0.IsWhole)
    (a1 : Memref sig .tc .vmem S8x128x1024 .bf16) (h1 : a1.IsWhole)
    (a2 : Memref sig .tc .vmem S128x1024 .f32) (h2 : a2.IsWhole)
    (a3 : Memref sig .tc .vmem S128x1024 .f32) (h3 : a3.IsWhole)
    (a4 : Memref sig .tc .vmem S128x1024 .f32) (h4 : a4.IsWhole)
    (a5 : Memref sig .tc .vmem S128x1024 .f32) (h5 : a5.IsWhole)
    (a6 : Memref sig .tc .vmem S128x1024 .f32) (h6 : a6.IsWhole)
    (a7 : Memref sig .tc .vmem S128x1024 .f32) (h7 : a7.IsWhole)
    (a8 : Memref sig .tc .vmem S128x1024 .f32) (h8 : a8.IsWhole)
    (x0 : Vec Ideal S1x128x1024 .f32) (x1 : Vec Ideal S8x128x1024 .bf16) (x2 : Vec Ideal S128x1024 .f32) (x3 : Vec Ideal S128x1024 .f32) (x4 : Vec Ideal S128x1024 .f32)
    (xt : TbBuf0 (F := Ideal) c tbM0_0)
    (X0 : Vec Ideal S8x128x1024 .f32) (X1 : Vec Ideal S8x128x1024 .bf16) (X2 : (⟨S1, .i32⟩ : BufTy).Contents (Elt Ideal)) (X3 X4 X5 : Vec Ideal S128x1024 .f32)
    (r : Fin 128) (s : Fin 1024) (R : Fin 128) (n : Fin 8) (hn : ∀ y, (X2 y).toNat = n.val)
    (e0 : x0 (ix3 0 r s) = X0 (ix3 n R s))
    (e1 : ∀ j, x1 (ix3 j r s) = X1 (ix3 j R s))
    (e2 : x2 (ix2 r s) = X3 (ix2 R s))
    (e3 : x3 (ix2 r s) = X4 (ix2 R s))
    (e4 : x4 (ix2 r s) = X5 (ix2 R s)) :
    out0_A_8 (F := Ideal) c i a0 h0 a1 h1 a2 h2 a3 h3 a4 h4 a5 h5 a6 h6 a7 h7 a8 h8 x0 x1 x2 x3 x4 xt (ix2 r s)
      = Cert.AdamWOutRefIdeal.Read.val_main_v20 (F := Ideal) X0 X1 X2 X5 (ix2 R s) := by
  have hz : (![0, 0] : Fin 2 → Nat) = fun _ => 0 := by decide
  unfold out0_A_8
  rw [View.read_writes_eq_canon _ _ _ (cover0_A_8 c i a0 h0 a1 h1 a2 h2 a3 h3 a4 h4 a5 h5 a6 h6 a7 h7 a8 h8 x0 x1 x2 x3 x4 xt)]
  unfold kernelRun0_A
  dsimp only
  sl_unfold_words
  rw [View.canon_unit_zero hz]
  simp only [View.readAt_eq_ld, h0.read_unread, h1.read_unread, h2.read_unread, h3.read_unread, h4.read_unread, View.ld_unit_zero (S := S128x1024) hz]
  have own := own_at X0 X2 n hn R s
  unfold_payloads
  pointwise [Cert.AdamWOutRefIdeal.Read.val_main_v7, Cert.AdamWOutRefIdeal.Read.val_main_cst_1, Cert.AdamWOutRefIdeal.Read.val_main_v8,
    Cert.AdamWOutRefIdeal.Read.val_main_v9, Cert.AdamWOutRefIdeal.Read.val_main_cst_2, Cert.AdamWOutRefIdeal.Read.val_main_v10,
    Cert.AdamWOutRefIdeal.Read.val_main_v11, Cert.AdamWOutRefIdeal.Read.val_main_cst_3, Cert.AdamWOutRefIdeal.Read.val_main_v12,
    Cert.AdamWOutRefIdeal.Read.val_main_v13, Cert.AdamWOutRefIdeal.Read.val_main_v14, Cert.AdamWOutRefIdeal.Read.val_main_cst_4,
    Cert.AdamWOutRefIdeal.Read.val_main_v15, Cert.AdamWOutRefIdeal.Read.val_main_v16, Cert.AdamWOutRefIdeal.Read.val_main_v17,
    Cert.AdamWOutRefIdeal.Read.val_main_cst_5, Cert.AdamWOutRefIdeal.Read.val_main_v18, Cert.AdamWOutRefIdeal.Read.val_main_v19,
    Cert.AdamWOutRefIdeal.Read.val_main_v20, Cert.AdamWOutRefIdeal.Read.val_main_cst_6, Cert.AdamWOutRefIdeal.Read.val_main_v21,
    Cert.AdamWOutRefIdeal.Read.val_main_v22, Cert.AdamWOutRefIdeal.Read.val_main_cst_7, Cert.AdamWOutRefIdeal.Read.val_main_v23,
    Cert.AdamWOutRefIdeal.Read.val_main_v24, Cert.AdamWOutRefIdeal.Read.val_main_v25, Cert.AdamWOutRefIdeal.Read.val_main_cst_8,
    Cert.AdamWOutRefIdeal.Read.val_main_v26, Cert.AdamWOutRefIdeal.Read.val_main_v27, Cert.AdamWOutRefIdeal.Read.val_main_v28,
    Cert.AdamWOutRefIdeal.Read.val_main_cst_9, Cert.AdamWOutRefIdeal.Read.val_main_v29, Cert.AdamWOutRefIdeal.Read.val_main_v30,
    Cert.AdamWOutRefIdeal.Read.val_main_v31, Cert.AdamWOutRefIdeal.Read.val_main_cst_10, Cert.AdamWOutRefIdeal.Read.val_main_v32,
    Cert.AdamWOutRefIdeal.Read.val_main_v33]
  simp only [own, e0, e1, e2, e3, e4, Fin.sum_univ_eight, add_assoc, zero_add]

/-! ## What a grid point reads and writes -/

/-- The argument arrays. -/
abbrev A0 (c : Dev nD) : S8x128x1024.Idx → EReal := m ((c : Thread nD τ).loc main_arg0)
abbrev A1 (c : Dev nD) : S8x128x1024.Idx → EReal := m ((c : Thread nD τ).loc main_arg1)
abbrev A2 (c : Dev nD) : (⟨S1, .i32⟩ : BufTy).Contents (Elt Ideal) := m ((c : Thread nD τ).loc main_arg2)
abbrev A3 (c : Dev nD) : S128x1024.Idx → EReal := m ((c : Thread nD τ).loc main_arg3)
abbrev A4 (c : Dev nD) : S128x1024.Idx → EReal := m ((c : Thread nD τ).loc main_arg4)
abbrev A5 (c : Dev nD) : S128x1024.Idx → EReal := m ((c : Thread nD τ).loc main_arg5)

/-- The row tile of a grid point. -/
abbrev tile (t : Fin grid0.N) : Nat := (grid0.coords t 0).val

theorem tile_lt (t : Fin grid0.N) : tile t < 1 := (grid0.coords t 0).isLt

theorem row_lt (t : Fin grid0.N) (r : Fin 128) : tile t * 128 + r.val < 128 := by have := tile_lt t; omega

theorem maps : ∀ t : Fin grid0.N,
    cc0_transform_1 (grid0.coords t) = ![0, tile t, 0]
    ∧ cc0_transform_2 (grid0.coords t) = ![tile t, 0] ∧ cc0_transform_3 (grid0.coords t) = ![tile t, 0]
    ∧ cc0_transform_4 (grid0.coords t) = ![tile t, 0] ∧ cc0_transform_5 (grid0.coords t) = ![tile t, 0]
    ∧ cc0_transform_6 (grid0.coords t) = ![tile t, 0] ∧ cc0_transform_7 (grid0.coords t) = ![tile t, 0]
    ∧ cc0_transform_8 (grid0.coords t) = ![tile t, 0] := by decide +kernel

theorem tile_onto : ∀ a : Fin 1, ∃ t : Fin grid0.N, tile t = a.val := by decide +kernel

theorem flushes5 : ∀ t : Fin grid0.N, Pipeline.Window.flushOf grid0 true cc0_transform_5 t = true := by decide +kernel
theorem flushes6 : ∀ t : Fin grid0.N, Pipeline.Window.flushOf grid0 true cc0_transform_6 t = true := by decide +kernel
theorem flushes7 : ∀ t : Fin grid0.N, Pipeline.Window.flushOf grid0 true cc0_transform_7 t = true := by decide +kernel
theorem flushes8 : ∀ t : Fin grid0.N, Pipeline.Window.flushOf grid0 true cc0_transform_8 t = true := by decide +kernel

variable (hO : Ok m)

theorem in0_at (c : Dev nD) (t : Fin grid0.N) (n : Fin 8) (hn : ∀ y, (A2 m c y).toNat = n.val) (r : Fin 128) (s : Fin 1024) :
    iblk m hO c 0 t (ix3 0 r s) = A0 m c (ix3 n ⟨tile t * 128 + r.val, row_lt t r⟩ s) := by
  obtain rfl : c = 0 := Subsingleton.elim _ _
  show m (((0 : Dev nD) : Thread nD τ).loc main_arg0) ((((cfgM m hO).win 0).rect t).emb (ix3 0 r s)) = _
  refine congrArg _ (DeviceWord.idx_ext₃ ?_ ?_ ?_)
  · refine (((cfgM m hO).win 0).rect_emb_val t (ix3 0 r s : S1x128x1024.Idx) (0 : Fin 3)).trans ?_
    show (BitVec.toNat _) * 1 + 0 = n.val
    rw [Nat.mul_one, Nat.add_zero]
    exact hn _
  · refine (((cfgM m hO).win 0).rect_emb_val t (ix3 0 r s : S1x128x1024.Idx) (1 : Fin 3)).trans ?_
    show (BitVec.ofNat 32 (tile t)).toNat * 128 + r.val = tile t * 128 + r.val
    have := tile_lt t
    rw [BitVec.toNat_ofNat, Nat.mod_eq_of_lt (by omega)]
  · refine (((cfgM m hO).win 0).rect_emb_val t (ix3 0 r s : S1x128x1024.Idx) (2 : Fin 3)).trans ?_
    show 0 * 1024 + s.val = s.val
    omega

theorem in1_at (c : Dev nD) (t : Fin grid0.N) (j : Fin 8) (r : Fin 128) (s : Fin 1024) :
    iblk m hO c 1 t (ix3 j r s) = A1 m c (ix3 j ⟨tile t * 128 + r.val, row_lt t r⟩ s) := by
  have e : ((cfgM m hO).win 1).index t = ![0, tile t, 0] := (maps t).1
  show m ((c : Thread nD τ).loc main_arg1) ((((cfgM m hO).win 1).rect t).emb (ix3 j r s)) = _
  exact congrArg _ (DeviceWord.idx_ext₃
    ((((cfgM m hO).win 1).rect_emb_val t (ix3 j r s : S8x128x1024.Idx) (0 : Fin 3)).trans (by rw [e]; show 0 * 8 + j.val = j.val; omega))
    ((((cfgM m hO).win 1).rect_emb_val t (ix3 j r s : S8x128x1024.Idx) (1 : Fin 3)).trans (by rw [e]; rfl))
    ((((cfgM m hO).win 1).rect_emb_val t (ix3 j r s : S8x128x1024.Idx) (2 : Fin 3)).trans (by rw [e]; show 0 * 1024 + s.val = s.val; omega)))

theorem in2_at (c : Dev nD) (t : Fin grid0.N) (r : Fin 128) (s : Fin 1024) :
    iblk m hO c 2 t (ix2 r s) = A3 m c (ix2 ⟨tile t * 128 + r.val, row_lt t r⟩ s) := by
  have e : ((cfgM m hO).win 2).index t = ![tile t, 0] := (maps t).2.1
  show m ((c : Thread nD τ).loc main_arg3) ((((cfgM m hO).win 2).rect t).emb (ix2 r s)) = _
  exact congrArg _ (Shape.idx_ext₂
    ((((cfgM m hO).win 2).rect_emb_val t (ix2 r s : S128x1024.Idx) (0 : Fin 2)).trans (by rw [e]; rfl))
    ((((cfgM m hO).win 2).rect_emb_val t (ix2 r s : S128x1024.Idx) (1 : Fin 2)).trans (by rw [e]; show 0 * 1024 + s.val = s.val; omega)))

theorem in3_at (c : Dev nD) (t : Fin grid0.N) (r : Fin 128) (s : Fin 1024) :
    iblk m hO c 3 t (ix2 r s) = A4 m c (ix2 ⟨tile t * 128 + r.val, row_lt t r⟩ s) := by
  have e : ((cfgM m hO).win 3).index t = ![tile t, 0] := (maps t).2.2.1
  show m ((c : Thread nD τ).loc main_arg4) ((((cfgM m hO).win 3).rect t).emb (ix2 r s)) = _
  exact congrArg _ (Shape.idx_ext₂
    ((((cfgM m hO).win 3).rect_emb_val t (ix2 r s : S128x1024.Idx) (0 : Fin 2)).trans (by rw [e]; rfl))
    ((((cfgM m hO).win 3).rect_emb_val t (ix2 r s : S128x1024.Idx) (1 : Fin 2)).trans (by rw [e]; show 0 * 1024 + s.val = s.val; omega)))

theorem in4_at (c : Dev nD) (t : Fin grid0.N) (r : Fin 128) (s : Fin 1024) :
    iblk m hO c 4 t (ix2 r s) = A5 m c (ix2 ⟨tile t * 128 + r.val, row_lt t r⟩ s) := by
  have e : ((cfgM m hO).win 4).index t = ![tile t, 0] := (maps t).2.2.2.1
  show m ((c : Thread nD τ).loc main_arg5) ((((cfgM m hO).win 4).rect t).emb (ix2 r s)) = _
  exact congrArg _ (Shape.idx_ext₂
    ((((cfgM m hO).win 4).rect_emb_val t (ix2 r s : S128x1024.Idx) (0 : Fin 2)).trans (by rw [e]; rfl))
    ((((cfgM m hO).win 4).rect_emb_val t (ix2 r s : S128x1024.Idx) (1 : Fin 2)).trans (by rw [e]; show 0 * 1024 + s.val = s.val; omega)))

/-- The gradient, as a function of the argument arrays: the reference's own term. -/
def G5 (c : Dev nD) : S128x1024.Idx → EReal :=
  Cert.AdamWOutRefIdeal.Read.val_main_v9 (F := Ideal) (A0 m c) (A1 m c) (A2 m c)

theorem place5 (t : Fin grid0.N) (r : Fin 128) (s : Fin 1024) :
    ((((cfgM m hO).win 5).rect t).emb (ix2 r s : S128x1024.Idx) : S128x1024.Idx) = ix2 ⟨tile t * 128 + r.val, row_lt t r⟩ s := by
  have e : ((cfgM m hO).win 5).index t = ![tile t, 0] := (maps t).2.2.2.2.1
  exact Shape.idx_ext₂
    ((((cfgM m hO).win 5).rect_emb_val t (ix2 r s : S128x1024.Idx) (0 : Fin 2)).trans (by rw [e]; rfl))
    ((((cfgM m hO).win 5).rect_emb_val t (ix2 r s : S128x1024.Idx) (1 : Fin 2)).trans (by rw [e]; show 0 * 1024 + s.val = s.val; omega))

theorem out5_at (c : Dev nD) (n : Fin 8) (hn : ∀ y, (A2 m c y).toNat = n.val) (t : Fin grid0.N) (r : Fin 128) (s : Fin 1024) :
    (outsAt0 m hO c t).1 (ix2 r s) = G5 m c (ix2 ⟨tile t * 128 + r.val, row_lt t r⟩ s) := by
  unfold outsAt0 G5
  dsimp only
  exact same5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (A0 m c) (A1 m c) (A2 m c) (A3 m c) (A4 m c) (A5 m c) r s _
    n hn (in0_at m hO c t n hn r s) (fun j => in1_at m hO c t j r s) (in2_at m hO c t r s) (in3_at m hO c t r s) (in4_at m hO c t r s)

theorem flushed5_eq (c : Dev nD) (n : Fin 8) (hn : ∀ y, (A2 m c y).toNat = n.val) (t : Fin grid0.N) :
    (dats m hO 0 c).flushed 5 t = (((cfgM m hO).win 5).blk t).view.read (Elt Ideal) (G5 m c) := by
  show ((cfgM m hO).win 5).cut (grid0.coords t) ((dats m hO 0 c).after 5 t) = _
  rw [after0_5]
  refine funext fun (y : S128x1024.Idx) => ?_
  obtain ⟨r, s, rfl⟩ : ∃ (r : Fin 128) (s : Fin 1024), y = ix2 r s := ⟨y 0, y 1, eq_ix2 y⟩
  exact (out5_at m hO c n hn t r s).trans (congrArg (G5 m c) (place5 m hO t r s).symm)

theorem covered5 (c : Dev nD) (i : S128x1024.Idx) :
    ∃ t : Fin grid0.N, ((cfgM m hO).win 5).flush t = true ∧ i ∈ (((cfgM m hO).win 5).blk t).view.set := by
  have h0 : (i 0).val < 128 := (i 0).isLt
  obtain ⟨t, e0⟩ := tile_onto ⟨(i 0).val / 128, by omega⟩
  refine ⟨t, flushes5 t, ?_⟩
  have k : (((cfgM m hO).win 5).blk t).view.emb (ix2 (⟨(i 0).val % 128, by omega⟩ : Fin 128) (i 1) : S128x1024.Idx) = i :=
    (place5 m hO t _ _).trans (Shape.idx_ext₂ (by show tile t * 128 + (i 0).val % 128 = (i 0).val; rw [e0]; dsimp only; omega) rfl)
  exact k ▸ View.emb_mem_set _ _

theorem final5 (c : Dev nD) (n : Fin 8) (hn : ∀ y, (A2 m c y).toNat = n.val) :
    (dats m hO 0 c).arrAt 5 (cfgM m hO).N = G5 m c :=
  (dats m hO 0 c).arrAt_eq_of_cover 5 (G5 m c) (fun t _ => flushed5_eq m hO c n hn t) (covered5 m hO c)

/-- The weight's step, as a function of the argument arrays: the reference's own term. -/
def G6 (c : Dev nD) : S128x1024.Idx → EReal :=
  Cert.AdamWOutRefIdeal.Read.val_main_v33 (F := Ideal) (A0 m c) (A1 m c) (A2 m c) (A3 m c) (A4 m c) (A5 m c)

theorem place6 (t : Fin grid0.N) (r : Fin 128) (s : Fin 1024) :
    ((((cfgM m hO).win 6).rect t).emb (ix2 r s : S128x1024.Idx) : S128x1024.Idx) = ix2 ⟨tile t * 128 + r.val, row_lt t r⟩ s := by
  have e : ((cfgM m hO).win 6).index t = ![tile t, 0] := (maps t).2.2.2.2.2.1
  exact Shape.idx_ext₂
    ((((cfgM m hO).win 6).rect_emb_val t (ix2 r s : S128x1024.Idx) (0 : Fin 2)).trans (by rw [e]; rfl))
    ((((cfgM m hO).win 6).rect_emb_val t (ix2 r s : S128x1024.Idx) (1 : Fin 2)).trans (by rw [e]; show 0 * 1024 + s.val = s.val; omega))

theorem out6_at (c : Dev nD) (n : Fin 8) (hn : ∀ y, (A2 m c y).toNat = n.val) (t : Fin grid0.N) (r : Fin 128) (s : Fin 1024) :
    (outsAt0 m hO c t).2.1 (ix2 r s) = G6 m c (ix2 ⟨tile t * 128 + r.val, row_lt t r⟩ s) := by
  unfold outsAt0 G6
  dsimp only
  exact same6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (A0 m c) (A1 m c) (A2 m c) (A3 m c) (A4 m c) (A5 m c) r s _
    n hn (in0_at m hO c t n hn r s) (fun j => in1_at m hO c t j r s) (in2_at m hO c t r s) (in3_at m hO c t r s) (in4_at m hO c t r s)

theorem flushed6_eq (c : Dev nD) (n : Fin 8) (hn : ∀ y, (A2 m c y).toNat = n.val) (t : Fin grid0.N) :
    (dats m hO 0 c).flushed 6 t = (((cfgM m hO).win 6).blk t).view.read (Elt Ideal) (G6 m c) := by
  show ((cfgM m hO).win 6).cut (grid0.coords t) ((dats m hO 0 c).after 6 t) = _
  rw [after0_6]
  refine funext fun (y : S128x1024.Idx) => ?_
  obtain ⟨r, s, rfl⟩ : ∃ (r : Fin 128) (s : Fin 1024), y = ix2 r s := ⟨y 0, y 1, eq_ix2 y⟩
  exact (out6_at m hO c n hn t r s).trans (congrArg (G6 m c) (place6 m hO t r s).symm)

theorem covered6 (c : Dev nD) (i : S128x1024.Idx) :
    ∃ t : Fin grid0.N, ((cfgM m hO).win 6).flush t = true ∧ i ∈ (((cfgM m hO).win 6).blk t).view.set := by
  have h0 : (i 0).val < 128 := (i 0).isLt
  obtain ⟨t, e0⟩ := tile_onto ⟨(i 0).val / 128, by omega⟩
  refine ⟨t, flushes6 t, ?_⟩
  have k : (((cfgM m hO).win 6).blk t).view.emb (ix2 (⟨(i 0).val % 128, by omega⟩ : Fin 128) (i 1) : S128x1024.Idx) = i :=
    (place6 m hO t _ _).trans (Shape.idx_ext₂ (by show tile t * 128 + (i 0).val % 128 = (i 0).val; rw [e0]; dsimp only; omega) rfl)
  exact k ▸ View.emb_mem_set _ _

theorem final6 (c : Dev nD) (n : Fin 8) (hn : ∀ y, (A2 m c y).toNat = n.val) :
    (dats m hO 0 c).arrAt 6 (cfgM m hO).N = G6 m c :=
  (dats m hO 0 c).arrAt_eq_of_cover 6 (G6 m c) (fun t _ => flushed6_eq m hO c n hn t) (covered6 m hO c)

/-- The first moment, as a function of the argument arrays: the reference's own term. -/
def G7 (c : Dev nD) : S128x1024.Idx → EReal :=
  Cert.AdamWOutRefIdeal.Read.val_main_v14 (F := Ideal) (A0 m c) (A1 m c) (A2 m c) (A4 m c)

theorem place7 (t : Fin grid0.N) (r : Fin 128) (s : Fin 1024) :
    ((((cfgM m hO).win 7).rect t).emb (ix2 r s : S128x1024.Idx) : S128x1024.Idx) = ix2 ⟨tile t * 128 + r.val, row_lt t r⟩ s := by
  have e : ((cfgM m hO).win 7).index t = ![tile t, 0] := (maps t).2.2.2.2.2.2.1
  exact Shape.idx_ext₂
    ((((cfgM m hO).win 7).rect_emb_val t (ix2 r s : S128x1024.Idx) (0 : Fin 2)).trans (by rw [e]; rfl))
    ((((cfgM m hO).win 7).rect_emb_val t (ix2 r s : S128x1024.Idx) (1 : Fin 2)).trans (by rw [e]; show 0 * 1024 + s.val = s.val; omega))

theorem out7_at (c : Dev nD) (n : Fin 8) (hn : ∀ y, (A2 m c y).toNat = n.val) (t : Fin grid0.N) (r : Fin 128) (s : Fin 1024) :
    (outsAt0 m hO c t).2.2.1 (ix2 r s) = G7 m c (ix2 ⟨tile t * 128 + r.val, row_lt t r⟩ s) := by
  unfold outsAt0 G7
  dsimp only
  exact same7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (A0 m c) (A1 m c) (A2 m c) (A3 m c) (A4 m c) (A5 m c) r s _
    n hn (in0_at m hO c t n hn r s) (fun j => in1_at m hO c t j r s) (in2_at m hO c t r s) (in3_at m hO c t r s) (in4_at m hO c t r s)

theorem flushed7_eq (c : Dev nD) (n : Fin 8) (hn : ∀ y, (A2 m c y).toNat = n.val) (t : Fin grid0.N) :
    (dats m hO 0 c).flushed 7 t = (((cfgM m hO).win 7).blk t).view.read (Elt Ideal) (G7 m c) := by
  show ((cfgM m hO).win 7).cut (grid0.coords t) ((dats m hO 0 c).after 7 t) = _
  rw [after0_7]
  refine funext fun (y : S128x1024.Idx) => ?_
  obtain ⟨r, s, rfl⟩ : ∃ (r : Fin 128) (s : Fin 1024), y = ix2 r s := ⟨y 0, y 1, eq_ix2 y⟩
  exact (out7_at m hO c n hn t r s).trans (congrArg (G7 m c) (place7 m hO t r s).symm)

theorem covered7 (c : Dev nD) (i : S128x1024.Idx) :
    ∃ t : Fin grid0.N, ((cfgM m hO).win 7).flush t = true ∧ i ∈ (((cfgM m hO).win 7).blk t).view.set := by
  have h0 : (i 0).val < 128 := (i 0).isLt
  obtain ⟨t, e0⟩ := tile_onto ⟨(i 0).val / 128, by omega⟩
  refine ⟨t, flushes7 t, ?_⟩
  have k : (((cfgM m hO).win 7).blk t).view.emb (ix2 (⟨(i 0).val % 128, by omega⟩ : Fin 128) (i 1) : S128x1024.Idx) = i :=
    (place7 m hO t _ _).trans (Shape.idx_ext₂ (by show tile t * 128 + (i 0).val % 128 = (i 0).val; rw [e0]; dsimp only; omega) rfl)
  exact k ▸ View.emb_mem_set _ _

theorem final7 (c : Dev nD) (n : Fin 8) (hn : ∀ y, (A2 m c y).toNat = n.val) :
    (dats m hO 0 c).arrAt 7 (cfgM m hO).N = G7 m c :=
  (dats m hO 0 c).arrAt_eq_of_cover 7 (G7 m c) (fun t _ => flushed7_eq m hO c n hn t) (covered7 m hO c)

/-- The second moment, as a function of the argument arrays: the reference's own term. -/
def G8 (c : Dev nD) : S128x1024.Idx → EReal :=
  Cert.AdamWOutRefIdeal.Read.val_main_v20 (F := Ideal) (A0 m c) (A1 m c) (A2 m c) (A5 m c)

theorem place8 (t : Fin grid0.N) (r : Fin 128) (s : Fin 1024) :
    ((((cfgM m hO).win 8).rect t).emb (ix2 r s : S128x1024.Idx) : S128x1024.Idx) = ix2 ⟨tile t * 128 + r.val, row_lt t r⟩ s := by
  have e : ((cfgM m hO).win 8).index t = ![tile t, 0] := (maps t).2.2.2.2.2.2.2
  exact Shape.idx_ext₂
    ((((cfgM m hO).win 8).rect_emb_val t (ix2 r s : S128x1024.Idx) (0 : Fin 2)).trans (by rw [e]; rfl))
    ((((cfgM m hO).win 8).rect_emb_val t (ix2 r s : S128x1024.Idx) (1 : Fin 2)).trans (by rw [e]; show 0 * 1024 + s.val = s.val; omega))

theorem out8_at (c : Dev nD) (n : Fin 8) (hn : ∀ y, (A2 m c y).toNat = n.val) (t : Fin grid0.N) (r : Fin 128) (s : Fin 1024) :
    (outsAt0 m hO c t).2.2.2 (ix2 r s) = G8 m c (ix2 ⟨tile t * 128 + r.val, row_lt t r⟩ s) := by
  unfold outsAt0 G8
  dsimp only
  exact same8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (A0 m c) (A1 m c) (A2 m c) (A3 m c) (A4 m c) (A5 m c) r s _
    n hn (in0_at m hO c t n hn r s) (fun j => in1_at m hO c t j r s) (in2_at m hO c t r s) (in3_at m hO c t r s) (in4_at m hO c t r s)

theorem flushed8_eq (c : Dev nD) (n : Fin 8) (hn : ∀ y, (A2 m c y).toNat = n.val) (t : Fin grid0.N) :
    (dats m hO 0 c).flushed 8 t = (((cfgM m hO).win 8).blk t).view.read (Elt Ideal) (G8 m c) := by
  show ((cfgM m hO).win 8).cut (grid0.coords t) ((dats m hO 0 c).after 8 t) = _
  rw [after0_8]
  refine funext fun (y : S128x1024.Idx) => ?_
  obtain ⟨r, s, rfl⟩ : ∃ (r : Fin 128) (s : Fin 1024), y = ix2 r s := ⟨y 0, y 1, eq_ix2 y⟩
  exact (out8_at m hO c n hn t r s).trans (congrArg (G8 m c) (place8 m hO t r s).symm)

theorem covered8 (c : Dev nD) (i : S128x1024.Idx) :
    ∃ t : Fin grid0.N, ((cfgM m hO).win 8).flush t = true ∧ i ∈ (((cfgM m hO).win 8).blk t).view.set := by
  have h0 : (i 0).val < 128 := (i 0).isLt
  obtain ⟨t, e0⟩ := tile_onto ⟨(i 0).val / 128, by omega⟩
  refine ⟨t, flushes8 t, ?_⟩
  have k : (((cfgM m hO).win 8).blk t).view.emb (ix2 (⟨(i 0).val % 128, by omega⟩ : Fin 128) (i 1) : S128x1024.Idx) = i :=
    (place8 m hO t _ _).trans (Shape.idx_ext₂ (by show tile t * 128 + (i 0).val % 128 = (i 0).val; rw [e0]; dsimp only; omega) rfl)
  exact k ▸ View.emb_mem_set _ _

theorem final8 (c : Dev nD) (n : Fin 8) (hn : ∀ y, (A2 m c y).toNat = n.val) :
    (dats m hO 0 c).arrAt 8 (cfgM m hO).N = G8 m c :=
  (dats m hO 0 c).arrAt_eq_of_cover 8 (G8 m c) (fun t _ => flushed8_eq m hO c n hn t) (covered8 m hO c)

/-- The kernel and the reference leave equal results. -/
theorem algebraic : Cert.algebraic_AdamWOutIdeal_AdamWOutRefIdeal := fun m g m' g' hpre hagree => by
  have hO := ideal_ok m hpre
  have hw : ∀ (c : Dev nD) (y : S1.Idx), (A2 m c y).toNat = (⟨(A2 m c (ix1 0)).toNat, word_lt (hpre c) _⟩ : Fin 8).val :=
    fun c y => congrArg (fun z : S1.Idx => (A2 m c z).toNat) (DeviceWord.one_index _ _)
  exact ⟨fun c => G5 m c, fun c => G6 m c, fun c => G7 m c, fun c => G8 m c,
    (θ_run _ _ _).mono (fun r h c =>
      ⟨((h.1 c).1 5).trans (final5 m hO c _ (hw c)), ((h.1 c).1 6).trans (final6 m hO c _ (hw c)),
        ((h.1 c).1 7).trans (final7 m hO c _ (hw c)), ((h.1 c).1 8).trans (final8 m hO c _ (hw c)), h.2 c⟩)
      (θ_run_and (run_main m g hO) (unchanged m g hO)),
    (θ_run _ _ _).mono (fun r h c => ⟨(h c).1.trans (by
        rw [(hagree c).1, (hagree c).2.1, (hagree c).2.2.1]; rfl), (h c).2.1.trans (by
        rw [(hagree c).1, (hagree c).2.1, (hagree c).2.2.1, (hagree c).2.2.2.1, (hagree c).2.2.2.2.1, (hagree c).2.2.2.2.2]; rfl), (h c).2.2.1.trans (by
        rw [(hagree c).1, (hagree c).2.1, (hagree c).2.2.1, (hagree c).2.2.2.2.1]; rfl), (h c).2.2.2.1.trans (by
        rw [(hagree c).1, (hagree c).2.1, (hagree c).2.2.1, (hagree c).2.2.2.2.2]; rfl), (h c).2.2.2.2⟩)
      (Cert.AdamWOutRefIdeal.Value.run (F := Ideal) m' g')⟩

end Cert.Hand.AdamWOut

end
-- ==== Proof.AdamWMlpIn.lean ====
/-
  The optimiser's step on `w_mlp_in`: the gradient is the device's own block of its product plus the eight blocks it holds
  of what was sent. The kernel adds them one by one, a tile of rows at a time; the reference takes the sum of the eight.
  The own block is the one whose number the device's word names; the precondition says that it names one of the eight.
-/
module

public import proofs.«01_k».proof.Proof.Gen.AdamWMlpIn.Frame
public import proofs.«01_k».proof.Proof.Gen.AdamWMlpInIdeal.Frame
public import proofs.«01_k».proof.Proof.Gen.AdamWMlpInRefIdeal.Run
public import proofs.«01_k».proof.Proof.Gen.AdamWMlpInRefIdeal.Read
public import proofs.«01_k».proof.Proof.Gen.Pre_w_mlp_in_device
public import proofs.«01_k».proof.Defs
public import proofs.«01_k».proof.Proof.DeviceWord
public import Idealize.ShloMosaic.Lib.Pointwise
public import Idealize.ShloMosaic.Lib.Tactic
public import Idealize.ShloMosaic.Lib.Pipeline.Value

@[expose] public section

set_option maxRecDepth 16384

noncomputable section

namespace Cert.Hand.AdamWMlpIn

open Cert.AdamWMlpInIdeal Cert.AdamWMlpInIdeal.Gen Idealize.ShloMosaic Idealize.ShloMosaic.TcCoe Idealize.SL.Sem
open Idealize.ShloMosaic.Pipeline (Dat)
open scoped BigOperators

/-! ## What the precondition says -/

/-- The device's word names one of the eight. -/
theorem word_lt {F : FTy → Type} [FloatOps F] {x0 : FVec F Cert.Pre_w_mlp_in_device.S8x1024x512 .f32} {x1 : FVec F Cert.Pre_w_mlp_in_device.S8x1024x512 .bf16}
    {x2 : IVec Cert.Pre_w_mlp_in_device.S1 32} {x3 x4 x5 : FVec F Cert.Pre_w_mlp_in_device.S1024x512 .f32}
    (h : Cert.Pre_w_mlp_in_device.fn x0 x1 x2 x3 x4 x5 = fun _ => 1#1) (y : Cert.Pre_w_mlp_in_device.S1.Idx) : (x2 y).toNat < 8 := by
  have e := congrFun h (fun a => a.elim0)
  simp only [Cert.Pre_w_mlp_in_device.fn, andi, cmpi, constantI, shapeCast] at e
  exact DeviceWord.one_index y _ ▸ DeviceWord.lt_eight e

/-- So the kernel's block of the own product lies inside the array. -/
theorem bits_ok (m : (ℓ : Loc Cert.AdamWMlpIn.nD Cert.AdamWMlpIn.τ Cert.AdamWMlpIn.sig) → Buf (Elt Bits) ℓ) (h : Cert.Pre_AdamWMlpIn m) :
    Cert.AdamWMlpIn.Gen.Ok m := fun i =>
  ⟨fun a => by
    have k := word_lt (h 0)
    have hi : (i 0).val < 4 := (i 0).isLt
    match a with
    | ⟨0, _⟩ => exact DeviceWord.block_le (k _)
    | ⟨1, _⟩ => show ((BitVec.ofNat 32 (i 0).val).toNat + 1) * 256 ≤ 1024
                rw [BitVec.toNat_ofNat]; omega
    | ⟨2, _⟩ => show (0 + 1) * 512 ≤ 512
                omega, .inl rfl⟩

variable (m : (ℓ : Loc nD τ sig) → Buf (Elt Ideal) ℓ)

theorem ideal_ok (h : Cert.Pre_AdamWMlpInIdeal m) : Ok m := fun i =>
  ⟨fun a => by
    have k := word_lt (h 0)
    have hi : (i 0).val < 4 := (i 0).isLt
    match a with
    | ⟨0, _⟩ => exact DeviceWord.block_le (k _)
    | ⟨1, _⟩ => show ((BitVec.ofNat 32 (i 0).val).toNat + 1) * 256 ≤ 1024
                rw [BitVec.toNat_ofNat]; omega
    | ⟨2, _⟩ => show (0 + 1) * 512 ≤ 512
                omega, .inl rfl⟩

/-! ## One element: the kernel's sum and the reference's -/

/-- The own block as the reference reads it: the one block whose number the word is. -/
theorem own_at (X0 : Vec Ideal S8x1024x512 .f32) (X2 : (⟨S1, .i32⟩ : BufTy).Contents (Elt Ideal)) (n : Fin 8)
    (hn : ∀ y, (X2 y).toNat = n.val) (R : Fin 1024) (s : Fin 512) :
    Cert.AdamWMlpInRefIdeal.Read.val_main_v6 (F := Ideal) X0 X2 (ix2 R s) = X0 (ix3 n R s) := by
  pointwise [Cert.AdamWMlpInRefIdeal.Read.val_main_v0, Cert.AdamWMlpInRefIdeal.Read.val_main_v1, Cert.AdamWMlpInRefIdeal.Read.val_main_v2,
    Cert.AdamWMlpInRefIdeal.Read.val_main_v3, Cert.AdamWMlpInRefIdeal.Read.val_main_v4, Cert.AdamWMlpInRefIdeal.Read.val_main_cst,
    Cert.AdamWMlpInRefIdeal.Read.val_main_call0_v0, Cert.AdamWMlpInRefIdeal.Read.val_main_call0_v1, Cert.AdamWMlpInRefIdeal.Read.val_main_call0_v2,
    Cert.AdamWMlpInRefIdeal.Read.val_main_v5, Cert.AdamWMlpInRefIdeal.Read.val_main_cst_0, Cert.AdamWMlpInRefIdeal.Read.val_main_v6]
  have z : (id (constant (F := Ideal) Cert.AdamWMlpInRefIdeal.S_ .f32 0#32) : Cert.AdamWMlpInRefIdeal.S_.Idx → EReal) ix0 = 0 := by
    show (constant (F := Ideal) Cert.AdamWMlpInRefIdeal.S_ .f32 0#32 : Cert.AdamWMlpInRefIdeal.S_.Idx → EReal) ix0 = 0
    pointwise
  simp only [z]
  exact DeviceWord.pick n (hn _) fun j => X0 (ix3 j R s)

theorem same5 (c : Dev nD) (i : grid0.Coords) (a0 : Memref sig .tc .vmem S1x256x512 .f32) (h0 : a0.IsWhole)
    (a1 : Memref sig .tc .vmem S8x256x512 .bf16) (h1 : a1.IsWhole)
    (a2 : Memref sig .tc .vmem S256x512 .f32) (h2 : a2.IsWhole)
    (a3 : Memref sig .tc .vmem S256x512 .f32) (h3 : a3.IsWhole)
    (a4 : Memref sig .tc .vmem S256x512 .f32) (h4 : a4.IsWhole)
    (a5 : Memref sig .tc .vmem S256x512 .f32) (h5 : a5.IsWhole)
    (a6 : Memref sig .tc .vmem S256x512 .f32) (h6 : a6.IsWhole)
    (a7 : Memref sig .tc .vmem S256x512 .f32) (h7 : a7.IsWhole)
    (a8 : Memref sig .tc .vmem S256x512 .f32) (h8 : a8.IsWhole)
    (x0 : Vec Ideal S1x256x512 .f32) (x1 : Vec Ideal S8x256x512 .bf16) (x2 : Vec Ideal S256x512 .f32) (x3 : Vec Ideal S256x512 .f32) (x4 : Vec Ideal S256x512 .f32)
    (xt : TbBuf0 (F := Ideal) c tbM0_0)
    (X0 : Vec Ideal S8x1024x512 .f32) (X1 : Vec Ideal S8x1024x512 .bf16) (X2 : (⟨S1, .i32⟩ : BufTy).Contents (Elt Ideal)) (X3 X4 X5 : Vec Ideal S1024x512 .f32)
    (r : Fin 256) (s : Fin 512) (R : Fin 1024) (n : Fin 8) (hn : ∀ y, (X2 y).toNat = n.val)
    (e0 : x0 (ix3 0 r s) = X0 (ix3 n R s))
    (e1 : ∀ j, x1 (ix3 j r s) = X1 (ix3 j R s))
    (e2 : x2 (ix2 r s) = X3 (ix2 R s))
    (e3 : x3 (ix2 r s) = X4 (ix2 R s))
    (e4 : x4 (ix2 r s) = X5 (ix2 R s)) :
    out0_A_5 (F := Ideal) c i a0 h0 a1 h1 a2 h2 a3 h3 a4 h4 a5 h5 a6 h6 a7 h7 a8 h8 x0 x1 x2 x3 x4 xt (ix2 r s)
      = Cert.AdamWMlpInRefIdeal.Read.val_main_v9 (F := Ideal) X0 X1 X2 (ix2 R s) := by
  have hz : (![0, 0] : Fin 2 → Nat) = fun _ => 0 := by decide
  unfold out0_A_5
  rw [View.read_writes_eq_canon _ _ _ (cover0_A_5 c i a0 h0 a1 h1 a2 h2 a3 h3 a4 h4 a5 h5 a6 h6 a7 h7 a8 h8 x0 x1 x2 x3 x4 xt)]
  unfold kernelRun0_A
  dsimp only
  sl_unfold_words
  rw [View.canon_unit_zero hz]
  simp only [View.readAt_eq_ld, h0.read_unread, h1.read_unread, h2.read_unread, h3.read_unread, h4.read_unread, View.ld_unit_zero (S := S256x512) hz]
  have own := own_at X0 X2 n hn R s
  unfold_payloads
  pointwise [Cert.AdamWMlpInRefIdeal.Read.val_main_v7, Cert.AdamWMlpInRefIdeal.Read.val_main_cst_1, Cert.AdamWMlpInRefIdeal.Read.val_main_v8,
    Cert.AdamWMlpInRefIdeal.Read.val_main_v9, Cert.AdamWMlpInRefIdeal.Read.val_main_cst_2, Cert.AdamWMlpInRefIdeal.Read.val_main_v10,
    Cert.AdamWMlpInRefIdeal.Read.val_main_v11, Cert.AdamWMlpInRefIdeal.Read.val_main_cst_3, Cert.AdamWMlpInRefIdeal.Read.val_main_v12,
    Cert.AdamWMlpInRefIdeal.Read.val_main_v13, Cert.AdamWMlpInRefIdeal.Read.val_main_v14, Cert.AdamWMlpInRefIdeal.Read.val_main_cst_4,
    Cert.AdamWMlpInRefIdeal.Read.val_main_v15, Cert.AdamWMlpInRefIdeal.Read.val_main_v16, Cert.AdamWMlpInRefIdeal.Read.val_main_v17,
    Cert.AdamWMlpInRefIdeal.Read.val_main_cst_5, Cert.AdamWMlpInRefIdeal.Read.val_main_v18, Cert.AdamWMlpInRefIdeal.Read.val_main_v19,
    Cert.AdamWMlpInRefIdeal.Read.val_main_v20, Cert.AdamWMlpInRefIdeal.Read.val_main_cst_6, Cert.AdamWMlpInRefIdeal.Read.val_main_v21,
    Cert.AdamWMlpInRefIdeal.Read.val_main_v22, Cert.AdamWMlpInRefIdeal.Read.val_main_cst_7, Cert.AdamWMlpInRefIdeal.Read.val_main_v23,
    Cert.AdamWMlpInRefIdeal.Read.val_main_v24, Cert.AdamWMlpInRefIdeal.Read.val_main_v25, Cert.AdamWMlpInRefIdeal.Read.val_main_cst_8,
    Cert.AdamWMlpInRefIdeal.Read.val_main_v26, Cert.AdamWMlpInRefIdeal.Read.val_main_v27, Cert.AdamWMlpInRefIdeal.Read.val_main_v28,
    Cert.AdamWMlpInRefIdeal.Read.val_main_cst_9, Cert.AdamWMlpInRefIdeal.Read.val_main_v29, Cert.AdamWMlpInRefIdeal.Read.val_main_v30,
    Cert.AdamWMlpInRefIdeal.Read.val_main_v31, Cert.AdamWMlpInRefIdeal.Read.val_main_cst_10, Cert.AdamWMlpInRefIdeal.Read.val_main_v32,
    Cert.AdamWMlpInRefIdeal.Read.val_main_v33]
  simp only [own, e0, e1, e2, e3, e4, Fin.sum_univ_eight, add_assoc, zero_add]

theorem same6 (c : Dev nD) (i : grid0.Coords) (a0 : Memref sig .tc .vmem S1x256x512 .f32) (h0 : a0.IsWhole)
    (a1 : Memref sig .tc .vmem S8x256x512 .bf16) (h1 : a1.IsWhole)
    (a2 : Memref sig .tc .vmem S256x512 .f32) (h2 : a2.IsWhole)
    (a3 : Memref sig .tc .vmem S256x512 .f32) (h3 : a3.IsWhole)
    (a4 : Memref sig .tc .vmem S256x512 .f32) (h4 : a4.IsWhole)
    (a5 : Memref sig .tc .vmem S256x512 .f32) (h5 : a5.IsWhole)
    (a6 : Memref sig .tc .vmem S256x512 .f32) (h6 : a6.IsWhole)
    (a7 : Memref sig .tc .vmem S256x512 .f32) (h7 : a7.IsWhole)
    (a8 : Memref sig .tc .vmem S256x512 .f32) (h8 : a8.IsWhole)
    (x0 : Vec Ideal S1x256x512 .f32) (x1 : Vec Ideal S8x256x512 .bf16) (x2 : Vec Ideal S256x512 .f32) (x3 : Vec Ideal S256x512 .f32) (x4 : Vec Ideal S256x512 .f32)
    (xt : TbBuf0 (F := Ideal) c tbM0_0)
    (X0 : Vec Ideal S8x1024x512 .f32) (X1 : Vec Ideal S8x1024x512 .bf16) (X2 : (⟨S1, .i32⟩ : BufTy).Contents (Elt Ideal)) (X3 X4 X5 : Vec Ideal S1024x512 .f32)
    (r : Fin 256) (s : Fin 512) (R : Fin 1024) (n : Fin 8) (hn : ∀ y, (X2 y).toNat = n.val)
    (e0 : x0 (ix3 0 r s) = X0 (ix3 n R s))
    (e1 : ∀ j, x1 (ix3 j r s) = X1 (ix3 j R s))
    (e2 : x2 (ix2 r s) = X3 (ix2 R s))
    (e3 : x3 (ix2 r s) = X4 (ix2 R s))
    (e4 : x4 (ix2 r s) = X5 (ix2 R s)) :
    out0_A_6 (F := Ideal) c i a0 h0 a1 h1 a2 h2 a3 h3 a4 h4 a5 h5 a6 h6 a7 h7 a8 h8 x0 x1 x2 x3 x4 xt (ix2 r s)
      = Cert.AdamWMlpInRefIdeal.Read.val_main_v33 (F := Ideal) X0 X1 X2 X3 X4 X5 (ix2 R s) := by
  have hz : (![0, 0] : Fin 2 → Nat) = fun _ => 0 := by decide
  unfold out0_A_6
  rw [View.read_writes_eq_canon _ _ _ (cover0_A_6 c i a0 h0 a1 h1 a2 h2 a3 h3 a4 h4 a5 h5 a6 h6 a7 h7 a8 h8 x0 x1 x2 x3 x4 xt)]
  unfold kernelRun0_A
  dsimp only
  sl_unfold_words
  rw [View.canon_unit_zero hz]
  simp only [View.readAt_eq_ld, h0.read_unread, h1.read_unread, h2.read_unread, h3.read_unread, h4.read_unread, View.ld_unit_zero (S := S256x512) hz]
  have own := own_at X0 X2 n hn R s
  unfold_payloads
  pointwise [Cert.AdamWMlpInRefIdeal.Read.val_main_v7, Cert.AdamWMlpInRefIdeal.Read.val_main_cst_1, Cert.AdamWMlpInRefIdeal.Read.val_main_v8,
    Cert.AdamWMlpInRefIdeal.Read.val_main_v9, Cert.AdamWMlpInRefIdeal.Read.val_main_cst_2, Cert.AdamWMlpInRefIdeal.Read.val_main_v10,
    Cert.AdamWMlpInRefIdeal.Read.val_main_v11, Cert.AdamWMlpInRefIdeal.Read.val_main_cst_3, Cert.AdamWMlpInRefIdeal.Read.val_main_v12,
    Cert.AdamWMlpInRefIdeal.Read.val_main_v13, Cert.AdamWMlpInRefIdeal.Read.val_main_v14, Cert.AdamWMlpInRefIdeal.Read.val_main_cst_4,
    Cert.AdamWMlpInRefIdeal.Read.val_main_v15, Cert.AdamWMlpInRefIdeal.Read.val_main_v16, Cert.AdamWMlpInRefIdeal.Read.val_main_v17,
    Cert.AdamWMlpInRefIdeal.Read.val_main_cst_5, Cert.AdamWMlpInRefIdeal.Read.val_main_v18, Cert.AdamWMlpInRefIdeal.Read.val_main_v19,
    Cert.AdamWMlpInRefIdeal.Read.val_main_v20, Cert.AdamWMlpInRefIdeal.Read.val_main_cst_6, Cert.AdamWMlpInRefIdeal.Read.val_main_v21,
    Cert.AdamWMlpInRefIdeal.Read.val_main_v22, Cert.AdamWMlpInRefIdeal.Read.val_main_cst_7, Cert.AdamWMlpInRefIdeal.Read.val_main_v23,
    Cert.AdamWMlpInRefIdeal.Read.val_main_v24, Cert.AdamWMlpInRefIdeal.Read.val_main_v25, Cert.AdamWMlpInRefIdeal.Read.val_main_cst_8,
    Cert.AdamWMlpInRefIdeal.Read.val_main_v26, Cert.AdamWMlpInRefIdeal.Read.val_main_v27, Cert.AdamWMlpInRefIdeal.Read.val_main_v28,
    Cert.AdamWMlpInRefIdeal.Read.val_main_cst_9, Cert.AdamWMlpInRefIdeal.Read.val_main_v29, Cert.AdamWMlpInRefIdeal.Read.val_main_v30,
    Cert.AdamWMlpInRefIdeal.Read.val_main_v31, Cert.AdamWMlpInRefIdeal.Read.val_main_cst_10, Cert.AdamWMlpInRefIdeal.Read.val_main_v32,
    Cert.AdamWMlpInRefIdeal.Read.val_main_v33]
  simp only [own, e0, e1, e2, e3, e4, Fin.sum_univ_eight, add_assoc, zero_add]

theorem same7 (c : Dev nD) (i : grid0.Coords) (a0 : Memref sig .tc .vmem S1x256x512 .f32) (h0 : a0.IsWhole)
    (a1 : Memref sig .tc .vmem S8x256x512 .bf16) (h1 : a1.IsWhole)
    (a2 : Memref sig .tc .vmem S256x512 .f32) (h2 : a2.IsWhole)
    (a3 : Memref sig .tc .vmem S256x512 .f32) (h3 : a3.IsWhole)
    (a4 : Memref sig .tc .vmem S256x512 .f32) (h4 : a4.IsWhole)
    (a5 : Memref sig .tc .vmem S256x512 .f32) (h5 : a5.IsWhole)
    (a6 : Memref sig .tc .vmem S256x512 .f32) (h6 : a6.IsWhole)
    (a7 : Memref sig .tc .vmem S256x512 .f32) (h7 : a7.IsWhole)
    (a8 : Memref sig .tc .vmem S256x512 .f32) (h8 : a8.IsWhole)
    (x0 : Vec Ideal S1x256x512 .f32) (x1 : Vec Ideal S8x256x512 .bf16) (x2 : Vec Ideal S256x512 .f32) (x3 : Vec Ideal S256x512 .f32) (x4 : Vec Ideal S256x512 .f32)
    (xt : TbBuf0 (F := Ideal) c tbM0_0)
    (X0 : Vec Ideal S8x1024x512 .f32) (X1 : Vec Ideal S8x1024x512 .bf16) (X2 : (⟨S1, .i32⟩ : BufTy).Contents (Elt Ideal)) (X3 X4 X5 : Vec Ideal S1024x512 .f32)
    (r : Fin 256) (s : Fin 512) (R : Fin 1024) (n : Fin 8) (hn : ∀ y, (X2 y).toNat = n.val)
    (e0 : x0 (ix3 0 r s) = X0 (ix3 n R s))
    (e1 : ∀ j, x1 (ix3 j r s) = X1 (ix3 j R s))
    (e2 : x2 (ix2 r s) = X3 (ix2 R s))
    (e3 : x3 (ix2 r s) = X4 (ix2 R s))
    (e4 : x4 (ix2 r s) = X5 (ix2 R s)) :
    out0_A_7 (F := Ideal) c i a0 h0 a1 h1 a2 h2 a3 h3 a4 h4 a5 h5 a6 h6 a7 h7 a8 h8 x0 x1 x2 x3 x4 xt (ix2 r s)
      = Cert.AdamWMlpInRefIdeal.Read.val_main_v14 (F := Ideal) X0 X1 X2 X4 (ix2 R s) := by
  have hz : (![0, 0] : Fin 2 → Nat) = fun _ => 0 := by decide
  unfold out0_A_7
  rw [View.read_writes_eq_canon _ _ _ (cover0_A_7 c i a0 h0 a1 h1 a2 h2 a3 h3 a4 h4 a5 h5 a6 h6 a7 h7 a8 h8 x0 x1 x2 x3 x4 xt)]
  unfold kernelRun0_A
  dsimp only
  sl_unfold_words
  rw [View.canon_unit_zero hz]
  simp only [View.readAt_eq_ld, h0.read_unread, h1.read_unread, h2.read_unread, h3.read_unread, h4.read_unread, View.ld_unit_zero (S := S256x512) hz]
  have own := own_at X0 X2 n hn R s
  unfold_payloads
  pointwise [Cert.AdamWMlpInRefIdeal.Read.val_main_v7, Cert.AdamWMlpInRefIdeal.Read.val_main_cst_1, Cert.AdamWMlpInRefIdeal.Read.val_main_v8,
    Cert.AdamWMlpInRefIdeal.Read.val_main_v9, Cert.AdamWMlpInRefIdeal.Read.val_main_cst_2, Cert.AdamWMlpInRefIdeal.Read.val_main_v10,
    Cert.AdamWMlpInRefIdeal.Read.val_main_v11, Cert.AdamWMlpInRefIdeal.Read.val_main_cst_3, Cert.AdamWMlpInRefIdeal.Read.val_main_v12,
    Cert.AdamWMlpInRefIdeal.Read.val_main_v13, Cert.AdamWMlpInRefIdeal.Read.val_main_v14, Cert.AdamWMlpInRefIdeal.Read.val_main_cst_4,
    Cert.AdamWMlpInRefIdeal.Read.val_main_v15, Cert.AdamWMlpInRefIdeal.Read.val_main_v16, Cert.AdamWMlpInRefIdeal.Read.val_main_v17,
    Cert.AdamWMlpInRefIdeal.Read.val_main_cst_5, Cert.AdamWMlpInRefIdeal.Read.val_main_v18, Cert.AdamWMlpInRefIdeal.Read.val_main_v19,
    Cert.AdamWMlpInRefIdeal.Read.val_main_v20, Cert.AdamWMlpInRefIdeal.Read.val_main_cst_6, Cert.AdamWMlpInRefIdeal.Read.val_main_v21,
    Cert.AdamWMlpInRefIdeal.Read.val_main_v22, Cert.AdamWMlpInRefIdeal.Read.val_main_cst_7, Cert.AdamWMlpInRefIdeal.Read.val_main_v23,
    Cert.AdamWMlpInRefIdeal.Read.val_main_v24, Cert.AdamWMlpInRefIdeal.Read.val_main_v25, Cert.AdamWMlpInRefIdeal.Read.val_main_cst_8,
    Cert.AdamWMlpInRefIdeal.Read.val_main_v26, Cert.AdamWMlpInRefIdeal.Read.val_main_v27, Cert.AdamWMlpInRefIdeal.Read.val_main_v28,
    Cert.AdamWMlpInRefIdeal.Read.val_main_cst_9, Cert.AdamWMlpInRefIdeal.Read.val_main_v29, Cert.AdamWMlpInRefIdeal.Read.val_main_v30,
    Cert.AdamWMlpInRefIdeal.Read.val_main_v31, Cert.AdamWMlpInRefIdeal.Read.val_main_cst_10, Cert.AdamWMlpInRefIdeal.Read.val_main_v32,
    Cert.AdamWMlpInRefIdeal.Read.val_main_v33]
  simp only [own, e0, e1, e2, e3, e4, Fin.sum_univ_eight, add_assoc, zero_add]

theorem same8 (c : Dev nD) (i : grid0.Coords) (a0 : Memref sig .tc .vmem S1x256x512 .f32) (h0 : a0.IsWhole)
    (a1 : Memref sig .tc .vmem S8x256x512 .bf16) (h1 : a1.IsWhole)
    (a2 : Memref sig .tc .vmem S256x512 .f32) (h2 : a2.IsWhole)
    (a3 : Memref sig .tc .vmem S256x512 .f32) (h3 : a3.IsWhole)
    (a4 : Memref sig .tc .vmem S256x512 .f32) (h4 : a4.IsWhole)
    (a5 : Memref sig .tc .vmem S256x512 .f32) (h5 : a5.IsWhole)
    (a6 : Memref sig .tc .vmem S256x512 .f32) (h6 : a6.IsWhole)
    (a7 : Memref sig .tc .vmem S256x512 .f32) (h7 : a7.IsWhole)
    (a8 : Memref sig .tc .vmem S256x512 .f32) (h8 : a8.IsWhole)
    (x0 : Vec Ideal S1x256x512 .f32) (x1 : Vec Ideal S8x256x512 .bf16) (x2 : Vec Ideal S256x512 .f32) (x3 : Vec Ideal S256x512 .f32) (x4 : Vec Ideal S256x512 .f32)
    (xt : TbBuf0 (F := Ideal) c tbM0_0)
    (X0 : Vec Ideal S8x1024x512 .f32) (X1 : Vec Ideal S8x1024x512 .bf16) (X2 : (⟨S1, .i32⟩ : BufTy).Contents (Elt Ideal)) (X3 X4 X5 : Vec Ideal S1024x512 .f32)
    (r : Fin 256) (s : Fin 512) (R : Fin 1024) (n : Fin 8) (hn : ∀ y, (X2 y).toNat = n.val)
    (e0 : x0 (ix3 0 r s) = X0 (ix3 n R s))
    (e1 : ∀ j, x1 (ix3 j r s) = X1 (ix3 j R s))
    (e2 : x2 (ix2 r s) = X3 (ix2 R s))
    (e3 : x3 (ix2 r s) = X4 (ix2 R s))
    (e4 : x4 (ix2 r s) = X5 (ix2 R s)) :
    out0_A_8 (F := Ideal) c i a0 h0 a1 h1 a2 h2 a3 h3 a4 h4 a5 h5 a6 h6 a7 h7 a8 h8 x0 x1 x2 x3 x4 xt (ix2 r s)
      = Cert.AdamWMlpInRefIdeal.Read.val_main_v20 (F := Ideal) X0 X1 X2 X5 (ix2 R s) := by
  have hz : (![0, 0] : Fin 2 → Nat) = fun _ => 0 := by decide
  unfold out0_A_8
  rw [View.read_writes_eq_canon _ _ _ (cover0_A_8 c i a0 h0 a1 h1 a2 h2 a3 h3 a4 h4 a5 h5 a6 h6 a7 h7 a8 h8 x0 x1 x2 x3 x4 xt)]
  unfold kernelRun0_A
  dsimp only
  sl_unfold_words
  rw [View.canon_unit_zero hz]
  simp only [View.readAt_eq_ld, h0.read_unread, h1.read_unread, h2.read_unread, h3.read_unread, h4.read_unread, View.ld_unit_zero (S := S256x512) hz]
  have own := own_at X0 X2 n hn R s
  unfold_payloads
  pointwise [Cert.AdamWMlpInRefIdeal.Read.val_main_v7, Cert.AdamWMlpInRefIdeal.Read.val_main_cst_1, Cert.AdamWMlpInRefIdeal.Read.val_main_v8,
    Cert.AdamWMlpInRefIdeal.Read.val_main_v9, Cert.AdamWMlpInRefIdeal.Read.val_main_cst_2, Cert.AdamWMlpInRefIdeal.Read.val_main_v10,
    Cert.AdamWMlpInRefIdeal.Read.val_main_v11, Cert.AdamWMlpInRefIdeal.Read.val_main_cst_3, Cert.AdamWMlpInRefIdeal.Read.val_main_v12,
    Cert.AdamWMlpInRefIdeal.Read.val_main_v13, Cert.AdamWMlpInRefIdeal.Read.val_main_v14, Cert.AdamWMlpInRefIdeal.Read.val_main_cst_4,
    Cert.AdamWMlpInRefIdeal.Read.val_main_v15, Cert.AdamWMlpInRefIdeal.Read.val_main_v16, Cert.AdamWMlpInRefIdeal.Read.val_main_v17,
    Cert.AdamWMlpInRefIdeal.Read.val_main_cst_5, Cert.AdamWMlpInRefIdeal.Read.val_main_v18, Cert.AdamWMlpInRefIdeal.Read.val_main_v19,
    Cert.AdamWMlpInRefIdeal.Read.val_main_v20, Cert.AdamWMlpInRefIdeal.Read.val_main_cst_6, Cert.AdamWMlpInRefIdeal.Read.val_main_v21,
    Cert.AdamWMlpInRefIdeal.Read.val_main_v22, Cert.AdamWMlpInRefIdeal.Read.val_main_cst_7, Cert.AdamWMlpInRefIdeal.Read.val_main_v23,
    Cert.AdamWMlpInRefIdeal.Read.val_main_v24, Cert.AdamWMlpInRefIdeal.Read.val_main_v25, Cert.AdamWMlpInRefIdeal.Read.val_main_cst_8,
    Cert.AdamWMlpInRefIdeal.Read.val_main_v26, Cert.AdamWMlpInRefIdeal.Read.val_main_v27, Cert.AdamWMlpInRefIdeal.Read.val_main_v28,
    Cert.AdamWMlpInRefIdeal.Read.val_main_cst_9, Cert.AdamWMlpInRefIdeal.Read.val_main_v29, Cert.AdamWMlpInRefIdeal.Read.val_main_v30,
    Cert.AdamWMlpInRefIdeal.Read.val_main_v31, Cert.AdamWMlpInRefIdeal.Read.val_main_cst_10, Cert.AdamWMlpInRefIdeal.Read.val_main_v32,
    Cert.AdamWMlpInRefIdeal.Read.val_main_v33]
  simp only [own, e0, e1, e2, e3, e4, Fin.sum_univ_eight, add_assoc, zero_add]

/-! ## What a grid point reads and writes -/

/-- The argument arrays. -/
abbrev A0 (c : Dev nD) : S8x1024x512.Idx → EReal := m ((c : Thread nD τ).loc main_arg0)
abbrev A1 (c : Dev nD) : S8x1024x512.Idx → EReal := m ((c : Thread nD τ).loc main_arg1)
abbrev A2 (c : Dev nD) : (⟨S1, .i32⟩ : BufTy).Contents (Elt Ideal) := m ((c : Thread nD τ).loc main_arg2)
abbrev A3 (c : Dev nD) : S1024x512.Idx → EReal := m ((c : Thread nD τ).loc main_arg3)
abbrev A4 (c : Dev nD) : S1024x512.Idx → EReal := m ((c : Thread nD τ).loc main_arg4)
abbrev A5 (c : Dev nD) : S1024x512.Idx → EReal := m ((c : Thread nD τ).loc main_arg5)

/-- The row tile of a grid point. -/
abbrev tile (t : Fin grid0.N) : Nat := (grid0.coords t 0).val

theorem tile_lt (t : Fin grid0.N) : tile t < 4 := (grid0.coords t 0).isLt

theorem row_lt (t : Fin grid0.N) (r : Fin 256) : tile t * 256 + r.val < 1024 := by have := tile_lt t; omega

theorem maps : ∀ t : Fin grid0.N,
    cc0_transform_1 (grid0.coords t) = ![0, tile t, 0]
    ∧ cc0_transform_2 (grid0.coords t) = ![tile t, 0] ∧ cc0_transform_3 (grid0.coords t) = ![tile t, 0]
    ∧ cc0_transform_4 (grid0.coords t) = ![tile t, 0] ∧ cc0_transform_5 (grid0.coords t) = ![tile t, 0]
    ∧ cc0_transform_6 (grid0.coords t) = ![tile t, 0] ∧ cc0_transform_7 (grid0.coords t) = ![tile t, 0]
    ∧ cc0_transform_8 (grid0.coords t) = ![tile t, 0] := by decide +kernel

theorem tile_onto : ∀ a : Fin 4, ∃ t : Fin grid0.N, tile t = a.val := by decide +kernel

theorem flushes5 : ∀ t : Fin grid0.N, Pipeline.Window.flushOf grid0 true cc0_transform_5 t = true := by decide +kernel
theorem flushes6 : ∀ t : Fin grid0.N, Pipeline.Window.flushOf grid0 true cc0_transform_6 t = true := by decide +kernel
theorem flushes7 : ∀ t : Fin grid0.N, Pipeline.Window.flushOf grid0 true cc0_transform_7 t = true := by decide +kernel
theorem flushes8 : ∀ t : Fin grid0.N, Pipeline.Window.flushOf grid0 true cc0_transform_8 t = true := by decide +kernel

variable (hO : Ok m)

theorem in0_at (c : Dev nD) (t : Fin grid0.N) (n : Fin 8) (hn : ∀ y, (A2 m c y).toNat = n.val) (r : Fin 256) (s : Fin 512) :
    iblk m hO c 0 t (ix3 0 r s) = A0 m c (ix3 n ⟨tile t * 256 + r.val, row_lt t r⟩ s) := by
  obtain rfl : c = 0 := Subsingleton.elim _ _
  show m (((0 : Dev nD) : Thread nD τ).loc main_arg0) ((((cfgM m hO).win 0).rect t).emb (ix3 0 r s)) = _
  refine congrArg _ (DeviceWord.idx_ext₃ ?_ ?_ ?_)
  · refine (((cfgM m hO).win 0).rect_emb_val t (ix3 0 r s : S1x256x512.Idx) (0 : Fin 3)).trans ?_
    show (BitVec.toNat _) * 1 + 0 = n.val
    rw [Nat.mul_one, Nat.add_zero]
    exact hn _
  · refine (((cfgM m hO).win 0).rect_emb_val t (ix3 0 r s : S1x256x512.Idx) (1 : Fin 3)).trans ?_
    show (BitVec.ofNat 32 (tile t)).toNat * 256 + r.val = tile t * 256 + r.val
    have := tile_lt t
    rw [BitVec.toNat_ofNat, Nat.mod_eq_of_lt (by omega)]
  · refine (((cfgM m hO).win 0).rect_emb_val t (ix3 0 r s : S1x256x512.Idx) (2 : Fin 3)).trans ?_
    show 0 * 512 + s.val = s.val
    omega

theorem in1_at (c : Dev nD) (t : Fin grid0.N) (j : Fin 8) (r : Fin 256) (s : Fin 512) :
    iblk m hO c 1 t (ix3 j r s) = A1 m c (ix3 j ⟨tile t * 256 + r.val, row_lt t r⟩ s) := by
  have e : ((cfgM m hO).win 1).index t = ![0, tile t, 0] := (maps t).1
  show m ((c : Thread nD τ).loc main_arg1) ((((cfgM m hO).win 1).rect t).emb (ix3 j r s)) = _
  exact congrArg _ (DeviceWord.idx_ext₃
    ((((cfgM m hO).win 1).rect_emb_val t (ix3 j r s : S8x256x512.Idx) (0 : Fin 3)).trans (by rw [e]; show 0 * 8 + j.val = j.val; omega))
    ((((cfgM m hO).win 1).rect_emb_val t (ix3 j r s : S8x256x512.Idx) (1 : Fin 3)).trans (by rw [e]; rfl))
    ((((cfgM m hO).win 1).rect_emb_val t (ix3 j r s : S8x256x512.Idx) (2 : Fin 3)).trans (by rw [e]; show 0 * 512 + s.val = s.val; omega)))

theorem in2_at (c : Dev nD) (t : Fin grid0.N) (r : Fin 256) (s : Fin 512) :
    iblk m hO c 2 t (ix2 r s) = A3 m c (ix2 ⟨tile t * 256 + r.val, row_lt t r⟩ s) := by
  have e : ((cfgM m hO).win 2).index t = ![tile t, 0] := (maps t).2.1
  show m ((c : Thread nD τ).loc main_arg3) ((((cfgM m hO).win 2).rect t).emb (ix2 r s)) = _
  exact congrArg _ (Shape.idx_ext₂
    ((((cfgM m hO).win 2).rect_emb_val t (ix2 r s : S256x512.Idx) (0 : Fin 2)).trans (by rw [e]; rfl))
    ((((cfgM m hO).win 2).rect_emb_val t (ix2 r s : S256x512.Idx) (1 : Fin 2)).trans (by rw [e]; show 0 * 512 + s.val = s.val; omega)))

theorem in3_at (c : Dev nD) (t : Fin grid0.N) (r : Fin 256) (s : Fin 512) :
    iblk m hO c 3 t (ix2 r s) = A4 m c (ix2 ⟨tile t * 256 + r.val, row_lt t r⟩ s) := by
  have e : ((cfgM m hO).win 3).index t = ![tile t, 0] := (maps t).2.2.1
  show m ((c : Thread nD τ).loc main_arg4) ((((cfgM m hO).win 3).rect t).emb (ix2 r s)) = _
  exact congrArg _ (Shape.idx_ext₂
    ((((cfgM m hO).win 3).rect_emb_val t (ix2 r s : S256x512.Idx) (0 : Fin 2)).trans (by rw [e]; rfl))
    ((((cfgM m hO).win 3).rect_emb_val t (ix2 r s : S256x512.Idx) (1 : Fin 2)).trans (by rw [e]; show 0 * 512 + s.val = s.val; omega)))

theorem in4_at (c : Dev nD) (t : Fin grid0.N) (r : Fin 256) (s : Fin 512) :
    iblk m hO c 4 t (ix2 r s) = A5 m c (ix2 ⟨tile t * 256 + r.val, row_lt t r⟩ s) := by
  have e : ((cfgM m hO).win 4).index t = ![tile t, 0] := (maps t).2.2.2.1
  show m ((c : Thread nD τ).loc main_arg5) ((((cfgM m hO).win 4).rect t).emb (ix2 r s)) = _
  exact congrArg _ (Shape.idx_ext₂
    ((((cfgM m hO).win 4).rect_emb_val t (ix2 r s : S256x512.Idx) (0 : Fin 2)).trans (by rw [e]; rfl))
    ((((cfgM m hO).win 4).rect_emb_val t (ix2 r s : S256x512.Idx) (1 : Fin 2)).trans (by rw [e]; show 0 * 512 + s.val = s.val; omega)))

/-- The gradient, as a function of the argument arrays: the reference's own term. -/
def G5 (c : Dev nD) : S1024x512.Idx → EReal :=
  Cert.AdamWMlpInRefIdeal.Read.val_main_v9 (F := Ideal) (A0 m c) (A1 m c) (A2 m c)

theorem place5 (t : Fin grid0.N) (r : Fin 256) (s : Fin 512) :
    ((((cfgM m hO).win 5).rect t).emb (ix2 r s : S256x512.Idx) : S1024x512.Idx) = ix2 ⟨tile t * 256 + r.val, row_lt t r⟩ s := by
  have e : ((cfgM m hO).win 5).index t = ![tile t, 0] := (maps t).2.2.2.2.1
  exact Shape.idx_ext₂
    ((((cfgM m hO).win 5).rect_emb_val t (ix2 r s : S256x512.Idx) (0 : Fin 2)).trans (by rw [e]; rfl))
    ((((cfgM m hO).win 5).rect_emb_val t (ix2 r s : S256x512.Idx) (1 : Fin 2)).trans (by rw [e]; show 0 * 512 + s.val = s.val; omega))

theorem out5_at (c : Dev nD) (n : Fin 8) (hn : ∀ y, (A2 m c y).toNat = n.val) (t : Fin grid0.N) (r : Fin 256) (s : Fin 512) :
    (outsAt0 m hO c t).1 (ix2 r s) = G5 m c (ix2 ⟨tile t * 256 + r.val, row_lt t r⟩ s) := by
  unfold outsAt0 G5
  dsimp only
  exact same5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (A0 m c) (A1 m c) (A2 m c) (A3 m c) (A4 m c) (A5 m c) r s _
    n hn (in0_at m hO c t n hn r s) (fun j => in1_at m hO c t j r s) (in2_at m hO c t r s) (in3_at m hO c t r s) (in4_at m hO c t r s)

theorem flushed5_eq (c : Dev nD) (n : Fin 8) (hn : ∀ y, (A2 m c y).toNat = n.val) (t : Fin grid0.N) :
    (dats m hO 0 c).flushed 5 t = (((cfgM m hO).win 5).blk t).view.read (Elt Ideal) (G5 m c) := by
  show ((cfgM m hO).win 5).cut (grid0.coords t) ((dats m hO 0 c).after 5 t) = _
  rw [after0_5]
  refine funext fun (y : S256x512.Idx) => ?_
  obtain ⟨r, s, rfl⟩ : ∃ (r : Fin 256) (s : Fin 512), y = ix2 r s := ⟨y 0, y 1, eq_ix2 y⟩
  exact (out5_at m hO c n hn t r s).trans (congrArg (G5 m c) (place5 m hO t r s).symm)

theorem covered5 (c : Dev nD) (i : S1024x512.Idx) :
    ∃ t : Fin grid0.N, ((cfgM m hO).win 5).flush t = true ∧ i ∈ (((cfgM m hO).win 5).blk t).view.set := by
  have h0 : (i 0).val < 1024 := (i 0).isLt
  obtain ⟨t, e0⟩ := tile_onto ⟨(i 0).val / 256, by omega⟩
  refine ⟨t, flushes5 t, ?_⟩
  have k : (((cfgM m hO).win 5).blk t).view.emb (ix2 (⟨(i 0).val % 256, by omega⟩ : Fin 256) (i 1) : S256x512.Idx) = i :=
    (place5 m hO t _ _).trans (Shape.idx_ext₂ (by show tile t * 256 + (i 0).val % 256 = (i 0).val; rw [e0]; dsimp only; omega) rfl)
  exact k ▸ View.emb_mem_set _ _

theorem final5 (c : Dev nD) (n : Fin 8) (hn : ∀ y, (A2 m c y).toNat = n.val) :
    (dats m hO 0 c).arrAt 5 (cfgM m hO).N = G5 m c :=
  (dats m hO 0 c).arrAt_eq_of_cover 5 (G5 m c) (fun t _ => flushed5_eq m hO c n hn t) (covered5 m hO c)

/-- The weight's step, as a function of the argument arrays: the reference's own term. -/
def G6 (c : Dev nD) : S1024x512.Idx → EReal :=
  Cert.AdamWMlpInRefIdeal.Read.val_main_v33 (F := Ideal) (A0 m c) (A1 m c) (A2 m c) (A3 m c) (A4 m c) (A5 m c)

theorem place6 (t : Fin grid0.N) (r : Fin 256) (s : Fin 512) :
    ((((cfgM m hO).win 6).rect t).emb (ix2 r s : S256x512.Idx) : S1024x512.Idx) = ix2 ⟨tile t * 256 + r.val, row_lt t r⟩ s := by
  have e : ((cfgM m hO).win 6).index t = ![tile t, 0] := (maps t).2.2.2.2.2.1
  exact Shape.idx_ext₂
    ((((cfgM m hO).win 6).rect_emb_val t (ix2 r s : S256x512.Idx) (0 : Fin 2)).trans (by rw [e]; rfl))
    ((((cfgM m hO).win 6).rect_emb_val t (ix2 r s : S256x512.Idx) (1 : Fin 2)).trans (by rw [e]; show 0 * 512 + s.val = s.val; omega))

theorem out6_at (c : Dev nD) (n : Fin 8) (hn : ∀ y, (A2 m c y).toNat = n.val) (t : Fin grid0.N) (r : Fin 256) (s : Fin 512) :
    (outsAt0 m hO c t).2.1 (ix2 r s) = G6 m c (ix2 ⟨tile t * 256 + r.val, row_lt t r⟩ s) := by
  unfold outsAt0 G6
  dsimp only
  exact same6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (A0 m c) (A1 m c) (A2 m c) (A3 m c) (A4 m c) (A5 m c) r s _
    n hn (in0_at m hO c t n hn r s) (fun j => in1_at m hO c t j r s) (in2_at m hO c t r s) (in3_at m hO c t r s) (in4_at m hO c t r s)

theorem flushed6_eq (c : Dev nD) (n : Fin 8) (hn : ∀ y, (A2 m c y).toNat = n.val) (t : Fin grid0.N) :
    (dats m hO 0 c).flushed 6 t = (((cfgM m hO).win 6).blk t).view.read (Elt Ideal) (G6 m c) := by
  show ((cfgM m hO).win 6).cut (grid0.coords t) ((dats m hO 0 c).after 6 t) = _
  rw [after0_6]
  refine funext fun (y : S256x512.Idx) => ?_
  obtain ⟨r, s, rfl⟩ : ∃ (r : Fin 256) (s : Fin 512), y = ix2 r s := ⟨y 0, y 1, eq_ix2 y⟩
  exact (out6_at m hO c n hn t r s).trans (congrArg (G6 m c) (place6 m hO t r s).symm)

theorem covered6 (c : Dev nD) (i : S1024x512.Idx) :
    ∃ t : Fin grid0.N, ((cfgM m hO).win 6).flush t = true ∧ i ∈ (((cfgM m hO).win 6).blk t).view.set := by
  have h0 : (i 0).val < 1024 := (i 0).isLt
  obtain ⟨t, e0⟩ := tile_onto ⟨(i 0).val / 256, by omega⟩
  refine ⟨t, flushes6 t, ?_⟩
  have k : (((cfgM m hO).win 6).blk t).view.emb (ix2 (⟨(i 0).val % 256, by omega⟩ : Fin 256) (i 1) : S256x512.Idx) = i :=
    (place6 m hO t _ _).trans (Shape.idx_ext₂ (by show tile t * 256 + (i 0).val % 256 = (i 0).val; rw [e0]; dsimp only; omega) rfl)
  exact k ▸ View.emb_mem_set _ _

theorem final6 (c : Dev nD) (n : Fin 8) (hn : ∀ y, (A2 m c y).toNat = n.val) :
    (dats m hO 0 c).arrAt 6 (cfgM m hO).N = G6 m c :=
  (dats m hO 0 c).arrAt_eq_of_cover 6 (G6 m c) (fun t _ => flushed6_eq m hO c n hn t) (covered6 m hO c)

/-- The first moment, as a function of the argument arrays: the reference's own term. -/
def G7 (c : Dev nD) : S1024x512.Idx → EReal :=
  Cert.AdamWMlpInRefIdeal.Read.val_main_v14 (F := Ideal) (A0 m c) (A1 m c) (A2 m c) (A4 m c)

theorem place7 (t : Fin grid0.N) (r : Fin 256) (s : Fin 512) :
    ((((cfgM m hO).win 7).rect t).emb (ix2 r s : S256x512.Idx) : S1024x512.Idx) = ix2 ⟨tile t * 256 + r.val, row_lt t r⟩ s := by
  have e : ((cfgM m hO).win 7).index t = ![tile t, 0] := (maps t).2.2.2.2.2.2.1
  exact Shape.idx_ext₂
    ((((cfgM m hO).win 7).rect_emb_val t (ix2 r s : S256x512.Idx) (0 : Fin 2)).trans (by rw [e]; rfl))
    ((((cfgM m hO).win 7).rect_emb_val t (ix2 r s : S256x512.Idx) (1 : Fin 2)).trans (by rw [e]; show 0 * 512 + s.val = s.val; omega))

theorem out7_at (c : Dev nD) (n : Fin 8) (hn : ∀ y, (A2 m c y).toNat = n.val) (t : Fin grid0.N) (r : Fin 256) (s : Fin 512) :
    (outsAt0 m hO c t).2.2.1 (ix2 r s) = G7 m c (ix2 ⟨tile t * 256 + r.val, row_lt t r⟩ s) := by
  unfold outsAt0 G7
  dsimp only
  exact same7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (A0 m c) (A1 m c) (A2 m c) (A3 m c) (A4 m c) (A5 m c) r s _
    n hn (in0_at m hO c t n hn r s) (fun j => in1_at m hO c t j r s) (in2_at m hO c t r s) (in3_at m hO c t r s) (in4_at m hO c t r s)

theorem flushed7_eq (c : Dev nD) (n : Fin 8) (hn : ∀ y, (A2 m c y).toNat = n.val) (t : Fin grid0.N) :
    (dats m hO 0 c).flushed 7 t = (((cfgM m hO).win 7).blk t).view.read (Elt Ideal) (G7 m c) := by
  show ((cfgM m hO).win 7).cut (grid0.coords t) ((dats m hO 0 c).after 7 t) = _
  rw [after0_7]
  refine funext fun (y : S256x512.Idx) => ?_
  obtain ⟨r, s, rfl⟩ : ∃ (r : Fin 256) (s : Fin 512), y = ix2 r s := ⟨y 0, y 1, eq_ix2 y⟩
  exact (out7_at m hO c n hn t r s).trans (congrArg (G7 m c) (place7 m hO t r s).symm)

theorem covered7 (c : Dev nD) (i : S1024x512.Idx) :
    ∃ t : Fin grid0.N, ((cfgM m hO).win 7).flush t = true ∧ i ∈ (((cfgM m hO).win 7).blk t).view.set := by
  have h0 : (i 0).val < 1024 := (i 0).isLt
  obtain ⟨t, e0⟩ := tile_onto ⟨(i 0).val / 256, by omega⟩
  refine ⟨t, flushes7 t, ?_⟩
  have k : (((cfgM m hO).win 7).blk t).view.emb (ix2 (⟨(i 0).val % 256, by omega⟩ : Fin 256) (i 1) : S256x512.Idx) = i :=
    (place7 m hO t _ _).trans (Shape.idx_ext₂ (by show tile t * 256 + (i 0).val % 256 = (i 0).val; rw [e0]; dsimp only; omega) rfl)
  exact k ▸ View.emb_mem_set _ _

theorem final7 (c : Dev nD) (n : Fin 8) (hn : ∀ y, (A2 m c y).toNat = n.val) :
    (dats m hO 0 c).arrAt 7 (cfgM m hO).N = G7 m c :=
  (dats m hO 0 c).arrAt_eq_of_cover 7 (G7 m c) (fun t _ => flushed7_eq m hO c n hn t) (covered7 m hO c)

/-- The second moment, as a function of the argument arrays: the reference's own term. -/
def G8 (c : Dev nD) : S1024x512.Idx → EReal :=
  Cert.AdamWMlpInRefIdeal.Read.val_main_v20 (F := Ideal) (A0 m c) (A1 m c) (A2 m c) (A5 m c)

theorem place8 (t : Fin grid0.N) (r : Fin 256) (s : Fin 512) :
    ((((cfgM m hO).win 8).rect t).emb (ix2 r s : S256x512.Idx) : S1024x512.Idx) = ix2 ⟨tile t * 256 + r.val, row_lt t r⟩ s := by
  have e : ((cfgM m hO).win 8).index t = ![tile t, 0] := (maps t).2.2.2.2.2.2.2
  exact Shape.idx_ext₂
    ((((cfgM m hO).win 8).rect_emb_val t (ix2 r s : S256x512.Idx) (0 : Fin 2)).trans (by rw [e]; rfl))
    ((((cfgM m hO).win 8).rect_emb_val t (ix2 r s : S256x512.Idx) (1 : Fin 2)).trans (by rw [e]; show 0 * 512 + s.val = s.val; omega))

theorem out8_at (c : Dev nD) (n : Fin 8) (hn : ∀ y, (A2 m c y).toNat = n.val) (t : Fin grid0.N) (r : Fin 256) (s : Fin 512) :
    (outsAt0 m hO c t).2.2.2 (ix2 r s) = G8 m c (ix2 ⟨tile t * 256 + r.val, row_lt t r⟩ s) := by
  unfold outsAt0 G8
  dsimp only
  exact same8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (A0 m c) (A1 m c) (A2 m c) (A3 m c) (A4 m c) (A5 m c) r s _
    n hn (in0_at m hO c t n hn r s) (fun j => in1_at m hO c t j r s) (in2_at m hO c t r s) (in3_at m hO c t r s) (in4_at m hO c t r s)

theorem flushed8_eq (c : Dev nD) (n : Fin 8) (hn : ∀ y, (A2 m c y).toNat = n.val) (t : Fin grid0.N) :
    (dats m hO 0 c).flushed 8 t = (((cfgM m hO).win 8).blk t).view.read (Elt Ideal) (G8 m c) := by
  show ((cfgM m hO).win 8).cut (grid0.coords t) ((dats m hO 0 c).after 8 t) = _
  rw [after0_8]
  refine funext fun (y : S256x512.Idx) => ?_
  obtain ⟨r, s, rfl⟩ : ∃ (r : Fin 256) (s : Fin 512), y = ix2 r s := ⟨y 0, y 1, eq_ix2 y⟩
  exact (out8_at m hO c n hn t r s).trans (congrArg (G8 m c) (place8 m hO t r s).symm)

theorem covered8 (c : Dev nD) (i : S1024x512.Idx) :
    ∃ t : Fin grid0.N, ((cfgM m hO).win 8).flush t = true ∧ i ∈ (((cfgM m hO).win 8).blk t).view.set := by
  have h0 : (i 0).val < 1024 := (i 0).isLt
  obtain ⟨t, e0⟩ := tile_onto ⟨(i 0).val / 256, by omega⟩
  refine ⟨t, flushes8 t, ?_⟩
  have k : (((cfgM m hO).win 8).blk t).view.emb (ix2 (⟨(i 0).val % 256, by omega⟩ : Fin 256) (i 1) : S256x512.Idx) = i :=
    (place8 m hO t _ _).trans (Shape.idx_ext₂ (by show tile t * 256 + (i 0).val % 256 = (i 0).val; rw [e0]; dsimp only; omega) rfl)
  exact k ▸ View.emb_mem_set _ _

theorem final8 (c : Dev nD) (n : Fin 8) (hn : ∀ y, (A2 m c y).toNat = n.val) :
    (dats m hO 0 c).arrAt 8 (cfgM m hO).N = G8 m c :=
  (dats m hO 0 c).arrAt_eq_of_cover 8 (G8 m c) (fun t _ => flushed8_eq m hO c n hn t) (covered8 m hO c)

/-- The kernel and the reference leave equal results. -/
theorem algebraic : Cert.algebraic_AdamWMlpInIdeal_AdamWMlpInRefIdeal := fun m g m' g' hpre hagree => by
  have hO := ideal_ok m hpre
  have hw : ∀ (c : Dev nD) (y : S1.Idx), (A2 m c y).toNat = (⟨(A2 m c (ix1 0)).toNat, word_lt (hpre c) _⟩ : Fin 8).val :=
    fun c y => congrArg (fun z : S1.Idx => (A2 m c z).toNat) (DeviceWord.one_index _ _)
  exact ⟨fun c => G5 m c, fun c => G6 m c, fun c => G7 m c, fun c => G8 m c,
    (θ_run _ _ _).mono (fun r h c =>
      ⟨((h.1 c).1 5).trans (final5 m hO c _ (hw c)), ((h.1 c).1 6).trans (final6 m hO c _ (hw c)),
        ((h.1 c).1 7).trans (final7 m hO c _ (hw c)), ((h.1 c).1 8).trans (final8 m hO c _ (hw c)), h.2 c⟩)
      (θ_run_and (run_main m g hO) (unchanged m g hO)),
    (θ_run _ _ _).mono (fun r h c => ⟨(h c).1.trans (by
        rw [(hagree c).1, (hagree c).2.1, (hagree c).2.2.1]; rfl), (h c).2.1.trans (by
        rw [(hagree c).1, (hagree c).2.1, (hagree c).2.2.1, (hagree c).2.2.2.1, (hagree c).2.2.2.2.1, (hagree c).2.2.2.2.2]; rfl), (h c).2.2.1.trans (by
        rw [(hagree c).1, (hagree c).2.1, (hagree c).2.2.1, (hagree c).2.2.2.2.1]; rfl), (h c).2.2.2.1.trans (by
        rw [(hagree c).1, (hagree c).2.1, (hagree c).2.2.1, (hagree c).2.2.2.2.2]; rfl), (h c).2.2.2.2⟩)
      (Cert.AdamWMlpInRefIdeal.Value.run (F := Ideal) m' g')⟩

end Cert.Hand.AdamWMlpIn

end
-- ==== Proof.AdamWMlpOut.lean ====
/-
  The optimiser's step on `w_mlp_out`: the gradient is the device's own block of its product plus the eight blocks it holds
  of what was sent. The kernel adds them one by one, a tile of rows at a time; the reference takes the sum of the eight.
  The own block is the one whose number the device's word names; the precondition says that it names one of the eight.
-/
module

public import proofs.«01_k».proof.Proof.Gen.AdamWMlpOut.Frame
public import proofs.«01_k».proof.Proof.Gen.AdamWMlpOutIdeal.Frame
public import proofs.«01_k».proof.Proof.Gen.AdamWMlpOutRefIdeal.Run
public import proofs.«01_k».proof.Proof.Gen.AdamWMlpOutRefIdeal.Read
public import proofs.«01_k».proof.Proof.Gen.Pre_w_mlp_out_device
public import proofs.«01_k».proof.Defs
public import proofs.«01_k».proof.Proof.DeviceWord
public import Idealize.ShloMosaic.Lib.Pointwise
public import Idealize.ShloMosaic.Lib.Tactic
public import Idealize.ShloMosaic.Lib.Pipeline.Value

@[expose] public section

set_option maxRecDepth 16384

noncomputable section

namespace Cert.Hand.AdamWMlpOut

open Cert.AdamWMlpOutIdeal Cert.AdamWMlpOutIdeal.Gen Idealize.ShloMosaic Idealize.ShloMosaic.TcCoe Idealize.SL.Sem
open Idealize.ShloMosaic.Pipeline (Dat)
open scoped BigOperators

/-! ## What the precondition says -/

/-- The device's word names one of the eight. -/
theorem word_lt {F : FTy → Type} [FloatOps F] {x0 : FVec F Cert.Pre_w_mlp_out_device.S8x512x1024 .f32} {x1 : FVec F Cert.Pre_w_mlp_out_device.S8x512x1024 .bf16}
    {x2 : IVec Cert.Pre_w_mlp_out_device.S1 32} {x3 x4 x5 : FVec F Cert.Pre_w_mlp_out_device.S512x1024 .f32}
    (h : Cert.Pre_w_mlp_out_device.fn x0 x1 x2 x3 x4 x5 = fun _ => 1#1) (y : Cert.Pre_w_mlp_out_device.S1.Idx) : (x2 y).toNat < 8 := by
  have e := congrFun h (fun a => a.elim0)
  simp only [Cert.Pre_w_mlp_out_device.fn, andi, cmpi, constantI, shapeCast] at e
  exact DeviceWord.one_index y _ ▸ DeviceWord.lt_eight e

/-- So the kernel's block of the own product lies inside the array. -/
theorem bits_ok (m : (ℓ : Loc Cert.AdamWMlpOut.nD Cert.AdamWMlpOut.τ Cert.AdamWMlpOut.sig) → Buf (Elt Bits) ℓ) (h : Cert.Pre_AdamWMlpOut m) :
    Cert.AdamWMlpOut.Gen.Ok m := fun i =>
  ⟨fun a => by
    have k := word_lt (h 0)
    have hi : (i 0).val < 2 := (i 0).isLt
    match a with
    | ⟨0, _⟩ => exact DeviceWord.block_le (k _)
    | ⟨1, _⟩ => show ((BitVec.ofNat 32 (i 0).val).toNat + 1) * 256 ≤ 512
                rw [BitVec.toNat_ofNat]; omega
    | ⟨2, _⟩ => show (0 + 1) * 1024 ≤ 1024
                omega, .inl rfl⟩

variable (m : (ℓ : Loc nD τ sig) → Buf (Elt Ideal) ℓ)

theorem ideal_ok (h : Cert.Pre_AdamWMlpOutIdeal m) : Ok m := fun i =>
  ⟨fun a => by
    have k := word_lt (h 0)
    have hi : (i 0).val < 2 := (i 0).isLt
    match a with
    | ⟨0, _⟩ => exact DeviceWord.block_le (k _)
    | ⟨1, _⟩ => show ((BitVec.ofNat 32 (i 0).val).toNat + 1) * 256 ≤ 512
                rw [BitVec.toNat_ofNat]; omega
    | ⟨2, _⟩ => show (0 + 1) * 1024 ≤ 1024
                omega, .inl rfl⟩

/-! ## One element: the kernel's sum and the reference's -/

/-- The own block as the reference reads it: the one block whose number the word is. -/
theorem own_at (X0 : Vec Ideal S8x512x1024 .f32) (X2 : (⟨S1, .i32⟩ : BufTy).Contents (Elt Ideal)) (n : Fin 8)
    (hn : ∀ y, (X2 y).toNat = n.val) (R : Fin 512) (s : Fin 1024) :
    Cert.AdamWMlpOutRefIdeal.Read.val_main_v6 (F := Ideal) X0 X2 (ix2 R s) = X0 (ix3 n R s) := by
  pointwise [Cert.AdamWMlpOutRefIdeal.Read.val_main_v0, Cert.AdamWMlpOutRefIdeal.Read.val_main_v1, Cert.AdamWMlpOutRefIdeal.Read.val_main_v2,
    Cert.AdamWMlpOutRefIdeal.Read.val_main_v3, Cert.AdamWMlpOutRefIdeal.Read.val_main_v4, Cert.AdamWMlpOutRefIdeal.Read.val_main_cst,
    Cert.AdamWMlpOutRefIdeal.Read.val_main_call0_v0, Cert.AdamWMlpOutRefIdeal.Read.val_main_call0_v1, Cert.AdamWMlpOutRefIdeal.Read.val_main_call0_v2,
    Cert.AdamWMlpOutRefIdeal.Read.val_main_v5, Cert.AdamWMlpOutRefIdeal.Read.val_main_cst_0, Cert.AdamWMlpOutRefIdeal.Read.val_main_v6]
  have z : (id (constant (F := Ideal) Cert.AdamWMlpOutRefIdeal.S_ .f32 0#32) : Cert.AdamWMlpOutRefIdeal.S_.Idx → EReal) ix0 = 0 := by
    show (constant (F := Ideal) Cert.AdamWMlpOutRefIdeal.S_ .f32 0#32 : Cert.AdamWMlpOutRefIdeal.S_.Idx → EReal) ix0 = 0
    pointwise
  simp only [z]
  exact DeviceWord.pick n (hn _) fun j => X0 (ix3 j R s)

theorem same5 (c : Dev nD) (i : grid0.Coords) (a0 : Memref sig .tc .vmem S1x256x1024 .f32) (h0 : a0.IsWhole)
    (a1 : Memref sig .tc .vmem S8x256x1024 .bf16) (h1 : a1.IsWhole)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S256x1024 .f32) (h5 : a5.IsWhole)
    (a6 : Memref sig .tc .vmem S256x1024 .f32) (h6 : a6.IsWhole)
    (a7 : Memref sig .tc .vmem S256x1024 .f32) (h7 : a7.IsWhole)
    (a8 : Memref sig .tc .vmem S256x1024 .f32) (h8 : a8.IsWhole)
    (x0 : Vec Ideal S1x256x1024 .f32) (x1 : Vec Ideal S8x256x1024 .bf16) (x2 : Vec Ideal S256x1024 .f32) (x3 : Vec Ideal S256x1024 .f32) (x4 : Vec Ideal S256x1024 .f32)
    (xt : TbBuf0 (F := Ideal) c tbM0_0)
    (X0 : Vec Ideal S8x512x1024 .f32) (X1 : Vec Ideal S8x512x1024 .bf16) (X2 : (⟨S1, .i32⟩ : BufTy).Contents (Elt Ideal)) (X3 X4 X5 : Vec Ideal S512x1024 .f32)
    (r : Fin 256) (s : Fin 1024) (R : Fin 512) (n : Fin 8) (hn : ∀ y, (X2 y).toNat = n.val)
    (e0 : x0 (ix3 0 r s) = X0 (ix3 n R s))
    (e1 : ∀ j, x1 (ix3 j r s) = X1 (ix3 j R s))
    (e2 : x2 (ix2 r s) = X3 (ix2 R s))
    (e3 : x3 (ix2 r s) = X4 (ix2 R s))
    (e4 : x4 (ix2 r s) = X5 (ix2 R s)) :
    out0_A_5 (F := Ideal) c i a0 h0 a1 h1 a2 h2 a3 h3 a4 h4 a5 h5 a6 h6 a7 h7 a8 h8 x0 x1 x2 x3 x4 xt (ix2 r s)
      = Cert.AdamWMlpOutRefIdeal.Read.val_main_v9 (F := Ideal) X0 X1 X2 (ix2 R s) := by
  have hz : (![0, 0] : Fin 2 → Nat) = fun _ => 0 := by decide
  unfold out0_A_5
  rw [View.read_writes_eq_canon _ _ _ (cover0_A_5 c i a0 h0 a1 h1 a2 h2 a3 h3 a4 h4 a5 h5 a6 h6 a7 h7 a8 h8 x0 x1 x2 x3 x4 xt)]
  unfold kernelRun0_A
  dsimp only
  sl_unfold_words
  rw [View.canon_unit_zero hz]
  simp only [View.readAt_eq_ld, h0.read_unread, h1.read_unread, h2.read_unread, h3.read_unread, h4.read_unread, View.ld_unit_zero (S := S256x1024) hz]
  have own := own_at X0 X2 n hn R s
  unfold_payloads
  pointwise [Cert.AdamWMlpOutRefIdeal.Read.val_main_v7, Cert.AdamWMlpOutRefIdeal.Read.val_main_cst_1, Cert.AdamWMlpOutRefIdeal.Read.val_main_v8,
    Cert.AdamWMlpOutRefIdeal.Read.val_main_v9, Cert.AdamWMlpOutRefIdeal.Read.val_main_cst_2, Cert.AdamWMlpOutRefIdeal.Read.val_main_v10,
    Cert.AdamWMlpOutRefIdeal.Read.val_main_v11, Cert.AdamWMlpOutRefIdeal.Read.val_main_cst_3, Cert.AdamWMlpOutRefIdeal.Read.val_main_v12,
    Cert.AdamWMlpOutRefIdeal.Read.val_main_v13, Cert.AdamWMlpOutRefIdeal.Read.val_main_v14, Cert.AdamWMlpOutRefIdeal.Read.val_main_cst_4,
    Cert.AdamWMlpOutRefIdeal.Read.val_main_v15, Cert.AdamWMlpOutRefIdeal.Read.val_main_v16, Cert.AdamWMlpOutRefIdeal.Read.val_main_v17,
    Cert.AdamWMlpOutRefIdeal.Read.val_main_cst_5, Cert.AdamWMlpOutRefIdeal.Read.val_main_v18, Cert.AdamWMlpOutRefIdeal.Read.val_main_v19,
    Cert.AdamWMlpOutRefIdeal.Read.val_main_v20, Cert.AdamWMlpOutRefIdeal.Read.val_main_cst_6, Cert.AdamWMlpOutRefIdeal.Read.val_main_v21,
    Cert.AdamWMlpOutRefIdeal.Read.val_main_v22, Cert.AdamWMlpOutRefIdeal.Read.val_main_cst_7, Cert.AdamWMlpOutRefIdeal.Read.val_main_v23,
    Cert.AdamWMlpOutRefIdeal.Read.val_main_v24, Cert.AdamWMlpOutRefIdeal.Read.val_main_v25, Cert.AdamWMlpOutRefIdeal.Read.val_main_cst_8,
    Cert.AdamWMlpOutRefIdeal.Read.val_main_v26, Cert.AdamWMlpOutRefIdeal.Read.val_main_v27, Cert.AdamWMlpOutRefIdeal.Read.val_main_v28,
    Cert.AdamWMlpOutRefIdeal.Read.val_main_cst_9, Cert.AdamWMlpOutRefIdeal.Read.val_main_v29, Cert.AdamWMlpOutRefIdeal.Read.val_main_v30,
    Cert.AdamWMlpOutRefIdeal.Read.val_main_v31, Cert.AdamWMlpOutRefIdeal.Read.val_main_cst_10, Cert.AdamWMlpOutRefIdeal.Read.val_main_v32,
    Cert.AdamWMlpOutRefIdeal.Read.val_main_v33]
  simp only [own, e0, e1, e2, e3, e4, Fin.sum_univ_eight, add_assoc, zero_add]

theorem same6 (c : Dev nD) (i : grid0.Coords) (a0 : Memref sig .tc .vmem S1x256x1024 .f32) (h0 : a0.IsWhole)
    (a1 : Memref sig .tc .vmem S8x256x1024 .bf16) (h1 : a1.IsWhole)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S256x1024 .f32) (h5 : a5.IsWhole)
    (a6 : Memref sig .tc .vmem S256x1024 .f32) (h6 : a6.IsWhole)
    (a7 : Memref sig .tc .vmem S256x1024 .f32) (h7 : a7.IsWhole)
    (a8 : Memref sig .tc .vmem S256x1024 .f32) (h8 : a8.IsWhole)
    (x0 : Vec Ideal S1x256x1024 .f32) (x1 : Vec Ideal S8x256x1024 .bf16) (x2 : Vec Ideal S256x1024 .f32) (x3 : Vec Ideal S256x1024 .f32) (x4 : Vec Ideal S256x1024 .f32)
    (xt : TbBuf0 (F := Ideal) c tbM0_0)
    (X0 : Vec Ideal S8x512x1024 .f32) (X1 : Vec Ideal S8x512x1024 .bf16) (X2 : (⟨S1, .i32⟩ : BufTy).Contents (Elt Ideal)) (X3 X4 X5 : Vec Ideal S512x1024 .f32)
    (r : Fin 256) (s : Fin 1024) (R : Fin 512) (n : Fin 8) (hn : ∀ y, (X2 y).toNat = n.val)
    (e0 : x0 (ix3 0 r s) = X0 (ix3 n R s))
    (e1 : ∀ j, x1 (ix3 j r s) = X1 (ix3 j R s))
    (e2 : x2 (ix2 r s) = X3 (ix2 R s))
    (e3 : x3 (ix2 r s) = X4 (ix2 R s))
    (e4 : x4 (ix2 r s) = X5 (ix2 R s)) :
    out0_A_6 (F := Ideal) c i a0 h0 a1 h1 a2 h2 a3 h3 a4 h4 a5 h5 a6 h6 a7 h7 a8 h8 x0 x1 x2 x3 x4 xt (ix2 r s)
      = Cert.AdamWMlpOutRefIdeal.Read.val_main_v33 (F := Ideal) X0 X1 X2 X3 X4 X5 (ix2 R s) := by
  have hz : (![0, 0] : Fin 2 → Nat) = fun _ => 0 := by decide
  unfold out0_A_6
  rw [View.read_writes_eq_canon _ _ _ (cover0_A_6 c i a0 h0 a1 h1 a2 h2 a3 h3 a4 h4 a5 h5 a6 h6 a7 h7 a8 h8 x0 x1 x2 x3 x4 xt)]
  unfold kernelRun0_A
  dsimp only
  sl_unfold_words
  rw [View.canon_unit_zero hz]
  simp only [View.readAt_eq_ld, h0.read_unread, h1.read_unread, h2.read_unread, h3.read_unread, h4.read_unread, View.ld_unit_zero (S := S256x1024) hz]
  have own := own_at X0 X2 n hn R s
  unfold_payloads
  pointwise [Cert.AdamWMlpOutRefIdeal.Read.val_main_v7, Cert.AdamWMlpOutRefIdeal.Read.val_main_cst_1, Cert.AdamWMlpOutRefIdeal.Read.val_main_v8,
    Cert.AdamWMlpOutRefIdeal.Read.val_main_v9, Cert.AdamWMlpOutRefIdeal.Read.val_main_cst_2, Cert.AdamWMlpOutRefIdeal.Read.val_main_v10,
    Cert.AdamWMlpOutRefIdeal.Read.val_main_v11, Cert.AdamWMlpOutRefIdeal.Read.val_main_cst_3, Cert.AdamWMlpOutRefIdeal.Read.val_main_v12,
    Cert.AdamWMlpOutRefIdeal.Read.val_main_v13, Cert.AdamWMlpOutRefIdeal.Read.val_main_v14, Cert.AdamWMlpOutRefIdeal.Read.val_main_cst_4,
    Cert.AdamWMlpOutRefIdeal.Read.val_main_v15, Cert.AdamWMlpOutRefIdeal.Read.val_main_v16, Cert.AdamWMlpOutRefIdeal.Read.val_main_v17,
    Cert.AdamWMlpOutRefIdeal.Read.val_main_cst_5, Cert.AdamWMlpOutRefIdeal.Read.val_main_v18, Cert.AdamWMlpOutRefIdeal.Read.val_main_v19,
    Cert.AdamWMlpOutRefIdeal.Read.val_main_v20, Cert.AdamWMlpOutRefIdeal.Read.val_main_cst_6, Cert.AdamWMlpOutRefIdeal.Read.val_main_v21,
    Cert.AdamWMlpOutRefIdeal.Read.val_main_v22, Cert.AdamWMlpOutRefIdeal.Read.val_main_cst_7, Cert.AdamWMlpOutRefIdeal.Read.val_main_v23,
    Cert.AdamWMlpOutRefIdeal.Read.val_main_v24, Cert.AdamWMlpOutRefIdeal.Read.val_main_v25, Cert.AdamWMlpOutRefIdeal.Read.val_main_cst_8,
    Cert.AdamWMlpOutRefIdeal.Read.val_main_v26, Cert.AdamWMlpOutRefIdeal.Read.val_main_v27, Cert.AdamWMlpOutRefIdeal.Read.val_main_v28,
    Cert.AdamWMlpOutRefIdeal.Read.val_main_cst_9, Cert.AdamWMlpOutRefIdeal.Read.val_main_v29, Cert.AdamWMlpOutRefIdeal.Read.val_main_v30,
    Cert.AdamWMlpOutRefIdeal.Read.val_main_v31, Cert.AdamWMlpOutRefIdeal.Read.val_main_cst_10, Cert.AdamWMlpOutRefIdeal.Read.val_main_v32,
    Cert.AdamWMlpOutRefIdeal.Read.val_main_v33]
  simp only [own, e0, e1, e2, e3, e4, Fin.sum_univ_eight, add_assoc, zero_add]

theorem same7 (c : Dev nD) (i : grid0.Coords) (a0 : Memref sig .tc .vmem S1x256x1024 .f32) (h0 : a0.IsWhole)
    (a1 : Memref sig .tc .vmem S8x256x1024 .bf16) (h1 : a1.IsWhole)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S256x1024 .f32) (h5 : a5.IsWhole)
    (a6 : Memref sig .tc .vmem S256x1024 .f32) (h6 : a6.IsWhole)
    (a7 : Memref sig .tc .vmem S256x1024 .f32) (h7 : a7.IsWhole)
    (a8 : Memref sig .tc .vmem S256x1024 .f32) (h8 : a8.IsWhole)
    (x0 : Vec Ideal S1x256x1024 .f32) (x1 : Vec Ideal S8x256x1024 .bf16) (x2 : Vec Ideal S256x1024 .f32) (x3 : Vec Ideal S256x1024 .f32) (x4 : Vec Ideal S256x1024 .f32)
    (xt : TbBuf0 (F := Ideal) c tbM0_0)
    (X0 : Vec Ideal S8x512x1024 .f32) (X1 : Vec Ideal S8x512x1024 .bf16) (X2 : (⟨S1, .i32⟩ : BufTy).Contents (Elt Ideal)) (X3 X4 X5 : Vec Ideal S512x1024 .f32)
    (r : Fin 256) (s : Fin 1024) (R : Fin 512) (n : Fin 8) (hn : ∀ y, (X2 y).toNat = n.val)
    (e0 : x0 (ix3 0 r s) = X0 (ix3 n R s))
    (e1 : ∀ j, x1 (ix3 j r s) = X1 (ix3 j R s))
    (e2 : x2 (ix2 r s) = X3 (ix2 R s))
    (e3 : x3 (ix2 r s) = X4 (ix2 R s))
    (e4 : x4 (ix2 r s) = X5 (ix2 R s)) :
    out0_A_7 (F := Ideal) c i a0 h0 a1 h1 a2 h2 a3 h3 a4 h4 a5 h5 a6 h6 a7 h7 a8 h8 x0 x1 x2 x3 x4 xt (ix2 r s)
      = Cert.AdamWMlpOutRefIdeal.Read.val_main_v14 (F := Ideal) X0 X1 X2 X4 (ix2 R s) := by
  have hz : (![0, 0] : Fin 2 → Nat) = fun _ => 0 := by decide
  unfold out0_A_7
  rw [View.read_writes_eq_canon _ _ _ (cover0_A_7 c i a0 h0 a1 h1 a2 h2 a3 h3 a4 h4 a5 h5 a6 h6 a7 h7 a8 h8 x0 x1 x2 x3 x4 xt)]
  unfold kernelRun0_A
  dsimp only
  sl_unfold_words
  rw [View.canon_unit_zero hz]
  simp only [View.readAt_eq_ld, h0.read_unread, h1.read_unread, h2.read_unread, h3.read_unread, h4.read_unread, View.ld_unit_zero (S := S256x1024) hz]
  have own := own_at X0 X2 n hn R s
  unfold_payloads
  pointwise [Cert.AdamWMlpOutRefIdeal.Read.val_main_v7, Cert.AdamWMlpOutRefIdeal.Read.val_main_cst_1, Cert.AdamWMlpOutRefIdeal.Read.val_main_v8,
    Cert.AdamWMlpOutRefIdeal.Read.val_main_v9, Cert.AdamWMlpOutRefIdeal.Read.val_main_cst_2, Cert.AdamWMlpOutRefIdeal.Read.val_main_v10,
    Cert.AdamWMlpOutRefIdeal.Read.val_main_v11, Cert.AdamWMlpOutRefIdeal.Read.val_main_cst_3, Cert.AdamWMlpOutRefIdeal.Read.val_main_v12,
    Cert.AdamWMlpOutRefIdeal.Read.val_main_v13, Cert.AdamWMlpOutRefIdeal.Read.val_main_v14, Cert.AdamWMlpOutRefIdeal.Read.val_main_cst_4,
    Cert.AdamWMlpOutRefIdeal.Read.val_main_v15, Cert.AdamWMlpOutRefIdeal.Read.val_main_v16, Cert.AdamWMlpOutRefIdeal.Read.val_main_v17,
    Cert.AdamWMlpOutRefIdeal.Read.val_main_cst_5, Cert.AdamWMlpOutRefIdeal.Read.val_main_v18, Cert.AdamWMlpOutRefIdeal.Read.val_main_v19,
    Cert.AdamWMlpOutRefIdeal.Read.val_main_v20, Cert.AdamWMlpOutRefIdeal.Read.val_main_cst_6, Cert.AdamWMlpOutRefIdeal.Read.val_main_v21,
    Cert.AdamWMlpOutRefIdeal.Read.val_main_v22, Cert.AdamWMlpOutRefIdeal.Read.val_main_cst_7, Cert.AdamWMlpOutRefIdeal.Read.val_main_v23,
    Cert.AdamWMlpOutRefIdeal.Read.val_main_v24, Cert.AdamWMlpOutRefIdeal.Read.val_main_v25, Cert.AdamWMlpOutRefIdeal.Read.val_main_cst_8,
    Cert.AdamWMlpOutRefIdeal.Read.val_main_v26, Cert.AdamWMlpOutRefIdeal.Read.val_main_v27, Cert.AdamWMlpOutRefIdeal.Read.val_main_v28,
    Cert.AdamWMlpOutRefIdeal.Read.val_main_cst_9, Cert.AdamWMlpOutRefIdeal.Read.val_main_v29, Cert.AdamWMlpOutRefIdeal.Read.val_main_v30,
    Cert.AdamWMlpOutRefIdeal.Read.val_main_v31, Cert.AdamWMlpOutRefIdeal.Read.val_main_cst_10, Cert.AdamWMlpOutRefIdeal.Read.val_main_v32,
    Cert.AdamWMlpOutRefIdeal.Read.val_main_v33]
  simp only [own, e0, e1, e2, e3, e4, Fin.sum_univ_eight, add_assoc, zero_add]

theorem same8 (c : Dev nD) (i : grid0.Coords) (a0 : Memref sig .tc .vmem S1x256x1024 .f32) (h0 : a0.IsWhole)
    (a1 : Memref sig .tc .vmem S8x256x1024 .bf16) (h1 : a1.IsWhole)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S256x1024 .f32) (h5 : a5.IsWhole)
    (a6 : Memref sig .tc .vmem S256x1024 .f32) (h6 : a6.IsWhole)
    (a7 : Memref sig .tc .vmem S256x1024 .f32) (h7 : a7.IsWhole)
    (a8 : Memref sig .tc .vmem S256x1024 .f32) (h8 : a8.IsWhole)
    (x0 : Vec Ideal S1x256x1024 .f32) (x1 : Vec Ideal S8x256x1024 .bf16) (x2 : Vec Ideal S256x1024 .f32) (x3 : Vec Ideal S256x1024 .f32) (x4 : Vec Ideal S256x1024 .f32)
    (xt : TbBuf0 (F := Ideal) c tbM0_0)
    (X0 : Vec Ideal S8x512x1024 .f32) (X1 : Vec Ideal S8x512x1024 .bf16) (X2 : (⟨S1, .i32⟩ : BufTy).Contents (Elt Ideal)) (X3 X4 X5 : Vec Ideal S512x1024 .f32)
    (r : Fin 256) (s : Fin 1024) (R : Fin 512) (n : Fin 8) (hn : ∀ y, (X2 y).toNat = n.val)
    (e0 : x0 (ix3 0 r s) = X0 (ix3 n R s))
    (e1 : ∀ j, x1 (ix3 j r s) = X1 (ix3 j R s))
    (e2 : x2 (ix2 r s) = X3 (ix2 R s))
    (e3 : x3 (ix2 r s) = X4 (ix2 R s))
    (e4 : x4 (ix2 r s) = X5 (ix2 R s)) :
    out0_A_8 (F := Ideal) c i a0 h0 a1 h1 a2 h2 a3 h3 a4 h4 a5 h5 a6 h6 a7 h7 a8 h8 x0 x1 x2 x3 x4 xt (ix2 r s)
      = Cert.AdamWMlpOutRefIdeal.Read.val_main_v20 (F := Ideal) X0 X1 X2 X5 (ix2 R s) := by
  have hz : (![0, 0] : Fin 2 → Nat) = fun _ => 0 := by decide
  unfold out0_A_8
  rw [View.read_writes_eq_canon _ _ _ (cover0_A_8 c i a0 h0 a1 h1 a2 h2 a3 h3 a4 h4 a5 h5 a6 h6 a7 h7 a8 h8 x0 x1 x2 x3 x4 xt)]
  unfold kernelRun0_A
  dsimp only
  sl_unfold_words
  rw [View.canon_unit_zero hz]
  simp only [View.readAt_eq_ld, h0.read_unread, h1.read_unread, h2.read_unread, h3.read_unread, h4.read_unread, View.ld_unit_zero (S := S256x1024) hz]
  have own := own_at X0 X2 n hn R s
  unfold_payloads
  pointwise [Cert.AdamWMlpOutRefIdeal.Read.val_main_v7, Cert.AdamWMlpOutRefIdeal.Read.val_main_cst_1, Cert.AdamWMlpOutRefIdeal.Read.val_main_v8,
    Cert.AdamWMlpOutRefIdeal.Read.val_main_v9, Cert.AdamWMlpOutRefIdeal.Read.val_main_cst_2, Cert.AdamWMlpOutRefIdeal.Read.val_main_v10,
    Cert.AdamWMlpOutRefIdeal.Read.val_main_v11, Cert.AdamWMlpOutRefIdeal.Read.val_main_cst_3, Cert.AdamWMlpOutRefIdeal.Read.val_main_v12,
    Cert.AdamWMlpOutRefIdeal.Read.val_main_v13, Cert.AdamWMlpOutRefIdeal.Read.val_main_v14, Cert.AdamWMlpOutRefIdeal.Read.val_main_cst_4,
    Cert.AdamWMlpOutRefIdeal.Read.val_main_v15, Cert.AdamWMlpOutRefIdeal.Read.val_main_v16, Cert.AdamWMlpOutRefIdeal.Read.val_main_v17,
    Cert.AdamWMlpOutRefIdeal.Read.val_main_cst_5, Cert.AdamWMlpOutRefIdeal.Read.val_main_v18, Cert.AdamWMlpOutRefIdeal.Read.val_main_v19,
    Cert.AdamWMlpOutRefIdeal.Read.val_main_v20, Cert.AdamWMlpOutRefIdeal.Read.val_main_cst_6, Cert.AdamWMlpOutRefIdeal.Read.val_main_v21,
    Cert.AdamWMlpOutRefIdeal.Read.val_main_v22, Cert.AdamWMlpOutRefIdeal.Read.val_main_cst_7, Cert.AdamWMlpOutRefIdeal.Read.val_main_v23,
    Cert.AdamWMlpOutRefIdeal.Read.val_main_v24, Cert.AdamWMlpOutRefIdeal.Read.val_main_v25, Cert.AdamWMlpOutRefIdeal.Read.val_main_cst_8,
    Cert.AdamWMlpOutRefIdeal.Read.val_main_v26, Cert.AdamWMlpOutRefIdeal.Read.val_main_v27, Cert.AdamWMlpOutRefIdeal.Read.val_main_v28,
    Cert.AdamWMlpOutRefIdeal.Read.val_main_cst_9, Cert.AdamWMlpOutRefIdeal.Read.val_main_v29, Cert.AdamWMlpOutRefIdeal.Read.val_main_v30,
    Cert.AdamWMlpOutRefIdeal.Read.val_main_v31, Cert.AdamWMlpOutRefIdeal.Read.val_main_cst_10, Cert.AdamWMlpOutRefIdeal.Read.val_main_v32,
    Cert.AdamWMlpOutRefIdeal.Read.val_main_v33]
  simp only [own, e0, e1, e2, e3, e4, Fin.sum_univ_eight, add_assoc, zero_add]

/-! ## What a grid point reads and writes -/

/-- The argument arrays. -/
abbrev A0 (c : Dev nD) : S8x512x1024.Idx → EReal := m ((c : Thread nD τ).loc main_arg0)
abbrev A1 (c : Dev nD) : S8x512x1024.Idx → EReal := m ((c : Thread nD τ).loc main_arg1)
abbrev A2 (c : Dev nD) : (⟨S1, .i32⟩ : BufTy).Contents (Elt Ideal) := m ((c : Thread nD τ).loc main_arg2)
abbrev A3 (c : Dev nD) : S512x1024.Idx → EReal := m ((c : Thread nD τ).loc main_arg3)
abbrev A4 (c : Dev nD) : S512x1024.Idx → EReal := m ((c : Thread nD τ).loc main_arg4)
abbrev A5 (c : Dev nD) : S512x1024.Idx → EReal := m ((c : Thread nD τ).loc main_arg5)

/-- The row tile of a grid point. -/
abbrev tile (t : Fin grid0.N) : Nat := (grid0.coords t 0).val

theorem tile_lt (t : Fin grid0.N) : tile t < 2 := (grid0.coords t 0).isLt

theorem row_lt (t : Fin grid0.N) (r : Fin 256) : tile t * 256 + r.val < 512 := by have := tile_lt t; omega

theorem maps : ∀ t : Fin grid0.N,
    cc0_transform_1 (grid0.coords t) = ![0, tile t, 0]
    ∧ cc0_transform_2 (grid0.coords t) = ![tile t, 0] ∧ cc0_transform_3 (grid0.coords t) = ![tile t, 0]
    ∧ cc0_transform_4 (grid0.coords t) = ![tile t, 0] ∧ cc0_transform_5 (grid0.coords t) = ![tile t, 0]
    ∧ cc0_transform_6 (grid0.coords t) = ![tile t, 0] ∧ cc0_transform_7 (grid0.coords t) = ![tile t, 0]
    ∧ cc0_transform_8 (grid0.coords t) = ![tile t, 0] := by decide +kernel

theorem tile_onto : ∀ a : Fin 2, ∃ t : Fin grid0.N, tile t = a.val := by decide +kernel

theorem flushes5 : ∀ t : Fin grid0.N, Pipeline.Window.flushOf grid0 true cc0_transform_5 t = true := by decide +kernel
theorem flushes6 : ∀ t : Fin grid0.N, Pipeline.Window.flushOf grid0 true cc0_transform_6 t = true := by decide +kernel
theorem flushes7 : ∀ t : Fin grid0.N, Pipeline.Window.flushOf grid0 true cc0_transform_7 t = true := by decide +kernel
theorem flushes8 : ∀ t : Fin grid0.N, Pipeline.Window.flushOf grid0 true cc0_transform_8 t = true := by decide +kernel

variable (hO : Ok m)

theorem in0_at (c : Dev nD) (t : Fin grid0.N) (n : Fin 8) (hn : ∀ y, (A2 m c y).toNat = n.val) (r : Fin 256) (s : Fin 1024) :
    iblk m hO c 0 t (ix3 0 r s) = A0 m c (ix3 n ⟨tile t * 256 + r.val, row_lt t r⟩ s) := by
  obtain rfl : c = 0 := Subsingleton.elim _ _
  show m (((0 : Dev nD) : Thread nD τ).loc main_arg0) ((((cfgM m hO).win 0).rect t).emb (ix3 0 r s)) = _
  refine congrArg _ (DeviceWord.idx_ext₃ ?_ ?_ ?_)
  · refine (((cfgM m hO).win 0).rect_emb_val t (ix3 0 r s : S1x256x1024.Idx) (0 : Fin 3)).trans ?_
    show (BitVec.toNat _) * 1 + 0 = n.val
    rw [Nat.mul_one, Nat.add_zero]
    exact hn _
  · refine (((cfgM m hO).win 0).rect_emb_val t (ix3 0 r s : S1x256x1024.Idx) (1 : Fin 3)).trans ?_
    show (BitVec.ofNat 32 (tile t)).toNat * 256 + r.val = tile t * 256 + r.val
    have := tile_lt t
    rw [BitVec.toNat_ofNat, Nat.mod_eq_of_lt (by omega)]
  · refine (((cfgM m hO).win 0).rect_emb_val t (ix3 0 r s : S1x256x1024.Idx) (2 : Fin 3)).trans ?_
    show 0 * 1024 + s.val = s.val
    omega

theorem in1_at (c : Dev nD) (t : Fin grid0.N) (j : Fin 8) (r : Fin 256) (s : Fin 1024) :
    iblk m hO c 1 t (ix3 j r s) = A1 m c (ix3 j ⟨tile t * 256 + r.val, row_lt t r⟩ s) := by
  have e : ((cfgM m hO).win 1).index t = ![0, tile t, 0] := (maps t).1
  show m ((c : Thread nD τ).loc main_arg1) ((((cfgM m hO).win 1).rect t).emb (ix3 j r s)) = _
  exact congrArg _ (DeviceWord.idx_ext₃
    ((((cfgM m hO).win 1).rect_emb_val t (ix3 j r s : S8x256x1024.Idx) (0 : Fin 3)).trans (by rw [e]; show 0 * 8 + j.val = j.val; omega))
    ((((cfgM m hO).win 1).rect_emb_val t (ix3 j r s : S8x256x1024.Idx) (1 : Fin 3)).trans (by rw [e]; rfl))
    ((((cfgM m hO).win 1).rect_emb_val t (ix3 j r s : S8x256x1024.Idx) (2 : Fin 3)).trans (by rw [e]; show 0 * 1024 + s.val = s.val; omega)))

theorem in2_at (c : Dev nD) (t : Fin grid0.N) (r : Fin 256) (s : Fin 1024) :
    iblk m hO c 2 t (ix2 r s) = A3 m c (ix2 ⟨tile t * 256 + r.val, row_lt t r⟩ s) := by
  have e : ((cfgM m hO).win 2).index t = ![tile t, 0] := (maps t).2.1
  show m ((c : Thread nD τ).loc main_arg3) ((((cfgM m hO).win 2).rect t).emb (ix2 r s)) = _
  exact congrArg _ (Shape.idx_ext₂
    ((((cfgM m hO).win 2).rect_emb_val t (ix2 r s : S256x1024.Idx) (0 : Fin 2)).trans (by rw [e]; rfl))
    ((((cfgM m hO).win 2).rect_emb_val t (ix2 r s : S256x1024.Idx) (1 : Fin 2)).trans (by rw [e]; show 0 * 1024 + s.val = s.val; omega)))

theorem in3_at (c : Dev nD) (t : Fin grid0.N) (r : Fin 256) (s : Fin 1024) :
    iblk m hO c 3 t (ix2 r s) = A4 m c (ix2 ⟨tile t * 256 + r.val, row_lt t r⟩ s) := by
  have e : ((cfgM m hO).win 3).index t = ![tile t, 0] := (maps t).2.2.1
  show m ((c : Thread nD τ).loc main_arg4) ((((cfgM m hO).win 3).rect t).emb (ix2 r s)) = _
  exact congrArg _ (Shape.idx_ext₂
    ((((cfgM m hO).win 3).rect_emb_val t (ix2 r s : S256x1024.Idx) (0 : Fin 2)).trans (by rw [e]; rfl))
    ((((cfgM m hO).win 3).rect_emb_val t (ix2 r s : S256x1024.Idx) (1 : Fin 2)).trans (by rw [e]; show 0 * 1024 + s.val = s.val; omega)))

theorem in4_at (c : Dev nD) (t : Fin grid0.N) (r : Fin 256) (s : Fin 1024) :
    iblk m hO c 4 t (ix2 r s) = A5 m c (ix2 ⟨tile t * 256 + r.val, row_lt t r⟩ s) := by
  have e : ((cfgM m hO).win 4).index t = ![tile t, 0] := (maps t).2.2.2.1
  show m ((c : Thread nD τ).loc main_arg5) ((((cfgM m hO).win 4).rect t).emb (ix2 r s)) = _
  exact congrArg _ (Shape.idx_ext₂
    ((((cfgM m hO).win 4).rect_emb_val t (ix2 r s : S256x1024.Idx) (0 : Fin 2)).trans (by rw [e]; rfl))
    ((((cfgM m hO).win 4).rect_emb_val t (ix2 r s : S256x1024.Idx) (1 : Fin 2)).trans (by rw [e]; show 0 * 1024 + s.val = s.val; omega)))

/-- The gradient, as a function of the argument arrays: the reference's own term. -/
def G5 (c : Dev nD) : S512x1024.Idx → EReal :=
  Cert.AdamWMlpOutRefIdeal.Read.val_main_v9 (F := Ideal) (A0 m c) (A1 m c) (A2 m c)

theorem place5 (t : Fin grid0.N) (r : Fin 256) (s : Fin 1024) :
    ((((cfgM m hO).win 5).rect t).emb (ix2 r s : S256x1024.Idx) : S512x1024.Idx) = ix2 ⟨tile t * 256 + r.val, row_lt t r⟩ s := by
  have e : ((cfgM m hO).win 5).index t = ![tile t, 0] := (maps t).2.2.2.2.1
  exact Shape.idx_ext₂
    ((((cfgM m hO).win 5).rect_emb_val t (ix2 r s : S256x1024.Idx) (0 : Fin 2)).trans (by rw [e]; rfl))
    ((((cfgM m hO).win 5).rect_emb_val t (ix2 r s : S256x1024.Idx) (1 : Fin 2)).trans (by rw [e]; show 0 * 1024 + s.val = s.val; omega))

theorem out5_at (c : Dev nD) (n : Fin 8) (hn : ∀ y, (A2 m c y).toNat = n.val) (t : Fin grid0.N) (r : Fin 256) (s : Fin 1024) :
    (outsAt0 m hO c t).1 (ix2 r s) = G5 m c (ix2 ⟨tile t * 256 + r.val, row_lt t r⟩ s) := by
  unfold outsAt0 G5
  dsimp only
  exact same5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (A0 m c) (A1 m c) (A2 m c) (A3 m c) (A4 m c) (A5 m c) r s _
    n hn (in0_at m hO c t n hn r s) (fun j => in1_at m hO c t j r s) (in2_at m hO c t r s) (in3_at m hO c t r s) (in4_at m hO c t r s)

theorem flushed5_eq (c : Dev nD) (n : Fin 8) (hn : ∀ y, (A2 m c y).toNat = n.val) (t : Fin grid0.N) :
    (dats m hO 0 c).flushed 5 t = (((cfgM m hO).win 5).blk t).view.read (Elt Ideal) (G5 m c) := by
  show ((cfgM m hO).win 5).cut (grid0.coords t) ((dats m hO 0 c).after 5 t) = _
  rw [after0_5]
  refine funext fun (y : S256x1024.Idx) => ?_
  obtain ⟨r, s, rfl⟩ : ∃ (r : Fin 256) (s : Fin 1024), y = ix2 r s := ⟨y 0, y 1, eq_ix2 y⟩
  exact (out5_at m hO c n hn t r s).trans (congrArg (G5 m c) (place5 m hO t r s).symm)

theorem covered5 (c : Dev nD) (i : S512x1024.Idx) :
    ∃ t : Fin grid0.N, ((cfgM m hO).win 5).flush t = true ∧ i ∈ (((cfgM m hO).win 5).blk t).view.set := by
  have h0 : (i 0).val < 512 := (i 0).isLt
  obtain ⟨t, e0⟩ := tile_onto ⟨(i 0).val / 256, by omega⟩
  refine ⟨t, flushes5 t, ?_⟩
  have k : (((cfgM m hO).win 5).blk t).view.emb (ix2 (⟨(i 0).val % 256, by omega⟩ : Fin 256) (i 1) : S256x1024.Idx) = i :=
    (place5 m hO t _ _).trans (Shape.idx_ext₂ (by show tile t * 256 + (i 0).val % 256 = (i 0).val; rw [e0]; dsimp only; omega) rfl)
  exact k ▸ View.emb_mem_set _ _

theorem final5 (c : Dev nD) (n : Fin 8) (hn : ∀ y, (A2 m c y).toNat = n.val) :
    (dats m hO 0 c).arrAt 5 (cfgM m hO).N = G5 m c :=
  (dats m hO 0 c).arrAt_eq_of_cover 5 (G5 m c) (fun t _ => flushed5_eq m hO c n hn t) (covered5 m hO c)

/-- The weight's step, as a function of the argument arrays: the reference's own term. -/
def G6 (c : Dev nD) : S512x1024.Idx → EReal :=
  Cert.AdamWMlpOutRefIdeal.Read.val_main_v33 (F := Ideal) (A0 m c) (A1 m c) (A2 m c) (A3 m c) (A4 m c) (A5 m c)

theorem place6 (t : Fin grid0.N) (r : Fin 256) (s : Fin 1024) :
    ((((cfgM m hO).win 6).rect t).emb (ix2 r s : S256x1024.Idx) : S512x1024.Idx) = ix2 ⟨tile t * 256 + r.val, row_lt t r⟩ s := by
  have e : ((cfgM m hO).win 6).index t = ![tile t, 0] := (maps t).2.2.2.2.2.1
  exact Shape.idx_ext₂
    ((((cfgM m hO).win 6).rect_emb_val t (ix2 r s : S256x1024.Idx) (0 : Fin 2)).trans (by rw [e]; rfl))
    ((((cfgM m hO).win 6).rect_emb_val t (ix2 r s : S256x1024.Idx) (1 : Fin 2)).trans (by rw [e]; show 0 * 1024 + s.val = s.val; omega))

theorem out6_at (c : Dev nD) (n : Fin 8) (hn : ∀ y, (A2 m c y).toNat = n.val) (t : Fin grid0.N) (r : Fin 256) (s : Fin 1024) :
    (outsAt0 m hO c t).2.1 (ix2 r s) = G6 m c (ix2 ⟨tile t * 256 + r.val, row_lt t r⟩ s) := by
  unfold outsAt0 G6
  dsimp only
  exact same6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (A0 m c) (A1 m c) (A2 m c) (A3 m c) (A4 m c) (A5 m c) r s _
    n hn (in0_at m hO c t n hn r s) (fun j => in1_at m hO c t j r s) (in2_at m hO c t r s) (in3_at m hO c t r s) (in4_at m hO c t r s)

theorem flushed6_eq (c : Dev nD) (n : Fin 8) (hn : ∀ y, (A2 m c y).toNat = n.val) (t : Fin grid0.N) :
    (dats m hO 0 c).flushed 6 t = (((cfgM m hO).win 6).blk t).view.read (Elt Ideal) (G6 m c) := by
  show ((cfgM m hO).win 6).cut (grid0.coords t) ((dats m hO 0 c).after 6 t) = _
  rw [after0_6]
  refine funext fun (y : S256x1024.Idx) => ?_
  obtain ⟨r, s, rfl⟩ : ∃ (r : Fin 256) (s : Fin 1024), y = ix2 r s := ⟨y 0, y 1, eq_ix2 y⟩
  exact (out6_at m hO c n hn t r s).trans (congrArg (G6 m c) (place6 m hO t r s).symm)

theorem covered6 (c : Dev nD) (i : S512x1024.Idx) :
    ∃ t : Fin grid0.N, ((cfgM m hO).win 6).flush t = true ∧ i ∈ (((cfgM m hO).win 6).blk t).view.set := by
  have h0 : (i 0).val < 512 := (i 0).isLt
  obtain ⟨t, e0⟩ := tile_onto ⟨(i 0).val / 256, by omega⟩
  refine ⟨t, flushes6 t, ?_⟩
  have k : (((cfgM m hO).win 6).blk t).view.emb (ix2 (⟨(i 0).val % 256, by omega⟩ : Fin 256) (i 1) : S256x1024.Idx) = i :=
    (place6 m hO t _ _).trans (Shape.idx_ext₂ (by show tile t * 256 + (i 0).val % 256 = (i 0).val; rw [e0]; dsimp only; omega) rfl)
  exact k ▸ View.emb_mem_set _ _

theorem final6 (c : Dev nD) (n : Fin 8) (hn : ∀ y, (A2 m c y).toNat = n.val) :
    (dats m hO 0 c).arrAt 6 (cfgM m hO).N = G6 m c :=
  (dats m hO 0 c).arrAt_eq_of_cover 6 (G6 m c) (fun t _ => flushed6_eq m hO c n hn t) (covered6 m hO c)

/-- The first moment, as a function of the argument arrays: the reference's own term. -/
def G7 (c : Dev nD) : S512x1024.Idx → EReal :=
  Cert.AdamWMlpOutRefIdeal.Read.val_main_v14 (F := Ideal) (A0 m c) (A1 m c) (A2 m c) (A4 m c)

theorem place7 (t : Fin grid0.N) (r : Fin 256) (s : Fin 1024) :
    ((((cfgM m hO).win 7).rect t).emb (ix2 r s : S256x1024.Idx) : S512x1024.Idx) = ix2 ⟨tile t * 256 + r.val, row_lt t r⟩ s := by
  have e : ((cfgM m hO).win 7).index t = ![tile t, 0] := (maps t).2.2.2.2.2.2.1
  exact Shape.idx_ext₂
    ((((cfgM m hO).win 7).rect_emb_val t (ix2 r s : S256x1024.Idx) (0 : Fin 2)).trans (by rw [e]; rfl))
    ((((cfgM m hO).win 7).rect_emb_val t (ix2 r s : S256x1024.Idx) (1 : Fin 2)).trans (by rw [e]; show 0 * 1024 + s.val = s.val; omega))

theorem out7_at (c : Dev nD) (n : Fin 8) (hn : ∀ y, (A2 m c y).toNat = n.val) (t : Fin grid0.N) (r : Fin 256) (s : Fin 1024) :
    (outsAt0 m hO c t).2.2.1 (ix2 r s) = G7 m c (ix2 ⟨tile t * 256 + r.val, row_lt t r⟩ s) := by
  unfold outsAt0 G7
  dsimp only
  exact same7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (A0 m c) (A1 m c) (A2 m c) (A3 m c) (A4 m c) (A5 m c) r s _
    n hn (in0_at m hO c t n hn r s) (fun j => in1_at m hO c t j r s) (in2_at m hO c t r s) (in3_at m hO c t r s) (in4_at m hO c t r s)

theorem flushed7_eq (c : Dev nD) (n : Fin 8) (hn : ∀ y, (A2 m c y).toNat = n.val) (t : Fin grid0.N) :
    (dats m hO 0 c).flushed 7 t = (((cfgM m hO).win 7).blk t).view.read (Elt Ideal) (G7 m c) := by
  show ((cfgM m hO).win 7).cut (grid0.coords t) ((dats m hO 0 c).after 7 t) = _
  rw [after0_7]
  refine funext fun (y : S256x1024.Idx) => ?_
  obtain ⟨r, s, rfl⟩ : ∃ (r : Fin 256) (s : Fin 1024), y = ix2 r s := ⟨y 0, y 1, eq_ix2 y⟩
  exact (out7_at m hO c n hn t r s).trans (congrArg (G7 m c) (place7 m hO t r s).symm)

theorem covered7 (c : Dev nD) (i : S512x1024.Idx) :
    ∃ t : Fin grid0.N, ((cfgM m hO).win 7).flush t = true ∧ i ∈ (((cfgM m hO).win 7).blk t).view.set := by
  have h0 : (i 0).val < 512 := (i 0).isLt
  obtain ⟨t, e0⟩ := tile_onto ⟨(i 0).val / 256, by omega⟩
  refine ⟨t, flushes7 t, ?_⟩
  have k : (((cfgM m hO).win 7).blk t).view.emb (ix2 (⟨(i 0).val % 256, by omega⟩ : Fin 256) (i 1) : S256x1024.Idx) = i :=
    (place7 m hO t _ _).trans (Shape.idx_ext₂ (by show tile t * 256 + (i 0).val % 256 = (i 0).val; rw [e0]; dsimp only; omega) rfl)
  exact k ▸ View.emb_mem_set _ _

theorem final7 (c : Dev nD) (n : Fin 8) (hn : ∀ y, (A2 m c y).toNat = n.val) :
    (dats m hO 0 c).arrAt 7 (cfgM m hO).N = G7 m c :=
  (dats m hO 0 c).arrAt_eq_of_cover 7 (G7 m c) (fun t _ => flushed7_eq m hO c n hn t) (covered7 m hO c)

/-- The second moment, as a function of the argument arrays: the reference's own term. -/
def G8 (c : Dev nD) : S512x1024.Idx → EReal :=
  Cert.AdamWMlpOutRefIdeal.Read.val_main_v20 (F := Ideal) (A0 m c) (A1 m c) (A2 m c) (A5 m c)

theorem place8 (t : Fin grid0.N) (r : Fin 256) (s : Fin 1024) :
    ((((cfgM m hO).win 8).rect t).emb (ix2 r s : S256x1024.Idx) : S512x1024.Idx) = ix2 ⟨tile t * 256 + r.val, row_lt t r⟩ s := by
  have e : ((cfgM m hO).win 8).index t = ![tile t, 0] := (maps t).2.2.2.2.2.2.2
  exact Shape.idx_ext₂
    ((((cfgM m hO).win 8).rect_emb_val t (ix2 r s : S256x1024.Idx) (0 : Fin 2)).trans (by rw [e]; rfl))
    ((((cfgM m hO).win 8).rect_emb_val t (ix2 r s : S256x1024.Idx) (1 : Fin 2)).trans (by rw [e]; show 0 * 1024 + s.val = s.val; omega))

theorem out8_at (c : Dev nD) (n : Fin 8) (hn : ∀ y, (A2 m c y).toNat = n.val) (t : Fin grid0.N) (r : Fin 256) (s : Fin 1024) :
    (outsAt0 m hO c t).2.2.2 (ix2 r s) = G8 m c (ix2 ⟨tile t * 256 + r.val, row_lt t r⟩ s) := by
  unfold outsAt0 G8
  dsimp only
  exact same8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (A0 m c) (A1 m c) (A2 m c) (A3 m c) (A4 m c) (A5 m c) r s _
    n hn (in0_at m hO c t n hn r s) (fun j => in1_at m hO c t j r s) (in2_at m hO c t r s) (in3_at m hO c t r s) (in4_at m hO c t r s)

theorem flushed8_eq (c : Dev nD) (n : Fin 8) (hn : ∀ y, (A2 m c y).toNat = n.val) (t : Fin grid0.N) :
    (dats m hO 0 c).flushed 8 t = (((cfgM m hO).win 8).blk t).view.read (Elt Ideal) (G8 m c) := by
  show ((cfgM m hO).win 8).cut (grid0.coords t) ((dats m hO 0 c).after 8 t) = _
  rw [after0_8]
  refine funext fun (y : S256x1024.Idx) => ?_
  obtain ⟨r, s, rfl⟩ : ∃ (r : Fin 256) (s : Fin 1024), y = ix2 r s := ⟨y 0, y 1, eq_ix2 y⟩
  exact (out8_at m hO c n hn t r s).trans (congrArg (G8 m c) (place8 m hO t r s).symm)

theorem covered8 (c : Dev nD) (i : S512x1024.Idx) :
    ∃ t : Fin grid0.N, ((cfgM m hO).win 8).flush t = true ∧ i ∈ (((cfgM m hO).win 8).blk t).view.set := by
  have h0 : (i 0).val < 512 := (i 0).isLt
  obtain ⟨t, e0⟩ := tile_onto ⟨(i 0).val / 256, by omega⟩
  refine ⟨t, flushes8 t, ?_⟩
  have k : (((cfgM m hO).win 8).blk t).view.emb (ix2 (⟨(i 0).val % 256, by omega⟩ : Fin 256) (i 1) : S256x1024.Idx) = i :=
    (place8 m hO t _ _).trans (Shape.idx_ext₂ (by show tile t * 256 + (i 0).val % 256 = (i 0).val; rw [e0]; dsimp only; omega) rfl)
  exact k ▸ View.emb_mem_set _ _

theorem final8 (c : Dev nD) (n : Fin 8) (hn : ∀ y, (A2 m c y).toNat = n.val) :
    (dats m hO 0 c).arrAt 8 (cfgM m hO).N = G8 m c :=
  (dats m hO 0 c).arrAt_eq_of_cover 8 (G8 m c) (fun t _ => flushed8_eq m hO c n hn t) (covered8 m hO c)

/-- The kernel and the reference leave equal results. -/
theorem algebraic : Cert.algebraic_AdamWMlpOutIdeal_AdamWMlpOutRefIdeal := fun m g m' g' hpre hagree => by
  have hO := ideal_ok m hpre
  have hw : ∀ (c : Dev nD) (y : S1.Idx), (A2 m c y).toNat = (⟨(A2 m c (ix1 0)).toNat, word_lt (hpre c) _⟩ : Fin 8).val :=
    fun c y => congrArg (fun z : S1.Idx => (A2 m c z).toNat) (DeviceWord.one_index _ _)
  exact ⟨fun c => G5 m c, fun c => G6 m c, fun c => G7 m c, fun c => G8 m c,
    (θ_run _ _ _).mono (fun r h c =>
      ⟨((h.1 c).1 5).trans (final5 m hO c _ (hw c)), ((h.1 c).1 6).trans (final6 m hO c _ (hw c)),
        ((h.1 c).1 7).trans (final7 m hO c _ (hw c)), ((h.1 c).1 8).trans (final8 m hO c _ (hw c)), h.2 c⟩)
      (θ_run_and (run_main m g hO) (unchanged m g hO)),
    (θ_run _ _ _).mono (fun r h c => ⟨(h c).1.trans (by
        rw [(hagree c).1, (hagree c).2.1, (hagree c).2.2.1]; rfl), (h c).2.1.trans (by
        rw [(hagree c).1, (hagree c).2.1, (hagree c).2.2.1, (hagree c).2.2.2.1, (hagree c).2.2.2.2.1, (hagree c).2.2.2.2.2]; rfl), (h c).2.2.1.trans (by
        rw [(hagree c).1, (hagree c).2.1, (hagree c).2.2.1, (hagree c).2.2.2.2.1]; rfl), (h c).2.2.2.1.trans (by
        rw [(hagree c).1, (hagree c).2.1, (hagree c).2.2.1, (hagree c).2.2.2.2.2]; rfl), (h c).2.2.2.2⟩)
      (Cert.AdamWMlpOutRefIdeal.Value.run (F := Ideal) m' g')⟩

end Cert.Hand.AdamWMlpOut

end
-- ==== Proof.HeadNorm.lean ====
/-
  The normalisation of a head of 64 numbers, done once over the head's own numbers and once over a row of eight heads with a
  product against the matrix of «same head», and when their numbers are real.
-/
module

public import Idealize.ShloMosaic.PureOps.Ideal
public import Idealize.ShloMosaic.PureOps.Ideal.Laws
public import proofs.«01_k».proof.Proof.Scale

@[expose] public section

noncomputable section

namespace Cert.Hand.HeadNorm

open Idealize.ShloMosaic
open scoped BigOperators

/-- A number that is neither infinity. -/
def IsReal (x : EReal) : Prop := ∃ r : ℝ, x = r

theorem IsReal.mul {x y : EReal} : IsReal x → IsReal y → IsReal (x * y)
  | ⟨a, ha⟩, ⟨b, hb⟩ => ⟨a * b, by rw [ha, hb, EReal.coe_mul]⟩

theorem IsReal.sub_self {x : EReal} : IsReal x → x - x = 0
  | ⟨a, ha⟩ => by rw [ha, ← EReal.coe_sub, _root_.sub_self, EReal.coe_zero]

theorem isReal_sum {ι : Type*} (s : Finset ι) (f : ι → EReal) (h : ∀ i, IsReal (f i)) : IsReal (∑ i ∈ s, f i) := by
  classical
  induction s using Finset.induction_on with
  | empty => exact ⟨0, by simp⟩
  | insert i s hi ih =>
    obtain ⟨a, ha⟩ := h i
    obtain ⟨b, hb⟩ := ih
    exact ⟨a + b, by rw [Finset.sum_insert hi, ha, hb, EReal.coe_add]⟩

/-- A sum of squares of reals is a real that is not negative. -/
theorem sum_squares {ι : Type*} (s : Finset ι) (f : ι → EReal) (h : ∀ i, IsReal (f i)) :
    ∃ r : ℝ, 0 ≤ r ∧ ∑ i ∈ s, f i * f i = r := by
  classical
  induction s using Finset.induction_on with
  | empty => exact ⟨0, le_rfl, by simp⟩
  | insert i s hi ih =>
    obtain ⟨a, ha⟩ := h i
    obtain ⟨b, hb, e⟩ := ih
    exact ⟨a * a + b, add_nonneg (mul_self_nonneg a) hb, by
      rw [Finset.sum_insert hi, ha, e, EReal.coe_add, EReal.coe_mul]⟩

/-- The reciprocal root of a guarded mean square of reals is real. -/
theorem isReal_rsqrt {ι : Type*} (s : Finset ι) (f : ι → EReal) (h : ∀ i, IsReal (f i)) (k : ℝ) (hk : 0 < k) :
    IsReal (Ideal.rsqrt (Ideal.div (∑ i ∈ s, f i * f i) (k : EReal) + Ideal.ofBits .f32 0x358637BD#32)) := by
  obtain ⟨r, hr, e⟩ := sum_squares s f h
  obtain ⟨g, hg, eg⟩ := Scale.guard_pos
  have hp : 0 < r * (1 / k) + g := by positivity
  rw [e, eg, Ideal.div_coe hk.ne', ← EReal.coe_mul, ← EReal.coe_add, Ideal.rsqrt_coe, if_neg (not_lt.mpr hp.le), if_neg hp.ne']
  exact ⟨_, rfl⟩

/-- The matrix of «same head». -/
def same (k s : Fin 512) : EReal := if k.val / 64 = s.val / 64 then 1 else 0

/-- A row against the matrix of «same head» is the sum over the head. -/
theorem sum_same (f : Fin 512 → EReal) (s : Fin 512) :
    ∑ k : Fin 512, f k * same k s = ∑ j : Fin 64, f ⟨s.val / 64 * 64 + j.val, by omega⟩ := by
  simp only [same, mul_ite, mul_one, mul_zero]
  rw [← Finset.sum_filter]
  symm
  refine Finset.sum_bij (fun j _ => (⟨s.val / 64 * 64 + j.val, by omega⟩ : Fin 512)) ?_ ?_ ?_ ?_
  · intro j _; simp only [Finset.mem_filter, Finset.mem_univ, true_and]; omega
  · intro i _ j _ h; have := congrArg Fin.val h; dsimp only at this; exact Fin.ext (by omega)
  · intro k hk
    simp only [Finset.mem_filter, Finset.mem_univ, true_and] at hk
    exact ⟨⟨k.val % 64, by omega⟩, Finset.mem_univ _, Fin.ext (by dsimp only; omega)⟩
  · intro j _; rfl

/-- The two normalisations are equal on real numbers: what a square lacks of its own rounding is zero, a row against «same
    head» is the head's sum, and the reciprocal of 64 divides by 64. -/
theorem norm_eq (q : Fin 512 → EReal) (h : ∀ k, IsReal (q k)) (s : Fin 512) :
    Ideal.rsqrt ((∑ k, q k * q k * same k s + ∑ k, (q k * q k - q k * q k) * same k s) * Ideal.ofBits .f32 0x3C800000#32
        + Ideal.ofBits .f32 0x358637BD#32)
      = Ideal.rsqrt (Ideal.div (∑ j : Fin 64, q ⟨s.val / 64 * 64 + j.val, by omega⟩ * q ⟨s.val / 64 * 64 + j.val, by omega⟩)
          (Ideal.ofBits .f32 0x42800000#32) + Ideal.ofBits .f32 0x358637BD#32) := by
  have z : ∀ k, (q k * q k - q k * q k) * same k s = 0 := fun k => by rw [((h k).mul (h k)).sub_self, zero_mul]
  rw [Finset.sum_congr rfl fun k _ => z k, Finset.sum_const_zero, add_zero, sum_same (fun k => q k * q k) s, Scale.div_head_size]

end Cert.Hand.HeadNorm

end
-- ==== Proof.Proj.lean ====
/-
  The mixing layer's input product: the normalised tokens, their product with the weights, and the query and key heads
  normalised, on one device's 4096 tokens.
-/
module

public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Pre_finite_inputs
public import proofs.«01_k».proof.Defs
public import proofs.«01_k».proof.Proof.HeadNorm
public import Idealize.ShloMosaic.Lib.Pointwise
public import Idealize.ShloMosaic.Lib.Pipeline.Value
public import Idealize.ShloMosaic.Lib.ReduceAll
public import Idealize.ShloMosaic.Lib.Claim

@[expose] public section

set_option maxRecDepth 16384

noncomputable section

namespace Cert.Hand.Proj

open Cert.ProjIdeal Cert.ProjIdeal.Gen Idealize.ShloMosaic Idealize.ShloMosaic.TcCoe Idealize.SL.Sem
open Idealize.ShloMosaic.Pipeline (Dat)
open Cert.Hand.HeadNorm (IsReal same)
open scoped BigOperators

variable (m : (ℓ : Loc nD τ sig) → Buf (Elt Ideal) ℓ)

theorem isReal_of_lt {x : EReal} (h : max x (-x) < ⊤) : IsReal x := by
  induction x using EReal.rec with
  | bot => simp at h
  | top => simp at h
  | coe r => exact ⟨r, rfl⟩

theorem cmp_lt {x : EReal} (h : Ideal.cmp .olt (max x (-x)) (Ideal.ofBits .f32 0x7F800000#32) = 1#1) : IsReal x := by
  rw [Scale.infinity] at h
  apply isReal_of_lt
  by_contra k
  simp [Ideal.cmp, k] at h

theorem finite_of {x0 : FVec Ideal S4096x1024 .f32} {x1 : FVec Ideal S1024x2048 .bf16} {x2 : FVec Ideal S1x1024 .f32}
    {x3 x4 : FVec Ideal S64 .f32} (h : Cert.Pre_finite_inputs.fn x0 x1 x2 x3 x4 = fun _ => 1#1) :
    (∀ i, IsReal (x0 i)) ∧ (∀ i, IsReal (x1 i)) ∧ ∀ i, IsReal (x2 i) := by
  have e := congrFun h (Shape.Idx.first Cert.Pre_finite_inputs.Gen.h_S_)
  simp only [Cert.Pre_finite_inputs.fn, andi] at e
  obtain ⟨e01, e2⟩ := IntOp.andi_eq_one.1 e
  obtain ⟨e0, e1⟩ := IntOp.andi_eq_one.1 e01
  exact ⟨fun i => cmp_lt (Host.reduce_andi_all _ _ _ _ _ e0 i), fun i => cmp_lt (Host.reduce_andi_all _ _ _ _ _ e1 i),
    fun i => cmp_lt (Host.reduce_andi_all _ _ _ _ _ e2 i)⟩

theorem div_word : ∀ k : Fin 512, IntOp.divsi .vector (BitVec.ofNat 32 k.val) 64#32 = BitVec.ofNat 32 (k.val / 64) := by
  decide +kernel

theorem same_word : ∀ a b : Fin 8, (((IntOp.cmpi .eq (BitVec.ofNat 32 a.val) (BitVec.ofNat 32 b.val)).setWidth 32).toInt : ℤ)
    = if a.val = b.val then 1 else 0 := by
  decide +kernel

/-- The matrix that the body makes of two counts is «same head». -/
theorem seg_at (k s : Fin 512) : k0_pay7 (F := Ideal) (ix2 k s) = same k s := by
  pointwise [k0_pay7]
  rw [div_word, div_word]
  show (((((IntOp.cmpi .eq (BitVec.ofNat 32 (k.val / 64)) (BitVec.ofNat 32 (s.val / 64))).setWidth 32).toInt : ℝ)) : EReal) = _
  rw [same_word ⟨k.val / 64, by omega⟩ ⟨s.val / 64, by omega⟩]
  unfold same
  split <;> simp

/-! ## The body's values at an index -/

theorem pay1_at (v19 : FVec Ideal S1x2048 .f32) (v29 : FVec Ideal S512x512 .bf16) (v30 : FVec Ideal S512x512 .f32)
    (v37 : FVec Ideal S512x512 .bf16) (v38 : FVec Ideal S512x512 .f32) (r s : Fin 512) :
    k0_pay1 v19 v29 v30 v37 v38 (ix2 r s)
      = v30 (ix2 r s) * Ideal.rsqrt ((v38 (ix2 r s) + ∑ x, v37 (ix2 r x) * v29 (ix2 x s)) * Ideal.ofBits FTy.f32 0x3C800000#32
          + Ideal.ofBits FTy.f32 0x358637BD#32) * v19 (ix2 0 ⟨s.val, by omega⟩) := by
  pointwise [k0_pay1]

theorem pay2_at (v19 : FVec Ideal S1x2048 .f32) (v29 : FVec Ideal S512x512 .bf16) (v31 : FVec Ideal S512x512 .f32) (r s : Fin 512) :
    k0_pay2 v19 v29 v31 (ix2 r s)
      = v31 (ix2 r s) * Ideal.rsqrt ((∑ x, v31 (ix2 r x) * v31 (ix2 r x) * v29 (ix2 x s)
            + ∑ x, (v31 (ix2 r x) * v31 (ix2 r x) - v31 (ix2 r x) * v31 (ix2 r x)) * v29 (ix2 x s))
              * Ideal.ofBits FTy.f32 0x3C800000#32
          + Ideal.ofBits FTy.f32 0x358637BD#32) * v19 (ix2 0 ⟨512 + s.val, by omega⟩) := by
  pointwise [k0_pay2]

theorem pay6_at (v18 : FVec Ideal S1x2048 .f32) (s : Fin 2048) : k0_pay6 v18 (ix2 0 s) = v18 (ix2 0 s) := by
  pointwise [k0_pay6]

theorem pay8_at (x0 : Vec Ideal S512x1024 .f32) (x1 : Vec Ideal S1x1024 .f32) (x2 : Vec Ideal S1024x2048 .bf16) (r s : Fin 512) :
    k0_pay8 x0 x1 x2 (ix2 r s) = k0_pay5 x0 x1 x2 (ix2 r ⟨s.val, by omega⟩) := by
  pointwise [k0_pay8]

theorem pay9_at (x0 : Vec Ideal S512x1024 .f32) (x1 : Vec Ideal S1x1024 .f32) (x2 : Vec Ideal S1024x2048 .bf16) (r s : Fin 512) :
    k0_pay9 x0 x1 x2 (ix2 r s) = k0_pay5 x0 x1 x2 (ix2 r ⟨512 + s.val, by omega⟩) := by
  pointwise [k0_pay9]

theorem pay10_at (x0 : Vec Ideal S512x1024 .f32) (x1 : Vec Ideal S1x1024 .f32) (x2 : Vec Ideal S1024x2048 .bf16) (r s : Fin 512) :
    k0_pay3 (k0_pay10 x0 x1 x2) (ix2 r s) = k0_pay5 x0 x1 x2 (ix2 r ⟨1024 + s.val, by omega⟩) := by
  pointwise [k0_pay3, k0_pay10]

theorem pay13_at (x0 : Vec Ideal S512x1024 .f32) (x1 : Vec Ideal S1x1024 .f32) (x2 : Vec Ideal S1024x2048 .bf16) (r s : Fin 512) :
    k0_pay13 x0 x1 x2 (ix2 r s) = k0_pay8 x0 x1 x2 (ix2 r s) * k0_pay8 x0 x1 x2 (ix2 r s)
      - k0_pay8 x0 x1 x2 (ix2 r s) * k0_pay8 x0 x1 x2 (ix2 r s) := by
  pointwise [k0_pay13, k0_pay12, k0_pay11]

theorem pay14_at (x0 : Vec Ideal S512x1024 .f32) (x1 : Vec Ideal S1x1024 .f32) (x2 : Vec Ideal S1024x2048 .bf16) (r s : Fin 512) :
    k0_pay14 x0 x1 x2 (ix2 r s) = ∑ k, k0_pay8 x0 x1 x2 (ix2 r k) * k0_pay8 x0 x1 x2 (ix2 r k) * k0_pay7 (F := Ideal) (ix2 k s) := by
  pointwise [k0_pay14, k0_pay12, k0_pay11]

/-- The row of gains that the host lays out: the queries' gain over the eight heads, scaled, then the keys'. -/
def gainRow (x3 x4 : FVec Ideal S64 .f32) : FVec Ideal S1x2048 .f32 :=
  concatenate S1x2048 1 [
    ⟨S1x512, (mulf (shapeCast S1x512 (broadcastInDim S1x1x8x64 ![0, 1, 2, 3] bcast_S1x1x1x64_S1x1x8x64_0_1_2_3
        (shapeCast S1x1x1x64 (shapeCast S1x64 x3 shapeCasts_S64_S1x64) shapeCasts_S1x64_S1x1x1x64)) shapeCasts_S1x1x8x64_S1x512)
      (broadcastInDim S1x512 ![] bcast_S_S1x512 (constant S_ .f32 0x3E000000#32)) : FVec Ideal S1x512 .f32)⟩,
    ⟨S1x512, (shapeCast S1x512 (broadcastInDim S1x1x8x64 ![0, 1, 2, 3] bcast_S1x1x1x64_S1x1x8x64_0_1_2_3
        (shapeCast S1x1x1x64 (shapeCast S1x64 x4 shapeCasts_S64_S1x64) shapeCasts_S1x64_S1x1x1x64)) shapeCasts_S1x1x8x64_S1x512 : FVec Ideal S1x512 .f32)⟩,
    ⟨S1x1024, (broadcastInDim S1x1024 ![] bcast_S_S1x1024 (constant S_ .f32 0x3F800000#32) : FVec Ideal S1x1024 .f32)⟩]
    concatenates_S1x512_S1x512_S1x1024_S1x2048_d1

set_option maxHeartbeats 2000000 in
theorem V_gains (c : Dev nD) : V m c main_v11 = gainRow (m ((c : Thread nD τ).loc main_arg3)) (m ((c : Thread nD τ).loc main_arg4)) := by
  unfold_abbrev_sides
  after_results
  rfl

theorem gain_q (x3 x4 : FVec Ideal S64 .f32) (s : Fin 512) :
    gainRow x3 x4 (ix2 0 ⟨s.val, by omega⟩) = x3 (ix1 ⟨s.val % 64, by omega⟩) * Ideal.ofBits .f32 0x3E000000#32 := by
  pointwise [gainRow]

theorem gain_k (x3 x4 : FVec Ideal S64 .f32) (s : Fin 512) :
    gainRow x3 x4 (ix2 0 ⟨512 + s.val, by omega⟩) = x4 (ix1 ⟨s.val % 64, by omega⟩) := by
  pointwise [gainRow]

/-! ## The reference's values at an index -/

open Cert.ProjRefIdeal.Read in
theorem ref11_at (X0 : Vec Ideal S4096x1024 .f32) (X2 : Vec Ideal S1x1024 .f32) (R : Fin 4096) (l : Fin 1024) :
    val_main_v11 (F := Ideal) X0 X2 (ix2 R l)
      = X0 (ix2 R l) * Ideal.rsqrt (Ideal.div (∑ x, X0 (ix2 R x) * X0 (ix2 R x)) (Ideal.ofBits .f32 0x44800000#32)
          + Ideal.ofBits .f32 0x358637BD#32) * X2 (ix2 0 l) := by
  pointwise [val_main_v0, val_main_v1, val_main_v2, val_main_v3, val_main_v4, val_main_v5, val_main_v6, val_main_v7, val_main_v8,
    val_main_v9, val_main_v10, val_main_v11, val_main_cst, val_main_cst_0, val_main_cst_1]

open Cert.ProjRefIdeal.Read in
theorem ref13_at (X0 : Vec Ideal S4096x1024 .f32) (X1 : Vec Ideal S1024x2048 .bf16) (X2 : Vec Ideal S1x1024 .f32) (R : Fin 4096) (s : Fin 2048) :
    val_main_v13 (F := Ideal) X0 X1 X2 (ix2 R s) = ∑ k, val_main_v11 (F := Ideal) X0 X2 (ix2 R k) * X1 (ix2 k s) := by
  pointwise [val_main_v13, val_main_v12]

open Cert.ProjRefIdeal.Read in
theorem ref48_at (X0 : Vec Ideal S4096x1024 .f32) (X1 : Vec Ideal S1024x2048 .bf16) (X2 : Vec Ideal S1x1024 .f32) (X3 : Vec Ideal S64 .f32)
    (R : Fin 4096) (s : Fin 512) :
    val_main_v48 (F := Ideal) X0 X1 X2 X3 (ix2 R s)
      = val_main_v13 (F := Ideal) X0 X1 X2 (ix2 R ⟨s.val, by omega⟩) * Ideal.rsqrt (Ideal.div
          (∑ x : Fin 64, val_main_v13 (F := Ideal) X0 X1 X2 (ix2 R ⟨s.val / 64 * 64 + x.val, by omega⟩)
            * val_main_v13 (F := Ideal) X0 X1 X2 (ix2 R ⟨s.val / 64 * 64 + x.val, by omega⟩)) (Ideal.ofBits .f32 0x42800000#32)
            + Ideal.ofBits .f32 0x358637BD#32) * X3 (ix1 ⟨s.val % 64, by omega⟩) * Ideal.ofBits .f32 0x3E000000#32 := by
  pointwise [val_main_v14, val_main_v17, val_main_v18, val_main_v19, val_main_v20, val_main_v21, val_main_v22, val_main_v23,
    val_main_v24, val_main_v25, val_main_v26, val_main_v27, val_main_v28, val_main_v29, val_main_v30, val_main_v31, val_main_v32,
    val_main_v47, val_main_v48, val_main_cst_2, val_main_cst_3, val_main_cst_4, val_main_cst_5]

open Cert.ProjRefIdeal.Read in
theorem ref50_at (X0 : Vec Ideal S4096x1024 .f32) (X1 : Vec Ideal S1024x2048 .bf16) (X2 : Vec Ideal S1x1024 .f32) (X4 : Vec Ideal S64 .f32)
    (R : Fin 4096) (s : Fin 512) :
    val_main_v50 (F := Ideal) X0 X1 X2 X4 (ix2 R s)
      = val_main_v13 (F := Ideal) X0 X1 X2 (ix2 R ⟨512 + s.val, by omega⟩) * Ideal.rsqrt (Ideal.div
          (∑ x : Fin 64, val_main_v13 (F := Ideal) X0 X1 X2 (ix2 R ⟨512 + (s.val / 64 * 64 + x.val), by omega⟩)
            * val_main_v13 (F := Ideal) X0 X1 X2 (ix2 R ⟨512 + (s.val / 64 * 64 + x.val), by omega⟩))
            (Ideal.ofBits .f32 0x42800000#32)
            + Ideal.ofBits .f32 0x358637BD#32) * X4 (ix1 ⟨s.val % 64, by omega⟩) := by
  pointwise [val_main_v15, val_main_v33, val_main_v34, val_main_v35, val_main_v36, val_main_v37, val_main_v38, val_main_v39,
    val_main_v40, val_main_v41, val_main_v42, val_main_v43, val_main_v44, val_main_v45, val_main_v46, val_main_v49, val_main_v50,
    val_main_cst_6, val_main_cst_7, val_main_cst_8]

open Cert.ProjRefIdeal.Read in
theorem ref51_at (X0 : Vec Ideal S4096x1024 .f32) (X1 : Vec Ideal S1024x2048 .bf16) (X2 : Vec Ideal S1x1024 .f32)
    (R : Fin 4096) (s : Fin 512) :
    val_main_v51 (F := Ideal) X0 X1 X2 (ix2 R s) = val_main_v13 (F := Ideal) X0 X1 X2 (ix2 R ⟨1024 + s.val, by omega⟩) := by
  pointwise [val_main_v16, val_main_v51]

open Cert.ProjRefIdeal.Read in
/-- The product is real where the tokens, the weights and the gain are. -/
theorem isReal13 (X0 : Vec Ideal S4096x1024 .f32) (X1 : Vec Ideal S1024x2048 .bf16) (X2 : Vec Ideal S1x1024 .f32)
    (h0 : ∀ i, IsReal (X0 i)) (h1 : ∀ i, IsReal (X1 i)) (h2 : ∀ i, IsReal (X2 i)) (R : Fin 4096) (s : Fin 2048) :
    IsReal (val_main_v13 (F := Ideal) X0 X1 X2 (ix2 R s)) := by
  rw [ref13_at]
  refine HeadNorm.isReal_sum _ _ fun k => IsReal.mul ?_ (h1 _)
  rw [ref11_at, Scale.width]
  exact ((h0 _).mul (HeadNorm.isReal_rsqrt _ _ (fun _ => h0 _) 1024 (by norm_num))).mul (h2 _)

/-! ## A block of each result and the reference's array -/

section Same

variable (x0 : Vec Ideal S512x1024 .f32) (x1 : Vec Ideal S1024x2048 .bf16) (x2 : Vec Ideal S1x1024 .f32) (x3 : Vec Ideal S1x2048 .f32)
    (X0 : Vec Ideal S4096x1024 .f32) (X1 : Vec Ideal S1024x2048 .bf16) (X2 : Vec Ideal S1x1024 .f32) (X3 X4 : Vec Ideal S64 .f32)
    (r : Fin 512) (R : Fin 4096)

theorem hz : (![0, 0] : Fin 2 → Nat) = fun _ => 0 := by decide

theorem pay4_at (h0 : ∀ l : Fin 1024, x0 (ix2 r l) = X0 (ix2 R l)) (h2 : ∀ l : Fin 1024, x2 (ix2 0 l) = X2 (ix2 0 l)) (s : Fin 1024) :
    k0_pay4 x0 x2 (ix2 r s) = Cert.ProjRefIdeal.Read.val_main_v11 (F := Ideal) X0 X2 (ix2 R s) := by
  rw [ref11_at]
  pointwise [k0_pay4]
  simp only [h0, h2]

theorem pay5_at (h0 : ∀ l : Fin 1024, x0 (ix2 r l) = X0 (ix2 R l)) (h1 : ∀ (k : Fin 1024) (l : Fin 2048), x1 (ix2 k l) = X1 (ix2 k l))
    (h2 : ∀ l : Fin 1024, x2 (ix2 0 l) = X2 (ix2 0 l)) (s : Fin 2048) :
    k0_pay5 x0 x2 x1 (ix2 r s) = Cert.ProjRefIdeal.Read.val_main_v13 (F := Ideal) X0 X1 X2 (ix2 R s) := by
  rw [ref13_at]
  pointwise [k0_pay5]
  exact Finset.sum_congr rfl fun k _ => by rw [pay4_at x0 x2 X0 X2 r R h0 h2, h1]

theorem same4 (h0 : ∀ l : Fin 1024, x0 (ix2 r l) = X0 (ix2 R l)) (h1 : ∀ (k : Fin 1024) (l : Fin 2048), x1 (ix2 k l) = X1 (ix2 k l))
    (h2 : ∀ l : Fin 1024, x2 (ix2 0 l) = X2 (ix2 0 l)) (s : Fin 2048) :
    out0_4 (F := Ideal) x0 x1 x2 x3 (ix2 r s) = Cert.ProjRefIdeal.Read.val_main_v13 (F := Ideal) X0 X1 X2 (ix2 R s) := by
  unfold out0_4
  rw [View.canon_unit_zero hz]
  simp only [View.ld_unit_zero (S := S512x1024) hz, View.ld_unit_zero (S := S1x1024) hz, View.ld_unit_zero (S := S1024x2048) hz]
  exact pay5_at x0 x1 x2 X0 X1 X2 r R h0 h1 h2 s

theorem same5 (h0 : ∀ l : Fin 1024, x0 (ix2 r l) = X0 (ix2 R l)) (h1 : ∀ (k : Fin 1024) (l : Fin 2048), x1 (ix2 k l) = X1 (ix2 k l))
    (h2 : ∀ l : Fin 1024, x2 (ix2 0 l) = X2 (ix2 0 l)) (h3 : ∀ l : Fin 2048, x3 (ix2 0 l) = gainRow X3 X4 (ix2 0 l))
    (hr : ∀ l, IsReal (Cert.ProjRefIdeal.Read.val_main_v13 (F := Ideal) X0 X1 X2 (ix2 R l))) (s : Fin 512) :
    out0_5 (F := Ideal) x0 x1 x2 x3 (ix2 r s) = Cert.ProjRefIdeal.Read.val_main_v48 (F := Ideal) X0 X1 X2 X3 (ix2 R s) := by
  unfold out0_5 k0_pay15 k0_pay16
  rw [View.canon_unit_zero hz]
  simp only [View.ld_unit_zero (S := S512x1024) hz, View.ld_unit_zero (S := S1x1024) hz, View.ld_unit_zero (S := S1024x2048) hz,
    View.ld_unit_zero (S := S1x2048) hz]
  rw [pay1_at, pay14_at, pay6_at, h3, gain_q, ref48_at]
  simp only [pay13_at, pay8_at, seg_at, pay5_at x0 x1 x2 X0 X1 X2 r R h0 h1 h2]
  rw [HeadNorm.norm_eq (fun k => Cert.ProjRefIdeal.Read.val_main_v13 (F := Ideal) X0 X1 X2 (ix2 R ⟨k.val, by omega⟩)) (fun _ => hr _) s,
    mul_assoc _ (X3 _)]

theorem same6 (h0 : ∀ l : Fin 1024, x0 (ix2 r l) = X0 (ix2 R l)) (h1 : ∀ (k : Fin 1024) (l : Fin 2048), x1 (ix2 k l) = X1 (ix2 k l))
    (h2 : ∀ l : Fin 1024, x2 (ix2 0 l) = X2 (ix2 0 l)) (h3 : ∀ l : Fin 2048, x3 (ix2 0 l) = gainRow X3 X4 (ix2 0 l))
    (hr : ∀ l, IsReal (Cert.ProjRefIdeal.Read.val_main_v13 (F := Ideal) X0 X1 X2 (ix2 R l))) (s : Fin 512) :
    out0_6 (F := Ideal) x0 x1 x2 x3 (ix2 r s) = Cert.ProjRefIdeal.Read.val_main_v50 (F := Ideal) X0 X1 X2 X4 (ix2 R s) := by
  unfold out0_6 k0_pay15 k0_pay16
  rw [View.canon_unit_zero hz]
  simp only [View.ld_unit_zero (S := S512x1024) hz, View.ld_unit_zero (S := S1x1024) hz, View.ld_unit_zero (S := S1024x2048) hz,
    View.ld_unit_zero (S := S1x2048) hz]
  rw [pay2_at, pay6_at, h3, gain_k, ref50_at]
  simp only [pay9_at, seg_at, pay5_at x0 x1 x2 X0 X1 X2 r R h0 h1 h2]
  rw [HeadNorm.norm_eq (fun k => Cert.ProjRefIdeal.Read.val_main_v13 (F := Ideal) X0 X1 X2 (ix2 R ⟨512 + k.val, by omega⟩)) (fun _ => hr _) s]

theorem same7 (h0 : ∀ l : Fin 1024, x0 (ix2 r l) = X0 (ix2 R l)) (h1 : ∀ (k : Fin 1024) (l : Fin 2048), x1 (ix2 k l) = X1 (ix2 k l))
    (h2 : ∀ l : Fin 1024, x2 (ix2 0 l) = X2 (ix2 0 l)) (s : Fin 512) :
    out0_7 (F := Ideal) x0 x1 x2 x3 (ix2 r s) = Cert.ProjRefIdeal.Read.val_main_v51 (F := Ideal) X0 X1 X2 (ix2 R s) := by
  unfold out0_7
  rw [View.canon_unit_zero hz]
  simp only [View.ld_unit_zero (S := S512x1024) hz, View.ld_unit_zero (S := S1x1024) hz, View.ld_unit_zero (S := S1024x2048) hz]
  rw [pay10_at, ref51_at]
  exact pay5_at x0 x1 x2 X0 X1 X2 r R h0 h1 h2 _

theorem same8 (h0 : ∀ l : Fin 1024, x0 (ix2 r l) = X0 (ix2 R l)) (h2 : ∀ l : Fin 1024, x2 (ix2 0 l) = X2 (ix2 0 l)) (s : Fin 1024) :
    out0_8 (F := Ideal) x0 x1 x2 x3 (ix2 r s) = Cert.ProjRefIdeal.Read.val_main_v52 (F := Ideal) X0 X2 (ix2 R s) := by
  unfold out0_8
  rw [View.canon_unit_zero hz]
  simp only [View.ld_unit_zero (S := S512x1024) hz, View.ld_unit_zero (S := S1x1024) hz]
  exact pay4_at x0 x2 X0 X2 r R h0 h2 s

end Same

/-! ## What a grid point reads -/

/-- Grid point `t` takes rows `512 t` to `512 t + 511`; the rest stays in place. -/
theorem index_maps : ∀ t : Fin cfg0.N,
    win0_0.index t 0 = t.val ∧ win0_0.index t 1 = 0
    ∧ win0_1.index t 0 = 0 ∧ win0_1.index t 1 = 0
    ∧ win0_2.index t 0 = 0 ∧ win0_2.index t 1 = 0
    ∧ win0_3.index t 0 = 0 ∧ win0_3.index t 1 = 0 :=
  (by decide +kernel : ∀ t : Fin grid0.N, _)

theorem out_maps : ∀ t : Fin cfg0.N,
    (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0) :=
  (by decide +kernel : ∀ t : Fin grid0.N, _)

/-- Every grid point writes its blocks back. -/
theorem flushes : ∀ t : Fin cfg0.N, (cfg0.win 4).flush t = true ∧ (cfg0.win 5).flush t = true ∧ (cfg0.win 6).flush t = true
    ∧ (cfg0.win 7).flush t = true ∧ (cfg0.win 8).flush t = true :=
  (by decide +kernel : ∀ t : Fin grid0.N, _)

theorem points : cfg0.N = 8 := (by decide : grid0.N = 8)

/-- The argument arrays. -/
abbrev A0 (c : Dev nD) : S4096x1024.Idx → EReal := m ((c : Thread nD τ).loc main_arg0)
abbrev A1 (c : Dev nD) : S1024x2048.Idx → EReal := m ((c : Thread nD τ).loc main_arg1)
abbrev A2 (c : Dev nD) : S1x1024.Idx → EReal := m ((c : Thread nD τ).loc main_arg2)
abbrev A3 (c : Dev nD) : S64.Idx → EReal := m ((c : Thread nD τ).loc main_arg3)
abbrev A4 (c : Dev nD) : S64.Idx → EReal := m ((c : Thread nD τ).loc main_arg4)

theorem in0_at (c : Dev nD) (t : Fin cfg0.N) (r : Fin 512) (s : Fin 1024) (h : t.val * 512 + r.val < 4096) :
    iblk m c 0 t (ix2 r s) = A0 m c (ix2 ⟨t.val * 512 + r.val, h⟩ s) := by
  have hi := index_maps t
  show V m c main_arg0 ((win0_0.rect t).emb (ix2 r s)) = _
  rw [V_main_arg0]
  exact congrArg _ (Shape.idx_ext₂ ((win0_0.rect_emb_val t (ix2 r s) 0).trans (by rw [hi.1]; rfl))
    ((win0_0.rect_emb_val t (ix2 r s) 1).trans (by rw [hi.2.1]; simp)))

theorem in1_at (c : Dev nD) (t : Fin cfg0.N) (r : Fin 1024) (s : Fin 2048) : iblk m c 1 t (ix2 r s) = A1 m c (ix2 r s) := by
  have hi := index_maps t
  show V m c main_arg1 ((win0_1.rect t).emb (ix2 r s)) = _
  rw [V_main_arg1]
  exact congrArg _ (Shape.idx_ext₂ ((win0_1.rect_emb_val t (ix2 r s) 0).trans (by rw [hi.2.2.1]; simp))
    ((win0_1.rect_emb_val t (ix2 r s) 1).trans (by rw [hi.2.2.2.1]; simp)))

theorem in2_at (c : Dev nD) (t : Fin cfg0.N) (s : Fin 1024) : iblk m c 2 t (ix2 0 s) = A2 m c (ix2 0 s) := by
  have hi := index_maps t
  show V m c main_arg2 ((win0_2.rect t).emb (ix2 0 s)) = _
  rw [V_main_arg2]
  exact congrArg _ (Shape.idx_ext₂ ((win0_2.rect_emb_val t (ix2 0 s) 0).trans (by rw [hi.2.2.2.2.1]; simp))
    ((win0_2.rect_emb_val t (ix2 0 s) 1).trans (by rw [hi.2.2.2.2.2.1]; simp)))

theorem in3_at (c : Dev nD) (t : Fin cfg0.N) (s : Fin 2048) :
    iblk m c 3 t (ix2 0 s) = gainRow (A3 m c) (A4 m c) (ix2 0 s) := by
  have hi := index_maps t
  show V m c main_v11 ((win0_3.rect t).emb (ix2 0 s)) = _
  rw [V_gains]
  exact congrArg _ (Shape.idx_ext₂ ((win0_3.rect_emb_val t (ix2 0 s) 0).trans (by rw [hi.2.2.2.2.2.2.1]; simp))
    ((win0_3.rect_emb_val t (ix2 0 s) 1).trans (by rw [hi.2.2.2.2.2.2.2]; simp)))

/-! ## The results after the run -/

/-- The result array as a function of the argument arrays: the reference's own term. -/
def G4 (c : Dev nD) : S4096x2048.Idx → EReal := Cert.ProjRefIdeal.Read.val_main_v13 (F := Ideal) (A0 m c) (A1 m c) (A2 m c)

theorem flushed4_eq (c : Dev nD) (t : Fin cfg0.N) :
    (dats m 0 c).flushed 4 t = ((cfg0.win 4).blk t).view.read (Elt Ideal) (G4 m c) := by
  have hi := (out_maps t).1
  have ht := lt_of_lt_of_eq t.isLt points
  rw [Value.flushed4]
  funext y
  obtain ⟨r, s, rfl⟩ : ∃ (r : Fin 512) (s : Fin 2048), y = ix2 r s := ⟨y 0, y 1, eq_ix2 y⟩
  show out0_4 (iblk m c 0 t) (iblk m c 1 t) (iblk m c 2 t) (iblk m c 3 t) (ix2 r s) = G4 m c ((win0_4.rect t).emb (ix2 r s))
  have e : ((win0_4.rect t).emb (ix2 r s) : S4096x2048.Idx) = ix2 ⟨t.val * 512 + r.val, by omega⟩ s :=
    Shape.idx_ext₂ ((win0_4.rect_emb_val t (ix2 r s) 0).trans (by rw [hi.1]; rfl))
      ((win0_4.rect_emb_val t (ix2 r s) 1).trans (by rw [hi.2]; simp))
  rw [e]
  exact same4 _ _ _ _ _ _ _ r _ (fun l => in0_at m c t r l (by omega)) (fun k l => in1_at m c t k l) (fun l => in2_at m c t l) s

theorem covered4 (i : S4096x2048.Idx) : ∃ t : Fin cfg0.N, (cfg0.win 4).flush t = true ∧ i ∈ ((cfg0.win 4).blk t).view.set := by
  have h0 : (i 0).val < 4096 := (i 0).isLt
  have h1 : (i 1).val < 2048 := (i 1).isLt
  have ht : (i 0).val / 512 < cfg0.N := by rw [points]; omega
  have hi := (out_maps ⟨(i 0).val / 512, ht⟩).1
  refine ⟨⟨(i 0).val / 512, ht⟩, (flushes _).1, ?_⟩
  show i ∈ ((View.whole main_v12_0).slice (win0_4.rect ⟨(i 0).val / 512, ht⟩)).set
  rw [View.set_slice_whole, Rect.mem_set_unit]
  intro a
  match a with
  | ⟨0, _⟩ => show win0_4.index ⟨(i 0).val / 512, ht⟩ 0 * 512 ≤ (i 0).val ∧ (i 0).val < win0_4.index ⟨(i 0).val / 512, ht⟩ 0 * 512 + 512
              rw [hi.1]; dsimp only; omega
  | ⟨1, _⟩ => show win0_4.index ⟨(i 0).val / 512, ht⟩ 1 * 2048 ≤ (i 1).val ∧ (i 1).val < win0_4.index ⟨(i 0).val / 512, ht⟩ 1 * 2048 + 2048
              rw [hi.2]; omega

/-- After the run the result array is `G4`. -/
theorem final4 (c : Dev nD) : (dats m 0 c).arrAt 4 cfg0.N = G4 m c :=
  (dats m 0 c).arrAt_eq_of_cover 4 (G4 m c) (fun t _ => flushed4_eq m c t) covered4

/-- The result array as a function of the argument arrays: the reference's own term. -/
def G5 (c : Dev nD) : S4096x512.Idx → EReal := Cert.ProjRefIdeal.Read.val_main_v48 (F := Ideal) (A0 m c) (A1 m c) (A2 m c) (A3 m c)

theorem flushed5_eq (c : Dev nD) (hr : ∀ R l, IsReal (Cert.ProjRefIdeal.Read.val_main_v13 (F := Ideal) (A0 m c) (A1 m c) (A2 m c) (ix2 R l))) (t : Fin cfg0.N) :
    (dats m 0 c).flushed 5 t = ((cfg0.win 5).blk t).view.read (Elt Ideal) (G5 m c) := by
  have hi := (out_maps t).2.1
  have ht := lt_of_lt_of_eq t.isLt points
  rw [Value.flushed5]
  funext y
  obtain ⟨r, s, rfl⟩ : ∃ (r : Fin 512) (s : Fin 512), y = ix2 r s := ⟨y 0, y 1, eq_ix2 y⟩
  show out0_5 (iblk m c 0 t) (iblk m c 1 t) (iblk m c 2 t) (iblk m c 3 t) (ix2 r s) = G5 m c ((win0_5.rect t).emb (ix2 r s))
  have e : ((win0_5.rect t).emb (ix2 r s) : S4096x512.Idx) = ix2 ⟨t.val * 512 + r.val, by omega⟩ s :=
    Shape.idx_ext₂ ((win0_5.rect_emb_val t (ix2 r s) 0).trans (by rw [hi.1]; rfl))
      ((win0_5.rect_emb_val t (ix2 r s) 1).trans (by rw [hi.2]; simp))
  rw [e]
  exact same5 _ _ _ _ _ _ _ _ _ r _ (fun l => in0_at m c t r l (by omega)) (fun k l => in1_at m c t k l) (fun l => in2_at m c t l) (fun l => in3_at m c t l) (fun l => hr _ l) s

theorem covered5 (i : S4096x512.Idx) : ∃ t : Fin cfg0.N, (cfg0.win 5).flush t = true ∧ i ∈ ((cfg0.win 5).blk t).view.set := by
  have h0 : (i 0).val < 4096 := (i 0).isLt
  have h1 : (i 1).val < 512 := (i 1).isLt
  have ht : (i 0).val / 512 < cfg0.N := by rw [points]; omega
  have hi := (out_maps ⟨(i 0).val / 512, ht⟩).2.1
  refine ⟨⟨(i 0).val / 512, ht⟩, (flushes _).2.1, ?_⟩
  show i ∈ ((View.whole main_v12_1).slice (win0_5.rect ⟨(i 0).val / 512, ht⟩)).set
  rw [View.set_slice_whole, Rect.mem_set_unit]
  intro a
  match a with
  | ⟨0, _⟩ => show win0_5.index ⟨(i 0).val / 512, ht⟩ 0 * 512 ≤ (i 0).val ∧ (i 0).val < win0_5.index ⟨(i 0).val / 512, ht⟩ 0 * 512 + 512
              rw [hi.1]; dsimp only; omega
  | ⟨1, _⟩ => show win0_5.index ⟨(i 0).val / 512, ht⟩ 1 * 512 ≤ (i 1).val ∧ (i 1).val < win0_5.index ⟨(i 0).val / 512, ht⟩ 1 * 512 + 512
              rw [hi.2]; omega

/-- After the run the result array is `G5`. -/
theorem final5 (c : Dev nD) (hr : ∀ R l, IsReal (Cert.ProjRefIdeal.Read.val_main_v13 (F := Ideal) (A0 m c) (A1 m c) (A2 m c) (ix2 R l))) : (dats m 0 c).arrAt 5 cfg0.N = G5 m c :=
  (dats m 0 c).arrAt_eq_of_cover 5 (G5 m c) (fun t _ => flushed5_eq m c hr t) covered5

/-- The result array as a function of the argument arrays: the reference's own term. -/
def G6 (c : Dev nD) : S4096x512.Idx → EReal := Cert.ProjRefIdeal.Read.val_main_v50 (F := Ideal) (A0 m c) (A1 m c) (A2 m c) (A4 m c)

theorem flushed6_eq (c : Dev nD) (hr : ∀ R l, IsReal (Cert.ProjRefIdeal.Read.val_main_v13 (F := Ideal) (A0 m c) (A1 m c) (A2 m c) (ix2 R l))) (t : Fin cfg0.N) :
    (dats m 0 c).flushed 6 t = ((cfg0.win 6).blk t).view.read (Elt Ideal) (G6 m c) := by
  have hi := (out_maps t).2.2.1
  have ht := lt_of_lt_of_eq t.isLt points
  rw [Value.flushed6]
  funext y
  obtain ⟨r, s, rfl⟩ : ∃ (r : Fin 512) (s : Fin 512), y = ix2 r s := ⟨y 0, y 1, eq_ix2 y⟩
  show out0_6 (iblk m c 0 t) (iblk m c 1 t) (iblk m c 2 t) (iblk m c 3 t) (ix2 r s) = G6 m c ((win0_6.rect t).emb (ix2 r s))
  have e : ((win0_6.rect t).emb (ix2 r s) : S4096x512.Idx) = ix2 ⟨t.val * 512 + r.val, by omega⟩ s :=
    Shape.idx_ext₂ ((win0_6.rect_emb_val t (ix2 r s) 0).trans (by rw [hi.1]; rfl))
      ((win0_6.rect_emb_val t (ix2 r s) 1).trans (by rw [hi.2]; simp))
  rw [e]
  exact same6 _ _ _ _ _ _ _ _ _ r _ (fun l => in0_at m c t r l (by omega)) (fun k l => in1_at m c t k l) (fun l => in2_at m c t l) (fun l => in3_at m c t l) (fun l => hr _ l) s

theorem covered6 (i : S4096x512.Idx) : ∃ t : Fin cfg0.N, (cfg0.win 6).flush t = true ∧ i ∈ ((cfg0.win 6).blk t).view.set := by
  have h0 : (i 0).val < 4096 := (i 0).isLt
  have h1 : (i 1).val < 512 := (i 1).isLt
  have ht : (i 0).val / 512 < cfg0.N := by rw [points]; omega
  have hi := (out_maps ⟨(i 0).val / 512, ht⟩).2.2.1
  refine ⟨⟨(i 0).val / 512, ht⟩, (flushes _).2.2.1, ?_⟩
  show i ∈ ((View.whole main_v12_2).slice (win0_6.rect ⟨(i 0).val / 512, ht⟩)).set
  rw [View.set_slice_whole, Rect.mem_set_unit]
  intro a
  match a with
  | ⟨0, _⟩ => show win0_6.index ⟨(i 0).val / 512, ht⟩ 0 * 512 ≤ (i 0).val ∧ (i 0).val < win0_6.index ⟨(i 0).val / 512, ht⟩ 0 * 512 + 512
              rw [hi.1]; dsimp only; omega
  | ⟨1, _⟩ => show win0_6.index ⟨(i 0).val / 512, ht⟩ 1 * 512 ≤ (i 1).val ∧ (i 1).val < win0_6.index ⟨(i 0).val / 512, ht⟩ 1 * 512 + 512
              rw [hi.2]; omega

/-- After the run the result array is `G6`. -/
theorem final6 (c : Dev nD) (hr : ∀ R l, IsReal (Cert.ProjRefIdeal.Read.val_main_v13 (F := Ideal) (A0 m c) (A1 m c) (A2 m c) (ix2 R l))) : (dats m 0 c).arrAt 6 cfg0.N = G6 m c :=
  (dats m 0 c).arrAt_eq_of_cover 6 (G6 m c) (fun t _ => flushed6_eq m c hr t) covered6

/-- The result array as a function of the argument arrays: the reference's own term. -/
def G7 (c : Dev nD) : S4096x512.Idx → EReal := Cert.ProjRefIdeal.Read.val_main_v51 (F := Ideal) (A0 m c) (A1 m c) (A2 m c)

theorem flushed7_eq (c : Dev nD) (t : Fin cfg0.N) :
    (dats m 0 c).flushed 7 t = ((cfg0.win 7).blk t).view.read (Elt Ideal) (G7 m c) := by
  have hi := (out_maps t).2.2.2.1
  have ht := lt_of_lt_of_eq t.isLt points
  rw [Value.flushed7]
  funext y
  obtain ⟨r, s, rfl⟩ : ∃ (r : Fin 512) (s : Fin 512), y = ix2 r s := ⟨y 0, y 1, eq_ix2 y⟩
  show out0_7 (iblk m c 0 t) (iblk m c 1 t) (iblk m c 2 t) (iblk m c 3 t) (ix2 r s) = G7 m c ((win0_7.rect t).emb (ix2 r s))
  have e : ((win0_7.rect t).emb (ix2 r s) : S4096x512.Idx) = ix2 ⟨t.val * 512 + r.val, by omega⟩ s :=
    Shape.idx_ext₂ ((win0_7.rect_emb_val t (ix2 r s) 0).trans (by rw [hi.1]; rfl))
      ((win0_7.rect_emb_val t (ix2 r s) 1).trans (by rw [hi.2]; simp))
  rw [e]
  exact same7 _ _ _ _ _ _ _ r _ (fun l => in0_at m c t r l (by omega)) (fun k l => in1_at m c t k l) (fun l => in2_at m c t l) s

theorem covered7 (i : S4096x512.Idx) : ∃ t : Fin cfg0.N, (cfg0.win 7).flush t = true ∧ i ∈ ((cfg0.win 7).blk t).view.set := by
  have h0 : (i 0).val < 4096 := (i 0).isLt
  have h1 : (i 1).val < 512 := (i 1).isLt
  have ht : (i 0).val / 512 < cfg0.N := by rw [points]; omega
  have hi := (out_maps ⟨(i 0).val / 512, ht⟩).2.2.2.1
  refine ⟨⟨(i 0).val / 512, ht⟩, (flushes _).2.2.2.1, ?_⟩
  show i ∈ ((View.whole main_v12_3).slice (win0_7.rect ⟨(i 0).val / 512, ht⟩)).set
  rw [View.set_slice_whole, Rect.mem_set_unit]
  intro a
  match a with
  | ⟨0, _⟩ => show win0_7.index ⟨(i 0).val / 512, ht⟩ 0 * 512 ≤ (i 0).val ∧ (i 0).val < win0_7.index ⟨(i 0).val / 512, ht⟩ 0 * 512 + 512
              rw [hi.1]; dsimp only; omega
  | ⟨1, _⟩ => show win0_7.index ⟨(i 0).val / 512, ht⟩ 1 * 512 ≤ (i 1).val ∧ (i 1).val < win0_7.index ⟨(i 0).val / 512, ht⟩ 1 * 512 + 512
              rw [hi.2]; omega

/-- After the run the result array is `G7`. -/
theorem final7 (c : Dev nD) : (dats m 0 c).arrAt 7 cfg0.N = G7 m c :=
  (dats m 0 c).arrAt_eq_of_cover 7 (G7 m c) (fun t _ => flushed7_eq m c t) covered7

/-- The result array as a function of the argument arrays: the reference's own term. -/
def G8 (c : Dev nD) : S4096x1024.Idx → EReal := Cert.ProjRefIdeal.Read.val_main_v52 (F := Ideal) (A0 m c) (A2 m c)

theorem flushed8_eq (c : Dev nD) (t : Fin cfg0.N) :
    (dats m 0 c).flushed 8 t = ((cfg0.win 8).blk t).view.read (Elt Ideal) (G8 m c) := by
  have hi := (out_maps t).2.2.2.2
  have ht := lt_of_lt_of_eq t.isLt points
  rw [Value.flushed8]
  funext y
  obtain ⟨r, s, rfl⟩ : ∃ (r : Fin 512) (s : Fin 1024), y = ix2 r s := ⟨y 0, y 1, eq_ix2 y⟩
  show out0_8 (iblk m c 0 t) (iblk m c 1 t) (iblk m c 2 t) (iblk m c 3 t) (ix2 r s) = G8 m c ((win0_8.rect t).emb (ix2 r s))
  have e : ((win0_8.rect t).emb (ix2 r s) : S4096x1024.Idx) = ix2 ⟨t.val * 512 + r.val, by omega⟩ s :=
    Shape.idx_ext₂ ((win0_8.rect_emb_val t (ix2 r s) 0).trans (by rw [hi.1]; rfl))
      ((win0_8.rect_emb_val t (ix2 r s) 1).trans (by rw [hi.2]; simp))
  rw [e]
  exact same8 _ _ _ _ _ _ r _ (fun l => in0_at m c t r l (by omega)) (fun l => in2_at m c t l) s

theorem covered8 (i : S4096x1024.Idx) : ∃ t : Fin cfg0.N, (cfg0.win 8).flush t = true ∧ i ∈ ((cfg0.win 8).blk t).view.set := by
  have h0 : (i 0).val < 4096 := (i 0).isLt
  have h1 : (i 1).val < 1024 := (i 1).isLt
  have ht : (i 0).val / 512 < cfg0.N := by rw [points]; omega
  have hi := (out_maps ⟨(i 0).val / 512, ht⟩).2.2.2.2
  refine ⟨⟨(i 0).val / 512, ht⟩, (flushes _).2.2.2.2, ?_⟩
  show i ∈ ((View.whole main_v12_4).slice (win0_8.rect ⟨(i 0).val / 512, ht⟩)).set
  rw [View.set_slice_whole, Rect.mem_set_unit]
  intro a
  match a with
  | ⟨0, _⟩ => show win0_8.index ⟨(i 0).val / 512, ht⟩ 0 * 512 ≤ (i 0).val ∧ (i 0).val < win0_8.index ⟨(i 0).val / 512, ht⟩ 0 * 512 + 512
              rw [hi.1]; dsimp only; omega
  | ⟨1, _⟩ => show win0_8.index ⟨(i 0).val / 512, ht⟩ 1 * 1024 ≤ (i 1).val ∧ (i 1).val < win0_8.index ⟨(i 0).val / 512, ht⟩ 1 * 1024 + 1024
              rw [hi.2]; omega

/-- After the run the result array is `G8`. -/
theorem final8 (c : Dev nD) : (dats m 0 c).arrAt 8 cfg0.N = G8 m c :=
  (dats m 0 c).arrAt_eq_of_cover 8 (G8 m c) (fun t _ => flushed8_eq m c t) covered8

/-- The kernel and the reference leave equal results. -/
theorem algebraic : Cert.algebraic_ProjIdeal_ProjRefIdeal := fun m g m' g' hpre hagree => by
  have hr : ∀ c R l, IsReal (Cert.ProjRefIdeal.Read.val_main_v13 (F := Ideal) (A0 m c) (A1 m c) (A2 m c) (ix2 R l)) := fun c R l =>
    have f := finite_of (hpre c)
    isReal13 _ _ _ f.1 f.2.1 f.2.2 R l
  exact ⟨fun c => G4 m c, fun c => G5 m c, fun c => G6 m c, fun c => G7 m c, fun c => G8 m c,
    (θ_run _ _ _).mono (fun r h c => ⟨(h c).1.trans (final4 m c), (h c).2.1.trans (final5 m c (hr c)), (h c).2.2.1.trans (final6 m c (hr c)),
        (h c).2.2.2.1.trans (final7 m c), (h c).2.2.2.2.1.trans (final8 m c), (h c).2.2.2.2.2⟩)
      (Value.run_blocks (F := Ideal) m g),
    (θ_run _ _ _).mono (fun r h c => by
        obtain ⟨e0, e1, e2, e3, e4⟩ := hagree c
        refine ⟨(h c).1.trans ?_, (h c).2.1.trans ?_, (h c).2.2.1.trans ?_, (h c).2.2.2.1.trans ?_, (h c).2.2.2.2.1.trans ?_,
          (h c).2.2.2.2.2⟩
        · rw [e0, e1, e2]; rfl
        · rw [e0, e1, e2, e3]; rfl
        · rw [e0, e1, e2, e4]; rfl
        · rw [e0, e1, e2]; rfl
        · rw [e0, e2]; rfl)
      (Cert.ProjRefIdeal.Value.run (F := Ideal) m' g')⟩

end Cert.Hand.Proj

end
-- ==== Proof.SmallStep.lean ====
/-
  The optimiser's step on the packed weights: each of the four packed results as a function of the packed arrays the kernel
  starts from.
-/
module

public import proofs.«01_k».proof.Proof.Gen.SmallIdeal.Frame
public import proofs.«01_k».proof.Defs
public import Idealize.ShloMosaic.Lib.Pointwise
public import Idealize.ShloMosaic.Lib.Pipeline.Value

@[expose] public section

set_option maxRecDepth 16384

noncomputable section

namespace Cert.Hand.Small

open Cert.SmallIdeal Cert.SmallIdeal.Gen Idealize.ShloMosaic Idealize.ShloMosaic.TcCoe Idealize.SL.Sem
open Idealize.ShloMosaic.Pipeline (Dat)
open scoped BigOperators

/-! ## The step on one number -/

/-- The literal with the given word. -/
abbrev lit (w : BitVec 32) : EReal := FloatOps.ofBits (F := Ideal) .f32 w

/-- The first moment's step. -/
def moment1 (g m : EReal) : EReal :=
  FloatOps.addf (F := Ideal) (φ := .f32) (FloatOps.mulf (F := Ideal) (φ := .f32) (lit 0x3F666666#32) m)
    (FloatOps.mulf (F := Ideal) (φ := .f32) (lit 0x3DCCCCCD#32) g)

/-- The second moment's step. -/
def moment2 (g v : EReal) : EReal :=
  FloatOps.addf (F := Ideal) (φ := .f32) (FloatOps.mulf (F := Ideal) (φ := .f32) (lit 0x3F7FBE77#32) v)
    (FloatOps.mulf (F := Ideal) (φ := .f32) (lit 0x3A83126F#32) (FloatOps.mulf (F := Ideal) (φ := .f32) g g))

/-- The weight's change. -/
def delta (g w m v : EReal) : EReal :=
  FloatOps.mulf (F := Ideal) (φ := .f32) (lit 0xBA83126F#32)
    (FloatOps.addf (F := Ideal) (φ := .f32)
      (FloatOps.hostDivf (F := Ideal) (φ := .f32) (FloatOps.hostDivf (F := Ideal) (φ := .f32) (moment1 g m) (lit 0x3F26BD02#32))
        (FloatOps.addf (F := Ideal) (φ := .f32)
          (FloatOps.hostUnary (F := Ideal) (φ := .f32) .sqrt (FloatOps.hostDivf (F := Ideal) (φ := .f32) (moment2 g v) (lit 0x3C231ACC#32)))
          (lit 0x322BCC77#32)))
      (FloatOps.mulf (F := Ideal) (φ := .f32) (lit 0x3C23D70A#32) w))

/-- The sum of the eight devices' parts. -/
def grad8 (X : S8x144x1024.Idx → EReal) (i : S144x1024.Idx) : EReal :=
  lit 0x00000000#32 + ∑ j : Fin 8, X (ix3 j (i 0) (i 1))

variable (m : (ℓ : Loc nD τ sig) → Buf (Elt Ideal) ℓ)

/-- Grid points tile the result: 18 row blocks by 1 column blocks; where each argument's block lies. -/
theorem index_maps : ∀ t : Fin cfg0.N,
    win0_0.index t 1 = win0_4.index t 0
    ∧ (win0_0.index t 0 = 0 ∧ win0_0.index t 2 = 0)
    ∧ win0_1.index t 0 = win0_4.index t 0
    ∧ win0_1.index t 1 = 0
    ∧ win0_2.index t 0 = win0_4.index t 0
    ∧ win0_2.index t 1 = 0
    ∧ win0_3.index t 0 = win0_4.index t 0
    ∧ win0_3.index t 1 = 0
    ∧ win0_5.index t 0 = win0_4.index t 0
    ∧ win0_5.index t 1 = win0_4.index t 1
    ∧ win0_6.index t 0 = win0_4.index t 0
    ∧ win0_6.index t 1 = win0_4.index t 1
    ∧ win0_7.index t 0 = win0_4.index t 0
    ∧ win0_7.index t 1 = win0_4.index t 1
    ∧ win0_4.index t 0 < 18
    ∧ win0_4.index t 1 < 1 :=
  (by decide +kernel : ∀ t : Fin grid0.N, _)

/-- Every block of the results belongs to some grid point, and every point writes back. -/
theorem index_onto : ∀ (a : Fin 18) (b : Fin 1), ∃ t : Fin cfg0.N,
    (cfg0.win 4).flush t = true ∧ (cfg0.win 5).flush t = true ∧ (cfg0.win 6).flush t = true ∧ (cfg0.win 7).flush t = true
    ∧ win0_4.index t 0 = a.val ∧ win0_4.index t 1 = b.val :=
  (by decide +kernel : ∀ (a : Fin 18) (b : Fin 1), ∃ t : Fin grid0.N, _)

/-- The packed arrays the kernel starts from. -/
abbrev A0 (c : Dev nD) : S8x144x1024.Idx → EReal := V m c main_v12
abbrev A1 (c : Dev nD) : S144x1024.Idx → EReal := V m c main_v24
abbrev A2 (c : Dev nD) : S144x1024.Idx → EReal := V m c main_v36
abbrev A3 (c : Dev nD) : S144x1024.Idx → EReal := V m c main_v48

/-! ## What a grid point reads -/

theorem in0_at (c : Dev nD) (t : Fin cfg0.N) (j : Fin 8) (r : Fin 8) (s : Fin 1024) (h0 : win0_4.index t 0 * 8 + r.val < 144) :
    iblk m c 0 t (ix3 j r s) = A0 m c (ix3 j ⟨win0_4.index t 0 * 8 + r.val, h0⟩ s) := by
  have hi := index_maps t
  show V m c main_v12 ((win0_0.rect t).emb (ix3 j r s)) = _
  refine congrArg _ (funext fun a => Fin.ext ?_)
  match a with
  | ⟨0, _⟩ => exact (win0_0.rect_emb_val t (ix3 j r s) 0).trans (by rw [hi.2.1.1]; simp)
  | ⟨1, _⟩ => exact (win0_0.rect_emb_val t (ix3 j r s) 1).trans (by rw [hi.1]; rfl)
  | ⟨2, _⟩ => exact (win0_0.rect_emb_val t (ix3 j r s) 2).trans (by rw [hi.2.1.2]; simp)

theorem in1_at (c : Dev nD) (t : Fin cfg0.N) (r : Fin 8) (s : Fin 1024) (h0 : win0_4.index t 0 * 8 + r.val < 144) :
    iblk m c 1 t (ix2 r s) = A1 m c (ix2 ⟨win0_4.index t 0 * 8 + r.val, h0⟩ s) := by
  have hi := index_maps t
  show V m c main_v24 ((win0_1.rect t).emb (ix2 r s)) = _
  exact congrArg _ (Shape.idx_ext₂ ((win0_1.rect_emb_val t (ix2 r s) 0).trans (by rw [hi.2.2.1]; rfl))
    ((win0_1.rect_emb_val t (ix2 r s) 1).trans (by rw [hi.2.2.2.1]; simp)))

theorem in2_at (c : Dev nD) (t : Fin cfg0.N) (r : Fin 8) (s : Fin 1024) (h0 : win0_4.index t 0 * 8 + r.val < 144) :
    iblk m c 2 t (ix2 r s) = A2 m c (ix2 ⟨win0_4.index t 0 * 8 + r.val, h0⟩ s) := by
  have hi := index_maps t
  show V m c main_v36 ((win0_2.rect t).emb (ix2 r s)) = _
  exact congrArg _ (Shape.idx_ext₂ ((win0_2.rect_emb_val t (ix2 r s) 0).trans (by rw [hi.2.2.2.2.1]; rfl))
    ((win0_2.rect_emb_val t (ix2 r s) 1).trans (by rw [hi.2.2.2.2.2.1]; simp)))

theorem in3_at (c : Dev nD) (t : Fin cfg0.N) (r : Fin 8) (s : Fin 1024) (h0 : win0_4.index t 0 * 8 + r.val < 144) :
    iblk m c 3 t (ix2 r s) = A3 m c (ix2 ⟨win0_4.index t 0 * 8 + r.val, h0⟩ s) := by
  have hi := index_maps t
  show V m c main_v48 ((win0_3.rect t).emb (ix2 r s)) = _
  exact congrArg _ (Shape.idx_ext₂ ((win0_3.rect_emb_val t (ix2 r s) 0).trans (by rw [hi.2.2.2.2.2.2.1]; rfl))
    ((win0_3.rect_emb_val t (ix2 r s) 1).trans (by rw [hi.2.2.2.2.2.2.2.1]; simp)))

/-! ## A block of each result -/

theorem same4 (x0 : Vec Ideal S8x8x1024 .f32) (x1 : Vec Ideal S8x1024 .f32) (x2 : Vec Ideal S8x1024 .f32) (x3 : Vec Ideal S8x1024 .f32)
    (X0 : Vec Ideal S8x144x1024 .f32) (X1 : Vec Ideal S144x1024 .f32) (X2 : Vec Ideal S144x1024 .f32) (X3 : Vec Ideal S144x1024 .f32)
    (r : Fin 8) (s : Fin 1024) (R : Fin 144)
    (h0 : ∀ (j : Fin 8) (l : Fin 1024), x0 (ix3 j r l) = X0 (ix3 j R l))
    (h1 : ∀ (l : Fin 1024), x1 (ix2 r l) = X1 (ix2 R l))
    (h2 : ∀ (l : Fin 1024), x2 (ix2 r l) = X2 (ix2 R l))
    (h3 : ∀ (l : Fin 1024), x3 (ix2 r l) = X3 (ix2 R l)) :
    out0_4 (F := Ideal) x0 x1 x2 x3 (ix2 r s)
      = grad8 X0 (ix2 R s) := by
  unfold out0_4
  rw [View.canon_unit_zero (by decide)]
  try simp only [View.ld_unit_zero (S := S8x1024) (by decide : (![0, 0] : Fin 2 → Nat) = fun _ => 0)]
  unfold_payloads
  pointwise [grad8, delta, moment1, moment2]
  simp only [h0, h1, h2, h3, Fin.sum_univ_eight]

theorem same5 (x0 : Vec Ideal S8x8x1024 .f32) (x1 : Vec Ideal S8x1024 .f32) (x2 : Vec Ideal S8x1024 .f32) (x3 : Vec Ideal S8x1024 .f32)
    (X0 : Vec Ideal S8x144x1024 .f32) (X1 : Vec Ideal S144x1024 .f32) (X2 : Vec Ideal S144x1024 .f32) (X3 : Vec Ideal S144x1024 .f32)
    (r : Fin 8) (s : Fin 1024) (R : Fin 144)
    (h0 : ∀ (j : Fin 8) (l : Fin 1024), x0 (ix3 j r l) = X0 (ix3 j R l))
    (h1 : ∀ (l : Fin 1024), x1 (ix2 r l) = X1 (ix2 R l))
    (h2 : ∀ (l : Fin 1024), x2 (ix2 r l) = X2 (ix2 R l))
    (h3 : ∀ (l : Fin 1024), x3 (ix2 r l) = X3 (ix2 R l)) :
    out0_5 (F := Ideal) x0 x1 x2 x3 (ix2 r s)
      = delta (grad8 X0 (ix2 R s)) (X1 (ix2 R s)) (X2 (ix2 R s)) (X3 (ix2 R s)) := by
  unfold out0_5
  rw [View.canon_unit_zero (by decide)]
  try simp only [View.ld_unit_zero (S := S8x1024) (by decide : (![0, 0] : Fin 2 → Nat) = fun _ => 0)]
  unfold_payloads
  pointwise [grad8, delta, moment1, moment2]
  simp only [h0, h1, h2, h3, Fin.sum_univ_eight]

theorem same6 (x0 : Vec Ideal S8x8x1024 .f32) (x1 : Vec Ideal S8x1024 .f32) (x2 : Vec Ideal S8x1024 .f32) (x3 : Vec Ideal S8x1024 .f32)
    (X0 : Vec Ideal S8x144x1024 .f32) (X1 : Vec Ideal S144x1024 .f32) (X2 : Vec Ideal S144x1024 .f32) (X3 : Vec Ideal S144x1024 .f32)
    (r : Fin 8) (s : Fin 1024) (R : Fin 144)
    (h0 : ∀ (j : Fin 8) (l : Fin 1024), x0 (ix3 j r l) = X0 (ix3 j R l))
    (h1 : ∀ (l : Fin 1024), x1 (ix2 r l) = X1 (ix2 R l))
    (h2 : ∀ (l : Fin 1024), x2 (ix2 r l) = X2 (ix2 R l))
    (h3 : ∀ (l : Fin 1024), x3 (ix2 r l) = X3 (ix2 R l)) :
    out0_6 (F := Ideal) x0 x1 x2 x3 (ix2 r s)
      = moment1 (grad8 X0 (ix2 R s)) (X2 (ix2 R s)) := by
  unfold out0_6
  rw [View.canon_unit_zero (by decide)]
  try simp only [View.ld_unit_zero (S := S8x1024) (by decide : (![0, 0] : Fin 2 → Nat) = fun _ => 0)]
  unfold_payloads
  pointwise [grad8, delta, moment1, moment2]
  simp only [h0, h1, h2, h3, Fin.sum_univ_eight]

theorem same7 (x0 : Vec Ideal S8x8x1024 .f32) (x1 : Vec Ideal S8x1024 .f32) (x2 : Vec Ideal S8x1024 .f32) (x3 : Vec Ideal S8x1024 .f32)
    (X0 : Vec Ideal S8x144x1024 .f32) (X1 : Vec Ideal S144x1024 .f32) (X2 : Vec Ideal S144x1024 .f32) (X3 : Vec Ideal S144x1024 .f32)
    (r : Fin 8) (s : Fin 1024) (R : Fin 144)
    (h0 : ∀ (j : Fin 8) (l : Fin 1024), x0 (ix3 j r l) = X0 (ix3 j R l))
    (h1 : ∀ (l : Fin 1024), x1 (ix2 r l) = X1 (ix2 R l))
    (h2 : ∀ (l : Fin 1024), x2 (ix2 r l) = X2 (ix2 R l))
    (h3 : ∀ (l : Fin 1024), x3 (ix2 r l) = X3 (ix2 R l)) :
    out0_7 (F := Ideal) x0 x1 x2 x3 (ix2 r s)
      = moment2 (grad8 X0 (ix2 R s)) (X3 (ix2 R s)) := by
  unfold out0_7
  rw [View.canon_unit_zero (by decide)]
  try simp only [View.ld_unit_zero (S := S8x1024) (by decide : (![0, 0] : Fin 2 → Nat) = fun _ => 0)]
  unfold_payloads
  pointwise [grad8, delta, moment1, moment2]
  simp only [h0, h1, h2, h3, Fin.sum_univ_eight]

/-- The result array as a function of the argument arrays. -/
def G4 (c : Dev nD) : S144x1024.Idx → EReal :=
  grad8 (A0 m c)

theorem flushed4_eq (c : Dev nD) (t : Fin cfg0.N) :
    (dats m 0 c).flushed 4 t = ((cfg0.win 4).blk t).view.read (Elt Ideal) (G4 m c) := by
  have hi := index_maps t
  have hl0 := hi.2.2.2.2.2.2.2.2.2.2.2.2.2.2.1
  have hl1 := hi.2.2.2.2.2.2.2.2.2.2.2.2.2.2.2
  show (cfg0.win 4).cut (grid0.coords t) ((dats m 0 c).after 4 t) = _
  rw [after0_4]
  funext y
  obtain ⟨r, s, rfl⟩ : ∃ (r : Fin 8) (s : Fin 1024), y = ix2 r s := ⟨y 0, y 1, eq_ix2 y⟩
  show out0_4 (iblk m c 0 t) (iblk m c 1 t) (iblk m c 2 t) (iblk m c 3 t) (ix2 r s) = G4 m c ((win0_4.rect t).emb (ix2 r s))
  have e : ((win0_4.rect t).emb (ix2 r s) : S144x1024.Idx)
      = ix2 ⟨win0_4.index t 0 * 8 + r.val, by omega⟩ s :=
    Shape.idx_ext₂ ((win0_4.rect_emb_val t (ix2 r s) 0).trans rfl)
      ((win0_4.rect_emb_val t (ix2 r s) 1).trans (by rw [Nat.lt_one_iff.mp hl1]; simp))
  rw [e]
  exact same4 _ _ _ _ _ _ _ _ r s _ (fun j l => in0_at m c t j r l (by omega)) (fun l => in1_at m c t r l (by omega)) (fun l => in2_at m c t r l (by omega)) (fun l => in3_at m c t r l (by omega))

theorem covered4 (i : S144x1024.Idx) : ∃ t : Fin cfg0.N, (cfg0.win 4).flush t = true ∧ i ∈ ((cfg0.win 4).blk t).view.set := by
  have h0 : (i 0).val < 144 := (i 0).isLt
  have h1 : (i 1).val < 1024 := (i 1).isLt
  obtain ⟨t, hf⟩ := index_onto ⟨(i 0).val / 8, by omega⟩ ⟨(i 1).val / 1024, by omega⟩
  have hi := index_maps t
  have e0 := hf.2.2.2.2.1
  have e1 := hf.2.2.2.2.2
  dsimp only at e0 e1
  refine ⟨t, hf.1, ?_⟩
  show i ∈ ((View.whole main_v49_0).slice (win0_4.rect t)).set
  rw [View.set_slice_whole, Rect.mem_set_unit]
  intro a
  match a with
  | ⟨0, _⟩ => show win0_4.index t 0 * 8 ≤ (i 0).val ∧ (i 0).val < win0_4.index t 0 * 8 + 8
              omega
  | ⟨1, _⟩ => show win0_4.index t 1 * 1024 ≤ (i 1).val ∧ (i 1).val < win0_4.index t 1 * 1024 + 1024
              omega

/-- After the run the result array is `G4`. -/
theorem final4 (c : Dev nD) : (dats m 0 c).arrAt 4 cfg0.N = G4 m c :=
  (dats m 0 c).arrAt_eq_of_cover 4 (G4 m c) (fun t _ => flushed4_eq m c t) covered4

/-- The result array as a function of the argument arrays. -/
def G5 (c : Dev nD) : S144x1024.Idx → EReal :=
  fun i => delta (grad8 (A0 m c) i) (A1 m c i) (A2 m c i) (A3 m c i)

theorem flushed5_eq (c : Dev nD) (t : Fin cfg0.N) :
    (dats m 0 c).flushed 5 t = ((cfg0.win 5).blk t).view.read (Elt Ideal) (G5 m c) := by
  have hi := index_maps t
  have hl0 := hi.2.2.2.2.2.2.2.2.2.2.2.2.2.2.1
  have hl1 := hi.2.2.2.2.2.2.2.2.2.2.2.2.2.2.2
  show (cfg0.win 5).cut (grid0.coords t) ((dats m 0 c).after 5 t) = _
  rw [after0_5]
  funext y
  obtain ⟨r, s, rfl⟩ : ∃ (r : Fin 8) (s : Fin 1024), y = ix2 r s := ⟨y 0, y 1, eq_ix2 y⟩
  show out0_5 (iblk m c 0 t) (iblk m c 1 t) (iblk m c 2 t) (iblk m c 3 t) (ix2 r s) = G5 m c ((win0_5.rect t).emb (ix2 r s))
  have e : ((win0_5.rect t).emb (ix2 r s) : S144x1024.Idx)
      = ix2 ⟨win0_4.index t 0 * 8 + r.val, by omega⟩ s :=
    Shape.idx_ext₂ ((win0_5.rect_emb_val t (ix2 r s) 0).trans (by rw [hi.2.2.2.2.2.2.2.2.1]; rfl))
      ((win0_5.rect_emb_val t (ix2 r s) 1).trans (by rw [hi.2.2.2.2.2.2.2.2.2.1]; rw [Nat.lt_one_iff.mp hl1]; simp))
  rw [e]
  exact same5 _ _ _ _ _ _ _ _ r s _ (fun j l => in0_at m c t j r l (by omega)) (fun l => in1_at m c t r l (by omega)) (fun l => in2_at m c t r l (by omega)) (fun l => in3_at m c t r l (by omega))

theorem covered5 (i : S144x1024.Idx) : ∃ t : Fin cfg0.N, (cfg0.win 5).flush t = true ∧ i ∈ ((cfg0.win 5).blk t).view.set := by
  have h0 : (i 0).val < 144 := (i 0).isLt
  have h1 : (i 1).val < 1024 := (i 1).isLt
  obtain ⟨t, hf⟩ := index_onto ⟨(i 0).val / 8, by omega⟩ ⟨(i 1).val / 1024, by omega⟩
  have hi := index_maps t
  have e0 := hf.2.2.2.2.1
  have e1 := hf.2.2.2.2.2
  dsimp only at e0 e1
  refine ⟨t, hf.2.1, ?_⟩
  show i ∈ ((View.whole main_v49_1).slice (win0_5.rect t)).set
  rw [View.set_slice_whole, Rect.mem_set_unit]
  intro a
  match a with
  | ⟨0, _⟩ => show win0_5.index t 0 * 8 ≤ (i 0).val ∧ (i 0).val < win0_5.index t 0 * 8 + 8
              rw [hi.2.2.2.2.2.2.2.2.1]; omega
  | ⟨1, _⟩ => show win0_5.index t 1 * 1024 ≤ (i 1).val ∧ (i 1).val < win0_5.index t 1 * 1024 + 1024
              rw [hi.2.2.2.2.2.2.2.2.2.1]; omega

/-- After the run the result array is `G5`. -/
theorem final5 (c : Dev nD) : (dats m 0 c).arrAt 5 cfg0.N = G5 m c :=
  (dats m 0 c).arrAt_eq_of_cover 5 (G5 m c) (fun t _ => flushed5_eq m c t) covered5

/-- The result array as a function of the argument arrays. -/
def G6 (c : Dev nD) : S144x1024.Idx → EReal :=
  fun i => moment1 (grad8 (A0 m c) i) (A2 m c i)

theorem flushed6_eq (c : Dev nD) (t : Fin cfg0.N) :
    (dats m 0 c).flushed 6 t = ((cfg0.win 6).blk t).view.read (Elt Ideal) (G6 m c) := by
  have hi := index_maps t
  have hl0 := hi.2.2.2.2.2.2.2.2.2.2.2.2.2.2.1
  have hl1 := hi.2.2.2.2.2.2.2.2.2.2.2.2.2.2.2
  show (cfg0.win 6).cut (grid0.coords t) ((dats m 0 c).after 6 t) = _
  rw [after0_6]
  funext y
  obtain ⟨r, s, rfl⟩ : ∃ (r : Fin 8) (s : Fin 1024), y = ix2 r s := ⟨y 0, y 1, eq_ix2 y⟩
  show out0_6 (iblk m c 0 t) (iblk m c 1 t) (iblk m c 2 t) (iblk m c 3 t) (ix2 r s) = G6 m c ((win0_6.rect t).emb (ix2 r s))
  have e : ((win0_6.rect t).emb (ix2 r s) : S144x1024.Idx)
      = ix2 ⟨win0_4.index t 0 * 8 + r.val, by omega⟩ s :=
    Shape.idx_ext₂ ((win0_6.rect_emb_val t (ix2 r s) 0).trans (by rw [hi.2.2.2.2.2.2.2.2.2.2.1]; rfl))
      ((win0_6.rect_emb_val t (ix2 r s) 1).trans (by rw [hi.2.2.2.2.2.2.2.2.2.2.2.1]; rw [Nat.lt_one_iff.mp hl1]; simp))
  rw [e]
  exact same6 _ _ _ _ _ _ _ _ r s _ (fun j l => in0_at m c t j r l (by omega)) (fun l => in1_at m c t r l (by omega)) (fun l => in2_at m c t r l (by omega)) (fun l => in3_at m c t r l (by omega))

theorem covered6 (i : S144x1024.Idx) : ∃ t : Fin cfg0.N, (cfg0.win 6).flush t = true ∧ i ∈ ((cfg0.win 6).blk t).view.set := by
  have h0 : (i 0).val < 144 := (i 0).isLt
  have h1 : (i 1).val < 1024 := (i 1).isLt
  obtain ⟨t, hf⟩ := index_onto ⟨(i 0).val / 8, by omega⟩ ⟨(i 1).val / 1024, by omega⟩
  have hi := index_maps t
  have e0 := hf.2.2.2.2.1
  have e1 := hf.2.2.2.2.2
  dsimp only at e0 e1
  refine ⟨t, hf.2.2.1, ?_⟩
  show i ∈ ((View.whole main_v49_2).slice (win0_6.rect t)).set
  rw [View.set_slice_whole, Rect.mem_set_unit]
  intro a
  match a with
  | ⟨0, _⟩ => show win0_6.index t 0 * 8 ≤ (i 0).val ∧ (i 0).val < win0_6.index t 0 * 8 + 8
              rw [hi.2.2.2.2.2.2.2.2.2.2.1]; omega
  | ⟨1, _⟩ => show win0_6.index t 1 * 1024 ≤ (i 1).val ∧ (i 1).val < win0_6.index t 1 * 1024 + 1024
              rw [hi.2.2.2.2.2.2.2.2.2.2.2.1]; omega

/-- After the run the result array is `G6`. -/
theorem final6 (c : Dev nD) : (dats m 0 c).arrAt 6 cfg0.N = G6 m c :=
  (dats m 0 c).arrAt_eq_of_cover 6 (G6 m c) (fun t _ => flushed6_eq m c t) covered6

/-- The result array as a function of the argument arrays. -/
def G7 (c : Dev nD) : S144x1024.Idx → EReal :=
  fun i => moment2 (grad8 (A0 m c) i) (A3 m c i)

theorem flushed7_eq (c : Dev nD) (t : Fin cfg0.N) :
    (dats m 0 c).flushed 7 t = ((cfg0.win 7).blk t).view.read (Elt Ideal) (G7 m c) := by
  have hi := index_maps t
  have hl0 := hi.2.2.2.2.2.2.2.2.2.2.2.2.2.2.1
  have hl1 := hi.2.2.2.2.2.2.2.2.2.2.2.2.2.2.2
  show (cfg0.win 7).cut (grid0.coords t) ((dats m 0 c).after 7 t) = _
  rw [after0_7]
  funext y
  obtain ⟨r, s, rfl⟩ : ∃ (r : Fin 8) (s : Fin 1024), y = ix2 r s := ⟨y 0, y 1, eq_ix2 y⟩
  show out0_7 (iblk m c 0 t) (iblk m c 1 t) (iblk m c 2 t) (iblk m c 3 t) (ix2 r s) = G7 m c ((win0_7.rect t).emb (ix2 r s))
  have e : ((win0_7.rect t).emb (ix2 r s) : S144x1024.Idx)
      = ix2 ⟨win0_4.index t 0 * 8 + r.val, by omega⟩ s :=
    Shape.idx_ext₂ ((win0_7.rect_emb_val t (ix2 r s) 0).trans (by rw [hi.2.2.2.2.2.2.2.2.2.2.2.2.1]; rfl))
      ((win0_7.rect_emb_val t (ix2 r s) 1).trans (by rw [hi.2.2.2.2.2.2.2.2.2.2.2.2.2.1]; rw [Nat.lt_one_iff.mp hl1]; simp))
  rw [e]
  exact same7 _ _ _ _ _ _ _ _ r s _ (fun j l => in0_at m c t j r l (by omega)) (fun l => in1_at m c t r l (by omega)) (fun l => in2_at m c t r l (by omega)) (fun l => in3_at m c t r l (by omega))

theorem covered7 (i : S144x1024.Idx) : ∃ t : Fin cfg0.N, (cfg0.win 7).flush t = true ∧ i ∈ ((cfg0.win 7).blk t).view.set := by
  have h0 : (i 0).val < 144 := (i 0).isLt
  have h1 : (i 1).val < 1024 := (i 1).isLt
  obtain ⟨t, hf⟩ := index_onto ⟨(i 0).val / 8, by omega⟩ ⟨(i 1).val / 1024, by omega⟩
  have hi := index_maps t
  have e0 := hf.2.2.2.2.1
  have e1 := hf.2.2.2.2.2
  dsimp only at e0 e1
  refine ⟨t, hf.2.2.2.1, ?_⟩
  show i ∈ ((View.whole main_v49_3).slice (win0_7.rect t)).set
  rw [View.set_slice_whole, Rect.mem_set_unit]
  intro a
  match a with
  | ⟨0, _⟩ => show win0_7.index t 0 * 8 ≤ (i 0).val ∧ (i 0).val < win0_7.index t 0 * 8 + 8
              rw [hi.2.2.2.2.2.2.2.2.2.2.2.2.1]; omega
  | ⟨1, _⟩ => show win0_7.index t 1 * 1024 ≤ (i 1).val ∧ (i 1).val < win0_7.index t 1 * 1024 + 1024
              rw [hi.2.2.2.2.2.2.2.2.2.2.2.2.2.1]; omega

/-- After the run the result array is `G7`. -/
theorem final7 (c : Dev nD) : (dats m 0 c).arrAt 7 cfg0.N = G7 m c :=
  (dats m 0 c).arrAt_eq_of_cover 7 (G7 m c) (fun t _ => flushed7_eq m c t) covered7

end Cert.Hand.Small

end
-- ==== Proof.Packing.lean ====
/-
  Several arrays laid end to end in one array of 144 rows of 1024 numbers: where each number goes, and the same for the
  eight devices' arrays packed side by side.
-/
module

public import Idealize.ShloMosaic.Lib.Pipeline.Value
public import Idealize.ShloMosaic.Lib.Pointwise

@[expose] public section

namespace Cert.Hand.Packing

open Idealize.ShloMosaic

variable {α : Type}

/-- The packed array. -/
abbrev Packed : Shape := ⟨2, ![144, 1024]⟩
/-- The eight devices' packed arrays. -/
abbrev Packed8 : Shape := ⟨3, ![8, 144, 1024]⟩
/-- `n` numbers in a row. -/
abbrev Flat (n : Nat) : Shape := ⟨1, ![n]⟩
/-- The eight devices' rows of `n` numbers. -/
abbrev Flat8 (n : Nat) : Shape := ⟨2, ![8, n]⟩

/-- The place of number `p` in the packed array. -/
def pos (p : Nat) (h : p < 147456) : Packed.Idx :=
  ix2 ⟨p / 1024, by omega⟩ ⟨p % 1024, by omega⟩

/-- The place of device `j`'s number `p`. -/
def pos8 (j : Fin 8) (p : Nat) (h : p < 147456) : Packed8.Idx :=
  ix3 j ⟨p / 1024, by omega⟩ ⟨p % 1024, by omega⟩

theorem rowMajor_pos (p : Nat) (h : p < 147456) : (Shape.rowMajor Packed (pos p h)).val = p := by
  rw [Shape.rowMajor_val_two]
  show p / 1024 * 1024 + p % 1024 = p
  omega

theorem rowMajor_pos8 (j : Fin 8) (p : Nat) (h : p < 147456) :
    (Shape.rowMajor Packed8 (pos8 j p h)).val = j.val * 147456 + p := by
  rw [Shape.rowMajor_val_three]
  show (j.val * 144 + p / 1024) * 1024 + p % 1024 = _
  omega

/-- A shape holding as many numbers as a row of `n` has positions below `n`. -/
theorem rowMajor_lt {s : Shape} {n : Nat} (h : (Flat n).ShapeCasts s) (i : s.Idx) : (s.rowMajor i).val < n := by
  have e := Shape.rowMajor_reshapeEquiv h i
  rw [Shape.rowMajor_val_one] at e
  rw [← e]
  exact (Shape.reshapeEquiv h i 0).isLt

/-- Taking array `s` out of the packed array, `n` numbers from number `off` on. -/
theorem unpack_flat (X : Packed.Idx → α) (h1 : Packed.ShapeCasts (Flat 147456)) {n off : Nat}
    (h2 : (Flat 147456).Slices ![off] (Flat n)) (k : (Flat n).Idx) (hp : off + (k 0).val < 147456) :
    extractStridedSlice (Flat n) ![off] (shapeCast (Flat 147456) X h1) h2 k = X (pos (off + (k 0).val) hp) := by
  refine (extractStridedSlice_apply _ _ h2 k (ix1 ⟨off + (k 0).val, hp⟩) fun a => ?_).trans ?_
  · match a with
    | ⟨0, _⟩ => rfl
  · refine shapeCast_apply _ _ _ _ ?_
    rw [rowMajor_pos, Shape.rowMajor_val_one]; rfl

theorem unpack {s : Shape} (X : Packed.Idx → α) (h1 : Packed.ShapeCasts (Flat 147456)) {n off : Nat}
    (h2 : (Flat 147456).Slices ![off] (Flat n)) (h3 : (Flat n).ShapeCasts s) (i : s.Idx)
    (q : Nat) (hq : (s.rowMajor i).val = q) (hp : off + q < 147456) :
    shapeCast s (extractStridedSlice (Flat n) ![off] (shapeCast (Flat 147456) X h1) h2) h3 i
      = X (pos (off + q) hp) := by
  subst hq
  have hn := rowMajor_lt h3 i
  refine (shapeCast_apply _ h3 i (ix1 ⟨(s.rowMajor i).val, hn⟩) ?_).trans
    (unpack_flat X h1 h2 (ix1 ⟨(s.rowMajor i).val, hn⟩) hp)
  exact Shape.rowMajor_val_one _

/-- Number `off + q` of the packed array is number `q` of the piece that starts at `off`. -/
theorem pack_flat (xs : List ((s : Shape) × (s.Idx → α))) (hc : Shape.Concatenates (xs.map (·.1)) (Flat 139424) 0)
    (Z : (Flat 8031).Idx → α) (T : (Flat 1).Idx → α)
    (hz : Shape.Concatenates [Flat 139424, Flat 8031, Flat 1] (Flat 147456) 0)
    (h : (Flat 147456).ShapeCasts Packed) (k n off : Nat) (x : (Flat n).Idx → α) (hk : k < xs.length)
    (hx : xs[k] = ⟨Flat n, x⟩)
    (hpre : (((xs.take k).map (·.1)).map fun s => if h : s.rank = (Flat 139424).rank then s.size ((0 : Fin 1).cast h.symm) else 0).sum = off)
    (hoff : off + n ≤ 139424) (q : (Flat n).Idx) (hp : off + (q 0).val < 147456) :
    shapeCast Packed (concatenate (Flat 147456) 0 [⟨Flat 139424, concatenate (Flat 139424) 0 xs hc⟩, ⟨Flat 8031, Z⟩, ⟨Flat 1, T⟩] hz) h
      (pos (off + (q 0).val) hp) = x q := by
  have hq : (q 0).val < n := (q 0).isLt
  refine (shapeCast_apply _ h _ (ix1 ⟨off + (q 0).val, hp⟩) ?_).trans ?_
  · rw [rowMajor_pos, Shape.rowMajor_val_one]; rfl
  refine (concatenate_apply_piece (t := Flat 147456) 0
    [⟨Flat 139424, concatenate (Flat 139424) 0 xs hc⟩, ⟨Flat 8031, Z⟩, ⟨Flat 1, T⟩] hz _ 0 (by simp) (Flat 139424) _ rfl rfl 0 rfl
    (ix1 ⟨off + (q 0).val, by omega⟩) (fun b hb => absurd (Subsingleton.elim _ _) hb) (Nat.zero_add _)).trans ?_
  exact concatenate_apply_piece (t := Flat 139424) 0 xs hc _ k hk (Flat n) x hx rfl off hpre q
    (fun b hb => absurd (Subsingleton.elim _ _) hb) rfl

theorem pack (xs : List ((s : Shape) × (s.Idx → α))) (hc : Shape.Concatenates (xs.map (·.1)) (Flat 139424) 0)
    (Z : (Flat 8031).Idx → α) (T : (Flat 1).Idx → α)
    (hz : Shape.Concatenates [Flat 139424, Flat 8031, Flat 1] (Flat 147456) 0)
    (h : (Flat 147456).ShapeCasts Packed) (k n off : Nat) {s : Shape} (w : s.Idx → α) (h3 : s.ShapeCasts (Flat n))
    (h3' : (Flat n).ShapeCasts s) (hk : k < xs.length) (hx : xs[k] = ⟨Flat n, shapeCast (Flat n) w h3⟩)
    (hpre : (((xs.take k).map (·.1)).map fun s => if h : s.rank = (Flat 139424).rank then s.size ((0 : Fin 1).cast h.symm) else 0).sum = off)
    (hoff : off + n ≤ 139424) (i : s.Idx) (q : Nat) (hq : (s.rowMajor i).val = q) (hp : off + q < 147456) :
    shapeCast Packed (concatenate (Flat 147456) 0 [⟨Flat 139424, concatenate (Flat 139424) 0 xs hc⟩, ⟨Flat 8031, Z⟩, ⟨Flat 1, T⟩] hz) h
      (pos (off + q) hp) = w i := by
  subst hq
  have hn := rowMajor_lt h3' i
  refine (pack_flat xs hc Z T hz h k n off _ hk hx hpre hoff (ix1 ⟨(s.rowMajor i).val, hn⟩) hp).trans
    (shapeCast_apply _ h3 _ i ?_)
  exact (Shape.rowMajor_val_one (ix1 (⟨(s.rowMajor i).val, hn⟩ : Fin n))).symm

/-- The same for the eight devices' packed arrays. -/
theorem pack8_flat (xs : List ((s : Shape) × (s.Idx → α))) (hc : Shape.Concatenates (xs.map (·.1)) (Flat8 139424) 1)
    (Z : (Flat8 8031).Idx → α) (T : (Flat8 1).Idx → α)
    (hz : Shape.Concatenates [Flat8 139424, Flat8 8031, Flat8 1] (Flat8 147456) 1)
    (h : (Flat8 147456).ShapeCasts Packed8) (k n off : Nat) (x : (Flat8 n).Idx → α) (hk : k < xs.length)
    (hx : xs[k] = ⟨Flat8 n, x⟩)
    (hpre : (((xs.take k).map (·.1)).map fun s => if h : s.rank = (Flat8 139424).rank then s.size ((1 : Fin 2).cast h.symm) else 0).sum = off)
    (hoff : off + n ≤ 139424) (j : Fin 8) (q : Fin n) (hp : off + q.val < 147456) :
    shapeCast Packed8 (concatenate (Flat8 147456) 1 [⟨Flat8 139424, concatenate (Flat8 139424) 1 xs hc⟩, ⟨Flat8 8031, Z⟩, ⟨Flat8 1, T⟩] hz) h
      (pos8 j (off + q.val) hp) = x (ix2 j q) := by
  have hq := q.isLt
  refine (shapeCast_apply _ h _ (ix2 j ⟨off + q.val, hp⟩) ?_).trans ?_
  · rw [rowMajor_pos8, Shape.rowMajor_val_two]
    rfl
  refine (concatenate_apply_piece (t := Flat8 147456) 1
    [⟨Flat8 139424, concatenate (Flat8 139424) 1 xs hc⟩, ⟨Flat8 8031, Z⟩, ⟨Flat8 1, T⟩] hz _ 0 (by simp) (Flat8 139424) _ rfl rfl 0 rfl
    (ix2 j ⟨off + q.val, by omega⟩) (fun b hb => ?_) (Nat.zero_add _)).trans ?_
  · match b with
    | ⟨0, _⟩ => rfl
    | ⟨1, _⟩ => exact absurd rfl hb
  · refine concatenate_apply_piece (t := Flat8 139424) 1 xs hc _ k hk (Flat8 n) x hx rfl off hpre (ix2 j q) (fun b hb => ?_) rfl
    match b with
    | ⟨0, _⟩ => rfl
    | ⟨1, _⟩ => exact absurd rfl hb

/-- `g` is the eight devices' arrays of shape `s`: its positions are those of `s`, device after device. -/
theorem pack8 (xs : List ((s : Shape) × (s.Idx → α))) (hc : Shape.Concatenates (xs.map (·.1)) (Flat8 139424) 1)
    (Z : (Flat8 8031).Idx → α) (T : (Flat8 1).Idx → α)
    (hz : Shape.Concatenates [Flat8 139424, Flat8 8031, Flat8 1] (Flat8 147456) 1)
    (h : (Flat8 147456).ShapeCasts Packed8) (k n off : Nat) {s8 : Shape} (g : s8.Idx → α) (h3 : s8.ShapeCasts (Flat8 n))
    (hk : k < xs.length) (hx : xs[k] = ⟨Flat8 n, shapeCast (Flat8 n) g h3⟩)
    (hpre : (((xs.take k).map (·.1)).map fun s => if h : s.rank = (Flat8 139424).rank then s.size ((1 : Fin 2).cast h.symm) else 0).sum = off)
    (hoff : off + n ≤ 139424) (j : Fin 8) (q : Nat) (hq : q < n) (i : s8.Idx) (hi : (s8.rowMajor i).val = j.val * n + q)
    (hp : off + q < 147456) :
    shapeCast Packed8 (concatenate (Flat8 147456) 1 [⟨Flat8 139424, concatenate (Flat8 139424) 1 xs hc⟩, ⟨Flat8 8031, Z⟩, ⟨Flat8 1, T⟩] hz) h
      (pos8 j (off + q) hp) = g i := by
  refine (pack8_flat xs hc Z T hz h k n off _ hk hx hpre hoff j ⟨q, hq⟩ hp).trans (shapeCast_apply _ h3 _ i ?_)
  rw [Shape.rowMajor_val_two, hi]
  rfl

/-- The last number of each device's packed array. -/
theorem pack8_last (C : (Flat8 139424).Idx → α)
    (Z : (Flat8 8031).Idx → α) (T : (Flat8 1).Idx → α)
    (hz : Shape.Concatenates [Flat8 139424, Flat8 8031, Flat8 1] (Flat8 147456) 1)
    (h : (Flat8 147456).ShapeCasts Packed8) (j : Fin 8) :
    shapeCast Packed8 (concatenate (Flat8 147456) 1 [⟨Flat8 139424, C⟩, ⟨Flat8 8031, Z⟩, ⟨Flat8 1, T⟩] hz) h
      (pos8 j 147455 (by decide)) = T (ix2 j 0) := by
  refine (shapeCast_apply _ h _ (ix2 j ⟨147455, by decide⟩) ?_).trans ?_
  · rw [rowMajor_pos8, Shape.rowMajor_val_two]
    rfl
  refine concatenate_apply_piece (t := Flat8 147456) 1
    [⟨Flat8 139424, C⟩, ⟨Flat8 8031, Z⟩, ⟨Flat8 1, T⟩] hz _ 2 (by simp) (Flat8 1) _ rfl rfl 147455 rfl
    (ix2 j 0) (fun b hb => ?_) rfl
  match b with
  | ⟨0, _⟩ => rfl
  | ⟨1, _⟩ => exact absurd rfl hb

/-- The three lemmas of a row, at the place of a row's number. -/
theorem unpack1 (X : Packed.Idx → α) (h1 : Packed.ShapeCasts (Flat 147456)) {n off : Nat}
    (h2 : (Flat 147456).Slices ![off] (Flat n)) (i : (Flat n).Idx) (q : Nat) (hq : ((Flat n).rowMajor i).val = q) (hp : off + q < 147456) :
    extractStridedSlice (Flat n) ![off] (shapeCast (Flat 147456) X h1) h2 i = X (pos (off + q) hp) := by
  obtain rfl : q = (i 0).val := hq.symm.trans (Shape.rowMajor_val_one i)
  exact unpack_flat X h1 h2 i hp

theorem pack1 (xs : List ((s : Shape) × (s.Idx → α))) (hc : Shape.Concatenates (xs.map (·.1)) (Flat 139424) 0)
    (Z : (Flat 8031).Idx → α) (T : (Flat 1).Idx → α)
    (hz : Shape.Concatenates [Flat 139424, Flat 8031, Flat 1] (Flat 147456) 0)
    (h : (Flat 147456).ShapeCasts Packed) (k n off : Nat) (x : (Flat n).Idx → α) (hk : k < xs.length)
    (hx : xs[k] = ⟨Flat n, x⟩)
    (hpre : (((xs.take k).map (·.1)).map fun s => if h : s.rank = (Flat 139424).rank then s.size ((0 : Fin 1).cast h.symm) else 0).sum = off)
    (hoff : off + n ≤ 139424) (i : (Flat n).Idx) (q : Nat) (hq : ((Flat n).rowMajor i).val = q) (hp : off + q < 147456) :
    shapeCast Packed (concatenate (Flat 147456) 0 [⟨Flat 139424, concatenate (Flat 139424) 0 xs hc⟩, ⟨Flat 8031, Z⟩, ⟨Flat 1, T⟩] hz) h
      (pos (off + q) hp) = x i := by
  obtain rfl : q = (i 0).val := hq.symm.trans (Shape.rowMajor_val_one i)
  exact pack_flat xs hc Z T hz h k n off x hk hx hpre hoff i hp

theorem pack81 (xs : List ((s : Shape) × (s.Idx → α))) (hc : Shape.Concatenates (xs.map (·.1)) (Flat8 139424) 1)
    (Z : (Flat8 8031).Idx → α) (T : (Flat8 1).Idx → α)
    (hz : Shape.Concatenates [Flat8 139424, Flat8 8031, Flat8 1] (Flat8 147456) 1)
    (h : (Flat8 147456).ShapeCasts Packed8) (k n off : Nat) (x : (Flat8 n).Idx → α) (hk : k < xs.length)
    (hx : xs[k] = ⟨Flat8 n, x⟩)
    (hpre : (((xs.take k).map (·.1)).map fun s => if h : s.rank = (Flat8 139424).rank then s.size ((1 : Fin 2).cast h.symm) else 0).sum = off)
    (hoff : off + n ≤ 139424) (j : Fin 8) (i : (Flat n).Idx) (q : Nat) (hq : ((Flat n).rowMajor i).val = q) (hp : off + q < 147456) :
    shapeCast Packed8 (concatenate (Flat8 147456) 1 [⟨Flat8 139424, concatenate (Flat8 139424) 1 xs hc⟩, ⟨Flat8 8031, Z⟩, ⟨Flat8 1, T⟩] hz) h
      (pos8 j (off + q) hp) = x (ix2 j (i 0)) := by
  obtain rfl : q = (i 0).val := hq.symm.trans (Shape.rowMajor_val_one i)
  exact pack8_flat xs hc Z T hz h k n off x hk hx hpre hoff j (i 0) hp

/-- Every number of a piece has its place. -/
theorem place {s : Shape} {off : Nat} (i : s.Idx) (h : off + s.numel ≤ 147456) : off + (s.rowMajor i).val < 147456 := by
  have := (s.rowMajor i).isLt
  omega

end Cert.Hand.Packing
-- ==== Proof.SmallPack.lean ====
/-
  The weights every device holds whole, packed one after another, and the eight devices' gradients and losses packed the same
  way: where each weight, each gradient and the loss lie.
-/
module

public import proofs.«01_k».proof.Proof.Packing
public import proofs.«01_k».proof.Proof.Gen.SmallIdeal.Frame
public import proofs.«01_k».proof.Defs
public import Idealize.ShloMosaic.Lib.Pointwise

@[expose] public section

set_option maxRecDepth 16384

noncomputable section

namespace Cert.Hand.Small

open Cert.SmallIdeal Cert.SmallIdeal.Gen Idealize.ShloMosaic Idealize.ShloMosaic.TcCoe Idealize.SL.Sem
open Cert.Hand.Packing

/-- The fifteen weights, or one of their two moments. -/
structure Weights where
  w0 : FVec Ideal S1024 .f32
  w1 : FVec Ideal S64 .f32
  w2 : FVec Ideal S64 .f32
  w3 : FVec Ideal S32x64 .f32
  w4 : FVec Ideal S32x64 .f32
  w5 : FVec Ideal S32 .f32
  w6 : FVec Ideal S32x64x16 .f32
  w7 : FVec Ideal S32x64x16 .f32
  w8 : FVec Ideal S32x16x64 .f32
  w9 : FVec Ideal S32x16x64 .f32
  w10 : FVec Ideal S32x16 .f32
  w11 : FVec Ideal S512 .f32
  w12 : FVec Ideal S512 .f32
  w13 : FVec Ideal S512 .f32
  w14 : FVec Ideal S1024 .f32

/-- The eight devices' gradients of the fifteen weights. -/
structure Grads where
  g0 : FVec Ideal S8x1024 .f32
  g1 : FVec Ideal S8x64 .f32
  g2 : FVec Ideal S8x64 .f32
  g3 : FVec Ideal S8x32x64 .f32
  g4 : FVec Ideal S8x32x64 .f32
  g5 : FVec Ideal S8x32 .f32
  g6 : FVec Ideal S8x32x64x16 .f32
  g7 : FVec Ideal S8x32x64x16 .f32
  g8 : FVec Ideal S8x32x16x64 .f32
  g9 : FVec Ideal S8x32x16x64 .f32
  g10 : FVec Ideal S8x32x16 .f32
  g11 : FVec Ideal S8x512 .f32
  g12 : FVec Ideal S8x512 .f32
  g13 : FVec Ideal S8x512 .f32
  g14 : FVec Ideal S8x1024 .f32

variable (w : Weights) (l : FVec Ideal S8 .f32) (g : Grads)

/-- The pieces of the packed weights. -/
abbrev pieces : List ((s : Shape) × (s.Idx → EReal)) :=
  [⟨S1024, w.w0⟩, ⟨S64, w.w1⟩, ⟨S64, w.w2⟩, ⟨S2048, shapeCast S2048 w.w3 shapeCasts_S32x64_S2048⟩, ⟨S2048, shapeCast S2048 w.w4 shapeCasts_S32x64_S2048⟩, ⟨S32, w.w5⟩, ⟨S32768, shapeCast S32768 w.w6 shapeCasts_S32x64x16_S32768⟩, ⟨S32768, shapeCast S32768 w.w7 shapeCasts_S32x64x16_S32768⟩, ⟨S32768, shapeCast S32768 w.w8 shapeCasts_S32x16x64_S32768⟩, ⟨S32768, shapeCast S32768 w.w9 shapeCasts_S32x16x64_S32768⟩, ⟨S512, shapeCast S512 w.w10 shapeCasts_S32x16_S512⟩, ⟨S512, w.w11⟩, ⟨S512, w.w12⟩, ⟨S512, w.w13⟩, ⟨S1024, w.w14⟩]

/-- The pieces of the eight devices' packed gradients. -/
abbrev pieces8 : List ((s : Shape) × (s.Idx → EReal)) :=
  [⟨S8x1024, g.g0⟩, ⟨S8x64, g.g1⟩, ⟨S8x64, g.g2⟩, ⟨S8x2048, shapeCast S8x2048 g.g3 shapeCasts_S8x32x64_S8x2048⟩, ⟨S8x2048, shapeCast S8x2048 g.g4 shapeCasts_S8x32x64_S8x2048⟩, ⟨S8x32, g.g5⟩, ⟨S8x32768, shapeCast S8x32768 g.g6 shapeCasts_S8x32x64x16_S8x32768⟩, ⟨S8x32768, shapeCast S8x32768 g.g7 shapeCasts_S8x32x64x16_S8x32768⟩, ⟨S8x32768, shapeCast S8x32768 g.g8 shapeCasts_S8x32x16x64_S8x32768⟩, ⟨S8x32768, shapeCast S8x32768 g.g9 shapeCasts_S8x32x16x64_S8x32768⟩, ⟨S8x512, shapeCast S8x512 g.g10 shapeCasts_S8x32x16_S8x512⟩, ⟨S8x512, g.g11⟩, ⟨S8x512, g.g12⟩, ⟨S8x512, g.g13⟩, ⟨S8x1024, g.g14⟩]

/-- The packed weights: the fifteen arrays, zeros, and a last zero where the gradients carry the loss. -/
def packed : S144x1024.Idx → EReal :=
  shapeCast S144x1024 (concatenate S147456 0 [⟨S139424, concatenate S139424 0 (pieces w)
      concatenates_S1024_S64_S64_S2048_S2048_S32_S32768_S32768_S32768_S32768_S512_S512_S512_S512_S1024_S139424_d0⟩,
    ⟨S8031, broadcastInDim S8031 ![] bcast_S_S8031 (constant (F := Ideal) S_ .f32 0x00000000#32)⟩,
    ⟨S1, broadcastInDim S1 ![] bcast_S_S1 (constant (F := Ideal) S_ .f32 0x00000000#32)⟩] concatenates_S139424_S8031_S1_S147456_d0)
    shapeCasts_S147456_S144x1024

/-- The eight devices' packed gradients, each ending in the device's loss. -/
def packed8 : S8x144x1024.Idx → EReal :=
  shapeCast S8x144x1024 (concatenate S8x147456 1 [⟨S8x139424, concatenate S8x139424 1 (pieces8 g)
      concatenates_S8x1024_S8x64_S8x64_S8x2048_S8x2048_S8x32_S8x32768_S8x32768_S8x32768_S8x32768_S8x512_S8x512_S8x512_S8x512_S8x1024_S8x139424_d1⟩,
    ⟨S8x8031, broadcastInDim S8x8031 ![1] bcast_S8031_S8x8031_1
      (broadcastInDim S8031 ![] bcast_S_S8031 (constant (F := Ideal) S_ .f32 0x00000000#32))⟩,
    ⟨S8x1, shapeCast S8x1 l shapeCasts_S8_S8x1⟩] concatenates_S8x139424_S8x8031_S8x1_S8x147456_d1)
    shapeCasts_S8x147456_S8x144x1024

/-! ## Where each weight lies -/

/-- `norm1_g`. -/
theorem packed_0 (i : S1024.Idx) (hp : 0 + (S1024.rowMajor i).val < 147456) : packed w (pos (0 + (S1024.rowMajor i).val) hp) = w.w0 i := by
  unfold packed
  exact pack1 (pieces w) _ _ _ _ _ 0 1024 0 w.w0 (by simp) rfl (by simp [S1024, S64, S2048, S32, S32768, S512]) (by decide) i _ rfl hp

theorem packed8_0 (j : Fin 8) (i : S1024.Idx) (hp : 0 + (S1024.rowMajor i).val < 147456) :
    packed8 l g (pos8 j (0 + (S1024.rowMajor i).val) hp) = g.g0 (ix2 j (i 0)) := by
  unfold packed8
  exact pack81 (pieces8 g) _ _ _ _ _ 0 1024 0 g.g0 (by simp) rfl (by simp [S8x1024, S8x64, S8x2048, S8x32, S8x32768, S8x512]) (by decide) j i _ rfl hp

/-- `q_norm_g`. -/
theorem packed_1 (i : S64.Idx) (hp : 1024 + (S64.rowMajor i).val < 147456) : packed w (pos (1024 + (S64.rowMajor i).val) hp) = w.w1 i := by
  unfold packed
  exact pack1 (pieces w) _ _ _ _ _ 1 64 1024 w.w1 (by simp) rfl (by simp [S1024, S64, S2048, S32, S32768, S512]) (by decide) i _ rfl hp

theorem packed8_1 (j : Fin 8) (i : S64.Idx) (hp : 1024 + (S64.rowMajor i).val < 147456) :
    packed8 l g (pos8 j (1024 + (S64.rowMajor i).val) hp) = g.g1 (ix2 j (i 0)) := by
  unfold packed8
  exact pack81 (pieces8 g) _ _ _ _ _ 1 64 1024 g.g1 (by simp) rfl (by simp [S8x1024, S8x64, S8x2048, S8x32, S8x32768, S8x512]) (by decide) j i _ rfl hp

/-- `k_norm_g`. -/
theorem packed_2 (i : S64.Idx) (hp : 1088 + (S64.rowMajor i).val < 147456) : packed w (pos (1088 + (S64.rowMajor i).val) hp) = w.w2 i := by
  unfold packed
  exact pack1 (pieces w) _ _ _ _ _ 2 64 1088 w.w2 (by simp) rfl (by simp [S1024, S64, S2048, S32, S32768, S512]) (by decide) i _ rfl hp

theorem packed8_2 (j : Fin 8) (i : S64.Idx) (hp : 1088 + (S64.rowMajor i).val < 147456) :
    packed8 l g (pos8 j (1088 + (S64.rowMajor i).val) hp) = g.g2 (ix2 j (i 0)) := by
  unfold packed8
  exact pack81 (pieces8 g) _ _ _ _ _ 2 64 1088 g.g2 (by simp) rfl (by simp [S8x1024, S8x64, S8x2048, S8x32, S8x32768, S8x512]) (by decide) j i _ rfl hp

/-- `ssm_lambda_re`. -/
theorem packed_3 (i : S32x64.Idx) (hp : 1152 + (S32x64.rowMajor i).val < 147456) : packed w (pos (1152 + (S32x64.rowMajor i).val) hp) = w.w3 i := by
  unfold packed
  exact pack (pieces w) _ _ _ _ _ 3 2048 1152 w.w3 shapeCasts_S32x64_S2048 shapeCasts_S2048_S32x64 (by simp) rfl (by simp [S1024, S64, S2048, S32, S32768, S512]) (by decide) i _ rfl hp

theorem packed8_3 (j : Fin 8) (i : S32x64.Idx) (hp : 1152 + (S32x64.rowMajor i).val < 147456) :
    packed8 l g (pos8 j (1152 + (S32x64.rowMajor i).val) hp) = g.g3 (ix3 j (i 0) (i 1)) := by
  unfold packed8
  exact pack8 (pieces8 g) _ _ _ _ _ 3 2048 1152 g.g3 shapeCasts_S8x32x64_S8x2048 (by simp) rfl (by simp [S8x1024, S8x64, S8x2048, S8x32, S8x32768, S8x512]) (by decide)
    j _ (S32x64.rowMajor i).isLt _ (by
      rw [Shape.rowMajor_val_three, Shape.rowMajor_val_two]
      show (j.val * 32 + (i 0).val) * 64 + (i 1).val = j.val * 2048 + ((i 0).val * 64 + (i 1).val)
      omega) hp

/-- `ssm_lambda_im`. -/
theorem packed_4 (i : S32x64.Idx) (hp : 3200 + (S32x64.rowMajor i).val < 147456) : packed w (pos (3200 + (S32x64.rowMajor i).val) hp) = w.w4 i := by
  unfold packed
  exact pack (pieces w) _ _ _ _ _ 4 2048 3200 w.w4 shapeCasts_S32x64_S2048 shapeCasts_S2048_S32x64 (by simp) rfl (by simp [S1024, S64, S2048, S32, S32768, S512]) (by decide) i _ rfl hp

theorem packed8_4 (j : Fin 8) (i : S32x64.Idx) (hp : 3200 + (S32x64.rowMajor i).val < 147456) :
    packed8 l g (pos8 j (3200 + (S32x64.rowMajor i).val) hp) = g.g4 (ix3 j (i 0) (i 1)) := by
  unfold packed8
  exact pack8 (pieces8 g) _ _ _ _ _ 4 2048 3200 g.g4 shapeCasts_S8x32x64_S8x2048 (by simp) rfl (by simp [S8x1024, S8x64, S8x2048, S8x32, S8x32768, S8x512]) (by decide)
    j _ (S32x64.rowMajor i).isLt _ (by
      rw [Shape.rowMajor_val_three, Shape.rowMajor_val_two]
      show (j.val * 32 + (i 0).val) * 64 + (i 1).val = j.val * 2048 + ((i 0).val * 64 + (i 1).val)
      omega) hp

/-- `ssm_log_dt`. -/
theorem packed_5 (i : S32.Idx) (hp : 5248 + (S32.rowMajor i).val < 147456) : packed w (pos (5248 + (S32.rowMajor i).val) hp) = w.w5 i := by
  unfold packed
  exact pack1 (pieces w) _ _ _ _ _ 5 32 5248 w.w5 (by simp) rfl (by simp [S1024, S64, S2048, S32, S32768, S512]) (by decide) i _ rfl hp

theorem packed8_5 (j : Fin 8) (i : S32.Idx) (hp : 5248 + (S32.rowMajor i).val < 147456) :
    packed8 l g (pos8 j (5248 + (S32.rowMajor i).val) hp) = g.g5 (ix2 j (i 0)) := by
  unfold packed8
  exact pack81 (pieces8 g) _ _ _ _ _ 5 32 5248 g.g5 (by simp) rfl (by simp [S8x1024, S8x64, S8x2048, S8x32, S8x32768, S8x512]) (by decide) j i _ rfl hp

/-- `ssm_b_re`. -/
theorem packed_6 (i : S32x64x16.Idx) (hp : 5280 + (S32x64x16.rowMajor i).val < 147456) : packed w (pos (5280 + (S32x64x16.rowMajor i).val) hp) = w.w6 i := by
  unfold packed
  exact pack (pieces w) _ _ _ _ _ 6 32768 5280 w.w6 shapeCasts_S32x64x16_S32768 shapeCasts_S32768_S32x64x16 (by simp) rfl (by simp [S1024, S64, S2048, S32, S32768, S512]) (by decide) i _ rfl hp

theorem packed8_6 (j : Fin 8) (i : S32x64x16.Idx) (hp : 5280 + (S32x64x16.rowMajor i).val < 147456) :
    packed8 l g (pos8 j (5280 + (S32x64x16.rowMajor i).val) hp) = g.g6 (ix4 j (i 0) (i 1) (i 2)) := by
  unfold packed8
  exact pack8 (pieces8 g) _ _ _ _ _ 6 32768 5280 g.g6 shapeCasts_S8x32x64x16_S8x32768 (by simp) rfl (by simp [S8x1024, S8x64, S8x2048, S8x32, S8x32768, S8x512]) (by decide)
    j _ (S32x64x16.rowMajor i).isLt _ (by
      rw [Shape.rowMajor_val_four, Shape.rowMajor_val_three]
      show ((j.val * 32 + (i 0).val) * 64 + (i 1).val) * 16 + (i 2).val = j.val * 32768 + (((i 0).val * 64 + (i 1).val) * 16 + (i 2).val)
      omega) hp

/-- `ssm_b_im`. -/
theorem packed_7 (i : S32x64x16.Idx) (hp : 38048 + (S32x64x16.rowMajor i).val < 147456) : packed w (pos (38048 + (S32x64x16.rowMajor i).val) hp) = w.w7 i := by
  unfold packed
  exact pack (pieces w) _ _ _ _ _ 7 32768 38048 w.w7 shapeCasts_S32x64x16_S32768 shapeCasts_S32768_S32x64x16 (by simp) rfl (by simp [S1024, S64, S2048, S32, S32768, S512]) (by decide) i _ rfl hp

theorem packed8_7 (j : Fin 8) (i : S32x64x16.Idx) (hp : 38048 + (S32x64x16.rowMajor i).val < 147456) :
    packed8 l g (pos8 j (38048 + (S32x64x16.rowMajor i).val) hp) = g.g7 (ix4 j (i 0) (i 1) (i 2)) := by
  unfold packed8
  exact pack8 (pieces8 g) _ _ _ _ _ 7 32768 38048 g.g7 shapeCasts_S8x32x64x16_S8x32768 (by simp) rfl (by simp [S8x1024, S8x64, S8x2048, S8x32, S8x32768, S8x512]) (by decide)
    j _ (S32x64x16.rowMajor i).isLt _ (by
      rw [Shape.rowMajor_val_four, Shape.rowMajor_val_three]
      show ((j.val * 32 + (i 0).val) * 64 + (i 1).val) * 16 + (i 2).val = j.val * 32768 + (((i 0).val * 64 + (i 1).val) * 16 + (i 2).val)
      omega) hp

/-- `ssm_c_re`. -/
theorem packed_8 (i : S32x16x64.Idx) (hp : 70816 + (S32x16x64.rowMajor i).val < 147456) : packed w (pos (70816 + (S32x16x64.rowMajor i).val) hp) = w.w8 i := by
  unfold packed
  exact pack (pieces w) _ _ _ _ _ 8 32768 70816 w.w8 shapeCasts_S32x16x64_S32768 shapeCasts_S32768_S32x16x64 (by simp) rfl (by simp [S1024, S64, S2048, S32, S32768, S512]) (by decide) i _ rfl hp

theorem packed8_8 (j : Fin 8) (i : S32x16x64.Idx) (hp : 70816 + (S32x16x64.rowMajor i).val < 147456) :
    packed8 l g (pos8 j (70816 + (S32x16x64.rowMajor i).val) hp) = g.g8 (ix4 j (i 0) (i 1) (i 2)) := by
  unfold packed8
  exact pack8 (pieces8 g) _ _ _ _ _ 8 32768 70816 g.g8 shapeCasts_S8x32x16x64_S8x32768 (by simp) rfl (by simp [S8x1024, S8x64, S8x2048, S8x32, S8x32768, S8x512]) (by decide)
    j _ (S32x16x64.rowMajor i).isLt _ (by
      rw [Shape.rowMajor_val_four, Shape.rowMajor_val_three]
      show ((j.val * 32 + (i 0).val) * 16 + (i 1).val) * 64 + (i 2).val = j.val * 32768 + (((i 0).val * 16 + (i 1).val) * 64 + (i 2).val)
      omega) hp

/-- `ssm_c_im`. -/
theorem packed_9 (i : S32x16x64.Idx) (hp : 103584 + (S32x16x64.rowMajor i).val < 147456) : packed w (pos (103584 + (S32x16x64.rowMajor i).val) hp) = w.w9 i := by
  unfold packed
  exact pack (pieces w) _ _ _ _ _ 9 32768 103584 w.w9 shapeCasts_S32x16x64_S32768 shapeCasts_S32768_S32x16x64 (by simp) rfl (by simp [S1024, S64, S2048, S32, S32768, S512]) (by decide) i _ rfl hp

theorem packed8_9 (j : Fin 8) (i : S32x16x64.Idx) (hp : 103584 + (S32x16x64.rowMajor i).val < 147456) :
    packed8 l g (pos8 j (103584 + (S32x16x64.rowMajor i).val) hp) = g.g9 (ix4 j (i 0) (i 1) (i 2)) := by
  unfold packed8
  exact pack8 (pieces8 g) _ _ _ _ _ 9 32768 103584 g.g9 shapeCasts_S8x32x16x64_S8x32768 (by simp) rfl (by simp [S8x1024, S8x64, S8x2048, S8x32, S8x32768, S8x512]) (by decide)
    j _ (S32x16x64.rowMajor i).isLt _ (by
      rw [Shape.rowMajor_val_four, Shape.rowMajor_val_three]
      show ((j.val * 32 + (i 0).val) * 16 + (i 1).val) * 64 + (i 2).val = j.val * 32768 + (((i 0).val * 16 + (i 1).val) * 64 + (i 2).val)
      omega) hp

/-- `ssm_d`. -/
theorem packed_10 (i : S32x16.Idx) (hp : 136352 + (S32x16.rowMajor i).val < 147456) : packed w (pos (136352 + (S32x16.rowMajor i).val) hp) = w.w10 i := by
  unfold packed
  exact pack (pieces w) _ _ _ _ _ 10 512 136352 w.w10 shapeCasts_S32x16_S512 shapeCasts_S512_S32x16 (by simp) rfl (by simp [S1024, S64, S2048, S32, S32768, S512]) (by decide) i _ rfl hp

theorem packed8_10 (j : Fin 8) (i : S32x16.Idx) (hp : 136352 + (S32x16.rowMajor i).val < 147456) :
    packed8 l g (pos8 j (136352 + (S32x16.rowMajor i).val) hp) = g.g10 (ix3 j (i 0) (i 1)) := by
  unfold packed8
  exact pack8 (pieces8 g) _ _ _ _ _ 10 512 136352 g.g10 shapeCasts_S8x32x16_S8x512 (by simp) rfl (by simp [S8x1024, S8x64, S8x2048, S8x32, S8x32768, S8x512]) (by decide)
    j _ (S32x16.rowMajor i).isLt _ (by
      rw [Shape.rowMajor_val_three, Shape.rowMajor_val_two]
      show (j.val * 32 + (i 0).val) * 16 + (i 1).val = j.val * 512 + ((i 0).val * 16 + (i 1).val)
      omega) hp

/-- `b_glu`. -/
theorem packed_11 (i : S512.Idx) (hp : 136864 + (S512.rowMajor i).val < 147456) : packed w (pos (136864 + (S512.rowMajor i).val) hp) = w.w11 i := by
  unfold packed
  exact pack1 (pieces w) _ _ _ _ _ 11 512 136864 w.w11 (by simp) rfl (by simp [S1024, S64, S2048, S32, S32768, S512]) (by decide) i _ rfl hp

theorem packed8_11 (j : Fin 8) (i : S512.Idx) (hp : 136864 + (S512.rowMajor i).val < 147456) :
    packed8 l g (pos8 j (136864 + (S512.rowMajor i).val) hp) = g.g11 (ix2 j (i 0)) := by
  unfold packed8
  exact pack81 (pieces8 g) _ _ _ _ _ 11 512 136864 g.g11 (by simp) rfl (by simp [S8x1024, S8x64, S8x2048, S8x32, S8x32768, S8x512]) (by decide) j i _ rfl hp

/-- `attn_out_g`. -/
theorem packed_12 (i : S512.Idx) (hp : 137376 + (S512.rowMajor i).val < 147456) : packed w (pos (137376 + (S512.rowMajor i).val) hp) = w.w12 i := by
  unfold packed
  exact pack1 (pieces w) _ _ _ _ _ 12 512 137376 w.w12 (by simp) rfl (by simp [S1024, S64, S2048, S32, S32768, S512]) (by decide) i _ rfl hp

theorem packed8_12 (j : Fin 8) (i : S512.Idx) (hp : 137376 + (S512.rowMajor i).val < 147456) :
    packed8 l g (pos8 j (137376 + (S512.rowMajor i).val) hp) = g.g12 (ix2 j (i 0)) := by
  unfold packed8
  exact pack81 (pieces8 g) _ _ _ _ _ 12 512 137376 g.g12 (by simp) rfl (by simp [S8x1024, S8x64, S8x2048, S8x32, S8x32768, S8x512]) (by decide) j i _ rfl hp

/-- `ssm_out_g`. -/
theorem packed_13 (i : S512.Idx) (hp : 137888 + (S512.rowMajor i).val < 147456) : packed w (pos (137888 + (S512.rowMajor i).val) hp) = w.w13 i := by
  unfold packed
  exact pack1 (pieces w) _ _ _ _ _ 13 512 137888 w.w13 (by simp) rfl (by simp [S1024, S64, S2048, S32, S32768, S512]) (by decide) i _ rfl hp

theorem packed8_13 (j : Fin 8) (i : S512.Idx) (hp : 137888 + (S512.rowMajor i).val < 147456) :
    packed8 l g (pos8 j (137888 + (S512.rowMajor i).val) hp) = g.g13 (ix2 j (i 0)) := by
  unfold packed8
  exact pack81 (pieces8 g) _ _ _ _ _ 13 512 137888 g.g13 (by simp) rfl (by simp [S8x1024, S8x64, S8x2048, S8x32, S8x32768, S8x512]) (by decide) j i _ rfl hp

/-- `norm2_g`. -/
theorem packed_14 (i : S1024.Idx) (hp : 138400 + (S1024.rowMajor i).val < 147456) : packed w (pos (138400 + (S1024.rowMajor i).val) hp) = w.w14 i := by
  unfold packed
  exact pack1 (pieces w) _ _ _ _ _ 14 1024 138400 w.w14 (by simp) rfl (by simp [S1024, S64, S2048, S32, S32768, S512]) (by decide) i _ rfl hp

theorem packed8_14 (j : Fin 8) (i : S1024.Idx) (hp : 138400 + (S1024.rowMajor i).val < 147456) :
    packed8 l g (pos8 j (138400 + (S1024.rowMajor i).val) hp) = g.g14 (ix2 j (i 0)) := by
  unfold packed8
  exact pack81 (pieces8 g) _ _ _ _ _ 14 1024 138400 g.g14 (by simp) rfl (by simp [S8x1024, S8x64, S8x2048, S8x32, S8x32768, S8x512]) (by decide) j i _ rfl hp

/-- The losses. -/
theorem packed8_loss (j : Fin 8) : packed8 l g (pos8 j 147455 (by decide)) = l (ix1 j) := by
  unfold packed8
  exact (pack8_last _ _ _ _ _ j).trans (shapeCast_apply _ _ _ _ ((Shape.rowMajor_val_one _).trans ((Shape.rowMajor_val_two _).trans (by
    show j.val * 1 + 0 = j.val
    omega)).symm))

/-! ## What the packed arrays are when the kernel starts -/

variable (m : (ℓ : Loc nD τ sig) → Buf (Elt Ideal) ℓ)

/-- An argument of the program on device `c`. -/
abbrev arg (c : Dev nD) (b : Ref sig .tc) := m ((c : Thread nD τ).loc b)

/-- The packed gradients, weights and the two moments of the program's arguments. -/
abbrev P0 (c : Dev nD) : S8x144x1024.Idx → EReal :=
  packed8 (arg m c main_arg0) ⟨arg m c main_arg1, arg m c main_arg2, arg m c main_arg3, arg m c main_arg4, arg m c main_arg5, arg m c main_arg6, arg m c main_arg7, arg m c main_arg8, arg m c main_arg9, arg m c main_arg10, arg m c main_arg11, arg m c main_arg12, arg m c main_arg13, arg m c main_arg14, arg m c main_arg15⟩
abbrev P1 (c : Dev nD) : S144x1024.Idx → EReal :=
  packed ⟨arg m c main_arg16, arg m c main_arg17, arg m c main_arg18, arg m c main_arg19, arg m c main_arg20, arg m c main_arg21, arg m c main_arg22, arg m c main_arg23, arg m c main_arg24, arg m c main_arg25, arg m c main_arg26, arg m c main_arg27, arg m c main_arg28, arg m c main_arg29, arg m c main_arg30⟩
abbrev P2 (c : Dev nD) : S144x1024.Idx → EReal :=
  packed ⟨arg m c main_arg31, arg m c main_arg32, arg m c main_arg33, arg m c main_arg34, arg m c main_arg35, arg m c main_arg36, arg m c main_arg37, arg m c main_arg38, arg m c main_arg39, arg m c main_arg40, arg m c main_arg41, arg m c main_arg42, arg m c main_arg43, arg m c main_arg44, arg m c main_arg45⟩
abbrev P3 (c : Dev nD) : S144x1024.Idx → EReal :=
  packed ⟨arg m c main_arg46, arg m c main_arg47, arg m c main_arg48, arg m c main_arg49, arg m c main_arg50, arg m c main_arg51, arg m c main_arg52, arg m c main_arg53, arg m c main_arg54, arg m c main_arg55, arg m c main_arg56, arg m c main_arg57, arg m c main_arg58, arg m c main_arg59, arg m c main_arg60⟩

/-- Fifteen pieces in a row. -/
def row {α : Type} (a0 : S1024.Idx → α) (a1 : S64.Idx → α) (a2 : S64.Idx → α) (a3 : S2048.Idx → α) (a4 : S2048.Idx → α) (a5 : S32.Idx → α) (a6 : S32768.Idx → α) (a7 : S32768.Idx → α) (a8 : S32768.Idx → α) (a9 : S32768.Idx → α) (a10 : S512.Idx → α) (a11 : S512.Idx → α) (a12 : S512.Idx → α) (a13 : S512.Idx → α) (a14 : S1024.Idx → α) : S139424.Idx → α :=
  concatenate S139424 0 [⟨S1024, a0⟩, ⟨S64, a1⟩, ⟨S64, a2⟩, ⟨S2048, a3⟩, ⟨S2048, a4⟩, ⟨S32, a5⟩, ⟨S32768, a6⟩, ⟨S32768, a7⟩, ⟨S32768, a8⟩, ⟨S32768, a9⟩, ⟨S512, a10⟩, ⟨S512, a11⟩, ⟨S512, a12⟩, ⟨S512, a13⟩, ⟨S1024, a14⟩]
    concatenates_S1024_S64_S64_S2048_S2048_S32_S32768_S32768_S32768_S32768_S512_S512_S512_S512_S1024_S139424_d0

theorem row_eq {α : Type} (a0 : S1024.Idx → α) (a1 : S64.Idx → α) (a2 : S64.Idx → α) (a3 : S2048.Idx → α) (a4 : S2048.Idx → α) (a5 : S32.Idx → α) (a6 : S32768.Idx → α) (a7 : S32768.Idx → α) (a8 : S32768.Idx → α) (a9 : S32768.Idx → α) (a10 : S512.Idx → α) (a11 : S512.Idx → α) (a12 : S512.Idx → α) (a13 : S512.Idx → α) (a14 : S1024.Idx → α) :
    concatenate S139424 0 [⟨S1024, a0⟩, ⟨S64, a1⟩, ⟨S64, a2⟩, ⟨S2048, a3⟩, ⟨S2048, a4⟩, ⟨S32, a5⟩, ⟨S32768, a6⟩, ⟨S32768, a7⟩, ⟨S32768, a8⟩, ⟨S32768, a9⟩, ⟨S512, a10⟩, ⟨S512, a11⟩, ⟨S512, a12⟩, ⟨S512, a13⟩, ⟨S1024, a14⟩]
      concatenates_S1024_S64_S64_S2048_S2048_S32_S32768_S32768_S32768_S32768_S512_S512_S512_S512_S1024_S139424_d0 = row a0 a1 a2 a3 a4 a5 a6 a7 a8 a9 a10 a11 a12 a13 a14 := rfl

/-- The pieces, the zeros after them and the last place. -/
def full {α : Type} (a : S139424.Idx → α) (b : S8031.Idx → α) (d : S1.Idx → α) : S147456.Idx → α :=
  concatenate S147456 0 [⟨S139424, a⟩, ⟨S8031, b⟩, ⟨S1, d⟩] concatenates_S139424_S8031_S1_S147456_d0

theorem full_eq {α : Type} (a : S139424.Idx → α) (b : S8031.Idx → α) (d : S1.Idx → α) :
    concatenate S147456 0 [⟨S139424, a⟩, ⟨S8031, b⟩, ⟨S1, d⟩] concatenates_S139424_S8031_S1_S147456_d0 = full a b d := rfl

/-- Fifteen pieces in a row. -/
def row8 {α : Type} (a0 : S8x1024.Idx → α) (a1 : S8x64.Idx → α) (a2 : S8x64.Idx → α) (a3 : S8x2048.Idx → α) (a4 : S8x2048.Idx → α) (a5 : S8x32.Idx → α) (a6 : S8x32768.Idx → α) (a7 : S8x32768.Idx → α) (a8 : S8x32768.Idx → α) (a9 : S8x32768.Idx → α) (a10 : S8x512.Idx → α) (a11 : S8x512.Idx → α) (a12 : S8x512.Idx → α) (a13 : S8x512.Idx → α) (a14 : S8x1024.Idx → α) : S8x139424.Idx → α :=
  concatenate S8x139424 1 [⟨S8x1024, a0⟩, ⟨S8x64, a1⟩, ⟨S8x64, a2⟩, ⟨S8x2048, a3⟩, ⟨S8x2048, a4⟩, ⟨S8x32, a5⟩, ⟨S8x32768, a6⟩, ⟨S8x32768, a7⟩, ⟨S8x32768, a8⟩, ⟨S8x32768, a9⟩, ⟨S8x512, a10⟩, ⟨S8x512, a11⟩, ⟨S8x512, a12⟩, ⟨S8x512, a13⟩, ⟨S8x1024, a14⟩]
    concatenates_S8x1024_S8x64_S8x64_S8x2048_S8x2048_S8x32_S8x32768_S8x32768_S8x32768_S8x32768_S8x512_S8x512_S8x512_S8x512_S8x1024_S8x139424_d1

theorem row8_eq {α : Type} (a0 : S8x1024.Idx → α) (a1 : S8x64.Idx → α) (a2 : S8x64.Idx → α) (a3 : S8x2048.Idx → α) (a4 : S8x2048.Idx → α) (a5 : S8x32.Idx → α) (a6 : S8x32768.Idx → α) (a7 : S8x32768.Idx → α) (a8 : S8x32768.Idx → α) (a9 : S8x32768.Idx → α) (a10 : S8x512.Idx → α) (a11 : S8x512.Idx → α) (a12 : S8x512.Idx → α) (a13 : S8x512.Idx → α) (a14 : S8x1024.Idx → α) :
    concatenate S8x139424 1 [⟨S8x1024, a0⟩, ⟨S8x64, a1⟩, ⟨S8x64, a2⟩, ⟨S8x2048, a3⟩, ⟨S8x2048, a4⟩, ⟨S8x32, a5⟩, ⟨S8x32768, a6⟩, ⟨S8x32768, a7⟩, ⟨S8x32768, a8⟩, ⟨S8x32768, a9⟩, ⟨S8x512, a10⟩, ⟨S8x512, a11⟩, ⟨S8x512, a12⟩, ⟨S8x512, a13⟩, ⟨S8x1024, a14⟩]
      concatenates_S8x1024_S8x64_S8x64_S8x2048_S8x2048_S8x32_S8x32768_S8x32768_S8x32768_S8x32768_S8x512_S8x512_S8x512_S8x512_S8x1024_S8x139424_d1 = row8 a0 a1 a2 a3 a4 a5 a6 a7 a8 a9 a10 a11 a12 a13 a14 := rfl

/-- The pieces, the zeros after them and the last place. -/
def full8 {α : Type} (a : S8x139424.Idx → α) (b : S8x8031.Idx → α) (d : S8x1.Idx → α) : S8x147456.Idx → α :=
  concatenate S8x147456 1 [⟨S8x139424, a⟩, ⟨S8x8031, b⟩, ⟨S8x1, d⟩] concatenates_S8x139424_S8x8031_S8x1_S8x147456_d1

theorem full8_eq {α : Type} (a : S8x139424.Idx → α) (b : S8x8031.Idx → α) (d : S8x1.Idx → α) :
    concatenate S8x147456 1 [⟨S8x139424, a⟩, ⟨S8x8031, b⟩, ⟨S8x1, d⟩] concatenates_S8x139424_S8x8031_S8x1_S8x147456_d1 = full8 a b d := rfl

set_option maxHeartbeats 4000000 in
theorem head_12 (V : Valuation τ sig (Elt Ideal)) : StableHlo.after hostOps0 V (Proc.devRef .tc main_v12)
    = packed8 (V (Proc.devRef .tc main_arg0)) ⟨V (Proc.devRef .tc main_arg1), V (Proc.devRef .tc main_arg2), V (Proc.devRef .tc main_arg3), V (Proc.devRef .tc main_arg4), V (Proc.devRef .tc main_arg5), V (Proc.devRef .tc main_arg6), V (Proc.devRef .tc main_arg7), V (Proc.devRef .tc main_arg8), V (Proc.devRef .tc main_arg9), V (Proc.devRef .tc main_arg10), V (Proc.devRef .tc main_arg11), V (Proc.devRef .tc main_arg12), V (Proc.devRef .tc main_arg13), V (Proc.devRef .tc main_arg14), V (Proc.devRef .tc main_arg15)⟩ := by
  after_results_simp
  simp only [full8_eq, Matrix.cons_val]
  after_results_simp
  simp only [row8_eq, Matrix.cons_val]
  after_results_simp
  rfl

theorem V_12 (c : Dev nD) : V m c main_v12 = P0 m c := head_12 _

set_option maxHeartbeats 4000000 in
theorem head_24 (V : Valuation τ sig (Elt Ideal)) : StableHlo.after hostOps0 V (Proc.devRef .tc main_v24)
    = packed ⟨V (Proc.devRef .tc main_arg16), V (Proc.devRef .tc main_arg17), V (Proc.devRef .tc main_arg18), V (Proc.devRef .tc main_arg19), V (Proc.devRef .tc main_arg20), V (Proc.devRef .tc main_arg21), V (Proc.devRef .tc main_arg22), V (Proc.devRef .tc main_arg23), V (Proc.devRef .tc main_arg24), V (Proc.devRef .tc main_arg25), V (Proc.devRef .tc main_arg26), V (Proc.devRef .tc main_arg27), V (Proc.devRef .tc main_arg28), V (Proc.devRef .tc main_arg29), V (Proc.devRef .tc main_arg30)⟩ := by
  after_results_simp
  simp only [full_eq, Matrix.cons_val]
  after_results_simp
  simp only [row_eq, Matrix.cons_val]
  after_results_simp
  rfl

theorem V_24 (c : Dev nD) : V m c main_v24 = P1 m c := head_24 _

set_option maxHeartbeats 4000000 in
theorem head_36 (V : Valuation τ sig (Elt Ideal)) : StableHlo.after hostOps0 V (Proc.devRef .tc main_v36)
    = packed ⟨V (Proc.devRef .tc main_arg31), V (Proc.devRef .tc main_arg32), V (Proc.devRef .tc main_arg33), V (Proc.devRef .tc main_arg34), V (Proc.devRef .tc main_arg35), V (Proc.devRef .tc main_arg36), V (Proc.devRef .tc main_arg37), V (Proc.devRef .tc main_arg38), V (Proc.devRef .tc main_arg39), V (Proc.devRef .tc main_arg40), V (Proc.devRef .tc main_arg41), V (Proc.devRef .tc main_arg42), V (Proc.devRef .tc main_arg43), V (Proc.devRef .tc main_arg44), V (Proc.devRef .tc main_arg45)⟩ := by
  after_results_simp
  simp only [full_eq, Matrix.cons_val]
  after_results_simp
  simp only [row_eq, Matrix.cons_val]
  after_results_simp
  rfl

theorem V_36 (c : Dev nD) : V m c main_v36 = P2 m c := head_36 _

set_option maxHeartbeats 4000000 in
theorem head_48 (V : Valuation τ sig (Elt Ideal)) : StableHlo.after hostOps0 V (Proc.devRef .tc main_v48)
    = packed ⟨V (Proc.devRef .tc main_arg46), V (Proc.devRef .tc main_arg47), V (Proc.devRef .tc main_arg48), V (Proc.devRef .tc main_arg49), V (Proc.devRef .tc main_arg50), V (Proc.devRef .tc main_arg51), V (Proc.devRef .tc main_arg52), V (Proc.devRef .tc main_arg53), V (Proc.devRef .tc main_arg54), V (Proc.devRef .tc main_arg55), V (Proc.devRef .tc main_arg56), V (Proc.devRef .tc main_arg57), V (Proc.devRef .tc main_arg58), V (Proc.devRef .tc main_arg59), V (Proc.devRef .tc main_arg60)⟩ := by
  after_results_simp
  simp only [full_eq, Matrix.cons_val]
  after_results_simp
  simp only [row_eq, Matrix.cons_val]
  after_results_simp
  rfl

theorem V_48 (c : Dev nD) : V m c main_v48 = P3 m c := head_48 _

end Cert.Hand.Small

end
-- ==== Proof.SmallTail.lean ====
/-
  What the operations after the kernel leave in each result: the weight's numbers, taken out of one of the four packed arrays.
-/
module

public import proofs.«01_k».proof.Proof.Packing
public import proofs.«01_k».proof.Proof.Gen.SmallIdeal.Frame
public import proofs.«01_k».proof.Defs

@[expose] public section

set_option maxRecDepth 16384

noncomputable section

namespace Cert.Hand.Small

open Cert.SmallIdeal Cert.SmallIdeal.Gen Idealize.ShloMosaic Idealize.ShloMosaic.TcCoe Idealize.SL.Sem
open Cert.Hand.Packing

variable (V : Valuation τ sig (Elt Ideal))

/-- Entry `i` of a result whose numbers start at number `off` of the packed array `b`. -/
abbrev from_ {s : Shape} (b : (⟨S144x1024, .f32⟩ : BufTy).Contents (Elt Ideal)) (off : Nat) (i : s.Idx) (h : off + s.numel ≤ 147456) : EReal :=
  b (pos (off + (s.rowMajor i).val) (place i h))

theorem tail_51 (i : S1024.Idx) : StableHlo.after hostOps1 V (Proc.devRef .tc main_v51) i
    = from_ (V (Proc.devRef .tc main_v49_0)) 0 i (by decide) := by
  after_results
  exact unpack1 _ _ _ i _ rfl _

theorem tail_52 (i : S64.Idx) : StableHlo.after hostOps1 V (Proc.devRef .tc main_v52) i
    = from_ (V (Proc.devRef .tc main_v49_0)) 1024 i (by decide) := by
  after_results
  exact unpack1 _ _ _ i _ rfl _

theorem tail_53 (i : S64.Idx) : StableHlo.after hostOps1 V (Proc.devRef .tc main_v53) i
    = from_ (V (Proc.devRef .tc main_v49_0)) 1088 i (by decide) := by
  after_results
  exact unpack1 _ _ _ i _ rfl _

theorem tail_55 (i : S32x64.Idx) : StableHlo.after hostOps1 V (Proc.devRef .tc main_v55) i
    = from_ (V (Proc.devRef .tc main_v49_0)) 1152 i (by decide) := by
  after_results
  exact unpack _ _ _ _ i _ rfl _

theorem tail_57 (i : S32x64.Idx) : StableHlo.after hostOps1 V (Proc.devRef .tc main_v57) i
    = from_ (V (Proc.devRef .tc main_v49_0)) 3200 i (by decide) := by
  after_results
  exact unpack _ _ _ _ i _ rfl _

theorem tail_58 (i : S32.Idx) : StableHlo.after hostOps1 V (Proc.devRef .tc main_v58) i
    = from_ (V (Proc.devRef .tc main_v49_0)) 5248 i (by decide) := by
  after_results
  exact unpack1 _ _ _ i _ rfl _

theorem tail_60 (i : S32x64x16.Idx) : StableHlo.after hostOps1 V (Proc.devRef .tc main_v60) i
    = from_ (V (Proc.devRef .tc main_v49_0)) 5280 i (by decide) := by
  after_results
  exact unpack _ _ _ _ i _ rfl _

theorem tail_62 (i : S32x64x16.Idx) : StableHlo.after hostOps1 V (Proc.devRef .tc main_v62) i
    = from_ (V (Proc.devRef .tc main_v49_0)) 38048 i (by decide) := by
  after_results
  exact unpack _ _ _ _ i _ rfl _

theorem tail_64 (i : S32x16x64.Idx) : StableHlo.after hostOps1 V (Proc.devRef .tc main_v64) i
    = from_ (V (Proc.devRef .tc main_v49_0)) 70816 i (by decide) := by
  after_results
  exact unpack _ _ _ _ i _ rfl _

theorem tail_66 (i : S32x16x64.Idx) : StableHlo.after hostOps1 V (Proc.devRef .tc main_v66) i
    = from_ (V (Proc.devRef .tc main_v49_0)) 103584 i (by decide) := by
  after_results
  exact unpack _ _ _ _ i _ rfl _

theorem tail_68 (i : S32x16.Idx) : StableHlo.after hostOps1 V (Proc.devRef .tc main_v68) i
    = from_ (V (Proc.devRef .tc main_v49_0)) 136352 i (by decide) := by
  after_results
  exact unpack _ _ _ _ i _ rfl _

theorem tail_69 (i : S512.Idx) : StableHlo.after hostOps1 V (Proc.devRef .tc main_v69) i
    = from_ (V (Proc.devRef .tc main_v49_0)) 136864 i (by decide) := by
  after_results
  exact unpack1 _ _ _ i _ rfl _

theorem tail_70 (i : S512.Idx) : StableHlo.after hostOps1 V (Proc.devRef .tc main_v70) i
    = from_ (V (Proc.devRef .tc main_v49_0)) 137376 i (by decide) := by
  after_results
  exact unpack1 _ _ _ i _ rfl _

theorem tail_71 (i : S512.Idx) : StableHlo.after hostOps1 V (Proc.devRef .tc main_v71) i
    = from_ (V (Proc.devRef .tc main_v49_0)) 137888 i (by decide) := by
  after_results
  exact unpack1 _ _ _ i _ rfl _

theorem tail_72 (i : S1024.Idx) : StableHlo.after hostOps1 V (Proc.devRef .tc main_v72) i
    = from_ (V (Proc.devRef .tc main_v49_0)) 138400 i (by decide) := by
  after_results
  exact unpack1 _ _ _ i _ rfl _

theorem tail_74 (i : S1024.Idx) : StableHlo.after hostOps1 V (Proc.devRef .tc main_v74) i
    = from_ (V (Proc.devRef .tc main_v49_1)) 0 i (by decide) := by
  after_results
  exact unpack1 _ _ _ i _ rfl _

theorem tail_75 (i : S64.Idx) : StableHlo.after hostOps1 V (Proc.devRef .tc main_v75) i
    = from_ (V (Proc.devRef .tc main_v49_1)) 1024 i (by decide) := by
  after_results
  exact unpack1 _ _ _ i _ rfl _

theorem tail_76 (i : S64.Idx) : StableHlo.after hostOps1 V (Proc.devRef .tc main_v76) i
    = from_ (V (Proc.devRef .tc main_v49_1)) 1088 i (by decide) := by
  after_results
  exact unpack1 _ _ _ i _ rfl _

theorem tail_78 (i : S32x64.Idx) : StableHlo.after hostOps1 V (Proc.devRef .tc main_v78) i
    = from_ (V (Proc.devRef .tc main_v49_1)) 1152 i (by decide) := by
  after_results
  exact unpack _ _ _ _ i _ rfl _

theorem tail_80 (i : S32x64.Idx) : StableHlo.after hostOps1 V (Proc.devRef .tc main_v80) i
    = from_ (V (Proc.devRef .tc main_v49_1)) 3200 i (by decide) := by
  after_results
  exact unpack _ _ _ _ i _ rfl _

theorem tail_81 (i : S32.Idx) : StableHlo.after hostOps1 V (Proc.devRef .tc main_v81) i
    = from_ (V (Proc.devRef .tc main_v49_1)) 5248 i (by decide) := by
  after_results
  exact unpack1 _ _ _ i _ rfl _

theorem tail_83 (i : S32x64x16.Idx) : StableHlo.after hostOps1 V (Proc.devRef .tc main_v83) i
    = from_ (V (Proc.devRef .tc main_v49_1)) 5280 i (by decide) := by
  after_results
  exact unpack _ _ _ _ i _ rfl _

theorem tail_85 (i : S32x64x16.Idx) : StableHlo.after hostOps1 V (Proc.devRef .tc main_v85) i
    = from_ (V (Proc.devRef .tc main_v49_1)) 38048 i (by decide) := by
  after_results
  exact unpack _ _ _ _ i _ rfl _

theorem tail_87 (i : S32x16x64.Idx) : StableHlo.after hostOps1 V (Proc.devRef .tc main_v87) i
    = from_ (V (Proc.devRef .tc main_v49_1)) 70816 i (by decide) := by
  after_results
  exact unpack _ _ _ _ i _ rfl _

theorem tail_89 (i : S32x16x64.Idx) : StableHlo.after hostOps1 V (Proc.devRef .tc main_v89) i
    = from_ (V (Proc.devRef .tc main_v49_1)) 103584 i (by decide) := by
  after_results
  exact unpack _ _ _ _ i _ rfl _

theorem tail_91 (i : S32x16.Idx) : StableHlo.after hostOps1 V (Proc.devRef .tc main_v91) i
    = from_ (V (Proc.devRef .tc main_v49_1)) 136352 i (by decide) := by
  after_results
  exact unpack _ _ _ _ i _ rfl _

theorem tail_92 (i : S512.Idx) : StableHlo.after hostOps1 V (Proc.devRef .tc main_v92) i
    = from_ (V (Proc.devRef .tc main_v49_1)) 136864 i (by decide) := by
  after_results
  exact unpack1 _ _ _ i _ rfl _

theorem tail_93 (i : S512.Idx) : StableHlo.after hostOps1 V (Proc.devRef .tc main_v93) i
    = from_ (V (Proc.devRef .tc main_v49_1)) 137376 i (by decide) := by
  after_results
  exact unpack1 _ _ _ i _ rfl _

theorem tail_94 (i : S512.Idx) : StableHlo.after hostOps1 V (Proc.devRef .tc main_v94) i
    = from_ (V (Proc.devRef .tc main_v49_1)) 137888 i (by decide) := by
  after_results
  exact unpack1 _ _ _ i _ rfl _

theorem tail_95 (i : S1024.Idx) : StableHlo.after hostOps1 V (Proc.devRef .tc main_v95) i
    = from_ (V (Proc.devRef .tc main_v49_1)) 138400 i (by decide) := by
  after_results
  exact unpack1 _ _ _ i _ rfl _

theorem tail_97 (i : S1024.Idx) : StableHlo.after hostOps1 V (Proc.devRef .tc main_v97) i
    = from_ (V (Proc.devRef .tc main_v49_2)) 0 i (by decide) := by
  after_results
  exact unpack1 _ _ _ i _ rfl _

theorem tail_98 (i : S64.Idx) : StableHlo.after hostOps1 V (Proc.devRef .tc main_v98) i
    = from_ (V (Proc.devRef .tc main_v49_2)) 1024 i (by decide) := by
  after_results
  exact unpack1 _ _ _ i _ rfl _

theorem tail_99 (i : S64.Idx) : StableHlo.after hostOps1 V (Proc.devRef .tc main_v99) i
    = from_ (V (Proc.devRef .tc main_v49_2)) 1088 i (by decide) := by
  after_results
  exact unpack1 _ _ _ i _ rfl _

theorem tail_101 (i : S32x64.Idx) : StableHlo.after hostOps1 V (Proc.devRef .tc main_v101) i
    = from_ (V (Proc.devRef .tc main_v49_2)) 1152 i (by decide) := by
  after_results
  exact unpack _ _ _ _ i _ rfl _

theorem tail_103 (i : S32x64.Idx) : StableHlo.after hostOps1 V (Proc.devRef .tc main_v103) i
    = from_ (V (Proc.devRef .tc main_v49_2)) 3200 i (by decide) := by
  after_results
  exact unpack _ _ _ _ i _ rfl _

theorem tail_104 (i : S32.Idx) : StableHlo.after hostOps1 V (Proc.devRef .tc main_v104) i
    = from_ (V (Proc.devRef .tc main_v49_2)) 5248 i (by decide) := by
  after_results
  exact unpack1 _ _ _ i _ rfl _

theorem tail_106 (i : S32x64x16.Idx) : StableHlo.after hostOps1 V (Proc.devRef .tc main_v106) i
    = from_ (V (Proc.devRef .tc main_v49_2)) 5280 i (by decide) := by
  after_results
  exact unpack _ _ _ _ i _ rfl _

theorem tail_108 (i : S32x64x16.Idx) : StableHlo.after hostOps1 V (Proc.devRef .tc main_v108) i
    = from_ (V (Proc.devRef .tc main_v49_2)) 38048 i (by decide) := by
  after_results
  exact unpack _ _ _ _ i _ rfl _

theorem tail_110 (i : S32x16x64.Idx) : StableHlo.after hostOps1 V (Proc.devRef .tc main_v110) i
    = from_ (V (Proc.devRef .tc main_v49_2)) 70816 i (by decide) := by
  after_results
  exact unpack _ _ _ _ i _ rfl _

theorem tail_112 (i : S32x16x64.Idx) : StableHlo.after hostOps1 V (Proc.devRef .tc main_v112) i
    = from_ (V (Proc.devRef .tc main_v49_2)) 103584 i (by decide) := by
  after_results
  exact unpack _ _ _ _ i _ rfl _

theorem tail_114 (i : S32x16.Idx) : StableHlo.after hostOps1 V (Proc.devRef .tc main_v114) i
    = from_ (V (Proc.devRef .tc main_v49_2)) 136352 i (by decide) := by
  after_results
  exact unpack _ _ _ _ i _ rfl _

theorem tail_115 (i : S512.Idx) : StableHlo.after hostOps1 V (Proc.devRef .tc main_v115) i
    = from_ (V (Proc.devRef .tc main_v49_2)) 136864 i (by decide) := by
  after_results
  exact unpack1 _ _ _ i _ rfl _

theorem tail_116 (i : S512.Idx) : StableHlo.after hostOps1 V (Proc.devRef .tc main_v116) i
    = from_ (V (Proc.devRef .tc main_v49_2)) 137376 i (by decide) := by
  after_results
  exact unpack1 _ _ _ i _ rfl _

theorem tail_117 (i : S512.Idx) : StableHlo.after hostOps1 V (Proc.devRef .tc main_v117) i
    = from_ (V (Proc.devRef .tc main_v49_2)) 137888 i (by decide) := by
  after_results
  exact unpack1 _ _ _ i _ rfl _

theorem tail_118 (i : S1024.Idx) : StableHlo.after hostOps1 V (Proc.devRef .tc main_v118) i
    = from_ (V (Proc.devRef .tc main_v49_2)) 138400 i (by decide) := by
  after_results
  exact unpack1 _ _ _ i _ rfl _

theorem tail_120 (i : S1024.Idx) : StableHlo.after hostOps1 V (Proc.devRef .tc main_v120) i
    = from_ (V (Proc.devRef .tc main_v49_3)) 0 i (by decide) := by
  after_results
  exact unpack1 _ _ _ i _ rfl _

theorem tail_121 (i : S64.Idx) : StableHlo.after hostOps1 V (Proc.devRef .tc main_v121) i
    = from_ (V (Proc.devRef .tc main_v49_3)) 1024 i (by decide) := by
  after_results
  exact unpack1 _ _ _ i _ rfl _

theorem tail_122 (i : S64.Idx) : StableHlo.after hostOps1 V (Proc.devRef .tc main_v122) i
    = from_ (V (Proc.devRef .tc main_v49_3)) 1088 i (by decide) := by
  after_results
  exact unpack1 _ _ _ i _ rfl _

theorem tail_124 (i : S32x64.Idx) : StableHlo.after hostOps1 V (Proc.devRef .tc main_v124) i
    = from_ (V (Proc.devRef .tc main_v49_3)) 1152 i (by decide) := by
  after_results
  exact unpack _ _ _ _ i _ rfl _

theorem tail_126 (i : S32x64.Idx) : StableHlo.after hostOps1 V (Proc.devRef .tc main_v126) i
    = from_ (V (Proc.devRef .tc main_v49_3)) 3200 i (by decide) := by
  after_results
  exact unpack _ _ _ _ i _ rfl _

theorem tail_127 (i : S32.Idx) : StableHlo.after hostOps1 V (Proc.devRef .tc main_v127) i
    = from_ (V (Proc.devRef .tc main_v49_3)) 5248 i (by decide) := by
  after_results
  exact unpack1 _ _ _ i _ rfl _

theorem tail_129 (i : S32x64x16.Idx) : StableHlo.after hostOps1 V (Proc.devRef .tc main_v129) i
    = from_ (V (Proc.devRef .tc main_v49_3)) 5280 i (by decide) := by
  after_results
  exact unpack _ _ _ _ i _ rfl _

theorem tail_131 (i : S32x64x16.Idx) : StableHlo.after hostOps1 V (Proc.devRef .tc main_v131) i
    = from_ (V (Proc.devRef .tc main_v49_3)) 38048 i (by decide) := by
  after_results
  exact unpack _ _ _ _ i _ rfl _

theorem tail_133 (i : S32x16x64.Idx) : StableHlo.after hostOps1 V (Proc.devRef .tc main_v133) i
    = from_ (V (Proc.devRef .tc main_v49_3)) 70816 i (by decide) := by
  after_results
  exact unpack _ _ _ _ i _ rfl _

theorem tail_135 (i : S32x16x64.Idx) : StableHlo.after hostOps1 V (Proc.devRef .tc main_v135) i
    = from_ (V (Proc.devRef .tc main_v49_3)) 103584 i (by decide) := by
  after_results
  exact unpack _ _ _ _ i _ rfl _

theorem tail_137 (i : S32x16.Idx) : StableHlo.after hostOps1 V (Proc.devRef .tc main_v137) i
    = from_ (V (Proc.devRef .tc main_v49_3)) 136352 i (by decide) := by
  after_results
  exact unpack _ _ _ _ i _ rfl _

theorem tail_138 (i : S512.Idx) : StableHlo.after hostOps1 V (Proc.devRef .tc main_v138) i
    = from_ (V (Proc.devRef .tc main_v49_3)) 136864 i (by decide) := by
  after_results
  exact unpack1 _ _ _ i _ rfl _

theorem tail_139 (i : S512.Idx) : StableHlo.after hostOps1 V (Proc.devRef .tc main_v139) i
    = from_ (V (Proc.devRef .tc main_v49_3)) 137376 i (by decide) := by
  after_results
  exact unpack1 _ _ _ i _ rfl _

theorem tail_140 (i : S512.Idx) : StableHlo.after hostOps1 V (Proc.devRef .tc main_v140) i
    = from_ (V (Proc.devRef .tc main_v49_3)) 137888 i (by decide) := by
  after_results
  exact unpack1 _ _ _ i _ rfl _

theorem tail_141 (i : S1024.Idx) : StableHlo.after hostOps1 V (Proc.devRef .tc main_v141) i
    = from_ (V (Proc.devRef .tc main_v49_3)) 138400 i (by decide) := by
  after_results
  exact unpack1 _ _ _ i _ rfl _

theorem tail_143 : StableHlo.after hostOps1 V (Proc.devRef .tc main_v143)
    = shapeCast S_ (extractStridedSlice S1x1 ![143, 1023] (V (Proc.devRef .tc main_v49_0)) slices_S144x1024_S1x1_143_1023) shapeCasts_S1x1_S_ := by
  after_results
  rfl

end Cert.Hand.Small

end
-- ==== Proof.SmallAt.lean ====
/-
  The sums of the reference at one place, and the four packed results at one place: each is the optimiser's step on the numbers
  the packed arguments hold there.
-/
module

public import proofs.«01_k».proof.Proof.SmallStep
public import proofs.«01_k».proof.Proof.SmallPack
public import proofs.«01_k».proof.Proof.SmallTail
public import proofs.«01_k».proof.Proof.Gen.SmallRefIdeal

@[expose] public section

set_option maxRecDepth 16384

noncomputable section

namespace Cert.Hand.Small

open Cert.SmallIdeal Cert.SmallIdeal.Gen Idealize.ShloMosaic Idealize.ShloMosaic.TcCoe Idealize.SL.Sem
open Cert.Hand.Packing
open scoped BigOperators

/-! ## The reference's sums over the eight devices -/

/-- The sum over the devices, shape `1024`. -/
abbrev sum_S1024 (g : FVec Ideal S8x1024 .f32) : FVec Ideal S1024 .f32 :=
  Host.reduceAdd g (constant (F := Ideal) Cert.SmallRefIdeal.S_ .f32 0x00000000#32)
    Cert.SmallRefIdeal.Facts₀.reducesTo_S8x1024_S1024_d0 Cert.SmallRefIdeal.Facts₀.h_S_

theorem sum_S1024_at (g : FVec Ideal S8x1024 .f32) (i : S1024.Idx) :
    sum_S1024 g i = lit 0x00000000#32 + ∑ j : Fin 8, g (ix2 j (i 0)) := by
  unfold sum_S1024
  simp only [Host.reduceAdd, Ideal.hostReduceAdd_def]
  rw [Ideal.hostReduceAdd_single Cert.SmallRefIdeal.Facts₀.reducesTo_S8x1024_S1024_d0 (by decide)]
  refine congrArg (_ + ·) (Finset.sum_congr rfl fun k _ => ?_)
  exact congrArg g (funext fun x => Fin.ext (by match x with | ⟨0, _⟩ => rfl | ⟨1, _⟩ => rfl))

/-- The sum over the devices, shape `64`. -/
abbrev sum_S64 (g : FVec Ideal S8x64 .f32) : FVec Ideal S64 .f32 :=
  Host.reduceAdd g (constant (F := Ideal) Cert.SmallRefIdeal.S_ .f32 0x00000000#32)
    Cert.SmallRefIdeal.Facts₀.reducesTo_S8x64_S64_d0 Cert.SmallRefIdeal.Facts₀.h_S_

theorem sum_S64_at (g : FVec Ideal S8x64 .f32) (i : S64.Idx) :
    sum_S64 g i = lit 0x00000000#32 + ∑ j : Fin 8, g (ix2 j (i 0)) := by
  unfold sum_S64
  simp only [Host.reduceAdd, Ideal.hostReduceAdd_def]
  rw [Ideal.hostReduceAdd_single Cert.SmallRefIdeal.Facts₀.reducesTo_S8x64_S64_d0 (by decide)]
  refine congrArg (_ + ·) (Finset.sum_congr rfl fun k _ => ?_)
  exact congrArg g (funext fun x => Fin.ext (by match x with | ⟨0, _⟩ => rfl | ⟨1, _⟩ => rfl))

/-- The sum over the devices, shape `32x64`. -/
abbrev sum_S32x64 (g : FVec Ideal S8x32x64 .f32) : FVec Ideal S32x64 .f32 :=
  Host.reduceAdd g (constant (F := Ideal) Cert.SmallRefIdeal.S_ .f32 0x00000000#32)
    Cert.SmallRefIdeal.Facts₀.reducesTo_S8x32x64_S32x64_d0 Cert.SmallRefIdeal.Facts₀.h_S_

theorem sum_S32x64_at (g : FVec Ideal S8x32x64 .f32) (i : S32x64.Idx) :
    sum_S32x64 g i = lit 0x00000000#32 + ∑ j : Fin 8, g (ix3 j (i 0) (i 1)) := by
  unfold sum_S32x64
  simp only [Host.reduceAdd, Ideal.hostReduceAdd_def]
  rw [Ideal.hostReduceAdd_single Cert.SmallRefIdeal.Facts₀.reducesTo_S8x32x64_S32x64_d0 (by decide)]
  refine congrArg (_ + ·) (Finset.sum_congr rfl fun k _ => ?_)
  exact congrArg g (funext fun x => Fin.ext (by match x with | ⟨0, _⟩ => rfl | ⟨1, _⟩ => rfl | ⟨2, _⟩ => rfl))

/-- The sum over the devices, shape `32`. -/
abbrev sum_S32 (g : FVec Ideal S8x32 .f32) : FVec Ideal S32 .f32 :=
  Host.reduceAdd g (constant (F := Ideal) Cert.SmallRefIdeal.S_ .f32 0x00000000#32)
    Cert.SmallRefIdeal.Facts₀.reducesTo_S8x32_S32_d0 Cert.SmallRefIdeal.Facts₀.h_S_

theorem sum_S32_at (g : FVec Ideal S8x32 .f32) (i : S32.Idx) :
    sum_S32 g i = lit 0x00000000#32 + ∑ j : Fin 8, g (ix2 j (i 0)) := by
  unfold sum_S32
  simp only [Host.reduceAdd, Ideal.hostReduceAdd_def]
  rw [Ideal.hostReduceAdd_single Cert.SmallRefIdeal.Facts₀.reducesTo_S8x32_S32_d0 (by decide)]
  refine congrArg (_ + ·) (Finset.sum_congr rfl fun k _ => ?_)
  exact congrArg g (funext fun x => Fin.ext (by match x with | ⟨0, _⟩ => rfl | ⟨1, _⟩ => rfl))

/-- The sum over the devices, shape `32x64x16`. -/
abbrev sum_S32x64x16 (g : FVec Ideal S8x32x64x16 .f32) : FVec Ideal S32x64x16 .f32 :=
  Host.reduceAdd g (constant (F := Ideal) Cert.SmallRefIdeal.S_ .f32 0x00000000#32)
    Cert.SmallRefIdeal.Facts₀.reducesTo_S8x32x64x16_S32x64x16_d0 Cert.SmallRefIdeal.Facts₀.h_S_

theorem sum_S32x64x16_at (g : FVec Ideal S8x32x64x16 .f32) (i : S32x64x16.Idx) :
    sum_S32x64x16 g i = lit 0x00000000#32 + ∑ j : Fin 8, g (ix4 j (i 0) (i 1) (i 2)) := by
  unfold sum_S32x64x16
  simp only [Host.reduceAdd, Ideal.hostReduceAdd_def]
  rw [Ideal.hostReduceAdd_single Cert.SmallRefIdeal.Facts₀.reducesTo_S8x32x64x16_S32x64x16_d0 (by decide)]
  refine congrArg (_ + ·) (Finset.sum_congr rfl fun k _ => ?_)
  exact congrArg g (funext fun x => Fin.ext (by match x with | ⟨0, _⟩ => rfl | ⟨1, _⟩ => rfl | ⟨2, _⟩ => rfl | ⟨3, _⟩ => rfl))

/-- The sum over the devices, shape `32x16x64`. -/
abbrev sum_S32x16x64 (g : FVec Ideal S8x32x16x64 .f32) : FVec Ideal S32x16x64 .f32 :=
  Host.reduceAdd g (constant (F := Ideal) Cert.SmallRefIdeal.S_ .f32 0x00000000#32)
    Cert.SmallRefIdeal.Facts₀.reducesTo_S8x32x16x64_S32x16x64_d0 Cert.SmallRefIdeal.Facts₀.h_S_

theorem sum_S32x16x64_at (g : FVec Ideal S8x32x16x64 .f32) (i : S32x16x64.Idx) :
    sum_S32x16x64 g i = lit 0x00000000#32 + ∑ j : Fin 8, g (ix4 j (i 0) (i 1) (i 2)) := by
  unfold sum_S32x16x64
  simp only [Host.reduceAdd, Ideal.hostReduceAdd_def]
  rw [Ideal.hostReduceAdd_single Cert.SmallRefIdeal.Facts₀.reducesTo_S8x32x16x64_S32x16x64_d0 (by decide)]
  refine congrArg (_ + ·) (Finset.sum_congr rfl fun k _ => ?_)
  exact congrArg g (funext fun x => Fin.ext (by match x with | ⟨0, _⟩ => rfl | ⟨1, _⟩ => rfl | ⟨2, _⟩ => rfl | ⟨3, _⟩ => rfl))

/-- The sum over the devices, shape `32x16`. -/
abbrev sum_S32x16 (g : FVec Ideal S8x32x16 .f32) : FVec Ideal S32x16 .f32 :=
  Host.reduceAdd g (constant (F := Ideal) Cert.SmallRefIdeal.S_ .f32 0x00000000#32)
    Cert.SmallRefIdeal.Facts₀.reducesTo_S8x32x16_S32x16_d0 Cert.SmallRefIdeal.Facts₀.h_S_

theorem sum_S32x16_at (g : FVec Ideal S8x32x16 .f32) (i : S32x16.Idx) :
    sum_S32x16 g i = lit 0x00000000#32 + ∑ j : Fin 8, g (ix3 j (i 0) (i 1)) := by
  unfold sum_S32x16
  simp only [Host.reduceAdd, Ideal.hostReduceAdd_def]
  rw [Ideal.hostReduceAdd_single Cert.SmallRefIdeal.Facts₀.reducesTo_S8x32x16_S32x16_d0 (by decide)]
  refine congrArg (_ + ·) (Finset.sum_congr rfl fun k _ => ?_)
  exact congrArg g (funext fun x => Fin.ext (by match x with | ⟨0, _⟩ => rfl | ⟨1, _⟩ => rfl | ⟨2, _⟩ => rfl))

/-- The sum over the devices, shape `512`. -/
abbrev sum_S512 (g : FVec Ideal S8x512 .f32) : FVec Ideal S512 .f32 :=
  Host.reduceAdd g (constant (F := Ideal) Cert.SmallRefIdeal.S_ .f32 0x00000000#32)
    Cert.SmallRefIdeal.Facts₀.reducesTo_S8x512_S512_d0 Cert.SmallRefIdeal.Facts₀.h_S_

theorem sum_S512_at (g : FVec Ideal S8x512 .f32) (i : S512.Idx) :
    sum_S512 g i = lit 0x00000000#32 + ∑ j : Fin 8, g (ix2 j (i 0)) := by
  unfold sum_S512
  simp only [Host.reduceAdd, Ideal.hostReduceAdd_def]
  rw [Ideal.hostReduceAdd_single Cert.SmallRefIdeal.Facts₀.reducesTo_S8x512_S512_d0 (by decide)]
  refine congrArg (_ + ·) (Finset.sum_congr rfl fun k _ => ?_)
  exact congrArg g (funext fun x => Fin.ext (by match x with | ⟨0, _⟩ => rfl | ⟨1, _⟩ => rfl))

/-- The sum of the eight losses. -/
abbrev sum_S_ (g : FVec Ideal S8 .f32) : FVec Ideal S_ .f32 :=
  Host.reduceAdd g (constant (F := Ideal) Cert.SmallRefIdeal.S_ .f32 0x00000000#32)
    Cert.SmallRefIdeal.Facts₀.reducesTo_S8_S_d0 Cert.SmallRefIdeal.Facts₀.h_S_

theorem sum_S__at (g : FVec Ideal S8 .f32) (i : S_.Idx) : sum_S_ g i = lit 0x00000000#32 + ∑ j : Fin 8, g (ix1 j) := by
  unfold sum_S_
  simp only [Host.reduceAdd, Ideal.hostReduceAdd_def]
  exact Ideal.hostReduceAdd_r1_a0 Cert.SmallRefIdeal.Facts₀.reducesTo_S8_S_d0 g _ i

/-! ## The packed results at one place -/

variable (m : (ℓ : Loc nD τ sig) → Buf (Elt Ideal) ℓ)

/-- The sum of the devices' packed gradients at place `p`. -/
abbrev gsum (c : Dev nD) (p : Nat) (hp : p < 147456) : EReal := lit 0x00000000#32 + ∑ j : Fin 8, P0 m c (pos8 j p hp)

theorem at4 (c : Dev nD) (p : Nat) (hp : p < 147456) : G4 m c (pos p hp) = gsum m c p hp := by
  show grad8 (V m c main_v12) (pos p hp) = _
  rw [V_12]
  rfl

theorem at5 (c : Dev nD) (p : Nat) (hp : p < 147456) :
    G5 m c (pos p hp) = delta (gsum m c p hp) (P1 m c (pos p hp)) (P2 m c (pos p hp)) (P3 m c (pos p hp)) := by
  show delta (grad8 (V m c main_v12) (pos p hp)) (V m c main_v24 (pos p hp)) (V m c main_v36 (pos p hp)) (V m c main_v48 (pos p hp)) = _
  rw [V_12, V_24, V_36, V_48]
  rfl

theorem at6 (c : Dev nD) (p : Nat) (hp : p < 147456) : G6 m c (pos p hp) = moment1 (gsum m c p hp) (P2 m c (pos p hp)) := by
  show moment1 (grad8 (V m c main_v12) (pos p hp)) (V m c main_v36 (pos p hp)) = _
  rw [V_12, V_36]
  rfl

theorem at7 (c : Dev nD) (p : Nat) (hp : p < 147456) : G7 m c (pos p hp) = moment2 (gsum m c p hp) (P3 m c (pos p hp)) := by
  show moment2 (grad8 (V m c main_v12) (pos p hp)) (V m c main_v48 (pos p hp)) = _
  rw [V_12, V_48]
  rfl

/-! ## What the operations after the kernel start from -/

/-- The contents after the kernel. -/
abbrev W1 (c : Dev nD) : Valuation τ sig (Elt Ideal) :=
  Pipeline.withArrays spec0 c (V0 m c) fun w => (dats m 0 c).arrAt w cfg0.N

/-- The contents of `b` at the end. -/
abbrev E (c : Dev nD) (b : Ref sig .tc) := StableHlo.after hostOps1 (W1 m c) (Proc.devRef .tc b)

theorem E_eq (c : Dev nD) (b : Ref sig .tc) : Pipeline.afterTail₀ cfgs (dats m) 0 (V0 m) [hostOps1] c b = E m c b := by
  unfold Pipeline.afterTail₀
  rw [List.flatten_cons, List.flatten_nil, List.append_nil]

theorem apart : Function.Injective (Pipeline.arrRef spec0) := by decide

theorem arr0 (c : Dev nD) : W1 m c (Proc.devRef .tc main_v49_0) = G4 m c :=
  (Pipeline.withArrays_arr spec0 apart c (V0 m c) _ 4).trans (final4 m c)

theorem arr1 (c : Dev nD) : W1 m c (Proc.devRef .tc main_v49_1) = G5 m c :=
  (Pipeline.withArrays_arr spec0 apart c (V0 m c) _ 5).trans (final5 m c)

theorem arr2 (c : Dev nD) : W1 m c (Proc.devRef .tc main_v49_2) = G6 m c :=
  (Pipeline.withArrays_arr spec0 apart c (V0 m c) _ 6).trans (final6 m c)

theorem arr3 (c : Dev nD) : W1 m c (Proc.devRef .tc main_v49_3) = G7 m c :=
  (Pipeline.withArrays_arr spec0 apart c (V0 m c) _ 7).trans (final7 m c)

/-! ## The four results of a weight -/

/-- `S`, `w`, `u`, `v` step to the four results `X4` to `X7`. -/
abbrev Steps {s : Shape} (S w u v X4 X5 X6 X7 : FVec Ideal s .f32) : Prop :=
  S = X4 ∧ (fun i => delta (S i) (w i) (u i) (v i)) = X5 ∧ (fun i => moment1 (S i) (u i)) = X6
    ∧ (fun i => moment2 (S i) (v i)) = X7

/-- A weight whose sum, value and moments lie from number `off` on, and whose results are taken from there, steps to its results. -/
theorem steps (c : Dev nD) {s : Shape} {S w u v X4 X5 X6 X7 : FVec Ideal s .f32} (off : Nat) (h : off + s.numel ≤ 147456)
    (h4 : ∀ i, X4 i = from_ (W1 m c (Proc.devRef .tc main_v49_0)) off i h)
    (h5 : ∀ i, X5 i = from_ (W1 m c (Proc.devRef .tc main_v49_1)) off i h)
    (h6 : ∀ i, X6 i = from_ (W1 m c (Proc.devRef .tc main_v49_2)) off i h)
    (h7 : ∀ i, X7 i = from_ (W1 m c (Proc.devRef .tc main_v49_3)) off i h)
    (hS : ∀ i, gsum m c (off + (s.rowMajor i).val) (place i h) = S i) (hw : ∀ i, from_ (P1 m c) off i h = w i)
    (hu : ∀ i, from_ (P2 m c) off i h = u i) (hv : ∀ i, from_ (P3 m c) off i h = v i) :
    Steps S w u v X4 X5 X6 X7 :=
  ⟨funext fun i => by rw [h4, arr0]; exact ((at4 m c _ _).trans (hS i)).symm,
    funext fun i => by rw [h5, arr1, ← hS, ← hw, ← hu, ← hv]; exact (at5 m c _ _).symm,
    funext fun i => by rw [h6, arr2, ← hS, ← hu]; exact (at6 m c _ _).symm,
    funext fun i => by rw [h7, arr3, ← hS, ← hv]; exact (at7 m c _ _).symm⟩

end Cert.Hand.Small

end
-- ==== Proof.SmallOut.lean ====
/-
  The results of the fifteen weights, and the loss: each is the reference's.
-/
module

public import proofs.«01_k».proof.Proof.SmallAt

@[expose] public section

set_option maxRecDepth 16384

noncomputable section

namespace Cert.Hand.Small

open Cert.SmallIdeal Cert.SmallIdeal.Gen Idealize.ShloMosaic Idealize.ShloMosaic.TcCoe Idealize.SL.Sem
open Cert.Hand.Packing
open scoped BigOperators

variable (m : (ℓ : Loc nD τ sig) → Buf (Elt Ideal) ℓ)

/-- `norm1_g`. -/
theorem weight_0 (c : Dev nD) {g : FVec Ideal S8x1024 .f32} {w u v : FVec Ideal S1024 .f32} (hg : g = arg m c main_arg1)
    (hw : w = arg m c main_arg16) (hu : u = arg m c main_arg31) (hv : v = arg m c main_arg46) :
    Steps (sum_S1024 g) w u v (E m c main_v51) (E m c main_v74) (E m c main_v97) (E m c main_v120) := by
  subst hg hw hu hv
  exact steps m c 0 (by decide) (tail_51 _) (tail_74 _) (tail_97 _) (tail_120 _)
    (fun i => (congrArg (lit 0x00000000#32 + ·) (Finset.sum_congr rfl fun j _ => packed8_0 _ _ j i _)).trans (sum_S1024_at _ i).symm)
    (fun i => packed_0 _ i _) (fun i => packed_0 _ i _) (fun i => packed_0 _ i _)

/-- `q_norm_g`. -/
theorem weight_1 (c : Dev nD) {g : FVec Ideal S8x64 .f32} {w u v : FVec Ideal S64 .f32} (hg : g = arg m c main_arg2)
    (hw : w = arg m c main_arg17) (hu : u = arg m c main_arg32) (hv : v = arg m c main_arg47) :
    Steps (sum_S64 g) w u v (E m c main_v52) (E m c main_v75) (E m c main_v98) (E m c main_v121) := by
  subst hg hw hu hv
  exact steps m c 1024 (by decide) (tail_52 _) (tail_75 _) (tail_98 _) (tail_121 _)
    (fun i => (congrArg (lit 0x00000000#32 + ·) (Finset.sum_congr rfl fun j _ => packed8_1 _ _ j i _)).trans (sum_S64_at _ i).symm)
    (fun i => packed_1 _ i _) (fun i => packed_1 _ i _) (fun i => packed_1 _ i _)

/-- `k_norm_g`. -/
theorem weight_2 (c : Dev nD) {g : FVec Ideal S8x64 .f32} {w u v : FVec Ideal S64 .f32} (hg : g = arg m c main_arg3)
    (hw : w = arg m c main_arg18) (hu : u = arg m c main_arg33) (hv : v = arg m c main_arg48) :
    Steps (sum_S64 g) w u v (E m c main_v53) (E m c main_v76) (E m c main_v99) (E m c main_v122) := by
  subst hg hw hu hv
  exact steps m c 1088 (by decide) (tail_53 _) (tail_76 _) (tail_99 _) (tail_122 _)
    (fun i => (congrArg (lit 0x00000000#32 + ·) (Finset.sum_congr rfl fun j _ => packed8_2 _ _ j i _)).trans (sum_S64_at _ i).symm)
    (fun i => packed_2 _ i _) (fun i => packed_2 _ i _) (fun i => packed_2 _ i _)

/-- `ssm_lambda_re`. -/
theorem weight_3 (c : Dev nD) {g : FVec Ideal S8x32x64 .f32} {w u v : FVec Ideal S32x64 .f32} (hg : g = arg m c main_arg4)
    (hw : w = arg m c main_arg19) (hu : u = arg m c main_arg34) (hv : v = arg m c main_arg49) :
    Steps (sum_S32x64 g) w u v (E m c main_v55) (E m c main_v78) (E m c main_v101) (E m c main_v124) := by
  subst hg hw hu hv
  exact steps m c 1152 (by decide) (tail_55 _) (tail_78 _) (tail_101 _) (tail_124 _)
    (fun i => (congrArg (lit 0x00000000#32 + ·) (Finset.sum_congr rfl fun j _ => packed8_3 _ _ j i _)).trans (sum_S32x64_at _ i).symm)
    (fun i => packed_3 _ i _) (fun i => packed_3 _ i _) (fun i => packed_3 _ i _)

/-- `ssm_lambda_im`. -/
theorem weight_4 (c : Dev nD) {g : FVec Ideal S8x32x64 .f32} {w u v : FVec Ideal S32x64 .f32} (hg : g = arg m c main_arg5)
    (hw : w = arg m c main_arg20) (hu : u = arg m c main_arg35) (hv : v = arg m c main_arg50) :
    Steps (sum_S32x64 g) w u v (E m c main_v57) (E m c main_v80) (E m c main_v103) (E m c main_v126) := by
  subst hg hw hu hv
  exact steps m c 3200 (by decide) (tail_57 _) (tail_80 _) (tail_103 _) (tail_126 _)
    (fun i => (congrArg (lit 0x00000000#32 + ·) (Finset.sum_congr rfl fun j _ => packed8_4 _ _ j i _)).trans (sum_S32x64_at _ i).symm)
    (fun i => packed_4 _ i _) (fun i => packed_4 _ i _) (fun i => packed_4 _ i _)

/-- `ssm_log_dt`. -/
theorem weight_5 (c : Dev nD) {g : FVec Ideal S8x32 .f32} {w u v : FVec Ideal S32 .f32} (hg : g = arg m c main_arg6)
    (hw : w = arg m c main_arg21) (hu : u = arg m c main_arg36) (hv : v = arg m c main_arg51) :
    Steps (sum_S32 g) w u v (E m c main_v58) (E m c main_v81) (E m c main_v104) (E m c main_v127) := by
  subst hg hw hu hv
  exact steps m c 5248 (by decide) (tail_58 _) (tail_81 _) (tail_104 _) (tail_127 _)
    (fun i => (congrArg (lit 0x00000000#32 + ·) (Finset.sum_congr rfl fun j _ => packed8_5 _ _ j i _)).trans (sum_S32_at _ i).symm)
    (fun i => packed_5 _ i _) (fun i => packed_5 _ i _) (fun i => packed_5 _ i _)

/-- `ssm_b_re`. -/
theorem weight_6 (c : Dev nD) {g : FVec Ideal S8x32x64x16 .f32} {w u v : FVec Ideal S32x64x16 .f32} (hg : g = arg m c main_arg7)
    (hw : w = arg m c main_arg22) (hu : u = arg m c main_arg37) (hv : v = arg m c main_arg52) :
    Steps (sum_S32x64x16 g) w u v (E m c main_v60) (E m c main_v83) (E m c main_v106) (E m c main_v129) := by
  subst hg hw hu hv
  exact steps m c 5280 (by decide) (tail_60 _) (tail_83 _) (tail_106 _) (tail_129 _)
    (fun i => (congrArg (lit 0x00000000#32 + ·) (Finset.sum_congr rfl fun j _ => packed8_6 _ _ j i _)).trans (sum_S32x64x16_at _ i).symm)
    (fun i => packed_6 _ i _) (fun i => packed_6 _ i _) (fun i => packed_6 _ i _)

/-- `ssm_b_im`. -/
theorem weight_7 (c : Dev nD) {g : FVec Ideal S8x32x64x16 .f32} {w u v : FVec Ideal S32x64x16 .f32} (hg : g = arg m c main_arg8)
    (hw : w = arg m c main_arg23) (hu : u = arg m c main_arg38) (hv : v = arg m c main_arg53) :
    Steps (sum_S32x64x16 g) w u v (E m c main_v62) (E m c main_v85) (E m c main_v108) (E m c main_v131) := by
  subst hg hw hu hv
  exact steps m c 38048 (by decide) (tail_62 _) (tail_85 _) (tail_108 _) (tail_131 _)
    (fun i => (congrArg (lit 0x00000000#32 + ·) (Finset.sum_congr rfl fun j _ => packed8_7 _ _ j i _)).trans (sum_S32x64x16_at _ i).symm)
    (fun i => packed_7 _ i _) (fun i => packed_7 _ i _) (fun i => packed_7 _ i _)

/-- `ssm_c_re`. -/
theorem weight_8 (c : Dev nD) {g : FVec Ideal S8x32x16x64 .f32} {w u v : FVec Ideal S32x16x64 .f32} (hg : g = arg m c main_arg9)
    (hw : w = arg m c main_arg24) (hu : u = arg m c main_arg39) (hv : v = arg m c main_arg54) :
    Steps (sum_S32x16x64 g) w u v (E m c main_v64) (E m c main_v87) (E m c main_v110) (E m c main_v133) := by
  subst hg hw hu hv
  exact steps m c 70816 (by decide) (tail_64 _) (tail_87 _) (tail_110 _) (tail_133 _)
    (fun i => (congrArg (lit 0x00000000#32 + ·) (Finset.sum_congr rfl fun j _ => packed8_8 _ _ j i _)).trans (sum_S32x16x64_at _ i).symm)
    (fun i => packed_8 _ i _) (fun i => packed_8 _ i _) (fun i => packed_8 _ i _)

/-- `ssm_c_im`. -/
theorem weight_9 (c : Dev nD) {g : FVec Ideal S8x32x16x64 .f32} {w u v : FVec Ideal S32x16x64 .f32} (hg : g = arg m c main_arg10)
    (hw : w = arg m c main_arg25) (hu : u = arg m c main_arg40) (hv : v = arg m c main_arg55) :
    Steps (sum_S32x16x64 g) w u v (E m c main_v66) (E m c main_v89) (E m c main_v112) (E m c main_v135) := by
  subst hg hw hu hv
  exact steps m c 103584 (by decide) (tail_66 _) (tail_89 _) (tail_112 _) (tail_135 _)
    (fun i => (congrArg (lit 0x00000000#32 + ·) (Finset.sum_congr rfl fun j _ => packed8_9 _ _ j i _)).trans (sum_S32x16x64_at _ i).symm)
    (fun i => packed_9 _ i _) (fun i => packed_9 _ i _) (fun i => packed_9 _ i _)

/-- `ssm_d`. -/
theorem weight_10 (c : Dev nD) {g : FVec Ideal S8x32x16 .f32} {w u v : FVec Ideal S32x16 .f32} (hg : g = arg m c main_arg11)
    (hw : w = arg m c main_arg26) (hu : u = arg m c main_arg41) (hv : v = arg m c main_arg56) :
    Steps (sum_S32x16 g) w u v (E m c main_v68) (E m c main_v91) (E m c main_v114) (E m c main_v137) := by
  subst hg hw hu hv
  exact steps m c 136352 (by decide) (tail_68 _) (tail_91 _) (tail_114 _) (tail_137 _)
    (fun i => (congrArg (lit 0x00000000#32 + ·) (Finset.sum_congr rfl fun j _ => packed8_10 _ _ j i _)).trans (sum_S32x16_at _ i).symm)
    (fun i => packed_10 _ i _) (fun i => packed_10 _ i _) (fun i => packed_10 _ i _)

/-- `b_glu`. -/
theorem weight_11 (c : Dev nD) {g : FVec Ideal S8x512 .f32} {w u v : FVec Ideal S512 .f32} (hg : g = arg m c main_arg12)
    (hw : w = arg m c main_arg27) (hu : u = arg m c main_arg42) (hv : v = arg m c main_arg57) :
    Steps (sum_S512 g) w u v (E m c main_v69) (E m c main_v92) (E m c main_v115) (E m c main_v138) := by
  subst hg hw hu hv
  exact steps m c 136864 (by decide) (tail_69 _) (tail_92 _) (tail_115 _) (tail_138 _)
    (fun i => (congrArg (lit 0x00000000#32 + ·) (Finset.sum_congr rfl fun j _ => packed8_11 _ _ j i _)).trans (sum_S512_at _ i).symm)
    (fun i => packed_11 _ i _) (fun i => packed_11 _ i _) (fun i => packed_11 _ i _)

/-- `attn_out_g`. -/
theorem weight_12 (c : Dev nD) {g : FVec Ideal S8x512 .f32} {w u v : FVec Ideal S512 .f32} (hg : g = arg m c main_arg13)
    (hw : w = arg m c main_arg28) (hu : u = arg m c main_arg43) (hv : v = arg m c main_arg58) :
    Steps (sum_S512 g) w u v (E m c main_v70) (E m c main_v93) (E m c main_v116) (E m c main_v139) := by
  subst hg hw hu hv
  exact steps m c 137376 (by decide) (tail_70 _) (tail_93 _) (tail_116 _) (tail_139 _)
    (fun i => (congrArg (lit 0x00000000#32 + ·) (Finset.sum_congr rfl fun j _ => packed8_12 _ _ j i _)).trans (sum_S512_at _ i).symm)
    (fun i => packed_12 _ i _) (fun i => packed_12 _ i _) (fun i => packed_12 _ i _)

/-- `ssm_out_g`. -/
theorem weight_13 (c : Dev nD) {g : FVec Ideal S8x512 .f32} {w u v : FVec Ideal S512 .f32} (hg : g = arg m c main_arg14)
    (hw : w = arg m c main_arg29) (hu : u = arg m c main_arg44) (hv : v = arg m c main_arg59) :
    Steps (sum_S512 g) w u v (E m c main_v71) (E m c main_v94) (E m c main_v117) (E m c main_v140) := by
  subst hg hw hu hv
  exact steps m c 137888 (by decide) (tail_71 _) (tail_94 _) (tail_117 _) (tail_140 _)
    (fun i => (congrArg (lit 0x00000000#32 + ·) (Finset.sum_congr rfl fun j _ => packed8_13 _ _ j i _)).trans (sum_S512_at _ i).symm)
    (fun i => packed_13 _ i _) (fun i => packed_13 _ i _) (fun i => packed_13 _ i _)

/-- `norm2_g`. -/
theorem weight_14 (c : Dev nD) {g : FVec Ideal S8x1024 .f32} {w u v : FVec Ideal S1024 .f32} (hg : g = arg m c main_arg15)
    (hw : w = arg m c main_arg30) (hu : u = arg m c main_arg45) (hv : v = arg m c main_arg60) :
    Steps (sum_S1024 g) w u v (E m c main_v72) (E m c main_v95) (E m c main_v118) (E m c main_v141) := by
  subst hg hw hu hv
  exact steps m c 138400 (by decide) (tail_72 _) (tail_95 _) (tail_118 _) (tail_141 _)
    (fun i => (congrArg (lit 0x00000000#32 + ·) (Finset.sum_congr rfl fun j _ => packed8_14 _ _ j i _)).trans (sum_S1024_at _ i).symm)
    (fun i => packed_14 _ i _) (fun i => packed_14 _ i _) (fun i => packed_14 _ i _)

/-! ## The loss -/

theorem loss (c : Dev nD) {l : FVec Ideal S8 .f32} (hl : l = arg m c main_arg0) :
    sum_S_ l = E m c main_v143 := by
  subst hl
  refine funext fun i => Eq.symm ?_
  unfold E
  rw [tail_143, arr0, sum_S__at]
  refine (shapeCast_apply _ _ i (ix2 (0 : Fin 1) (0 : Fin 1)) ?_).trans
    ((extractStridedSlice_apply _ _ _ (ix2 (0 : Fin 1) (0 : Fin 1)) (pos 147455 (by decide)) fun x => ?_).trans
      ((at4 m c _ _).trans (congrArg (lit 0x00000000#32 + ·) (Finset.sum_congr rfl fun j _ => packed8_loss _ _ j))))
  · rw [Shape.rowMajor_val_two]
    have h := (Shape.rowMajor S_ i).isLt
    have e : S_.numel = 1 := by decide
    show 0 * 1 + 0 = _
    omega
  · match x with
    | ⟨0, _⟩ => rfl
    | ⟨1, _⟩ => exact (by omega : 147455 % 1024 = 1023 + 0)

end Cert.Hand.Small

end
-- ==== Proof.Small.lean ====
/-
  The optimiser's step on the weights every device holds whole, and the loss: the kernel's results are the reference's.
-/
module

public import proofs.«01_k».proof.Proof.SmallOut
public import proofs.«01_k».proof.Proof.Gen.SmallRefIdeal.Run

@[expose] public section

set_option maxRecDepth 16384

noncomputable section

namespace Cert.Hand.Small

open Cert.SmallIdeal Cert.SmallIdeal.Gen Idealize.ShloMosaic Idealize.ShloMosaic.TcCoe Idealize.SL.Sem

set_option maxHeartbeats 8000000 in
theorem algebraic : Cert.algebraic_SmallIdeal_SmallRefIdeal := fun m g m' g' _ hagree =>
  ⟨fun c => E m c main_v143, fun c => E m c main_v51, fun c => E m c main_v52, fun c => E m c main_v53, fun c => E m c main_v55,
    fun c => E m c main_v57, fun c => E m c main_v58, fun c => E m c main_v60, fun c => E m c main_v62, fun c => E m c main_v64,
    fun c => E m c main_v66, fun c => E m c main_v68, fun c => E m c main_v69, fun c => E m c main_v70, fun c => E m c main_v71,
    fun c => E m c main_v72, fun c => E m c main_v74, fun c => E m c main_v75, fun c => E m c main_v76, fun c => E m c main_v78,
    fun c => E m c main_v80, fun c => E m c main_v81, fun c => E m c main_v83, fun c => E m c main_v85, fun c => E m c main_v87,
    fun c => E m c main_v89, fun c => E m c main_v91, fun c => E m c main_v92, fun c => E m c main_v93, fun c => E m c main_v94,
    fun c => E m c main_v95, fun c => E m c main_v97, fun c => E m c main_v98, fun c => E m c main_v99, fun c => E m c main_v101,
    fun c => E m c main_v103, fun c => E m c main_v104, fun c => E m c main_v106, fun c => E m c main_v108, fun c => E m c main_v110,
    fun c => E m c main_v112, fun c => E m c main_v114, fun c => E m c main_v115, fun c => E m c main_v116, fun c => E m c main_v117,
    fun c => E m c main_v118, fun c => E m c main_v120, fun c => E m c main_v121, fun c => E m c main_v122, fun c => E m c main_v124,
    fun c => E m c main_v126, fun c => E m c main_v127, fun c => E m c main_v129, fun c => E m c main_v131, fun c => E m c main_v133,
    fun c => E m c main_v135, fun c => E m c main_v137, fun c => E m c main_v138, fun c => E m c main_v139, fun c => E m c main_v140,
    fun c => E m c main_v141,
    (θ_run _ _ _).mono (fun r h c => by
        have k := fun b h1 h2 => ((h c).2 b (Pipeline.mem_restRefs_of b h1 h2)).trans (E_eq m c b)
        have a := fun b h1 h2 {x} (hx : _ = x) => ((h c).2 b (Pipeline.mem_restRefs_of b h1 h2)).trans hx
        exact ⟨k main_v143 (by decide) (by decide), k main_v51 (by decide) (by decide), k main_v52 (by decide) (by decide),
          k main_v53 (by decide) (by decide), k main_v55 (by decide) (by decide), k main_v57 (by decide) (by decide),
          k main_v58 (by decide) (by decide), k main_v60 (by decide) (by decide), k main_v62 (by decide) (by decide),
          k main_v64 (by decide) (by decide), k main_v66 (by decide) (by decide), k main_v68 (by decide) (by decide),
          k main_v69 (by decide) (by decide), k main_v70 (by decide) (by decide), k main_v71 (by decide) (by decide),
          k main_v72 (by decide) (by decide), k main_v74 (by decide) (by decide), k main_v75 (by decide) (by decide),
          k main_v76 (by decide) (by decide), k main_v78 (by decide) (by decide), k main_v80 (by decide) (by decide),
          k main_v81 (by decide) (by decide), k main_v83 (by decide) (by decide), k main_v85 (by decide) (by decide),
          k main_v87 (by decide) (by decide), k main_v89 (by decide) (by decide), k main_v91 (by decide) (by decide),
          k main_v92 (by decide) (by decide), k main_v93 (by decide) (by decide), k main_v94 (by decide) (by decide),
          k main_v95 (by decide) (by decide), k main_v97 (by decide) (by decide), k main_v98 (by decide) (by decide),
          k main_v99 (by decide) (by decide), k main_v101 (by decide) (by decide), k main_v103 (by decide) (by decide),
          k main_v104 (by decide) (by decide), k main_v106 (by decide) (by decide), k main_v108 (by decide) (by decide),
          k main_v110 (by decide) (by decide), k main_v112 (by decide) (by decide), k main_v114 (by decide) (by decide),
          k main_v115 (by decide) (by decide), k main_v116 (by decide) (by decide), k main_v117 (by decide) (by decide),
          k main_v118 (by decide) (by decide), k main_v120 (by decide) (by decide), k main_v121 (by decide) (by decide),
          k main_v122 (by decide) (by decide), k main_v124 (by decide) (by decide), k main_v126 (by decide) (by decide),
          k main_v127 (by decide) (by decide), k main_v129 (by decide) (by decide), k main_v131 (by decide) (by decide),
          k main_v133 (by decide) (by decide), k main_v135 (by decide) (by decide), k main_v137 (by decide) (by decide),
          k main_v138 (by decide) (by decide), k main_v139 (by decide) (by decide), k main_v140 (by decide) (by decide),
          k main_v141 (by decide) (by decide), a main_arg0 (by decide) (by decide) (W_main_arg0 m (dats m) c),
          a main_arg1 (by decide) (by decide) (W_main_arg1 m (dats m) c), a main_arg2 (by decide) (by decide) (W_main_arg2 m (dats m) c),
          a main_arg3 (by decide) (by decide) (W_main_arg3 m (dats m) c), a main_arg4 (by decide) (by decide) (W_main_arg4 m (dats m) c),
          a main_arg5 (by decide) (by decide) (W_main_arg5 m (dats m) c), a main_arg6 (by decide) (by decide) (W_main_arg6 m (dats m) c),
          a main_arg7 (by decide) (by decide) (W_main_arg7 m (dats m) c), a main_arg8 (by decide) (by decide) (W_main_arg8 m (dats m) c),
          a main_arg9 (by decide) (by decide) (W_main_arg9 m (dats m) c), a main_arg10 (by decide) (by decide) (W_main_arg10 m (dats m) c),
          a main_arg11 (by decide) (by decide) (W_main_arg11 m (dats m) c),
          a main_arg12 (by decide) (by decide) (W_main_arg12 m (dats m) c),
          a main_arg13 (by decide) (by decide) (W_main_arg13 m (dats m) c),
          a main_arg14 (by decide) (by decide) (W_main_arg14 m (dats m) c),
          a main_arg15 (by decide) (by decide) (W_main_arg15 m (dats m) c),
          a main_arg16 (by decide) (by decide) (W_main_arg16 m (dats m) c),
          a main_arg17 (by decide) (by decide) (W_main_arg17 m (dats m) c),
          a main_arg18 (by decide) (by decide) (W_main_arg18 m (dats m) c),
          a main_arg19 (by decide) (by decide) (W_main_arg19 m (dats m) c),
          a main_arg20 (by decide) (by decide) (W_main_arg20 m (dats m) c),
          a main_arg21 (by decide) (by decide) (W_main_arg21 m (dats m) c),
          a main_arg22 (by decide) (by decide) (W_main_arg22 m (dats m) c),
          a main_arg23 (by decide) (by decide) (W_main_arg23 m (dats m) c),
          a main_arg24 (by decide) (by decide) (W_main_arg24 m (dats m) c),
          a main_arg25 (by decide) (by decide) (W_main_arg25 m (dats m) c),
          a main_arg26 (by decide) (by decide) (W_main_arg26 m (dats m) c),
          a main_arg27 (by decide) (by decide) (W_main_arg27 m (dats m) c),
          a main_arg28 (by decide) (by decide) (W_main_arg28 m (dats m) c),
          a main_arg29 (by decide) (by decide) (W_main_arg29 m (dats m) c),
          a main_arg30 (by decide) (by decide) (W_main_arg30 m (dats m) c),
          a main_arg31 (by decide) (by decide) (W_main_arg31 m (dats m) c),
          a main_arg32 (by decide) (by decide) (W_main_arg32 m (dats m) c),
          a main_arg33 (by decide) (by decide) (W_main_arg33 m (dats m) c),
          a main_arg34 (by decide) (by decide) (W_main_arg34 m (dats m) c),
          a main_arg35 (by decide) (by decide) (W_main_arg35 m (dats m) c),
          a main_arg36 (by decide) (by decide) (W_main_arg36 m (dats m) c),
          a main_arg37 (by decide) (by decide) (W_main_arg37 m (dats m) c),
          a main_arg38 (by decide) (by decide) (W_main_arg38 m (dats m) c),
          a main_arg39 (by decide) (by decide) (W_main_arg39 m (dats m) c),
          a main_arg40 (by decide) (by decide) (W_main_arg40 m (dats m) c),
          a main_arg41 (by decide) (by decide) (W_main_arg41 m (dats m) c),
          a main_arg42 (by decide) (by decide) (W_main_arg42 m (dats m) c),
          a main_arg43 (by decide) (by decide) (W_main_arg43 m (dats m) c),
          a main_arg44 (by decide) (by decide) (W_main_arg44 m (dats m) c),
          a main_arg45 (by decide) (by decide) (W_main_arg45 m (dats m) c),
          a main_arg46 (by decide) (by decide) (W_main_arg46 m (dats m) c),
          a main_arg47 (by decide) (by decide) (W_main_arg47 m (dats m) c),
          a main_arg48 (by decide) (by decide) (W_main_arg48 m (dats m) c),
          a main_arg49 (by decide) (by decide) (W_main_arg49 m (dats m) c),
          a main_arg50 (by decide) (by decide) (W_main_arg50 m (dats m) c),
          a main_arg51 (by decide) (by decide) (W_main_arg51 m (dats m) c),
          a main_arg52 (by decide) (by decide) (W_main_arg52 m (dats m) c),
          a main_arg53 (by decide) (by decide) (W_main_arg53 m (dats m) c),
          a main_arg54 (by decide) (by decide) (W_main_arg54 m (dats m) c),
          a main_arg55 (by decide) (by decide) (W_main_arg55 m (dats m) c),
          a main_arg56 (by decide) (by decide) (W_main_arg56 m (dats m) c),
          a main_arg57 (by decide) (by decide) (W_main_arg57 m (dats m) c),
          a main_arg58 (by decide) (by decide) (W_main_arg58 m (dats m) c),
          a main_arg59 (by decide) (by decide) (W_main_arg59 m (dats m) c),
          a main_arg60 (by decide) (by decide) (W_main_arg60 m (dats m) c)⟩)
      (run_main (F := Ideal) m g),
    (θ_run _ _ _).mono (fun r h c => by
        obtain ⟨e0, e1, e2, e3, e4, e5, e6, e7, e8, e9, e10, e11, e12, e13, e14, e15, e16, e17, e18, e19, e20, e21, e22, e23, e24, e25, e26, e27,
          e28, e29, e30, e31, e32, e33, e34, e35, e36, e37, e38, e39, e40, e41, e42, e43, e44, e45, e46, e47, e48, e49, e50, e51, e52, e53,
          e54, e55, e56, e57, e58, e59, e60⟩ := hagree c
        obtain ⟨r0, r1, r2, r3, r4, r5, r6, r7, r8, r9, r10, r11, r12, r13, r14, r15, r16, r17, r18, r19, r20, r21, r22, r23, r24, r25, r26, r27,
          r28, r29, r30, r31, r32, r33, r34, r35, r36, r37, r38, r39, r40, r41, r42, r43, r44, r45, r46, r47, r48, r49, r50, r51, r52, r53,
          r54, r55, r56, r57, r58, r59, r60, rest⟩ := h c
        have s0 := weight_0 m c e1 e16 e31 e46
        have s1 := weight_1 m c e2 e17 e32 e47
        have s2 := weight_2 m c e3 e18 e33 e48
        have s3 := weight_3 m c e4 e19 e34 e49
        have s4 := weight_4 m c e5 e20 e35 e50
        have s5 := weight_5 m c e6 e21 e36 e51
        have s6 := weight_6 m c e7 e22 e37 e52
        have s7 := weight_7 m c e8 e23 e38 e53
        have s8 := weight_8 m c e9 e24 e39 e54
        have s9 := weight_9 m c e10 e25 e40 e55
        have s10 := weight_10 m c e11 e26 e41 e56
        have s11 := weight_11 m c e12 e27 e42 e57
        have s12 := weight_12 m c e13 e28 e43 e58
        have s13 := weight_13 m c e14 e29 e44 e59
        have s14 := weight_14 m c e15 e30 e45 e60
        exact ⟨r0.trans (loss m c e0), r1.trans s0.1, r2.trans s1.1, r3.trans s2.1, r4.trans s3.1, r5.trans s4.1, r6.trans s5.1, r7.trans s6.1,
          r8.trans s7.1, r9.trans s8.1, r10.trans s9.1, r11.trans s10.1, r12.trans s11.1, r13.trans s12.1, r14.trans s13.1,
          r15.trans s14.1, r16.trans s0.2.1, r17.trans s1.2.1, r18.trans s2.2.1, r19.trans s3.2.1, r20.trans s4.2.1, r21.trans s5.2.1,
          r22.trans s6.2.1, r23.trans s7.2.1, r24.trans s8.2.1, r25.trans s9.2.1, r26.trans s10.2.1, r27.trans s11.2.1, r28.trans s12.2.1,
          r29.trans s13.2.1, r30.trans s14.2.1, r31.trans s0.2.2.1, r32.trans s1.2.2.1, r33.trans s2.2.2.1, r34.trans s3.2.2.1,
          r35.trans s4.2.2.1, r36.trans s5.2.2.1, r37.trans s6.2.2.1, r38.trans s7.2.2.1, r39.trans s8.2.2.1, r40.trans s9.2.2.1,
          r41.trans s10.2.2.1, r42.trans s11.2.2.1, r43.trans s12.2.2.1, r44.trans s13.2.2.1, r45.trans s14.2.2.1, r46.trans s0.2.2.2,
          r47.trans s1.2.2.2, r48.trans s2.2.2.2, r49.trans s3.2.2.2, r50.trans s4.2.2.2, r51.trans s5.2.2.2, r52.trans s6.2.2.2,
          r53.trans s7.2.2.2, r54.trans s8.2.2.2, r55.trans s9.2.2.2, r56.trans s10.2.2.2, r57.trans s11.2.2.2, r58.trans s12.2.2.2,
          r59.trans s13.2.2.2, r60.trans s14.2.2.2, rest⟩)
      (Cert.SmallRefIdeal.Value.run (F := Ideal) m' g')⟩

end Cert.Hand.Small

end
-- ==== Proof.lean ====
/-
  The claim: for each of the training step's calls taken here, the kernel and its ideal run are quiescent, the ideal one
  is the kernel's own text, and at exact values it leaves what the plain reference leaves. The equations are in the
  modules under `Proof/`; this one assembles them.
-/
module

public import proofs.«01_k».proof.Defs
public import proofs.«01_k».proof.Proof.Gen.MlpOutDx.Frame
public import proofs.«01_k».proof.Proof.MlpOutDx
public import proofs.«01_k».proof.Proof.Gen.MlpOutDw.Frame
public import proofs.«01_k».proof.Proof.MlpOutDw
public import proofs.«01_k».proof.Proof.Gen.MlpInDw.Frame
public import proofs.«01_k».proof.Proof.MlpInDw
public import proofs.«01_k».proof.Proof.Gen.MlpInDx.Frame
public import proofs.«01_k».proof.Proof.MlpInDx
public import proofs.«01_k».proof.Proof.Gen.ProjDx.Frame
public import proofs.«01_k».proof.Proof.ProjDx
public import proofs.«01_k».proof.Proof.Gen.ProjDw.Frame
public import proofs.«01_k».proof.Proof.ProjDw
public import proofs.«01_k».proof.Proof.Gen.OutProjDx.Frame
public import proofs.«01_k».proof.Proof.OutProjDx
public import proofs.«01_k».proof.Proof.Gen.OutProjDw.Frame
public import proofs.«01_k».proof.Proof.OutProjDw
public import proofs.«01_k».proof.Proof.Gen.GluGateDx.Frame
public import proofs.«01_k».proof.Proof.GluGateDx
public import proofs.«01_k».proof.Proof.Gen.GluGateDw.Frame
public import proofs.«01_k».proof.Proof.GluGateDw
public import proofs.«01_k».proof.Proof.Gen.AttnNormBwd.Frame
public import proofs.«01_k».proof.Proof.AttnNormBwd
public import proofs.«01_k».proof.Proof.Gen.MlpIn.Frame
public import proofs.«01_k».proof.Proof.MlpIn
public import proofs.«01_k».proof.Proof.Gen.MlpOut.Frame
public import proofs.«01_k».proof.Proof.MlpOut
public import proofs.«01_k».proof.Proof.Gen.OutProj.Frame
public import proofs.«01_k».proof.Proof.OutProj
public import proofs.«01_k».proof.Proof.Gen.GluGate.Frame
public import proofs.«01_k».proof.Proof.GluGate
public import proofs.«01_k».proof.Proof.Gen.AttnNorm.Frame
public import proofs.«01_k».proof.Proof.AttnNorm
public import proofs.«01_k».proof.Proof.Gen.AdamSmall.Frame
public import proofs.«01_k».proof.Proof.AdamSmall
public import proofs.«01_k».proof.Proof.Gen.AdamWIn.Frame
public import proofs.«01_k».proof.Proof.AdamWIn
public import proofs.«01_k».proof.Proof.Gen.AdamWGlu.Frame
public import proofs.«01_k».proof.Proof.AdamWGlu
public import proofs.«01_k».proof.Proof.Gen.AdamWOut.Frame
public import proofs.«01_k».proof.Proof.AdamWOut
public import proofs.«01_k».proof.Proof.Gen.AdamWMlpIn.Frame
public import proofs.«01_k».proof.Proof.AdamWMlpIn
public import proofs.«01_k».proof.Proof.Gen.AdamWMlpOut.Frame
public import proofs.«01_k».proof.Proof.AdamWMlpOut
public import proofs.«01_k».proof.Proof.Gen.Proj.Frame
public import proofs.«01_k».proof.Proof.Proj
public import proofs.«01_k».proof.Proof.Gen.Small.Frame
public import proofs.«01_k».proof.Proof.Small
public import Idealize.ShloMosaic.Lib.Quiescent

@[expose] public section

noncomputable section

namespace Cert.Proof

open Idealize.ShloMosaic Idealize.SL.Sem

/-- The reference of `MlpOutDx` terminates with its arguments unchanged. -/
theorem frame_MlpOutDxRef : Cert.quiescent_MlpOutDxRefIdeal := fun m ρ _ =>
  (θ_run Cert.MlpOutDxRefIdeal.defs _ _).mono (fun r h => ⟨fun c => (h c).2, sem_eq_zero_of_no_sems (by decide) r.2⟩)
    (Cert.MlpOutDxRefIdeal.Value.run (F := Ideal) m ρ)

/-- The reference of `MlpOutDw` terminates with its arguments unchanged. -/
theorem frame_MlpOutDwRef : Cert.quiescent_MlpOutDwRefIdeal := fun m ρ _ =>
  (θ_run Cert.MlpOutDwRefIdeal.defs _ _).mono (fun r h => ⟨fun c => (h c).2.2, sem_eq_zero_of_no_sems (by decide) r.2⟩)
    (Cert.MlpOutDwRefIdeal.Value.run (F := Ideal) m ρ)

/-- The reference of `MlpInDw` terminates with its arguments unchanged. -/
theorem frame_MlpInDwRef : Cert.quiescent_MlpInDwRefIdeal := fun m ρ _ =>
  (θ_run Cert.MlpInDwRefIdeal.defs _ _).mono (fun r h => ⟨fun c => (h c).2.2, sem_eq_zero_of_no_sems (by decide) r.2⟩)
    (Cert.MlpInDwRefIdeal.Value.run (F := Ideal) m ρ)

/-- The reference of `MlpInDx` terminates with its arguments unchanged. -/
theorem frame_MlpInDxRef : Cert.quiescent_MlpInDxRefIdeal := fun m ρ _ =>
  (θ_run Cert.MlpInDxRefIdeal.defs _ _).mono (fun r h => ⟨fun c => (h c).2.2.2, sem_eq_zero_of_no_sems (by decide) r.2⟩)
    (Cert.MlpInDxRefIdeal.Value.run (F := Ideal) m ρ)

/-- The reference of `ProjDx` terminates with its arguments unchanged. -/
theorem frame_ProjDxRef : Cert.quiescent_ProjDxRefIdeal := fun m ρ _ =>
  (θ_run Cert.ProjDxRefIdeal.defs _ _).mono (fun r h => ⟨fun c => (h c).2.2, sem_eq_zero_of_no_sems (by decide) r.2⟩)
    (Cert.ProjDxRefIdeal.Value.run (F := Ideal) m ρ)

/-- The reference of `ProjDw` terminates with its arguments unchanged. -/
theorem frame_ProjDwRef : Cert.quiescent_ProjDwRefIdeal := fun m ρ _ =>
  (θ_run Cert.ProjDwRefIdeal.defs _ _).mono (fun r h => ⟨fun c => (h c).2.2, sem_eq_zero_of_no_sems (by decide) r.2⟩)
    (Cert.ProjDwRefIdeal.Value.run (F := Ideal) m ρ)

/-- The reference of `OutProjDx` terminates with its arguments unchanged. -/
theorem frame_OutProjDxRef : Cert.quiescent_OutProjDxRefIdeal := fun m ρ _ =>
  (θ_run Cert.OutProjDxRefIdeal.defs _ _).mono (fun r h => ⟨fun c => (h c).2, sem_eq_zero_of_no_sems (by decide) r.2⟩)
    (Cert.OutProjDxRefIdeal.Value.run (F := Ideal) m ρ)

/-- The reference of `OutProjDw` terminates with its arguments unchanged. -/
theorem frame_OutProjDwRef : Cert.quiescent_OutProjDwRefIdeal := fun m ρ _ =>
  (θ_run Cert.OutProjDwRefIdeal.defs _ _).mono (fun r h => ⟨fun c => (h c).2.2, sem_eq_zero_of_no_sems (by decide) r.2⟩)
    (Cert.OutProjDwRefIdeal.Value.run (F := Ideal) m ρ)

/-- The reference of `GluGateDx` terminates with its arguments unchanged. -/
theorem frame_GluGateDxRef : Cert.quiescent_GluGateDxRefIdeal := fun m ρ _ =>
  (θ_run Cert.GluGateDxRefIdeal.defs _ _).mono (fun r h => ⟨fun c => (h c).2, sem_eq_zero_of_no_sems (by decide) r.2⟩)
    (Cert.GluGateDxRefIdeal.Value.run (F := Ideal) m ρ)

/-- The reference of `GluGateDw` terminates with its arguments unchanged. -/
theorem frame_GluGateDwRef : Cert.quiescent_GluGateDwRefIdeal := fun m ρ _ =>
  (θ_run Cert.GluGateDwRefIdeal.defs _ _).mono (fun r h => ⟨fun c => (h c).2.2, sem_eq_zero_of_no_sems (by decide) r.2⟩)
    (Cert.GluGateDwRefIdeal.Value.run (F := Ideal) m ρ)

/-- The reference of `AttnNormBwd` terminates with its arguments unchanged. -/
theorem frame_AttnNormBwdRef : Cert.quiescent_AttnNormBwdRefIdeal := fun m ρ _ =>
  (θ_run Cert.AttnNormBwdRefIdeal.defs _ _).mono (fun r h => ⟨fun c => (h c).2.2, sem_eq_zero_of_no_sems (by decide) r.2⟩)
    (Cert.AttnNormBwdRefIdeal.Value.run (F := Ideal) m ρ)

/-- The reference of `MlpIn` terminates with its arguments unchanged. -/
theorem frame_MlpInRef : Cert.quiescent_MlpInRefIdeal := fun m ρ _ =>
  (θ_run Cert.MlpInRefIdeal.defs _ _).mono (fun r h => ⟨fun c => (h c).2.2, sem_eq_zero_of_no_sems (by decide) r.2⟩)
    (Cert.MlpInRefIdeal.Value.run (F := Ideal) m ρ)

/-- The reference of `MlpOut` terminates with its arguments unchanged. -/
theorem frame_MlpOutRef : Cert.quiescent_MlpOutRefIdeal := fun m ρ _ =>
  (θ_run Cert.MlpOutRefIdeal.defs _ _).mono (fun r h => ⟨fun c => (h c).2.2.2, sem_eq_zero_of_no_sems (by decide) r.2⟩)
    (Cert.MlpOutRefIdeal.Value.run (F := Ideal) m ρ)

/-- The reference of `OutProj` terminates with its arguments unchanged. -/
theorem frame_OutProjRef : Cert.quiescent_OutProjRefIdeal := fun m ρ _ =>
  (θ_run Cert.OutProjRefIdeal.defs _ _).mono (fun r h => ⟨fun c => (h c).2.2, sem_eq_zero_of_no_sems (by decide) r.2⟩)
    (Cert.OutProjRefIdeal.Value.run (F := Ideal) m ρ)

/-- The reference of `GluGate` terminates with its arguments unchanged. -/
theorem frame_GluGateRef : Cert.quiescent_GluGateRefIdeal := fun m ρ _ =>
  (θ_run Cert.GluGateRefIdeal.defs _ _).mono (fun r h => ⟨fun c => (h c).2.2, sem_eq_zero_of_no_sems (by decide) r.2⟩)
    (Cert.GluGateRefIdeal.Value.run (F := Ideal) m ρ)

/-- The reference of `AttnNorm` terminates with its arguments unchanged. -/
theorem frame_AttnNormRef : Cert.quiescent_AttnNormRefIdeal := fun m ρ _ =>
  (θ_run Cert.AttnNormRefIdeal.defs _ _).mono (fun r h => ⟨fun c => (h c).2, sem_eq_zero_of_no_sems (by decide) r.2⟩)
    (Cert.AttnNormRefIdeal.Value.run (F := Ideal) m ρ)

/-- The reference of `AdamSmall` terminates with its arguments unchanged. -/
theorem frame_AdamSmallRef : Cert.quiescent_AdamSmallRefIdeal := fun m ρ _ =>
  (θ_run Cert.AdamSmallRefIdeal.defs _ _).mono (fun r h => ⟨fun c => (h c).2.2.2.2, sem_eq_zero_of_no_sems (by decide) r.2⟩)
    (Cert.AdamSmallRefIdeal.Value.run (F := Ideal) m ρ)

/-- The reference of `AdamWIn` terminates with its arguments unchanged. -/
theorem frame_AdamWInRef : Cert.quiescent_AdamWInRefIdeal := fun m ρ _ =>
  (θ_run Cert.AdamWInRefIdeal.defs _ _).mono (fun r h => ⟨fun c => (h c).2.2.2.2, sem_eq_zero_of_no_sems (by decide) r.2⟩)
    (Cert.AdamWInRefIdeal.Value.run (F := Ideal) m ρ)

/-- The reference of `AdamWGlu` terminates with its arguments unchanged. -/
theorem frame_AdamWGluRef : Cert.quiescent_AdamWGluRefIdeal := fun m ρ _ =>
  (θ_run Cert.AdamWGluRefIdeal.defs _ _).mono (fun r h => ⟨fun c => (h c).2.2.2.2, sem_eq_zero_of_no_sems (by decide) r.2⟩)
    (Cert.AdamWGluRefIdeal.Value.run (F := Ideal) m ρ)

/-- The reference of `AdamWOut` terminates with its arguments unchanged. -/
theorem frame_AdamWOutRef : Cert.quiescent_AdamWOutRefIdeal := fun m ρ _ =>
  (θ_run Cert.AdamWOutRefIdeal.defs _ _).mono (fun r h => ⟨fun c => (h c).2.2.2.2, sem_eq_zero_of_no_sems (by decide) r.2⟩)
    (Cert.AdamWOutRefIdeal.Value.run (F := Ideal) m ρ)

/-- The reference of `AdamWMlpIn` terminates with its arguments unchanged. -/
theorem frame_AdamWMlpInRef : Cert.quiescent_AdamWMlpInRefIdeal := fun m ρ _ =>
  (θ_run Cert.AdamWMlpInRefIdeal.defs _ _).mono (fun r h => ⟨fun c => (h c).2.2.2.2, sem_eq_zero_of_no_sems (by decide) r.2⟩)
    (Cert.AdamWMlpInRefIdeal.Value.run (F := Ideal) m ρ)

/-- The reference of `AdamWMlpOut` terminates with its arguments unchanged. -/
theorem frame_AdamWMlpOutRef : Cert.quiescent_AdamWMlpOutRefIdeal := fun m ρ _ =>
  (θ_run Cert.AdamWMlpOutRefIdeal.defs _ _).mono (fun r h => ⟨fun c => (h c).2.2.2.2, sem_eq_zero_of_no_sems (by decide) r.2⟩)
    (Cert.AdamWMlpOutRefIdeal.Value.run (F := Ideal) m ρ)

/-- The reference of `Proj` terminates with its arguments unchanged. -/
theorem frame_ProjRef : Cert.quiescent_ProjRefIdeal := fun m ρ _ =>
  (θ_run Cert.ProjRefIdeal.defs _ _).mono (fun r h => ⟨fun c => (h c).2.2.2.2.2, sem_eq_zero_of_no_sems (by decide) r.2⟩)
    (Cert.ProjRefIdeal.Value.run (F := Ideal) m ρ)

/-- The reference of `Small` terminates with its arguments unchanged. -/
theorem frame_SmallRef : Cert.quiescent_SmallRefIdeal := fun m ρ _ =>
  (θ_run Cert.SmallRefIdeal.defs _ _).mono (fun r h => ⟨fun c => (h c).2.2.2.2.2.2.2.2.2.2.2.2.2.2.2.2.2.2.2.2.2.2.2.2.2.2.2.2.2.2.2.2.2.2.2.2.2.2.2.2.2.2.2.2.2.2.2.2.2.2.2.2.2.2.2.2.2.2.2.2.2, sem_eq_zero_of_no_sems (by decide) r.2⟩)
    (Cert.SmallRefIdeal.Value.run (F := Ideal) m ρ)

theorem claim : Cert.Claim :=
  ⟨Cert.MlpOutDx.Gen.facts, Cert.MlpOutDxIdeal.Gen.facts, Cert.MlpOutDxRefIdeal.Gen.facts,
    Cert.MlpOutDw.Gen.facts, Cert.MlpOutDwIdeal.Gen.facts, Cert.MlpOutDwRefIdeal.Gen.facts,
    Cert.MlpInDw.Gen.facts, Cert.MlpInDwIdeal.Gen.facts, Cert.MlpInDwRefIdeal.Gen.facts,
    Cert.MlpInDx.Gen.facts, Cert.MlpInDxIdeal.Gen.facts, Cert.MlpInDxRefIdeal.Gen.facts,
    Cert.ProjDx.Gen.facts, Cert.ProjDxIdeal.Gen.facts, Cert.ProjDxRefIdeal.Gen.facts,
    Cert.ProjDw.Gen.facts, Cert.ProjDwIdeal.Gen.facts, Cert.ProjDwRefIdeal.Gen.facts,
    Cert.OutProjDx.Gen.facts, Cert.OutProjDxIdeal.Gen.facts, Cert.OutProjDxRefIdeal.Gen.facts,
    Cert.OutProjDw.Gen.facts, Cert.OutProjDwIdeal.Gen.facts, Cert.OutProjDwRefIdeal.Gen.facts,
    Cert.GluGateDx.Gen.facts, Cert.GluGateDxIdeal.Gen.facts, Cert.GluGateDxRefIdeal.Gen.facts,
    Cert.GluGateDw.Gen.facts, Cert.GluGateDwIdeal.Gen.facts, Cert.GluGateDwRefIdeal.Gen.facts,
    Cert.AttnNormBwd.Gen.facts, Cert.AttnNormBwdIdeal.Gen.facts, Cert.AttnNormBwdRefIdeal.Gen.facts,
    Cert.MlpIn.Gen.facts, Cert.MlpInIdeal.Gen.facts, Cert.MlpInRefIdeal.Gen.facts,
    Cert.MlpOut.Gen.facts, Cert.MlpOutIdeal.Gen.facts, Cert.MlpOutRefIdeal.Gen.facts,
    Cert.OutProj.Gen.facts, Cert.OutProjIdeal.Gen.facts, Cert.OutProjRefIdeal.Gen.facts,
    Cert.GluGate.Gen.facts, Cert.GluGateIdeal.Gen.facts, Cert.GluGateRefIdeal.Gen.facts,
    Cert.AttnNorm.Gen.facts, Cert.AttnNormIdeal.Gen.facts, Cert.AttnNormRefIdeal.Gen.facts,
    Cert.AdamSmall.Gen.facts, Cert.AdamSmallIdeal.Gen.facts, Cert.AdamSmallRefIdeal.Gen.facts,
    Cert.AdamWIn.Gen.facts, Cert.AdamWInIdeal.Gen.facts, Cert.AdamWInRefIdeal.Gen.facts,
    Cert.AdamWGlu.Gen.facts, Cert.AdamWGluIdeal.Gen.facts, Cert.AdamWGluRefIdeal.Gen.facts,
    Cert.AdamWOut.Gen.facts, Cert.AdamWOutIdeal.Gen.facts, Cert.AdamWOutRefIdeal.Gen.facts,
    Cert.AdamWMlpIn.Gen.facts, Cert.AdamWMlpInIdeal.Gen.facts, Cert.AdamWMlpInRefIdeal.Gen.facts,
    Cert.AdamWMlpOut.Gen.facts, Cert.AdamWMlpOutIdeal.Gen.facts, Cert.AdamWMlpOutRefIdeal.Gen.facts,
    Cert.Proj.Gen.facts, Cert.ProjIdeal.Gen.facts, Cert.ProjRefIdeal.Gen.facts,
    Cert.Small.Gen.facts, Cert.SmallIdeal.Gen.facts, Cert.SmallRefIdeal.Gen.facts, Cert.Pre_w_in_device.Gen.facts, Cert.Pre_w_glu_device.Gen.facts, Cert.Pre_w_out_device.Gen.facts, Cert.Pre_w_mlp_in_device.Gen.facts, Cert.Pre_w_mlp_out_device.Gen.facts, Cert.Pre_finite_inputs.Gen.facts,
    fun m ρ _ => Cert.MlpOutDx.Gen.frame m ρ, fun m ρ _ => Cert.MlpOutDxIdeal.Gen.frame m ρ, frame_MlpOutDxRef,
    fun m ρ _ => Cert.MlpOutDw.Gen.frame m ρ, fun m ρ _ => Cert.MlpOutDwIdeal.Gen.frame m ρ, frame_MlpOutDwRef,
    fun m ρ _ => Cert.MlpInDw.Gen.frame m ρ, fun m ρ _ => Cert.MlpInDwIdeal.Gen.frame m ρ, frame_MlpInDwRef,
    fun m ρ _ => Cert.MlpInDx.Gen.frame m ρ, fun m ρ _ => Cert.MlpInDxIdeal.Gen.frame m ρ, frame_MlpInDxRef,
    fun m ρ _ => Cert.ProjDx.Gen.frame m ρ, fun m ρ _ => Cert.ProjDxIdeal.Gen.frame m ρ, frame_ProjDxRef,
    fun m ρ _ => Cert.ProjDw.Gen.frame m ρ, fun m ρ _ => Cert.ProjDwIdeal.Gen.frame m ρ, frame_ProjDwRef,
    fun m ρ _ => Cert.OutProjDx.Gen.frame m ρ, fun m ρ _ => Cert.OutProjDxIdeal.Gen.frame m ρ, frame_OutProjDxRef,
    fun m ρ _ => Cert.OutProjDw.Gen.frame m ρ, fun m ρ _ => Cert.OutProjDwIdeal.Gen.frame m ρ, frame_OutProjDwRef,
    fun m ρ _ => Cert.GluGateDx.Gen.frame m ρ, fun m ρ _ => Cert.GluGateDxIdeal.Gen.frame m ρ, frame_GluGateDxRef,
    fun m ρ _ => Cert.GluGateDw.Gen.frame m ρ, fun m ρ _ => Cert.GluGateDwIdeal.Gen.frame m ρ, frame_GluGateDwRef,
    fun m ρ _ => Cert.AttnNormBwd.Gen.frame m ρ, fun m ρ _ => Cert.AttnNormBwdIdeal.Gen.frame m ρ, frame_AttnNormBwdRef,
    fun m ρ _ => Cert.MlpIn.Gen.frame m ρ, fun m ρ _ => Cert.MlpInIdeal.Gen.frame m ρ, frame_MlpInRef,
    fun m ρ _ => Cert.MlpOut.Gen.frame m ρ, fun m ρ _ => Cert.MlpOutIdeal.Gen.frame m ρ, frame_MlpOutRef,
    fun m ρ _ => Cert.OutProj.Gen.frame m ρ, fun m ρ _ => Cert.OutProjIdeal.Gen.frame m ρ, frame_OutProjRef,
    fun m ρ _ => Cert.GluGate.Gen.frame m ρ, fun m ρ _ => Cert.GluGateIdeal.Gen.frame m ρ, frame_GluGateRef,
    fun m ρ _ => Cert.AttnNorm.Gen.frame m ρ, fun m ρ _ => Cert.AttnNormIdeal.Gen.frame m ρ, frame_AttnNormRef,
    fun m ρ _ => Cert.AdamSmall.Gen.frame m ρ, fun m ρ _ => Cert.AdamSmallIdeal.Gen.frame m ρ, frame_AdamSmallRef,
    fun m ρ h => Cert.AdamWIn.Gen.frame m ρ (Cert.Hand.AdamWIn.bits_ok m h), fun m ρ h => Cert.AdamWInIdeal.Gen.frame m ρ (Cert.Hand.AdamWIn.ideal_ok m h), frame_AdamWInRef, fun m ρ _ => frame_AdamWInRef m ρ trivial,
    fun m ρ h => Cert.AdamWGlu.Gen.frame m ρ (Cert.Hand.AdamWGlu.bits_ok m h), fun m ρ h => Cert.AdamWGluIdeal.Gen.frame m ρ (Cert.Hand.AdamWGlu.ideal_ok m h), frame_AdamWGluRef, fun m ρ _ => frame_AdamWGluRef m ρ trivial,
    fun m ρ h => Cert.AdamWOut.Gen.frame m ρ (Cert.Hand.AdamWOut.bits_ok m h), fun m ρ h => Cert.AdamWOutIdeal.Gen.frame m ρ (Cert.Hand.AdamWOut.ideal_ok m h), frame_AdamWOutRef, fun m ρ _ => frame_AdamWOutRef m ρ trivial,
    fun m ρ h => Cert.AdamWMlpIn.Gen.frame m ρ (Cert.Hand.AdamWMlpIn.bits_ok m h), fun m ρ h => Cert.AdamWMlpInIdeal.Gen.frame m ρ (Cert.Hand.AdamWMlpIn.ideal_ok m h), frame_AdamWMlpInRef, fun m ρ _ => frame_AdamWMlpInRef m ρ trivial,
    fun m ρ h => Cert.AdamWMlpOut.Gen.frame m ρ (Cert.Hand.AdamWMlpOut.bits_ok m h), fun m ρ h => Cert.AdamWMlpOutIdeal.Gen.frame m ρ (Cert.Hand.AdamWMlpOut.ideal_ok m h), frame_AdamWMlpOutRef, fun m ρ _ => frame_AdamWMlpOutRef m ρ trivial,
    fun m ρ _ => Cert.Proj.Gen.frame m ρ, fun m ρ _ => Cert.ProjIdeal.Gen.frame m ρ, frame_ProjRef, fun m ρ _ => frame_ProjRef m ρ trivial,
    fun m ρ _ => Cert.Small.Gen.frame m ρ, fun m ρ _ => Cert.SmallIdeal.Gen.frame m ρ, frame_SmallRef,
    trivial, Cert.Hand.MlpOutDx.algebraic,
    trivial, Cert.Hand.MlpOutDw.algebraic,
    trivial, Cert.Hand.MlpInDw.algebraic,
    trivial, Cert.Hand.MlpInDx.algebraic,
    trivial, Cert.Hand.ProjDx.algebraic,
    trivial, Cert.Hand.ProjDw.algebraic,
    trivial, Cert.Hand.OutProjDx.algebraic,
    trivial, Cert.Hand.OutProjDw.algebraic,
    trivial, Cert.Hand.GluGateDx.algebraic,
    trivial, Cert.Hand.GluGateDw.algebraic,
    trivial, Cert.Hand.AttnNormBwd.algebraic,
    trivial, Cert.Hand.MlpIn.algebraic,
    trivial, Cert.Hand.MlpOut.algebraic,
    trivial, Cert.Hand.OutProj.algebraic,
    trivial, Cert.Hand.GluGate.algebraic,
    trivial, Cert.Hand.AttnNorm.algebraic,
    trivial, Cert.Hand.AdamSmall.algebraic,
    trivial, Cert.Hand.AdamWIn.algebraic,
    trivial, Cert.Hand.AdamWGlu.algebraic,
    trivial, Cert.Hand.AdamWOut.algebraic,
    trivial, Cert.Hand.AdamWMlpIn.algebraic,
    trivial, Cert.Hand.AdamWMlpOut.algebraic,
    trivial, Cert.Hand.Proj.algebraic,
    trivial, Cert.Hand.Small.algebraic⟩

end Cert.Proof

end
